-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_fwd [hPre_finite_fwd : Cert.Pre_finite_fwd.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_fwd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_fwd [hPre_finite_fwd : Cert.Pre_finite_fwd.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_fwd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_fwd [hKernel2Ideal : Cert.Kernel2Ideal.Facts] [hPre_finite_fwd : Cert.Pre_finite_fwd.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_fwd m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_fwd [hReference2Ideal : Cert.Reference2Ideal.Facts] [hPre_finite_fwd : Cert.Pre_finite_fwd.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_fwd m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "exp2_scale" .f32 0x3DD53B95#32 (((Real.sqrt 192)⁻¹ * (Real.log 2)⁻¹ : ℝ) : EReal)
  ∧ IdealRules.named_const.Statement Cert.KernelIdeal.κ "att_scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥
  ∧ IdealRules.named_const.Statement Cert.Kernel2Ideal.κ "exp2_scale" .f32 0x3DD53B95#32 (((Real.sqrt 192)⁻¹ * (Real.log 2)⁻¹ : ℝ) : EReal)
  ∧ IdealRules.named_const.Statement Cert.Kernel2Ideal.κ "att_scale" .f32 0x3D93CD3A#32 (((Real.sqrt 192)⁻¹ : ℝ) : EReal)

def algebraic_Kernel2Ideal_Reference2Ideal_pre_finite_fwd [hKernel2Ideal : Cert.Kernel2Ideal.Facts] [hReference2Ideal : Cert.Reference2Ideal.Facts] [hPre_finite_fwd : Cert.Pre_finite_fwd.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_fwd m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_v5) = v2 c
          ∧ r.2.mem ((c.tc : Thread Cert.Reference10Ideal.nD Cert.Reference10Ideal.τ).loc Cert.Reference10Ideal.main_v11) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v5) = v2 c
          ∧ r.2.mem ((c.tc : Thread Cert.Reference12Ideal.nD Cert.Reference12Ideal.τ).loc Cert.Reference12Ideal.main_v11) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v34) = v0 c
          ∧ r.2.mem ((c.tc : Thread Cert.Reference25Ideal.nD Cert.Reference25Ideal.τ).loc Cert.Reference25Ideal.main_v17) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v49) = v0 c
          ∧ r.2.mem ((c.tc : Thread Cert.Reference26Ideal.nD Cert.Reference26Ideal.τ).loc Cert.Reference26Ideal.main_v48) = v1 c
          ∧ r.2.mem ((c.tc : Thread Cert.Reference26Ideal.nD Cert.Reference26Ideal.τ).loc Cert.Reference26Ideal.main_v32) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_fwd (hKernel2Ideal := hKernel2Ideal) (hPre_finite_fwd := hPre_finite_fwd)
    ∧ quiescent_Reference2Ideal (hReference2Ideal := hReference2Ideal)
    ∧ quiescent_Reference2Ideal_pre_finite_fwd (hReference2Ideal := hReference2Ideal) (hPre_finite_fwd := hPre_finite_fwd)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_fwd (hKernel2Ideal := hKernel2Ideal) (hReference2Ideal := hReference2Ideal) (hPre_finite_fwd := hPre_finite_fwd)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S16384x192 : Shape := ⟨2, ![16384, 192]⟩
abbrev S16384x128 : Shape := ⟨2, ![16384, 128]⟩
abbrev S_ : Shape := ⟨0, ![]⟩

class Facts : Prop where
  bcast_S_S16384x192 : S_.BroadcastsInDim S16384x192 (![] : Fin 0 → Fin S16384x192.rank)
  reducesTo_S16384x192_S_d0_1 : S16384x192.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16384x192 .f32) (main_arg1 : FVec F S16384x192 .f32) (main_arg2 : FVec F S16384x128 .f32) (main_arg3 : FVec F S16384x128 .f32) : IVec S_ 1 :=
  let main_v0 : FVec F S16384x192 .f32 := Host.absf main_arg0
  let main_cst : FVec F S_ .f32 := constant S_ .f32 0x7F800000#32
  let main_v1 : FVec F S16384x192 .f32 := broadcastInDim S16384x192 ![] bcast_S_S16384x192 main_cst
  let main_v2 : IVec S16384x192 1 := cmpf .olt main_v0 main_v1
  let main_c : IVec S_ 1 := constantI S_ 1 1#1
  let main_v3 : IVec S_ 1 := (fun x v => Host.reduce IntOp.andi x v reducesTo_S16384x192_S_d0_1 h_S_) main_v2 main_c
  let main_v4 : FVec F S16384x192 .f32 := Host.absf main_arg1
  let main_cst_0 : FVec F S_ .f32 := constant S_ .f32 0x7F800000#32
  let main_v5 : FVec F S16384x192 .f32 := broadcastInDim S16384x192 ![] bcast_S_S16384x192 main_cst_0
  let main_v6 : IVec S16384x192 1 := cmpf .olt main_v4 main_v5
  let main_c_1 : IVec S_ 1 := constantI S_ 1 1#1
  let main_v7 : IVec S_ 1 := (fun x v => Host.reduce IntOp.andi x v reducesTo_S16384x192_S_d0_1 h_S_) main_v6 main_c_1
  let main_v8 : FVec F S16384x128 .f32 := Host.absf main_arg2
  let main_cst_2 : FVec F S_ .f32 := constant S_ .f32 0x7F800000#32
  let main_v9 : FVec F S16384x128 .f32 := broadcastInDim S16384x128 ![] bcast_S_S16384x128 main_cst_2
  let main_v10 : IVec S16384x128 1 := cmpf .olt main_v8 main_v9
  let main_c_3 : IVec S_ 1 := constantI S_ 1 1#1
  let main_v11 : IVec S_ 1 := (fun x v => Host.reduce IntOp.andi x v reducesTo_S16384x128_S_d0_1 h_S_) main_v10 main_c_3
  let main_v12 : FVec F S16384x128 .f32 := Host.absf main_arg3
  let main_cst_4 : FVec F S_ .f32 := constant S_ .f32 0x7F800000#32
  let main_v13 : FVec F S16384x128 .f32 := broadcastInDim S16384x128 ![] bcast_S_S16384x128 main_cst_4
  let main_v14 : IVec S16384x128 1 := cmpf .olt main_v12 main_v13
  let main_c_5 : IVec S_ 1 := constantI S_ 1 1#1
  let main_v15 : IVec S_ 1 := (fun x v => Host.reduce IntOp.andi x v reducesTo_S16384x128_S_d0_1 h_S_) main_v14 main_c_5
  fn_part1 (F := F) main_v3 main_v7 main_v11 main_v15
-- ==== Pre_finite_fwd.lean ====
abbrev S16384x192 : Shape := ⟨2, ![16384, 192]⟩
abbrev S16384x128 : Shape := ⟨2, ![16384, 128]⟩
abbrev S_ : Shape := ⟨0, ![]⟩

class Facts : Prop where
  bcast_S_S16384x192 : S_.BroadcastsInDim S16384x192 (![] : Fin 0 → Fin S16384x192.rank)
  reducesTo_S16384x192_S_d0_1 : S16384x192.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S16384x192 .f32) (main_arg1 : FVec F S16384x192 .f32) (main_arg2 : FVec F S16384x128 .f32) : IVec S_ 1 :=
  let main_v0 : FVec F S16384x192 .f32 := Host.absf main_arg0
  let main_cst : FVec F S_ .f32 := constant S_ .f32 0x7F800000#32
  let main_v1 : FVec F S16384x192 .f32 := broadcastInDim S16384x192 ![] bcast_S_S16384x192 main_cst
  let main_v2 : IVec S16384x192 1 := cmpf .olt main_v0 main_v1
  let main_c : IVec S_ 1 := constantI S_ 1 1#1
  let main_v3 : IVec S_ 1 := (fun x v => Host.reduce IntOp.andi x v reducesTo_S16384x192_S_d0_1 h_S_) main_v2 main_c
  let main_v4 : FVec F S16384x192 .f32 := Host.absf main_arg1
  let main_cst_0 : FVec F S_ .f32 := constant S_ .f32 0x7F800000#32
  let main_v5 : FVec F S16384x192 .f32 := broadcastInDim S16384x192 ![] bcast_S_S16384x192 main_cst_0
  let main_v6 : IVec S16384x192 1 := cmpf .olt main_v4 main_v5
  let main_c_1 : IVec S_ 1 := constantI S_ 1 1#1
  let main_v7 : IVec S_ 1 := (fun x v => Host.reduce IntOp.andi x v reducesTo_S16384x192_S_d0_1 h_S_) main_v6 main_c_1
  let main_v8 : FVec F S16384x128 .f32 := Host.absf main_arg2
  let main_cst_2 : FVec F S_ .f32 := constant S_ .f32 0x7F800000#32
  let main_v9 : FVec F S16384x128 .f32 := broadcastInDim S16384x128 ![] bcast_S_S16384x128 main_cst_2
  let main_v10 : IVec S16384x128 1 := cmpf .olt main_v8 main_v9
  let main_c_3 : IVec S_ 1 := constantI S_ 1 1#1
  let main_v11 : IVec S_ 1 := (fun x v => Host.reduce IntOp.andi x v reducesTo_S16384x128_S_d0_1 h_S_) main_v10 main_c_3
  let main_v12 : IVec S_ 1 := andi main_v3 main_v7
  let main_v13 : IVec S_ 1 := andi main_v12 main_v11
  main_v13
-- ==== Kernel.lean ====
abbrev S16384x192 : Shape := ⟨2, ![16384, 192]⟩
abbrev S16384x128 : Shape := ⟨2, ![16384, 128]⟩
abbrev S128x16384 : Shape := ⟨2, ![128, 16384]⟩
abbrev S16384x16384 : Shape := ⟨2, ![16384, 16384]⟩
abbrev S16384x64 : Shape := ⟨2, ![16384, 64]⟩
abbrev S64x16384 : Shape := ⟨2, ![64, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S32x1x512 : Shape := ⟨3, ![32, 1, 512]⟩
abbrev S512x192 : Shape := ⟨2, ![512, 192]⟩
abbrev S512x128 : Shape := ⟨2, ![512, 128]⟩
abbrev S2x512x512 : Shape := ⟨3, ![2, 512, 512]⟩
abbrev S512x512 : Shape := ⟨2, ![512, 512]⟩
abbrev S1x512x512 : Shape := ⟨3, ![1, 512, 512]⟩
abbrev S1x1x512 : Shape := ⟨3, ![1, 1, 512]⟩
abbrev S1x512 : Shape := ⟨2, ![1, 512]⟩

abbrev nBuf : Space → Nat
  | .hbm => 78
  | .vmem => 19
  | .smem => 0
  | _ => 0

abbrev bufTy : (tb : Table) → Fin (tcTables nBuf tb) → BufTy
  | .hbm, ⟨0, _⟩ => ⟨S16384x192, .f32⟩
  | .hbm, ⟨1, _⟩ => ⟨S16384x192, .f32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S128x16384, .f32⟩
  | .hbm, ⟨7, _⟩ => ⟨S16384x16384, .f32⟩
  | .hbm, ⟨8, _⟩ => ⟨S16384x64, .f32⟩
  | .hbm, ⟨9, _⟩ => ⟨S16384x64, .f32⟩
  | .hbm, ⟨10, _⟩ => ⟨S64x16384, .f32⟩
  | .hbm, ⟨11, _⟩ => ⟨S16384x16384, .f32⟩
  | .hbm, ⟨12, _⟩ => ⟨S16384x16384, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384, .i32⟩
  | .hbm, ⟨19, _⟩ => ⟨S_, .i32⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S16384, .i32⟩
  | .hbm, ⟨28, _⟩ => ⟨S16384, .i32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S1x16384, .i32⟩
  | .hbm, ⟨38, _⟩ => ⟨S16384x1, .i32⟩
  | .hbm, ⟨39, _⟩ => ⟨S16384x16384, .i32⟩
  | .hbm, ⟨40, _⟩ => ⟨S16384x16384, .i32⟩
  | .hbm, ⟨41, _⟩ => ⟨S16384x16384, .i1⟩
  | .hbm, ⟨42, _⟩ => ⟨S_, .f32⟩
  | .hbm, ⟨43, _⟩ => ⟨S_, .f32⟩
  | .hbm, ⟨44, _⟩ => ⟨S16384x16384, .f32⟩
  | .hbm, ⟨45, _⟩ => ⟨S16384x16384, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S16384x16384, .f32⟩
  | .hbm, ⟨50, _⟩ => ⟨S16384x16384, .f32⟩
  | .hbm, ⟨51, _⟩ => ⟨S16384x16384, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S16384x16384, .f32⟩
  | .hbm, ⟨56, _⟩ => ⟨S16384x16384, .f32⟩
  | .hbm, ⟨57, _⟩ => ⟨S16384x128, .f32⟩
  | .hbm, ⟨58, _⟩ => ⟨S16384x1, .f32⟩
  | .hbm, ⟨59, _⟩ => ⟨S16384x1, .f32⟩
  | .hbm, ⟨60, _⟩ => ⟨S16384, .f32⟩
  | .hbm, ⟨61, _⟩ => ⟨S16384x128, .f32⟩
  | .hbm, ⟨62, _⟩ => ⟨S_, .f32⟩
  | .hbm, ⟨63, _⟩ => ⟨S16384, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S16384, .f32⟩
  | .hbm, ⟨68, _⟩ => ⟨S16384, .f32⟩
  | .hbm, ⟨69, _⟩ => ⟨S32x1x512, .f32⟩
  | .hbm, ⟨70, _⟩ => ⟨S16384x192, .bf16⟩
  | .hbm, ⟨71, _⟩ => ⟨S16384x192, .bf16⟩
  | .hbm, ⟨72, _⟩ => ⟨S16384x128, .bf16⟩
  | .hbm, ⟨73, _⟩ => ⟨S16384x128, .bf16⟩
  | .hbm, ⟨74, _⟩ => ⟨S32x1x512, .f32⟩
  | .hbm, ⟨75, _⟩ => ⟨S16384x192, .f32⟩
  | .hbm, ⟨76, _⟩ => ⟨S16384x192, .f32⟩
  | .hbm, ⟨77, _⟩ => ⟨S16384x128, .f32⟩
  | .local _ .vmem, ⟨0, _⟩ => ⟨S512x192, .bf16⟩
  | .local _ .vmem, ⟨1, _⟩ => ⟨S512x192, .bf16⟩
  | .local _ .vmem, ⟨2, _⟩ => ⟨S512x128, .bf16⟩
  | .local _ .vmem, ⟨3, _⟩ => ⟨S512x128, .bf16⟩
  | .local _ .vmem, ⟨4, _⟩ => ⟨S32x1x512, .f32⟩
  | .local _ .vmem, ⟨5, _⟩ => ⟨S32x1x512, .f32⟩
  | .local _ .vmem, ⟨6, _⟩ => ⟨S512x192, .f32⟩
  | .local _ .vmem, ⟨7, _⟩ => ⟨S512x192, .f32⟩
  | .local _ .vmem, ⟨8, _⟩ => ⟨S512x128, .f32⟩
  | .local _ .vmem, ⟨9, _⟩ => ⟨S512x128, .f32⟩
  | .local _ .vmem, ⟨10, _⟩ => ⟨S16384x192, .bf16⟩
  | .local _ .vmem, ⟨11, _⟩ => ⟨S16384x128, .bf16⟩
  | .local _ .vmem, ⟨12, _⟩ => ⟨S16384x192, .f32⟩
  | .local _ .vmem, ⟨13, _⟩ => ⟨S2x512x512, .f32⟩
  | .local _ .vmem, ⟨14, _⟩ => ⟨S2x512x512, .f32⟩
  | .local _ .vmem, ⟨15, _⟩ => ⟨S2x512x512, .bf16⟩
  | .local _ .vmem, ⟨16, _⟩ => ⟨S2x512x512, .bf16⟩
  | .local _ .vmem, ⟨17, _⟩ => ⟨S512x192, .f32⟩
  | .local _ .vmem, ⟨18, _⟩ => ⟨S512x128, .f32⟩
  | _, _ => ⟨S16384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_v20 : Ref sig .tc := ⟨.hbm, 45, rfl⟩
abbrev main_cst_1 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_3 : Ref sig .tc := ⟨.hbm, 62, rfl⟩
abbrev main_v35 : Ref sig .tc := ⟨.hbm, 63, rfl⟩
abbrev main_cst_4 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46_0 : Ref sig .tc := ⟨.hbm, 75, rfl⟩
abbrev main_v46_1 : Ref sig .tc := ⟨.hbm, 76, rfl⟩
abbrev main_v46_2 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def k0_mult1 (i : grid0.Coords) : BitVec 32 :=
  let c31_i32 : BitVec 32 := 31#32
  let c0_i32_29 : BitVec 32 := 0#32
  let arg0 : BitVec 32 := BitVec.ofNat 32 (i 0).val
  let c0_i32_28 : BitVec 32 := 0#32
  let v75 : BitVec 32 := Scalar.addi arg0 c0_i32_28
  let v76 : BitVec 32 := Scalar.maxsi c0_i32_29 v75
  let v77 : BitVec 32 := Scalar.minsi c31_i32 v76
  let c512_i32 : BitVec 32 := 512#32
  let v78 : BitVec 32 := Scalar.muli v77 c512_i32
  v78
def k0_off1 (i : grid0.Coords) : Fin 2 → Nat :=
  let c31_i32 : BitVec 32 := 31#32
  let c0_i32_29 : BitVec 32 := 0#32
  let arg0 : BitVec 32 := BitVec.ofNat 32 (i 0).val
  let c0_i32_28 : BitVec 32 := 0#32
  let v75 : BitVec 32 := Scalar.addi arg0 c0_i32_28
  let v76 : BitVec 32 := Scalar.maxsi c0_i32_29 v75
  let v77 : BitVec 32 := Scalar.minsi c31_i32 v76
  let c512_i32 : BitVec 32 := 512#32
  let v78 : BitVec 32 := Scalar.muli v77 c512_i32
  let v79 : BitVec 32 := v78
  let v80 : Index := Scalar.indexCast v79
  let c0_30 : Index := 0#32
  ![v80.toNat, 0]
def k0_mult2 (i : grid0.Coords) : BitVec 32 :=
  let c31_i32_40 : BitVec 32 := 31#32
  let c0_i32_39 : BitVec 32 := 0#32
  let arg0 : BitVec 32 := BitVec.ofNat 32 (i 0).val
  let c0_i32_38 : BitVec 32 := 0#32
  let v92 : BitVec 32 := Scalar.addi arg0 c0_i32_38
  let v93 : BitVec 32 := Scalar.maxsi c0_i32_39 v92
  let v94 : BitVec 32 := Scalar.minsi c31_i32_40 v93
  let c512_i32_41 : BitVec 32 := 512#32
  let v95 : BitVec 32 := Scalar.muli v94 c512_i32_41
  v95
def k0_off2 (i : grid0.Coords) : Fin 2 → Nat :=
  let c31_i32_40 : BitVec 32 := 31#32
  let c0_i32_39 : BitVec 32 := 0#32
  let arg0 : BitVec 32 := BitVec.ofNat 32 (i 0).val
  let c0_i32_38 : BitVec 32 := 0#32
  let v92 : BitVec 32 := Scalar.addi arg0 c0_i32_38
  let v93 : BitVec 32 := Scalar.maxsi c0_i32_39 v92
  let v94 : BitVec 32 := Scalar.minsi c31_i32_40 v93
  let c512_i32_41 : BitVec 32 := 512#32
  let v95 : BitVec 32 := Scalar.muli v94 c512_i32_41
  let v96 : BitVec 32 := v95
  let v97 : Index := Scalar.indexCast v96
  let c0_42 : Index := 0#32
  ![v97.toNat, 0]
@[reducible] def k0_t1_loop (i : grid0.Coords) : Scf.Loop 32 :=
  let c0_i32_56 : BitVec 32 := 0#32
  let c32_i32_47 : BitVec 32 := 32#32
  let arg0 : BitVec 32 := BitVec.ofNat 32 (i 0).val
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v122 : BitVec 32 := Scalar.subi v121 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_58 : BitVec 32 := 1#32
  ⟨c0_i32_56, v126, c1_i32_58⟩
def k0_mult3 (i : grid0.Coords) (k0_t1 : Fin (k0_t1_loop i).trips) : BitVec 32 :=
  let c31_i32_105 : BitVec 32 := 31#32
  let c0_i32_104 : BitVec 32 := 0#32
  let arg0 : BitVec 32 := BitVec.ofNat 32 (i 0).val
  let c2_i32_98 : BitVec 32 := 2#32
  let c0_i32_56 : BitVec 32 := 0#32
  let c1_i32_58 : BitVec 32 := 1#32
  let arg19 : BitVec 32 := Scf.iv c0_i32_56 c1_i32_58 k0_t1
  let v171 : BitVec 32 := Scalar.muli c2_i32_98 arg19
  let c1_i32_99 : BitVec 32 := 1#32
  let v172 : BitVec 32 := Scalar.addi v171 c1_i32_99
  let v179 : BitVec 32 := Scalar.addi arg0 v172
  let v180 : BitVec 32 := Scalar.maxsi c0_i32_104 v179
  let v181 : BitVec 32 := Scalar.minsi c31_i32_105 v180
  let c512_i32_106 : BitVec 32 := 512#32
  let v182 : BitVec 32 := Scalar.muli v181 c512_i32_106
  v182
def k0_off3 (i : grid0.Coords) (k0_t1 : Fin (k0_t1_loop i).trips) (c1_i32_99 : BitVec 32) : Fin 2 → Nat :=
  let c31_i32_105 : BitVec 32 := 31#32
  let c0_i32_104 : BitVec 32 := 0#32
  let arg0 : BitVec 32 := BitVec.ofNat 32 (i 0).val
  let c2_i32_98 : BitVec 32 := 2#32
  let c0_i32_56 : BitVec 32 := 0#32
  let c1_i32_58 : BitVec 32 := 1#32
  let arg19 : BitVec 32 := Scf.iv c0_i32_56 c1_i32_58 k0_t1
  let v171 : BitVec 32 := Scalar.muli c2_i32_98 arg19
  let v172 : BitVec 32 := Scalar.addi v171 c1_i32_99
  let v179 : BitVec 32 := Scalar.addi arg0 v172
  let v180 : BitVec 32 := Scalar.maxsi c0_i32_104 v179
  let v181 : BitVec 32 := Scalar.minsi c31_i32_105 v180
  let c512_i32_106 : BitVec 32 := 512#32
  let v182 : BitVec 32 := Scalar.muli v181 c512_i32_106
  let v183 : BitVec 32 := v182
  let v184 : Index := Scalar.indexCast v183
  let c0_107 : Index := 0#32
  ![v184.toNat, 0]
def k0_mult4 (i : grid0.Coords) (k0_t1 : Fin (k0_t1_loop i).trips) : BitVec 32 :=
  let c31_i32_116 : BitVec 32 := 31#32
  let c0_i32_115 : BitVec 32 := 0#32
  let arg0 : BitVec 32 := BitVec.ofNat 32 (i 0).val
  let c2_i32_98 : BitVec 32 := 2#32
  let c0_i32_56 : BitVec 32 := 0#32
  let c1_i32_58 : BitVec 32 := 1#32
  let arg19 : BitVec 32 := Scf.iv c0_i32_56 c1_i32_58 k0_t1
  let v171 : BitVec 32 := Scalar.muli c2_i32_98 arg19
  let c1_i32_99 : BitVec 32 := 1#32
  let v172 : BitVec 32 := Scalar.addi v171 c1_i32_99
  let v196 : BitVec 32 := Scalar.addi arg0 v172
  let v197 : BitVec 32 := Scalar.maxsi c0_i32_115 v196
  let v198 : BitVec 32 := Scalar.minsi c31_i32_116 v197
  let c512_i32_117 : BitVec 32 := 512#32
  let v199 : BitVec 32 := Scalar.muli v198 c512_i32_117
  v199
def k0_off4 (i : grid0.Coords) (k0_t1 : Fin (k0_t1_loop i).trips) (c1_i32_99 : BitVec 32) : Fin 2 → Nat :=
  let c31_i32_116 : BitVec 32 := 31#32
  let c0_i32_115 : BitVec 32 := 0#32
  let arg0 : BitVec 32 := BitVec.ofNat 32 (i 0).val
  let c2_i32_98 : BitVec 32 := 2#32
  let c0_i32_56 : BitVec 32 := 0#32
  let c1_i32_58 : BitVec 32 := 1#32
  let arg19 : BitVec 32 := Scf.iv c0_i32_56 c1_i32_58 k0_t1
  let v171 : BitVec 32 := Scalar.muli c2_i32_98 arg19
  let v172 : BitVec 32 := Scalar.addi v171 c1_i32_99
  let v196 : BitVec 32 := Scalar.addi arg0 v172
  let v197 : BitVec 32 := Scalar.maxsi c0_i32_115 v196
  let v198 : BitVec 32 := Scalar.minsi c31_i32_116 v197
  let c512_i32_117 : BitVec 32 := 512#32
  let v199 : BitVec 32 := Scalar.muli v198 c512_i32_117
  let v200 : BitVec 32 := v199
  let v201 : Index := Scalar.indexCast v200
  let c0_118 : Index := 0#32
  ![v201.toNat, 0]
def k0_off5 (i : grid0.Coords) (k0_t1 : Fin (k0_t1_loop i).trips) : Fin 3 → Nat :=
  let c31_i32_128 : BitVec 32 := 31#32
  let c0_i32_127 : BitVec 32 := 0#32
  let arg0 : BitVec 32 := BitVec.ofNat 32 (i 0).val
  let c2_i32_98 : BitVec 32 := 2#32
  let c0_i32_56 : BitVec 32 := 0#32
  let c1_i32_58 : BitVec 32 := 1#32
  let arg19 : BitVec 32 := Scf.iv c0_i32_56 c1_i32_58 k0_t1
  let v171 : BitVec 32 := Scalar.muli c2_i32_98 arg19
  let v211 : BitVec 32 := Scalar.addi arg0 v171
  let v212 : BitVec 32 := Scalar.maxsi c0_i32_127 v211
  let v213 : BitVec 32 := Scalar.minsi c31_i32_128 v212
  let v214 : Index := Scalar.indexCast v213
  let c0_129 : Index := 0#32
  let c0_130 : Index := 0#32
  ![v214.toNat, 0, 0]
def k0_mult5 (i : grid0.Coords) (k0_t1 : Fin (k0_t1_loop i).trips) : BitVec 32 :=
  let c31_i32_147 : BitVec 32 := 31#32
  let c0_i32_146 : BitVec 32 := 0#32
  let arg0 : BitVec 32 := BitVec.ofNat 32 (i 0).val
  let c2_i32_98 : BitVec 32 := 2#32
  let c0_i32_56 : BitVec 32 := 0#32
  let c1_i32_58 : BitVec 32 := 1#32
  let arg19 : BitVec 32 := Scf.iv c0_i32_56 c1_i32_58 k0_t1
  let v171 : BitVec 32 := Scalar.muli c2_i32_98 arg19
  let c1_i32_145 : BitVec 32 := 1#32
  let v241 : BitVec 32 := Scalar.subi v171 c1_i32_145
  let v242 : BitVec 32 := Scalar.addi arg0 v241
  let v243 : BitVec 32 := Scalar.maxsi c0_i32_146 v242
  let v244 : BitVec 32 := Scalar.minsi c31_i32_147 v243
  let c512_i32_148 : BitVec 32 := 512#32
  let v245 : BitVec 32 := Scalar.muli v244 c512_i32_148
  v245
def k0_off6 (i : grid0.Coords) (k0_t1 : Fin (k0_t1_loop i).trips) : Fin 2 → Nat :=
  let c31_i32_147 : BitVec 32 := 31#32
  let c0_i32_146 : BitVec 32 := 0#32
  let arg0 : BitVec 32 := BitVec.ofNat 32 (i 0).val
  let c2_i32_98 : BitVec 32 := 2#32
  let c0_i32_56 : BitVec 32 := 0#32
  let c1_i32_58 : BitVec 32 := 1#32
  let arg19 : BitVec 32 := Scf.iv c0_i32_56 c1_i32_58 k0_t1
  let v171 : BitVec 32 := Scalar.muli c2_i32_98 arg19
  let c1_i32_145 : BitVec 32 := 1#32
  let v241 : BitVec 32 := Scalar.subi v171 c1_i32_145
  let v242 : BitVec 32 := Scalar.addi arg0 v241
  let v243 : BitVec 32 := Scalar.maxsi c0_i32_146 v242
  let v244 : BitVec 32 := Scalar.minsi c31_i32_147 v243
  let c512_i32_148 : BitVec 32 := 512#32
  let v245 : BitVec 32 := Scalar.muli v244 c512_i32_148
  let v246 : BitVec 32 := v245
  let v250 : Index := Scalar.indexCast v246
  let c0_154 : Index := 0#32
  ![v250.toNat, 0]
def k0_off7 (i : grid0.Coords) (k0_t1 : Fin (k0_t1_loop i).trips) : Fin 2 → Nat :=
  let c31_i32_147 : BitVec 32 := 31#32
  let c0_i32_146 : BitVec 32 := 0#32
  let arg0 : BitVec 32 := BitVec.ofNat 32 (i 0).val
  let c2_i32_98 : BitVec 32 := 2#32
  let c0_i32_56 : BitVec 32 := 0#32
  let c1_i32_58 : BitVec 32 := 1#32
  let arg19 : BitVec 32 := Scf.iv c0_i32_56 c1_i32_58 k0_t1
  let v171 : BitVec 32 := Scalar.muli c2_i32_98 arg19
  let c1_i32_145 : BitVec 32 := 1#32
  let v241 : BitVec 32 := Scalar.subi v171 c1_i32_145
  let v242 : BitVec 32 := Scalar.addi arg0 v241
  let v243 : BitVec 32 := Scalar.maxsi c0_i32_146 v242
  let v244 : BitVec 32 := Scalar.minsi c31_i32_147 v243
  let c512_i32_148 : BitVec 32 := 512#32
  let v245 : BitVec 32 := Scalar.muli v244 c512_i32_148
  let v246 : BitVec 32 := v245
  let v260 : Index := Scalar.indexCast v246
  let c0_163 : Index := 0#32
  ![v260.toNat, 0]
def k0_mult6 (i : grid0.Coords) (k0_t1 : Fin (k0_t1_loop i).trips) : BitVec 32 :=
  let c31_i32_179 : BitVec 32 := 31#32
  let c0_i32_178 : BitVec 32 := 0#32
  let arg0 : BitVec 32 := BitVec.ofNat 32 (i 0).val
  let c2_i32_98 : BitVec 32 := 2#32
  let c0_i32_56 : BitVec 32 := 0#32
  let c1_i32_58 : BitVec 32 := 1#32
  let arg19 : BitVec 32 := Scf.iv c0_i32_56 c1_i32_58 k0_t1
  let v171 : BitVec 32 := Scalar.muli c2_i32_98 arg19
  let c2_i32_172 : BitVec 32 := 2#32
  let v277 : BitVec 32 := Scalar.addi v171 c2_i32_172
  let v284 : BitVec 32 := Scalar.addi arg0 v277
  let v285 : BitVec 32 := Scalar.maxsi c0_i32_178 v284
  let v286 : BitVec 32 := Scalar.minsi c31_i32_179 v285
  let c512_i32_180 : BitVec 32 := 512#32
  let v287 : BitVec 32 := Scalar.muli v286 c512_i32_180
  v287
def k0_mult7 (i : grid0.Coords) (k0_t1 : Fin (k0_t1_loop i).trips) : BitVec 32 :=
  let c31_i32_190 : BitVec 32 := 31#32
  let c0_i32_189 : BitVec 32 := 0#32
  let arg0 : BitVec 32 := BitVec.ofNat 32 (i 0).val
  let c2_i32_98 : BitVec 32 := 2#32
  let c0_i32_56 : BitVec 32 := 0#32
  let c1_i32_58 : BitVec 32 := 1#32
  let arg19 : BitVec 32 := Scf.iv c0_i32_56 c1_i32_58 k0_t1
  let v171 : BitVec 32 := Scalar.muli c2_i32_98 arg19
  let c2_i32_172 : BitVec 32 := 2#32
  let v277 : BitVec 32 := Scalar.addi v171 c2_i32_172
  let v301 : BitVec 32 := Scalar.addi arg0 v277
  let v302 : BitVec 32 := Scalar.maxsi c0_i32_189 v301
  let v303 : BitVec 32 := Scalar.minsi c31_i32_190 v302
  let c512_i32_191 : BitVec 32 := 512#32
  let v304 : BitVec 32 := Scalar.muli v303 c512_i32_191
  v304
def k0_off8 (i : grid0.Coords) (k0_t1 : Fin (k0_t1_loop i).trips) : Fin 3 → Nat :=
  let c31_i32_203 : BitVec 32 := 31#32
  let c0_i32_202 : BitVec 32 := 0#32
  let arg0 : BitVec 32 := BitVec.ofNat 32 (i 0).val
  let c2_i32_98 : BitVec 32 := 2#32
  let c0_i32_56 : BitVec 32 := 0#32
  let c1_i32_58 : BitVec 32 := 1#32
  let arg19 : BitVec 32 := Scf.iv c0_i32_56 c1_i32_58 k0_t1
  let v171 : BitVec 32 := Scalar.muli c2_i32_98 arg19
  let c1_i32_197 : BitVec 32 := 1#32
  let v312 : BitVec 32 := Scalar.addi v171 c1_i32_197
  let v317 : BitVec 32 := Scalar.addi arg0 v312
  let v318 : BitVec 32 := Scalar.maxsi c0_i32_202 v317
  let v319 : BitVec 32 := Scalar.minsi c31_i32_203 v318
  let v320 : Index := Scalar.indexCast v319
  let c0_204 : Index := 0#32
  let c0_205 : Index := 0#32
  ![v320.toNat, 0, 0]
def k0_mult8 (i : grid0.Coords) (k0_t1 : Fin (k0_t1_loop i).trips) : BitVec 32 :=
  let c31_i32_221 : BitVec 32 := 31#32
  let c0_i32_220 : BitVec 32 := 0#32
  let arg0 : BitVec 32 := BitVec.ofNat 32 (i 0).val
  let c2_i32_98 : BitVec 32 := 2#32
  let c0_i32_56 : BitVec 32 := 0#32
  let c1_i32_58 : BitVec 32 := 1#32
  let arg19 : BitVec 32 := Scf.iv c0_i32_56 c1_i32_58 k0_t1
  let v171 : BitVec 32 := Scalar.muli c2_i32_98 arg19
  let v347 : BitVec 32 := Scalar.addi arg0 v171
  let v348 : BitVec 32 := Scalar.maxsi c0_i32_220 v347
  let v349 : BitVec 32 := Scalar.minsi c31_i32_221 v348
  let c512_i32_222 : BitVec 32 := 512#32
  let v350 : BitVec 32 := Scalar.muli v349 c512_i32_222
  v350
def k0_off9 (i : grid0.Coords) (k0_t1 : Fin (k0_t1_loop i).trips) : Fin 2 → Nat :=
  let c31_i32_221 : BitVec 32 := 31#32
  let c0_i32_220 : BitVec 32 := 0#32
  let arg0 : BitVec 32 := BitVec.ofNat 32 (i 0).val
  let c2_i32_98 : BitVec 32 := 2#32
  let c0_i32_56 : BitVec 32 := 0#32
  let c1_i32_58 : BitVec 32 := 1#32
  let arg19 : BitVec 32 := Scf.iv c0_i32_56 c1_i32_58 k0_t1
  let v171 : BitVec 32 := Scalar.muli c2_i32_98 arg19
  let v347 : BitVec 32 := Scalar.addi arg0 v171
  let v348 : BitVec 32 := Scalar.maxsi c0_i32_220 v347
  let v349 : BitVec 32 := Scalar.minsi c31_i32_221 v348
  let c512_i32_222 : BitVec 32 := 512#32
  let v350 : BitVec 32 := Scalar.muli v349 c512_i32_222
  let v351 : BitVec 32 := v350
  let v355 : Index := Scalar.indexCast v351
  let c0_228 : Index := 0#32
  ![v355.toNat, 0]
def k0_off10 (i : grid0.Coords) (k0_t1 : Fin (k0_t1_loop i).trips) : Fin 2 → Nat :=
  let c31_i32_221 : BitVec 32 := 31#32
  let c0_i32_220 : BitVec 32 := 0#32
  let arg0 : BitVec 32 := BitVec.ofNat 32 (i 0).val
  let c2_i32_98 : BitVec 32 := 2#32
  let c0_i32_56 : BitVec 32 := 0#32
  let c1_i32_58 : BitVec 32 := 1#32
  let arg19 : BitVec 32 := Scf.iv c0_i32_56 c1_i32_58 k0_t1
  let v171 : BitVec 32 := Scalar.muli c2_i32_98 arg19
  let v347 : BitVec 32 := Scalar.addi arg0 v171
  let v348 : BitVec 32 := Scalar.maxsi c0_i32_220 v347
  let v349 : BitVec 32 := Scalar.minsi c31_i32_221 v348
  let c512_i32_222 : BitVec 32 := 512#32
  let v350 : BitVec 32 := Scalar.muli v349 c512_i32_222
  let v351 : BitVec 32 := v350
  let v365 : Index := Scalar.indexCast v351
  let c0_237 : Index := 0#32
  ![v365.toNat, 0]
@[reducible] def k0_t2_loop (i : grid0.Coords) : Scf.Loop 32 :=
  let c0_i32_56 : BitVec 32 := 0#32
  let c32_i32_47 : BitVec 32 := 32#32
  let arg0 : BitVec 32 := BitVec.ofNat 32 (i 0).val
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v122 : BitVec 32 := Scalar.subi v121 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let v123 : BitVec 32 := Scalar.addi c0_i32_56 v122
  let c1_i32_59 : BitVec 32 := 1#32
  ⟨v126, v123, c1_i32_59⟩
def k0_mult9 (i : grid0.Coords) (k0_t2 : Fin (k0_t2_loop i).trips) : BitVec 32 :=
  let c31_i32_105 : BitVec 32 := 31#32
  let c0_i32_104 : BitVec 32 := 0#32
  let arg0 : BitVec 32 := BitVec.ofNat 32 (i 0).val
  let c2_i32_98 : BitVec 32 := 2#32
  let c0_i32_56 : BitVec 32 := 0#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v122 : BitVec 32 := Scalar.subi v121 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_59 : BitVec 32 := 1#32
  let arg19 : BitVec 32 := Scf.iv v126 c1_i32_59 k0_t2
  let v171 : BitVec 32 := Scalar.muli c2_i32_98 arg19
  let c1_i32_99 : BitVec 32 := 1#32
  let v172 : BitVec 32 := Scalar.addi v171 c1_i32_99
  let v179 : BitVec 32 := Scalar.addi arg0 v172
  let v180 : BitVec 32 := Scalar.maxsi c0_i32_104 v179
  let v181 : BitVec 32 := Scalar.minsi c31_i32_105 v180
  let c512_i32_106 : BitVec 32 := 512#32
  let v182 : BitVec 32 := Scalar.muli v181 c512_i32_106
  v182
def k0_off11 (i : grid0.Coords) (k0_t2 : Fin (k0_t2_loop i).trips) (c1_i32_99 : BitVec 32) : Fin 2 → Nat :=
  let c31_i32_105 : BitVec 32 := 31#32
  let c0_i32_104 : BitVec 32 := 0#32
  let arg0 : BitVec 32 := BitVec.ofNat 32 (i 0).val
  let c2_i32_98 : BitVec 32 := 2#32
  let c0_i32_56 : BitVec 32 := 0#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v122 : BitVec 32 := Scalar.subi v121 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_59 : BitVec 32 := 1#32
  let arg19 : BitVec 32 := Scf.iv v126 c1_i32_59 k0_t2
  let v171 : BitVec 32 := Scalar.muli c2_i32_98 arg19
  let v172 : BitVec 32 := Scalar.addi v171 c1_i32_99
  let v179 : BitVec 32 := Scalar.addi arg0 v172
  let v180 : BitVec 32 := Scalar.maxsi c0_i32_104 v179
  let v181 : BitVec 32 := Scalar.minsi c31_i32_105 v180
  let c512_i32_106 : BitVec 32 := 512#32
  let v182 : BitVec 32 := Scalar.muli v181 c512_i32_106
  let v183 : BitVec 32 := v182
  let v184 : Index := Scalar.indexCast v183
  let c0_107 : Index := 0#32
  ![v184.toNat, 0]
def k0_mult10 (i : grid0.Coords) (k0_t2 : Fin (k0_t2_loop i).trips) : BitVec 32 :=
  let c31_i32_116 : BitVec 32 := 31#32
  let c0_i32_115 : BitVec 32 := 0#32
  let arg0 : BitVec 32 := BitVec.ofNat 32 (i 0).val
  let c2_i32_98 : BitVec 32 := 2#32
  let c0_i32_56 : BitVec 32 := 0#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v122 : BitVec 32 := Scalar.subi v121 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_59 : BitVec 32 := 1#32
  let arg19 : BitVec 32 := Scf.iv v126 c1_i32_59 k0_t2
  let v171 : BitVec 32 := Scalar.muli c2_i32_98 arg19
  let c1_i32_99 : BitVec 32 := 1#32
  let v172 : BitVec 32 := Scalar.addi v171 c1_i32_99
  let v196 : BitVec 32 := Scalar.addi arg0 v172
  let v197 : BitVec 32 := Scalar.maxsi c0_i32_115 v196
  let v198 : BitVec 32 := Scalar.minsi c31_i32_116 v197
  let c512_i32_117 : BitVec 32 := 512#32
  let v199 : BitVec 32 := Scalar.muli v198 c512_i32_117
  v199
def k0_off12 (i : grid0.Coords) (k0_t2 : Fin (k0_t2_loop i).trips) (c1_i32_99 : BitVec 32) : Fin 2 → Nat :=
  let c31_i32_116 : BitVec 32 := 31#32
  let c0_i32_115 : BitVec 32 := 0#32
  let arg0 : BitVec 32 := BitVec.ofNat 32 (i 0).val
  let c2_i32_98 : BitVec 32 := 2#32
  let c0_i32_56 : BitVec 32 := 0#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v122 : BitVec 32 := Scalar.subi v121 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_59 : BitVec 32 := 1#32
  let arg19 : BitVec 32 := Scf.iv v126 c1_i32_59 k0_t2
  let v171 : BitVec 32 := Scalar.muli c2_i32_98 arg19
  let v172 : BitVec 32 := Scalar.addi v171 c1_i32_99
  let v196 : BitVec 32 := Scalar.addi arg0 v172
  let v197 : BitVec 32 := Scalar.maxsi c0_i32_115 v196
  let v198 : BitVec 32 := Scalar.minsi c31_i32_116 v197
  let c512_i32_117 : BitVec 32 := 512#32
  let v199 : BitVec 32 := Scalar.muli v198 c512_i32_117
  let v200 : BitVec 32 := v199
  let v201 : Index := Scalar.indexCast v200
  let c0_118 : Index := 0#32
  ![v201.toNat, 0]
def k0_off13 (i : grid0.Coords) (k0_t2 : Fin (k0_t2_loop i).trips) : Fin 3 → Nat :=
  let c31_i32_128 : BitVec 32 := 31#32
  let c0_i32_127 : BitVec 32 := 0#32
  let arg0 : BitVec 32 := BitVec.ofNat 32 (i 0).val
  let c2_i32_98 : BitVec 32 := 2#32
  let c0_i32_56 : BitVec 32 := 0#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v122 : BitVec 32 := Scalar.subi v121 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_59 : BitVec 32 := 1#32
  let arg19 : BitVec 32 := Scf.iv v126 c1_i32_59 k0_t2
  let v171 : BitVec 32 := Scalar.muli c2_i32_98 arg19
  let v211 : BitVec 32 := Scalar.addi arg0 v171
  let v212 : BitVec 32 := Scalar.maxsi c0_i32_127 v211
  let v213 : BitVec 32 := Scalar.minsi c31_i32_128 v212
  let v214 : Index := Scalar.indexCast v213
  let c0_129 : Index := 0#32
  let c0_130 : Index := 0#32
  ![v214.toNat, 0, 0]
def k0_mult11 (i : grid0.Coords) (k0_t2 : Fin (k0_t2_loop i).trips) : BitVec 32 :=
  let c31_i32_147 : BitVec 32 := 31#32
  let c0_i32_146 : BitVec 32 := 0#32
  let arg0 : BitVec 32 := BitVec.ofNat 32 (i 0).val
  let c2_i32_98 : BitVec 32 := 2#32
  let c0_i32_56 : BitVec 32 := 0#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v122 : BitVec 32 := Scalar.subi v121 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_59 : BitVec 32 := 1#32
  let arg19 : BitVec 32 := Scf.iv v126 c1_i32_59 k0_t2
  let v171 : BitVec 32 := Scalar.muli c2_i32_98 arg19
  let c1_i32_145 : BitVec 32 := 1#32
  let v241 : BitVec 32 := Scalar.subi v171 c1_i32_145
  let v242 : BitVec 32 := Scalar.addi arg0 v241
  let v243 : BitVec 32 := Scalar.maxsi c0_i32_146 v242
  let v244 : BitVec 32 := Scalar.minsi c31_i32_147 v243
  let c512_i32_148 : BitVec 32 := 512#32
  let v245 : BitVec 32 := Scalar.muli v244 c512_i32_148
  v245
def k0_off14 (i : grid0.Coords) (k0_t2 : Fin (k0_t2_loop i).trips) : Fin 2 → Nat :=
  let c31_i32_147 : BitVec 32 := 31#32
  let c0_i32_146 : BitVec 32 := 0#32
  let arg0 : BitVec 32 := BitVec.ofNat 32 (i 0).val
  let c2_i32_98 : BitVec 32 := 2#32
  let c0_i32_56 : BitVec 32 := 0#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v122 : BitVec 32 := Scalar.subi v121 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_59 : BitVec 32 := 1#32
  let arg19 : BitVec 32 := Scf.iv v126 c1_i32_59 k0_t2
  let v171 : BitVec 32 := Scalar.muli c2_i32_98 arg19
  let c1_i32_145 : BitVec 32 := 1#32
  let v241 : BitVec 32 := Scalar.subi v171 c1_i32_145
  let v242 : BitVec 32 := Scalar.addi arg0 v241
  let v243 : BitVec 32 := Scalar.maxsi c0_i32_146 v242
  let v244 : BitVec 32 := Scalar.minsi c31_i32_147 v243
  let c512_i32_148 : BitVec 32 := 512#32
  let v245 : BitVec 32 := Scalar.muli v244 c512_i32_148
  let v246 : BitVec 32 := v245
  let v250 : Index := Scalar.indexCast v246
  let c0_154 : Index := 0#32
  ![v250.toNat, 0]
def k0_off15 (i : grid0.Coords) (k0_t2 : Fin (k0_t2_loop i).trips) : Fin 2 → Nat :=
  let c31_i32_147 : BitVec 32 := 31#32
  let c0_i32_146 : BitVec 32 := 0#32
  let arg0 : BitVec 32 := BitVec.ofNat 32 (i 0).val
  let c2_i32_98 : BitVec 32 := 2#32
  let c0_i32_56 : BitVec 32 := 0#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v122 : BitVec 32 := Scalar.subi v121 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_59 : BitVec 32 := 1#32
  let arg19 : BitVec 32 := Scf.iv v126 c1_i32_59 k0_t2
  let v171 : BitVec 32 := Scalar.muli c2_i32_98 arg19
  let c1_i32_145 : BitVec 32 := 1#32
  let v241 : BitVec 32 := Scalar.subi v171 c1_i32_145
  let v242 : BitVec 32 := Scalar.addi arg0 v241
  let v243 : BitVec 32 := Scalar.maxsi c0_i32_146 v242
  let v244 : BitVec 32 := Scalar.minsi c31_i32_147 v243
  let c512_i32_148 : BitVec 32 := 512#32
  let v245 : BitVec 32 := Scalar.muli v244 c512_i32_148
  let v246 : BitVec 32 := v245
  let v260 : Index := Scalar.indexCast v246
  let c0_163 : Index := 0#32
  ![v260.toNat, 0]
def k0_mult12 (i : grid0.Coords) (k0_t2 : Fin (k0_t2_loop i).trips) : BitVec 32 :=
  let c31_i32_179 : BitVec 32 := 31#32
  let c0_i32_178 : BitVec 32 := 0#32
  let arg0 : BitVec 32 := BitVec.ofNat 32 (i 0).val
  let c2_i32_98 : BitVec 32 := 2#32
  let c0_i32_56 : BitVec 32 := 0#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v122 : BitVec 32 := Scalar.subi v121 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_59 : BitVec 32 := 1#32
  let arg19 : BitVec 32 := Scf.iv v126 c1_i32_59 k0_t2
  let v171 : BitVec 32 := Scalar.muli c2_i32_98 arg19
  let c2_i32_172 : BitVec 32 := 2#32
  let v277 : BitVec 32 := Scalar.addi v171 c2_i32_172
  let v284 : BitVec 32 := Scalar.addi arg0 v277
  let v285 : BitVec 32 := Scalar.maxsi c0_i32_178 v284
  let v286 : BitVec 32 := Scalar.minsi c31_i32_179 v285
  let c512_i32_180 : BitVec 32 := 512#32
  let v287 : BitVec 32 := Scalar.muli v286 c512_i32_180
  v287
def k0_mult13 (i : grid0.Coords) (k0_t2 : Fin (k0_t2_loop i).trips) : BitVec 32 :=
  let c31_i32_190 : BitVec 32 := 31#32
  let c0_i32_189 : BitVec 32 := 0#32
  let arg0 : BitVec 32 := BitVec.ofNat 32 (i 0).val
  let c2_i32_98 : BitVec 32 := 2#32
  let c0_i32_56 : BitVec 32 := 0#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v122 : BitVec 32 := Scalar.subi v121 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_59 : BitVec 32 := 1#32
  let arg19 : BitVec 32 := Scf.iv v126 c1_i32_59 k0_t2
  let v171 : BitVec 32 := Scalar.muli c2_i32_98 arg19
  let c2_i32_172 : BitVec 32 := 2#32
  let v277 : BitVec 32 := Scalar.addi v171 c2_i32_172
  let v301 : BitVec 32 := Scalar.addi arg0 v277
  let v302 : BitVec 32 := Scalar.maxsi c0_i32_189 v301
  let v303 : BitVec 32 := Scalar.minsi c31_i32_190 v302
  let c512_i32_191 : BitVec 32 := 512#32
  let v304 : BitVec 32 := Scalar.muli v303 c512_i32_191
  v304
def k0_off16 (i : grid0.Coords) (k0_t2 : Fin (k0_t2_loop i).trips) : Fin 3 → Nat :=
  let c31_i32_203 : BitVec 32 := 31#32
  let c0_i32_202 : BitVec 32 := 0#32
  let arg0 : BitVec 32 := BitVec.ofNat 32 (i 0).val
  let c2_i32_98 : BitVec 32 := 2#32
  let c0_i32_56 : BitVec 32 := 0#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v122 : BitVec 32 := Scalar.subi v121 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_59 : BitVec 32 := 1#32
  let arg19 : BitVec 32 := Scf.iv v126 c1_i32_59 k0_t2
  let v171 : BitVec 32 := Scalar.muli c2_i32_98 arg19
  let c1_i32_197 : BitVec 32 := 1#32
  let v312 : BitVec 32 := Scalar.addi v171 c1_i32_197
  let v317 : BitVec 32 := Scalar.addi arg0 v312
  let v318 : BitVec 32 := Scalar.maxsi c0_i32_202 v317
  let v319 : BitVec 32 := Scalar.minsi c31_i32_203 v318
  let v320 : Index := Scalar.indexCast v319
  let c0_204 : Index := 0#32
  let c0_205 : Index := 0#32
  ![v320.toNat, 0, 0]
def k0_mult14 (i : grid0.Coords) (k0_t2 : Fin (k0_t2_loop i).trips) : BitVec 32 :=
  let c31_i32_221 : BitVec 32 := 31#32
  let c0_i32_220 : BitVec 32 := 0#32
  let arg0 : BitVec 32 := BitVec.ofNat 32 (i 0).val
  let c2_i32_98 : BitVec 32 := 2#32
  let c0_i32_56 : BitVec 32 := 0#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v122 : BitVec 32 := Scalar.subi v121 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_59 : BitVec 32 := 1#32
  let arg19 : BitVec 32 := Scf.iv v126 c1_i32_59 k0_t2
  let v171 : BitVec 32 := Scalar.muli c2_i32_98 arg19
  let v347 : BitVec 32 := Scalar.addi arg0 v171
  let v348 : BitVec 32 := Scalar.maxsi c0_i32_220 v347
  let v349 : BitVec 32 := Scalar.minsi c31_i32_221 v348
  let c512_i32_222 : BitVec 32 := 512#32
  let v350 : BitVec 32 := Scalar.muli v349 c512_i32_222
  v350
def k0_off17 (i : grid0.Coords) (k0_t2 : Fin (k0_t2_loop i).trips) : Fin 2 → Nat :=
  let c31_i32_221 : BitVec 32 := 31#32
  let c0_i32_220 : BitVec 32 := 0#32
  let arg0 : BitVec 32 := BitVec.ofNat 32 (i 0).val
  let c2_i32_98 : BitVec 32 := 2#32
  let c0_i32_56 : BitVec 32 := 0#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v122 : BitVec 32 := Scalar.subi v121 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_59 : BitVec 32 := 1#32
  let arg19 : BitVec 32 := Scf.iv v126 c1_i32_59 k0_t2
  let v171 : BitVec 32 := Scalar.muli c2_i32_98 arg19
  let v347 : BitVec 32 := Scalar.addi arg0 v171
  let v348 : BitVec 32 := Scalar.maxsi c0_i32_220 v347
  let v349 : BitVec 32 := Scalar.minsi c31_i32_221 v348
  let c512_i32_222 : BitVec 32 := 512#32
  let v350 : BitVec 32 := Scalar.muli v349 c512_i32_222
  let v351 : BitVec 32 := v350
  let v355 : Index := Scalar.indexCast v351
  let c0_228 : Index := 0#32
  ![v355.toNat, 0]
def k0_off18 (i : grid0.Coords) (k0_t2 : Fin (k0_t2_loop i).trips) : Fin 2 → Nat :=
  let c31_i32_221 : BitVec 32 := 31#32
  let c0_i32_220 : BitVec 32 := 0#32
  let arg0 : BitVec 32 := BitVec.ofNat 32 (i 0).val
  let c2_i32_98 : BitVec 32 := 2#32
  let c0_i32_56 : BitVec 32 := 0#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v122 : BitVec 32 := Scalar.subi v121 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_59 : BitVec 32 := 1#32
  let arg19 : BitVec 32 := Scf.iv v126 c1_i32_59 k0_t2
  let v171 : BitVec 32 := Scalar.muli c2_i32_98 arg19
  let v347 : BitVec 32 := Scalar.addi arg0 v171
  let v348 : BitVec 32 := Scalar.maxsi c0_i32_220 v347
  let v349 : BitVec 32 := Scalar.minsi c31_i32_221 v348
  let c512_i32_222 : BitVec 32 := 512#32
  let v350 : BitVec 32 := Scalar.muli v349 c512_i32_222
  let v351 : BitVec 32 := v350
  let v365 : Index := Scalar.indexCast v351
  let c0_237 : Index := 0#32
  ![v365.toNat, 0]
def k0_mult15 (i : grid0.Coords) : BitVec 32 :=
  let c31_i32_63 : BitVec 32 := 31#32
  let c0_i32_62 : BitVec 32 := 0#32
  let arg0 : BitVec 32 := BitVec.ofNat 32 (i 0).val
  let c2_i32_60 : BitVec 32 := 2#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v127 : BitVec 32 := Scalar.muli c2_i32_60 v121
  let c1_i32_61 : BitVec 32 := 1#32
  let v128 : BitVec 32 := Scalar.subi v127 c1_i32_61
  let v129 : BitVec 32 := Scalar.addi arg0 v128
  let v130 : BitVec 32 := Scalar.maxsi c0_i32_62 v129
  let v131 : BitVec 32 := Scalar.minsi c31_i32_63 v130
  let c512_i32_64 : BitVec 32 := 512#32
  let v132 : BitVec 32 := Scalar.muli v131 c512_i32_64
  v132
def k0_off19 (i : grid0.Coords) : Fin 2 → Nat :=
  let c31_i32_63 : BitVec 32 := 31#32
  let c0_i32_62 : BitVec 32 := 0#32
  let arg0 : BitVec 32 := BitVec.ofNat 32 (i 0).val
  let c2_i32_60 : BitVec 32 := 2#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v127 : BitVec 32 := Scalar.muli c2_i32_60 v121
  let c1_i32_61 : BitVec 32 := 1#32
  let v128 : BitVec 32 := Scalar.subi v127 c1_i32_61
  let v129 : BitVec 32 := Scalar.addi arg0 v128
  let v130 : BitVec 32 := Scalar.maxsi c0_i32_62 v129
  let v131 : BitVec 32 := Scalar.minsi c31_i32_63 v130
  let c512_i32_64 : BitVec 32 := 512#32
  let v132 : BitVec 32 := Scalar.muli v131 c512_i32_64
  let v133 : BitVec 32 := v132
  let v137 : Index := Scalar.indexCast v133
  let c0_70 : Index := 0#32
  ![v137.toNat, 0]
def k0_off20 (i : grid0.Coords) : Fin 2 → Nat :=
  let c31_i32_63 : BitVec 32 := 31#32
  let c0_i32_62 : BitVec 32 := 0#32
  let arg0 : BitVec 32 := BitVec.ofNat 32 (i 0).val
  let c2_i32_60 : BitVec 32 := 2#32
  let c32_i32_47 : BitVec 32 := 32#32
  let v103 : BitVec 32 := Scalar.subi c32_i32_47 arg0
  let c1_i32_48 : BitVec 32 := 1#32
  let v104 : BitVec 32 := Scalar.addi v103 c1_i32_48
  let c0_i32_49 : BitVec 32 := 0#32
  let v106 : BitVec 1 := Scalar.cmpi .sgt v104 c0_i32_49
  let v107 : BitVec 32 := Scalar.extui v106
  let c0_i32_50 : BitVec 32 := 0#32
  let v108 : BitVec 1 := Scalar.cmpi .slt v104 c0_i32_50
  let v109 : BitVec 32 := Scalar.extui v108
  let v110 : BitVec 32 := Scalar.subi v107 v109
  let c2_i32 : BitVec 32 := 2#32
  let c0_i32_51 : BitVec 32 := 0#32
  let v111 : BitVec 1 := Scalar.cmpi .sgt c2_i32 c0_i32_51
  let v112 : BitVec 32 := Scalar.extui v111
  let c0_i32_52 : BitVec 32 := 0#32
  let v113 : BitVec 1 := Scalar.cmpi .slt c2_i32 c0_i32_52
  let v114 : BitVec 32 := Scalar.extui v113
  let v115 : BitVec 32 := Scalar.subi v112 v114
  let v116 : BitVec 1 := Scalar.cmpi .ne v110 v115
  let v117 : BitVec 32 := Scalar.remsi v104 c2_i32
  let c0_i32_53 : BitVec 32 := 0#32
  let v118 : BitVec 1 := Scalar.cmpi .ne v117 c0_i32_53
  let v119 : BitVec 1 := Scalar.andi v116 v118
  let v105 : BitVec 32 := Scalar.divsi v104 c2_i32
  let c1_i32_54 : BitVec 32 := 1#32
  let v120 : BitVec 32 := Scalar.subi v105 c1_i32_54
  let v121 : BitVec 32 := Scalar.select v119 v120 v105
  let v127 : BitVec 32 := Scalar.muli c2_i32_60 v121
  let c1_i32_61 : BitVec 32 := 1#32
  let v128 : BitVec 32 := Scalar.subi v127 c1_i32_61
  let v129 : BitVec 32 := Scalar.addi arg0 v128
  let v130 : BitVec 32 := Scalar.maxsi c0_i32_62 v129
  let v131 : BitVec 32 := Scalar.minsi c31_i32_63 v130
  let c512_i32_64 : BitVec 32 := 512#32
  let v132 : BitVec 32 := Scalar.muli v131 c512_i32_64
  let v133 : BitVec 32 := v132
  let v147 : Index := Scalar.indexCast v133
  let c0_79 : Index := 0#32
  ![v147.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "att_scale" => some (((Real.sqrt 192)⁻¹ : ℝ) : EReal)
  | "exp2_scale" => some (((Real.sqrt 192)⁻¹ * (Real.log 2)⁻¹ : ℝ) : EReal)
  | "mask" => some ⊥
  | _ => none
-- ==== ReferenceIdeal.lean ====
abbrev S16384x192 : Shape := ⟨2, ![16384, 192]⟩
abbrev S16384x128 : Shape := ⟨2, ![16384, 128]⟩
abbrev S128x16384 : Shape := ⟨2, ![128, 16384]⟩
abbrev S16384x16384 : Shape := ⟨2, ![16384, 16384]⟩
abbrev S16384x64 : Shape := ⟨2, ![16384, 64]⟩
abbrev S64x16384 : Shape := ⟨2, ![64, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩

abbrev nBuf : Space → Nat
  | .hbm => 127
  | .vmem => 0
  | .smem => 0
  | _ => 0

abbrev bufTy : (tb : Table) → Fin (tcTables nBuf tb) → BufTy
  | .hbm, ⟨0, _⟩ => ⟨S16384x192, .f32⟩
  | .hbm, ⟨1, _⟩ => ⟨S16384x192, .f32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S128x16384, .f32⟩
  | .hbm, ⟨7, _⟩ => ⟨S16384x16384, .f32⟩
  | .hbm, ⟨8, _⟩ => ⟨S16384x64, .f32⟩
  | .hbm, ⟨9, _⟩ => ⟨S16384x64, .f32⟩
  | .hbm, ⟨10, _⟩ => ⟨S64x16384, .f32⟩
  | .hbm, ⟨11, _⟩ => ⟨S16384x16384, .f32⟩
  | .hbm, ⟨12, _⟩ => ⟨S16384x16384, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384, .i32⟩
  | .hbm, ⟨19, _⟩ => ⟨S_, .i32⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S16384, .i32⟩
  | .hbm, ⟨28, _⟩ => ⟨S16384, .i32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S1x16384, .i32⟩
  | .hbm, ⟨38, _⟩ => ⟨S16384x1, .i32⟩
  | .hbm, ⟨39, _⟩ => ⟨S16384x16384, .i32⟩
  | .hbm, ⟨40, _⟩ => ⟨S16384x16384, .i32⟩
  | .hbm, ⟨41, _⟩ => ⟨S16384x16384, .i1⟩
  | .hbm, ⟨42, _⟩ => ⟨S_, .f32⟩
  | .hbm, ⟨43, _⟩ => ⟨S_, .f32⟩
  | .hbm, ⟨44, _⟩ => ⟨S16384x16384, .f32⟩
  | .hbm, ⟨45, _⟩ => ⟨S16384x16384, .f32⟩
  | .hbm, ⟨46, _⟩ => ⟨S_, .f32⟩
  | .hbm, ⟨47, _⟩ => ⟨S16384x16384, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S16384x16384, .f32⟩
  | .hbm, ⟨52, _⟩ => ⟨S16384x16384, .i1⟩
  | .hbm, ⟨53, _⟩ => ⟨S16384x16384, .f32⟩
  | .hbm, ⟨54, _⟩ => ⟨S_, .f32⟩
  | .hbm, ⟨55, _⟩ => ⟨S16384, .f32⟩
  | .hbm, ⟨56, _⟩ => ⟨S_, .f32⟩
  | .hbm, ⟨57, _⟩ => ⟨S16384, .f32⟩
  | .hbm, ⟨58, _⟩ => ⟨S16384, .f32⟩
  | .hbm, ⟨59, _⟩ => ⟨S_, .f32⟩
  | .hbm, ⟨60, _⟩ => ⟨S16384, .f32⟩
  | .hbm, ⟨61, _⟩ => ⟨S16384, .i1⟩
  | .hbm, ⟨62, _⟩ => ⟨S_, .f32⟩
  | .hbm, ⟨63, _⟩ => ⟨S16384, .f32⟩
  | .hbm, ⟨64, _⟩ => ⟨S16384, .i1⟩
  | .hbm, ⟨65, _⟩ => ⟨S_, .f32⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S_, .f32⟩
  | .hbm, ⟨70, _⟩ => ⟨S16384, .f32⟩
  | .hbm, ⟨71, _⟩ => ⟨S16384, .f32⟩
  | .hbm, ⟨72, _⟩ => ⟨S16384, .f32⟩
  | .hbm, ⟨73, _⟩ => ⟨S16384x1, .f32⟩
  | .hbm, ⟨74, _⟩ => ⟨S16384x16384, .f32⟩
  | .hbm, ⟨75, _⟩ => ⟨S16384x16384, .f32⟩
  | .hbm, ⟨76, _⟩ => ⟨S16384x16384, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S16384x16384, .f32⟩
  | .hbm, ⟨81, _⟩ => ⟨S16384x16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x128, .f32⟩
  | .hbm, ⟨87, _⟩ => ⟨S128x16384, .f32⟩
  | .hbm, ⟨88, _⟩ => ⟨S16384x128, .f32⟩
  | .hbm, ⟨89, _⟩ => ⟨S16384x16384, .f32⟩
  | .hbm, ⟨90, _⟩ => ⟨S16384x16384, .f32⟩
  | .hbm, ⟨91, _⟩ => ⟨S16384x16384, .f32⟩
  | .hbm, ⟨92, _⟩ => ⟨S16384x16384, .f32⟩
  | .hbm, ⟨93, _⟩ => ⟨S_, .f32⟩
  | .hbm, ⟨94, _⟩ => ⟨S16384, .f32⟩
  | .hbm, ⟨95, _⟩ => ⟨S16384x1, .f32⟩
  | .hbm, ⟨96, _⟩ => ⟨S16384x1, .f32⟩
  | .hbm, ⟨97, _⟩ => ⟨S16384x16384, .f32⟩
  | .hbm, ⟨98, _⟩ => ⟨S16384x16384, .f32⟩
  | .hbm, ⟨99, _⟩ => ⟨S_, .f32⟩
  | .hbm, ⟨100, _⟩ => ⟨S16384, .f32⟩
  | .hbm, ⟨101, _⟩ => ⟨S16384x16384, .f32⟩
  | .hbm, ⟨102, _⟩ => ⟨S16384x16384, .f32⟩
  | .hbm, ⟨103, _⟩ => ⟨S16384x16384, .f32⟩
  | .hbm, ⟨104, _⟩ => ⟨S_, .f32⟩
  | .hbm, ⟨105, _⟩ => ⟨S16384x16384, .f32⟩
  | .hbm, ⟨106, _⟩ => ⟨S16384x16384, .f32⟩
  | .hbm, ⟨107, _⟩ => ⟨S16384x16384, .f32⟩
  | .hbm, ⟨108, _⟩ => ⟨S16384x16384, .f32⟩
  | .hbm, ⟨109, _⟩ => ⟨S16384x64, .f32⟩
  | .hbm, ⟨110, _⟩ => ⟨S64x16384, .f32⟩
  | .hbm, ⟨111, _⟩ => ⟨S16384x64, .f32⟩
  | .hbm, ⟨112, _⟩ => ⟨S16384x64, .f32⟩
  | .hbm, ⟨113, _⟩ => ⟨S_, .f32⟩
  | .hbm, ⟨114, _⟩ => ⟨S16384x192, .f32⟩
  | .hbm, ⟨115, _⟩ => ⟨S_, .f32⟩
  | .hbm, ⟨116, _⟩ => ⟨S16384x192, .f32⟩
  | .hbm, ⟨117, _⟩ => ⟨S16384x128, .f32⟩
  | .hbm, ⟨118, _⟩ => ⟨S128x16384, .f32⟩
  | .hbm, ⟨119, _⟩ => ⟨S16384x128, .f32⟩
  | .hbm, ⟨120, _⟩ => ⟨S16384x128, .f32⟩
  | .hbm, ⟨121, _⟩ => ⟨S_, .f32⟩
  | .hbm, ⟨122, _⟩ => ⟨S16384x192, .f32⟩
  | .hbm, ⟨123, _⟩ => ⟨S16384x192, .f32⟩
  | .hbm, ⟨124, _⟩ => ⟨S_, .f32⟩
  | .hbm, ⟨125, _⟩ => ⟨S16384x192, .f32⟩
  | .hbm, ⟨126, _⟩ => ⟨S16384x192, .f32⟩
  | _, _ => ⟨S16384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_v20_0 : Ref sig .tc := ⟨.hbm, 45, rfl⟩
abbrev main_call1_cst : Ref sig .tc := ⟨.hbm, 46, rfl⟩
abbrev main_v20_1 : Ref sig .tc := ⟨.hbm, 47, rfl⟩
abbrev main_cst_1 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_2 : Ref sig .tc := ⟨.hbm, 54, rfl⟩
abbrev main_v26 : Ref sig .tc := ⟨.hbm, 55, rfl⟩
abbrev main_cst_3 : Ref sig .tc := ⟨.hbm, 56, rfl⟩
abbrev main_v27 : Ref sig .tc := ⟨.hbm, 57, rfl⟩
abbrev main_v28 : Ref sig .tc := ⟨.hbm, 58, rfl⟩
abbrev main_cst_4 : Ref sig .tc := ⟨.hbm, 59, rfl⟩
abbrev main_v29 : Ref sig .tc := ⟨.hbm, 60, rfl⟩
abbrev main_v30 : Ref sig .tc := ⟨.hbm, 61, rfl⟩
abbrev main_cst_5 : Ref sig .tc := ⟨.hbm, 62, rfl⟩
abbrev main_v31 : Ref sig .tc := ⟨.hbm, 63, rfl⟩
abbrev main_v32 : Ref sig .tc := ⟨.hbm, 64, rfl⟩
abbrev main_cst_6 : Ref sig .tc := ⟨.hbm, 65, rfl⟩
abbrev main_v33 : Ref sig .tc := ⟨.hbm, 66, rfl⟩
abbrev main_cst_7 : Ref sig .tc := ⟨.hbm, 67, rfl⟩
abbrev main_v34 : Ref sig .tc := ⟨.hbm, 68, rfl⟩
abbrev main_cst_8 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_9 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_10 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_11 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_12 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_call2_cst : Ref sig .tc := ⟨.hbm, 104, rfl⟩
abbrev main_call2_v0 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_13 : Ref sig .tc := ⟨.hbm, 113, rfl⟩
abbrev main_v72 : Ref sig .tc := ⟨.hbm, 114, rfl⟩
abbrev main_cst_14 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_15 : Ref sig .tc := ⟨.hbm, 121, rfl⟩
abbrev main_v78 : Ref sig .tc := ⟨.hbm, 122, rfl⟩
abbrev main_v79 : Ref sig .tc := ⟨.hbm, 123, rfl⟩
abbrev main_cst_16 : Ref sig .tc := ⟨.hbm, 124, rfl⟩
abbrev main_v80 : Ref sig .tc := ⟨.hbm, 125, rfl⟩
abbrev main_v81 : Ref sig .tc := ⟨.hbm, 126, rfl⟩

abbrev nD : Nat := 1
abbrev τ : Topo := Topo.v7x

variable {F : FTy → Type} [FloatOps F]
-- ==== Kernel2.lean ====
abbrev S16384x192 : Shape := ⟨2, ![16384, 192]⟩
abbrev S16384x128 : Shape := ⟨2, ![16384, 128]⟩
abbrev S_ : Shape := ⟨0, ![]⟩
abbrev S16384x256 : Shape := ⟨2, ![16384, 256]⟩
abbrev S16384x1 : Shape := ⟨2, ![16384, 1]⟩
abbrev S1024x192 : Shape := ⟨2, ![1024, 192]⟩
abbrev S1024x128 : Shape := ⟨2, ![1024, 128]⟩
abbrev S1024x1 : Shape := ⟨2, ![1024, 1]⟩
abbrev S2x1024x1024 : Shape := ⟨3, ![2, 1024, 1024]⟩
abbrev S2x1024x1 : Shape := ⟨3, ![2, 1024, 1]⟩
abbrev S1024x256 : Shape := ⟨2, ![1024, 256]⟩
abbrev S1024x1024 : Shape := ⟨2, ![1024, 1024]⟩
abbrev S1x1024x1024 : Shape := ⟨3, ![1, 1024, 1024]⟩
abbrev S1x1024x1 : Shape := ⟨3, ![1, 1024, 1]⟩
abbrev S1024 : Shape := ⟨1, ![1024]⟩

abbrev nBuf : Space → Nat
  | .hbm => 11
  | .vmem => 13
  | .smem => 0
  | _ => 0

abbrev bufTy : (tb : Table) → Fin (tcTables nBuf tb) → BufTy
  | .hbm, ⟨0, _⟩ => ⟨S16384x192, .f32⟩
  | .hbm, ⟨1, _⟩ => ⟨S16384x192, .f32⟩
  | .hbm, ⟨2, _⟩ => ⟨S16384x128, .f32⟩
  | .hbm, ⟨3, _⟩ => ⟨S_, .f32⟩
  | .hbm, ⟨4, _⟩ => ⟨S16384x128, .f32⟩
  | .hbm, ⟨5, _⟩ => ⟨S16384x256, .f32⟩
  | .hbm, ⟨6, _⟩ => ⟨S16384x192, .bf16⟩
  | .hbm, ⟨7, _⟩ => ⟨S16384x192, .bf16⟩
  | .hbm, ⟨8, _⟩ => ⟨S16384x256, .bf16⟩
  | .hbm, ⟨9, _⟩ => ⟨S16384x128, .bf16⟩
  | .hbm, ⟨10, _⟩ => ⟨S16384x1, .f32⟩
  | .local _ .vmem, ⟨0, _⟩ => ⟨S1024x192, .bf16⟩
  | .local _ .vmem, ⟨1, _⟩ => ⟨S1024x192, .bf16⟩
  | .local _ .vmem, ⟨2, _⟩ => ⟨S16384x192, .bf16⟩
  | .local _ .vmem, ⟨3, _⟩ => ⟨S16384x256, .bf16⟩
  | .local _ .vmem, ⟨4, _⟩ => ⟨S1024x128, .bf16⟩
  | .local _ .vmem, ⟨5, _⟩ => ⟨S1024x128, .bf16⟩
  | .local _ .vmem, ⟨6, _⟩ => ⟨S1024x1, .f32⟩
  | .local _ .vmem, ⟨7, _⟩ => ⟨S1024x1, .f32⟩
  | .local _ .vmem, ⟨8, _⟩ => ⟨S2x1024x1024, .f32⟩
  | .local _ .vmem, ⟨9, _⟩ => ⟨S2x1024x1024, .bf16⟩
  | .local _ .vmem, ⟨10, _⟩ => ⟨S2x1024x1, .f32⟩
  | .local _ .vmem, ⟨11, _⟩ => ⟨S1024x1, .f32⟩
  | .local _ .vmem, ⟨12, _⟩ => ⟨S1024x256, .f32⟩
  | _, _ => ⟨S16384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def k0_mult1 : BitVec 32 :=
  let c15_i32 : BitVec 32 := 15#32
  let c0_i32_25 : BitVec 32 := 0#32
  let c0_i32_24 : BitVec 32 := 0#32
  let v69 : BitVec 32 := Scalar.maxsi c0_i32_25 c0_i32_24
  let v70 : BitVec 32 := Scalar.minsi c15_i32 v69
  let c1024_i32 : BitVec 32 := 1024#32
  let v71 : BitVec 32 := Scalar.muli v70 c1024_i32
  v71
def k0_off1 : Fin 2 → Nat :=
  let c15_i32 : BitVec 32 := 15#32
  let c0_i32_25 : BitVec 32 := 0#32
  let c0_i32_24 : BitVec 32 := 0#32
  let v69 : BitVec 32 := Scalar.maxsi c0_i32_25 c0_i32_24
  let v70 : BitVec 32 := Scalar.minsi c15_i32 v69
  let c1024_i32 : BitVec 32 := 1024#32
  let v71 : BitVec 32 := Scalar.muli v70 c1024_i32
  let v72 : BitVec 32 := v71
  let v73 : Index := Scalar.indexCast v72
  let c0_26 : Index := 0#32
  ![v73.toNat, 0]
@[reducible] def k0_t1_loop (i : grid0.Coords) : Scf.Loop 32 :=
  let c0_i32_41 : BitVec 32 := 0#32
  let arg0 : BitVec 32 := BitVec.ofNat 32 (i 0).val
  let c2_i32 : BitVec 32 := 2#32
  let v86 : BitVec 32 := Scalar.addi arg0 c2_i32
  let c0_i32_34 : BitVec 32 := 0#32
  let v88 : BitVec 1 := Scalar.cmpi .sgt v86 c0_i32_34
  let v89 : BitVec 32 := Scalar.extui v88
  let c0_i32_35 : BitVec 32 := 0#32
  let v90 : BitVec 1 := Scalar.cmpi .slt v86 c0_i32_35
  let v91 : BitVec 32 := Scalar.extui v90
  let v92 : BitVec 32 := Scalar.subi v89 v91
  let c2_i32_33 : BitVec 32 := 2#32
  let c0_i32_36 : BitVec 32 := 0#32
  let v93 : BitVec 1 := Scalar.cmpi .sgt c2_i32_33 c0_i32_36
  let v94 : BitVec 32 := Scalar.extui v93
  let c0_i32_37 : BitVec 32 := 0#32
  let v95 : BitVec 1 := Scalar.cmpi .slt c2_i32_33 c0_i32_37
  let v96 : BitVec 32 := Scalar.extui v95
  let v97 : BitVec 32 := Scalar.subi v94 v96
  let v98 : BitVec 1 := Scalar.cmpi .ne v92 v97
  let v99 : BitVec 32 := Scalar.remsi v86 c2_i32_33
  let c0_i32_38 : BitVec 32 := 0#32
  let v100 : BitVec 1 := Scalar.cmpi .ne v99 c0_i32_38
  let v101 : BitVec 1 := Scalar.andi v98 v100
  let v87 : BitVec 32 := Scalar.divsi v86 c2_i32_33
  let c1_i32_39 : BitVec 32 := 1#32
  let v102 : BitVec 32 := Scalar.subi v87 c1_i32_39
  let v103 : BitVec 32 := Scalar.select v101 v102 v87
  let v104 : BitVec 32 := Scalar.subi v103 c0_i32_41
  let c1_i32_42 : BitVec 32 := 1#32
  let v106 : BitVec 32 := Scalar.divsi v104 c1_i32_42
  let v107 : BitVec 32 := Scalar.muli v106 c1_i32_42
  let v108 : BitVec 32 := Scalar.addi c0_i32_41 v107
  let c1_i32_43 : BitVec 32 := 1#32
  ⟨c0_i32_41, v108, c1_i32_43⟩
def k0_mult2 (i : grid0.Coords) (k0_t1 : Fin (k0_t1_loop i).trips) : BitVec 32 :=
  let c15_i32_76 : BitVec 32 := 15#32
  let c0_i32_75 : BitVec 32 := 0#32
  let c2_i32_71 : BitVec 32 := 2#32
  let c0_i32_41 : BitVec 32 := 0#32
  let c1_i32_43 : BitVec 32 := 1#32
  let arg11 : BitVec 32 := Scf.iv c0_i32_41 c1_i32_43 k0_t1
  let v143 : BitVec 32 := Scalar.muli c2_i32_71 arg11
  let c1_i32_72 : BitVec 32 := 1#32
  let v144 : BitVec 32 := Scalar.addi v143 c1_i32_72
  let v147 : BitVec 32 := Scalar.maxsi c0_i32_75 v144
  let v148 : BitVec 32 := Scalar.minsi c15_i32_76 v147
  let c1024_i32_77 : BitVec 32 := 1024#32
  let v149 : BitVec 32 := Scalar.muli v148 c1024_i32_77
  v149
def k0_off2 (i : grid0.Coords) (k0_t1 : Fin (k0_t1_loop i).trips) (c1_i32_72 : BitVec 32) : Fin 2 → Nat :=
  let c15_i32_76 : BitVec 32 := 15#32
  let c0_i32_75 : BitVec 32 := 0#32
  let c2_i32_71 : BitVec 32 := 2#32
  let c0_i32_41 : BitVec 32 := 0#32
  let c1_i32_43 : BitVec 32 := 1#32
  let arg11 : BitVec 32 := Scf.iv c0_i32_41 c1_i32_43 k0_t1
  let v143 : BitVec 32 := Scalar.muli c2_i32_71 arg11
  let v144 : BitVec 32 := Scalar.addi v143 c1_i32_72
  let v147 : BitVec 32 := Scalar.maxsi c0_i32_75 v144
  let v148 : BitVec 32 := Scalar.minsi c15_i32_76 v147
  let c1024_i32_77 : BitVec 32 := 1024#32
  let v149 : BitVec 32 := Scalar.muli v148 c1024_i32_77
  let v150 : BitVec 32 := v149
  let v151 : Index := Scalar.indexCast v150
  let c0_78 : Index := 0#32
  ![v151.toNat, 0]
def k0_mult3 (i : grid0.Coords) (k0_t1 : Fin (k0_t1_loop i).trips) : BitVec 32 :=
  let c15_i32_111 : BitVec 32 := 15#32
  let c0_i32_110 : BitVec 32 := 0#32
  let c2_i32_71 : BitVec 32 := 2#32
  let c0_i32_41 : BitVec 32 := 0#32
  let c1_i32_43 : BitVec 32 := 1#32
  let arg11 : BitVec 32 := Scf.iv c0_i32_41 c1_i32_43 k0_t1
  let v143 : BitVec 32 := Scalar.muli c2_i32_71 arg11
  let c1_i32_101 : BitVec 32 := 1#32
  let v189 : BitVec 32 := Scalar.subi v143 c1_i32_101
  let v197 : BitVec 32 := Scalar.maxsi c0_i32_110 v189
  let v198 : BitVec 32 := Scalar.minsi c15_i32_111 v197
  let c1024_i32_112 : BitVec 32 := 1024#32
  let v199 : BitVec 32 := Scalar.muli v198 c1024_i32_112
  v199
def k0_off3 (i : grid0.Coords) (k0_t1 : Fin (k0_t1_loop i).trips) : Fin 2 → Nat :=
  let c15_i32_111 : BitVec 32 := 15#32
  let c0_i32_110 : BitVec 32 := 0#32
  let c2_i32_71 : BitVec 32 := 2#32
  let c0_i32_41 : BitVec 32 := 0#32
  let c1_i32_43 : BitVec 32 := 1#32
  let arg11 : BitVec 32 := Scf.iv c0_i32_41 c1_i32_43 k0_t1
  let v143 : BitVec 32 := Scalar.muli c2_i32_71 arg11
  let c1_i32_101 : BitVec 32 := 1#32
  let v189 : BitVec 32 := Scalar.subi v143 c1_i32_101
  let v197 : BitVec 32 := Scalar.maxsi c0_i32_110 v189
  let v198 : BitVec 32 := Scalar.minsi c15_i32_111 v197
  let c1024_i32_112 : BitVec 32 := 1024#32
  let v199 : BitVec 32 := Scalar.muli v198 c1024_i32_112
  let v200 : BitVec 32 := v199
  let v201 : Index := Scalar.indexCast v200
  let c0_113 : Index := 0#32
  ![v201.toNat, 0]
def k0_mult4 (i : grid0.Coords) (k0_t1 : Fin (k0_t1_loop i).trips) : BitVec 32 :=
  let c15_i32_121 : BitVec 32 := 15#32
  let c0_i32_120 : BitVec 32 := 0#32
  let c2_i32_71 : BitVec 32 := 2#32
  let c0_i32_41 : BitVec 32 := 0#32
  let c1_i32_43 : BitVec 32 := 1#32
  let arg11 : BitVec 32 := Scf.iv c0_i32_41 c1_i32_43 k0_t1
  let v143 : BitVec 32 := Scalar.muli c2_i32_71 arg11
  let c2_i32_117 : BitVec 32 := 2#32
  let v209 : BitVec 32 := Scalar.addi v143 c2_i32_117
  let v212 : BitVec 32 := Scalar.maxsi c0_i32_120 v209
  let v213 : BitVec 32 := Scalar.minsi c15_i32_121 v212
  let c1024_i32_122 : BitVec 32 := 1024#32
  let v214 : BitVec 32 := Scalar.muli v213 c1024_i32_122
  v214
def k0_mult5 (i : grid0.Coords) (k0_t1 : Fin (k0_t1_loop i).trips) : BitVec 32 :=
  let c15_i32_155 : BitVec 32 := 15#32
  let c0_i32_154 : BitVec 32 := 0#32
  let c2_i32_71 : BitVec 32 := 2#32
  let c0_i32_41 : BitVec 32 := 0#32
  let c1_i32_43 : BitVec 32 := 1#32
  let arg11 : BitVec 32 := Scf.iv c0_i32_41 c1_i32_43 k0_t1
  let v143 : BitVec 32 := Scalar.muli c2_i32_71 arg11
  let v261 : BitVec 32 := Scalar.maxsi c0_i32_154 v143
  let v262 : BitVec 32 := Scalar.minsi c15_i32_155 v261
  let c1024_i32_156 : BitVec 32 := 1024#32
  let v263 : BitVec 32 := Scalar.muli v262 c1024_i32_156
  v263
def k0_off4 (i : grid0.Coords) (k0_t1 : Fin (k0_t1_loop i).trips) : Fin 2 → Nat :=
  let c15_i32_155 : BitVec 32 := 15#32
  let c0_i32_154 : BitVec 32 := 0#32
  let c2_i32_71 : BitVec 32 := 2#32
  let c0_i32_41 : BitVec 32 := 0#32
  let c1_i32_43 : BitVec 32 := 1#32
  let arg11 : BitVec 32 := Scf.iv c0_i32_41 c1_i32_43 k0_t1
  let v143 : BitVec 32 := Scalar.muli c2_i32_71 arg11
  let v261 : BitVec 32 := Scalar.maxsi c0_i32_154 v143
  let v262 : BitVec 32 := Scalar.minsi c15_i32_155 v261
  let c1024_i32_156 : BitVec 32 := 1024#32
  let v263 : BitVec 32 := Scalar.muli v262 c1024_i32_156
  let v264 : BitVec 32 := v263
  let v265 : Index := Scalar.indexCast v264
  let c0_157 : Index := 0#32
  ![v265.toNat, 0]
@[reducible] def k0_t2_loop (i : grid0.Coords) : Scf.Loop 32 :=
  let c0_i32_41 : BitVec 32 := 0#32
  let arg0 : BitVec 32 := BitVec.ofNat 32 (i 0).val
  let c2_i32 : BitVec 32 := 2#32
  let v86 : BitVec 32 := Scalar.addi arg0 c2_i32
  let c0_i32_34 : BitVec 32 := 0#32
  let v88 : BitVec 1 := Scalar.cmpi .sgt v86 c0_i32_34
  let v89 : BitVec 32 := Scalar.extui v88
  let c0_i32_35 : BitVec 32 := 0#32
  let v90 : BitVec 1 := Scalar.cmpi .slt v86 c0_i32_35
  let v91 : BitVec 32 := Scalar.extui v90
  let v92 : BitVec 32 := Scalar.subi v89 v91
  let c2_i32_33 : BitVec 32 := 2#32
  let c0_i32_36 : BitVec 32 := 0#32
  let v93 : BitVec 1 := Scalar.cmpi .sgt c2_i32_33 c0_i32_36
  let v94 : BitVec 32 := Scalar.extui v93
  let c0_i32_37 : BitVec 32 := 0#32
  let v95 : BitVec 1 := Scalar.cmpi .slt c2_i32_33 c0_i32_37
  let v96 : BitVec 32 := Scalar.extui v95
  let v97 : BitVec 32 := Scalar.subi v94 v96
  let v98 : BitVec 1 := Scalar.cmpi .ne v92 v97
  let v99 : BitVec 32 := Scalar.remsi v86 c2_i32_33
  let c0_i32_38 : BitVec 32 := 0#32
  let v100 : BitVec 1 := Scalar.cmpi .ne v99 c0_i32_38
  let v101 : BitVec 1 := Scalar.andi v98 v100
  let v87 : BitVec 32 := Scalar.divsi v86 c2_i32_33
  let c1_i32_39 : BitVec 32 := 1#32
  let v102 : BitVec 32 := Scalar.subi v87 c1_i32_39
  let v103 : BitVec 32 := Scalar.select v101 v102 v87
  let v104 : BitVec 32 := Scalar.subi v103 c0_i32_41
  let c1_i32_42 : BitVec 32 := 1#32
  let v106 : BitVec 32 := Scalar.divsi v104 c1_i32_42
  let v107 : BitVec 32 := Scalar.muli v106 c1_i32_42
  let v108 : BitVec 32 := Scalar.addi c0_i32_41 v107
  let v105 : BitVec 32 := Scalar.addi c0_i32_41 v104
  let c1_i32_44 : BitVec 32 := 1#32
  ⟨v108, v105, c1_i32_44⟩
def k0_mult6 (i : grid0.Coords) (k0_t2 : Fin (k0_t2_loop i).trips) : BitVec 32 :=
  let c15_i32_76 : BitVec 32 := 15#32
  let c0_i32_75 : BitVec 32 := 0#32
  let c2_i32_71 : BitVec 32 := 2#32
  let c0_i32_41 : BitVec 32 := 0#32
  let arg0 : BitVec 32 := BitVec.ofNat 32 (i 0).val
  let c2_i32 : BitVec 32 := 2#32
  let v86 : BitVec 32 := Scalar.addi arg0 c2_i32
  let c0_i32_34 : BitVec 32 := 0#32
  let v88 : BitVec 1 := Scalar.cmpi .sgt v86 c0_i32_34
  let v89 : BitVec 32 := Scalar.extui v88
  let c0_i32_35 : BitVec 32 := 0#32
  let v90 : BitVec 1 := Scalar.cmpi .slt v86 c0_i32_35
  let v91 : BitVec 32 := Scalar.extui v90
  let v92 : BitVec 32 := Scalar.subi v89 v91
  let c2_i32_33 : BitVec 32 := 2#32
  let c0_i32_36 : BitVec 32 := 0#32
  let v93 : BitVec 1 := Scalar.cmpi .sgt c2_i32_33 c0_i32_36
  let v94 : BitVec 32 := Scalar.extui v93
  let c0_i32_37 : BitVec 32 := 0#32
  let v95 : BitVec 1 := Scalar.cmpi .slt c2_i32_33 c0_i32_37
  let v96 : BitVec 32 := Scalar.extui v95
  let v97 : BitVec 32 := Scalar.subi v94 v96
  let v98 : BitVec 1 := Scalar.cmpi .ne v92 v97
  let v99 : BitVec 32 := Scalar.remsi v86 c2_i32_33
  let c0_i32_38 : BitVec 32 := 0#32
  let v100 : BitVec 1 := Scalar.cmpi .ne v99 c0_i32_38
  let v101 : BitVec 1 := Scalar.andi v98 v100
  let v87 : BitVec 32 := Scalar.divsi v86 c2_i32_33
  let c1_i32_39 : BitVec 32 := 1#32
  let v102 : BitVec 32 := Scalar.subi v87 c1_i32_39
  let v103 : BitVec 32 := Scalar.select v101 v102 v87
  let v104 : BitVec 32 := Scalar.subi v103 c0_i32_41
  let c1_i32_42 : BitVec 32 := 1#32
  let v106 : BitVec 32 := Scalar.divsi v104 c1_i32_42
  let v107 : BitVec 32 := Scalar.muli v106 c1_i32_42
  let v108 : BitVec 32 := Scalar.addi c0_i32_41 v107
  let c1_i32_44 : BitVec 32 := 1#32
  let arg11 : BitVec 32 := Scf.iv v108 c1_i32_44 k0_t2
  let v143 : BitVec 32 := Scalar.muli c2_i32_71 arg11
  let c1_i32_72 : BitVec 32 := 1#32
  let v144 : BitVec 32 := Scalar.addi v143 c1_i32_72
  let v147 : BitVec 32 := Scalar.maxsi c0_i32_75 v144
  let v148 : BitVec 32 := Scalar.minsi c15_i32_76 v147
  let c1024_i32_77 : BitVec 32 := 1024#32
  let v149 : BitVec 32 := Scalar.muli v148 c1024_i32_77
  v149
def k0_off5 (i : grid0.Coords) (k0_t2 : Fin (k0_t2_loop i).trips) (c1_i32_72 : BitVec 32) : Fin 2 → Nat :=
  let c15_i32_76 : BitVec 32 := 15#32
  let c0_i32_75 : BitVec 32 := 0#32
  let c2_i32_71 : BitVec 32 := 2#32
  let c0_i32_41 : BitVec 32 := 0#32
  let arg0 : BitVec 32 := BitVec.ofNat 32 (i 0).val
  let c2_i32 : BitVec 32 := 2#32
  let v86 : BitVec 32 := Scalar.addi arg0 c2_i32
  let c0_i32_34 : BitVec 32 := 0#32
  let v88 : BitVec 1 := Scalar.cmpi .sgt v86 c0_i32_34
  let v89 : BitVec 32 := Scalar.extui v88
  let c0_i32_35 : BitVec 32 := 0#32
  let v90 : BitVec 1 := Scalar.cmpi .slt v86 c0_i32_35
  let v91 : BitVec 32 := Scalar.extui v90
  let v92 : BitVec 32 := Scalar.subi v89 v91
  let c2_i32_33 : BitVec 32 := 2#32
  let c0_i32_36 : BitVec 32 := 0#32
  let v93 : BitVec 1 := Scalar.cmpi .sgt c2_i32_33 c0_i32_36
  let v94 : BitVec 32 := Scalar.extui v93
  let c0_i32_37 : BitVec 32 := 0#32
  let v95 : BitVec 1 := Scalar.cmpi .slt c2_i32_33 c0_i32_37
  let v96 : BitVec 32 := Scalar.extui v95
  let v97 : BitVec 32 := Scalar.subi v94 v96
  let v98 : BitVec 1 := Scalar.cmpi .ne v92 v97
  let v99 : BitVec 32 := Scalar.remsi v86 c2_i32_33
  let c0_i32_38 : BitVec 32 := 0#32
  let v100 : BitVec 1 := Scalar.cmpi .ne v99 c0_i32_38
  let v101 : BitVec 1 := Scalar.andi v98 v100
  let v87 : BitVec 32 := Scalar.divsi v86 c2_i32_33
  let c1_i32_39 : BitVec 32 := 1#32
  let v102 : BitVec 32 := Scalar.subi v87 c1_i32_39
  let v103 : BitVec 32 := Scalar.select v101 v102 v87
  let v104 : BitVec 32 := Scalar.subi v103 c0_i32_41
  let c1_i32_42 : BitVec 32 := 1#32
  let v106 : BitVec 32 := Scalar.divsi v104 c1_i32_42
  let v107 : BitVec 32 := Scalar.muli v106 c1_i32_42
  let v108 : BitVec 32 := Scalar.addi c0_i32_41 v107
  let c1_i32_44 : BitVec 32 := 1#32
  let arg11 : BitVec 32 := Scf.iv v108 c1_i32_44 k0_t2
  let v143 : BitVec 32 := Scalar.muli c2_i32_71 arg11
  let v144 : BitVec 32 := Scalar.addi v143 c1_i32_72
  let v147 : BitVec 32 := Scalar.maxsi c0_i32_75 v144
  let v148 : BitVec 32 := Scalar.minsi c15_i32_76 v147
  let c1024_i32_77 : BitVec 32 := 1024#32
  let v149 : BitVec 32 := Scalar.muli v148 c1024_i32_77
  let v150 : BitVec 32 := v149
  let v151 : Index := Scalar.indexCast v150
  let c0_78 : Index := 0#32
  ![v151.toNat, 0]
def k0_mult7 (i : grid0.Coords) (k0_t2 : Fin (k0_t2_loop i).trips) : BitVec 32 :=
  let c15_i32_111 : BitVec 32 := 15#32
  let c0_i32_110 : BitVec 32 := 0#32
  let c2_i32_71 : BitVec 32 := 2#32
  let c0_i32_41 : BitVec 32 := 0#32
  let arg0 : BitVec 32 := BitVec.ofNat 32 (i 0).val
  let c2_i32 : BitVec 32 := 2#32
  let v86 : BitVec 32 := Scalar.addi arg0 c2_i32
  let c0_i32_34 : BitVec 32 := 0#32
  let v88 : BitVec 1 := Scalar.cmpi .sgt v86 c0_i32_34
  let v89 : BitVec 32 := Scalar.extui v88
  let c0_i32_35 : BitVec 32 := 0#32
  let v90 : BitVec 1 := Scalar.cmpi .slt v86 c0_i32_35
  let v91 : BitVec 32 := Scalar.extui v90
  let v92 : BitVec 32 := Scalar.subi v89 v91
  let c2_i32_33 : BitVec 32 := 2#32
  let c0_i32_36 : BitVec 32 := 0#32
  let v93 : BitVec 1 := Scalar.cmpi .sgt c2_i32_33 c0_i32_36
  let v94 : BitVec 32 := Scalar.extui v93
  let c0_i32_37 : BitVec 32 := 0#32
  let v95 : BitVec 1 := Scalar.cmpi .slt c2_i32_33 c0_i32_37
  let v96 : BitVec 32 := Scalar.extui v95
  let v97 : BitVec 32 := Scalar.subi v94 v96
  let v98 : BitVec 1 := Scalar.cmpi .ne v92 v97
  let v99 : BitVec 32 := Scalar.remsi v86 c2_i32_33
  let c0_i32_38 : BitVec 32 := 0#32
  let v100 : BitVec 1 := Scalar.cmpi .ne v99 c0_i32_38
  let v101 : BitVec 1 := Scalar.andi v98 v100
  let v87 : BitVec 32 := Scalar.divsi v86 c2_i32_33
  let c1_i32_39 : BitVec 32 := 1#32
  let v102 : BitVec 32 := Scalar.subi v87 c1_i32_39
  let v103 : BitVec 32 := Scalar.select v101 v102 v87
  let v104 : BitVec 32 := Scalar.subi v103 c0_i32_41
  let c1_i32_42 : BitVec 32 := 1#32
  let v106 : BitVec 32 := Scalar.divsi v104 c1_i32_42
  let v107 : BitVec 32 := Scalar.muli v106 c1_i32_42
  let v108 : BitVec 32 := Scalar.addi c0_i32_41 v107
  let c1_i32_44 : BitVec 32 := 1#32
  let arg11 : BitVec 32 := Scf.iv v108 c1_i32_44 k0_t2
  let v143 : BitVec 32 := Scalar.muli c2_i32_71 arg11
  let c1_i32_101 : BitVec 32 := 1#32
  let v189 : BitVec 32 := Scalar.subi v143 c1_i32_101
  let v197 : BitVec 32 := Scalar.maxsi c0_i32_110 v189
  let v198 : BitVec 32 := Scalar.minsi c15_i32_111 v197
  let c1024_i32_112 : BitVec 32 := 1024#32
  let v199 : BitVec 32 := Scalar.muli v198 c1024_i32_112
  v199
def k0_off6 (i : grid0.Coords) (k0_t2 : Fin (k0_t2_loop i).trips) : Fin 2 → Nat :=
  let c15_i32_111 : BitVec 32 := 15#32
  let c0_i32_110 : BitVec 32 := 0#32
  let c2_i32_71 : BitVec 32 := 2#32
  let c0_i32_41 : BitVec 32 := 0#32
  let arg0 : BitVec 32 := BitVec.ofNat 32 (i 0).val
  let c2_i32 : BitVec 32 := 2#32
  let v86 : BitVec 32 := Scalar.addi arg0 c2_i32
  let c0_i32_34 : BitVec 32 := 0#32
  let v88 : BitVec 1 := Scalar.cmpi .sgt v86 c0_i32_34
  let v89 : BitVec 32 := Scalar.extui v88
  let c0_i32_35 : BitVec 32 := 0#32
  let v90 : BitVec 1 := Scalar.cmpi .slt v86 c0_i32_35
  let v91 : BitVec 32 := Scalar.extui v90
  let v92 : BitVec 32 := Scalar.subi v89 v91
  let c2_i32_33 : BitVec 32 := 2#32
  let c0_i32_36 : BitVec 32 := 0#32
  let v93 : BitVec 1 := Scalar.cmpi .sgt c2_i32_33 c0_i32_36
  let v94 : BitVec 32 := Scalar.extui v93
  let c0_i32_37 : BitVec 32 := 0#32
  let v95 : BitVec 1 := Scalar.cmpi .slt c2_i32_33 c0_i32_37
  let v96 : BitVec 32 := Scalar.extui v95
  let v97 : BitVec 32 := Scalar.subi v94 v96
  let v98 : BitVec 1 := Scalar.cmpi .ne v92 v97
  let v99 : BitVec 32 := Scalar.remsi v86 c2_i32_33
  let c0_i32_38 : BitVec 32 := 0#32
  let v100 : BitVec 1 := Scalar.cmpi .ne v99 c0_i32_38
  let v101 : BitVec 1 := Scalar.andi v98 v100
  let v87 : BitVec 32 := Scalar.divsi v86 c2_i32_33
  let c1_i32_39 : BitVec 32 := 1#32
  let v102 : BitVec 32 := Scalar.subi v87 c1_i32_39
  let v103 : BitVec 32 := Scalar.select v101 v102 v87
  let v104 : BitVec 32 := Scalar.subi v103 c0_i32_41
  let c1_i32_42 : BitVec 32 := 1#32
  let v106 : BitVec 32 := Scalar.divsi v104 c1_i32_42
  let v107 : BitVec 32 := Scalar.muli v106 c1_i32_42
  let v108 : BitVec 32 := Scalar.addi c0_i32_41 v107
  let c1_i32_44 : BitVec 32 := 1#32
  let arg11 : BitVec 32 := Scf.iv v108 c1_i32_44 k0_t2
  let v143 : BitVec 32 := Scalar.muli c2_i32_71 arg11
  let c1_i32_101 : BitVec 32 := 1#32
  let v189 : BitVec 32 := Scalar.subi v143 c1_i32_101
  let v197 : BitVec 32 := Scalar.maxsi c0_i32_110 v189
  let v198 : BitVec 32 := Scalar.minsi c15_i32_111 v197
  let c1024_i32_112 : BitVec 32 := 1024#32
  let v199 : BitVec 32 := Scalar.muli v198 c1024_i32_112
  let v200 : BitVec 32 := v199
  let v201 : Index := Scalar.indexCast v200
  let c0_113 : Index := 0#32
  ![v201.toNat, 0]
def k0_mult8 (i : grid0.Coords) (k0_t2 : Fin (k0_t2_loop i).trips) : BitVec 32 :=
  let c15_i32_121 : BitVec 32 := 15#32
  let c0_i32_120 : BitVec 32 := 0#32
  let c2_i32_71 : BitVec 32 := 2#32
  let c0_i32_41 : BitVec 32 := 0#32
  let arg0 : BitVec 32 := BitVec.ofNat 32 (i 0).val
  let c2_i32 : BitVec 32 := 2#32
  let v86 : BitVec 32 := Scalar.addi arg0 c2_i32
  let c0_i32_34 : BitVec 32 := 0#32
  let v88 : BitVec 1 := Scalar.cmpi .sgt v86 c0_i32_34
  let v89 : BitVec 32 := Scalar.extui v88
  let c0_i32_35 : BitVec 32 := 0#32
  let v90 : BitVec 1 := Scalar.cmpi .slt v86 c0_i32_35
  let v91 : BitVec 32 := Scalar.extui v90
  let v92 : BitVec 32 := Scalar.subi v89 v91
  let c2_i32_33 : BitVec 32 := 2#32
  let c0_i32_36 : BitVec 32 := 0#32
  let v93 : BitVec 1 := Scalar.cmpi .sgt c2_i32_33 c0_i32_36
  let v94 : BitVec 32 := Scalar.extui v93
  let c0_i32_37 : BitVec 32 := 0#32
  let v95 : BitVec 1 := Scalar.cmpi .slt c2_i32_33 c0_i32_37
  let v96 : BitVec 32 := Scalar.extui v95
  let v97 : BitVec 32 := Scalar.subi v94 v96
  let v98 : BitVec 1 := Scalar.cmpi .ne v92 v97
  let v99 : BitVec 32 := Scalar.remsi v86 c2_i32_33
  let c0_i32_38 : BitVec 32 := 0#32
  let v100 : BitVec 1 := Scalar.cmpi .ne v99 c0_i32_38
  let v101 : BitVec 1 := Scalar.andi v98 v100
  let v87 : BitVec 32 := Scalar.divsi v86 c2_i32_33
  let c1_i32_39 : BitVec 32 := 1#32
  let v102 : BitVec 32 := Scalar.subi v87 c1_i32_39
  let v103 : BitVec 32 := Scalar.select v101 v102 v87
  let v104 : BitVec 32 := Scalar.subi v103 c0_i32_41
  let c1_i32_42 : BitVec 32 := 1#32
  let v106 : BitVec 32 := Scalar.divsi v104 c1_i32_42
  let v107 : BitVec 32 := Scalar.muli v106 c1_i32_42
  let v108 : BitVec 32 := Scalar.addi c0_i32_41 v107
  let c1_i32_44 : BitVec 32 := 1#32
  let arg11 : BitVec 32 := Scf.iv v108 c1_i32_44 k0_t2
  let v143 : BitVec 32 := Scalar.muli c2_i32_71 arg11
  let c2_i32_117 : BitVec 32 := 2#32
  let v209 : BitVec 32 := Scalar.addi v143 c2_i32_117
  let v212 : BitVec 32 := Scalar.maxsi c0_i32_120 v209
  let v213 : BitVec 32 := Scalar.minsi c15_i32_121 v212
  let c1024_i32_122 : BitVec 32 := 1024#32
  let v214 : BitVec 32 := Scalar.muli v213 c1024_i32_122
  v214
def k0_mult9 (i : grid0.Coords) (k0_t2 : Fin (k0_t2_loop i).trips) : BitVec 32 :=
  let c15_i32_155 : BitVec 32 := 15#32
  let c0_i32_154 : BitVec 32 := 0#32
  let c2_i32_71 : BitVec 32 := 2#32
  let c0_i32_41 : BitVec 32 := 0#32
  let arg0 : BitVec 32 := BitVec.ofNat 32 (i 0).val
  let c2_i32 : BitVec 32 := 2#32
  let v86 : BitVec 32 := Scalar.addi arg0 c2_i32
  let c0_i32_34 : BitVec 32 := 0#32
  let v88 : BitVec 1 := Scalar.cmpi .sgt v86 c0_i32_34
  let v89 : BitVec 32 := Scalar.extui v88
  let c0_i32_35 : BitVec 32 := 0#32
  let v90 : BitVec 1 := Scalar.cmpi .slt v86 c0_i32_35
  let v91 : BitVec 32 := Scalar.extui v90
  let v92 : BitVec 32 := Scalar.subi v89 v91
  let c2_i32_33 : BitVec 32 := 2#32
  let c0_i32_36 : BitVec 32 := 0#32
  let v93 : BitVec 1 := Scalar.cmpi .sgt c2_i32_33 c0_i32_36
  let v94 : BitVec 32 := Scalar.extui v93
  let c0_i32_37 : BitVec 32 := 0#32
  let v95 : BitVec 1 := Scalar.cmpi .slt c2_i32_33 c0_i32_37
  let v96 : BitVec 32 := Scalar.extui v95
  let v97 : BitVec 32 := Scalar.subi v94 v96
  let v98 : BitVec 1 := Scalar.cmpi .ne v92 v97
  let v99 : BitVec 32 := Scalar.remsi v86 c2_i32_33
  let c0_i32_38 : BitVec 32 := 0#32
  let v100 : BitVec 1 := Scalar.cmpi .ne v99 c0_i32_38
  let v101 : BitVec 1 := Scalar.andi v98 v100
  let v87 : BitVec 32 := Scalar.divsi v86 c2_i32_33
  let c1_i32_39 : BitVec 32 := 1#32
  let v102 : BitVec 32 := Scalar.subi v87 c1_i32_39
  let v103 : BitVec 32 := Scalar.select v101 v102 v87
  let v104 : BitVec 32 := Scalar.subi v103 c0_i32_41
  let c1_i32_42 : BitVec 32 := 1#32
  let v106 : BitVec 32 := Scalar.divsi v104 c1_i32_42
  let v107 : BitVec 32 := Scalar.muli v106 c1_i32_42
  let v108 : BitVec 32 := Scalar.addi c0_i32_41 v107
  let c1_i32_44 : BitVec 32 := 1#32
  let arg11 : BitVec 32 := Scf.iv v108 c1_i32_44 k0_t2
  let v143 : BitVec 32 := Scalar.muli c2_i32_71 arg11
  let v261 : BitVec 32 := Scalar.maxsi c0_i32_154 v143
  let v262 : BitVec 32 := Scalar.minsi c15_i32_155 v261
  let c1024_i32_156 : BitVec 32 := 1024#32
  let v263 : BitVec 32 := Scalar.muli v262 c1024_i32_156
  v263
def k0_off7 (i : grid0.Coords) (k0_t2 : Fin (k0_t2_loop i).trips) : Fin 2 → Nat :=
  let c15_i32_155 : BitVec 32 := 15#32
  let c0_i32_154 : BitVec 32 := 0#32
  let c2_i32_71 : BitVec 32 := 2#32
  let c0_i32_41 : BitVec 32 := 0#32
  let arg0 : BitVec 32 := BitVec.ofNat 32 (i 0).val
  let c2_i32 : BitVec 32 := 2#32
  let v86 : BitVec 32 := Scalar.addi arg0 c2_i32
  let c0_i32_34 : BitVec 32 := 0#32
  let v88 : BitVec 1 := Scalar.cmpi .sgt v86 c0_i32_34
  let v89 : BitVec 32 := Scalar.extui v88
  let c0_i32_35 : BitVec 32 := 0#32
  let v90 : BitVec 1 := Scalar.cmpi .slt v86 c0_i32_35
  let v91 : BitVec 32 := Scalar.extui v90
  let v92 : BitVec 32 := Scalar.subi v89 v91
  let c2_i32_33 : BitVec 32 := 2#32
  let c0_i32_36 : BitVec 32 := 0#32
  let v93 : BitVec 1 := Scalar.cmpi .sgt c2_i32_33 c0_i32_36
  let v94 : BitVec 32 := Scalar.extui v93
  let c0_i32_37 : BitVec 32 := 0#32
  let v95 : BitVec 1 := Scalar.cmpi .slt c2_i32_33 c0_i32_37
  let v96 : BitVec 32 := Scalar.extui v95
  let v97 : BitVec 32 := Scalar.subi v94 v96
  let v98 : BitVec 1 := Scalar.cmpi .ne v92 v97
  let v99 : BitVec 32 := Scalar.remsi v86 c2_i32_33
  let c0_i32_38 : BitVec 32 := 0#32
  let v100 : BitVec 1 := Scalar.cmpi .ne v99 c0_i32_38
  let v101 : BitVec 1 := Scalar.andi v98 v100
  let v87 : BitVec 32 := Scalar.divsi v86 c2_i32_33
  let c1_i32_39 : BitVec 32 := 1#32
  let v102 : BitVec 32 := Scalar.subi v87 c1_i32_39
  let v103 : BitVec 32 := Scalar.select v101 v102 v87
  let v104 : BitVec 32 := Scalar.subi v103 c0_i32_41
  let c1_i32_42 : BitVec 32 := 1#32
  let v106 : BitVec 32 := Scalar.divsi v104 c1_i32_42
  let v107 : BitVec 32 := Scalar.muli v106 c1_i32_42
  let v108 : BitVec 32 := Scalar.addi c0_i32_41 v107
  let c1_i32_44 : BitVec 32 := 1#32
  let arg11 : BitVec 32 := Scf.iv v108 c1_i32_44 k0_t2
  let v143 : BitVec 32 := Scalar.muli c2_i32_71 arg11
  let v261 : BitVec 32 := Scalar.maxsi c0_i32_154 v143
  let v262 : BitVec 32 := Scalar.minsi c15_i32_155 v261
  let c1024_i32_156 : BitVec 32 := 1024#32
  let v263 : BitVec 32 := Scalar.muli v262 c1024_i32_156
  let v264 : BitVec 32 := v263
  let v265 : Index := Scalar.indexCast v264
  let c0_157 : Index := 0#32
  ![v265.toNat, 0]
def k0_mult10 (i : grid0.Coords) : BitVec 32 :=
  let c15_i32_56 : BitVec 32 := 15#32
  let c0_i32_55 : BitVec 32 := 0#32
  let c2_i32_45 : BitVec 32 := 2#32
  let arg0 : BitVec 32 := BitVec.ofNat 32 (i 0).val
  let c2_i32 : BitVec 32 := 2#32
  let v86 : BitVec 32 := Scalar.addi arg0 c2_i32
  let c0_i32_34 : BitVec 32 := 0#32
  let v88 : BitVec 1 := Scalar.cmpi .sgt v86 c0_i32_34
  let v89 : BitVec 32 := Scalar.extui v88
  let c0_i32_35 : BitVec 32 := 0#32
  let v90 : BitVec 1 := Scalar.cmpi .slt v86 c0_i32_35
  let v91 : BitVec 32 := Scalar.extui v90
  let v92 : BitVec 32 := Scalar.subi v89 v91
  let c2_i32_33 : BitVec 32 := 2#32
  let c0_i32_36 : BitVec 32 := 0#32
  let v93 : BitVec 1 := Scalar.cmpi .sgt c2_i32_33 c0_i32_36
  let v94 : BitVec 32 := Scalar.extui v93
  let c0_i32_37 : BitVec 32 := 0#32
  let v95 : BitVec 1 := Scalar.cmpi .slt c2_i32_33 c0_i32_37
  let v96 : BitVec 32 := Scalar.extui v95
  let v97 : BitVec 32 := Scalar.subi v94 v96
  let v98 : BitVec 1 := Scalar.cmpi .ne v92 v97
  let v99 : BitVec 32 := Scalar.remsi v86 c2_i32_33
  let c0_i32_38 : BitVec 32 := 0#32
  let v100 : BitVec 1 := Scalar.cmpi .ne v99 c0_i32_38
  let v101 : BitVec 1 := Scalar.andi v98 v100
  let v87 : BitVec 32 := Scalar.divsi v86 c2_i32_33
  let c1_i32_39 : BitVec 32 := 1#32
  let v102 : BitVec 32 := Scalar.subi v87 c1_i32_39
  let v103 : BitVec 32 := Scalar.select v101 v102 v87
  let v109 : BitVec 32 := Scalar.muli c2_i32_45 v103
  let c1_i32_46 : BitVec 32 := 1#32
  let v110 : BitVec 32 := Scalar.subi v109 c1_i32_46
  let v118 : BitVec 32 := Scalar.maxsi c0_i32_55 v110
  let v119 : BitVec 32 := Scalar.minsi c15_i32_56 v118
  let c1024_i32_57 : BitVec 32 := 1024#32
  let v120 : BitVec 32 := Scalar.muli v119 c1024_i32_57
  v120
def k0_off8 (i : grid0.Coords) : Fin 2 → Nat :=
  let c15_i32_56 : BitVec 32 := 15#32
  let c0_i32_55 : BitVec 32 := 0#32
  let c2_i32_45 : BitVec 32 := 2#32
  let arg0 : BitVec 32 := BitVec.ofNat 32 (i 0).val
  let c2_i32 : BitVec 32 := 2#32
  let v86 : BitVec 32 := Scalar.addi arg0 c2_i32
  let c0_i32_34 : BitVec 32 := 0#32
  let v88 : BitVec 1 := Scalar.cmpi .sgt v86 c0_i32_34
  let v89 : BitVec 32 := Scalar.extui v88
  let c0_i32_35 : BitVec 32 := 0#32
  let v90 : BitVec 1 := Scalar.cmpi .slt v86 c0_i32_35
  let v91 : BitVec 32 := Scalar.extui v90
  let v92 : BitVec 32 := Scalar.subi v89 v91
  let c2_i32_33 : BitVec 32 := 2#32
  let c0_i32_36 : BitVec 32 := 0#32
  let v93 : BitVec 1 := Scalar.cmpi .sgt c2_i32_33 c0_i32_36
  let v94 : BitVec 32 := Scalar.extui v93
  let c0_i32_37 : BitVec 32 := 0#32
  let v95 : BitVec 1 := Scalar.cmpi .slt c2_i32_33 c0_i32_37
  let v96 : BitVec 32 := Scalar.extui v95
  let v97 : BitVec 32 := Scalar.subi v94 v96
  let v98 : BitVec 1 := Scalar.cmpi .ne v92 v97
  let v99 : BitVec 32 := Scalar.remsi v86 c2_i32_33
  let c0_i32_38 : BitVec 32 := 0#32
  let v100 : BitVec 1 := Scalar.cmpi .ne v99 c0_i32_38
  let v101 : BitVec 1 := Scalar.andi v98 v100
  let v87 : BitVec 32 := Scalar.divsi v86 c2_i32_33
  let c1_i32_39 : BitVec 32 := 1#32
  let v102 : BitVec 32 := Scalar.subi v87 c1_i32_39
  let v103 : BitVec 32 := Scalar.select v101 v102 v87
  let v109 : BitVec 32 := Scalar.muli c2_i32_45 v103
  let c1_i32_46 : BitVec 32 := 1#32
  let v110 : BitVec 32 := Scalar.subi v109 c1_i32_46
  let v118 : BitVec 32 := Scalar.maxsi c0_i32_55 v110
  let v119 : BitVec 32 := Scalar.minsi c15_i32_56 v118
  let c1024_i32_57 : BitVec 32 := 1024#32
  let v120 : BitVec 32 := Scalar.muli v119 c1024_i32_57
  let v121 : BitVec 32 := v120
  let v122 : Index := Scalar.indexCast v121
  let c0_58 : Index := 0#32
  ![v122.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel2Ideal.lean ====
variable {F : FTy → Type} [FloatOps F] [Named F]
def κ : String → Option EReal := fun
  | "att_scale" => some (((Real.sqrt 192)⁻¹ : ℝ) : EReal)
  | "exp2_scale" => some (((Real.sqrt 192)⁻¹ * (Real.log 2)⁻¹ : ℝ) : EReal)
  | "mask" => some ⊥
  | _ => none
-- ==== Reference2Ideal.lean ====
abbrev S16384x192 : Shape := ⟨2, ![16384, 192]⟩
abbrev S16384x128 : Shape := ⟨2, ![16384, 128]⟩
abbrev S128x16384 : Shape := ⟨2, ![128, 16384]⟩
abbrev S16384x16384 : Shape := ⟨2, ![16384, 16384]⟩
abbrev S16384x64 : Shape := ⟨2, ![16384, 64]⟩
abbrev S64x16384 : Shape := ⟨2, ![64, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩

abbrev nBuf : Space → Nat
  | .hbm => 72
  | .vmem => 0
  | .smem => 0
  | _ => 0

abbrev bufTy : (tb : Table) → Fin (tcTables nBuf tb) → BufTy
  | .hbm, ⟨0, _⟩ => ⟨S16384x192, .f32⟩
  | .hbm, ⟨1, _⟩ => ⟨S16384x192, .f32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S128x16384, .f32⟩
  | .hbm, ⟨6, _⟩ => ⟨S16384x16384, .f32⟩
  | .hbm, ⟨7, _⟩ => ⟨S16384x64, .f32⟩
  | .hbm, ⟨8, _⟩ => ⟨S16384x64, .f32⟩
  | .hbm, ⟨9, _⟩ => ⟨S64x16384, .f32⟩
  | .hbm, ⟨10, _⟩ => ⟨S16384x16384, .f32⟩
  | .hbm, ⟨11, _⟩ => ⟨S16384x16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16384x16384, .f32⟩
  | .hbm, ⟨16, _⟩ => ⟨S16384x16384, .f32⟩
  | .hbm, ⟨17, _⟩ => ⟨S16384, .i32⟩
  | .hbm, ⟨18, _⟩ => ⟨S_, .i32⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S16384, .i32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S1x16384, .i32⟩
  | .hbm, ⟨37, _⟩ => ⟨S16384x1, .i32⟩
  | .hbm, ⟨38, _⟩ => ⟨S16384x16384, .i32⟩
  | .hbm, ⟨39, _⟩ => ⟨S16384x16384, .i32⟩
  | .hbm, ⟨40, _⟩ => ⟨S16384x16384, .i1⟩
  | .hbm, ⟨41, _⟩ => ⟨S_, .f32⟩
  | .hbm, ⟨42, _⟩ => ⟨S_, .f32⟩
  | .hbm, ⟨43, _⟩ => ⟨S16384x16384, .f32⟩
  | .hbm, ⟨44, _⟩ => ⟨S16384x16384, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S_, .f32⟩
  | .hbm, ⟨51, _⟩ => ⟨S16384, .f32⟩
  | .hbm, ⟨52, _⟩ => ⟨S16384, .f32⟩
  | .hbm, ⟨53, _⟩ => ⟨S16384x1, .f32⟩
  | .hbm, ⟨54, _⟩ => ⟨S16384x16384, .f32⟩
  | .hbm, ⟨55, _⟩ => ⟨S16384x16384, .f32⟩
  | .hbm, ⟨56, _⟩ => ⟨S16384x16384, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S16384x16384, .f32⟩
  | .hbm, ⟨61, _⟩ => ⟨S16384x16384, .f32⟩
  | .hbm, ⟨62, _⟩ => ⟨S16384x128, .f32⟩
  | .hbm, ⟨63, _⟩ => ⟨S16384x128, .bf16⟩
  | .hbm, ⟨64, _⟩ => ⟨S16384x16384, .f32⟩
  | .hbm, ⟨65, _⟩ => ⟨S16384x16384, .f32⟩
  | .hbm, ⟨66, _⟩ => ⟨S16384x16384, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S16384x1, .f32⟩
  | .hbm, ⟨71, _⟩ => ⟨S16384x1, .f32⟩
  | _, _ => ⟨S16384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_v20 : Ref sig .tc := ⟨.hbm, 44, rfl⟩
abbrev main_cst_1 : Ref sig .tc := ⟨.hbm, 45, rfl⟩
abbrev main_v21 : Ref sig .tc := ⟨.hbm, 46, rfl⟩
abbrev main_v22 : Ref sig .tc := ⟨.hbm, 47, rfl⟩
abbrev main_cst_2 : Ref sig .tc := ⟨.hbm, 48, rfl⟩
abbrev main_v23 : Ref sig .tc := ⟨.hbm, 49, rfl⟩
abbrev main_cst_3 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩

abbrev nD : Nat := 1
abbrev τ : Topo := Topo.v7x

variable {F : FTy → Type} [FloatOps F]
-- ==== Kernel3.lean ====
abbrev S16384x1024 : Shape := ⟨2, ![16384, 1024]⟩
abbrev S16384x2816 : Shape := ⟨2, ![16384, 2816]⟩
abbrev S1024x2816 : Shape := ⟨2, ![1024, 2816]⟩
abbrev S1024x512 : Shape := ⟨2, ![1024, 512]⟩
abbrev S512x2816 : Shape := ⟨2, ![512, 2816]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S16384x1024, .bf16⟩
  | .hbm, ⟨3, _⟩ => ⟨S16384x2816, .bf16⟩
  | .hbm, ⟨4, _⟩ => ⟨S1024x2816, .bf16⟩
  | .local _ .vmem, ⟨0, _⟩ => ⟨S1024x512, .bf16⟩
  | .local _ .vmem, ⟨1, _⟩ => ⟨S1024x512, .bf16⟩
  | .local _ .vmem, ⟨2, _⟩ => ⟨S1024x2816, .bf16⟩
  | .local _ .vmem, ⟨3, _⟩ => ⟨S1024x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x1024 : Shape := ⟨2, ![16384, 1024]⟩
abbrev S16384x2816 : Shape := ⟨2, ![16384, 2816]⟩
abbrev S1024x16384 : Shape := ⟨2, ![1024, 16384]⟩
abbrev S1024x2816 : Shape := ⟨2, ![1024, 2816]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S1024x16384, .f32⟩
  | .hbm, ⟨3, _⟩ => ⟨S1024x2816, .f32⟩
  | .hbm, ⟨4, _⟩ => ⟨S1024x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S16384x2816 : Shape := ⟨2, ![16384, 2816]⟩
abbrev S1024x5632 : Shape := ⟨2, ![1024, 5632]⟩
abbrev S1024x2816 : Shape := ⟨2, ![1024, 2816]⟩
abbrev S16384x1024 : Shape := ⟨2, ![16384, 1024]⟩
abbrev S512x2816 : Shape := ⟨2, ![512, 2816]⟩
abbrev S512x512 : Shape := ⟨2, ![512, 512]⟩

abbrev nBuf : Space → Nat
  | .hbm => 9
  | .vmem => 11
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S1024x5632, .f32⟩
  | .hbm, ⟨3, _⟩ => ⟨S1024x5632, .bf16⟩
  | .hbm, ⟨4, _⟩ => ⟨S16384x2816, .bf16⟩
  | .hbm, ⟨5, _⟩ => ⟨S1024x2816, .bf16⟩
  | .hbm, ⟨6, _⟩ => ⟨S16384x2816, .bf16⟩
  | .hbm, ⟨7, _⟩ => ⟨S1024x2816, .bf16⟩
  | .hbm, ⟨8, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![32, 2, 1], ![false, false, false]⟩

def k0_cond2 (i : grid0.Coords) : BitVec 1 :=
  let arg2 : BitVec 32 := BitVec.ofNat 32 (i 2).val
  let c0_i32_17 : BitVec 32 := 0#32
  let v23 : BitVec 1 := Scalar.cmpi .eq arg2 c0_i32_17
  let v24 : BitVec 32 := Scalar.extui v23
  let c0_i32_18 : BitVec 32 := 0#32
  let v25 : BitVec 1 := Scalar.cmpi .ne v24 c0_i32_18
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S16384x2816 : Shape := ⟨2, ![16384, 2816]⟩
abbrev S1024x5632 : Shape := ⟨2, ![1024, 5632]⟩
abbrev S16384x5632 : Shape := ⟨2, ![16384, 5632]⟩
abbrev S5632x1024 : Shape := ⟨2, ![5632, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S1024x5632, .f32⟩
  | .hbm, ⟨3, _⟩ => ⟨S16384x5632, .f32⟩
  | .hbm, ⟨4, _⟩ => ⟨S5632x1024, .f32⟩
  | .hbm, ⟨5, _⟩ => ⟨S16384x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S16384x1024 : Shape := ⟨2, ![16384, 1024]⟩
abbrev S1024x5632 : Shape := ⟨2, ![1024, 5632]⟩
abbrev S16384x5632 : Shape := ⟨2, ![16384, 5632]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x1024, .bf16⟩
  | .hbm, ⟨3, _⟩ => ⟨S1024x5632, .bf16⟩
  | .hbm, ⟨4, _⟩ => ⟨S16384x5632, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S16384x1024 : Shape := ⟨2, ![16384, 1024]⟩
abbrev S2816x1024 : Shape := ⟨2, ![2816, 1024]⟩
abbrev S16384x2816 : Shape := ⟨2, ![16384, 2816]⟩
abbrev S512x1024 : Shape := ⟨2, ![512, 1024]⟩
abbrev S512x2816 : Shape := ⟨2, ![512, 2816]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S2816x1024, .bf16⟩
  | .hbm, ⟨3, _⟩ => ⟨S16384x2816, .f32⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | .local _ .vmem, ⟨5, _⟩ => ⟨S512x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S2816x1024 : Shape := ⟨2, ![2816, 1024]⟩
abbrev S1024x2816 : Shape := ⟨2, ![1024, 2816]⟩
abbrev S16384x2816 : Shape := ⟨2, ![16384, 2816]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S1024x2816, .f32⟩
  | .hbm, ⟨3, _⟩ => ⟨S16384x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x2816, .bf16⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x2816 : Shape := ⟨2, ![16384, 2816]⟩
abbrev S16384x1024 : Shape := ⟨2, ![16384, 1024]⟩
abbrev S2816x16384 : Shape := ⟨2, ![2816, 16384]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S2816x16384, .f32⟩
  | .hbm, ⟨3, _⟩ => ⟨S2816x1024, .f32⟩
  | .hbm, ⟨4, _⟩ => ⟨S2816x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x2816, .bf16⟩
  | .hbm, ⟨4, _⟩ => ⟨S2816x1024, .bf16⟩
  | .hbm, ⟨5, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S256x704 : Shape := ⟨2, ![256, 704]⟩

abbrev nBuf : Space → Nat
  | .hbm => 9
  | .vmem => 9
  | .smem => 0
  | _ => 0

abbrev bufTy : (tb : Table) → Fin (tcTables nBuf tb) → BufTy
  | .hbm, ⟨0, _⟩ => ⟨S256x704, .f32⟩
  | .hbm, ⟨1, _⟩ => ⟨S256x704, .f32⟩
  | .hbm, ⟨2, _⟩ => ⟨S256x704, .f32⟩
  | .hbm, ⟨3, _⟩ => ⟨S256x704, .f32⟩
  | .hbm, ⟨4, _⟩ => ⟨S256x704, .f32⟩
  | .hbm, ⟨5, _⟩ => ⟨S256x704, .f32⟩
  | .hbm, ⟨6, _⟩ => ⟨S256x704, .f32⟩
  | .hbm, ⟨7, _⟩ => ⟨S256x704, .f32⟩
  | .hbm, ⟨8, _⟩ => ⟨S256x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | _, _ => ⟨S256x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x704 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel9Ideal.lean ====
abbrev S256x704 : Shape := ⟨2, ![256, 704]⟩

abbrev nBuf : Space → Nat
  | .hbm => 9
  | .vmem => 9
  | .smem => 0
  | _ => 0

abbrev bufTy : (tb : Table) → Fin (tcTables nBuf tb) → BufTy
  | .hbm, ⟨0, _⟩ => ⟨S256x704, .f32⟩
  | .hbm, ⟨1, _⟩ => ⟨S256x704, .f32⟩
  | .hbm, ⟨2, _⟩ => ⟨S256x704, .f32⟩
  | .hbm, ⟨3, _⟩ => ⟨S256x704, .f32⟩
  | .hbm, ⟨4, _⟩ => ⟨S256x704, .f32⟩
  | .hbm, ⟨5, _⟩ => ⟨S256x704, .f32⟩
  | .hbm, ⟨6, _⟩ => ⟨S256x704, .f32⟩
  | .hbm, ⟨7, _⟩ => ⟨S256x704, .f32⟩
  | .hbm, ⟨8, _⟩ => ⟨S256x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | _, _ => ⟨S256x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x704 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference9Ideal.lean ====
abbrev S256x704 : Shape := ⟨2, ![256, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x704, .f32⟩
  | .hbm, ⟨1, _⟩ => ⟨S256x704, .f32⟩
  | .hbm, ⟨2, _⟩ => ⟨S256x704, .f32⟩
  | .hbm, ⟨3, _⟩ => ⟨S256x704, .f32⟩
  | .hbm, ⟨4, _⟩ => ⟨S256x704, .f32⟩
  | .hbm, ⟨5, _⟩ => ⟨S256x704, .f32⟩
  | .hbm, ⟨6, _⟩ => ⟨S_, .f32⟩
  | .hbm, ⟨7, _⟩ => ⟨S256x704, .f32⟩
  | .hbm, ⟨8, _⟩ => ⟨S256x704, .f32⟩
  | .hbm, ⟨9, _⟩ => ⟨S_, .f32⟩
  | .hbm, ⟨10, _⟩ => ⟨S256x704, .f32⟩
  | .hbm, ⟨11, _⟩ => ⟨S256x704, .f32⟩
  | .hbm, ⟨12, _⟩ => ⟨S256x704, .f32⟩
  | .hbm, ⟨13, _⟩ => ⟨S_, .f32⟩
  | .hbm, ⟨14, _⟩ => ⟨S256x704, .f32⟩
  | .hbm, ⟨15, _⟩ => ⟨S256x704, .f32⟩
  | .hbm, ⟨16, _⟩ => ⟨S256x704, .f32⟩
  | .hbm, ⟨17, _⟩ => ⟨S_, .f32⟩
  | .hbm, ⟨18, _⟩ => ⟨S256x704, .f32⟩
  | .hbm, ⟨19, _⟩ => ⟨S256x704, .f32⟩
  | .hbm, ⟨20, _⟩ => ⟨S256x704, .f32⟩
  | .hbm, ⟨21, _⟩ => ⟨S_, .f32⟩
  | .hbm, ⟨22, _⟩ => ⟨S256x704, .f32⟩
  | .hbm, ⟨23, _⟩ => ⟨S256x704, .f32⟩
  | .hbm, ⟨24, _⟩ => ⟨S_, .f32⟩
  | .hbm, ⟨25, _⟩ => ⟨S256x704, .f32⟩
  | .hbm, ⟨26, _⟩ => ⟨S256x704, .f32⟩
  | .hbm, ⟨27, _⟩ => ⟨S256x704, .f32⟩
  | .hbm, ⟨28, _⟩ => ⟨S_, .f32⟩
  | .hbm, ⟨29, _⟩ => ⟨S256x704, .f32⟩
  | .hbm, ⟨30, _⟩ => ⟨S256x704, .f32⟩
  | .hbm, ⟨31, _⟩ => ⟨S256x704, .f32⟩
  | .hbm, ⟨32, _⟩ => ⟨S_, .f32⟩
  | .hbm, ⟨33, _⟩ => ⟨S256x704, .f32⟩
  | .hbm, ⟨34, _⟩ => ⟨S256x704, .f32⟩
  | .hbm, ⟨35, _⟩ => ⟨S256x704, .f32⟩
  | .hbm, ⟨36, _⟩ => ⟨S_, .f32⟩
  | .hbm, ⟨37, _⟩ => ⟨S256x704, .f32⟩
  | .hbm, ⟨38, _⟩ => ⟨S256x704, .f32⟩
  | _, _ => ⟨S256x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel10.lean ====
abbrev S384x384 : Shape := ⟨2, ![384, 384]⟩

abbrev nBuf : Space → Nat
  | .hbm => 9
  | .vmem => 9
  | .smem => 0
  | _ => 0

abbrev bufTy : (tb : Table) → Fin (tcTables nBuf tb) → BufTy
  | .hbm, ⟨0, _⟩ => ⟨S384x384, .f32⟩
  | .hbm, ⟨1, _⟩ => ⟨S384x384, .f32⟩
  | .hbm, ⟨2, _⟩ => ⟨S384x384, .f32⟩
  | .hbm, ⟨3, _⟩ => ⟨S384x384, .f32⟩
  | .hbm, ⟨4, _⟩ => ⟨S384x384, .f32⟩
  | .hbm, ⟨5, _⟩ => ⟨S384x384, .f32⟩
  | .hbm, ⟨6, _⟩ => ⟨S384x384, .f32⟩
  | .hbm, ⟨7, _⟩ => ⟨S384x384, .f32⟩
  | .hbm, ⟨8, _⟩ => ⟨S384x384, .f32⟩
  | .local _ .vmem, ⟨0, _⟩ => ⟨S384x384, .f32⟩
  | .local _ .vmem, ⟨1, _⟩ => ⟨S384x384, .f32⟩
  | .local _ .vmem, ⟨2, _⟩ => ⟨S384x384, .f32⟩
  | .local _ .vmem, ⟨3, _⟩ => ⟨S384x384, .f32⟩
  | .local _ .vmem, ⟨4, _⟩ => ⟨S384x384, .f32⟩
  | .local _ .vmem, ⟨5, _⟩ => ⟨S384x384, .f32⟩
  | .local _ .vmem, ⟨6, _⟩ => ⟨S384x384, .f32⟩
  | .local _ .vmem, ⟨7, _⟩ => ⟨S384x384, .f32⟩
  | .local _ .vmem, ⟨8, _⟩ => ⟨S384x384, .f32⟩
  | _, _ => ⟨S384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S384x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S384x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S384x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S384x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S384x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S384x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S384x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel10Ideal.lean ====
abbrev S384x384 : Shape := ⟨2, ![384, 384]⟩

abbrev nBuf : Space → Nat
  | .hbm => 9
  | .vmem => 9
  | .smem => 0
  | _ => 0

abbrev bufTy : (tb : Table) → Fin (tcTables nBuf tb) → BufTy
  | .hbm, ⟨0, _⟩ => ⟨S384x384, .f32⟩
  | .hbm, ⟨1, _⟩ => ⟨S384x384, .f32⟩
  | .hbm, ⟨2, _⟩ => ⟨S384x384, .f32⟩
  | .hbm, ⟨3, _⟩ => ⟨S384x384, .f32⟩
  | .hbm, ⟨4, _⟩ => ⟨S384x384, .f32⟩
  | .hbm, ⟨5, _⟩ => ⟨S384x384, .f32⟩
  | .hbm, ⟨6, _⟩ => ⟨S384x384, .f32⟩
  | .hbm, ⟨7, _⟩ => ⟨S384x384, .f32⟩
  | .hbm, ⟨8, _⟩ => ⟨S384x384, .f32⟩
  | .local _ .vmem, ⟨0, _⟩ => ⟨S384x384, .f32⟩
  | .local _ .vmem, ⟨1, _⟩ => ⟨S384x384, .f32⟩
  | .local _ .vmem, ⟨2, _⟩ => ⟨S384x384, .f32⟩
  | .local _ .vmem, ⟨3, _⟩ => ⟨S384x384, .f32⟩
  | .local _ .vmem, ⟨4, _⟩ => ⟨S384x384, .f32⟩
  | .local _ .vmem, ⟨5, _⟩ => ⟨S384x384, .f32⟩
  | .local _ .vmem, ⟨6, _⟩ => ⟨S384x384, .f32⟩
  | .local _ .vmem, ⟨7, _⟩ => ⟨S384x384, .f32⟩
  | .local _ .vmem, ⟨8, _⟩ => ⟨S384x384, .f32⟩
  | _, _ => ⟨S384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S384x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S384x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S384x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S384x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S384x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S384x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S384x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference10Ideal.lean ====
abbrev S384x384 : Shape := ⟨2, ![384, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S384x384, .f32⟩
  | .hbm, ⟨1, _⟩ => ⟨S384x384, .f32⟩
  | .hbm, ⟨2, _⟩ => ⟨S384x384, .f32⟩
  | .hbm, ⟨3, _⟩ => ⟨S384x384, .f32⟩
  | .hbm, ⟨4, _⟩ => ⟨S384x384, .f32⟩
  | .hbm, ⟨5, _⟩ => ⟨S384x384, .f32⟩
  | .hbm, ⟨6, _⟩ => ⟨S_, .f32⟩
  | .hbm, ⟨7, _⟩ => ⟨S384x384, .f32⟩
  | .hbm, ⟨8, _⟩ => ⟨S384x384, .f32⟩
  | .hbm, ⟨9, _⟩ => ⟨S_, .f32⟩
  | .hbm, ⟨10, _⟩ => ⟨S384x384, .f32⟩
  | .hbm, ⟨11, _⟩ => ⟨S384x384, .f32⟩
  | .hbm, ⟨12, _⟩ => ⟨S384x384, .f32⟩
  | .hbm, ⟨13, _⟩ => ⟨S_, .f32⟩
  | .hbm, ⟨14, _⟩ => ⟨S384x384, .f32⟩
  | .hbm, ⟨15, _⟩ => ⟨S384x384, .f32⟩
  | .hbm, ⟨16, _⟩ => ⟨S384x384, .f32⟩
  | .hbm, ⟨17, _⟩ => ⟨S_, .f32⟩
  | .hbm, ⟨18, _⟩ => ⟨S384x384, .f32⟩
  | .hbm, ⟨19, _⟩ => ⟨S384x384, .f32⟩
  | .hbm, ⟨20, _⟩ => ⟨S384x384, .f32⟩
  | .hbm, ⟨21, _⟩ => ⟨S_, .f32⟩
  | .hbm, ⟨22, _⟩ => ⟨S384x384, .f32⟩
  | .hbm, ⟨23, _⟩ => ⟨S384x384, .f32⟩
  | .hbm, ⟨24, _⟩ => ⟨S_, .f32⟩
  | .hbm, ⟨25, _⟩ => ⟨S384x384, .f32⟩
  | .hbm, ⟨26, _⟩ => ⟨S384x384, .f32⟩
  | .hbm, ⟨27, _⟩ => ⟨S384x384, .f32⟩
  | .hbm, ⟨28, _⟩ => ⟨S_, .f32⟩
  | .hbm, ⟨29, _⟩ => ⟨S384x384, .f32⟩
  | .hbm, ⟨30, _⟩ => ⟨S384x384, .f32⟩
  | .hbm, ⟨31, _⟩ => ⟨S384x384, .f32⟩
  | .hbm, ⟨32, _⟩ => ⟨S_, .f32⟩
  | .hbm, ⟨33, _⟩ => ⟨S384x384, .f32⟩
  | .hbm, ⟨34, _⟩ => ⟨S384x384, .f32⟩
  | .hbm, ⟨35, _⟩ => ⟨S384x384, .f32⟩
  | .hbm, ⟨36, _⟩ => ⟨S_, .f32⟩
  | .hbm, ⟨37, _⟩ => ⟨S384x384, .f32⟩
  | .hbm, ⟨38, _⟩ => ⟨S384x384, .f32⟩
  | _, _ => ⟨S384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel11.lean ====
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel11Ideal.lean ====
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference11Ideal.lean ====
abbrev S256x512 : Shape := ⟨2, ![256, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S_, .f32⟩
  | .hbm, ⟨7, _⟩ => ⟨S256x512, .f32⟩
  | .hbm, ⟨8, _⟩ => ⟨S256x512, .f32⟩
  | .hbm, ⟨9, _⟩ => ⟨S_, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S_, .f32⟩
  | .hbm, ⟨14, _⟩ => ⟨S256x512, .f32⟩
  | .hbm, ⟨15, _⟩ => ⟨S256x512, .f32⟩
  | .hbm, ⟨16, _⟩ => ⟨S256x512, .f32⟩
  | .hbm, ⟨17, _⟩ => ⟨S_, .f32⟩
  | .hbm, ⟨18, _⟩ => ⟨S256x512, .f32⟩
  | .hbm, ⟨19, _⟩ => ⟨S256x512, .f32⟩
  | .hbm, ⟨20, _⟩ => ⟨S256x512, .f32⟩
  | .hbm, ⟨21, _⟩ => ⟨S_, .f32⟩
  | .hbm, ⟨22, _⟩ => ⟨S256x512, .f32⟩
  | .hbm, ⟨23, _⟩ => ⟨S256x512, .f32⟩
  | .hbm, ⟨24, _⟩ => ⟨S_, .f32⟩
  | .hbm, ⟨25, _⟩ => ⟨S256x512, .f32⟩
  | .hbm, ⟨26, _⟩ => ⟨S256x512, .f32⟩
  | .hbm, ⟨27, _⟩ => ⟨S256x512, .f32⟩
  | .hbm, ⟨28, _⟩ => ⟨S_, .f32⟩
  | .hbm, ⟨29, _⟩ => ⟨S256x512, .f32⟩
  | .hbm, ⟨30, _⟩ => ⟨S256x512, .f32⟩
  | .hbm, ⟨31, _⟩ => ⟨S256x512, .f32⟩
  | .hbm, ⟨32, _⟩ => ⟨S_, .f32⟩
  | .hbm, ⟨33, _⟩ => ⟨S256x512, .f32⟩
  | .hbm, ⟨34, _⟩ => ⟨S256x512, .f32⟩
  | .hbm, ⟨35, _⟩ => ⟨S256x512, .f32⟩
  | .hbm, ⟨36, _⟩ => ⟨S_, .f32⟩
  | .hbm, ⟨37, _⟩ => ⟨S256x512, .f32⟩
  | .hbm, ⟨38, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel12.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel12Ideal.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference12Ideal.lean ====
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel13.lean ====
abbrev S1024x512 : Shape := ⟨2, ![1024, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel13Ideal.lean ====
abbrev S1024x512 : Shape := ⟨2, ![1024, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S1024x512 : Shape := ⟨2, ![1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel14.lean ====
abbrev S2048x1408 : Shape := ⟨2, ![2048, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel14Ideal.lean ====
abbrev S2048x1408 : Shape := ⟨2, ![2048, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S2048x1408 : Shape := ⟨2, ![2048, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S_, .f32⟩
  | .hbm, ⟨7, _⟩ => ⟨S2048x1408, .f32⟩
  | .hbm, ⟨8, _⟩ => ⟨S2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S1408x1024 : Shape := ⟨2, ![1408, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel15Ideal.lean ====
abbrev S1408x1024 : Shape := ⟨2, ![1408, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S1408x1024 : Shape := ⟨2, ![1408, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S_, .f32⟩
  | .hbm, ⟨7, _⟩ => ⟨S1408x1024, .f32⟩
  | .hbm, ⟨8, _⟩ => ⟨S1408x1024, .f32⟩
  | .hbm, ⟨9, _⟩ => ⟨S_, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S_, .f32⟩
  | .hbm, ⟨14, _⟩ => ⟨S1408x1024, .f32⟩
  | .hbm, ⟨15, _⟩ => ⟨S1408x1024, .f32⟩
  | .hbm, ⟨16, _⟩ => ⟨S1408x1024, .f32⟩
  | .hbm, ⟨17, _⟩ => ⟨S_, .f32⟩
  | .hbm, ⟨18, _⟩ => ⟨S1408x1024, .f32⟩
  | .hbm, ⟨19, _⟩ => ⟨S1408x1024, .f32⟩
  | .hbm, ⟨20, _⟩ => ⟨S1408x1024, .f32⟩
  | .hbm, ⟨21, _⟩ => ⟨S_, .f32⟩
  | .hbm, ⟨22, _⟩ => ⟨S1408x1024, .f32⟩
  | .hbm, ⟨23, _⟩ => ⟨S1408x1024, .f32⟩
  | .hbm, ⟨24, _⟩ => ⟨S_, .f32⟩
  | .hbm, ⟨25, _⟩ => ⟨S1408x1024, .f32⟩
  | .hbm, ⟨26, _⟩ => ⟨S1408x1024, .f32⟩
  | .hbm, ⟨27, _⟩ => ⟨S1408x1024, .f32⟩
  | .hbm, ⟨28, _⟩ => ⟨S_, .f32⟩
  | .hbm, ⟨29, _⟩ => ⟨S1408x1024, .f32⟩
  | .hbm, ⟨30, _⟩ => ⟨S1408x1024, .f32⟩
  | .hbm, ⟨31, _⟩ => ⟨S1408x1024, .f32⟩
  | .hbm, ⟨32, _⟩ => ⟨S_, .f32⟩
  | .hbm, ⟨33, _⟩ => ⟨S1408x1024, .f32⟩
  | .hbm, ⟨34, _⟩ => ⟨S1408x1024, .f32⟩
  | .hbm, ⟨35, _⟩ => ⟨S1408x1024, .f32⟩
  | .hbm, ⟨36, _⟩ => ⟨S_, .f32⟩
  | .hbm, ⟨37, _⟩ => ⟨S1408x1024, .f32⟩
  | .hbm, ⟨38, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel16.lean ====
abbrev S320x1024 : Shape := ⟨2, ![320, 1024]⟩
abbrev S160x1024 : Shape := ⟨2, ![160, 1024]⟩

abbrev nBuf : Space → Nat
  | .hbm => 9
  | .vmem => 18
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S320x1024, .f32⟩
  | .hbm, ⟨7, _⟩ => ⟨S320x1024, .f32⟩
  | .hbm, ⟨8, _⟩ => ⟨S320x1024, .f32⟩
  | .local _ .vmem, ⟨0, _⟩ => ⟨S160x1024, .f32⟩
  | .local _ .vmem, ⟨1, _⟩ => ⟨S160x1024, .f32⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | .local _ .vmem, ⟨8, _⟩ => ⟨S160x1024, .f32⟩
  | .local _ .vmem, ⟨9, _⟩ => ⟨S160x1024, .f32⟩
  | .local _ .vmem, ⟨10, _⟩ => ⟨S160x1024, .f32⟩
  | .local _ .vmem, ⟨11, _⟩ => ⟨S160x1024, .f32⟩
  | .local _ .vmem, ⟨12, _⟩ => ⟨S160x1024, .f32⟩
  | .local _ .vmem, ⟨13, _⟩ => ⟨S160x1024, .f32⟩
  | .local _ .vmem, ⟨14, _⟩ => ⟨S160x1024, .f32⟩
  | .local _ .vmem, ⟨15, _⟩ => ⟨S160x1024, .f32⟩
  | .local _ .vmem, ⟨16, _⟩ => ⟨S160x1024, .f32⟩
  | .local _ .vmem, ⟨17, _⟩ => ⟨S160x1024, .f32⟩
  | _, _ => ⟨S320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S160x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S320x1024 : Shape := ⟨2, ![320, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S_, .f32⟩
  | .hbm, ⟨7, _⟩ => ⟨S320x1024, .f32⟩
  | .hbm, ⟨8, _⟩ => ⟨S320x1024, .f32⟩
  | .hbm, ⟨9, _⟩ => ⟨S_, .f32⟩
  | .hbm, ⟨10, _⟩ => ⟨S320x1024, .f32⟩
  | .hbm, ⟨11, _⟩ => ⟨S320x1024, .f32⟩
  | .hbm, ⟨12, _⟩ => ⟨S320x1024, .f32⟩
  | .hbm, ⟨13, _⟩ => ⟨S_, .f32⟩
  | .hbm, ⟨14, _⟩ => ⟨S320x1024, .f32⟩
  | .hbm, ⟨15, _⟩ => ⟨S320x1024, .f32⟩
  | .hbm, ⟨16, _⟩ => ⟨S320x1024, .f32⟩
  | .hbm, ⟨17, _⟩ => ⟨S_, .f32⟩
  | .hbm, ⟨18, _⟩ => ⟨S320x1024, .f32⟩
  | .hbm, ⟨19, _⟩ => ⟨S320x1024, .f32⟩
  | .hbm, ⟨20, _⟩ => ⟨S320x1024, .f32⟩
  | .hbm, ⟨21, _⟩ => ⟨S_, .f32⟩
  | .hbm, ⟨22, _⟩ => ⟨S320x1024, .f32⟩
  | .hbm, ⟨23, _⟩ => ⟨S320x1024, .f32⟩
  | .hbm, ⟨24, _⟩ => ⟨S_, .f32⟩
  | .hbm, ⟨25, _⟩ => ⟨S320x1024, .f32⟩
  | .hbm, ⟨26, _⟩ => ⟨S320x1024, .f32⟩
  | .hbm, ⟨27, _⟩ => ⟨S320x1024, .f32⟩
  | .hbm, ⟨28, _⟩ => ⟨S_, .f32⟩
  | .hbm, ⟨29, _⟩ => ⟨S320x1024, .f32⟩
  | .hbm, ⟨30, _⟩ => ⟨S320x1024, .f32⟩
  | .hbm, ⟨31, _⟩ => ⟨S320x1024, .f32⟩
  | .hbm, ⟨32, _⟩ => ⟨S_, .f32⟩
  | .hbm, ⟨33, _⟩ => ⟨S320x1024, .f32⟩
  | .hbm, ⟨34, _⟩ => ⟨S320x1024, .f32⟩
  | .hbm, ⟨35, _⟩ => ⟨S320x1024, .f32⟩
  | .hbm, ⟨36, _⟩ => ⟨S_, .f32⟩
  | .hbm, ⟨37, _⟩ => ⟨S320x1024, .f32⟩
  | .hbm, ⟨38, _⟩ => ⟨S320x1024, .f32⟩
  | _, _ => ⟨S320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S16384x1024 : Shape := ⟨2, ![16384, 1024]⟩
abbrev S1024x2048 : Shape := ⟨2, ![1024, 2048]⟩
abbrev S16384x2048 : Shape := ⟨2, ![16384, 2048]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x1024, .bf16⟩
  | .hbm, ⟨3, _⟩ => ⟨S1024x2048, .bf16⟩
  | .hbm, ⟨4, _⟩ => ⟨S16384x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S16384x1024 : Shape := ⟨2, ![16384, 1024]⟩
abbrev S16384x2048 : Shape := ⟨2, ![16384, 2048]⟩
abbrev S1024x2048 : Shape := ⟨2, ![1024, 2048]⟩
abbrev S1024x512 : Shape := ⟨2, ![1024, 512]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x1024, .bf16⟩
  | .hbm, ⟨3, _⟩ => ⟨S16384x2048, .bf16⟩
  | .hbm, ⟨4, _⟩ => ⟨S1024x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S16384x1024 : Shape := ⟨2, ![16384, 1024]⟩
abbrev S16384x2048 : Shape := ⟨2, ![16384, 2048]⟩
abbrev S1024x16384 : Shape := ⟨2, ![1024, 16384]⟩
abbrev S1024x2048 : Shape := ⟨2, ![1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S1024x16384, .f32⟩
  | .hbm, ⟨3, _⟩ => ⟨S1024x2048, .f32⟩
  | .hbm, ⟨4, _⟩ => ⟨S1024x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S16384x2048 : Shape := ⟨2, ![16384, 2048]⟩
abbrev S1024x2048 : Shape := ⟨2, ![1024, 2048]⟩
abbrev S16384x1024 : Shape := ⟨2, ![16384, 1024]⟩
abbrev S512x2048 : Shape := ⟨2, ![512, 2048]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S1024x2048, .f32⟩
  | .hbm, ⟨2, _⟩ => ⟨S16384x2048, .bf16⟩
  | .hbm, ⟨3, _⟩ => ⟨S1024x2048, .bf16⟩
  | .hbm, ⟨4, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S16384x2048 : Shape := ⟨2, ![16384, 2048]⟩
abbrev S1024x2048 : Shape := ⟨2, ![1024, 2048]⟩
abbrev S2048x1024 : Shape := ⟨2, ![2048, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1024x2048, .f32⟩
  | .hbm, ⟨2, _⟩ => ⟨S2048x1024, .f32⟩
  | .hbm, ⟨3, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel20.lean ====
abbrev S16384x1024 : Shape := ⟨2, ![16384, 1024]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S16384x1024 : Shape := ⟨2, ![16384, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .bf16⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S16384x1024 : Shape := ⟨2, ![16384, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .f32⟩
  | .hbm, ⟨3, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel22.lean ====
abbrev S16384x1024 : Shape := ⟨2, ![16384, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S16384x1024 : Shape := ⟨2, ![16384, 1024]⟩
abbrev S1024x16384 : Shape := ⟨2, ![1024, 16384]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x16384, .f32⟩
  | .hbm, ⟨3, _⟩ => ⟨S1024x1024, .f32⟩
  | .hbm, ⟨4, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S16384x1024 : Shape := ⟨2, ![16384, 1024]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1024x1024, .bf16⟩
  | .hbm, ⟨5, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference23Ideal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel24.lean ====
abbrev S16384x1024 : Shape := ⟨2, ![16384, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .bf16⟩
  | .hbm, ⟨3, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .f32⟩
  | .hbm, ⟨3, _⟩ => ⟨S16384x1024, .f32⟩
  | .hbm, ⟨4, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel25.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel26.lean ====
abbrev S16384x1024 : Shape := ⟨2, ![16384, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S1x1, .f32⟩
  | .hbm, ⟨4, _⟩ => ⟨S16384x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference26Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S1x1, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.SameText.lean ====
/-
  The two attention kernels as the machine runs them are the idealized ones read at bits, where a named constant is its bit pattern. So one
  run of the idealized text gives the frames of both.
-/
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2Ideal

@[expose] public section

set_option maxRecDepth 65536

noncomputable section

namespace Cert.SameText

open Idealize.ShloMosaic Idealize.ShloMosaic.TcCoe
open Idealize.SL.Sem

/-- At bits a named constant is its bit pattern. -/
instance namedBits : Named Bits where
  named _ _ {φ} bits := FloatOps.ofBits φ bits

attribute [local instance] Cert.Kernel.Gen.facts Cert.KernelIdeal.Gen.facts Cert.Kernel2.Gen.facts Cert.Kernel2Ideal.Gen.facts

/-! ## The backward call -/

set_option maxHeartbeats 4000000 in
theorem main_eq : (Cert.Kernel.main (F := Bits) : _) = (Cert.KernelIdeal.main (F := Bits) : _) := rfl

theorem bodies_eq : (Cert.Kernel.defs₀ (F := Bits) : _) = (Cert.KernelIdeal.defs₀ (F := Bits) : _) := by
  unfold Cert.Kernel.defs₀ Cert.KernelIdeal.defs₀
  refine congrArg Defs.onTc (funext fun l => ?_)
  match l with
  | 0 => rfl

theorem defs_eq : (Cert.Kernel.defs (F := Bits) : _) = (Cert.KernelIdeal.defs (F := Bits) : _) :=
  congrArg (Pipeline.defs Cert.KernelIdeal.pcfgs) bodies_eq

/-! ## The forward call -/

theorem main_eq2 : (Cert.Kernel2.main (F := Bits) : _) = (Cert.Kernel2Ideal.main (F := Bits) : _) := rfl

theorem bodies_eq2 : (Cert.Kernel2.defs₀ (F := Bits) : _) = (Cert.Kernel2Ideal.defs₀ (F := Bits) : _) := by
  unfold Cert.Kernel2.defs₀ Cert.Kernel2Ideal.defs₀
  refine congrArg Defs.onTc (funext fun l => ?_)
  match l with
  | 0 => rfl

theorem defs_eq2 : (Cert.Kernel2.defs (F := Bits) : _) = (Cert.Kernel2Ideal.defs (F := Bits) : _) :=
  congrArg (Pipeline.defs Cert.Kernel2Ideal.pcfgs) bodies_eq2

/-- What holds of a run holds of the run of an equal program. -/
theorem run_of_eq {nD : ℕ} {τ : Topo} {sig : RefSig} {Val : EltTy → Type} {Λ : Labels} {D D' : Defs nD τ sig Val Λ} (hD : D = D')
    {p p' : (x : Thread nD τ) → Prog (TpuEff nD τ sig Val Λ x.2) PUnit} (hp : p = p') {s : MemSt nD τ sig Val}
    {Q : PUnit × MemSt nD τ sig Val → Prop} (h : θ_run D' p' s Q) : θ_run D p s Q := by
  subst hD hp
  exact h

end Cert.SameText
-- ==== Proof.KI.Tiles.lean ====
/-
  What one trip of the kernel's loop computes, as plain functions of the blocks it reads.

  A grid point of the kernel takes one tile of 512 keys and walks over the tiles of 512 queries, two a trip. Between two trips it
  carries seven values (`St`): the scores and the products of the values with the cotangent for the query tile it is about to take
  (`s0`, `d0`), the probabilities and the scores' gradient of the query tile it took last (`p1`, `z1`), and the three sums
  (`dk`, `dv`, `dq`). Half a trip on (`Mid`) the same are held for the other slot of each buffer.
-/
module

public import proofs.«01_k».proof.Proof.Gen.KernelIdeal.Skeleton
public import Idealize.ShloMosaic.Lib.VecWindow

@[expose] public section

noncomputable section

namespace Cert.KernelIdeal.Bwd

open Cert.KernelIdeal Cert.KernelIdeal.Gen
open Idealize.ShloMosaic

variable {F : FTy → Type} [FloatOps F] [Named F]

/-- What a grid point reads: its tile of keys and of values, all queries, all cotangents, and each query's logarithm of the softmax
    denominator and product of cotangent and output. -/
structure Env (F : FTy → Type) where
  kb : Vec F S512x192 .bf16
  vb : Vec F S512x128 .bf16
  q : Vec F S16384x192 .bf16
  dout : Vec F S16384x128 .bf16
  lse : Vec F S32x1x512 .f32
  delta : Vec F S32x1x512 .f32

/-- What is carried from one trip to the next. -/
structure St (F : FTy → Type) where
  s0 : Vec F S1x512x512 .f32
  d0 : Vec F S1x512x512 .f32
  p1 : Vec F S1x512x512 .bf16
  z1 : Vec F S1x512x512 .bf16
  dk : Vec F S512x192 .f32
  dv : Vec F S512x128 .f32
  dq : Vec F S16384x192 .f32

/-- What is carried half a trip on. -/
structure Mid (F : FTy → Type) where
  s1 : Vec F S1x512x512 .f32
  d1 : Vec F S1x512x512 .f32
  s0 : Vec F S1x512x512 .f32
  p0 : Vec F S1x512x512 .bf16
  z0 : Vec F S1x512x512 .bf16
  dk : Vec F S512x192 .f32
  dv : Vec F S512x128 .f32
  dq : Vec F S16384x192 .f32

/-- Slot 0 and slot 1 of a double buffer. -/
abbrev slot0 {α : Type} (x : S2x512x512.Idx → α) : S1x512x512.Idx → α :=
  VecWindow.window x ![0, 0, 0] S1x512x512.size inb_S2x512x512_S1x512x512_0_0_0
abbrev slot1 {α : Type} (x : S2x512x512.Idx → α) : S1x512x512.Idx → α :=
  VecWindow.window x ![1, 0, 0] S1x512x512.size inb_S2x512x512_S1x512x512_1_0_0

/-- The first half of trip `t`: the scores of query tile `2 t + 1`, the probabilities of tile `2 t`, the sums of tile `2 t - 1`, the
    scores of tile `2 t + 2`. -/
def halfA (e : Env F) (i : grid0.Coords) (a0 : BitVec 32) (v53 : IVec S512x512 32) (t : Fin (k0_t1_loop i).trips) (st : St F) : Mid F where
  s1 := k0_pay1 i a0 v53 0#32 1#32 t e.kb (VecWindow.window e.q (k0_off3 i t 1#32) S512x192.size (k0_off3_inb i t 0))
  d1 := k0_pay3 (k0_pay2 e.vb (VecWindow.window e.dout (k0_off4 i t 1#32) S512x128.size (k0_off4_inb i t 0)))
  p0 := k0_pay5 st.s0 (VecWindow.window e.lse (k0_off5 i t) S1x1x512.size (k0_off5_inb i t))
  z0 := k0_pay7 (k0_pay6 st.s0 (VecWindow.window e.lse (k0_off5 i t) S1x1x512.size (k0_off5_inb i t)) st.d0
    (VecWindow.window e.delta (k0_off5 i t) S1x1x512.size (k0_off5_inb i t)))
  dv := k0_pay8 st.dv st.p1 (VecWindow.window e.dout (k0_off6 i t) S512x128.size (k0_off6_inb i t))
  dk := k0_pay10 st.z1 st.dk (VecWindow.window e.q (k0_off7 i t) S512x192.size (k0_off7_inb i t))
  dq := VecWindow.put st.dq (k0_off7 i t) S512x192.size
    (k0_pay12 (k0_pay9 st.z1) (VecWindow.window st.dq (k0_off7 i t) S512x192.size (k0_off7_inb i t)) (k0_pay11 e.kb))
  s0 := k0_pay13 a0 v53 (Scalar.muli 2#32 (Scf.iv 0#32 1#32 t)) e.kb
    (VecWindow.window e.q (k0_off3 i t 2#32) S512x192.size (k0_off3_inb i t 1))

/-- The second half: the products of the values with the cotangents of tile `2 t + 2`, the probabilities of tile `2 t + 1`, the sums of
    tile `2 t`. -/
def halfB (e : Env F) (i : grid0.Coords) (t : Fin (k0_t1_loop i).trips) (md : Mid F) : St F where
  s0 := md.s0
  d0 := k0_pay15 (k0_pay14 e.vb) (VecWindow.window e.dout (k0_off4 i t 2#32) S512x128.size (k0_off4_inb i t 1))
  p1 := k0_pay17 md.s1 (VecWindow.window e.lse (k0_off8 i t) S1x1x512.size (k0_off8_inb i t))
  z1 := k0_pay19 (k0_pay18 md.s1 (VecWindow.window e.lse (k0_off8 i t) S1x1x512.size (k0_off8_inb i t)) md.d1
    (VecWindow.window e.delta (k0_off8 i t) S1x1x512.size (k0_off8_inb i t)))
  dv := k0_pay20 md.dv md.p0 (VecWindow.window e.dout (k0_off9 i t) S512x128.size (k0_off9_inb i t))
  dk := k0_pay22 md.z0 md.dk (VecWindow.window e.q (k0_off10 i t) S512x192.size (k0_off10_inb i t))
  dq := VecWindow.put md.dq (k0_off10 i t) S512x192.size
    (k0_pay58 (k0_pay21 md.z0) (VecWindow.window md.dq (k0_off10 i t) S512x192.size (k0_off10_inb i t)) e.kb)

/-- One trip. -/
def trip (e : Env F) (i : grid0.Coords) (a0 : BitVec 32) (v53 : IVec S512x512 32) (t : Fin (k0_t1_loop i).trips) (st : St F) : St F :=
  halfB e i t (halfA e i a0 v53 t st)

/-- The state after `n` trips. -/
def trips (e : Env F) (i : grid0.Coords) (a0 : BitVec 32) (v53 : IVec S512x512 32) (st : St F) : ℕ → St F
  | 0 => st
  | n + 1 => if h : n < (k0_t1_loop i).trips then trip e i a0 v53 ⟨n, h⟩ (trips e i a0 v53 st n) else trips e i a0 v53 st n

theorem trips_succ (e : Env F) (i : grid0.Coords) (a0 : BitVec 32) (v53 : IVec S512x512 32) (st : St F) (t : Fin (k0_t1_loop i).trips) :
    trips e i a0 v53 st (t.val + 1) = trip e i a0 v53 t (trips e i a0 v53 st t.val) := dif_pos t.isLt

/-- The chunk differences a grid point computes at its start: of the query's chunk of 64 and the key's. -/
def chunkDiff : IVec S512x512 32 :=
  k0_pay50 k0_pay46 (iota .tc S512x512 32 [1] iota_S512x512_d1_w32) 64#32 k0_pay47 k0_pay48 k0_pay49

/-- The grid point's number as the kernel's word. -/
abbrev word (i : grid0.Coords) : BitVec 32 := BitVec.ofNat 32 (i 0).val

/-- The state before the first trip: the scores of the point's own query tile, nothing summed for keys and values, and what the points
    before left in the queries' sum. -/
def start (e : Env F) (i : grid0.Coords) (dq : Vec F S16384x192 .f32) : St F where
  s0 := k0_pay56 chunkDiff (Scalar.select (Scalar.cmpi .slt (Scalar.addi (word i) 0#32) 32#32) 0#32 4294967280#32) (k0_pay55 e.kb)
    (VecWindow.window e.q (k0_off1 i) S512x192.size (k0_off1_inb i))
  d0 := k0_pay57 e.vb (VecWindow.window e.dout (k0_off2 i) S512x128.size (k0_off2_inb i))
  p1 := k0_pay53
  z1 := k0_pay54
  dk := k0_pay51
  dv := k0_pay52
  dq := dq

/-- The sums of the query tile taken last, after the last trip: first the values', -/
def lastV (e : Env F) (i : grid0.Coords) (st : St F) : St F :=
  { st with dv := k0_pay60 st.dv st.p1 (VecWindow.window e.dout (k0_off19 i) S512x128.size (k0_off19_inb i)) }

/-- then the keys' and the queries'. -/
def lastK (e : Env F) (i : grid0.Coords) (st : St F) : St F :=
  { st with
    dk := k0_pay62 st.z1 st.dk (VecWindow.window e.q (k0_off20 i) S512x192.size (k0_off20_inb i))
    dq := VecWindow.put st.dq (k0_off20 i) S512x192.size
      (k0_pay63 st.z1 (VecWindow.window st.dq (k0_off20 i) S512x192.size (k0_off20_inb i)) e.kb) }

/-- The state a grid point ends in: the start, all trips, the last sums. -/
def final (e : Env F) (i : grid0.Coords) (dq : Vec F S16384x192 .f32) : St F :=
  lastK e i (lastV e i (trips e i (word i) chunkDiff (start e i dq) (k0_t1_loop i).trips))

end Cert.KernelIdeal.Bwd
-- ==== Proof.KI.HalfA.lean ====
/-
  The first half of one trip of the kernel's loop, run once at a symbolic trip: from the state before the trip to the state half a trip
  on (`Bwd.halfA`).
-/
module

public import proofs.«01_k».proof.Proof.KI.Tiles
public import Idealize.ShloMosaic.Lib.Pipeline.Frame
public import Idealize.ShloMosaic.Lib.Tactic
public import Idealize.ShloMosaic.Lib.Transfers

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (Pipeline.UD sig nD τ) ℕ

/-- The two slots of a double buffer do not meet: a store into slot 0 leaves slot 1, and the other way about. -/
theorem slot0_put1 {α : Type} (x : S2x512x512.Idx → α) (w : S1x512x512.Idx → α) :
    slot0 (VecWindow.put x ![1, 0, 0] S1x512x512.size w) = slot0 x :=
  VecWindow.window_put_of_disjoint x _ _ _ _ _ w 0 (by decide)
theorem slot1_put0 {α : Type} (x : S2x512x512.Idx → α) (w : S1x512x512.Idx → α) :
    slot1 (VecWindow.put x ![0, 0, 0] S1x512x512.size w) = slot1 x :=
  VecWindow.window_put_of_disjoint x _ _ _ _ _ w 0 (by decide)
theorem slot0_put0 {α : Type} (x : S2x512x512.Idx → α) (w : S1x512x512.Idx → α) :
    slot0 (VecWindow.put x ![0, 0, 0] S1x512x512.size w) = w := VecWindow.window_put_same x _ _ _ w
theorem slot1_put1 {α : Type} (x : S2x512x512.Idx → α) (w : S1x512x512.Idx → α) :
    slot1 (VecWindow.put x ![1, 0, 0] S1x512x512.size w) = w := VecWindow.window_put_same x _ _ _ w

/-- A load at a unit-stride rectangle, of contents that read `X`, reads the window of `X`. -/
theorem load_window {sp : Space} {s : Shape} {ty : EltTy} (v : View sig .tc sp s ty) (f : v.ty.Contents (Elt F)) {X : s.Idx → Elt F ty}
    (e : v.read (Elt F) f = X) (off size : Fin s.rank → ℕ) (inb : ∀ a, off a + size a ≤ s.size a) :
    v.readAt (Elt F) (Rect.unit off size inb).toLoadRect f = VecWindow.window X off size inb := by subst e; rfl

/-- A load of the whole, of contents that read `X`, reads `X`. -/
theorem load_whole {sp : Space} {s : Shape} {ty : EltTy} (v : View sig .tc sp s ty) (f : v.ty.Contents (Elt F)) {X : s.Idx → Elt F ty}
    (e : v.read (Elt F) f = X) {off : Fin s.rank → ℕ} (inb : ∀ a, off a + s.size a ≤ s.size a) :
    v.readAt (Elt F) (Rect.unit off s.size inb).toLoadRect f = X := (View.readAt_full v f inb).trans e

/-- One store over contents that read `X` leaves `X` with the payload put there; -/
theorem store_put {sp : Space} {s : Shape} {ty : EltTy} (v : View sig .tc sp s ty) (f : v.ty.Contents (Elt F)) {X : s.Idx → Elt F ty}
    (e : v.read (Elt F) f = X) (off size : Fin s.rank → ℕ) (inb : ∀ a, off a + size a ≤ s.size a) (w : (Rect.unit off size inb).shape.Idx → Elt F ty) :
    v.read (Elt F) (v.writes (Elt F) f [⟨Rect.unit off size inb, w⟩]) = VecWindow.put X off size w := by
  rw [View.read_writes_cons_put v f inb w [] rfl, View.writes_nil, e]

/-- two stores, the later one listed first, put both. -/
theorem store_put₂ {sp : Space} {s : Shape} {ty : EltTy} (v : View sig .tc sp s ty) (f : v.ty.Contents (Elt F)) {X : s.Idx → Elt F ty}
    (e : v.read (Elt F) f = X) (off size : Fin s.rank → ℕ) (inb : ∀ a, off a + size a ≤ s.size a) (w : (Rect.unit off size inb).shape.Idx → Elt F ty)
    (off' size' : Fin s.rank → ℕ) (inb' : ∀ a, off' a + size' a ≤ s.size a) (w' : (Rect.unit off' size' inb').shape.Idx → Elt F ty) :
    v.read (Elt F) (v.writes (Elt F) f [⟨Rect.unit off size inb, w⟩, ⟨Rect.unit off' size' inb', w'⟩])
      = VecWindow.put (VecWindow.put X off' size' w') off size w := by
  rw [View.read_writes_cons_put v f inb w _ rfl, store_put v f e]

/-- A store of the whole leaves the payload. -/
theorem store_whole {sp : Space} {s : Shape} {ty : EltTy} (v : View sig .tc sp s ty) (f : v.ty.Contents (Elt F))
    {off : Fin s.rank → ℕ} (inb : ∀ a, off a + s.size a ≤ s.size a) (w : (Rect.unit off s.size inb).shape.Idx → Elt F ty) :
    v.read (Elt F) (v.writes (Elt F) f [⟨Rect.unit off s.size inb, w⟩]) = w := View.read_writes_full v f inb w []

set_option maxHeartbeats 1000000 in
/-- The first half of a trip, before any continuation `K` that reads the running number and the values' tile. -/
theorem runA (c : Dev nD) (i : grid0.Coords) (arg1 : Memref sig .tc .hbm S16384x192 .bf16) (harg1 : arg1.IsWhole) (arg2 : Memref sig .tc .vmem S512x192 .bf16) (harg2 : arg2.IsWhole) (arg3 : Memref sig .tc .vmem S512x128 .bf16) (harg3 : arg3.IsWhole) (arg4 : Memref sig .tc .hbm S16384x128 .bf16) (harg4 : arg4.IsWhole) (arg5 : Memref sig .tc .vmem S32x1x512 .f32) (harg5 : arg5.IsWhole) (arg6 : Memref sig .tc .vmem S32x1x512 .f32) (harg6 : arg6.IsWhole) (arg7 : Memref sig .tc .hbm S16384x192 .f32) (harg7 : arg7.IsWhole) (arg8 : Memref sig .tc .vmem S512x192 .f32) (harg8 : arg8.IsWhole) (arg9 : Memref sig .tc .vmem S512x128 .f32) (harg9 : arg9.IsWhole) (arg10 : Memref sig .tc .vmem S16384x192 .bf16) (harg10 : arg10.IsWhole) (arg11 : Memref sig .tc .vmem S16384x128 .bf16) (harg11 : arg11.IsWhole) (arg12 : Memref sig .tc .vmem S16384x192 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S512x192 .f32) (harg17 : arg17.IsWhole) (arg18 : Memref sig .tc .vmem S512x128 .f32) (harg18 : arg18.IsWhole) (v175_r0 : DmaSems sig S_) (v175_r1 : DmaSems sig S_) (v171_r2 : DmaSems sig S_) (arg0 : BitVec 32) (v53 : IVec S512x512 32) (q2 q3 q5 q6 : PosShare TreeShare) (e : Env F) (st : St F) (t : Fin (k0_t1_loop i).trips)
    (x13 x14 : Vec F S2x512x512 .f32) (x15 x16 : Vec F S2x512x512 .bf16)
    (h13 : slot0 x13 = st.s0) (h14 : slot0 x14 = st.d0) (h15 : slot1 x15 = st.p1) (h16 : slot1 x16 = st.z1)
    (K : BitVec 32 → FVec F S512x128 .bf16 → Prog (TpuEff nD τ sig (Elt F) Λ₀ .tc) Unit) (Q : Unit → sProp 𝕄) :
    iprop(owns (c : Thread nD τ) arg2 q2 e.kb ∗ owns (c : Thread nD τ) arg3 q3 e.vb ∗ owns (c : Thread nD τ) arg5 q5 e.lse
        ∗ owns (c : Thread nD τ) arg6 q6 e.delta ∗ owns (c : Thread nD τ) arg10 fullShare e.q ∗ owns (c : Thread nD τ) arg11 fullShare e.dout
        ∗ owns (c : Thread nD τ) arg12 fullShare st.dq ∗ owns (c : Thread nD τ) arg13 fullShare x13 ∗ owns (c : Thread nD τ) arg14 fullShare x14
        ∗ owns (c : Thread nD τ) arg15 fullShare x15 ∗ owns (c : Thread nD τ) arg16 fullShare x16
        ∗ owns (c : Thread nD τ) arg17 fullShare st.dk ∗ owns (c : Thread nD τ) arg18 fullShare st.dv
        ∗ (∀ y13 y14 y15 y16, ⌜slot0 y13 = (halfA e i arg0 v53 t st).s0 ∧ slot1 y13 = (halfA e i arg0 v53 t st).s1
              ∧ slot1 y14 = (halfA e i arg0 v53 t st).d1 ∧ slot0 y15 = (halfA e i arg0 v53 t st).p0
              ∧ slot0 y16 = (halfA e i arg0 v53 t st).z0⌝
            -∗ iprop(owns (c : Thread nD τ) arg2 q2 e.kb ∗ owns (c : Thread nD τ) arg3 q3 e.vb ∗ owns (c : Thread nD τ) arg5 q5 e.lse
              ∗ owns (c : Thread nD τ) arg6 q6 e.delta ∗ owns (c : Thread nD τ) arg10 fullShare e.q ∗ owns (c : Thread nD τ) arg11 fullShare e.dout
              ∗ owns (c : Thread nD τ) arg12 fullShare (halfA e i arg0 v53 t st).dq
              ∗ owns (c : Thread nD τ) arg13 fullShare y13 ∗ owns (c : Thread nD τ) arg14 fullShare y14
              ∗ owns (c : Thread nD τ) arg15 fullShare y15 ∗ owns (c : Thread nD τ) arg16 fullShare y16
              ∗ owns (c : Thread nD τ) arg17 fullShare (halfA e i arg0 v53 t st).dk ∗ owns (c : Thread nD τ) arg18 fullShare (halfA e i arg0 v53 t st).dv)
            -∗ wp frame (wpE (defs₀ (F := F)) Variants.none c none) Set.univ (K (Scalar.muli 2#32 (Scf.iv 0#32 1#32 t)) (k0_pay14 e.vb)) Q))
      ⊢ wp frame (wpE (defs₀ (F := F)) Variants.none c none) Set.univ (do
          let ⟨v171, v203⟩ : Σ' (v171 : BitVec 32), FVec F S512x512 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v175_r0 v175_r1 v171_r2 arg0 v53 0#32 1#32 t
          let ⟨v237, v238⟩ : Σ' (v237 : FVec F S512x512 .bf16), Vec F S1x512x512 .bf16 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v175_r0 v175_r1 v171_r2 arg0 t v171 v203
          let ⟨v246, v258, v268, v270⟩ : Σ' (v246 : BitVec 32) (v258 : FVec F S512x512 .bf16) (v268 : Vec F S512x192 .f32), FVec F S512x192 .bf16 ←
            k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v175_r0 v175_r1 v171_r2 arg0 t v171 v237 v238
          let v300 : FVec F S512x128 .bf16 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v175_r0 v175_r1 v171_r2 arg0 v53 t v171 v246 v258 v268 v270
          K v171 v300) Q := by
  simp only [k0_part1_eq_skeleton, k0_part2_eq_skeleton, k0_part3_eq_skeleton, k0_part4_eq_skeleton]
  unfold k0_part1_skel k0_part2_skel k0_part3_skel k0_part4_skel
  unfold owns
  iintro ⟨⟨%f2, %e2, H2⟩, ⟨%f3, %e3, H3⟩, ⟨%f5, %e5, H5⟩, ⟨%f6, %e6, H6⟩, ⟨%f10, %e10, H10⟩, ⟨%f11, %e11, H11⟩, ⟨%f12, %e12, H12⟩,
    ⟨%f13, %e13, H13⟩, ⟨%f14, %e14, H14⟩, ⟨%f15, %e15, H15⟩, ⟨%f16, %e16, H16⟩, ⟨%f17, %e17, H17⟩, ⟨%f18, %e18, H18⟩, Hk⟩
  sl_exec
  have r2 := load_whole arg2.view f2 e2 inb_S512x192_S512x192_0_0
  have r3 := load_whole arg3.view f3 e3 inb_S512x128_S512x128_0_0
  have r17 := load_whole arg17.view f17 e17 inb_S512x192_S512x192_0_0
  have r18 := load_whole arg18.view f18 e18 inb_S512x128_S512x128_0_0
  have r13 : runA.sl.v207 c arg13 f13 = st.s0 := (load_window arg13.view f13 e13 _ _ _).trans h13
  have r14 : runA.sl.v224 c arg14 f14 = st.d0 := (load_window arg14.view f14 e14 _ _ _).trans h14
  have r15 : runA.sl.v248 c arg15 f15 = st.p1 := (load_window arg15.view f15 e15 _ _ _).trans h15
  have r16 : runA.sl.v257 c arg16 f16 = st.z1 := (load_window arg16.view f16 e16 _ _ _).trans h16
  have r171 : runA.sl.v171 i t = Scalar.muli 2#32 (Scf.iv 0#32 1#32 t) := rfl
  rw [r3, r171]
  iapply Hk $$ %(VecWindow.put (VecWindow.put x13 ![1, 0, 0] S1x512x512.size (halfA e i arg0 v53 t st).s1) ![0, 0, 0] S1x512x512.size (halfA e i arg0 v53 t st).s0)
    %(VecWindow.put x14 ![1, 0, 0] S1x512x512.size (halfA e i arg0 v53 t st).d1)
    %(VecWindow.put x15 ![0, 0, 0] S1x512x512.size (halfA e i arg0 v53 t st).p0)
    %(VecWindow.put x16 ![0, 0, 0] S1x512x512.size (halfA e i arg0 v53 t st).z0) [] [H2 H3 H5 H6 H10 H11 H12 H13 H14 H15 H16 H17 H18]
  rotate_left
  · isplitl [H2]; · iexists f2; isplitr; · ipureintro; exact e2
                    iexact H2
    isplitl [H3]; · iexists f3; isplitr; · ipureintro; exact e3
                    iexact H3
    isplitl [H5]; · iexists f5; isplitr; · ipureintro; exact e5
                    iexact H5
    isplitl [H6]; · iexists f6; isplitr; · ipureintro; exact e6
                    iexact H6
    isplitl [H10]; · iexists f10; isplitr; · ipureintro; exact e10
                     iexact H10
    isplitl [H11]; · iexists f11; isplitr; · ipureintro; exact e11
                     iexact H11
    isplitl [H12]
    · iexists _; isplitr; swap; · iexact H12
      ipureintro; rw [store_put _ _ e12]; simp only [halfA, r2, r3, r13, r14, r15, r16, r17, r18, r171, load_window arg10.view f10 e10, load_window arg11.view f11 e11,
        load_window arg5.view f5 e5, load_window arg6.view f6 e6, load_window arg12.view f12 e12]
    isplitl [H13]
    · iexists _; isplitr; swap; · iexact H13
      ipureintro; rw [store_put₂ _ _ e13]; simp only [halfA, r2, r3, r13, r14, r15, r16, r17, r18, r171, load_window arg10.view f10 e10, load_window arg11.view f11 e11,
        load_window arg5.view f5 e5, load_window arg6.view f6 e6, load_window arg12.view f12 e12]
    isplitl [H14]
    · iexists _; isplitr; swap; · iexact H14
      ipureintro; rw [store_put _ _ e14]; simp only [halfA, r2, r3, r13, r14, r15, r16, r17, r18, r171, load_window arg10.view f10 e10, load_window arg11.view f11 e11,
        load_window arg5.view f5 e5, load_window arg6.view f6 e6, load_window arg12.view f12 e12]
    isplitl [H15]
    · iexists _; isplitr; swap; · iexact H15
      ipureintro; rw [store_put _ _ e15]; simp only [halfA, r2, r3, r13, r14, r15, r16, r17, r18, r171, load_window arg10.view f10 e10, load_window arg11.view f11 e11,
        load_window arg5.view f5 e5, load_window arg6.view f6 e6, load_window arg12.view f12 e12]
    isplitl [H16]
    · iexists _; isplitr; swap; · iexact H16
      ipureintro; rw [store_put _ _ e16]; simp only [halfA, r2, r3, r13, r14, r15, r16, r17, r18, r171, load_window arg10.view f10 e10, load_window arg11.view f11 e11,
        load_window arg5.view f5 e5, load_window arg6.view f6 e6, load_window arg12.view f12 e12]
    isplitl [H17]
    · iexists _; isplitr; swap; · iexact H17
      ipureintro; rw [store_whole]; simp only [halfA, r2, r3, r13, r14, r15, r16, r17, r18, r171, load_window arg10.view f10 e10, load_window arg11.view f11 e11,
        load_window arg5.view f5 e5, load_window arg6.view f6 e6, load_window arg12.view f12 e12]
    iexists _; isplitr; swap; · iexact H18
    ipureintro; rw [store_whole]; simp only [halfA, r2, r3, r13, r14, r15, r16, r17, r18, r171, load_window arg10.view f10 e10, load_window arg11.view f11 e11,
        load_window arg5.view f5 e5, load_window arg6.view f6 e6, load_window arg12.view f12 e12]
  · ipureintro
    exact ⟨slot0_put0 _ _, (slot1_put0 _ _).trans (slot1_put1 _ _), slot1_put1 _ _, slot0_put0 _ _, slot0_put0 _ _⟩

end Cert.KernelIdeal.Bwd
-- ==== Proof.KI.HalfB.lean ====
/-
  The second half of one trip of the kernel's loop, run once at a symbolic trip: from the state half a trip on to the state after the
  trip (`Bwd.halfB`).
-/
module

public import proofs.«01_k».proof.Proof.KI.HalfA

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (Pipeline.UD sig nD τ) ℕ

set_option maxHeartbeats 1000000 in
/-- The second half of a trip. -/
theorem runB (c : Dev nD) (i : grid0.Coords) (arg1 : Memref sig .tc .hbm S16384x192 .bf16) (harg1 : arg1.IsWhole) (arg2 : Memref sig .tc .vmem S512x192 .bf16) (harg2 : arg2.IsWhole) (arg3 : Memref sig .tc .vmem S512x128 .bf16) (harg3 : arg3.IsWhole) (arg4 : Memref sig .tc .hbm S16384x128 .bf16) (harg4 : arg4.IsWhole) (arg5 : Memref sig .tc .vmem S32x1x512 .f32) (harg5 : arg5.IsWhole) (arg6 : Memref sig .tc .vmem S32x1x512 .f32) (harg6 : arg6.IsWhole) (arg7 : Memref sig .tc .hbm S16384x192 .f32) (harg7 : arg7.IsWhole) (arg8 : Memref sig .tc .vmem S512x192 .f32) (harg8 : arg8.IsWhole) (arg9 : Memref sig .tc .vmem S512x128 .f32) (harg9 : arg9.IsWhole) (arg10 : Memref sig .tc .vmem S16384x192 .bf16) (harg10 : arg10.IsWhole) (arg11 : Memref sig .tc .vmem S16384x128 .bf16) (harg11 : arg11.IsWhole) (arg12 : Memref sig .tc .vmem S16384x192 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S512x192 .f32) (harg17 : arg17.IsWhole) (arg18 : Memref sig .tc .vmem S512x128 .f32) (harg18 : arg18.IsWhole) (v175_r0 : DmaSems sig S_) (v175_r1 : DmaSems sig S_) (v171_r2 : DmaSems sig S_) (arg0 : BitVec 32) (v53 : IVec S512x512 32) (q2 q3 q5 q6 : PosShare TreeShare) (e : Env F) (md : Mid F) (t : Fin (k0_t1_loop i).trips)
    (x13 x14 : Vec F S2x512x512 .f32) (x15 x16 : Vec F S2x512x512 .bf16)
    (h13a : slot0 x13 = md.s0) (h13 : slot1 x13 = md.s1) (h14 : slot1 x14 = md.d1) (h15 : slot0 x15 = md.p0) (h16 : slot0 x16 = md.z0)
    (v171 : BitVec 32) (Q : Unit → sProp 𝕄) :
    iprop(owns (c : Thread nD τ) arg2 q2 e.kb ∗ owns (c : Thread nD τ) arg3 q3 e.vb ∗ owns (c : Thread nD τ) arg5 q5 e.lse
        ∗ owns (c : Thread nD τ) arg6 q6 e.delta ∗ owns (c : Thread nD τ) arg10 fullShare e.q ∗ owns (c : Thread nD τ) arg11 fullShare e.dout
        ∗ owns (c : Thread nD τ) arg12 fullShare md.dq ∗ owns (c : Thread nD τ) arg13 fullShare x13 ∗ owns (c : Thread nD τ) arg14 fullShare x14
        ∗ owns (c : Thread nD τ) arg15 fullShare x15 ∗ owns (c : Thread nD τ) arg16 fullShare x16
        ∗ owns (c : Thread nD τ) arg17 fullShare md.dk ∗ owns (c : Thread nD τ) arg18 fullShare md.dv
        ∗ (∀ y13 y14 y15 y16, ⌜slot0 y13 = (halfB e i t md).s0 ∧ slot0 y14 = (halfB e i t md).d0
              ∧ slot1 y15 = (halfB e i t md).p1 ∧ slot1 y16 = (halfB e i t md).z1⌝
            -∗ iprop(owns (c : Thread nD τ) arg2 q2 e.kb ∗ owns (c : Thread nD τ) arg3 q3 e.vb ∗ owns (c : Thread nD τ) arg5 q5 e.lse
              ∗ owns (c : Thread nD τ) arg6 q6 e.delta ∗ owns (c : Thread nD τ) arg10 fullShare e.q ∗ owns (c : Thread nD τ) arg11 fullShare e.dout
              ∗ owns (c : Thread nD τ) arg12 fullShare (halfB e i t md).dq
              ∗ owns (c : Thread nD τ) arg13 fullShare y13 ∗ owns (c : Thread nD τ) arg14 fullShare y14
              ∗ owns (c : Thread nD τ) arg15 fullShare y15 ∗ owns (c : Thread nD τ) arg16 fullShare y16
              ∗ owns (c : Thread nD τ) arg17 fullShare (halfB e i t md).dk ∗ owns (c : Thread nD τ) arg18 fullShare (halfB e i t md).dv)
            -∗ Q ⟨⟩))
      ⊢ wp frame (wpE (defs₀ (F := F)) Variants.none c none) Set.univ (do
          let v340 : FVec F S512x512 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v175_r0 v175_r1 v171_r2 arg0 t v171 (k0_pay14 e.vb)
          let ⟨v351, v363⟩ : Σ' (v351 : BitVec 32), FVec F S512x512 .bf16 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v175_r0 v175_r1 v171_r2 arg0 t v171 v340
          let v373 : Vec F S512x192 .f32 ← Prog.lift (.load arg12 (Rect.unit (s := S16384x192) (k0_off10 i t) S512x192.size (k0_off10_inb i t)).toLoadRect (View.loadsAt_vmem h_S512x192))
          let v374 : Vec F S512x192 .bf16 ← Prog.lift (.load arg2 (Rect.unit (s := S512x192) ![0, 0] S512x192.size inb_S512x192_S512x192_0_0).toLoadRect (View.loadsAt_vmem h_S512x192))
          let v379 : Vec F S512x192 .f32 ← Prog.lift (.load arg12 (Rect.unit (s := S16384x192) (k0_off10 i t) S512x192.size (k0_off10_inb i t)).toLoadRect (View.loadsAt_vmem h_S512x192))
          Prog.lift (.store arg12 (Rect.unit (s := S16384x192) (k0_off10 i t) S512x192.size (k0_off10_inb i t)) (k0_pay58 v363 v373 v374) Finset.univ (View.stores_vmem_bits_univ h_S512x192 rfl) (.inl rfl))
          pure ⟨⟩) Q := by
  simp only [k0_part5_eq_skeleton, k0_part6_eq_skeleton]
  unfold k0_part5_skel k0_part6_skel
  unfold owns
  iintro ⟨⟨%f2, %e2, H2⟩, ⟨%f3, %e3, H3⟩, ⟨%f5, %e5, H5⟩, ⟨%f6, %e6, H6⟩, ⟨%f10, %e10, H10⟩, ⟨%f11, %e11, H11⟩, ⟨%f12, %e12, H12⟩,
    ⟨%f13, %e13, H13⟩, ⟨%f14, %e14, H14⟩, ⟨%f15, %e15, H15⟩, ⟨%f16, %e16, H16⟩, ⟨%f17, %e17, H17⟩, ⟨%f18, %e18, H18⟩, Hk⟩
  sl_exec
  have r2 := load_whole arg2.view f2 e2 inb_S512x192_S512x192_0_0
  have r3 := load_whole arg3.view f3 e3 inb_S512x128_S512x128_0_0
  have r17 := load_whole arg17.view f17 e17 inb_S512x192_S512x192_0_0
  have r18 := load_whole arg18.view f18 e18 inb_S512x128_S512x128_0_0
  have r13 := (load_window arg13.view f13 e13 ![1, 0, 0] S1x512x512.size inb_S2x512x512_S1x512x512_1_0_0).trans h13
  have r14 : runB.sl.v330 c arg14 f14 = md.d1 := (load_window arg14.view f14 e14 _ _ _).trans h14
  have r15 : runB.sl.v353 c arg15 f15 = md.p0 := (load_window arg15.view f15 e15 _ _ _).trans h15
  have r16 : runB.sl.v362 c arg16 f16 = md.z0 := (load_window arg16.view f16 e16 _ _ _).trans h16
  sl_step
  iapply Hk $$ %x13
    %(VecWindow.put x14 ![0, 0, 0] S1x512x512.size (halfB e i t md).d0)
    %(VecWindow.put x15 ![1, 0, 0] S1x512x512.size (halfB e i t md).p1)
    %(VecWindow.put x16 ![1, 0, 0] S1x512x512.size (halfB e i t md).z1) [] [H2 H3 H5 H6 H10 H11 H12 H13 H14 H15 H16 H17 H18]
  rotate_left
  · isplitl [H2]; · iexists f2; isplitr; · ipureintro; exact e2
                    iexact H2
    isplitl [H3]; · iexists f3; isplitr; · ipureintro; exact e3
                    iexact H3
    isplitl [H5]; · iexists f5; isplitr; · ipureintro; exact e5
                    iexact H5
    isplitl [H6]; · iexists f6; isplitr; · ipureintro; exact e6
                    iexact H6
    isplitl [H10]; · iexists f10; isplitr; · ipureintro; exact e10
                     iexact H10
    isplitl [H11]; · iexists f11; isplitr; · ipureintro; exact e11
                     iexact H11
    isplitl [H12]
    · iexists _; isplitr; swap; · iexact H12
      ipureintro; rw [store_put _ _ e12]; simp only [halfB, r2, r3, r13, r14, r15, r16, r17, r18, load_window arg10.view f10 e10, load_window arg11.view f11 e11,
        load_window arg5.view f5 e5, load_window arg6.view f6 e6, load_window arg12.view f12 e12]
    isplitl [H13]
    · iexists _; isplitr; swap; · iexact H13
      ipureintro; exact e13
    isplitl [H14]
    · iexists _; isplitr; swap; · iexact H14
      ipureintro; rw [store_put _ _ e14]; simp only [halfB, r2, r3, r13, r14, r15, r16, r17, r18, load_window arg10.view f10 e10, load_window arg11.view f11 e11,
        load_window arg5.view f5 e5, load_window arg6.view f6 e6, load_window arg12.view f12 e12]
    isplitl [H15]
    · iexists _; isplitr; swap; · iexact H15
      ipureintro; rw [store_put _ _ e15]; simp only [halfB, r2, r3, r13, r14, r15, r16, r17, r18, load_window arg10.view f10 e10, load_window arg11.view f11 e11,
        load_window arg5.view f5 e5, load_window arg6.view f6 e6, load_window arg12.view f12 e12]
    isplitl [H16]
    · iexists _; isplitr; swap; · iexact H16
      ipureintro; rw [store_put _ _ e16]; simp only [halfB, r2, r3, r13, r14, r15, r16, r17, r18, load_window arg10.view f10 e10, load_window arg11.view f11 e11,
        load_window arg5.view f5 e5, load_window arg6.view f6 e6, load_window arg12.view f12 e12]
    isplitl [H17]
    · iexists _; isplitr; swap; · iexact H17
      ipureintro; rw [store_whole]; simp only [halfB, r2, r3, r13, r14, r15, r16, r17, r18, load_window arg10.view f10 e10, load_window arg11.view f11 e11,
        load_window arg5.view f5 e5, load_window arg6.view f6 e6, load_window arg12.view f12 e12]
    iexists _; isplitr; swap; · iexact H18
    ipureintro; rw [store_whole]; simp only [halfB, r2, r3, r13, r14, r15, r16, r17, r18, load_window arg10.view f10 e10, load_window arg11.view f11 e11,
        load_window arg5.view f5 e5, load_window arg6.view f6 e6, load_window arg12.view f12 e12]
  · ipureintro
    exact ⟨h13a, slot0_put0 _ _, slot1_put1 _ _, slot1_put1 _ _⟩

end Cert.KernelIdeal.Bwd
-- ==== Proof.KI.Loop.lean ====
/-
  The kernel's two counted loops, run through: the first takes the state by `Bwd.trips`; the second makes no trip.
-/
module

public import proofs.«01_k».proof.Proof.KI.HalfB

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (Pipeline.UD sig nD τ) ℕ

/-- What the loops hold: the four blocks a grid point reads, the two copies of the whole inputs, and the seven scratch buffers, whose
    contents are the state's as far as it names them. -/
def Held (c : Dev nD) (arg2 : Memref sig .tc .vmem S512x192 .bf16) (arg3 : Memref sig .tc .vmem S512x128 .bf16) (arg5 : Memref sig .tc .vmem S32x1x512 .f32) (arg6 : Memref sig .tc .vmem S32x1x512 .f32) (q2 q3 q5 q6 : PosShare TreeShare) (e : Env F) (st : St F) : sProp 𝕄 :=
  iprop(∃ x13 x14 x15 x16, ⌜slot0 x13 = st.s0 ∧ slot0 x14 = st.d0 ∧ slot1 x15 = st.p1 ∧ slot1 x16 = st.z1⌝
    ∗ owns (c : Thread nD τ) arg2 q2 e.kb ∗ owns (c : Thread nD τ) arg3 q3 e.vb ∗ owns (c : Thread nD τ) arg5 q5 e.lse
    ∗ owns (c : Thread nD τ) arg6 q6 e.delta ∗ owns (c : Thread nD τ) (Memref.whole cc0_scratch0) fullShare e.q
    ∗ owns (c : Thread nD τ) (Memref.whole cc0_scratch1) fullShare e.dout
    ∗ owns (c : Thread nD τ) (Memref.whole cc0_scratch2) fullShare st.dq ∗ owns (c : Thread nD τ) (Memref.whole cc0_scratch3) fullShare x13
    ∗ owns (c : Thread nD τ) (Memref.whole cc0_scratch4) fullShare x14 ∗ owns (c : Thread nD τ) (Memref.whole cc0_scratch5) fullShare x15
    ∗ owns (c : Thread nD τ) (Memref.whole cc0_scratch6) fullShare x16 ∗ owns (c : Thread nD τ) (Memref.whole cc0_scratch7) fullShare st.dk
    ∗ owns (c : Thread nD τ) (Memref.whole cc0_scratch8) fullShare st.dv)

set_option maxHeartbeats 1000000 in
/-- One trip. -/
theorem loop_step (c : Dev nD) (i : grid0.Coords) (arg2 : Memref sig .tc .vmem S512x192 .bf16) (harg2 : arg2.IsWhole) (arg3 : Memref sig .tc .vmem S512x128 .bf16) (harg3 : arg3.IsWhole) (arg5 : Memref sig .tc .vmem S32x1x512 .f32) (harg5 : arg5.IsWhole) (arg6 : Memref sig .tc .vmem S32x1x512 .f32) (harg6 : arg6.IsWhole) (arg8 : Memref sig .tc .vmem S512x192 .f32) (harg8 : arg8.IsWhole) (arg9 : Memref sig .tc .vmem S512x128 .f32) (harg9 : arg9.IsWhole) (q2 q3 q5 q6 : PosShare TreeShare) (e : Env F) (st : St F)
    (arg0 : BitVec 32) (v53 : IVec S512x512 32) (v104 c2_i32 v105 v107 v109 : BitVec 32) (t : Fin (k0_t1_loop i).trips) (u : Unit) :
    Held c arg2 arg3 arg5 arg6 q2 q3 q5 q6 e st
      ⊢ wp frame (wpE (defs₀ (F := F)) Variants.none c none) Set.univ
          (k0_t1_body (F := F) i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 arg0 v53 v104 c2_i32 v105 v107 v109 t u)
          (fun _ => Held c arg2 arg3 arg5 arg6 q2 q3 q5 q6 e (trip e i arg0 v53 t st)) := by
  unfold k0_t1_body
  unfold Held
  iintro ⟨%x13, %x14, %x15, %x16, %hx, H2, H3, H5, H6, H10, H11, H12, H13, H14, H15, H16, H17, H18⟩
  iapply (runA c i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 arg0 v53 q2 q3 q5 q6 e st t x13 x14 x15 x16 hx.1 hx.2.1 hx.2.2.1 hx.2.2.2
    (fun v171 v300 => do
          let v340 : FVec F S512x512 .f32 ← k0_part5 i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 arg0 t v171 v300
          let ⟨v351, v363⟩ : Σ' (v351 : BitVec 32), FVec F S512x512 .bf16 ← k0_part6 i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 arg0 t v171 v340
          let v373 : Vec F S512x192 .f32 ← Prog.lift (.load (Memref.whole cc0_scratch2) (Rect.unit (s := S16384x192) (k0_off10 i t) S512x192.size (k0_off10_inb i t)).toLoadRect (View.loadsAt_vmem h_S512x192))
          let v374 : Vec F S512x192 .bf16 ← Prog.lift (.load arg2 (Rect.unit (s := S512x192) ![0, 0] S512x192.size inb_S512x192_S512x192_0_0).toLoadRect (View.loadsAt_vmem h_S512x192))
          let v379 : Vec F S512x192 .f32 ← Prog.lift (.load (Memref.whole cc0_scratch2) (Rect.unit (s := S16384x192) (k0_off10 i t) S512x192.size (k0_off10_inb i t)).toLoadRect (View.loadsAt_vmem h_S512x192))
          Prog.lift (.store (Memref.whole cc0_scratch2) (Rect.unit (s := S16384x192) (k0_off10 i t) S512x192.size (k0_off10_inb i t)) (k0_pay58 v363 v373 v374) Finset.univ (View.stores_vmem_bits_univ h_S512x192 rfl) (.inl rfl))
          pure ⟨⟩))
  iframe H2 H3 H5 H6 H10 H11 H12 H13 H14 H15 H16 H17 H18
  iintro %y13 %y14 %y15 %y16 %hy ⟨H2, H3, H5, H6, H10, H11, H12, H13, H14, H15, H16, H17, H18⟩
  iapply (runB c i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 arg0 v53 q2 q3 q5 q6 e (halfA e i arg0 v53 t st) t y13 y14 y15 y16 hy.1 hy.2.1 hy.2.2.1 hy.2.2.2.1 hy.2.2.2.2
    (Scalar.muli 2#32 (Scf.iv 0#32 1#32 t)))
  iframe H2 H3 H5 H6 H10 H11 H12 H13 H14 H15 H16 H17 H18
  iintro %z13 %z14 %z15 %z16 %hz ⟨H2, H3, H5, H6, H10, H11, H12, H13, H14, H15, H16, H17, H18⟩
  iexists z13, z14, z15, z16
  isplitr; · ipureintro; exact hz
  unfold trip
  iframe H2 H3 H5 H6 H10 H11 H12 H13 H14 H15 H16 H17 H18

theorem t2_trips : ∀ i : grid0.Coords, (k0_t2_loop i).trips = 0 := by decide +kernel

/-- The loops, before any continuation. -/
theorem loops (c : Dev nD) (i : grid0.Coords) (arg2 : Memref sig .tc .vmem S512x192 .bf16) (harg2 : arg2.IsWhole) (arg3 : Memref sig .tc .vmem S512x128 .bf16) (harg3 : arg3.IsWhole) (arg5 : Memref sig .tc .vmem S32x1x512 .f32) (harg5 : arg5.IsWhole) (arg6 : Memref sig .tc .vmem S32x1x512 .f32) (harg6 : arg6.IsWhole) (arg8 : Memref sig .tc .vmem S512x192 .f32) (harg8 : arg8.IsWhole) (arg9 : Memref sig .tc .vmem S512x128 .f32) (harg9 : arg9.IsWhole) (q2 q3 q5 q6 : PosShare TreeShare) (e : Env F) (st : St F)
    (arg0 : BitVec 32) (v53 : IVec S512x512 32) (v104 c2_i32 v105 v107 v109 v126 : BitVec 32) {β : Type} (K : Prog (TpuEff nD τ sig (Elt F) Λ₀ .tc) β) (Q : β → sProp 𝕄) :
    iprop(Held c arg2 arg3 arg5 arg6 q2 q3 q5 q6 e st
        ∗ (Held c arg2 arg3 arg5 arg6 q2 q3 q5 q6 e (trips e i arg0 v53 st (k0_t1_loop i).trips)
          -∗ wp frame (wpE (defs₀ (F := F)) Variants.none c none) Set.univ K Q))
      ⊢ wp frame (wpE (defs₀ (F := F)) Variants.none c none) Set.univ (do
          Scf.Loop.for (k0_t1_loop i) (k0_t1_ok i) ⟨⟩ (k0_t1_body (F := F) i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 arg0 v53 v104 c2_i32 v105 v107 v109)
          Scf.Loop.for (k0_t2_loop i) (k0_t2_ok i) ⟨⟩ (k0_t2_body (F := F) i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 arg0 v53 v104 c2_i32 v105 v107 v109 v126)
          K) Q := by
  iintro ⟨HH, HK⟩
  iapply (Scf.wp_for_bind frame (wpE (defs₀ (F := F)) Variants.none c none) Set.univ (k0_t1_loop i).lb (k0_t1_loop i).ub (k0_t1_loop i).st (k0_t1_ok i) ()
    (k0_t1_body (F := F) i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 arg0 v53 v104 c2_i32 v105 v107 v109)
    (fun n _ => Held c arg2 arg3 arg5 arg6 q2 q3 q5 q6 e (trips e i arg0 v53 st n))
    (fun t u => by rw [trips_succ]; exact loop_step c i arg2 harg2 arg3 harg3 arg5 harg5 arg6 harg6 arg8 harg8 arg9 harg9 q2 q3 q5 q6 e _ arg0 v53 v104 c2_i32 v105 v107 v109 t u)) $$ [HH]
  · unfold trips; iexact HH
  iintro %_ HH
  iapply (Scf.wp_for_bind frame (wpE (defs₀ (F := F)) Variants.none c none) Set.univ (k0_t2_loop i).lb (k0_t2_loop i).ub (k0_t2_loop i).st (k0_t2_ok i) ()
    (k0_t2_body (F := F) i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 arg0 v53 v104 c2_i32 v105 v107 v109 v126)
    (fun n _ => Held c arg2 arg3 arg5 arg6 q2 q3 q5 q6 e (trips e i arg0 v53 st (k0_t1_loop i).trips))
    (fun t u => absurd t.isLt (by have h := t2_trips i; have := t.isLt; unfold Scf.Loop.trips at h; omega))) $$ [HH]
  · iexact HH
  iintro %_ HH
  iapply HK
  iexact HH

end Cert.KernelIdeal.Bwd
-- ==== Proof.KI.Body.lean ====
/-
  What a grid point does around its loops: the start (the zeroed sums, the first scores) and the end (the last query tile's sums, and
  the two results stored).
-/
module

public import proofs.«01_k».proof.Proof.KI.Loop

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (Pipeline.UD sig nD τ) ℕ

set_option maxHeartbeats 1000000 in
/-- The start of a grid point. -/
theorem runPre (c : Dev nD) (i : grid0.Coords) (arg1 : Memref sig .tc .hbm S16384x192 .bf16) (harg1 : arg1.IsWhole) (arg2 : Memref sig .tc .vmem S512x192 .bf16) (harg2 : arg2.IsWhole) (arg3 : Memref sig .tc .vmem S512x128 .bf16) (harg3 : arg3.IsWhole) (arg4 : Memref sig .tc .hbm S16384x128 .bf16) (harg4 : arg4.IsWhole) (arg5 : Memref sig .tc .vmem S32x1x512 .f32) (harg5 : arg5.IsWhole) (arg6 : Memref sig .tc .vmem S32x1x512 .f32) (harg6 : arg6.IsWhole) (arg7 : Memref sig .tc .hbm S16384x192 .f32) (harg7 : arg7.IsWhole) (arg8 : Memref sig .tc .vmem S512x192 .f32) (harg8 : arg8.IsWhole) (arg9 : Memref sig .tc .vmem S512x128 .f32) (harg9 : arg9.IsWhole) (arg10 : Memref sig .tc .vmem S16384x192 .bf16) (harg10 : arg10.IsWhole) (arg11 : Memref sig .tc .vmem S16384x128 .bf16) (harg11 : arg11.IsWhole) (arg12 : Memref sig .tc .vmem S16384x192 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S512x192 .f32) (harg17 : arg17.IsWhole) (arg18 : Memref sig .tc .vmem S512x128 .f32) (harg18 : arg18.IsWhole) (v175_r0 : DmaSems sig S_) (v175_r1 : DmaSems sig S_) (v171_r2 : DmaSems sig S_) (q2 q3 : PosShare TreeShare) (e : Env F) (dq : Vec F S16384x192 .f32)
    (K : IVec S512x512 32 → BitVec 32 → BitVec 32 → BitVec 32 → BitVec 32 → BitVec 32 → Prog (TpuEff nD τ sig (Elt F) Λ₀ .tc) Unit) (Q : Unit → sProp 𝕄) :
    iprop(owns (c : Thread nD τ) arg2 q2 e.kb ∗ owns (c : Thread nD τ) arg3 q3 e.vb
        ∗ owns (c : Thread nD τ) arg10 fullShare e.q ∗ owns (c : Thread nD τ) arg11 fullShare e.dout
        ∗ (∃ x, owns (c : Thread nD τ) arg13 fullShare x) ∗ (∃ x, owns (c : Thread nD τ) arg14 fullShare x)
        ∗ (∃ x, owns (c : Thread nD τ) arg15 fullShare x) ∗ (∃ x, owns (c : Thread nD τ) arg16 fullShare x)
        ∗ (∃ x, owns (c : Thread nD τ) arg17 fullShare x) ∗ (∃ x, owns (c : Thread nD τ) arg18 fullShare x)
        ∗ (∀ y13 y14 y15 y16 v104 v2 v105 v107 v109, ⌜slot0 y13 = (start e i dq).s0 ∧ slot0 y14 = (start e i dq).d0
              ∧ slot1 y15 = (start e i dq).p1 ∧ slot1 y16 = (start e i dq).z1⌝
            -∗ iprop(owns (c : Thread nD τ) arg2 q2 e.kb ∗ owns (c : Thread nD τ) arg3 q3 e.vb
              ∗ owns (c : Thread nD τ) arg10 fullShare e.q ∗ owns (c : Thread nD τ) arg11 fullShare e.dout
              ∗ owns (c : Thread nD τ) arg13 fullShare y13 ∗ owns (c : Thread nD τ) arg14 fullShare y14
              ∗ owns (c : Thread nD τ) arg15 fullShare y15 ∗ owns (c : Thread nD τ) arg16 fullShare y16
              ∗ owns (c : Thread nD τ) arg17 fullShare (start e i dq).dk ∗ owns (c : Thread nD τ) arg18 fullShare (start e i dq).dv)
            -∗ wp frame (wpE (defs₀ (F := F)) Variants.none c none) Set.univ (K chunkDiff v104 v2 v105 v107 v109) Q))
      ⊢ wp frame (wpE (defs₀ (F := F)) Variants.none c none) Set.univ (do
          let ⟨v53, v72, v74, v75, c0_i32_29⟩ : Σ' (v53 : IVec S512x512 32) (v72 : BitVec 32) (v74 : FVec F S512x192 .bf16) (v75 : BitVec 32), BitVec 32 ←
            k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v175_r0 v175_r1 v171_r2 (word i) k0_pay46 (iota .tc S512x512 32 [1] iota_S512x512_d1_w32) 64#32 k0_pay47 k0_pay48 k0_pay49
          let ⟨v104, c2_i32, v105, v107, v109⟩ : Σ' (v104 : BitVec 32) (c2_i32 : BitVec 32) (v105 : BitVec 32) (v107 : BitVec 32), BitVec 32 ←
            k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v175_r0 v175_r1 v171_r2 (word i) v53 v72 v74 v75 c0_i32_29
          K v53 v104 c2_i32 v105 v107 v109) Q := by
  simp only [k0_part14_eq_skeleton, k0_part15_eq_skeleton]
  unfold k0_part14_skel k0_part15_skel
  unfold owns
  iintro ⟨⟨%f2, %e2, H2⟩, ⟨%f3, %e3, H3⟩, ⟨%f10, %e10, H10⟩, ⟨%f11, %e11, H11⟩,
    ⟨%x13, %f13, %e13, H13⟩, ⟨%x14, %f14, %e14, H14⟩, ⟨%x15, %f15, %e15, H15⟩, ⟨%x16, %f16, %e16, H16⟩, ⟨%x17, %f17, %e17, H17⟩, ⟨%x18, %f18, %e18, H18⟩, Hk⟩
  sl_exec
  have r2 := load_whole arg2.view f2 e2 inb_S512x192_S512x192_0_0
  have r3 := load_whole arg3.view f3 e3 inb_S512x128_S512x128_0_0
  have rv : runPre.sl.v72 i = Scalar.select (Scalar.cmpi .slt (Scalar.addi (word i) 0#32) 32#32) 0#32 4294967280#32 := rfl
  iapply Hk $$ %(VecWindow.put x13 ![0, 0, 0] S1x512x512.size (start e i dq).s0) %(VecWindow.put x14 ![0, 0, 0] S1x512x512.size (start e i dq).d0)
    %(VecWindow.put x15 ![1, 0, 0] S1x512x512.size (start e i dq).p1) %(VecWindow.put x16 ![1, 0, 0] S1x512x512.size (start e i dq).z1)
    %_ %_ %_ %_ %_ [] [H2 H3 H10 H11 H13 H14 H15 H16 H17 H18]
  rotate_left
  · isplitl [H2]; · iexists f2; isplitr; · ipureintro; exact e2
                    iexact H2
    isplitl [H3]; · iexists f3; isplitr; · ipureintro; exact e3
                    iexact H3
    isplitl [H10]; · iexists f10; isplitr; · ipureintro; exact e10
                     iexact H10
    isplitl [H11]; · iexists f11; isplitr; · ipureintro; exact e11
                     iexact H11
    isplitl [H13]
    · iexists _; isplitr; swap; · iexact H13
      ipureintro; rw [store_put _ _ e13]; simp only [start, chunkDiff, r2, rv, load_window arg10.view f10 e10]
    isplitl [H14]
    · iexists _; isplitr; swap; · iexact H14
      ipureintro; rw [store_put _ _ e14]; simp only [start, r3, load_window arg11.view f11 e11]
    isplitl [H15]
    · iexists _; isplitr; swap; · iexact H15
      ipureintro; rw [store_put _ _ e15]; simp only [start]
    isplitl [H16]
    · iexists _; isplitr; swap; · iexact H16
      ipureintro; rw [store_put _ _ e16]; simp only [start]
    isplitl [H17]
    · iexists _; isplitr; swap; · iexact H17
      ipureintro; rw [store_whole]; simp only [start]
    iexists _; isplitr; swap; · iexact H18
    ipureintro; rw [store_whole]; simp only [start]
  · ipureintro
    exact ⟨slot0_put0 _ _, slot0_put0 _ _, slot1_put1 _ _, slot1_put1 _ _⟩

set_option maxHeartbeats 1000000 in
/-- The end of a grid point: the last query tile's sums for keys and queries, and the two results stored. -/
theorem runTail (c : Dev nD) (i : grid0.Coords) (arg1 : Memref sig .tc .hbm S16384x192 .bf16) (harg1 : arg1.IsWhole) (arg2 : Memref sig .tc .vmem S512x192 .bf16) (harg2 : arg2.IsWhole) (arg3 : Memref sig .tc .vmem S512x128 .bf16) (harg3 : arg3.IsWhole) (arg4 : Memref sig .tc .hbm S16384x128 .bf16) (harg4 : arg4.IsWhole) (arg5 : Memref sig .tc .vmem S32x1x512 .f32) (harg5 : arg5.IsWhole) (arg6 : Memref sig .tc .vmem S32x1x512 .f32) (harg6 : arg6.IsWhole) (arg7 : Memref sig .tc .hbm S16384x192 .f32) (harg7 : arg7.IsWhole) (arg8 : Memref sig .tc .vmem S512x192 .f32) (harg8 : arg8.IsWhole) (arg9 : Memref sig .tc .vmem S512x128 .f32) (harg9 : arg9.IsWhole) (arg10 : Memref sig .tc .vmem S16384x192 .bf16) (harg10 : arg10.IsWhole) (arg11 : Memref sig .tc .vmem S16384x128 .bf16) (harg11 : arg11.IsWhole) (arg12 : Memref sig .tc .vmem S16384x192 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S2x512x512 .bf16) (harg15 : arg15.IsWhole) (arg16 : Memref sig .tc .vmem S2x512x512 .bf16) (harg16 : arg16.IsWhole) (arg17 : Memref sig .tc .vmem S512x192 .f32) (harg17 : arg17.IsWhole) (arg18 : Memref sig .tc .vmem S512x128 .f32) (harg18 : arg18.IsWhole) (v175_r0 : DmaSems sig S_) (v175_r1 : DmaSems sig S_) (v171_r2 : DmaSems sig S_) (q2 : PosShare TreeShare) (e : Env F) (st : St F)
    (x16 : Vec F S2x512x512 .bf16) (h16 : slot1 x16 = st.z1)
    (K : Prog (TpuEff nD τ sig (Elt F) Λ₀ .tc) Unit) (Q : Unit → sProp 𝕄) :
    iprop(owns (c : Thread nD τ) arg2 q2 e.kb ∗ owns (c : Thread nD τ) arg10 fullShare e.q
        ∗ owns (c : Thread nD τ) arg12 fullShare st.dq ∗ owns (c : Thread nD τ) arg16 fullShare x16
        ∗ owns (c : Thread nD τ) arg17 fullShare st.dk ∗ owns (c : Thread nD τ) arg18 fullShare st.dv
        ∗ (∃ x, owns (c : Thread nD τ) arg8 fullShare x) ∗ (∃ x, owns (c : Thread nD τ) arg9 fullShare x)
        ∗ (iprop(owns (c : Thread nD τ) arg2 q2 e.kb ∗ owns (c : Thread nD τ) arg10 fullShare e.q
              ∗ owns (c : Thread nD τ) arg12 fullShare (lastK e i st).dq ∗ (∃ x, owns (c : Thread nD τ) arg16 fullShare x)
              ∗ (∃ x, owns (c : Thread nD τ) arg17 fullShare x) ∗ (∃ x, owns (c : Thread nD τ) arg18 fullShare x)
              ∗ owns (c : Thread nD τ) arg8 fullShare (lastK e i st).dk ∗ owns (c : Thread nD τ) arg9 fullShare (lastK e i st).dv)
            -∗ wp frame (wpE (defs₀ (F := F)) Variants.none c none) Set.univ K Q))
      ⊢ wp frame (wpE (defs₀ (F := F)) Variants.none c none) Set.univ (do
          let v144 : Vec F S1x512x512 .bf16 ← Prog.lift (.load arg16 (Rect.unit (s := S2x512x512) ![1, 0, 0] S1x512x512.size inb_S2x512x512_S1x512x512_1_0_0).toLoadRect (View.loadsAt_vmem h_S1x512x512))
          let v146 : Vec F S512x192 .f32 ← Prog.lift (.load arg17 (Rect.unit (s := S512x192) ![0, 0] S512x192.size inb_S512x192_S512x192_0_0).toLoadRect (View.loadsAt_vmem h_S512x192))
          let v148 : Vec F S512x192 .bf16 ← Prog.lift (.load arg10 (Rect.unit (s := S16384x192) (k0_off20 i) S512x192.size (k0_off20_inb i)).toLoadRect (View.loadsAt_vmem h_S512x192))
          let v151 : Vec F S512x192 .f32 ← Prog.lift (.load arg17 (Rect.unit (s := S512x192) ![0, 0] S512x192.size inb_S512x192_S512x192_0_0).toLoadRect (View.loadsAt_vmem h_S512x192))
          Prog.lift (.store arg17 (Rect.unit (s := S512x192) ![0, 0] S512x192.size inb_S512x192_S512x192_0_0) (k0_pay62 v144 v146 v148) Finset.univ (View.stores_vmem_bits_univ h_S512x192 rfl) (.inl rfl))
          let v155 : Vec F S512x192 .f32 ← Prog.lift (.load arg12 (Rect.unit (s := S16384x192) (k0_off20 i) S512x192.size (k0_off20_inb i)).toLoadRect (View.loadsAt_vmem h_S512x192))
          let v156 : Vec F S512x192 .bf16 ← Prog.lift (.load arg2 (Rect.unit (s := S512x192) ![0, 0] S512x192.size inb_S512x192_S512x192_0_0).toLoadRect (View.loadsAt_vmem h_S512x192))
          let v161 : Vec F S512x192 .f32 ← Prog.lift (.load arg12 (Rect.unit (s := S16384x192) (k0_off20 i) S512x192.size (k0_off20_inb i)).toLoadRect (View.loadsAt_vmem h_S512x192))
          Prog.lift (.store arg12 (Rect.unit (s := S16384x192) (k0_off20 i) S512x192.size (k0_off20_inb i)) (k0_pay63 v144 v155 v156) Finset.univ (View.stores_vmem_bits_univ h_S512x192 rfl) (.inl rfl))
          let v164 : Vec F S512x192 .f32 ← Prog.lift (.load arg17 (Rect.unit (s := S512x192) ![0, 0] S512x192.size inb_S512x192_S512x192_0_0).toLoadRect (View.loadsAt_vmem h_S512x192))
          let v165 : Vec F S512x192 .f32 ← Prog.lift (.load arg8 (Rect.unit (s := S512x192) ![0, 0] S512x192.size inb_S512x192_S512x192_0_0).toLoadRect (View.loadsAt_vmem h_S512x192))
          Prog.lift (.store arg8 (Rect.unit (s := S512x192) ![0, 0] S512x192.size inb_S512x192_S512x192_0_0) v164 Finset.univ (View.stores_vmem_bits_univ h_S512x192 rfl) (.inl rfl))
          let v166 : Vec F S512x128 .f32 ← Prog.lift (.load arg18 (Rect.unit (s := S512x128) ![0, 0] S512x128.size inb_S512x128_S512x128_0_0).toLoadRect (View.loadsAt_vmem h_S512x128))
          let v167 : Vec F S512x128 .f32 ← Prog.lift (.load arg9 (Rect.unit (s := S512x128) ![0, 0] S512x128.size inb_S512x128_S512x128_0_0).toLoadRect (View.loadsAt_vmem h_S512x128))
          Prog.lift (.store arg9 (Rect.unit (s := S512x128) ![0, 0] S512x128.size inb_S512x128_S512x128_0_0) v166 Finset.univ (View.stores_vmem_bits_univ h_S512x128 rfl) (.inl rfl))
          K) Q := by
  unfold owns
  iintro ⟨⟨%f2, %e2, H2⟩, ⟨%f10, %e10, H10⟩, ⟨%f12, %e12, H12⟩, ⟨%f16, %e16, H16⟩, ⟨%f17, %e17, H17⟩, ⟨%f18, %e18, H18⟩,
    ⟨%x8, %f8, %e8, H8⟩, ⟨%x9, %f9, %e9, H9⟩, Hk⟩
  sl_exec
  have r2 := load_whole arg2.view f2 e2 inb_S512x192_S512x192_0_0
  have r17 := load_whole arg17.view f17 e17 inb_S512x192_S512x192_0_0
  have r18 := load_whole arg18.view f18 e18 inb_S512x128_S512x128_0_0
  have r16 := (load_window arg16.view f16 e16 ![1, 0, 0] S1x512x512.size inb_S2x512x512_S1x512x512_1_0_0).trans h16
  have r164 : runTail.sl.v164 c i arg10 arg16 arg17 f10 f16 f17 = (lastK e i st).dk := by
    unfold runTail.sl.v164 runTail.sl.H17_1
    rw [View.readCov_full]
    simp only [lastK, r16, r17, load_window arg10.view f10 e10]
  iapply Hk
  isplitl [H2]; · iexists f2; isplitr; · ipureintro; exact e2
                  iexact H2
  isplitl [H10]; · iexists f10; isplitr; · ipureintro; exact e10
                   iexact H10
  isplitl [H12]
  · iexists _; isplitr; swap; · iexact H12
    ipureintro; rw [store_put _ _ e12]; simp only [lastK, r2, r16, load_window arg12.view f12 e12]
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H8]
  · iexists _; isplitr; swap; · iexact H8
    ipureintro; rw [store_whole, r164]
  iexists _; isplitr; swap; · iexact H9
  ipureintro; rw [store_whole, r18]; rfl

set_option maxHeartbeats 1000000 in
/-- The loops and the last query tile's sum for the values. -/
theorem run16 (c : Dev nD) (i : grid0.Coords) (arg2 : Memref sig .tc .vmem S512x192 .bf16) (harg2 : arg2.IsWhole) (arg3 : Memref sig .tc .vmem S512x128 .bf16) (harg3 : arg3.IsWhole) (arg5 : Memref sig .tc .vmem S32x1x512 .f32) (harg5 : arg5.IsWhole) (arg6 : Memref sig .tc .vmem S32x1x512 .f32) (harg6 : arg6.IsWhole) (arg8 : Memref sig .tc .vmem S512x192 .f32) (harg8 : arg8.IsWhole) (arg9 : Memref sig .tc .vmem S512x128 .f32) (harg9 : arg9.IsWhole) (q2 q3 q5 q6 : PosShare TreeShare) (e : Env F) (st : St F)
    (arg0 : BitVec 32) (v53 : IVec S512x512 32) (v104 c2_i32 v105 v107 v109 : BitVec 32) (Q : BitVec 32 → sProp 𝕄) :
    iprop(Held c arg2 arg3 arg5 arg6 q2 q3 q5 q6 e st
        ∗ (∀ v133, Held c arg2 arg3 arg5 arg6 q2 q3 q5 q6 e (lastV e i (trips e i arg0 v53 st (k0_t1_loop i).trips)) -∗ Q v133))
      ⊢ wp frame (wpE (defs₀ (F := F)) Variants.none c none) Set.univ (k0_part16 (F := F) i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 arg0 v53 v104 c2_i32 v105 v107 v109) Q := by
  rw [k0_part16_eq_skeleton]; unfold k0_part16_skel
  iintro ⟨HH, Hk⟩
  iapply (loops c i arg2 harg2 arg3 harg3 arg5 harg5 arg6 harg6 arg8 harg8 arg9 harg9 q2 q3 q5 q6 e st arg0 v53 v104 c2_i32 v105 v107 v109 _ _ Q)
  isplitl [HH]; · iexact HH
  generalize trips e i arg0 v53 st (k0_t1_loop i).trips = st'
  unfold Held owns
  iintro ⟨%x13, %x14, %x15, %x16, %hx, H2, H3, H5, H6, H10, ⟨%f11, %e11, H11⟩, H12, H13, H14, ⟨%f15, %e15, H15⟩, H16, H17, ⟨%f18, %e18, H18⟩⟩
  sl_exec
  sl_step
  have r18 := load_whole (s := S512x128) (Memref.whole cc0_scratch8).view f18 e18 inb_S512x128_S512x128_0_0
  have r15 := (load_window (s := S2x512x512) (Memref.whole cc0_scratch5).view f15 e15 ![1, 0, 0] S1x512x512.size inb_S2x512x512_S1x512x512_1_0_0).trans hx.2.2.1
  iapply Hk
  iexists x13, x14, x15, x16
  isplitr; · ipureintro; exact hx
  iframe H2 H3 H5 H6 H10 H12 H13 H14 H16 H17
  isplitl [H11]; · iexists f11; isplitr; · ipureintro; exact e11
                   iexact H11
  isplitl [H15]; · iexists f15; isplitr; · ipureintro; exact e15
                   iexact H15
  iexists _; isplitr; swap; · iexact H18
  ipureintro; refine (store_whole (s := S512x128) _ _ _ _).trans ?_
  simp only [lastV]
  rw [r15, r18, load_window (s := S16384x128) (Memref.whole cc0_scratch1).view f11 e11]

end Cert.KernelIdeal.Bwd
-- ==== Proof.KI.Transfers.lean ====
/-
  The transfers of a grid point: at the first one both inputs are copied whole and the queries' sum is zeroed, at the others
  nothing is transferred at the start.
-/
module

public import proofs.«01_k».proof.Proof.KI.Body

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (Pipeline.UD sig nD τ) ℕ

/-- A whole buffer held at given contents. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The two conditions the kernel asks of its grid point: is it the first, is it the last. -/
abbrev isFirst (i : grid0.Coords) : BitVec 1 := Scalar.cmpi .ne (Scalar.extui (Scalar.cmpi .eq (word i) 0#32)) 0#32
abbrev isLast (i : grid0.Coords) : BitVec 1 := Scalar.cmpi .ne (Scalar.extui (Scalar.cmpi .eq (word i) 31#32)) 0#32

set_option maxHeartbeats 1000000 in
/-- The first point's transfers. -/
theorem runFirst (c : Dev nD) (i : grid0.Coords) (h1 : isFirst i = 1#1) (arg2 : Memref sig .tc .vmem S512x192 .bf16) (harg2 : arg2.IsWhole) (arg3 : Memref sig .tc .vmem S512x128 .bf16) (harg3 : arg3.IsWhole) (arg5 : Memref sig .tc .vmem S32x1x512 .f32) (harg5 : arg5.IsWhole) (arg6 : Memref sig .tc .vmem S32x1x512 .f32) (harg6 : arg6.IsWhole) (arg8 : Memref sig .tc .vmem S512x192 .f32) (harg8 : arg8.IsWhole) (arg9 : Memref sig .tc .vmem S512x128 .f32) (harg9 : arg9.IsWhole)
    (fq : Buf (Elt F) ((Memref.whole main_v41 : Memref sig .tc .hbm S16384x192 .bf16).view.loc (c : Thread nD τ)))
    (fo : Buf (Elt F) ((Memref.whole main_v44 : Memref sig .tc .hbm S16384x128 .bf16).view.loc (c : Thread nD τ))) (W : Waits sig Unit)
    (Q : (Σ' (arg0 : BitVec 32) (v27 : IVec S512x512 32) (v28 : IVec S512x512 32) (c64_i32_6 : BitVec 32) (v30 : IVec S512x512 32) (v37 : IVec S512x512 32), IVec S512x512 32) → sProp 𝕄) :
    iprop(hbPt c (Memref.whole main_v41 : Memref sig .tc .hbm S16384x192 .bf16) fq ∗ hbPt c (Memref.whole main_v44 : Memref sig .tc .hbm S16384x128 .bf16) fo
        ∗ (∃ x, owns (c : Thread nD τ) (Memref.whole cc0_scratch0) fullShare x) ∗ (∃ x, owns (c : Thread nD τ) (Memref.whole cc0_scratch1) fullShare x)
        ∗ (∃ x, owns (c : Thread nD τ) (Memref.whole cc0_scratch2) fullShare x)
        ∗ semVal ((c : Thread nD τ), SemLoc.dma 10) 0 ∗ semVal ((c : Thread nD τ), SemLoc.dma 11) 0 ∗ owes (c : Thread nD τ) 0 W
        ∗ (iprop(hbPt c (Memref.whole main_v41 : Memref sig .tc .hbm S16384x192 .bf16) fq ∗ hbPt c (Memref.whole main_v44 : Memref sig .tc .hbm S16384x128 .bf16) fo
            ∗ owns (c : Thread nD τ) (Memref.whole cc0_scratch0) fullShare (fq : S16384x192.Idx → Elt F .bf16)
            ∗ owns (c : Thread nD τ) (Memref.whole cc0_scratch1) fullShare (fo : S16384x128.Idx → Elt F .bf16)
            ∗ owns (c : Thread nD τ) (Memref.whole cc0_scratch2) fullShare (k0_pay45 (F := F))
            ∗ semVal ((c : Thread nD τ), SemLoc.dma 10) 0 ∗ semVal ((c : Thread nD τ), SemLoc.dma 11) 0 ∗ (∃ W', owes (c : Thread nD τ) 0 W'))
          -∗ Q ⟨word i, k0_pay46, iota .tc S512x512 32 [1] iota_S512x512_d1_w32, 64#32, k0_pay47, k0_pay48, k0_pay49⟩))
      ⊢ wp frame (wpE (defs₀ (F := F)) Variants.none c none) Set.univ (k0_part13 (F := F) i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2) Q := by
  rw [k0_part13_eq_skeleton]; unfold k0_part13_skel
  unfold owns
  iintro ⟨Hq, Ho, ⟨%x0, %f0, %e0, H0⟩, ⟨%x1, %f1, %e1, H1⟩, ⟨%x2, %f2, %e2, H2⟩, Hs0, Hs1, HW, Hk⟩
  sl_exec (disch := exact h1)
  sl_step
  rw [show runFirst.sl.v28 = iota .tc S512x512 32 [1] iota_S512x512_d1_w32 from rfl]
  iapply Hk
  isplitl [Hq]; · iexact Hq
  isplitl [Ho]; · iexact Ho
  isplitl [H0]
  · iexists _; isplitr; swap; · iexact H0
    ipureintro; exact View.read_writes_whole (Memref.whole cc0_scratch0).view _ _
  isplitl [H1]
  · iexists _; isplitr; swap; · iexact H1
    ipureintro; exact View.read_writes_whole (Memref.whole cc0_scratch1).view _ _
  isplitl [H2]
  · iexists _; isplitr; swap; · iexact H2
    ipureintro; exact store_whole (s := S16384x192) (Memref.whole cc0_scratch2).view _ _ _
  isplitl [Hs0]; · iexact Hs0
  isplitl [Hs1]; · iexact Hs1
  iexists _; iexact HW

set_option maxHeartbeats 1000000 in
/-- At the other points nothing is transferred at the start. -/
theorem runNotFirst (c : Dev nD) (i : grid0.Coords) (h1 : ¬ isFirst i = 1#1) (arg2 : Memref sig .tc .vmem S512x192 .bf16) (harg2 : arg2.IsWhole) (arg3 : Memref sig .tc .vmem S512x128 .bf16) (harg3 : arg3.IsWhole) (arg5 : Memref sig .tc .vmem S32x1x512 .f32) (harg5 : arg5.IsWhole) (arg6 : Memref sig .tc .vmem S32x1x512 .f32) (harg6 : arg6.IsWhole) (arg8 : Memref sig .tc .vmem S512x192 .f32) (harg8 : arg8.IsWhole) (arg9 : Memref sig .tc .vmem S512x128 .f32) (harg9 : arg9.IsWhole)
    (Q : (Σ' (arg0 : BitVec 32) (v27 : IVec S512x512 32) (v28 : IVec S512x512 32) (c64_i32_6 : BitVec 32) (v30 : IVec S512x512 32) (v37 : IVec S512x512 32), IVec S512x512 32) → sProp 𝕄) :
    Q ⟨word i, k0_pay46, iota .tc S512x512 32 [1] iota_S512x512_d1_w32, 64#32, k0_pay47, k0_pay48, k0_pay49⟩
      ⊢ wp frame (wpE (defs₀ (F := F)) Variants.none c none) Set.univ (k0_part13 (F := F) i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2) Q := by
  rw [k0_part13_eq_skeleton]; unfold k0_part13_skel
  iintro Hk
  sl_exec
  rw [show runNotFirst.sl.v28 = iota .tc S512x512 32 [1] iota_S512x512_d1_w32 from rfl]
  sl_step
  iexact Hk

end Cert.KernelIdeal.Bwd
-- ==== Proof.KI.Rest.lean ====
/-
  The part of a grid point between its transfers: the start, both loops and the end, one after another.
-/
module

public import proofs.«01_k».proof.Proof.KI.Transfers

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (Pipeline.UD sig nD τ) ℕ

set_option maxHeartbeats 1000000 in
/-- From the inputs resident to both results stored. -/
theorem runRest (c : Dev nD) (i : grid0.Coords) (arg2 : Memref sig .tc .vmem S512x192 .bf16) (harg2 : arg2.IsWhole) (arg3 : Memref sig .tc .vmem S512x128 .bf16) (harg3 : arg3.IsWhole) (arg5 : Memref sig .tc .vmem S32x1x512 .f32) (harg5 : arg5.IsWhole) (arg6 : Memref sig .tc .vmem S32x1x512 .f32) (harg6 : arg6.IsWhole) (arg8 : Memref sig .tc .vmem S512x192 .f32) (harg8 : arg8.IsWhole) (arg9 : Memref sig .tc .vmem S512x128 .f32) (harg9 : arg9.IsWhole) (q2 q3 q5 q6 : PosShare TreeShare) (e : Env F) (dq : Vec F S16384x192 .f32)
    (K : Prog (TpuEff nD τ sig (Elt F) Λ₀ .tc) Unit) (Q : Unit → sProp 𝕄) :
    iprop(owns (c : Thread nD τ) arg2 q2 e.kb ∗ owns (c : Thread nD τ) arg3 q3 e.vb ∗ owns (c : Thread nD τ) arg5 q5 e.lse ∗ owns (c : Thread nD τ) arg6 q6 e.delta
        ∗ owns (c : Thread nD τ) (Memref.whole cc0_scratch0) fullShare e.q ∗ owns (c : Thread nD τ) (Memref.whole cc0_scratch1) fullShare e.dout
        ∗ owns (c : Thread nD τ) (Memref.whole cc0_scratch2) fullShare dq
        ∗ (∃ x, owns (c : Thread nD τ) (Memref.whole cc0_scratch3) fullShare x) ∗ (∃ x, owns (c : Thread nD τ) (Memref.whole cc0_scratch4) fullShare x)
        ∗ (∃ x, owns (c : Thread nD τ) (Memref.whole cc0_scratch5) fullShare x) ∗ (∃ x, owns (c : Thread nD τ) (Memref.whole cc0_scratch6) fullShare x)
        ∗ (∃ x, owns (c : Thread nD τ) (Memref.whole cc0_scratch7) fullShare x) ∗ (∃ x, owns (c : Thread nD τ) (Memref.whole cc0_scratch8) fullShare x)
        ∗ (∃ x, owns (c : Thread nD τ) arg8 fullShare x) ∗ (∃ x, owns (c : Thread nD τ) arg9 fullShare x)
        ∗ (iprop(owns (c : Thread nD τ) arg2 q2 e.kb ∗ owns (c : Thread nD τ) arg3 q3 e.vb ∗ owns (c : Thread nD τ) arg5 q5 e.lse ∗ owns (c : Thread nD τ) arg6 q6 e.delta
            ∗ owns (c : Thread nD τ) (Memref.whole cc0_scratch0) fullShare e.q ∗ owns (c : Thread nD τ) (Memref.whole cc0_scratch1) fullShare e.dout
            ∗ owns (c : Thread nD τ) (Memref.whole cc0_scratch2) fullShare (final e i dq).dq
            ∗ (∃ x, owns (c : Thread nD τ) (Memref.whole cc0_scratch3) fullShare x) ∗ (∃ x, owns (c : Thread nD τ) (Memref.whole cc0_scratch4) fullShare x)
            ∗ (∃ x, owns (c : Thread nD τ) (Memref.whole cc0_scratch5) fullShare x) ∗ (∃ x, owns (c : Thread nD τ) (Memref.whole cc0_scratch6) fullShare x)
            ∗ (∃ x, owns (c : Thread nD τ) (Memref.whole cc0_scratch7) fullShare x) ∗ (∃ x, owns (c : Thread nD τ) (Memref.whole cc0_scratch8) fullShare x)
            ∗ owns (c : Thread nD τ) arg8 fullShare (final e i dq).dk ∗ owns (c : Thread nD τ) arg9 fullShare (final e i dq).dv)
          -∗ wp frame (wpE (defs₀ (F := F)) Variants.none c none) Set.univ K Q))
      ⊢ wp frame (wpE (defs₀ (F := F)) Variants.none c none) Set.univ (do
          let ⟨v53, v72, v74, v75, c0_i32_29⟩ : Σ' (v53 : IVec S512x512 32) (v72 : BitVec 32) (v74 : FVec F S512x192 .bf16) (v75 : BitVec 32), BitVec 32 ←
            k0_part14 i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 (word i) k0_pay46 (iota .tc S512x512 32 [1] iota_S512x512_d1_w32) 64#32 k0_pay47 k0_pay48 k0_pay49
          let ⟨v104, c2_i32, v105, v107, v109⟩ : Σ' (v104 : BitVec 32) (c2_i32 : BitVec 32) (v105 : BitVec 32) (v107 : BitVec 32), BitVec 32 ←
            k0_part15 i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 (word i) v53 v72 v74 v75 c0_i32_29
          let v133 : BitVec 32 ← k0_part16 i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 (word i) v53 v104 c2_i32 v105 v107 v109
            let v144 : Vec F S1x512x512 .bf16 ← Prog.lift (.load (Memref.whole cc0_scratch6) (Rect.unit (s := S2x512x512) ![1, 0, 0] S1x512x512.size inb_S2x512x512_S1x512x512_1_0_0).toLoadRect (View.loadsAt_vmem h_S1x512x512))
            let v146 : Vec F S512x192 .f32 ← Prog.lift (.load (Memref.whole cc0_scratch7) (Rect.unit (s := S512x192) ![0, 0] S512x192.size inb_S512x192_S512x192_0_0).toLoadRect (View.loadsAt_vmem h_S512x192))
            let v148 : Vec F S512x192 .bf16 ← Prog.lift (.load (Memref.whole cc0_scratch0) (Rect.unit (s := S16384x192) (k0_off20 i) S512x192.size (k0_off20_inb i)).toLoadRect (View.loadsAt_vmem h_S512x192))
            let v151 : Vec F S512x192 .f32 ← Prog.lift (.load (Memref.whole cc0_scratch7) (Rect.unit (s := S512x192) ![0, 0] S512x192.size inb_S512x192_S512x192_0_0).toLoadRect (View.loadsAt_vmem h_S512x192))
            Prog.lift (.store (Memref.whole cc0_scratch7) (Rect.unit (s := S512x192) ![0, 0] S512x192.size inb_S512x192_S512x192_0_0) (k0_pay62 v144 v146 v148) Finset.univ (View.stores_vmem_bits_univ h_S512x192 rfl) (.inl rfl))
            let v155 : Vec F S512x192 .f32 ← Prog.lift (.load (Memref.whole cc0_scratch2) (Rect.unit (s := S16384x192) (k0_off20 i) S512x192.size (k0_off20_inb i)).toLoadRect (View.loadsAt_vmem h_S512x192))
            let v156 : Vec F S512x192 .bf16 ← Prog.lift (.load arg2 (Rect.unit (s := S512x192) ![0, 0] S512x192.size inb_S512x192_S512x192_0_0).toLoadRect (View.loadsAt_vmem h_S512x192))
            let v161 : Vec F S512x192 .f32 ← Prog.lift (.load (Memref.whole cc0_scratch2) (Rect.unit (s := S16384x192) (k0_off20 i) S512x192.size (k0_off20_inb i)).toLoadRect (View.loadsAt_vmem h_S512x192))
            Prog.lift (.store (Memref.whole cc0_scratch2) (Rect.unit (s := S16384x192) (k0_off20 i) S512x192.size (k0_off20_inb i)) (k0_pay63 v144 v155 v156) Finset.univ (View.stores_vmem_bits_univ h_S512x192 rfl) (.inl rfl))
            let v164 : Vec F S512x192 .f32 ← Prog.lift (.load (Memref.whole cc0_scratch7) (Rect.unit (s := S512x192) ![0, 0] S512x192.size inb_S512x192_S512x192_0_0).toLoadRect (View.loadsAt_vmem h_S512x192))
            let v165 : Vec F S512x192 .f32 ← Prog.lift (.load arg8 (Rect.unit (s := S512x192) ![0, 0] S512x192.size inb_S512x192_S512x192_0_0).toLoadRect (View.loadsAt_vmem h_S512x192))
            Prog.lift (.store arg8 (Rect.unit (s := S512x192) ![0, 0] S512x192.size inb_S512x192_S512x192_0_0) v164 Finset.univ (View.stores_vmem_bits_univ h_S512x192 rfl) (.inl rfl))
            let v166 : Vec F S512x128 .f32 ← Prog.lift (.load (Memref.whole cc0_scratch8) (Rect.unit (s := S512x128) ![0, 0] S512x128.size inb_S512x128_S512x128_0_0).toLoadRect (View.loadsAt_vmem h_S512x128))
            let v167 : Vec F S512x128 .f32 ← Prog.lift (.load arg9 (Rect.unit (s := S512x128) ![0, 0] S512x128.size inb_S512x128_S512x128_0_0).toLoadRect (View.loadsAt_vmem h_S512x128))
            Prog.lift (.store arg9 (Rect.unit (s := S512x128) ![0, 0] S512x128.size inb_S512x128_S512x128_0_0) v166 Finset.univ (View.stores_vmem_bits_univ h_S512x128 rfl) (.inl rfl))
          K) Q := by
  iintro ⟨H2, H3, H5, H6, H10, H11, H12, H13, H14, H15, H16, H17, H18, H8, H9, Hk⟩
  iapply (runPre c i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 q2 q3 e dq
    (fun v53 v104 c2_i32 v105 v107 v109 => do
            let v133 : BitVec 32 ← k0_part16 i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 (word i) v53 v104 c2_i32 v105 v107 v109
            let v144 : Vec F S1x512x512 .bf16 ← Prog.lift (.load (Memref.whole cc0_scratch6) (Rect.unit (s := S2x512x512) ![1, 0, 0] S1x512x512.size inb_S2x512x512_S1x512x512_1_0_0).toLoadRect (View.loadsAt_vmem h_S1x512x512))
            let v146 : Vec F S512x192 .f32 ← Prog.lift (.load (Memref.whole cc0_scratch7) (Rect.unit (s := S512x192) ![0, 0] S512x192.size inb_S512x192_S512x192_0_0).toLoadRect (View.loadsAt_vmem h_S512x192))
            let v148 : Vec F S512x192 .bf16 ← Prog.lift (.load (Memref.whole cc0_scratch0) (Rect.unit (s := S16384x192) (k0_off20 i) S512x192.size (k0_off20_inb i)).toLoadRect (View.loadsAt_vmem h_S512x192))
            let v151 : Vec F S512x192 .f32 ← Prog.lift (.load (Memref.whole cc0_scratch7) (Rect.unit (s := S512x192) ![0, 0] S512x192.size inb_S512x192_S512x192_0_0).toLoadRect (View.loadsAt_vmem h_S512x192))
            Prog.lift (.store (Memref.whole cc0_scratch7) (Rect.unit (s := S512x192) ![0, 0] S512x192.size inb_S512x192_S512x192_0_0) (k0_pay62 v144 v146 v148) Finset.univ (View.stores_vmem_bits_univ h_S512x192 rfl) (.inl rfl))
            let v155 : Vec F S512x192 .f32 ← Prog.lift (.load (Memref.whole cc0_scratch2) (Rect.unit (s := S16384x192) (k0_off20 i) S512x192.size (k0_off20_inb i)).toLoadRect (View.loadsAt_vmem h_S512x192))
            let v156 : Vec F S512x192 .bf16 ← Prog.lift (.load arg2 (Rect.unit (s := S512x192) ![0, 0] S512x192.size inb_S512x192_S512x192_0_0).toLoadRect (View.loadsAt_vmem h_S512x192))
            let v161 : Vec F S512x192 .f32 ← Prog.lift (.load (Memref.whole cc0_scratch2) (Rect.unit (s := S16384x192) (k0_off20 i) S512x192.size (k0_off20_inb i)).toLoadRect (View.loadsAt_vmem h_S512x192))
            Prog.lift (.store (Memref.whole cc0_scratch2) (Rect.unit (s := S16384x192) (k0_off20 i) S512x192.size (k0_off20_inb i)) (k0_pay63 v144 v155 v156) Finset.univ (View.stores_vmem_bits_univ h_S512x192 rfl) (.inl rfl))
            let v164 : Vec F S512x192 .f32 ← Prog.lift (.load (Memref.whole cc0_scratch7) (Rect.unit (s := S512x192) ![0, 0] S512x192.size inb_S512x192_S512x192_0_0).toLoadRect (View.loadsAt_vmem h_S512x192))
            let v165 : Vec F S512x192 .f32 ← Prog.lift (.load arg8 (Rect.unit (s := S512x192) ![0, 0] S512x192.size inb_S512x192_S512x192_0_0).toLoadRect (View.loadsAt_vmem h_S512x192))
            Prog.lift (.store arg8 (Rect.unit (s := S512x192) ![0, 0] S512x192.size inb_S512x192_S512x192_0_0) v164 Finset.univ (View.stores_vmem_bits_univ h_S512x192 rfl) (.inl rfl))
            let v166 : Vec F S512x128 .f32 ← Prog.lift (.load (Memref.whole cc0_scratch8) (Rect.unit (s := S512x128) ![0, 0] S512x128.size inb_S512x128_S512x128_0_0).toLoadRect (View.loadsAt_vmem h_S512x128))
            let v167 : Vec F S512x128 .f32 ← Prog.lift (.load arg9 (Rect.unit (s := S512x128) ![0, 0] S512x128.size inb_S512x128_S512x128_0_0).toLoadRect (View.loadsAt_vmem h_S512x128))
            Prog.lift (.store arg9 (Rect.unit (s := S512x128) ![0, 0] S512x128.size inb_S512x128_S512x128_0_0) v166 Finset.univ (View.stores_vmem_bits_univ h_S512x128 rfl) (.inl rfl))
            K))
  iframe H2 H3 H10 H11 H13 H14 H15 H16 H17 H18
  iintro %y13 %y14 %y15 %y16 %v104 %v2 %v105 %v107 %v109 %hy ⟨H2, H3, H10, H11, H13, H14, H15, H16, H17, H18⟩
  rw [wp_bind]
  iapply (run16 c i arg2 harg2 arg3 harg3 arg5 harg5 arg6 harg6 arg8 harg8 arg9 harg9 q2 q3 q5 q6 e (start e i dq) (word i) chunkDiff v104 v2 v105 v107 v109 _)
  isplitl [H2 H3 H5 H6 H10 H11 H12 H13 H14 H15 H16 H17 H18]
  · unfold Held
    iexists y13, y14, y15, y16
    isplitr; · ipureintro; exact hy
    iframe H2 H3 H5 H6 H10 H11 H13 H14 H15 H16 H17 H18
    iexact H12
  iintro %v133 HH
  unfold Held
  icases HH with ⟨%x13, %x14, %x15, %x16, %hx, H2, H3, H5, H6, H10, H11, H12, H13, H14, H15, H16, H17, H18⟩
  iapply (runTail c i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2 q2 e (lastV e i (trips e i (word i) chunkDiff (start e i dq) (k0_t1_loop i).trips)) x16 hx.2.2.2 K Q)
  iframe H2 H10 H12 H16 H17 H18 H8 H9
  iintro ⟨H2, H10, H12, H16, H17, H18, H8, H9⟩
  iapply Hk
  iframe H2 H3 H5 H6 H10 H11 H16 H17 H18
  isplitl [H12]; · iexact H12
  isplitl [H13]; · iexists _; iexact H13
  isplitl [H14]; · iexists _; iexact H14
  isplitl [H15]; · iexists _; iexact H15
  isplitl [H8]; · iexact H8
  iexact H9

end Cert.KernelIdeal.Bwd
-- ==== Proof.KI.Point.lean ====
/-
  The kernel at one grid point: at the first, at one between, and at the last, where the queries' sum is copied out.
-/
module

public import proofs.«01_k».proof.Proof.KI.Rest

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (Pipeline.UD sig nD τ) ℕ

set_option maxHeartbeats 400000 in
/-- The first grid point. -/
theorem pointFirst (c : Dev nD) (i : grid0.Coords) (h1 : isFirst i = 1#1) (h2 : ¬ isLast i = 1#1) (arg2 : Memref sig .tc .vmem S512x192 .bf16) (harg2 : arg2.IsWhole) (arg3 : Memref sig .tc .vmem S512x128 .bf16) (harg3 : arg3.IsWhole) (arg5 : Memref sig .tc .vmem S32x1x512 .f32) (harg5 : arg5.IsWhole) (arg6 : Memref sig .tc .vmem S32x1x512 .f32) (harg6 : arg6.IsWhole) (arg8 : Memref sig .tc .vmem S512x192 .f32) (harg8 : arg8.IsWhole) (arg9 : Memref sig .tc .vmem S512x128 .f32) (harg9 : arg9.IsWhole) (q2 q3 q5 q6 : PosShare TreeShare) (e : Env F) (W : Waits sig Unit) (Q : PUnit → sProp 𝕄) :
    iprop(owns (c : Thread nD τ) arg2 q2 e.kb ∗ owns (c : Thread nD τ) arg3 q3 e.vb ∗ owns (c : Thread nD τ) arg5 q5 e.lse ∗ owns (c : Thread nD τ) arg6 q6 e.delta
        ∗ (∃ x, owns (c : Thread nD τ) arg8 fullShare x) ∗ (∃ x, owns (c : Thread nD τ) arg9 fullShare x)
        ∗ (∃ x, owns (c : Thread nD τ) (Memref.whole cc0_scratch3) fullShare x) ∗ (∃ x, owns (c : Thread nD τ) (Memref.whole cc0_scratch4) fullShare x) ∗ (∃ x, owns (c : Thread nD τ) (Memref.whole cc0_scratch5) fullShare x) ∗ (∃ x, owns (c : Thread nD τ) (Memref.whole cc0_scratch6) fullShare x) ∗ (∃ x, owns (c : Thread nD τ) (Memref.whole cc0_scratch7) fullShare x) ∗ (∃ x, owns (c : Thread nD τ) (Memref.whole cc0_scratch8) fullShare x)
        ∗ hbPt c (Memref.whole main_v41 : Memref sig .tc .hbm S16384x192 .bf16) e.q ∗ hbPt c (Memref.whole main_v44 : Memref sig .tc .hbm S16384x128 .bf16) e.dout
        ∗ (∃ x, owns (c : Thread nD τ) (Memref.whole cc0_scratch0) fullShare x) ∗ (∃ x, owns (c : Thread nD τ) (Memref.whole cc0_scratch1) fullShare x) ∗ (∃ x, owns (c : Thread nD τ) (Memref.whole cc0_scratch2) fullShare x)
        ∗ semVal ((c : Thread nD τ), SemLoc.dma 10) 0 ∗ semVal ((c : Thread nD τ), SemLoc.dma 11) 0 ∗ owes (c : Thread nD τ) 0 W
        ∗ (iprop(owns (c : Thread nD τ) arg2 q2 e.kb ∗ owns (c : Thread nD τ) arg3 q3 e.vb ∗ owns (c : Thread nD τ) arg5 q5 e.lse ∗ owns (c : Thread nD τ) arg6 q6 e.delta
            ∗ owns (c : Thread nD τ) arg8 fullShare (final e i k0_pay45).dk ∗ owns (c : Thread nD τ) arg9 fullShare (final e i k0_pay45).dv
            ∗ (∃ x, owns (c : Thread nD τ) (Memref.whole cc0_scratch3) fullShare x) ∗ (∃ x, owns (c : Thread nD τ) (Memref.whole cc0_scratch4) fullShare x) ∗ (∃ x, owns (c : Thread nD τ) (Memref.whole cc0_scratch5) fullShare x) ∗ (∃ x, owns (c : Thread nD τ) (Memref.whole cc0_scratch6) fullShare x) ∗ (∃ x, owns (c : Thread nD τ) (Memref.whole cc0_scratch7) fullShare x) ∗ (∃ x, owns (c : Thread nD τ) (Memref.whole cc0_scratch8) fullShare x)
            ∗ hbPt c (Memref.whole main_v41 : Memref sig .tc .hbm S16384x192 .bf16) e.q ∗ hbPt c (Memref.whole main_v44 : Memref sig .tc .hbm S16384x128 .bf16) e.dout
            ∗ owns (c : Thread nD τ) (Memref.whole cc0_scratch0) fullShare e.q ∗ owns (c : Thread nD τ) (Memref.whole cc0_scratch1) fullShare e.dout ∗ owns (c : Thread nD τ) (Memref.whole cc0_scratch2) fullShare (final e i k0_pay45).dq
            ∗ semVal ((c : Thread nD τ), SemLoc.dma 10) 0 ∗ semVal ((c : Thread nD τ), SemLoc.dma 11) 0 ∗ (∃ W', owes (c : Thread nD τ) 0 W'))
          -∗ Q ⟨⟩))
      ⊢ wp frame (wpE (defs₀ (F := F)) Variants.none c none) Set.univ (cc0_attn_bwd (F := F) i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2) Q := by
  rw [cc0_attn_bwd_eq_skeleton]; unfold cc0_attn_bwd_skel
  rw [k0_part17_eq_skeleton]; unfold k0_part17_skel
  iintro ⟨H2, H3, H5, H6, H8, H9, H13, H14, H15, H16, H17, H18, Hq, Ho, H10, H11, H12, Hs0, Hs1, HW, Hk⟩
  rw [wp_bind, wp_bind]
  iapply (runFirst c i h1 arg2 harg2 arg3 harg3 arg5 harg5 arg6 harg6 arg8 harg8 arg9 harg9 e.q e.dout W _)
  iframe Hq Ho H10 H11 H12 Hs0 Hs1 HW
  iintro ⟨Hq, Ho, H10, H11, H12, Hs0, Hs1, HW⟩
  dsimp only
  iapply (runRest c i arg2 harg2 arg3 harg3 arg5 harg5 arg6 harg6 arg8 harg8 arg9 harg9 q2 q3 q5 q6 e k0_pay45 _ _)
  iframe H2 H3 H5 H6 H8 H9 H10 H11 H12 H13 H14 H15 H16 H17 H18
  iintro ⟨H2, H3, H5, H6, H10, H11, H12, H13, H14, H15, H16, H17, H18, H8, H9⟩
  sl_exec (disch := exact h2)
  sl_step
  iapply Hk
  iframe H2 H3 H5 H6 H8 H9 H10 H11 H12 H13 H14 H15 H16 H17 H18 Hq Ho Hs0 Hs1 HW

set_option maxHeartbeats 400000 in
/-- A grid point between the first and the last. -/
theorem pointMid (c : Dev nD) (i : grid0.Coords) (h1 : ¬ isFirst i = 1#1) (h2 : ¬ isLast i = 1#1) (arg2 : Memref sig .tc .vmem S512x192 .bf16) (harg2 : arg2.IsWhole) (arg3 : Memref sig .tc .vmem S512x128 .bf16) (harg3 : arg3.IsWhole) (arg5 : Memref sig .tc .vmem S32x1x512 .f32) (harg5 : arg5.IsWhole) (arg6 : Memref sig .tc .vmem S32x1x512 .f32) (harg6 : arg6.IsWhole) (arg8 : Memref sig .tc .vmem S512x192 .f32) (harg8 : arg8.IsWhole) (arg9 : Memref sig .tc .vmem S512x128 .f32) (harg9 : arg9.IsWhole) (q2 q3 q5 q6 : PosShare TreeShare) (e : Env F) (dq : Vec F S16384x192 .f32) (Q : PUnit → sProp 𝕄) :
    iprop(owns (c : Thread nD τ) arg2 q2 e.kb ∗ owns (c : Thread nD τ) arg3 q3 e.vb ∗ owns (c : Thread nD τ) arg5 q5 e.lse ∗ owns (c : Thread nD τ) arg6 q6 e.delta
        ∗ (∃ x, owns (c : Thread nD τ) arg8 fullShare x) ∗ (∃ x, owns (c : Thread nD τ) arg9 fullShare x)
        ∗ (∃ x, owns (c : Thread nD τ) (Memref.whole cc0_scratch3) fullShare x) ∗ (∃ x, owns (c : Thread nD τ) (Memref.whole cc0_scratch4) fullShare x) ∗ (∃ x, owns (c : Thread nD τ) (Memref.whole cc0_scratch5) fullShare x) ∗ (∃ x, owns (c : Thread nD τ) (Memref.whole cc0_scratch6) fullShare x) ∗ (∃ x, owns (c : Thread nD τ) (Memref.whole cc0_scratch7) fullShare x) ∗ (∃ x, owns (c : Thread nD τ) (Memref.whole cc0_scratch8) fullShare x)
        ∗ owns (c : Thread nD τ) (Memref.whole cc0_scratch0) fullShare e.q ∗ owns (c : Thread nD τ) (Memref.whole cc0_scratch1) fullShare e.dout ∗ owns (c : Thread nD τ) (Memref.whole cc0_scratch2) fullShare dq
        ∗ (iprop(owns (c : Thread nD τ) arg2 q2 e.kb ∗ owns (c : Thread nD τ) arg3 q3 e.vb ∗ owns (c : Thread nD τ) arg5 q5 e.lse ∗ owns (c : Thread nD τ) arg6 q6 e.delta
            ∗ owns (c : Thread nD τ) arg8 fullShare (final e i dq).dk ∗ owns (c : Thread nD τ) arg9 fullShare (final e i dq).dv
            ∗ (∃ x, owns (c : Thread nD τ) (Memref.whole cc0_scratch3) fullShare x) ∗ (∃ x, owns (c : Thread nD τ) (Memref.whole cc0_scratch4) fullShare x) ∗ (∃ x, owns (c : Thread nD τ) (Memref.whole cc0_scratch5) fullShare x) ∗ (∃ x, owns (c : Thread nD τ) (Memref.whole cc0_scratch6) fullShare x) ∗ (∃ x, owns (c : Thread nD τ) (Memref.whole cc0_scratch7) fullShare x) ∗ (∃ x, owns (c : Thread nD τ) (Memref.whole cc0_scratch8) fullShare x)
            ∗ owns (c : Thread nD τ) (Memref.whole cc0_scratch0) fullShare e.q ∗ owns (c : Thread nD τ) (Memref.whole cc0_scratch1) fullShare e.dout ∗ owns (c : Thread nD τ) (Memref.whole cc0_scratch2) fullShare (final e i dq).dq)
          -∗ Q ⟨⟩))
      ⊢ wp frame (wpE (defs₀ (F := F)) Variants.none c none) Set.univ (cc0_attn_bwd (F := F) i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2) Q := by
  rw [cc0_attn_bwd_eq_skeleton]; unfold cc0_attn_bwd_skel
  rw [k0_part17_eq_skeleton]; unfold k0_part17_skel
  iintro ⟨H2, H3, H5, H6, H8, H9, H13, H14, H15, H16, H17, H18, H10, H11, H12, Hk⟩
  rw [wp_bind, wp_bind]
  iapply (runNotFirst c i h1 arg2 harg2 arg3 harg3 arg5 harg5 arg6 harg6 arg8 harg8 arg9 harg9 _)
  dsimp only
  iapply (runRest c i arg2 harg2 arg3 harg3 arg5 harg5 arg6 harg6 arg8 harg8 arg9 harg9 q2 q3 q5 q6 e dq _ _)
  iframe H2 H3 H5 H6 H8 H9 H10 H11 H12 H13 H14 H15 H16 H17 H18
  iintro ⟨H2, H3, H5, H6, H10, H11, H12, H13, H14, H15, H16, H17, H18, H8, H9⟩
  sl_exec (disch := exact h2)
  sl_step
  iapply Hk
  iframe H2 H3 H5 H6 H8 H9 H10 H11 H12 H13 H14 H15 H16 H17 H18

set_option maxHeartbeats 400000 in
/-- The last grid point. -/
theorem pointLast (c : Dev nD) (i : grid0.Coords) (h1 : ¬ isFirst i = 1#1) (h2 : isLast i = 1#1) (arg2 : Memref sig .tc .vmem S512x192 .bf16) (harg2 : arg2.IsWhole) (arg3 : Memref sig .tc .vmem S512x128 .bf16) (harg3 : arg3.IsWhole) (arg5 : Memref sig .tc .vmem S32x1x512 .f32) (harg5 : arg5.IsWhole) (arg6 : Memref sig .tc .vmem S32x1x512 .f32) (harg6 : arg6.IsWhole) (arg8 : Memref sig .tc .vmem S512x192 .f32) (harg8 : arg8.IsWhole) (arg9 : Memref sig .tc .vmem S512x128 .f32) (harg9 : arg9.IsWhole) (q2 q3 q5 q6 : PosShare TreeShare) (e : Env F) (dq : Vec F S16384x192 .f32) (W : Waits sig Unit) (Q : PUnit → sProp 𝕄) :
    iprop(owns (c : Thread nD τ) arg2 q2 e.kb ∗ owns (c : Thread nD τ) arg3 q3 e.vb ∗ owns (c : Thread nD τ) arg5 q5 e.lse ∗ owns (c : Thread nD τ) arg6 q6 e.delta
        ∗ (∃ x, owns (c : Thread nD τ) arg8 fullShare x) ∗ (∃ x, owns (c : Thread nD τ) arg9 fullShare x)
        ∗ (∃ x, owns (c : Thread nD τ) (Memref.whole cc0_scratch3) fullShare x) ∗ (∃ x, owns (c : Thread nD τ) (Memref.whole cc0_scratch4) fullShare x) ∗ (∃ x, owns (c : Thread nD τ) (Memref.whole cc0_scratch5) fullShare x) ∗ (∃ x, owns (c : Thread nD τ) (Memref.whole cc0_scratch6) fullShare x) ∗ (∃ x, owns (c : Thread nD τ) (Memref.whole cc0_scratch7) fullShare x) ∗ (∃ x, owns (c : Thread nD τ) (Memref.whole cc0_scratch8) fullShare x)
        ∗ owns (c : Thread nD τ) (Memref.whole cc0_scratch0) fullShare e.q ∗ owns (c : Thread nD τ) (Memref.whole cc0_scratch1) fullShare e.dout ∗ owns (c : Thread nD τ) (Memref.whole cc0_scratch2) fullShare dq
        ∗ (∃ f, hbPt c (Memref.whole main_v46_0 : Memref sig .tc .hbm S16384x192 .f32) f) ∗ semVal ((c : Thread nD τ), SemLoc.dma 12) 0 ∗ owes (c : Thread nD τ) 0 W
        ∗ (iprop(owns (c : Thread nD τ) arg2 q2 e.kb ∗ owns (c : Thread nD τ) arg3 q3 e.vb ∗ owns (c : Thread nD τ) arg5 q5 e.lse ∗ owns (c : Thread nD τ) arg6 q6 e.delta
            ∗ owns (c : Thread nD τ) arg8 fullShare (final e i dq).dk ∗ owns (c : Thread nD τ) arg9 fullShare (final e i dq).dv
            ∗ (∃ x, owns (c : Thread nD τ) (Memref.whole cc0_scratch3) fullShare x) ∗ (∃ x, owns (c : Thread nD τ) (Memref.whole cc0_scratch4) fullShare x) ∗ (∃ x, owns (c : Thread nD τ) (Memref.whole cc0_scratch5) fullShare x) ∗ (∃ x, owns (c : Thread nD τ) (Memref.whole cc0_scratch6) fullShare x) ∗ (∃ x, owns (c : Thread nD τ) (Memref.whole cc0_scratch7) fullShare x) ∗ (∃ x, owns (c : Thread nD τ) (Memref.whole cc0_scratch8) fullShare x)
            ∗ owns (c : Thread nD τ) (Memref.whole cc0_scratch0) fullShare e.q ∗ owns (c : Thread nD τ) (Memref.whole cc0_scratch1) fullShare e.dout ∗ owns (c : Thread nD τ) (Memref.whole cc0_scratch2) fullShare (final e i dq).dq
            ∗ hbPt c (Memref.whole main_v46_0 : Memref sig .tc .hbm S16384x192 .f32) (final e i dq).dq ∗ semVal ((c : Thread nD τ), SemLoc.dma 12) 0 ∗ (∃ W', owes (c : Thread nD τ) 0 W'))
          -∗ Q ⟨⟩))
      ⊢ wp frame (wpE (defs₀ (F := F)) Variants.none c none) Set.univ (cc0_attn_bwd (F := F) i (Memref.whole main_v41) (Memref.isWhole_whole _) arg2 harg2 arg3 harg3 (Memref.whole main_v44) (Memref.isWhole_whole _) arg5 harg5 arg6 harg6 (Memref.whole main_v46_0) (Memref.isWhole_whole _) arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scoped0 cc0_scoped1 cc0_scoped2) Q := by
  rw [cc0_attn_bwd_eq_skeleton]; unfold cc0_attn_bwd_skel
  rw [k0_part17_eq_skeleton]; unfold k0_part17_skel
  iintro ⟨H2, H3, H5, H6, H8, H9, H13, H14, H15, H16, H17, H18, H10, H11, H12, ⟨%f0, Hq⟩, Hs, HW, Hk⟩
  rw [wp_bind, wp_bind]
  iapply (runNotFirst c i h1 arg2 harg2 arg3 harg3 arg5 harg5 arg6 harg6 arg8 harg8 arg9 harg9 _)
  dsimp only
  iapply (runRest c i arg2 harg2 arg3 harg3 arg5 harg5 arg6 harg6 arg8 harg8 arg9 harg9 q2 q3 q5 q6 e dq _ _)
  iframe H2 H3 H5 H6 H8 H9 H10 H11 H12 H13 H14 H15 H16 H17 H18
  iintro ⟨H2, H3, H5, H6, H10, H11, H12, H13, H14, H15, H16, H17, H18, H8, H9⟩
  generalize hy : (final e i dq).dq = y
  unfold owns
  icases H12 with ⟨%f1, %e1, H12⟩
  sl_exec (disch := exact h2)
  sl_step
  have r : View.write (Elt F) (Memref.whole main_v46_0 : Memref sig .tc .hbm S16384x192 .f32).view f0 (pointLast.sl.dma0 c f1) Finset.univ = y :=
    (View.write_whole_univ main_v46_0 f0 _).trans e1
  rw [r]
  iapply Hk
  iframe H2 H3 H5 H6 H8 H9 H10 H11 H13 H14 H15 H16 H17 H18 Hq Hs
  isplitl [H12]
  · iexists _; isplitr; swap; · iexact H12
    ipureintro; exact e1
  iexists _; iexact HW

end Cert.KernelIdeal.Bwd
-- ==== Proof.KI.Launch.lean ====
/-
  The whole launch. What each grid point finds and leaves (`dats`), the invariant between points (the resident inputs and the
  queries' sum over the key tiles so far), the body at every point, and the run of @main with what it leaves in every buffer.
-/
module

public import proofs.«01_k».proof.Proof.KI.Point
public import proofs.«01_k».proof.Proof.Gen.KernelIdeal.Frame
public import Idealize.ShloMosaic.Lib.Pipeline.FrameValue

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## What the points compute -/

/-- What a grid point reads: its key and value tiles, the rows' log-sums and deltas, and all queries and output gradients. -/
def envAt (c : Dev nD) (t : Fin cfg0.N) : Env F where
  kb := iblk m c 0 t
  vb := iblk m c 1 t
  lse := iblk m c 2 t
  delta := iblk m c 3 t
  q := V m c main_v41
  dout := V m c main_v44

/-- The queries' sum before grid point `n`. -/
def dqAt (c : Dev nD) : ℕ → Vec F S16384x192 .f32
  | 0 => k0_pay45
  | n + 1 => if h : n < 32 then (final (envAt m c ⟨n, lt_of_lt_of_eq h N_0.symm⟩) (grid0.coords ⟨n, lt_of_lt_of_eq h N_0.symm⟩) (dqAt c n)).dq else dqAt c n

theorem dqAt_succ (c : Dev nD) (t : Fin cfg0.N) : dqAt m c (t.val + 1) = (final (envAt m c t) (grid0.coords t) (dqAt m c t.val)).dq := by
  have h : t.val < 32 := N_0 ▸ t.isLt
  rw [dqAt, dif_pos h]

/-- What a grid point leaves. -/
abbrev stAt (c : Dev nD) (t : Fin cfg0.N) : St F := final (envAt m c t) (grid0.coords t) (dqAt m c t.val)

/-! ## The points by their conditions -/

theorem first_iff : ∀ t : Fin cfg0.N, isFirst (grid0.coords t) = 1#1 ↔ t.val = 0 := by decide +kernel
theorem last_iff : ∀ t : Fin cfg0.N, isLast (grid0.coords t) = 1#1 ↔ t.val = 31 := by decide +kernel

/-! ## The kernel's own semaphores and the buffers it moves itself -/

abbrev osem0 : Fin 3 → SemLoc sig := fun j => (![SemLoc.dma 10, SemLoc.dma 11, SemLoc.dma 12] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2] (by decide) (by decide)]; rfl

/-- The inputs left in HBM, and the result the kernel writes there itself. -/
def H0 : Finset (Ref sig .tc) := {main_v41, main_v44}
def R0 : Finset (Ref sig .tc) := {main_v46_0}
theorem H0_sub : H0 ⊆ Pipeline.restRefs sig spec0 := by decide
theorem R0_sub : R0 ⊆ Pipeline.restRefs sig spec0 \ H0 := by decide

abbrev mQ : Memref sig .tc .hbm S16384x192 .bf16 := Memref.whole main_v41
abbrev mO : Memref sig .tc .hbm S16384x128 .bf16 := Memref.whole main_v44
abbrev mD : Memref sig .tc .hbm S16384x192 .f32 := Memref.whole main_v46_0

theorem hbmPts0_eq (c : Dev nD) :
    (bigSep H0 (fun b => ((c : Thread nD τ).loc b) ↦{fullShare} V m c b) : sProp 𝕄) = iprop(hbPt c mQ (V m c main_v41) ∗ hbPt c mO (V m c main_v44)) := by
  rw [BI.bigSep_eq_bigSepL_of_eq [main_v41, main_v44] (by decide) (by decide)]; rfl
theorem routed0_eq (c : Dev nD) (W : (b : Ref sig .tc) → Buf (Elt F) ((c : Thread nD τ).loc b)) :
    (Pipeline.routed R0 c W : sProp 𝕄) = iprop(hbPt c mD (W main_v46_0)) := by
  unfold Pipeline.routed; rw [BI.bigSep_eq_bigSepL_of_eq [main_v46_0] (by decide) (by decide)]; rfl

/-! ## The invariant between the points -/

/-- The resident inputs and the queries' sum: at anything before the first point, as the points left them from then on. -/
def Res (c : Dev nD) : ℕ → sProp 𝕄
  | 0 => iprop((∃ x, owns (c : Thread nD τ) (Memref.whole cc0_scratch0) fullShare x) ∗ (∃ x, owns (c : Thread nD τ) (Memref.whole cc0_scratch1) fullShare x)
      ∗ (∃ x, owns (c : Thread nD τ) (Memref.whole cc0_scratch2) fullShare x))
  | n + 1 => iprop(owns (c : Thread nD τ) (Memref.whole cc0_scratch0) fullShare (V m c main_v41 : S16384x192.Idx → Elt F .bf16)
      ∗ owns (c : Thread nD τ) (Memref.whole cc0_scratch1) fullShare (V m c main_v44 : S16384x128.Idx → Elt F .bf16)
      ∗ owns (c : Thread nD τ) (Memref.whole cc0_scratch2) fullShare (dqAt m c (n + 1)))

/-- The other scratch buffers, at anything. -/
def Others (c : Dev nD) : sProp 𝕄 :=
  iprop((∃ x, owns (c : Thread nD τ) (Memref.whole cc0_scratch3) fullShare x) ∗ (∃ x, owns (c : Thread nD τ) (Memref.whole cc0_scratch4) fullShare x)
    ∗ (∃ x, owns (c : Thread nD τ) (Memref.whole cc0_scratch5) fullShare x) ∗ (∃ x, owns (c : Thread nD τ) (Memref.whole cc0_scratch6) fullShare x)
    ∗ (∃ x, owns (c : Thread nD τ) (Memref.whole cc0_scratch7) fullShare x) ∗ (∃ x, owns (c : Thread nD τ) (Memref.whole cc0_scratch8) fullShare x))

/-- The queries' gradient in HBM: as launched until the last point has run. -/
def outAt (c : Dev nD) (n : ℕ) : Buf (Elt F) ((c : Thread nD τ).loc main_v46_0) := if n = 32 then dqAt m c 32 else V m c main_v46_0

def Inv (c : Dev nD) (n : ℕ) : sProp 𝕄 :=
  iprop(Res m c n ∗ Others c ∗ (∃ r, prngReg c r)
    ∗ (semVal ((c : Thread nD τ), SemLoc.dma 10) 0 ∗ semVal ((c : Thread nD τ), SemLoc.dma 11) 0 ∗ semVal ((c : Thread nD τ), SemLoc.dma 12) 0)
    ∗ (hbPt c mQ (V m c main_v41) ∗ hbPt c mO (V m c main_v44)) ∗ hbPt c mD (outAt m c n))

/-- What the launch leaves in the buffer the kernel writes itself (elsewhere what the region finds). -/
def G (c : Dev nD) (b : Ref sig .tc) : Buf (Elt F) ((c : Thread nD τ).loc b) :=
  if h : b = main_v46_0 then h ▸ (dqAt m c 32 : Buf (Elt F) ((c : Thread nD τ).loc main_v46_0)) else V m c b

theorem G_dq (c : Dev nD) : G m c main_v46_0 = dqAt m c 32 := by unfold G; rw [dif_pos rfl]

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stAt m c t).dk
    | ⟨5, _⟩ => (stAt m c t).dv
    | ⟨n + 6, h⟩ => absurd h (by change ¬ n + 6 < 6; omega)
  Φ t := Inv m c t.val
  q _ := fullShare
  owed _ := 0

theorem A_eq (c : Dev nD) (w : Fin cfg0.W) : (dats m 0 c).A w = V m c (Pipeline.arrRef spec0 w) := by dsimp only [dats]

/-- An input window holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [show (dats m 0 c).after 0 t = iblk m c 0 t from rfl]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [show (dats m 0 c).after 1 t = iblk m c 1 t from rfl]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [show (dats m 0 c).after 2 t = iblk m c 2 t from rfl]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [show (dats m 0 c).after 3 t = iblk m c 3 t from rfl]; unfold Dat.blockOf iblk; rw [A_eq]; try rfl) t d).trans
    (by unfold Dat.fetched Dat.blockOf iblk; rw [A_eq]; try rfl)

/-! ## The body at a point -/

def bodyPre (c : Dev nD) (t : Fin cfg0.N) : sProp 𝕄 :=
  iprop(Inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop(Inv m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem outAt_ne (c : Dev nD) {n : ℕ} (h : n ≠ 32) : outAt m c n = V m c main_v46_0 := if_neg h
theorem outAt_last (c : Dev nD) : outAt m c 32 = dqAt m c 32 := if_pos rfl

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  have hN : t.val < 32 := N_0 ▸ t.isLt
  unfold bodyPre bodyPost bodyAt0
  simp only [before0, before1, before2, before3]
  unfold Dat.owesAt Pipeline.owesWithin
  rw [show (dats m 0 c).owed t.castSucc = 0 from rfl, show (dats m 0 c).owed t.succ = 0 from rfl]
  rw [show (dats m 0 c).after 0 t = (envAt m c t).kb from rfl, show (dats m 0 c).after 1 t = (envAt m c t).vb from rfl,
    show (dats m 0 c).after 2 t = (envAt m c t).lse from rfl, show (dats m 0 c).after 3 t = (envAt m c t).delta from rfl,
    show (dats m 0 c).after 4 t = (stAt m c t).dk from rfl, show (dats m 0 c).after 5 t = (stAt m c t).dv from rfl]
  rw [show iblk m c 0 t = (envAt m c t).kb from rfl, show iblk m c 1 t = (envAt m c t).vb from rfl,
    show iblk m c 2 t = (envAt m c t).lse from rfl, show iblk m c 3 t = (envAt m c t).delta from rfl]
  unfold Inv Others
  rw [show Res m c (t.val + 1) = iprop(owns (c : Thread nD τ) (Memref.whole cc0_scratch0) fullShare (envAt m c t).q
      ∗ owns (c : Thread nD τ) (Memref.whole cc0_scratch1) fullShare (envAt m c t).dout
      ∗ owns (c : Thread nD τ) (Memref.whole cc0_scratch2) fullShare (stAt m c t).dq) from by rw [stAt, ← dqAt_succ]; rfl]
  rw [outAt_ne m c (Nat.ne_of_lt hN)]
  by_cases h0 : t.val = 0
  · have h1 : isFirst (grid0.coords t) = 1#1 := (first_iff t).mpr h0
    have h2 : ¬ isLast (grid0.coords t) = 1#1 := fun h => by have := (last_iff t).mp h; omega
    rw [outAt_ne m c (n := t.val + 1) (by omega)]
    rw [show stAt m c t = final (envAt m c t) (grid0.coords t) k0_pay45 from by rw [stAt, h0]; rfl]
    rw [h0]
    unfold Res
    iintro ⟨⟨⟨H10, H11, H12⟩, ⟨H13, H14, H15, H16, H17, H18⟩, Hg, ⟨Hs0, Hs1, Hs2⟩, ⟨Hq, Ho⟩, Hd⟩, ⟨%W, %hW, HW⟩, ⟨%d0, H2⟩, ⟨%d1, H3⟩, ⟨%d2, H5⟩, ⟨%d3, H6⟩, ⟨%d4, H8⟩, ⟨%d5, H9⟩⟩
    iapply (pointFirst c (grid0.coords t) h1 h2 (st0_0 t) _ (st0_1 t) _ (st0_2 t) _ (st0_3 t) _ (st0_4 t) _ (st0_5 t) _ fullShare fullShare fullShare fullShare (envAt m c t) W _)
    iframe H2 H3 H5 H6 H13 H14 H15 H16 H17 H18 H10 H11 H12 Hs0 Hs1 HW
    isplitl [H8]; · iexists _; iexact H8
    isplitl [H9]; · iexists _; iexact H9
    isplitl [Hq]; · iexact Hq
    isplitl [Ho]; · iexact Ho
    iintro ⟨H2, H3, H5, H6, H8, H9, H13, H14, H15, H16, H17, H18, Hq, Ho, H10, H11, H12, Hs0, Hs1, ⟨%W', HW⟩⟩
    iframe H2 H3 H5 H6 H8 H9 H10 H11 H12 H13 H14 H15 H16 H17 H18 Hg Hs0 Hs1 Hs2 Hd
    isplitl [Hq Ho]
    · isplitl [Hq]; · iexact Hq
      iexact Ho
    iexists W'; isplitr; · ipureintro; exact fun _ _ => Or.inl trivial
    iexact HW
  have h1 : ¬ isFirst (grid0.coords t) = 1#1 := fun h => h0 ((first_iff t).mp h)
  obtain ⟨n, hn⟩ : ∃ n, t.val = n + 1 := ⟨t.val - 1, by omega⟩
  have hR : Res m c t.val = iprop(owns (c : Thread nD τ) (Memref.whole cc0_scratch0) fullShare (envAt m c t).q
      ∗ owns (c : Thread nD τ) (Memref.whole cc0_scratch1) fullShare (envAt m c t).dout
      ∗ owns (c : Thread nD τ) (Memref.whole cc0_scratch2) fullShare (dqAt m c t.val)) := by rw [hn]; rfl
  rw [hR]
  by_cases h31 : t.val = 31
  · have h2 : isLast (grid0.coords t) = 1#1 := (last_iff t).mpr h31
    rw [show outAt m c (t.val + 1) = (stAt m c t).dq from by rw [stAt, ← dqAt_succ, h31]; exact outAt_last m c]
    iintro ⟨⟨⟨H10, H11, H12⟩, ⟨H13, H14, H15, H16, H17, H18⟩, Hg, ⟨Hs0, Hs1, Hs2⟩, ⟨Hq, Ho⟩, Hd⟩, ⟨%W, %hW, HW⟩, ⟨%d0, H2⟩, ⟨%d1, H3⟩, ⟨%d2, H5⟩, ⟨%d3, H6⟩, ⟨%d4, H8⟩, ⟨%d5, H9⟩⟩
    iapply (pointLast c (grid0.coords t) h1 h2 (st0_0 t) _ (st0_1 t) _ (st0_2 t) _ (st0_3 t) _ (st0_4 t) _ (st0_5 t) _ fullShare fullShare fullShare fullShare (envAt m c t) (dqAt m c t.val) W _)
    iframe H2 H3 H5 H6 H13 H14 H15 H16 H17 H18 H10 H11 H12 Hs2 HW
    isplitl [H8]; · iexists _; iexact H8
    isplitl [H9]; · iexists _; iexact H9
    isplitl [Hd]; · iexists _; iexact Hd
    iintro ⟨H2, H3, H5, H6, H8, H9, H13, H14, H15, H16, H17, H18, H10, H11, H12, Hd, Hs2, ⟨%W', HW⟩⟩
    iframe H2 H3 H5 H6 H8 H9 H10 H11 H12 H13 H14 H15 H16 H17 H18 Hg Hs0 Hs1 Hs2 Hd Hq Ho
    iexists W'; isplitr; · ipureintro; exact fun _ _ => Or.inl trivial
    iexact HW
  · have h2 : ¬ isLast (grid0.coords t) = 1#1 := fun h => h31 ((last_iff t).mp h)
    rw [outAt_ne m c (n := t.val + 1) (by omega)]
    iintro ⟨⟨⟨H10, H11, H12⟩, ⟨H13, H14, H15, H16, H17, H18⟩, Hg, ⟨Hs0, Hs1, Hs2⟩, ⟨Hq, Ho⟩, Hd⟩, ⟨%W, %hW, HW⟩, ⟨%d0, H2⟩, ⟨%d1, H3⟩, ⟨%d2, H5⟩, ⟨%d3, H6⟩, ⟨%d4, H8⟩, ⟨%d5, H9⟩⟩
    iapply (pointMid c (grid0.coords t) h1 h2 (st0_0 t) _ (st0_1 t) _ (st0_2 t) _ (st0_3 t) _ (st0_4 t) _ (st0_5 t) _ fullShare fullShare fullShare fullShare (envAt m c t) (dqAt m c t.val) _)
    iframe H2 H3 H5 H6 H13 H14 H15 H16 H17 H18 H10 H11 H12
    isplitl [H8]; · iexists _; iexact H8
    isplitl [H9]; · iexists _; iexact H9
    iintro ⟨H2, H3, H5, H6, H8, H9, H13, H14, H15, H16, H17, H18, H10, H11, H12⟩
    iframe H2 H3 H5 H6 H8 H9 H10 H11 H12 H13 H14 H15 H16 H17 H18 Hg Hs0 Hs1 Hs2 Hd Hq Ho
    iexists W; isplitr; · ipureintro; exact fun _ _ => Or.inl trivial
    iexact HW

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option maxHeartbeats 1000000 in
/-- @main up to the region: the host operations, then the region. -/
theorem hmainD : Pipeline.HMain (Ix := Unit) (Name := ℕ) (U := Pipeline.UD sig nD τ) (Lvl := ℕ) cfgs 0 defs₀ Variants.none m (main (F := F)) (V m) :=
  Pipeline.hmain_prefixes cfgs 0 defs₀ Variants.none m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem inv_in (c : Dev nD) : Pipeline.ΦDRG osem0 spec0 H0 R0 (V m) (V m) c ⊢ (Inv m c 0 : sProp 𝕄) := by
  rw [Pipeline.ΦDRG_eq, scopedRest0_eq, ownSems00_eq, hbmPts0_eq, routed0_eq]
  unfold Inv Res Others
  rw [outAt_ne m c (by decide)]
  simp only [owns_whole]
  iintro ⟨⟨H10, H11, H12, H13, H14, H15, H16, H17, H18⟩, Hg, Hs, Hh, Hd⟩
  iframe H10 H11 H12 H13 H14 H15 H16 H17 H18 Hg Hs Hh Hd

theorem inv_out (c : Dev nD) : (Inv m c 32 : sProp 𝕄) ⊢ Pipeline.ΦDRG osem0 spec0 H0 R0 (V m) (G m) c := by
  rw [Pipeline.ΦDRG_eq, scopedRest0_eq, ownSems00_eq, hbmPts0_eq, routed0_eq, G_dq]
  unfold Inv Res Others
  rw [outAt_last]
  simp only [owns_whole]
  iintro ⟨⟨H10, H11, H12⟩, ⟨H13, H14, H15, H16, H17, H18⟩, Hg, Hs, Hh, Hd⟩
  iframe H13 H14 H15 H16 H17 H18 Hg Hs Hh Hd
  isplitl [H10]; · iexists _; iexact H10
  isplitl [H11]; · iexists _; iexact H11
  iexists _; iexact H12

set_option backward.isDefEq.respectTransparency.types false in
/-- From any memory with every counter at zero the program ends, every counter is at zero again, the windowed arrays hold what the
    points wrote, the queries' gradient is the sum after the last point, and everything else is as the region found it. -/
theorem run_main :
    θ_run defs (onTc (τ := τ) (main (F := F))) (s₀ m ρ)
      (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m) (hA := A_eq m) (G := G m)
    (hin := inv_in m) (hout := inv_out m)

variable {m ρ}

/-- An argument is nothing the program writes. -/
theorem final_arg {r : PUnit × MemSt nD τ sig (Elt F)} (h : Pipeline.FramePostRG cfgs (dats (F := F) m) 0 R0 (V m) (G m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h.1 c).2 main_arg0 (by decide)).trans (V_main_arg0 m c), ((h.1 c).2 main_arg1 (by decide)).trans (V_main_arg1 m c),
    ((h.1 c).2 main_arg2 (by decide)).trans (V_main_arg2 m c), ((h.1 c).2 main_arg3 (by decide)).trans (V_main_arg3 m c)⟩

end Cert.KernelIdeal.Bwd
-- ==== Proof.Frames.lean ====
/-
  The frames of the three programs and the statement that the idealized kernel is the kernel with three constants named.
-/
module

public import proofs.«01_k».proof.Proof.SameText
public import proofs.«01_k».proof.Proof.KI.Launch
public import proofs.«01_k».proof.Proof.Gen.ReferenceIdeal.Run
public import Idealize.ShloMosaic.Lib.Quiescent

@[expose] public section

set_option maxRecDepth 16384

noncomputable section

namespace Cert.Proof

open Idealize.ShloMosaic Idealize.ShloMosaic.TcCoe
open Idealize.SL.Sem

/-- The kernel as the machine runs it ends quiescent, its arguments as they were: it is the idealized one at bits. -/
theorem frame_kernel : Cert.quiescent_Kernel (hKernel := Cert.Kernel.Gen.facts) := fun m g _ =>
  Cert.SameText.run_of_eq Cert.SameText.defs_eq (congrArg onTc Cert.SameText.main_eq)
    ((θ_run _ _ _).mono (fun _ h => ⟨fun c => Cert.KernelIdeal.Bwd.final_arg h.1 c, h.2⟩) (Cert.KernelIdeal.Bwd.run_main (F := Bits) m g))

/-- So does the idealized kernel, -/
theorem frame_ideal : Cert.quiescent_KernelIdeal (hKernelIdeal := Cert.KernelIdeal.Gen.facts) := fun m g _ =>
  (θ_run _ _ _).mono (fun _ h => ⟨fun c => Cert.KernelIdeal.Bwd.final_arg h.1 c, h.2⟩) (Cert.KernelIdeal.Bwd.run_main m g)

/-- and the reference. -/
theorem frame_reference : Cert.quiescent_ReferenceIdeal (hReferenceIdeal := Cert.ReferenceIdeal.Gen.facts) := fun m g _ =>
  (θ_run _ _ _).mono (fun r h => ⟨fun c => (h c).2.2.2, sem_eq_zero_of_no_sems (by decide) r.2⟩)
    (Cert.ReferenceIdeal.Value.run (F := Ideal) m g)

/-- The three named constants of the idealized kernel. -/
theorem named : Cert.preserves_Kernel_KernelIdeal :=
  ⟨IdealRules.named_const.statement _ _ _ _ _ rfl, IdealRules.named_const.statement _ _ _ _ _ rfl,
    IdealRules.named_const.statement _ _ _ _ _ rfl⟩

end Cert.Proof
-- ==== Proof.Spec.lean ====
/-
  The gradient of one attention head over the reals, row by row and tile by tile.

  `Rows` holds what the gradient is made of: the queries, keys, values and cotangents of all rows, and for every query row the
  logarithm of its softmax denominator (to the base 2) and the product of its cotangent with its output. A tile is 512 rows; the tiles
  a block of keys `j` is joined with are numbered from 0, where 0 stands for the tile before the block's own and is never counted.
-/
module

public import Idealize.ShloMosaic.Lib.ValueIdx
public import Idealize.ShloMosaic.Lib.IdealHost
public import Mathlib.Analysis.SpecialFunctions.Pow.Real

@[expose] public section

noncomputable section

namespace Cert.Spec

/-- All rows of one head. -/
structure Rows where
  q : ℕ → Fin 192 → ℝ
  k : ℕ → Fin 192 → ℝ
  v : ℕ → Fin 128 → ℝ
  d : ℕ → Fin 128 → ℝ
  lse : ℕ → ℝ
  delta : ℕ → ℝ

namespace Rows

variable (R : Rows)

/-- The score of query row `i` and key row `k`, not scaled. -/
def score (i k : ℕ) : ℝ := ∑ c : Fin 192, R.k k c * R.q i c

/-- The product of a row's cotangent with a value row. -/
def dp (i k : ℕ) : ℝ := ∑ c : Fin 128, R.v k c * R.d i c

/-- The probability: none of a key of a later chunk of 64 rows. -/
def prob (i k : ℕ) : ℝ :=
  if k / 64 ≤ i / 64 then Real.rpow 2 (R.score i k * ((Real.sqrt 192)⁻¹ * (Real.log 2)⁻¹) - R.lse i) else 0

/-- The gradient of the score. -/
def grad (i k : ℕ) : ℝ := R.prob i k * (R.dp i k - R.delta i) * (Real.sqrt 192)⁻¹

theorem prob_eq_zero {i k : ℕ} (h : i / 64 < k / 64) : R.prob i k = 0 := if_neg (by omega)
theorem grad_eq_zero {i k : ℕ} (h : i / 64 < k / 64) : R.grad i k = 0 := by
  rw [grad, R.prob_eq_zero h, zero_mul, zero_mul]

end Rows

/-- The query tile numbered `n` of key tile `j`, held inside the 32 tiles. -/
def tileAt (j n : ℕ) : ℕ := min (j + n - 1) 31

/-- Whether the tile numbered `n` is counted. -/
def Counted (j n : ℕ) : Prop := 1 ≤ n ∧ j + n - 1 < 32

instance (j n : ℕ) : Decidable (Counted j n) := by unfold Counted; infer_instance

theorem Counted.tileAt {j n : ℕ} (h : Counted j n) : Spec.tileAt j n = j + n - 1 := by
  have := h.2
  unfold Spec.tileAt
  omega

/-- A tile of a table over query and key rows, key rows first; zero where the tile is not counted. -/
def tile (f : ℕ → ℕ → ℝ) (j n a b : ℕ) : ℝ := if Counted j n then f (512 * tileAt j n + b) (512 * j + a) else 0

/-- What the first `n` tiles give to key row `a` of tile `j`: the products of the table's column with rows of `w`. -/
def keySum {C : Type} (f : ℕ → ℕ → ℝ) (w : ℕ → C → ℝ) (j n a : ℕ) (c : C) : ℝ :=
  ∑ t ∈ Finset.range n, ∑ b : Fin 512, tile f j t a b * w (512 * tileAt j t + b) c

/-- What the first `n` tiles give to query row `r`. -/
def querySum {C : Type} (f : ℕ → ℕ → ℝ) (w : ℕ → C → ℝ) (j n r : ℕ) (c : C) : ℝ :=
  ∑ t ∈ Finset.range n, if tileAt j t = r / 512 then ∑ a : Fin 512, tile f j t a (r % 512) * w (512 * j + a) c else 0

theorem keySum_succ {C : Type} (f : ℕ → ℕ → ℝ) (w : ℕ → C → ℝ) (j n a : ℕ) (c : C) :
    keySum f w j (n + 1) a c = keySum f w j n a c + ∑ b : Fin 512, tile f j n a b * w (512 * tileAt j n + b) c :=
  Finset.sum_range_succ _ _

theorem querySum_succ {C : Type} (f : ℕ → ℕ → ℝ) (w : ℕ → C → ℝ) (j n r : ℕ) (c : C) :
    querySum f w j (n + 1) r c = querySum f w j n r c
      + if tileAt j n = r / 512 then ∑ a : Fin 512, tile f j n a (r % 512) * w (512 * j + a) c else 0 :=
  Finset.sum_range_succ _ _

/-- A sum over all rows, tile by tile. -/
theorem sum_rows (g : ℕ → ℝ) : ∑ i : Fin 16384, g i = ∑ s ∈ Finset.range 32, ∑ b : Fin 512, g (512 * s + b) := by
  rw [Finset.sum_range (fun s => ∑ b : Fin 512, g (512 * s + b)), ← Fintype.sum_prod_type' (f := fun (s : Fin 32) (b : Fin 512) => g (512 * s + b))]
  refine (Fintype.sum_equiv (finProdFinEquiv (m := 32) (n := 512)) _ _ fun x => ?_).symm
  congr 1
  show 512 * x.1.val + x.2.val = x.2.val + 512 * x.1.val
  omega

/-- Once every tile from `j` on is counted, a key row has all query rows' products: the earlier tiles' are zero. -/
theorem keySum_all {C : Type} (f : ℕ → ℕ → ℝ) (hf : ∀ i k, i / 64 < k / 64 → f i k = 0) (w : ℕ → C → ℝ) (j M a : ℕ) (ha : a < 512)
    (hM : 32 - j ≤ M) (hj : j < 32) (c : C) :
    keySum f w j (M + 1) a c = ∑ i : Fin 16384, f i (512 * j + a) * w i c := by
  set g : ℕ → ℝ := fun s => ∑ b : Fin 512, f (512 * s + b) (512 * j + a) * w (512 * s + b) c with hg
  have g0 : ∀ s, s < j → g s = 0 := fun s hs => Finset.sum_eq_zero fun b _ => by
    rw [hf _ _ (by have := b.isLt; omega), zero_mul]
  have step : ∀ t, ∑ b : Fin 512, tile f j (t + 1) a b * w (512 * tileAt j (t + 1) + b) c = if j + t < 32 then g (j + t) else 0 := by
    intro t
    by_cases h : j + t < 32
    · have hc : Counted j (t + 1) := ⟨by omega, by omega⟩
      rw [if_pos h]
      refine Finset.sum_congr rfl fun b _ => ?_
      rw [tile, if_pos hc, hc.tileAt]
      rfl
    · rw [if_neg h]
      refine Finset.sum_eq_zero fun b _ => ?_
      rw [tile, if_neg (fun hc => h (by have := hc.2; omega)), zero_mul]
  have first : ∑ b : Fin 512, tile f j 0 a b * w (512 * tileAt j 0 + b) c = 0 := Finset.sum_eq_zero fun b _ => by
    rw [tile, if_neg (fun hc => absurd hc.1 (by omega)), zero_mul]
  rw [sum_rows (fun i => f i (512 * j + a) * w i c)]
  unfold keySum
  rw [Finset.sum_range_succ', first, add_zero]
  simp only [step]
  show _ = ∑ s ∈ Finset.range 32, g s
  have e1 : ∑ s ∈ Finset.range 32, g s = ∑ t ∈ Finset.range (32 - j), g (j + t) := by
    rw [← Finset.sum_Ico_eq_sum_range, Finset.range_eq_Ico, ← Finset.sum_Ico_consecutive g (Nat.zero_le j) (by omega : j ≤ 32),
      Finset.sum_eq_zero (fun s hs => g0 s (Finset.mem_Ico.1 hs).2), zero_add]
  rw [e1, ← Finset.sum_filter]
  refine Finset.sum_congr ?_ fun _ _ => rfl
  ext t
  simp only [Finset.mem_filter, Finset.mem_range]
  omega

/-- Once every tile from `j` on is counted, a query row has the products of tile `j`'s keys. -/
theorem querySum_all {C : Type} (f : ℕ → ℕ → ℝ) (hf : ∀ i k, i / 64 < k / 64 → f i k = 0) (w : ℕ → C → ℝ) (j M r : ℕ) (hr : r < 16384)
    (hM : 32 - j ≤ M) (hj : j < 32) (c : C) :
    querySum f w j (M + 1) r c = ∑ a : Fin 512, f r (512 * j + a) * w (512 * j + a) c := by
  unfold querySum
  by_cases h : j ≤ r / 512
  · have hc : Counted j (r / 512 - j + 1) := ⟨by omega, by omega⟩
    rw [Finset.sum_eq_single (r / 512 - j + 1)]
    · rw [if_pos (by rw [hc.tileAt]; omega)]
      refine Finset.sum_congr rfl fun a _ => ?_
      rw [tile, if_pos hc, hc.tileAt, show 512 * (j + (r / 512 - j + 1) - 1) + r % 512 = r by omega]
    · intro t _ ht
      split
      · next e =>
        refine Finset.sum_eq_zero fun a _ => ?_
        rw [tile, if_neg, zero_mul]
        intro hc'
        rw [hc'.tileAt] at e
        have := hc'.1
        omega
      · rfl
    · intro hn
      exact absurd (Finset.mem_range.2 (by omega)) hn
  · rw [Finset.sum_eq_zero, Finset.sum_eq_zero]
    · intro a _
      rw [hf _ _ (by omega), zero_mul]
    · intro t _
      split
      · next e =>
        refine Finset.sum_eq_zero fun a _ => ?_
        rw [tile, if_neg, zero_mul]
        intro hc'
        rw [hc'.tileAt] at e
        have := hc'.1
        omega
      · rfl

/-- The coercion of a real sum into the extended reals. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s h ih => rw [Finset.sum_insert h, Finset.sum_insert h, EReal.coe_add, ih]

end Cert.Spec
-- ==== Proof.Softmax.lean ====
/-
  One attention head over the reals: the masked and scaled scores, their row maxima, the softmax, and with it the rows that the tiled
  gradient is made of.
-/
module

public import proofs.«01_k».proof.Proof.Spec

@[expose] public section

noncomputable section

namespace Cert.Spec

/-- The arrays of one head: queries, keys, values, and the cotangent of the output. -/
structure Head where
  q : ℕ → Fin 192 → ℝ
  k : ℕ → Fin 192 → ℝ
  v : ℕ → Fin 128 → ℝ
  d : ℕ → Fin 128 → ℝ

namespace Head

variable (H : Head)

/-- A key row is seen from its own chunk of 64 rows on. -/
def Seen (i k : ℕ) : Prop := k / 64 ≤ i / 64

instance (i k : ℕ) : Decidable (Seen i k) := by unfold Seen; infer_instance

/-- The product of a query row and a key row. -/
def raw (i k : ℕ) : ℝ := ∑ c : Fin 192, H.q i c * H.k k c

/-- The scaled score. -/
def score (i k : ℕ) : ℝ := H.raw i k * (Real.sqrt 192)⁻¹

/-- The masked score. -/
def masked (i k : ℕ) : EReal := if Seen i k then ((H.score i k : ℝ) : EReal) else ⊥

/-- The greatest masked score of a row. -/
def top (i : ℕ) : EReal := Finset.univ.fold max ⊥ fun k : Fin 16384 => H.masked i k

def max (i : ℕ) : ℝ := (H.top i).toReal

theorem top_eq {i : ℕ} (hi : i < 16384) : H.top i = ((H.max i : ℝ) : EReal) := by
  refine (EReal.coe_toReal ?_ ?_).symm
  · refine ne_of_lt ((Finset.fold_max_lt _).2 ⟨bot_lt_top, fun k _ => ?_⟩)
    unfold masked
    split
    · exact EReal.coe_lt_top _
    · exact bot_lt_top
  · refine ne_of_gt ((Finset.lt_fold_max _).2 (Or.inr ⟨⟨i, hi⟩, Finset.mem_univ _, ?_⟩))
    unfold masked
    rw [if_pos (show Seen i i from le_refl _)]
    exact EReal.bot_lt_coe _

/-- The exponential of a seen score less the row's greatest. -/
def expo (i k : ℕ) : ℝ := if Seen i k then Real.exp (H.score i k - H.max i) else 0

theorem expo_nonneg (i k : ℕ) : 0 ≤ H.expo i k := by
  unfold expo
  split
  · exact (Real.exp_pos _).le
  · exact le_refl _

/-- The row's denominator. -/
def den (i : ℕ) : ℝ := ∑ k : Fin 16384, H.expo i k

theorem den_pos {i : ℕ} (hi : i < 16384) : 0 < H.den i := by
  refine Finset.sum_pos' (fun k _ => H.expo_nonneg i k) ⟨⟨i, hi⟩, Finset.mem_univ _, ?_⟩
  unfold expo
  rw [if_pos (show Seen i i from le_refl _)]
  exact Real.exp_pos _

/-- The probability. -/
def prob (i k : ℕ) : ℝ := H.expo i k * (H.den i)⁻¹

/-- The output. -/
def out (i : ℕ) (c : Fin 128) : ℝ := ∑ k : Fin 16384, H.prob i k * H.v k c

/-- The product of a row's cotangent with its output. -/
def delta (i : ℕ) : ℝ := ∑ c : Fin 128, H.d i c * H.out i c

/-- The logarithm of the denominator, to the base 2. -/
def lse (i : ℕ) : ℝ := (H.max i + Real.log (H.den i)) * (Real.log 2)⁻¹

/-- The product of a row's cotangent with a value row. -/
def dp (i k : ℕ) : ℝ := ∑ c : Fin 128, H.d i c * H.v k c

/-- The rows of the tiled gradient. -/
def rows : Rows where
  q := H.q
  k := H.k
  v := H.v
  d := H.d
  lse := H.lse
  delta := H.delta

theorem rows_score (i k : ℕ) : H.rows.score i k = H.raw i k := Finset.sum_congr rfl fun c _ => mul_comm _ _
theorem rows_dp (i k : ℕ) : H.rows.dp i k = H.dp i k := Finset.sum_congr rfl fun c _ => mul_comm _ _

/-- Two to the power of the difference of the logarithms is the probability. -/
theorem rows_prob {i : ℕ} (hi : i < 16384) (k : ℕ) : H.rows.prob i k = H.prob i k := by
  unfold Rows.prob prob expo
  by_cases h : Seen i k
  · have h2 : Real.log 2 ≠ 0 := (Real.log_pos (by norm_num)).ne'
    rw [if_pos h, if_pos (show k / 64 ≤ i / 64 from h), rows_score]
    show Real.rpow 2 (H.raw i k * ((Real.sqrt 192)⁻¹ * (Real.log 2)⁻¹) - H.lse i) = _
    rw [Real.rpow_eq_pow, Real.rpow_def_of_pos (by norm_num)]
    have e : Real.log 2 * (H.raw i k * ((Real.sqrt 192)⁻¹ * (Real.log 2)⁻¹) - H.lse i) = H.score i k - H.max i - Real.log (H.den i) := by
      unfold lse score
      field_simp
      ring
    rw [e, Real.exp_sub _ (Real.log _), Real.exp_log (H.den_pos hi), div_eq_mul_inv]
  · rw [if_neg h, if_neg (show ¬ k / 64 ≤ i / 64 from h), zero_mul]

/-- The product with the output is the probabilities' mean of the products with the values. -/
theorem delta_eq (i : ℕ) : H.delta i = ∑ k : Fin 16384, H.dp i k * H.prob i k := by
  unfold delta out dp
  simp only [Finset.mul_sum, Finset.sum_mul]
  rw [Finset.sum_comm]
  refine Finset.sum_congr rfl fun k _ => Finset.sum_congr rfl fun c _ => ?_
  ring

/-- The gradient of a score as the softmax's derivative gives it: the quotient's two parts, times the exponential. -/
theorem rows_grad {i : ℕ} (hi : i < 16384) (k : ℕ) :
    (if Seen i k then (H.dp i k * (H.den i)⁻¹ + -∑ j : Fin 16384, H.dp i j * (H.den i * H.den i)⁻¹ * H.expo i j) * H.expo i k else 0)
      * (Real.sqrt 192)⁻¹ = H.rows.grad i k := by
  have hd := (H.den_pos hi).ne'
  have hs : ∑ j : Fin 16384, H.dp i j * (H.den i * H.den i)⁻¹ * H.expo i j = H.delta i * (H.den i)⁻¹ := by
    rw [delta_eq, Finset.sum_mul]
    refine Finset.sum_congr rfl fun j _ => ?_
    unfold prob
    rw [mul_inv]
    ring
  unfold Rows.grad
  rw [H.rows_prob hi, rows_dp]
  show _ = H.prob i k * (H.dp i k - H.delta i) * _
  by_cases h : Seen i k
  · rw [if_pos h, hs]
    unfold prob
    ring
  · rw [if_neg h]
    unfold prob expo
    rw [if_neg h]
    ring

end Head

end Cert.Spec
-- ==== Proof.HeadOps.lean ====
/-
  The scores, mask, row maxima, exponentials and probabilities of one attention head as functions of whole arrays: what the gradient's
  reference computes first, and what the launch's host code computes for the values the forward pass saves.
-/
module

public import proofs.«01_k».proof.Proof.Softmax
public import proofs.«01_k».proof.Proof.Gen.ReferenceIdeal
public import Idealize.ShloMosaic.Lib.Pointwise
public import Idealize.ShloMosaic.Lib.Routing.Words

@[expose] public section

set_option maxRecDepth 16384

noncomputable section

namespace Cert.Head

open Cert.ReferenceIdeal Cert.ReferenceIdeal.Gen
open Idealize.ShloMosaic

variable {F : FTy → Type} [FloatOps F]

/-! ## The values -/

section Values

variable (q k : Vec F S16384x192 .f32) (v o : Vec F S16384x128 .f32) (e : Vec F S16384x16384 .f32) (x z : Vec F S16384x1 .f32)

/-- The square root of the head's width. -/
def root : Vec F S_ .f32 := id (Host.sqrt (constant S_ .f32 0x43400000#32))

/-- The scores, not scaled: the two parts of the head's width added. -/
def raw : Vec F S16384x16384 .f32 :=
  addf
    (Host.dotGeneral dot_S16384x128_S128x16384_S16384x16384_1_0_0_1_n_n none
      (extractStridedSlice S16384x128 ![0, 0] q slices_S16384x192_S16384x128_0_0)
      (transpose S128x16384 [1, 0] (extractStridedSlice S16384x128 ![0, 0] k slices_S16384x192_S16384x128_0_0) transposes_S16384x128_S128x16384_1_0))
    (Host.dotGeneral dot_S16384x64_S64x16384_S16384x16384_1_0_0_1_n_n none
      (extractStridedSlice S16384x64 ![0, 128] q slices_S16384x192_S16384x64_0_128)
      (transpose S64x16384 [1, 0] (extractStridedSlice S16384x64 ![0, 128] k slices_S16384x192_S16384x64_0_128) transposes_S16384x64_S64x16384_1_0))

/-- The scaled scores. -/
def score : Vec F S16384x16384 .f32 := Host.divf (raw q k) (broadcastInDim S16384x16384 ![] bcast_S_S16384x16384 root)

/-- The chunk of 64 rows a row lies in. -/
def chunk : S16384.Idx → BitVec 32 :=
  select
    (andi
      (cmpi .ne (signi (iotaInDim S16384 32 0)) (broadcastInDim S16384 ![] bcast_S_S16384 (signi (id (constantI S_ 32 64#32)))))
      (cmpi .ne (Host.remsi (iotaInDim S16384 32 0) (broadcastInDim S16384 ![] bcast_S_S16384 (id (constantI S_ 32 64#32))))
        (broadcastInDim S16384 ![] bcast_S_S16384 (constantI S_ 32 0#32))))
    (subi (Host.divsi (iotaInDim S16384 32 0) (broadcastInDim S16384 ![] bcast_S_S16384 (id (constantI S_ 32 64#32))))
      (broadcastInDim S16384 ![] bcast_S_S16384 (constantI S_ 32 1#32)))
    (Host.divsi (iotaInDim S16384 32 0) (broadcastInDim S16384 ![] bcast_S_S16384 (id (constantI S_ 32 64#32))))

/-- Which key rows a query row sees. -/
def mask : S16384x16384.Idx → BitVec 1 :=
  cmpi .sle
    (broadcastInDim S16384x16384 ![0, 1] bcast_S1x16384_S16384x16384_0_1 (broadcastInDim S1x16384 ![1] bcast_S16384_S1x16384_1 chunk))
    (broadcastInDim S16384x16384 ![0, 1] bcast_S16384x1_S16384x16384_0_1 (broadcastInDim S16384x1 ![0] bcast_S16384_S16384x1_0 chunk))

/-- The masked scores. -/
def masked : Vec F S16384x16384 .f32 :=
  select mask (score q k) (broadcastInDim S16384x16384 ![] bcast_S_S16384x16384 (id (constant S_ .f32 0xFF800000#32)))

/-- The row maxima. -/
def rowMax : Vec F S16384 .f32 :=
  Host.reduce FloatOps.maximumf e (constant S_ .f32 0xFF800000#32) reducesTo_S16384x16384_S16384_d1 h_S_

/-- A column of one number per row. -/
def column (y : Vec F S16384 .f32) : Vec F S16384x1 .f32 := broadcastInDim S16384x1 ![0] bcast_S16384_S16384x1_0 y

/-- A column over all key rows. -/
def spread (x : Vec F S16384x1 .f32) : Vec F S16384x16384 .f32 := broadcastInDim S16384x16384 ![0, 1] bcast_S16384x1_S16384x16384_0_1 x

/-- The exponentials of the scores `e` less the column `x`. -/
def expo : Vec F S16384x16384 .f32 := Host.exp (subf e (spread x))

/-- The row sums. -/
def rowSum : Vec F S16384 .f32 := Host.reduceAdd e (constant S_ .f32 0x00000000#32) reducesTo_S16384x16384_S16384_d1 h_S_

/-- The quotients by a column. -/
def quot : Vec F S16384x16384 .f32 := Host.divf e (spread z)

end Values

end Cert.Head
-- ==== Proof.HeadValues.lean ====
/-
  The scores, mask, row maxima, exponentials and probabilities at an element, over the reals.
-/
module

public import proofs.«01_k».proof.Proof.HeadOps

@[expose] public section

set_option maxRecDepth 16384

noncomputable section

namespace Cert.Head

open Cert.ReferenceIdeal Cert.ReferenceIdeal.Gen
open Idealize.ShloMosaic
open Cert.Spec (coe_sum)

/-- The arrays hold the reals of one head. -/
structure Holds (H : Spec.Head) (q k : Vec Ideal S16384x192 .f32) (v o : Vec Ideal S16384x128 .f32) : Prop where
  q : ∀ (i : Fin 16384) (d : Fin 192), q (ix2 i d) = ((H.q i.val d : ℝ) : EReal)
  k : ∀ (i : Fin 16384) (d : Fin 192), k (ix2 i d) = ((H.k i.val d : ℝ) : EReal)
  v : ∀ (i : Fin 16384) (d : Fin 128), v (ix2 i d) = ((H.v i.val d : ℝ) : EReal)
  o : ∀ (i : Fin 16384) (d : Fin 128), o (ix2 i d) = ((H.d i.val d : ℝ) : EReal)

variable {H : Spec.Head} {q k : Vec Ideal S16384x192 .f32} {v o : Vec Ideal S16384x128 .f32}

/-! ## The scores and the mask -/

theorem sqrt192_pos : 0 < Real.sqrt 192 := Real.sqrt_pos.2 (by norm_num)

/-- The patterns of 192, of 2 and of the least value. -/
theorem ofBits_192 : Ideal.ofBits .f32 0x43400000#32 = ((192 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_least : Ideal.ofBits .f32 0xFF800000#32 = ⊥ := by
  simp [Ideal.ofBits, Ideal.ieee, -EReal.coe_mul]

theorem root_apply : root (F := Ideal) ix0 = ((Real.sqrt 192 : ℝ) : EReal) := by
  show Ideal.sqrt (Ideal.ofBits .f32 0x43400000#32) = _
  rw [ofBits_192, Ideal.sqrt_coe, if_neg (by norm_num)]

/-- A sum over the head's width, in its two parts. -/
theorem sum_width (f : Fin 192 → ℝ) :
    ∑ c, f c = ∑ x : Fin 128, f ⟨x.val, by omega⟩ + ∑ x : Fin 64, f ⟨128 + x.val, by omega⟩ :=
  Fin.sum_univ_add (a := 128) (b := 64) f

theorem raw_apply (h : Holds H q k v o) (i j : Fin 16384) : raw q k (ix2 i j) = ((H.raw i.val j.val : ℝ) : EReal) := by
  pointwise [raw]
  simp only [h.q, h.k, ← EReal.coe_mul, ← coe_sum, ← EReal.coe_add]
  rw [Spec.Head.raw, sum_width]

theorem score_apply (h : Holds H q k v o) (i j : Fin 16384) : score q k (ix2 i j) = ((H.score i.val j.val : ℝ) : EReal) := by
  pointwise [score]
  rw [raw_apply h, root_apply, Ideal.div_coe sqrt192_pos.ne', ← EReal.coe_mul, one_div]
  rfl

theorem chunk_apply (i : Fin 16384) : chunk (ix1 i) = BitVec.ofNat 32 (i.val / 64) :=
  Routing.pyDiv_ap (a := i.val) (b := 64) bcast_S_S16384 _ _ _ rfl rfl (by have := i.isLt; omega) (by decide) (by decide)

theorem mask_apply (i j : Fin 16384) : mask (ix2 i j) = BitVec.ofBool (decide (Spec.Head.Seen i.val j.val)) := by
  have e : mask (ix2 i j) = IntOp.cmpi .sle (chunk (ix1 j)) (chunk (ix1 i)) := by pointwise [mask]
  rw [e, chunk_apply, chunk_apply, WordCmp.cmpi_sle_ofNat (w := 32) (by have := j.isLt; omega) (by have := i.isLt; omega)]
  rfl

/-- A choice by the mask. -/
theorem select_mask {α : Type} (i j : Fin 16384) (x y : α) : Scalar.select (mask (ix2 i j)) x y = if Spec.Head.Seen i.val j.val then x else y := by
  rw [mask_apply]
  exact WordCmp.select_decide _ _ _

theorem masked_apply (h : Holds H q k v o) (i j : Fin 16384) : masked q k (ix2 i j) = H.masked i.val j.val := by
  pointwise [masked]
  rw [select_mask, score_apply h]
  show (if _ then _ else Ideal.ofBits .f32 0xFF800000#32) = _
  rw [ofBits_least]
  rfl

theorem rowMax_apply (h : Holds H q k v o) (i : Fin 16384) : rowMax (masked q k) (ix1 i) = ((H.max i.val : ℝ) : EReal) := by
  pointwise [rowMax]
  simp only [masked_apply h]
  rw [ofBits_least, ← H.top_eq i.isLt]
  rfl

/-! ## The softmax -/

theorem column_apply (y : Vec Ideal S16384 .f32) (i : Fin 16384) : column y (ix2 i 0) = y (ix1 i) := by
  pointwise [column]

theorem spread_apply (x : Vec Ideal S16384x1 .f32) (i j : Fin 16384) : spread x (ix2 i j) = x (ix2 i 0) := by
  pointwise [spread]

/-- A column reshaped to a vector, and back. -/
theorem cast_column (x : Vec Ideal S16384x1 .f32) (hc : S16384x1.ShapeCasts S16384) (i : Fin 16384) :
    (shapeCast S16384 x hc : Vec Ideal S16384 .f32) (ix1 i) = x (ix2 i 0) := by
  refine shapeCast_apply x hc _ _ ?_
  rw [Shape.rowMajor_val_one, Shape.rowMajor_val_two]
  show i.val * 1 + 0 = i.val
  omega

theorem cast_vector (x : Vec Ideal S16384 .f32) (hc : S16384.ShapeCasts S16384x1) (i : Fin 16384) :
    (shapeCast S16384x1 x hc : Vec Ideal S16384x1 .f32) (ix2 i 0) = x (ix1 i) := by
  refine shapeCast_apply x hc _ _ ?_
  rw [Shape.rowMajor_val_one, Shape.rowMajor_val_two]
  show i.val = i.val * 1 + 0
  omega

/-- The exponentials, where the column holds the rows' greatest scores. -/
theorem expo_apply (h : Holds H q k v o) {x : Vec Ideal S16384x1 .f32} (hx : ∀ i : Fin 16384, x (ix2 i 0) = ((H.max i.val : ℝ) : EReal))
    (i j : Fin 16384) : expo (masked q k) x (ix2 i j) = ((H.expo i.val j.val : ℝ) : EReal) := by
  pointwise [expo]
  rw [spread_apply, hx, masked_apply h]
  unfold Spec.Head.masked Spec.Head.expo
  split
  · rw [← EReal.coe_sub, Ideal.exp_coe]
  · rw [EReal.bot_sub, Ideal.exp_bot, EReal.coe_zero]

theorem rowSum_apply {e : Vec Ideal S16384x16384 .f32} (he : ∀ i j : Fin 16384, e (ix2 i j) = ((H.expo i.val j.val : ℝ) : EReal)) (i : Fin 16384) :
    rowSum e (ix1 i) = ((H.den i.val : ℝ) : EReal) := by
  pointwise [rowSum]
  simp only [he, ← coe_sum]
  try simp only [Ideal.ofBits_zero_f32, zero_add]
  rfl

theorem quot_apply {e : Vec Ideal S16384x16384 .f32} {z : Vec Ideal S16384x1 .f32} (hz : ∀ i : Fin 16384, z (ix2 i 0) = ((H.den i.val : ℝ) : EReal))
    (i j : Fin 16384) : quot e z (ix2 i j) = e (ix2 i j) * (((H.den i.val)⁻¹ : ℝ) : EReal) := by
  pointwise [quot]
  rw [spread_apply, hz, Ideal.div_coe (H.den_pos i.isLt).ne', one_div]

end Cert.Head
-- ==== Proof.Finite.lean ====
/-
  The precondition: where it holds, the four argument arrays are arrays of real numbers.
-/
module

public import proofs.«01_k».proof.Proof.HeadValues
public import proofs.«01_k».proof.Proof.Gen.Pre_finite
public import Idealize.ShloMosaic.Lib.ReduceAll

@[expose] public section

set_option maxRecDepth 16384

noncomputable section

namespace Cert.Head

open Idealize.ShloMosaic
open Cert.Pre_finite Cert.Pre_finite.Gen

instance : Subsingleton S_.Idx := ⟨fun a b => funext fun d => d.elim0⟩

theorem ofBits_top : Ideal.ofBits .f32 0x7F800000#32 = ⊤ := by
  simp [Ideal.ofBits, Ideal.ieee, -EReal.coe_mul]

/-- An extended real whose magnitude is below the greatest is a real number. -/
theorem real_of_abs_lt {x : EReal} (h : max x (-x) < ⊤) : x = ((x.toReal : ℝ) : EReal) := by
  refine (EReal.coe_toReal ?_ ?_).symm
  · rintro rfl
    exact absurd h (by simp)
  · rintro rfl
    exact absurd h (by simp)

theorem abs_lt_of_cmp {x y : EReal} (hy : y = ⊤) (h : Ideal.cmp .olt (max x (-x)) y = 1#1) : max x (-x) < ⊤ := by
  subst hy
  by_contra hn
  have e : Ideal.cmp .olt (max x (-x)) (⊤ : EReal) = BitVec.ofBool (decide (max x (-x) < ⊤)) := rfl
  rw [e, decide_eq_false hn] at h
  exact absurd h (by decide)

/-- An array of which the test `all (abs x < inf)` is one holds real numbers. -/
theorem reals_of_all {s : Shape} {axes : List (Fin s.rank)} (x : FVec Ideal s .f32) (hb : S_.BroadcastsInDim s (![] : Fin 0 → Fin s.rank)) (init : IVec S_ 1)
    (h : s.ReducesTo axes S_) (j : S_.Idx)
    (e : Host.reduce IntOp.andi (cmpf .olt (Host.absf x) (broadcastInDim s ![] hb (constant S_ .f32 0x7F800000#32))) init h h_S_ j = 1#1)
    (i : s.Idx) : x i = (((x i : EReal).toReal : ℝ) : EReal) :=
  real_of_abs_lt (abs_lt_of_cmp ofBits_top (Host.reduce_andi_all _ _ _ _ j e i))

/-- The four arrays hold real numbers. -/
theorem reals_of_pre (q k : FVec Ideal S16384x192 .f32) (v o : FVec Ideal S16384x128 .f32) (h : fn (F := Ideal) q k v o = fun _ => 1#1) :
    (∀ i, q i = (((q i : EReal).toReal : ℝ) : EReal)) ∧ (∀ i, k i = (((k i : EReal).toReal : ℝ) : EReal))
    ∧ (∀ i, v i = (((v i : EReal).toReal : ℝ) : EReal)) ∧ (∀ i, o i = (((o i : EReal).toReal : ℝ) : EReal)) := by
  have h0 := congrFun h (fun d => d.elim0)
  dsimp only [fn, fn_part1] at h0
  obtain ⟨h1, ho⟩ := IntOp.andi_eq_one.1 h0
  obtain ⟨h2, hv⟩ := IntOp.andi_eq_one.1 h1
  obtain ⟨hq, hk⟩ := IntOp.andi_eq_one.1 h2
  exact ⟨reals_of_all q _ _ _ _ hq, reals_of_all k _ _ _ _ hk, reals_of_all v _ _ _ _ hv, reals_of_all o _ _ _ _ ho⟩

/-- A row of an array of extended reals, read as real numbers; rows beyond the array are zero. -/
def realRows {n w : ℕ} (x : FVec Ideal ⟨2, ![n, w]⟩ .f32) (i : ℕ) (d : Fin w) : ℝ :=
  if h : i < n then (x (ix2 ⟨i, h⟩ d) : EReal).toReal else 0

theorem realRows_apply {n w : ℕ} (x : FVec Ideal ⟨2, ![n, w]⟩ .f32) (h : ∀ i, x i = (((x i : EReal).toReal : ℝ) : EReal)) (i : Fin n) (d : Fin w) :
    x (ix2 i d) = ((realRows x i.val d : ℝ) : EReal) := by
  rw [realRows, dif_pos i.isLt]
  exact h _

/-- The head that the four arrays hold. -/
def headOf (q k : FVec Ideal S16384x192 .f32) (v o : FVec Ideal S16384x128 .f32) : Spec.Head where
  q := realRows q
  k := realRows k
  v := realRows v
  d := realRows o

theorem holds_of_pre (q k : FVec Ideal S16384x192 .f32) (v o : FVec Ideal S16384x128 .f32) (h : fn (F := Ideal) q k v o = fun _ => 1#1) :
    Holds (headOf q k v o) q k v o :=
  have r := reals_of_pre q k v o h
  ⟨realRows_apply q r.1, realRows_apply k r.2.1, realRows_apply v r.2.2.1, realRows_apply o r.2.2.2⟩

end Cert.Head
-- ==== Proof.RefOps.lean ====
/-
  The reference's three results as functions of whole arrays, step by step: the softmax, the gradient of the scores, and the products
  that give the gradients of queries, keys and values.
-/
module

public import proofs.«01_k».proof.Proof.HeadOps
public import proofs.«01_k».proof.Proof.Gen.ReferenceIdeal.Run

@[expose] public section

set_option maxRecDepth 16384

noncomputable section

namespace Cert.Head

open Cert.ReferenceIdeal Cert.ReferenceIdeal.Gen Cert.ReferenceIdeal.Value
open Idealize.ShloMosaic Idealize.ShloMosaic.TcCoe

variable {F : FTy → Type} [FloatOps F]

section Values

variable (q k : Vec F S16384x192 .f32) (v o : Vec F S16384x128 .f32) (g : Vec F S16384x16384 .f32)

/-- The row maxima, none below the least value, as a column. -/
def rMax : Vec F S16384x1 .f32 :=
  column (maximumf (broadcastInDim S16384 ![] bcast_S_S16384 (constant S_ .f32 0xFF800000#32)) (rowMax (masked q k)))

/-- The exponentials. -/
def rExp : Vec F S16384x16384 .f32 := expo (masked q k) (rMax q k)

/-- The row denominators. -/
def rSum : Vec F S16384x1 .f32 := column (rowSum (rExp q k))

/-- The gradient of the values: the probabilities' columns with the cotangents. -/
def rDv : Vec F S16384x128 .f32 :=
  transpose S16384x128 [1, 0] (Host.dotGeneral dot_S16384x128_S16384x16384_S128x16384_0_0_1_1_n_n none o (quot (rExp q k) (rSum q k)))
    transposes_S128x16384_S16384x128_1_0

/-- The gradient of the probabilities. -/
def rDp : Vec F S16384x16384 .f32 := Host.dotGeneral dot_S16384x128_S16384x128_S16384x16384_1_1_0_0_n_n none o v

/-- One over the squared denominators. -/
def rInvSq : Vec F S16384x1 .f32 :=
  Host.divf (broadcastInDim S16384x1 ![] bcast_S_S16384x1 (constant S_ .f32 0x3F800000#32)) (mulf (rSum q k) (rSum q k))

/-- What the denominators' gradient sums. -/
def rTerms : Vec F S16384x16384 .f32 := mulf (mulf (rDp v o) (spread (rInvSq q k))) (rExp q k)

/-- The gradient of the denominators, as a column. -/
def rSumCol : Vec F S16384x1 .f32 := Host.negf (shapeCast S16384x1 (rowSum (rTerms q k v o)) shapeCasts_S16384_S16384x1)

/-- The same over all key rows. -/
def rSumGrad : Vec F S16384x16384 .f32 :=
  broadcastInDim S16384x16384 ![0] bcast_S16384_S16384x16384_0
    (Host.reduceAdd (rSumCol q k v o) (constant S_ .f32 0x00000000#32) reducesTo_S16384x1_S16384_d1 h_S_)

/-- The gradient of the masked scores. -/
def rMaskedGrad : Vec F S16384x16384 .f32 := mulf (addf (quot (rDp v o) (rSum q k)) (rSumGrad q k v o)) (rExp q k)

/-- The gradient of the scores, not scaled. -/
def rGrad : Vec F S16384x16384 .f32 :=
  Host.divf (select mask (rMaskedGrad q k v o) (broadcastInDim S16384x16384 ![] bcast_S_S16384x16384 (constant S_ .f32 0x00000000#32)))
    (broadcastInDim S16384x16384 ![] bcast_S_S16384x16384 root)

/-- The first 128 columns of the gradient of the keys. -/
def rDkLow : Vec F S16384x128 .f32 :=
  transpose S16384x128 [1, 0] (transpose S128x16384 [1, 0]
    (Host.dotGeneral dot_S16384x16384_S16384x128_S16384x128_0_0_1_1_n_n none g
      (extractStridedSlice S16384x128 ![0, 0] q slices_S16384x192_S16384x128_0_0)) transposes_S16384x128_S128x16384_1_0)
    transposes_S128x16384_S16384x128_1_0

/-- The last 64. -/
def rDkHigh : Vec F S16384x64 .f32 :=
  transpose S16384x64 [1, 0] (transpose S64x16384 [1, 0]
    (Host.dotGeneral dot_S16384x16384_S16384x64_S16384x64_0_0_1_1_n_n none g
      (extractStridedSlice S16384x64 ![0, 128] q slices_S16384x192_S16384x64_0_128)) transposes_S16384x64_S64x16384_1_0)
    transposes_S64x16384_S16384x64_1_0

/-- The first 128 columns of the gradient of the queries. -/
def rDqLow : Vec F S16384x128 .f32 :=
  Host.dotGeneral dot_S16384x16384_S128x16384_S16384x128_1_1_0_0_n_n none g
    (transpose S128x16384 [1, 0] (extractStridedSlice S16384x128 ![0, 0] k slices_S16384x192_S16384x128_0_0) transposes_S16384x128_S128x16384_1_0)

/-- The last 64. -/
def rDqHigh : Vec F S16384x64 .f32 :=
  Host.dotGeneral dot_S16384x16384_S64x16384_S16384x64_1_1_0_0_n_n none g
    (transpose S64x16384 [1, 0] (extractStridedSlice S16384x64 ![0, 128] k slices_S16384x192_S16384x64_0_128) transposes_S16384x64_S64x16384_1_0)

/-- The two parts joined: each padded by zeros, then added. -/
def join (a : Vec F S16384x128 .f32) (b : Vec F S16384x64 .f32) : Vec F S16384x192 .f32 :=
  addf (pad S16384x192 ![0, 128] ![0, 0] ![0, 0] b (constant S_ .f32 0x00000000#32) pads_S16384x64_S16384x192_000_12800 h_S_)
    (pad S16384x192 ![0, 0] ![0, 64] ![0, 0] a (constant S_ .f32 0x00000000#32) pads_S16384x128_S16384x192_000_0640 h_S_)

end Values

/-! ## The reference computes them -/

variable (m : (ℓ : Loc nD τ sig) → Buf (Elt F) ℓ) (c : Dev nD)

theorem res_dv : res_main_v51 m c = rDv (m (c.tc.loc main_arg0)) (m (c.tc.loc main_arg1)) (m (c.tc.loc main_arg3)) := by
  unfold res_main_v51
  rfl

theorem res_dk : res_main_v79 m c
    = join (rDkLow (m (c.tc.loc main_arg0)) (rGrad (m (c.tc.loc main_arg0)) (m (c.tc.loc main_arg1)) (m (c.tc.loc main_arg2)) (m (c.tc.loc main_arg3))))
        (rDkHigh (m (c.tc.loc main_arg0)) (rGrad (m (c.tc.loc main_arg0)) (m (c.tc.loc main_arg1)) (m (c.tc.loc main_arg2)) (m (c.tc.loc main_arg3)))) := by
  unfold res_main_v79
  rfl

theorem res_dq : res_main_v81 m c
    = join (rDqLow (m (c.tc.loc main_arg1)) (rGrad (m (c.tc.loc main_arg0)) (m (c.tc.loc main_arg1)) (m (c.tc.loc main_arg2)) (m (c.tc.loc main_arg3))))
        (rDqHigh (m (c.tc.loc main_arg1)) (rGrad (m (c.tc.loc main_arg0)) (m (c.tc.loc main_arg1)) (m (c.tc.loc main_arg2)) (m (c.tc.loc main_arg3)))) := by
  unfold res_main_v81
  rfl

end Cert.Head
-- ==== Proof.Reference.lean ====
/-
  The reference's three results at an element, over the reals.
-/
module

public import proofs.«01_k».proof.Proof.RefOps
public import proofs.«01_k».proof.Proof.HeadValues

@[expose] public section

set_option maxRecDepth 16384

noncomputable section

namespace Cert.Head

open Cert.ReferenceIdeal Cert.ReferenceIdeal.Gen
open Idealize.ShloMosaic
open Cert.Spec (coe_sum)

variable {H : Spec.Head} {q k : Vec Ideal S16384x192 .f32} {v o : Vec Ideal S16384x128 .f32}

/-! ## The softmax -/

theorem least_apply (y : FVec Ideal S16384 .f32) (i : Fin 16384) :
    maximumf (broadcastInDim S16384 ![] bcast_S_S16384 (constant S_ .f32 0xFF800000#32)) y (ix1 i) = max (Ideal.ofBits .f32 0xFF800000#32) (y (ix1 i)) := rfl

theorem rMax_apply (h : Holds H q k v o) (i : Fin 16384) : rMax q k (ix2 i 0) = ((H.max i.val : ℝ) : EReal) := by
  refine (column_apply _ i).trans ((least_apply (rowMax (masked q k)) i).trans ?_)
  rw [rowMax_apply h, ofBits_least]
  exact max_eq_right bot_le

theorem rExp_apply (h : Holds H q k v o) (i j : Fin 16384) : rExp q k (ix2 i j) = ((H.expo i.val j.val : ℝ) : EReal) :=
  expo_apply h (rMax_apply h) i j

theorem rSum_apply (h : Holds H q k v o) (i : Fin 16384) : rSum q k (ix2 i 0) = ((H.den i.val : ℝ) : EReal) :=
  (column_apply _ i).trans (rowSum_apply (rExp_apply h) i)

theorem rProb_apply (h : Holds H q k v o) (i j : Fin 16384) :
    quot (rExp q k) (rSum q k) (ix2 i j) = ((H.prob i.val j.val : ℝ) : EReal) := by
  rw [quot_apply (rSum_apply h), rExp_apply h, ← EReal.coe_mul]
  rfl

theorem rDv_apply (h : Holds H q k v o) (j : Fin 16384) (c : Fin 128) :
    rDv q k o (ix2 j c) = ((∑ i : Fin 16384, H.rows.prob i.val j.val * H.d i.val c : ℝ) : EReal) := by
  pointwise [rDv]
  simp only [rProb_apply h, h.o, ← EReal.coe_mul, ← coe_sum]
  refine congrArg _ (Finset.sum_congr rfl fun i _ => ?_)
  rw [H.rows_prob i.isLt, mul_comm]

/-! ## The gradient of the scores -/

theorem rDp_apply (h : Holds H q k v o) (i j : Fin 16384) : rDp v o (ix2 i j) = ((H.dp i.val j.val : ℝ) : EReal) := by
  pointwise [rDp]
  simp only [h.v, h.o, ← EReal.coe_mul, ← coe_sum]
  rfl

theorem rInvSq_apply (h : Holds H q k v o) (i : Fin 16384) : rInvSq q k (ix2 i 0) = (((H.den i.val * H.den i.val)⁻¹ : ℝ) : EReal) := by
  have hd := H.den_pos i.isLt
  pointwise [rInvSq]
  rw [rSum_apply h, ← EReal.coe_mul, Ideal.div_coe (mul_pos hd hd).ne', one_div, one_mul]

theorem rTerms_apply (h : Holds H q k v o) (i j : Fin 16384) :
    rTerms q k v o (ix2 i j) = ((H.dp i.val j.val * (H.den i.val * H.den i.val)⁻¹ * H.expo i.val j.val : ℝ) : EReal) := by
  pointwise [rTerms]
  rw [rDp_apply h, spread_apply, rInvSq_apply h, rExp_apply h, ← EReal.coe_mul, ← EReal.coe_mul]

theorem rSumCol_apply (h : Holds H q k v o) (i : Fin 16384) : rSumCol q k v o (ix2 i 0)
    = ((-∑ j : Fin 16384, H.dp i.val j.val * (H.den i.val * H.den i.val)⁻¹ * H.expo i.val j.val : ℝ) : EReal) := by
  have e : rowSum (rTerms q k v o) (ix1 i) = ((∑ j : Fin 16384, H.dp i.val j.val * (H.den i.val * H.den i.val)⁻¹ * H.expo i.val j.val : ℝ) : EReal) := by
    pointwise [rowSum]
    simp only [rTerms_apply h, ← coe_sum]
    try simp only [Ideal.ofBits_zero_f32, zero_add]
  show -((shapeCast S16384x1 (rowSum (rTerms q k v o)) shapeCasts_S16384_S16384x1 : Vec Ideal S16384x1 .f32) (ix2 i 0)) = _
  rw [cast_vector, e, EReal.coe_neg]

theorem rSumGrad_apply (h : Holds H q k v o) (i j : Fin 16384) : rSumGrad q k v o (ix2 i j)
    = ((-∑ j : Fin 16384, H.dp i.val j.val * (H.den i.val * H.den i.val)⁻¹ * H.expo i.val j.val : ℝ) : EReal) := by
  pointwise [rSumGrad]
  exact (Fin.sum_univ_one _).trans (rSumCol_apply h i)

theorem rMaskedGrad_apply (h : Holds H q k v o) (i j : Fin 16384) : rMaskedGrad q k v o (ix2 i j)
    = (((H.dp i.val j.val * (H.den i.val)⁻¹ + -∑ j : Fin 16384, H.dp i.val j.val * (H.den i.val * H.den i.val)⁻¹ * H.expo i.val j.val)
        * H.expo i.val j.val : ℝ) : EReal) := by
  pointwise [rMaskedGrad]
  rw [quot_apply (rSum_apply h), rDp_apply h, rSumGrad_apply h, rExp_apply h, ← EReal.coe_mul, ← EReal.coe_add, ← EReal.coe_mul]

theorem rGrad_apply (h : Holds H q k v o) (i j : Fin 16384) : rGrad q k v o (ix2 i j) = ((H.rows.grad i.val j.val : ℝ) : EReal) := by
  pointwise [rGrad]
  rw [root_apply, Ideal.div_coe sqrt192_pos.ne', select_mask, rMaskedGrad_apply h, one_div, ← H.rows_grad i.isLt]
  split
  · exact (EReal.coe_mul _ _).symm
  · rw [zero_mul, zero_mul, EReal.coe_zero]

/-! ## The gradients of the keys and queries -/

variable {g : Vec Ideal S16384x16384 .f32}

theorem rDkLow_apply (h : Holds H q k v o) (hg : ∀ i j : Fin 16384, g (ix2 i j) = ((H.rows.grad i.val j.val : ℝ) : EReal))
    (j : Fin 16384) (c : Fin 128) :
    rDkLow q g (ix2 j c) = ((∑ i : Fin 16384, H.rows.grad i.val j.val * H.q i.val ⟨c.val, by omega⟩ : ℝ) : EReal) := by
  pointwise [rDkLow]
  simp only [hg, h.q, ← EReal.coe_mul, ← coe_sum]

theorem rDkHigh_apply (h : Holds H q k v o) (hg : ∀ i j : Fin 16384, g (ix2 i j) = ((H.rows.grad i.val j.val : ℝ) : EReal))
    (j : Fin 16384) (c : Fin 64) :
    rDkHigh q g (ix2 j c) = ((∑ i : Fin 16384, H.rows.grad i.val j.val * H.q i.val ⟨128 + c.val, by omega⟩ : ℝ) : EReal) := by
  pointwise [rDkHigh]
  simp only [hg, h.q, ← EReal.coe_mul, ← coe_sum]

theorem rDqLow_apply (h : Holds H q k v o) (hg : ∀ i j : Fin 16384, g (ix2 i j) = ((H.rows.grad i.val j.val : ℝ) : EReal))
    (i : Fin 16384) (c : Fin 128) :
    rDqLow k g (ix2 i c) = ((∑ j : Fin 16384, H.rows.grad i.val j.val * H.k j.val ⟨c.val, by omega⟩ : ℝ) : EReal) := by
  pointwise [rDqLow]
  simp only [hg, h.k, ← EReal.coe_mul, ← coe_sum]

theorem rDqHigh_apply (h : Holds H q k v o) (hg : ∀ i j : Fin 16384, g (ix2 i j) = ((H.rows.grad i.val j.val : ℝ) : EReal))
    (i : Fin 16384) (c : Fin 64) :
    rDqHigh k g (ix2 i c) = ((∑ j : Fin 16384, H.rows.grad i.val j.val * H.k j.val ⟨128 + c.val, by omega⟩ : ℝ) : EReal) := by
  pointwise [rDqHigh]
  simp only [hg, h.k, ← EReal.coe_mul, ← coe_sum]

/-- The joined parts are one array when each part is. -/
theorem join_apply {a : Vec Ideal S16384x128 .f32} {b : Vec Ideal S16384x64 .f32} {w : ℕ → Fin 192 → ℝ}
    (ha : ∀ (i : Fin 16384) (c : Fin 128), a (ix2 i c) = ((w i.val ⟨c.val, by omega⟩ : ℝ) : EReal))
    (hb : ∀ (i : Fin 16384) (c : Fin 64), b (ix2 i c) = ((w i.val ⟨128 + c.val, by omega⟩ : ℝ) : EReal)) (i : Fin 16384) (d : Fin 192) :
    join a b (ix2 i d) = ((w i.val d : ℝ) : EReal) := by
  pointwise [join]
  by_cases hd : d.val < 128
  · rw [dif_neg (by omega), dif_pos hd, zero_add, ha]
  · have := d.isLt
    rw [dif_pos (by omega), dif_neg hd, add_zero, hb]
    exact congrArg (fun x => ((w i.val x : ℝ) : EReal)) (Fin.ext (by show 128 + (d.val - 128) = d.val; omega))

end Cert.Head
-- ==== Proof.KI.Payloads.lean ====
/-
  What the kernel's payloads are at one element, over the extended reals: every one of them is a masked product of two tiles, an
  exponential of a scaled score, a product of a probability with a difference, or a sum that grows by a product of two tiles.
-/
module

public import proofs.«01_k».proof.Proof.KI.Tiles
public import Idealize.ShloMosaic.Lib.Pointwise
public import Idealize.ShloMosaic.Lib.IdealHost
public import Idealize.ShloMosaic.Lib.ValueIdx

@[expose] public section

set_option maxRecDepth 16384

noncomputable section

namespace Cert.KernelIdeal.Bwd

open Cert.KernelIdeal Cert.KernelIdeal.Gen
open Idealize.ShloMosaic

/-- The product of a key tile and a query tile over the first 192 columns, masked: an element is kept where the chunk difference is at
    most `vis`. -/
theorem pay56_apply (v53 : IVec S512x512 32) (vis : BitVec 32) (v w : FVec Ideal S512x192 .bf16) (a b : Fin 512) :
    k0_pay56 (F := Ideal) v53 vis v w (ix3 0 a b) = if (v53 (ix2 a b)).sle vis then ∑ c : Fin 192, v (ix2 a c) * w (ix2 b c) else ⊥ := by
  pointwise [k0_pay56]
  rw [show (Named.named κ "mask" 0xF149F2CA#32 : Ideal .f32) = ⊥ from IdealRules.named_const.ideal_named_scalar _ _ _ _ rfl]
  unfold Scalar.select IntOp.cmpi
  cases (v53 (ix2 a b)).sle vis <;> rfl

/-- The products of the values with the cotangents. -/
theorem pay57_apply (v w : FVec Ideal S512x128 .bf16) (a b : Fin 512) :
    k0_pay57 (F := Ideal) v w (ix3 0 a b) = ∑ c : Fin 128, v (ix2 a c) * w (ix2 b c) := by
  pointwise [k0_pay57]

/-- The values' sum grows by a product of two tiles, -/
theorem pay60_apply (dv : FVec Ideal S512x128 .f32) (p : FVec Ideal S1x512x512 .bf16) (w : FVec Ideal S512x128 .bf16) (a : Fin 512) (c : Fin 128) :
    k0_pay60 (F := Ideal) dv p w (ix2 a c) = dv (ix2 a c) + ∑ b : Fin 512, p (ix3 0 a b) * w (ix2 b c) := by
  pointwise [k0_pay60]

/-- the keys' too, -/
theorem pay62_apply (z : FVec Ideal S1x512x512 .bf16) (dk : FVec Ideal S512x192 .f32) (w : FVec Ideal S512x192 .bf16) (a : Fin 512) (d : Fin 192) :
    k0_pay62 (F := Ideal) z dk w (ix2 a d) = dk (ix2 a d) + ∑ b : Fin 512, z (ix3 0 a b) * w (ix2 b d) := by
  pointwise [k0_pay62, k0_pay61]

/-- and the queries'. -/
theorem pay63_apply (z : FVec Ideal S1x512x512 .bf16) (dq : FVec Ideal S512x192 .f32) (w : FVec Ideal S512x192 .bf16) (b : Fin 512) (d : Fin 192) :
    k0_pay63 (F := Ideal) z dq w (ix2 b d) = dq (ix2 b d) + ∑ a : Fin 512, z (ix3 0 a b) * w (ix2 a d) := by
  pointwise [k0_pay63, k0_pay61]

/-- A probability is an exponential of a score, scaled and less the row's logarithm. -/
theorem pay5_apply (s : FVec Ideal S1x512x512 .f32) (l : FVec Ideal S1x1x512 .f32) (a b : Fin 512) :
    k0_pay5 (F := Ideal) s l (ix3 0 a b) = Ideal.exp2 (s (ix3 0 a b) * (((Real.sqrt 192)⁻¹ * (Real.log 2)⁻¹ : ℝ) : EReal) - l (ix3 0 0 b)) := by
  pointwise [k0_pay5, k0_pay4]
  rw [show (Named.named κ "exp2_scale" 0x3DD53B95#32 : Ideal .f32) = (((Real.sqrt 192)⁻¹ * (Real.log 2)⁻¹ : ℝ) : EReal)
    from IdealRules.named_const.ideal_named_scalar _ _ _ _ rfl]
  rfl

/-- The gradient of a score is its probability times a difference, scaled. -/
theorem pay7_apply (s d : FVec Ideal S1x512x512 .f32) (l dl : FVec Ideal S1x1x512 .f32) (a b : Fin 512) :
    k0_pay7 (F := Ideal) (k0_pay6 s l d dl) (ix3 0 a b)
      = k0_pay5 (F := Ideal) s l (ix3 0 a b) * (d (ix3 0 a b) - dl (ix3 0 0 b)) * (((Real.sqrt 192)⁻¹ : ℝ) : EReal) := by
  pointwise [k0_pay7, k0_pay6, k0_pay5, k0_pay4]
  rw [show (Named.named κ "att_scale" 0x3D93CD3A#32 : Ideal .f32) = (((Real.sqrt 192)⁻¹ : ℝ) : EReal)
    from IdealRules.named_const.ideal_named_scalar _ _ _ _ rfl]

/-- The tiles the point starts from hold zeros. -/
theorem pay51_apply (a : Fin 512) (d : Fin 192) : k0_pay51 (F := Ideal) (ix2 a d) = 0 := by
  pointwise [k0_pay51]
theorem pay52_apply (a : Fin 512) (d : Fin 128) : k0_pay52 (F := Ideal) (ix2 a d) = 0 := by
  pointwise [k0_pay52]
theorem pay53_apply (a b : Fin 512) : k0_pay53 (F := Ideal) (ix3 0 a b) = 0 := by
  pointwise [k0_pay53]
theorem pay54_apply (a b : Fin 512) : k0_pay54 (F := Ideal) (ix3 0 a b) = 0 := by
  pointwise [k0_pay54]
theorem pay45_apply (r : Fin 16384) (d : Fin 192) : k0_pay45 (F := Ideal) (ix2 r d) = 0 := by
  pointwise [k0_pay45]

/-- The same payloads where the kernel states them again. -/
theorem pay8_eq : k0_pay8 (F := Ideal) = k0_pay60 := rfl
theorem pay20_eq : k0_pay20 (F := Ideal) = k0_pay60 := rfl
theorem pay10_eq : k0_pay10 (F := Ideal) = k0_pay62 := rfl
theorem pay22_eq : k0_pay22 (F := Ideal) = k0_pay62 := rfl
theorem pay12_eq (z : FVec Ideal S1x512x512 .bf16) (dq : FVec Ideal S512x192 .f32) (w : FVec Ideal S512x192 .bf16) :
    k0_pay12 (F := Ideal) (k0_pay9 z) dq (k0_pay11 w) = k0_pay63 z dq w := rfl
theorem pay58_eq (z : FVec Ideal S1x512x512 .bf16) (dq : FVec Ideal S512x192 .f32) (w : FVec Ideal S512x192 .bf16) :
    k0_pay58 (F := Ideal) (k0_pay21 z) dq w = k0_pay63 z dq w := rfl
theorem pay17_eq : k0_pay17 (F := Ideal) = k0_pay5 := rfl
theorem pay19_eq (s d : FVec Ideal S1x512x512 .f32) (l dl : FVec Ideal S1x1x512 .f32) :
    k0_pay19 (F := Ideal) (k0_pay18 s l d dl) = k0_pay7 (k0_pay6 s l d dl) := rfl
theorem pay3_eq (v w : FVec Ideal S512x128 .bf16) : k0_pay3 (F := Ideal) (k0_pay2 v w) = k0_pay57 v w := rfl
theorem pay15_eq (v w : FVec Ideal S512x128 .bf16) : k0_pay15 (F := Ideal) (k0_pay14 v) w = k0_pay57 v w := rfl

/-- The largest chunk difference visible `t` tiles on from tile `a0`: none where there is no such tile. -/
def visWord (a0 t : BitVec 32) : BitVec 32 :=
  Scalar.select (Scalar.cmpi .slt (Scalar.addi a0 t) 32#32) (Scalar.muli t 8#32) 4294967280#32

theorem pay1_eq (i : grid0.Coords) (a0 : BitVec 32) (v53 : IVec S512x512 32) (t : Fin (k0_t1_loop i).trips) (v w : FVec Ideal S512x192 .bf16) :
    k0_pay1 (F := Ideal) i a0 v53 0#32 1#32 t v w
      = k0_pay56 v53 (visWord a0 (Scalar.addi (Scalar.muli 2#32 (Scf.iv 0#32 1#32 t)) 1#32)) (k0_pay55 v) w := rfl
theorem pay13_eq (a0 : BitVec 32) (v53 : IVec S512x512 32) (x : BitVec 32) (v w : FVec Ideal S512x192 .bf16) :
    k0_pay13 (F := Ideal) a0 v53 x v w = k0_pay56 v53 (visWord a0 (Scalar.addi x 2#32)) (k0_pay55 v) w := rfl
theorem pay55_eq (v : FVec Ideal S512x192 .bf16) : k0_pay55 (F := Ideal) v = v := by
  funext y
  idx_vars y
  pointwise [k0_pay55]

end Cert.KernelIdeal.Bwd
-- ==== Proof.KI.Offsets.lean ====
/-
  Which tile each access of the kernel's loop takes, and which elements of a tile are visible.
-/
module

public import proofs.«01_k».proof.Proof.KI.Payloads
public import proofs.«01_k».proof.Proof.Spec

@[expose] public section

set_option maxRecDepth 16384

noncomputable section

namespace Cert.KernelIdeal.Bwd

open Cert.KernelIdeal Cert.KernelIdeal.Gen
open Idealize.ShloMosaic
open Cert.Spec (tileAt)

theorem trips_eq : ∀ i : grid0.Coords, (k0_t1_loop i).trips = (33 - (i 0).val) / 2 := by decide +kernel

theorem off1_eq : ∀ i : grid0.Coords, k0_off1 i = ![512 * tileAt (i 0).val 1, 0] := by decide +kernel
theorem off2_eq : ∀ i : grid0.Coords, k0_off2 i = ![512 * tileAt (i 0).val 1, 0] := by decide +kernel
theorem off3a_eq : ∀ (i : grid0.Coords) (t : Fin (k0_t1_loop i).trips), k0_off3 i t 1#32 = ![512 * tileAt (i 0).val (2 * t.val + 2), 0] := by decide +kernel
theorem off3b_eq : ∀ (i : grid0.Coords) (t : Fin (k0_t1_loop i).trips), k0_off3 i t 2#32 = ![512 * tileAt (i 0).val (2 * t.val + 3), 0] := by decide +kernel
theorem off4a_eq : ∀ (i : grid0.Coords) (t : Fin (k0_t1_loop i).trips), k0_off4 i t 1#32 = ![512 * tileAt (i 0).val (2 * t.val + 2), 0] := by decide +kernel
theorem off4b_eq : ∀ (i : grid0.Coords) (t : Fin (k0_t1_loop i).trips), k0_off4 i t 2#32 = ![512 * tileAt (i 0).val (2 * t.val + 3), 0] := by decide +kernel
theorem off5_eq : ∀ (i : grid0.Coords) (t : Fin (k0_t1_loop i).trips), k0_off5 i t = ![tileAt (i 0).val (2 * t.val + 1), 0, 0] := by decide +kernel
theorem off6_eq : ∀ (i : grid0.Coords) (t : Fin (k0_t1_loop i).trips), k0_off6 i t = ![512 * tileAt (i 0).val (2 * t.val), 0] := by decide +kernel
theorem off7_eq : ∀ (i : grid0.Coords) (t : Fin (k0_t1_loop i).trips), k0_off7 i t = ![512 * tileAt (i 0).val (2 * t.val), 0] := by decide +kernel
theorem off8_eq : ∀ (i : grid0.Coords) (t : Fin (k0_t1_loop i).trips), k0_off8 i t = ![tileAt (i 0).val (2 * t.val + 2), 0, 0] := by decide +kernel
theorem off9_eq : ∀ (i : grid0.Coords) (t : Fin (k0_t1_loop i).trips), k0_off9 i t = ![512 * tileAt (i 0).val (2 * t.val + 1), 0] := by decide +kernel
theorem off10_eq : ∀ (i : grid0.Coords) (t : Fin (k0_t1_loop i).trips), k0_off10 i t = ![512 * tileAt (i 0).val (2 * t.val + 1), 0] := by decide +kernel
theorem off19_eq : ∀ i : grid0.Coords, k0_off19 i = ![512 * tileAt (i 0).val (2 * (k0_t1_loop i).trips), 0] := by decide +kernel
theorem off20_eq : ∀ i : grid0.Coords, k0_off20 i = ![512 * tileAt (i 0).val (2 * (k0_t1_loop i).trips), 0] := by decide +kernel

/-- A word divided by 64, rounded down, as the kernel does it. -/
def chunkWord (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

theorem chunkWord_eq : ∀ a : Fin 512, chunkWord (BitVec.ofNat 32 a.val) = BitVec.ofNat 32 (a.val / 64) := by decide +kernel

/-- The difference of the chunk numbers of two rows of a tile. -/
theorem chunkDiff_apply (a b : Fin 512) :
    chunkDiff (ix2 a b) = BitVec.ofNat 32 (a.val / 64) - BitVec.ofNat 32 (b.val / 64) := by
  have h : chunkDiff (ix2 a b) = IntOp.subi (chunkWord (BitVec.ofNat 32 a.val)) (chunkWord (BitVec.ofNat 32 b.val)) := by
    pointwise [chunkDiff, k0_pay50, k0_pay46, k0_pay47, k0_pay48, k0_pay49]
    rfl
  rw [h, chunkWord_eq, chunkWord_eq]
  rfl

theorem visWord_eq : ∀ (j : Fin 32) (t : Fin 36), visWord (BitVec.ofNat 32 j.val) (BitVec.ofNat 32 t.val)
    = if j.val + t.val < 32 then BitVec.ofNat 32 (8 * t.val) else 4294967280#32 := by decide +kernel

theorem sle_some : ∀ (x y : Fin 8) (t : Fin 36),
    (BitVec.ofNat 32 x.val - BitVec.ofNat 32 y.val).sle (BitVec.ofNat 32 (8 * t.val)) = decide (x.val ≤ y.val + 8 * t.val) := by decide +kernel

theorem sle_none : ∀ x y : Fin 8, (BitVec.ofNat 32 x.val - BitVec.ofNat 32 y.val).sle 4294967280#32 = false := by decide +kernel

/-- Row `a` of key tile `j` is seen by row `b` of query tile `j + t` where there is such a tile and the key's chunk is no later. -/
theorem vis_eq (j : ℕ) (hj : j < 32) (t : ℕ) (ht : t < 36) (a b : Fin 512) :
    (chunkDiff (ix2 a b)).sle (visWord (BitVec.ofNat 32 j) (BitVec.ofNat 32 t))
      = decide (j + t < 32 ∧ (512 * j + a.val) / 64 ≤ (512 * (j + t) + b.val) / 64) := by
  have ha : a.val / 64 < 8 := by omega
  have hb : b.val / 64 < 8 := by omega
  rw [chunkDiff_apply, visWord_eq ⟨j, hj⟩ ⟨t, ht⟩]
  by_cases h : j + t < 32
  · rw [if_pos h, sle_some ⟨_, ha⟩ ⟨_, hb⟩ ⟨t, ht⟩]
    refine decide_eq_decide.2 ⟨fun h' => ⟨h, ?_⟩, fun h' => ?_⟩
    · change a.val / 64 ≤ b.val / 64 + 8 * t at h'
      omega
    · change a.val / 64 ≤ b.val / 64 + 8 * t
      omega
  · rw [if_neg h, sle_none ⟨_, ha⟩ ⟨_, hb⟩]
    exact (decide_eq_false fun h' => h h'.1).symm

/-- The tile numbers of a trip as words. -/
theorem visA (i : grid0.Coords) (t : Fin (k0_t1_loop i).trips) :
    Scalar.addi (Scalar.muli 2#32 (Scf.iv 0#32 1#32 t.val)) 1#32 = BitVec.ofNat 32 (2 * t.val + 1) := by
  revert i
  decide +kernel
theorem visB (i : grid0.Coords) (t : Fin (k0_t1_loop i).trips) :
    Scalar.addi (Scalar.muli 2#32 (Scf.iv 0#32 1#32 t.val)) 2#32 = BitVec.ofNat 32 (2 * t.val + 2) := by
  revert i
  decide +kernel

end Cert.KernelIdeal.Bwd
-- ==== Proof.KI.Windows.lean ====
/-
  A window of 512 rows, and a put over one, at an element.
-/
module

public import proofs.«01_k».proof.Proof.KI.Tiles
public import Idealize.ShloMosaic.Lib.Pointwise

@[expose] public section

set_option maxRecDepth 16384

noncomputable section

namespace Cert.KernelIdeal.Bwd

open Cert.KernelIdeal Cert.KernelIdeal.Gen
open Idealize.ShloMosaic

variable {α : Type}

theorem window192 (x : S16384x192.Idx → α) {off : Fin 2 → ℕ} (inb : ∀ a, off a + S512x192.size a ≤ S16384x192.size a) {o : ℕ}
    (h : off = ![o, 0]) (b : Fin 512) (d : Fin 192) (hb : o + b.val < 16384) :
    VecWindow.window x off S512x192.size inb (ix2 b d) = x (ix2 ⟨o + b.val, hb⟩ d) := by
  subst h
  refine congrArg x (funext fun a => Fin.ext ?_)
  fin_cases a
  · show o + 1 * b.val = o + b.val
    omega
  · show 0 + 1 * d.val = d.val
    omega

theorem window128 (x : S16384x128.Idx → α) {off : Fin 2 → ℕ} (inb : ∀ a, off a + S512x128.size a ≤ S16384x128.size a) {o : ℕ}
    (h : off = ![o, 0]) (b : Fin 512) (d : Fin 128) (hb : o + b.val < 16384) :
    VecWindow.window x off S512x128.size inb (ix2 b d) = x (ix2 ⟨o + b.val, hb⟩ d) := by
  subst h
  refine congrArg x (funext fun a => Fin.ext ?_)
  fin_cases a
  · show o + 1 * b.val = o + b.val
    omega
  · show 0 + 1 * d.val = d.val
    omega

theorem windowRow (x : S32x1x512.Idx → α) {off : Fin 3 → ℕ} (inb : ∀ a, off a + S1x1x512.size a ≤ S32x1x512.size a) {o : ℕ}
    (h : off = ![o, 0, 0]) (b : Fin 512) (ho : o < 32) :
    VecWindow.window x off S1x1x512.size inb (ix3 0 0 b) = x (ix3 ⟨o, ho⟩ 0 b) := by
  subst h
  refine congrArg x (funext fun a => Fin.ext ?_)
  fin_cases a
  · show o + 1 * 0 = o
    omega
  · rfl
  · show 0 + 1 * b.val = b.val
    omega

theorem put192 (x : S16384x192.Idx → α) {off : Fin 2 → ℕ} {o : ℕ} (h : off = ![512 * o, 0]) (w : S512x192.Idx → α) (r : Fin 16384) (d : Fin 192) :
    VecWindow.put x off S512x192.size w (ix2 r d)
      = if o = r.val / 512 then w (ix2 ⟨r.val % 512, Nat.mod_lt _ (by omega)⟩ d) else x (ix2 r d) := by
  subst h
  unfold VecWindow.put
  by_cases ho : o = r.val / 512
  · have hall : ∀ a, (![512 * o, 0] : Fin 2 → ℕ) a ≤ (ix2 r d a).val ∧ (ix2 r d a).val < (![512 * o, 0] : Fin 2 → ℕ) a + S512x192.size a := by
      intro a
      fin_cases a
      · show 512 * o ≤ r.val ∧ r.val < 512 * o + 512
        omega
      · show 0 ≤ d.val ∧ d.val < 0 + 192
        have := d.isLt
        omega
    rw [if_pos ho]
    refine (dif_pos hall).trans (congrArg w (funext fun a => Fin.ext ?_))
    fin_cases a
    · show r.val - 512 * o = r.val % 512
      omega
    · show d.val - 0 = d.val
      omega
  · rw [if_neg ho]
    refine dif_neg fun hall => ho ?_
    have h0 : 512 * o ≤ r.val ∧ r.val < 512 * o + 512 := hall 0
    omega

end Cert.KernelIdeal.Bwd
-- ==== Proof.KI.Steps.lean ====
/-
  One tile's share of a trip, over the reals: its scores, its probabilities and scores' gradients, and what it adds to the three sums.
-/
module

public import proofs.«01_k».proof.Proof.KI.Offsets
public import proofs.«01_k».proof.Proof.KI.Windows

@[expose] public section

set_option maxRecDepth 16384

noncomputable section

namespace Cert.KernelIdeal.Bwd

open Cert.KernelIdeal Cert.KernelIdeal.Gen
open Idealize.ShloMosaic
open Cert.Spec

/-- The rows of `R` are what a grid point `j` reads. -/
structure Reads (R : Rows) (j : ℕ) (e : Env Ideal) : Prop where
  kb : ∀ (a : Fin 512) (d : Fin 192), e.kb (ix2 a d) = ((R.k (512 * j + a.val) d : ℝ) : EReal)
  vb : ∀ (a : Fin 512) (d : Fin 128), e.vb (ix2 a d) = ((R.v (512 * j + a.val) d : ℝ) : EReal)
  q : ∀ (r : Fin 16384) (d : Fin 192), e.q (ix2 r d) = ((R.q r.val d : ℝ) : EReal)
  dout : ∀ (r : Fin 16384) (d : Fin 128), e.dout (ix2 r d) = ((R.d r.val d : ℝ) : EReal)
  lse : ∀ (t : Fin 32) (b : Fin 512), e.lse (ix3 t 0 b) = ((R.lse (512 * t.val + b.val) : ℝ) : EReal)
  delta : ∀ (t : Fin 32) (b : Fin 512), e.delta (ix3 t 0 b) = ((R.delta (512 * t.val + b.val) : ℝ) : EReal)

theorem tileAt_lt (j n : ℕ) : tileAt j n < 32 := by unfold tileAt; omega

theorem row_lt (j n : ℕ) (b : Fin 512) : 512 * tileAt j n + b.val < 16384 := by
  have := tileAt_lt j n
  have := b.isLt
  omega

variable {R : Rows} {j : ℕ} {e : Env Ideal}

/-- The scores of tile `n` hold the products of its rows, `⊥` where nothing is visible. -/
def Scores (R : Rows) (j n : ℕ) (s : Vec Ideal S1x512x512 .f32) : Prop :=
  ∀ a b : Fin 512, s (ix3 0 a b) = if Counted j n ∧ (512 * j + a.val) / 64 ≤ (512 * tileAt j n + b.val) / 64
    then ((R.score (512 * tileAt j n + b.val) (512 * j + a.val) : ℝ) : EReal) else ⊥

/-- The products of the values with the cotangents of tile `n`. -/
def Products (R : Rows) (j n : ℕ) (s : Vec Ideal S1x512x512 .f32) : Prop :=
  ∀ a b : Fin 512, s (ix3 0 a b) = ((R.dp (512 * tileAt j n + b.val) (512 * j + a.val) : ℝ) : EReal)

/-- A tile of a table. -/
def Holds (f : ℕ → ℕ → ℝ) (j n : ℕ) (p : Vec Ideal S1x512x512 .bf16) : Prop :=
  ∀ a b : Fin 512, p (ix3 0 a b) = ((tile f j n a.val b.val : ℝ) : EReal)

theorem Reads.qWindow (h : Reads R j e) {off : Fin 2 → ℕ} {inb : ∀ a, off a + S512x192.size a ≤ S16384x192.size a} {n : ℕ}
    (ho : off = ![512 * tileAt j n, 0]) (b : Fin 512) (d : Fin 192) :
    VecWindow.window e.q off S512x192.size inb (ix2 b d) = ((R.q (512 * tileAt j n + b.val) d : ℝ) : EReal) := by
  rw [window192 e.q inb ho b d (row_lt j n b), h.q]

theorem Reads.doWindow (h : Reads R j e) {off : Fin 2 → ℕ} {inb : ∀ a, off a + S512x128.size a ≤ S16384x128.size a} {n : ℕ}
    (ho : off = ![512 * tileAt j n, 0]) (b : Fin 512) (d : Fin 128) :
    VecWindow.window e.dout off S512x128.size inb (ix2 b d) = ((R.d (512 * tileAt j n + b.val) d : ℝ) : EReal) := by
  rw [window128 e.dout inb ho b d (row_lt j n b), h.dout]

theorem Reads.lseWindow (h : Reads R j e) {off : Fin 3 → ℕ} {inb : ∀ a, off a + S1x1x512.size a ≤ S32x1x512.size a} {n : ℕ}
    (ho : off = ![tileAt j n, 0, 0]) (b : Fin 512) :
    VecWindow.window e.lse off S1x1x512.size inb (ix3 0 0 b) = ((R.lse (512 * tileAt j n + b.val) : ℝ) : EReal) := by
  rw [windowRow e.lse inb ho b (tileAt_lt j n), h.lse]

theorem Reads.deltaWindow (h : Reads R j e) {off : Fin 3 → ℕ} {inb : ∀ a, off a + S1x1x512.size a ≤ S32x1x512.size a} {n : ℕ}
    (ho : off = ![tileAt j n, 0, 0]) (b : Fin 512) :
    VecWindow.window e.delta off S1x1x512.size inb (ix3 0 0 b) = ((R.delta (512 * tileAt j n + b.val) : ℝ) : EReal) := by
  rw [windowRow e.delta inb ho b (tileAt_lt j n), h.delta]

/-- The scores a grid point computes of the tile numbered `t + 1`. -/
theorem Reads.scores (h : Reads R j e) (hj : j < 32) {t : ℕ} (ht : t < 36) {off : Fin 2 → ℕ}
    {inb : ∀ a, off a + S512x192.size a ≤ S16384x192.size a} (ho : off = ![512 * tileAt j (t + 1), 0]) {vis : BitVec 32}
    (hv : vis = visWord (BitVec.ofNat 32 j) (BitVec.ofNat 32 t)) :
    Scores R j (t + 1) (k0_pay56 (F := Ideal) chunkDiff vis (k0_pay55 e.kb) (VecWindow.window e.q off S512x192.size inb)) := by
  intro a b
  subst hv
  rw [pay56_apply, pay55_eq, vis_eq j hj t ht a b]
  have hc : (Counted j (t + 1) ∧ (512 * j + a.val) / 64 ≤ (512 * tileAt j (t + 1) + b.val) / 64)
      ↔ (j + t < 32 ∧ (512 * j + a.val) / 64 ≤ (512 * (j + t) + b.val) / 64) := by
    constructor
    · rintro ⟨h1, h2⟩
      rw [h1.tileAt] at h2
      have := h1.2
      exact ⟨by omega, h2⟩
    · rintro ⟨h1, h2⟩
      have hc : Counted j (t + 1) := ⟨by omega, by omega⟩
      refine ⟨hc, ?_⟩
      rw [hc.tileAt]
      exact h2
  rw [if_congr hc rfl rfl]
  simp only [decide_eq_true_eq]
  congr 1
  rw [Rows.score, coe_sum]
  refine Finset.sum_congr rfl fun d _ => ?_
  rw [h.kb, h.qWindow ho, EReal.coe_mul]

/-- The products with the cotangents. -/
theorem Reads.products (h : Reads R j e) {n : ℕ} {off : Fin 2 → ℕ} {inb : ∀ a, off a + S512x128.size a ≤ S16384x128.size a}
    (ho : off = ![512 * tileAt j n, 0]) :
    Products R j n (k0_pay57 (F := Ideal) e.vb (VecWindow.window e.dout off S512x128.size inb)) := by
  intro a b
  rw [pay57_apply, Rows.dp, coe_sum]
  refine Finset.sum_congr rfl fun d _ => ?_
  rw [h.vb, h.doWindow ho, EReal.coe_mul]

theorem scale_pos : (0 : ℝ) < (Real.sqrt 192)⁻¹ * (Real.log 2)⁻¹ :=
  mul_pos (inv_pos.2 (Real.sqrt_pos.2 (by norm_num))) (inv_pos.2 (Real.log_pos (by norm_num)))

/-- The probabilities of a tile, of its scores. -/
theorem Reads.probs (h : Reads R j e) {n : ℕ} {s : Vec Ideal S1x512x512 .f32} (hs : Scores R j n s) {off : Fin 3 → ℕ}
    {inb : ∀ a, off a + S1x1x512.size a ≤ S32x1x512.size a} (ho : off = ![tileAt j n, 0, 0]) :
    Holds R.prob j n (k0_pay5 (F := Ideal) s (VecWindow.window e.lse off S1x1x512.size inb)) := by
  intro a b
  rw [pay5_apply, hs a b, h.lseWindow ho, tile]
  by_cases hc : Counted j n
  · rw [if_pos hc, Rows.prob]
    by_cases hv : (512 * j + a.val) / 64 ≤ (512 * tileAt j n + b.val) / 64
    · rw [if_pos ⟨hc, hv⟩, if_pos hv, ← EReal.coe_mul, ← EReal.coe_sub, Ideal.exp2_coe]
    · rw [if_neg (fun h' => hv h'.2), if_neg hv, EReal.bot_mul_coe_of_pos scale_pos, EReal.bot_sub, Ideal.exp2_bot, EReal.coe_zero]
  · rw [if_neg (fun h' => hc h'.1), if_neg hc, EReal.bot_mul_coe_of_pos scale_pos, EReal.bot_sub, Ideal.exp2_bot, EReal.coe_zero]

/-- The gradients of its scores. -/
theorem Reads.grads (h : Reads R j e) {n : ℕ} {s d : Vec Ideal S1x512x512 .f32} (hs : Scores R j n s) (hd : Products R j n d) {off : Fin 3 → ℕ}
    {inb : ∀ a, off a + S1x1x512.size a ≤ S32x1x512.size a} (ho : off = ![tileAt j n, 0, 0]) :
    Holds R.grad j n (k0_pay7 (F := Ideal) (k0_pay6 s (VecWindow.window e.lse off S1x1x512.size inb) d
      (VecWindow.window e.delta off S1x1x512.size inb))) := by
  intro a b
  rw [pay7_apply, h.probs hs ho a b, hd a b, h.deltaWindow ho, ← EReal.coe_sub, ← EReal.coe_mul, ← EReal.coe_mul]
  congr 1
  unfold tile
  by_cases hc : Counted j n
  · rw [if_pos hc, if_pos hc, Rows.grad]
  · rw [if_neg hc, if_neg hc, zero_mul, zero_mul]

/-- The values' sum grows by a tile, -/
theorem valueStep {f : ℕ → ℕ → ℝ} {w : ℕ → Fin 128 → ℝ} {n : ℕ} {dv : Vec Ideal S512x128 .f32} {p : Vec Ideal S1x512x512 .bf16} {x : Vec Ideal S512x128 .bf16}
    (hdv : ∀ (a : Fin 512) (c : Fin 128), dv (ix2 a c) = ((keySum f w j n a.val c : ℝ) : EReal)) (hp : Holds f j n p)
    (hx : ∀ (b : Fin 512) (c : Fin 128), x (ix2 b c) = ((w (512 * tileAt j n + b.val) c : ℝ) : EReal)) (a : Fin 512) (c : Fin 128) :
    k0_pay60 (F := Ideal) dv p x (ix2 a c) = ((keySum f w j (n + 1) a.val c : ℝ) : EReal) := by
  rw [pay60_apply, hdv, keySum_succ, EReal.coe_add, coe_sum]
  congr 1
  refine Finset.sum_congr rfl fun b _ => ?_
  rw [hp a b, hx, EReal.coe_mul]

/-- the keys' too, -/
theorem keyStep {f : ℕ → ℕ → ℝ} {w : ℕ → Fin 192 → ℝ} {n : ℕ} {dk : Vec Ideal S512x192 .f32} {p : Vec Ideal S1x512x512 .bf16} {x : Vec Ideal S512x192 .bf16}
    (hdk : ∀ (a : Fin 512) (c : Fin 192), dk (ix2 a c) = ((keySum f w j n a.val c : ℝ) : EReal)) (hp : Holds f j n p)
    (hx : ∀ (b : Fin 512) (c : Fin 192), x (ix2 b c) = ((w (512 * tileAt j n + b.val) c : ℝ) : EReal)) (a : Fin 512) (c : Fin 192) :
    k0_pay62 (F := Ideal) p dk x (ix2 a c) = ((keySum f w j (n + 1) a.val c : ℝ) : EReal) := by
  rw [pay62_apply, hdk, keySum_succ, EReal.coe_add, coe_sum]
  congr 1
  refine Finset.sum_congr rfl fun b _ => ?_
  rw [hp a b, hx, EReal.coe_mul]

/-- and the queries', in the tile's rows. -/
theorem queryStep {f : ℕ → ℕ → ℝ} {w dq0 : ℕ → Fin 192 → ℝ} {n : ℕ} {dq : Vec Ideal S16384x192 .f32} {p : Vec Ideal S1x512x512 .bf16} {x : Vec Ideal S512x192 .bf16}
    (hdq : ∀ (r : Fin 16384) (c : Fin 192), dq (ix2 r c) = ((dq0 r.val c + querySum f w j n r.val c : ℝ) : EReal)) (hp : Holds f j n p)
    (hx : ∀ (a : Fin 512) (c : Fin 192), x (ix2 a c) = ((w (512 * j + a.val) c : ℝ) : EReal)) {off : Fin 2 → ℕ}
    {inb : ∀ a, off a + S512x192.size a ≤ S16384x192.size a} (ho : off = ![512 * tileAt j n, 0]) (r : Fin 16384) (c : Fin 192) :
    VecWindow.put dq off S512x192.size (k0_pay63 (F := Ideal) p (VecWindow.window dq off S512x192.size inb) x) (ix2 r c)
      = ((dq0 r.val c + querySum f w j (n + 1) r.val c : ℝ) : EReal) := by
  rw [put192 dq ho, querySum_succ]
  by_cases hr : tileAt j n = r.val / 512
  · rw [if_pos hr, if_pos hr, pay63_apply, window192 dq inb ho _ c (row_lt j n _),
      show (⟨512 * tileAt j n + r.val % 512, row_lt j n ⟨r.val % 512, Nat.mod_lt _ (by omega)⟩⟩ : Fin 16384) = r from Fin.ext (by
        show 512 * tileAt j n + r.val % 512 = r.val
        omega), hdq, ← add_assoc, EReal.coe_add _ (∑ a : Fin 512, _), coe_sum]
    congr 1
    refine Finset.sum_congr rfl fun a _ => ?_
    rw [hp a _, hx, EReal.coe_mul]
  · rw [if_neg hr, if_neg hr, hdq, add_zero]

end Cert.KernelIdeal.Bwd
-- ==== Proof.KI.Trips.lean ====
/-
  What a grid point has after any number of trips, and at its end, over the reals.
-/
module

public import proofs.«01_k».proof.Proof.KI.Steps

@[expose] public section

set_option maxRecDepth 16384

noncomputable section

namespace Cert.KernelIdeal.Bwd

open Cert.KernelIdeal Cert.KernelIdeal.Gen
open Idealize.ShloMosaic
open Cert.Spec

/-- The three sums when `n` tiles are counted, the queries' from `dq0` on. -/
structure Sums (R : Rows) (j : ℕ) (dq0 : ℕ → Fin 192 → ℝ) (n : ℕ) (dk : Vec Ideal S512x192 .f32) (dv : Vec Ideal S512x128 .f32)
    (dq : Vec Ideal S16384x192 .f32) : Prop where
  dk : ∀ (a : Fin 512) (c : Fin 192), dk (ix2 a c) = ((keySum R.grad R.q j n a.val c : ℝ) : EReal)
  dv : ∀ (a : Fin 512) (c : Fin 128), dv (ix2 a c) = ((keySum R.prob R.d j n a.val c : ℝ) : EReal)
  dq : ∀ (r : Fin 16384) (c : Fin 192), dq (ix2 r c) = ((dq0 r.val c + querySum R.grad R.k j n r.val c : ℝ) : EReal)

/-- Between two trips: tile `n` is ready to be counted, tile `n + 1` has its scores. -/
structure Between (R : Rows) (j : ℕ) (dq0 : ℕ → Fin 192 → ℝ) (n : ℕ) (st : St Ideal) : Prop where
  s0 : Scores R j (n + 1) st.s0
  d0 : Products R j (n + 1) st.d0
  p1 : Holds R.prob j n st.p1
  z1 : Holds R.grad j n st.z1
  sums : Sums R j dq0 n st.dk st.dv st.dq

/-- Half a trip on: tile `n` is ready to be counted, tiles `n + 1` and `n + 2` have scores, the first of them its products. -/
structure Halfway (R : Rows) (j : ℕ) (dq0 : ℕ → Fin 192 → ℝ) (n : ℕ) (md : Mid Ideal) : Prop where
  s1 : Scores R j (n + 1) md.s1
  d1 : Products R j (n + 1) md.d1
  s0 : Scores R j (n + 2) md.s0
  p0 : Holds R.prob j n md.p0
  z0 : Holds R.grad j n md.z0
  sums : Sums R j dq0 n md.dk md.dv md.dq

variable {R : Rows} {i : grid0.Coords} {e : Env Ideal} {dq0 : ℕ → Fin 192 → ℝ}

theorem coord_lt (i : grid0.Coords) : (i 0).val < 32 := (i 0).isLt

theorem trip_lt (i : grid0.Coords) (t : Fin (k0_t1_loop i).trips) : 2 * t.val + 2 < 36 := by
  have h := t.isLt
  have e := trips_eq i
  omega

/-- The first half of a trip, -/
theorem Between.halfA (h : Reads R (i 0).val e) (t : Fin (k0_t1_loop i).trips) {st : St Ideal}
    (b : Between R (i 0).val dq0 (2 * t.val) st) :
    Halfway R (i 0).val dq0 (2 * t.val + 1) (Bwd.halfA e i (word i) chunkDiff t st) where
  s1 := by
    unfold Bwd.halfA
    dsimp only
    rw [pay1_eq]
    exact h.scores (coord_lt i) (t := 2 * t.val + 1) (by have := trip_lt i t; omega) (off3a_eq i t) (by rw [visA])
  d1 := by
    unfold Bwd.halfA
    dsimp only
    rw [pay3_eq]
    exact h.products (off4a_eq i t)
  s0 := by
    unfold Bwd.halfA
    dsimp only
    rw [pay13_eq]
    exact h.scores (coord_lt i) (t := 2 * t.val + 2) (trip_lt i t) (off3b_eq i t) (by rw [visB])
  p0 := h.probs b.s0 (off5_eq i t)
  z0 := h.grads b.s0 b.d0 (off5_eq i t)
  sums :=
    { dk := fun a c => by
        unfold Bwd.halfA
        dsimp only
        rw [pay10_eq]
        exact keyStep b.sums.dk b.z1 (h.qWindow (off7_eq i t)) a c
      dv := fun a c => by
        unfold Bwd.halfA
        dsimp only
        rw [pay8_eq]
        exact valueStep b.sums.dv b.p1 (h.doWindow (off6_eq i t)) a c
      dq := fun r c => by
        unfold Bwd.halfA
        dsimp only
        rw [pay12_eq]
        exact queryStep b.sums.dq b.z1 h.kb (off7_eq i t) r c }

/-- the second, -/
theorem Halfway.halfB (h : Reads R (i 0).val e) (t : Fin (k0_t1_loop i).trips) {md : Mid Ideal}
    (b : Halfway R (i 0).val dq0 (2 * t.val + 1) md) :
    Between R (i 0).val dq0 (2 * (t.val + 1)) (Bwd.halfB e i t md) where
  s0 := b.s0
  d0 := by
    unfold Bwd.halfB
    dsimp only
    rw [pay15_eq]
    exact h.products (off4b_eq i t)
  p1 := by
    unfold Bwd.halfB
    dsimp only
    rw [pay17_eq]
    exact h.probs b.s1 (off8_eq i t)
  z1 := by
    unfold Bwd.halfB
    dsimp only
    rw [pay19_eq]
    exact h.grads b.s1 b.d1 (off8_eq i t)
  sums :=
    { dk := fun a c => by
        unfold Bwd.halfB
        dsimp only
        rw [pay22_eq]
        exact keyStep b.sums.dk b.z0 (h.qWindow (off10_eq i t)) a c
      dv := fun a c => by
        unfold Bwd.halfB
        dsimp only
        rw [pay20_eq]
        exact valueStep b.sums.dv b.p0 (h.doWindow (off9_eq i t)) a c
      dq := fun r c => by
        unfold Bwd.halfB
        dsimp only
        rw [pay58_eq]
        exact queryStep b.sums.dq b.z0 h.kb (off10_eq i t) r c }

/-- what a point starts from, -/
theorem start_between (h : Reads R (i 0).val e) {dq : Vec Ideal S16384x192 .f32}
    (hdq : ∀ (r : Fin 16384) (c : Fin 192), dq (ix2 r c) = ((dq0 r.val c : ℝ) : EReal)) :
    Between R (i 0).val dq0 0 (start e i dq) where
  s0 := h.scores (coord_lt i) (t := 0) (by omega) (off1_eq i) (by
    unfold visWord
    rw [show (Scalar.muli 0#32 8#32 : BitVec 32) = 0#32 from rfl])
  d0 := h.products (off2_eq i)
  p1 := fun a b => by
    rw [tile, if_neg (fun hc => absurd hc.1 (by omega)), EReal.coe_zero]
    exact pay53_apply a b
  z1 := fun a b => by
    rw [tile, if_neg (fun hc => absurd hc.1 (by omega)), EReal.coe_zero]
    exact pay54_apply a b
  sums :=
    { dk := fun a c => pay51_apply a c
      dv := fun a c => pay52_apply a c
      dq := fun r c => by
        show dq (ix2 r c) = _
        rw [hdq, querySum, Finset.range_zero, Finset.sum_empty, add_zero] }

/-- after any number of trips, -/
theorem trips_between (h : Reads R (i 0).val e) {st : St Ideal} (b : Between R (i 0).val dq0 0 st) :
    ∀ n, n ≤ (k0_t1_loop i).trips → Between R (i 0).val dq0 (2 * n) (trips e i (word i) chunkDiff st n)
  | 0, _ => b
  | n + 1, hn => by
    have ih := trips_between h b n (by omega)
    rw [trips_succ e i (word i) chunkDiff st ⟨n, hn⟩]
    exact (ih.halfA h ⟨n, hn⟩).halfB h ⟨n, hn⟩

/-- when the last tile is counted, -/
theorem Between.last (h : Reads R (i 0).val e) {st : St Ideal} (b : Between R (i 0).val dq0 (2 * (k0_t1_loop i).trips) st) :
    Sums R (i 0).val dq0 (2 * (k0_t1_loop i).trips + 1) (lastK e i (lastV e i st)).dk (lastK e i (lastV e i st)).dv (lastK e i (lastV e i st)).dq where
  dk := fun a c => by
    unfold lastK lastV
    dsimp only
    exact keyStep b.sums.dk b.z1 (h.qWindow (off20_eq i)) a c
  dv := fun a c => by
    unfold lastK lastV
    dsimp only
    exact valueStep b.sums.dv b.p1 (h.doWindow (off19_eq i)) a c
  dq := fun r c => by
    unfold lastK lastV
    dsimp only
    exact queryStep b.sums.dq b.z1 h.kb (off20_eq i) r c

/-- and at its end. -/
theorem final_sums (h : Reads R (i 0).val e) {dq : Vec Ideal S16384x192 .f32}
    (hdq : ∀ (r : Fin 16384) (c : Fin 192), dq (ix2 r c) = ((dq0 r.val c : ℝ) : EReal)) :
    Sums R (i 0).val dq0 (2 * (k0_t1_loop i).trips + 1) (final e i dq).dk (final e i dq).dv (final e i dq).dq := by
  unfold final
  exact (trips_between h (start_between h hdq) _ le_rfl).last h

/-- A point's keys have the gradient of all queries, -/
theorem final_dk (h : Reads R (i 0).val e) {dq : Vec Ideal S16384x192 .f32}
    (hdq : ∀ (r : Fin 16384) (c : Fin 192), dq (ix2 r c) = ((dq0 r.val c : ℝ) : EReal)) (a : Fin 512) (c : Fin 192) :
    (final e i dq).dk (ix2 a c) = ((∑ r : Fin 16384, R.grad r (512 * (i 0).val + a.val) * R.q r c : ℝ) : EReal) := by
  rw [(final_sums h hdq).dk, keySum_all R.grad (fun _ _ => R.grad_eq_zero) _ _ _ _ a.isLt (by have := trips_eq i; omega) (coord_lt i)]

/-- its values too, -/
theorem final_dv (h : Reads R (i 0).val e) {dq : Vec Ideal S16384x192 .f32}
    (hdq : ∀ (r : Fin 16384) (c : Fin 192), dq (ix2 r c) = ((dq0 r.val c : ℝ) : EReal)) (a : Fin 512) (c : Fin 128) :
    (final e i dq).dv (ix2 a c) = ((∑ r : Fin 16384, R.prob r (512 * (i 0).val + a.val) * R.d r c : ℝ) : EReal) := by
  rw [(final_sums h hdq).dv, keySum_all R.prob (fun _ _ => R.prob_eq_zero) _ _ _ _ a.isLt (by have := trips_eq i; omega) (coord_lt i)]

/-- and the queries' sum grows by the point's keys. -/
theorem final_dq (h : Reads R (i 0).val e) {dq : Vec Ideal S16384x192 .f32}
    (hdq : ∀ (r : Fin 16384) (c : Fin 192), dq (ix2 r c) = ((dq0 r.val c : ℝ) : EReal)) (r : Fin 16384) (c : Fin 192) :
    (final e i dq).dq (ix2 r c)
      = ((dq0 r.val c + ∑ a : Fin 512, R.grad r (512 * (i 0).val + a.val) * R.k (512 * (i 0).val + a.val) c : ℝ) : EReal) := by
  rw [(final_sums h hdq).dq, querySum_all R.grad (fun _ _ => R.grad_eq_zero) _ _ _ _ r.isLt (by have := trips_eq i; omega) (coord_lt i)]

end Cert.KernelIdeal.Bwd
-- ==== Proof.KI.Arrays.lean ====
/-
  From the blocks of the grid points to the three result arrays: where the arrays the launch reads hold the rows of one head, what
  it leaves are the sums over all rows.
-/
module

public import proofs.«01_k».proof.Proof.KI.Trips
public import proofs.«01_k».proof.Proof.KI.Launch

@[expose] public section

set_option maxRecDepth 16384

noncomputable section

namespace Cert.KernelIdeal.Bwd

open Cert.KernelIdeal Cert.KernelIdeal.Gen
open Idealize.ShloMosaic Idealize.ShloMosaic.TcCoe
open Idealize.SL.Sem
open Cert.Spec

variable (m : (ℓ : Loc nD τ sig) → Buf (Elt Ideal) ℓ)

/-! ## Where the blocks lie -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem coord0 : ∀ t : Fin cfg0.N, (grid0.coords t 0).val = t.val := (by decide +kernel : ∀ t : Fin grid0.N, _)

theorem t_lt (t : Fin cfg0.N) : t.val < 32 := lt_of_lt_of_eq t.isLt N_0

/-- Row `a` of the tile of point `t`. -/
def rowOf (t : Fin cfg0.N) (a : Fin 512) : Fin 16384 := ⟨512 * t.val + a.val, by have := t_lt t; have := a.isLt; omega⟩

theorem emb0 (t : Fin cfg0.N) (a : Fin 512) (d : Fin 192) : ((cfg0.win 0).blk t).view.emb (ix2 a d) = (ix2 (rowOf t a) d : S16384x192.Idx) := by
  obtain ⟨e0, e1⟩ := idx0 t
  funext x; apply Fin.ext
  match x with
  | ⟨0, _⟩ => show win0_0.index t (0 : Fin 2) * 512 + 1 * a.val = 512 * t.val + a.val; omega
  | ⟨1, _⟩ => show win0_0.index t (1 : Fin 2) * 192 + 1 * d.val = d.val; omega

theorem emb1 (t : Fin cfg0.N) (a : Fin 512) (d : Fin 128) : ((cfg0.win 1).blk t).view.emb (ix2 a d) = (ix2 (rowOf t a) d : S16384x128.Idx) := by
  obtain ⟨e0, e1⟩ := idx1 t
  funext x; apply Fin.ext
  match x with
  | ⟨0, _⟩ => show win0_1.index t (0 : Fin 2) * 512 + 1 * a.val = 512 * t.val + a.val; omega
  | ⟨1, _⟩ => show win0_1.index t (1 : Fin 2) * 128 + 1 * d.val = d.val; omega

theorem emb2 (t : Fin cfg0.N) (y : S32x1x512.Idx) : ((cfg0.win 2).blk t).view.emb y = y := by
  obtain ⟨e0, e1, e2⟩ := idx2 t
  funext x; apply Fin.ext
  match x with
  | ⟨0, _⟩ => show win0_2.index t (0 : Fin 3) * 32 + 1 * (y 0).val = (y 0).val; omega
  | ⟨1, _⟩ => show win0_2.index t (1 : Fin 3) * 1 + 1 * (y 1).val = (y 1).val; omega
  | ⟨2, _⟩ => show win0_2.index t (2 : Fin 3) * 512 + 1 * (y 2).val = (y 2).val; omega

theorem emb3 (t : Fin cfg0.N) (y : S32x1x512.Idx) : ((cfg0.win 3).blk t).view.emb y = y := by
  obtain ⟨e0, e1, e2⟩ := idx3 t
  funext x; apply Fin.ext
  match x with
  | ⟨0, _⟩ => show win0_3.index t (0 : Fin 3) * 32 + 1 * (y 0).val = (y 0).val; omega
  | ⟨1, _⟩ => show win0_3.index t (1 : Fin 3) * 1 + 1 * (y 1).val = (y 1).val; omega
  | ⟨2, _⟩ => show win0_3.index t (2 : Fin 3) * 512 + 1 * (y 2).val = (y 2).val; omega

theorem emb4 (t : Fin cfg0.N) (a : Fin 512) (d : Fin 192) : ((cfg0.win 4).blk t).view.emb (ix2 a d) = (ix2 (rowOf t a) d : S16384x192.Idx) := by
  obtain ⟨e0, e1⟩ := idx4 t
  funext x; apply Fin.ext
  match x with
  | ⟨0, _⟩ => show win0_4.index t (0 : Fin 2) * 512 + 1 * a.val = 512 * t.val + a.val; omega
  | ⟨1, _⟩ => show win0_4.index t (1 : Fin 2) * 192 + 1 * d.val = d.val; omega

theorem emb5 (t : Fin cfg0.N) (a : Fin 512) (d : Fin 128) : ((cfg0.win 5).blk t).view.emb (ix2 a d) = (ix2 (rowOf t a) d : S16384x128.Idx) := by
  obtain ⟨e0, e1⟩ := idx5 t
  funext x; apply Fin.ext
  match x with
  | ⟨0, _⟩ => show win0_5.index t (0 : Fin 2) * 512 + 1 * a.val = 512 * t.val + a.val; omega
  | ⟨1, _⟩ => show win0_5.index t (1 : Fin 2) * 128 + 1 * d.val = d.val; omega

/-! ## The arrays the launch reads -/

/-- The arrays the launch reads hold the rows of one head. -/
structure Found (R : Rows) (c : Dev nD) : Prop where
  q : ∀ (r : Fin 16384) (d : Fin 192), (V m c main_v41 : S16384x192.Idx → Ideal .bf16) (ix2 r d) = ((R.q r.val d : ℝ) : EReal)
  k : ∀ (r : Fin 16384) (d : Fin 192), (V m c main_v42 : S16384x192.Idx → Ideal .bf16) (ix2 r d) = ((R.k r.val d : ℝ) : EReal)
  v : ∀ (r : Fin 16384) (d : Fin 128), (V m c main_v43 : S16384x128.Idx → Ideal .bf16) (ix2 r d) = ((R.v r.val d : ℝ) : EReal)
  d : ∀ (r : Fin 16384) (d : Fin 128), (V m c main_v44 : S16384x128.Idx → Ideal .bf16) (ix2 r d) = ((R.d r.val d : ℝ) : EReal)
  lse : ∀ (t : Fin 32) (b : Fin 512), (V m c main_v40 : S32x1x512.Idx → Ideal .f32) (ix3 t 0 b) = ((R.lse (512 * t.val + b.val) : ℝ) : EReal)
  delta : ∀ (t : Fin 32) (b : Fin 512), (V m c main_v45 : S32x1x512.Idx → Ideal .f32) (ix3 t 0 b) = ((R.delta (512 * t.val + b.val) : ℝ) : EReal)

variable {m} {R : Rows} {c : Dev nD}

theorem Found.kb (h : Found m R c) (t : Fin cfg0.N) (a : Fin 512) (d : Fin 192) :
    (envAt m c t).kb (ix2 a d) = ((R.k (512 * t.val + a.val) d : ℝ) : EReal) :=
  (congrArg (V m c main_v42 : S16384x192.Idx → Ideal .bf16) (emb0 t a d)).trans (h.k (rowOf t a) d)

theorem Found.vb (h : Found m R c) (t : Fin cfg0.N) (a : Fin 512) (d : Fin 128) :
    (envAt m c t).vb (ix2 a d) = ((R.v (512 * t.val + a.val) d : ℝ) : EReal) :=
  (congrArg (V m c main_v43 : S16384x128.Idx → Ideal .bf16) (emb1 t a d)).trans (h.v (rowOf t a) d)

theorem Found.lseAt (h : Found m R c) (t : Fin cfg0.N) (s : Fin 32) (b : Fin 512) :
    (envAt m c t).lse (ix3 s 0 b) = ((R.lse (512 * s.val + b.val) : ℝ) : EReal) :=
  (congrArg (V m c main_v40 : S32x1x512.Idx → Ideal .f32) (emb2 t (ix3 s 0 b))).trans (h.lse s b)

theorem Found.deltaAt (h : Found m R c) (t : Fin cfg0.N) (s : Fin 32) (b : Fin 512) :
    (envAt m c t).delta (ix3 s 0 b) = ((R.delta (512 * s.val + b.val) : ℝ) : EReal) :=
  (congrArg (V m c main_v45 : S32x1x512.Idx → Ideal .f32) (emb3 t (ix3 s 0 b))).trans (h.delta s b)

theorem Found.reads (h : Found m R c) (t : Fin cfg0.N) : Reads R (grid0.coords t 0).val (envAt m c t) := by
  rw [coord0]
  exact ⟨h.kb t, h.vb t, h.q, h.d, h.lseAt t, h.deltaAt t⟩

/-- What the first `n` key tiles give to a query row. -/
def dqSum (R : Rows) (n : ℕ) (r : ℕ) (d : Fin 192) : ℝ :=
  ∑ s ∈ Finset.range n, ∑ a : Fin 512, R.grad r (512 * s + a.val) * R.k (512 * s + a.val) d

theorem Found.dqAt (h : Found m R c) : ∀ n, n ≤ 32 → ∀ (r : Fin 16384) (d : Fin 192),
    dqAt m c n (ix2 r d) = ((dqSum R n r.val d : ℝ) : EReal)
  | 0, _, r, d => by
    show k0_pay45 (ix2 r d) = _
    rw [pay45_apply, dqSum, Finset.sum_range_zero, EReal.coe_zero]
  | n + 1, hn, r, d => by
    have ht : n < cfg0.N := lt_of_lt_of_eq (Nat.lt_of_succ_le hn) N_0.symm
    have ih := h.dqAt n (Nat.le_of_succ_le hn)
    rw [dqAt_succ m c ⟨n, ht⟩, final_dq (h.reads ⟨n, ht⟩) ih r d, coord0, dqSum, dqSum, Finset.sum_range_succ]

/-- The gradient of the queries. -/
def dqArr (R : Rows) : S16384x192.Idx → Ideal .f32 := fun y => ((∑ k : Fin 16384, R.grad (y 0).val k * R.k k (y 1) : ℝ) : EReal)
/-- The gradient of the keys. -/
def dkArr (R : Rows) : S16384x192.Idx → Ideal .f32 := fun y => ((∑ r : Fin 16384, R.grad r (y 0).val * R.q r (y 1) : ℝ) : EReal)
/-- The gradient of the values. -/
def dvArr (R : Rows) : S16384x128.Idx → Ideal .f32 := fun y => ((∑ r : Fin 16384, R.prob r (y 0).val * R.d r (y 1) : ℝ) : EReal)

/-- The queries' gradient after the last point. -/
theorem Found.dq (h : Found m R c) : Bwd.dqAt m c 32 = dqArr R := by
  funext y
  obtain ⟨r, d, rfl⟩ : ∃ (r : Fin 16384) (d : Fin 192), y = ix2 r d := ⟨y 0, y 1, funext fun a => by match a with | ⟨0, _⟩ => rfl | ⟨1, _⟩ => rfl⟩
  rw [h.dqAt 32 le_rfl r d, dqSum, ← sum_rows (fun k => R.grad r.val k * R.k k d)]
  rfl

/-- The point whose tile a row lies in, and its place there. -/
def pointOf (r : Fin 16384) : Fin cfg0.N := ⟨r.val / 512, lt_of_lt_of_eq (by have := r.isLt; omega) N_0.symm⟩
def placeOf (r : Fin 16384) : Fin 512 := ⟨r.val % 512, Nat.mod_lt _ (by decide)⟩
theorem rowOf_pointOf (r : Fin 16384) : rowOf (pointOf r) (placeOf r) = r := Fin.ext (Nat.div_add_mod r.val 512)

/-- The keys' gradient after the last point. -/
theorem Found.dk (h : Found m R c) : (dats m 0 c).arrAt 4 cfg0.N = dkArr R := by
  refine (dats m 0 c).arrAt_eq_of_cover 4 (dkArr R) (fun t _ => ?_) (fun y => ?_)
  · show (cfg0.win 4).cut (grid0.coords t) ((dats m 0 c).after 4 t) = _
    funext y
    obtain ⟨a, d, rfl⟩ : ∃ (a : Fin 512) (d : Fin 192), y = ix2 a d := ⟨y 0, y 1, funext fun a => by match a with | ⟨0, _⟩ => rfl | ⟨1, _⟩ => rfl⟩
    show (stAt m c t).dk (ix2 a d) = dkArr R (((cfg0.win 4).blk t).view.emb (ix2 a d))
    rw [emb4, final_dk (h.reads t) (h.dqAt t.val (Nat.le_of_lt (t_lt t))) a d, coord0]
    rfl
  · obtain ⟨r, d, rfl⟩ : ∃ (r : Fin 16384) (d : Fin 192), y = ix2 r d := ⟨y 0, y 1, funext fun a => by match a with | ⟨0, _⟩ => rfl | ⟨1, _⟩ => rfl⟩
    refine ⟨pointOf r, flush0_4 _, ?_⟩
    have e := emb4 (pointOf r) (placeOf r) d
    rw [rowOf_pointOf] at e
    rw [← e]
    exact View.emb_mem_set _ _

/-- The values' gradient after the last point. -/
theorem Found.dv (h : Found m R c) : (dats m 0 c).arrAt 5 cfg0.N = dvArr R := by
  refine (dats m 0 c).arrAt_eq_of_cover 5 (dvArr R) (fun t _ => ?_) (fun y => ?_)
  · show (cfg0.win 5).cut (grid0.coords t) ((dats m 0 c).after 5 t) = _
    funext y
    obtain ⟨a, d, rfl⟩ : ∃ (a : Fin 512) (d : Fin 128), y = ix2 a d := ⟨y 0, y 1, funext fun a => by match a with | ⟨0, _⟩ => rfl | ⟨1, _⟩ => rfl⟩
    show (stAt m c t).dv (ix2 a d) = dvArr R (((cfg0.win 5).blk t).view.emb (ix2 a d))
    rw [emb5, final_dv (h.reads t) (h.dqAt t.val (Nat.le_of_lt (t_lt t))) a d, coord0]
    rfl
  · obtain ⟨r, d, rfl⟩ : ∃ (r : Fin 16384) (d : Fin 128), y = ix2 r d := ⟨y 0, y 1, funext fun a => by match a with | ⟨0, _⟩ => rfl | ⟨1, _⟩ => rfl⟩
    refine ⟨pointOf r, flush0_5 _, ?_⟩
    have e := emb5 (pointOf r) (placeOf r) d
    rw [rowOf_pointOf] at e
    rw [← e]
    exact View.emb_mem_set _ _

end Cert.KernelIdeal.Bwd
-- ==== Proof.RefArrays.lean ====
/-
  The reference's three results as whole arrays: the arrays the kernel writes.
-/
module

public import proofs.«01_k».proof.Proof.Reference
public import proofs.«01_k».proof.Proof.KI.Arrays

@[expose] public section

set_option maxRecDepth 16384

noncomputable section

namespace Cert.Head

open Idealize.ShloMosaic
open Cert.ReferenceIdeal
open Cert.KernelIdeal.Bwd (dqArr dkArr dvArr)

variable {H : Spec.Head} {q k : Vec Ideal S16384x192 .f32} {v o : Vec Ideal S16384x128 .f32}

/-- An index of an array of two axes is a pair. -/
theorem pair {n w : ℕ} (y : (⟨2, ![n, w]⟩ : Shape).Idx) : ∃ (i : Fin n) (d : Fin w), y = ix2 i d :=
  ⟨y 0, y 1, funext fun a => by match a with | ⟨0, _⟩ => rfl | ⟨1, _⟩ => rfl⟩

theorem ref_dq (h : Holds H q k v o) : join (rDqLow k (rGrad q k v o)) (rDqHigh k (rGrad q k v o)) = dqArr H.rows := by
  funext y
  obtain ⟨i, d, rfl⟩ := pair y
  exact join_apply (w := fun i d => ∑ j : Fin 16384, H.rows.grad i j.val * H.k j.val d)
    (rDqLow_apply h (rGrad_apply h)) (rDqHigh_apply h (rGrad_apply h)) i d

theorem ref_dk (h : Holds H q k v o) : join (rDkLow q (rGrad q k v o)) (rDkHigh q (rGrad q k v o)) = dkArr H.rows := by
  funext y
  obtain ⟨j, d, rfl⟩ := pair y
  exact join_apply (w := fun j d => ∑ i : Fin 16384, H.rows.grad i.val j * H.q i.val d)
    (rDkLow_apply h (rGrad_apply h)) (rDkHigh_apply h (rGrad_apply h)) j d

theorem ref_dv (h : Holds H q k v o) : rDv q k o = dvArr H.rows := by
  funext y
  obtain ⟨j, c, rfl⟩ := pair y
  exact rDv_apply h j c

end Cert.Head
-- ==== Proof.KI.HostVals.lean ====
/-
  What the host computes before the launch, as functions of the four argument arrays: the scores, their mask, the row maxima and
  denominators, and from these the logarithms and the products the launch reads.
-/
module

public import proofs.«01_k».proof.Proof.KI.Launch
public import proofs.«01_k».proof.Proof.HeadOps

@[expose] public section

set_option maxRecDepth 16384

noncomputable section

namespace Cert.KernelIdeal.Bwd

open Cert.KernelIdeal Cert.KernelIdeal.Gen
open Idealize.ShloMosaic Idealize.ShloMosaic.TcCoe
open Idealize.SL.Sem

variable {F : FTy → Type} [FloatOps F] [Named F] [∀ e, Nonempty (Elt F e)]

/-! ## The host's values -/

section Values

variable (q k : Vec F S16384x192 .f32) (v o : Vec F S16384x128 .f32)

/-- The row maxima, as a column. -/
def hMaxCol : Vec F S16384x1 .f32 := Head.column (Head.rowMax (Head.masked q k))

/-- The exponentials. -/
def hExp : Vec F S16384x16384 .f32 := Head.expo (Head.masked q k) (hMaxCol q k)

/-- The row denominators, as a column. -/
def hSum : Vec F S16384x1 .f32 := Head.column (Head.rowSum (hExp q k))

/-- The attention's output. -/
def hOut : Vec F S16384x128 .f32 :=
  Host.dotGeneral dot_S16384x16384_S16384x128_S16384x128_1_0_0_1_n_n none (Head.quot (hExp q k) (hSum q k)) v

/-- The rows' maxima plus the logarithms of their denominators. -/
def hLogs : Vec F S16384x1 .f32 := addf (hMaxCol q k) (Host.log (hSum q k))

/-- The logarithm of 2, for every row. -/
def hLog2 : Vec F S16384 .f32 := broadcastInDim S16384 ![] bcast_S_S16384 (id (Host.log (constant S_ .f32 0x40000000#32)))

/-- The logarithms of the denominators, to the base 2. -/
def hLse : Vec F S16384 .f32 :=
  Host.divf (shapeCast S16384 (hLogs q k) shapeCasts_S16384x1_S16384)
    hLog2

/-- The products of the cotangents with the output. -/
def hDelta : Vec F S16384 .f32 :=
  Host.reduceAdd (mulf o (hOut q k v)) (constant S_ .f32 0x00000000#32) reducesTo_S16384x128_S16384_d1 h_S_

/-- The two by tiles. -/
def hLseTiles : Vec F S32x1x512 .f32 := shapeCast S32x1x512 (hLse q k) shapeCasts_S16384_S32x1x512
def hDeltaTiles : Vec F S32x1x512 .f32 := shapeCast S32x1x512 (hDelta q k v o) shapeCasts_S16384_S32x1x512

end Values

/-! ## The launch finds them -/

variable (m : (ℓ : Loc nD τ sig) → Buf (Elt F) ℓ) (c : Dev nD)

theorem V_main_v41 : V m c main_v41 = (truncf .bf16 (m (c.tc.loc main_arg0) : Vec F S16384x192 .f32) bitsLt_bf16_f32 : Vec F S16384x192 .bf16) := by
  unfold V
  simp only [hostOps0, hostOps0_1, hostOps0_2, hostOps0_3, hostOps0_4, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl

theorem V_main_v42 : V m c main_v42 = (truncf .bf16 (m (c.tc.loc main_arg1) : Vec F S16384x192 .f32) bitsLt_bf16_f32 : Vec F S16384x192 .bf16) := by
  unfold V
  simp only [hostOps0, hostOps0_1, hostOps0_2, hostOps0_3, hostOps0_4, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl

theorem V_main_v43 : V m c main_v43 = (truncf .bf16 (m (c.tc.loc main_arg2) : Vec F S16384x128 .f32) bitsLt_bf16_f32 : Vec F S16384x128 .bf16) := by
  unfold V
  simp only [hostOps0, hostOps0_1, hostOps0_2, hostOps0_3, hostOps0_4, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl

theorem V_main_v44 : V m c main_v44 = (truncf .bf16 (m (c.tc.loc main_arg3) : Vec F S16384x128 .f32) bitsLt_bf16_f32 : Vec F S16384x128 .bf16) := by
  unfold V
  simp only [hostOps0, hostOps0_1, hostOps0_2, hostOps0_3, hostOps0_4, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl

theorem V_main_v40 : V m c main_v40 = hLseTiles (m (c.tc.loc main_arg0)) (m (c.tc.loc main_arg1)) := by
  unfold V
  simp only [hostOps0, hostOps0_1, hostOps0_2, hostOps0_3, hostOps0_4, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl

theorem V_main_v45 :
    V m c main_v45 = hDeltaTiles (m (c.tc.loc main_arg0)) (m (c.tc.loc main_arg1)) (m (c.tc.loc main_arg2)) (m (c.tc.loc main_arg3)) := by
  unfold V
  simp only [hostOps0, hostOps0_1, hostOps0_2, hostOps0_3, hostOps0_4, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl

end Cert.KernelIdeal.Bwd
-- ==== Proof.KI.HostFound.lean ====
/-
  The arrays the launch reads, at an element: the arguments themselves, the logarithms of the rows' denominators, and the products of
  the cotangents with the output.
-/
module

public import proofs.«01_k».proof.Proof.KI.HostVals
public import proofs.«01_k».proof.Proof.KI.Arrays
public import proofs.«01_k».proof.Proof.HeadValues

@[expose] public section

set_option maxRecDepth 16384

noncomputable section

namespace Cert.KernelIdeal.Bwd

open Cert.KernelIdeal Cert.KernelIdeal.Gen
open Idealize.ShloMosaic Idealize.ShloMosaic.TcCoe
open Idealize.SL.Sem
open Cert.Spec (coe_sum)

variable {H : Spec.Head} {q k : Vec Ideal S16384x192 .f32} {v o : Vec Ideal S16384x128 .f32}

theorem hMaxCol_apply (h : Head.Holds H q k v o) (i : Fin 16384) : hMaxCol q k (ix2 i 0) = ((H.max i.val : ℝ) : EReal) :=
  (Head.column_apply _ i).trans (Head.rowMax_apply h i)

theorem hExp_apply (h : Head.Holds H q k v o) (i j : Fin 16384) : hExp q k (ix2 i j) = ((H.expo i.val j.val : ℝ) : EReal) :=
  Head.expo_apply h (hMaxCol_apply h) i j

theorem hSum_apply (h : Head.Holds H q k v o) (i : Fin 16384) : hSum q k (ix2 i 0) = ((H.den i.val : ℝ) : EReal) :=
  (Head.column_apply _ i).trans (Head.rowSum_apply (hExp_apply h) i)

theorem hProb_apply (h : Head.Holds H q k v o) (i j : Fin 16384) :
    Head.quot (hExp q k) (hSum q k) (ix2 i j) = ((H.prob i.val j.val : ℝ) : EReal) := by
  rw [Head.quot_apply (hSum_apply h), hExp_apply h, ← EReal.coe_mul]
  rfl

theorem hOut_apply (h : Head.Holds H q k v o) (i : Fin 16384) (c : Fin 128) : hOut q k v (ix2 i c) = ((H.out i.val c : ℝ) : EReal) := by
  pointwise [hOut]
  simp only [hProb_apply h, h.v, ← EReal.coe_mul, ← coe_sum]
  rfl

theorem hLog2_apply (i : Fin 16384) : hLog2 (F := Ideal) (ix1 i) = ((Real.log 2 : ℝ) : EReal) := by
  show Ideal.log (Ideal.ofBits .f32 0x40000000#32) = _
  rw [Head.ofBits_2, Ideal.log_coe, if_neg (by norm_num)]

theorem addLog_apply (x z : FVec Ideal S16384x1 .f32) (i : S16384x1.Idx) : addf x (Host.log z) i = x i + Ideal.log (z i) := rfl

theorem hLogs_apply (h : Head.Holds H q k v o) (i : Fin 16384) :
    hLogs q k (ix2 i 0) = ((H.max i.val + Real.log (H.den i.val) : ℝ) : EReal) := by
  refine (addLog_apply (hMaxCol q k) (hSum q k) (ix2 i 0)).trans ?_
  rw [hMaxCol_apply h, hSum_apply h, Ideal.log_coe, if_neg (not_le.2 (H.den_pos i.isLt)), ← EReal.coe_add]

theorem scaleColumn_apply (x : Vec Ideal S16384x1 .f32) (y : FVec Ideal S16384 .f32) (i : Fin 16384) {a b : ℝ} (hb : b ≠ 0)
    (hx : x (ix2 i 0) = ((a : ℝ) : EReal)) (hy : y (ix1 i) = ((b : ℝ) : EReal)) :
    (Host.divf (shapeCast S16384 x shapeCasts_S16384x1_S16384 : FVec Ideal S16384 .f32) y : FVec Ideal S16384 .f32) (ix1 i) = ((a * b⁻¹ : ℝ) : EReal) := by
  rw [ValueIdx.hostDivf_apply, hy, Ideal.div_coe hb, Head.cast_column, hx, one_div, EReal.coe_mul]

theorem hLse_apply (h : Head.Holds H q k v o) (i : Fin 16384) : hLse q k (ix1 i) = ((H.lse i.val : ℝ) : EReal) :=
  scaleColumn_apply (a := H.max i.val + Real.log (H.den i.val)) (b := Real.log 2) (hLogs q k) (hLog2 (F := Ideal)) i
    (Real.log_pos (by norm_num : (1 : ℝ) < 2)).ne' (hLogs_apply h i) (hLog2_apply i)

theorem hDelta_apply (h : Head.Holds H q k v o) (i : Fin 16384) : hDelta q k v o (ix1 i) = ((H.delta i.val : ℝ) : EReal) := by
  pointwise [hDelta]
  simp only [hOut_apply h, h.o, ← EReal.coe_mul, ← coe_sum]
  try simp only [Ideal.ofBits_zero_f32, zero_add]
  rfl

/-- The place of a row of a tile. -/
theorem tiles_apply (x : Vec Ideal S16384 .f32) (t : Fin 32) (b : Fin 512) :
    (shapeCast S32x1x512 x shapeCasts_S16384_S32x1x512 : Vec Ideal S32x1x512 .f32) (ix3 t 0 b)
      = x (ix1 ⟨512 * t.val + b.val, by omega⟩) := by
  refine shapeCast_apply x shapeCasts_S16384_S32x1x512 _ _ ?_
  rw [Shape.rowMajor_val_one, Shape.rowMajor_val_three]
  show 512 * t.val + b.val = (t.val * 1 + 0) * 512 + b.val
  omega

theorem hLseTiles_apply (h : Head.Holds H q k v o) (t : Fin 32) (b : Fin 512) :
    hLseTiles q k (ix3 t 0 b) = ((H.lse (512 * t.val + b.val) : ℝ) : EReal) :=
  (tiles_apply _ t b).trans (hLse_apply h _)

theorem hDeltaTiles_apply (h : Head.Holds H q k v o) (t : Fin 32) (b : Fin 512) :
    hDeltaTiles q k v o (ix3 t 0 b) = ((H.delta (512 * t.val + b.val) : ℝ) : EReal) :=
  (tiles_apply _ t b).trans (hDelta_apply h _)

/-- Where the arguments hold the reals of one head, the launch finds its rows. -/
theorem found (m : (ℓ : Loc nD τ sig) → Buf (Elt Ideal) ℓ) (c : Dev nD)
    (h : Head.Holds H (m (c.tc.loc main_arg0)) (m (c.tc.loc main_arg1)) (m (c.tc.loc main_arg2)) (m (c.tc.loc main_arg3))) :
    Found m H.rows c where
  q r d := (congrFun (V_main_v41 m c) (ix2 r d)).trans (h.q r d)
  k r d := (congrFun (V_main_v42 m c) (ix2 r d)).trans (h.k r d)
  v r d := (congrFun (V_main_v43 m c) (ix2 r d)).trans (h.v r d)
  d r d := (congrFun (V_main_v44 m c) (ix2 r d)).trans (h.o r d)
  lse t b := (congrFun (V_main_v40 m c) (ix3 t 0 b)).trans (hLseTiles_apply h t b)
  delta t b := (congrFun (V_main_v45 m c) (ix3 t 0 b)).trans (hDeltaTiles_apply h t b)

end Cert.KernelIdeal.Bwd
-- ==== Proof.Algebraic.lean ====
/-
  The kernel and the reference end with the same three arrays.
-/
module

public import proofs.«01_k».proof.Proof.Frames
public import proofs.«01_k».proof.Proof.Finite
public import proofs.«01_k».proof.Proof.RefArrays
public import proofs.«01_k».proof.Proof.KI.HostFound

@[expose] public section

set_option maxRecDepth 16384

noncomputable section

namespace Cert.Proof

open Idealize.ShloMosaic Idealize.ShloMosaic.TcCoe
open Idealize.SL.Sem
open Cert.KernelIdeal.Bwd (dqArr dkArr dvArr)

/-- The head that device `c`'s arguments hold. -/
def headAt (m : (ℓ : Loc Cert.KernelIdeal.nD Cert.KernelIdeal.τ Cert.KernelIdeal.sig) → Buf (Elt Ideal) ℓ) (c : Dev Cert.KernelIdeal.nD) : Spec.Head :=
  Head.headOf (m (c.tc.loc Cert.KernelIdeal.main_arg0)) (m (c.tc.loc Cert.KernelIdeal.main_arg1)) (m (c.tc.loc Cert.KernelIdeal.main_arg2))
    (m (c.tc.loc Cert.KernelIdeal.main_arg3))

/-- The kernel's run: the three gradients, the arguments kept. -/
theorem kernel_values (m : (ℓ : Loc Cert.KernelIdeal.nD Cert.KernelIdeal.τ Cert.KernelIdeal.sig) → Buf (Elt Ideal) ℓ)
    (g : Dev Cert.KernelIdeal.nD → PrngReg) (hp : Cert.Pre_KernelIdeal_finite m) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem (c.tc.loc Cert.KernelIdeal.main_v46_0) = dqArr (headAt m c).rows
        ∧ r.2.mem (c.tc.loc Cert.KernelIdeal.main_v46_1) = dkArr (headAt m c).rows
        ∧ r.2.mem (c.tc.loc Cert.KernelIdeal.main_v46_2) = dvArr (headAt m c).rows
        ∧ r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)) := by
  refine (θ_run _ _ _).mono (fun r h c => ?_) (Cert.KernelIdeal.Bwd.run_main m g)
  have f := Cert.KernelIdeal.Bwd.found m c (Head.holds_of_pre _ _ _ _ (hp c))
  exact ⟨(h.1.written c (by decide)).trans ((Cert.KernelIdeal.Bwd.G_dq m c).trans f.dq), ((h.1.1 c).1 4).trans f.dk, ((h.1.1 c).1 5).trans f.dv,
    Cert.KernelIdeal.Bwd.final_arg h.1 c⟩

/-- The reference's run, from arguments that hold a head: the same three gradients, the arguments kept. -/
theorem reference_values (m : (ℓ : Loc Cert.ReferenceIdeal.nD Cert.ReferenceIdeal.τ Cert.ReferenceIdeal.sig) → Buf (Elt Ideal) ℓ)
    (g : Dev Cert.ReferenceIdeal.nD → PrngReg) (H : Dev Cert.ReferenceIdeal.nD → Spec.Head)
    (hH : ∀ c, Head.Holds (H c) (m (c.tc.loc Cert.ReferenceIdeal.main_arg0)) (m (c.tc.loc Cert.ReferenceIdeal.main_arg1))
      (m (c.tc.loc Cert.ReferenceIdeal.main_arg2)) (m (c.tc.loc Cert.ReferenceIdeal.main_arg3))) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem (c.tc.loc Cert.ReferenceIdeal.main_v81) = dqArr (H c).rows
        ∧ r.2.mem (c.tc.loc Cert.ReferenceIdeal.main_v79) = dkArr (H c).rows
        ∧ r.2.mem (c.tc.loc Cert.ReferenceIdeal.main_v51) = dvArr (H c).rows
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3)) :=
  (θ_run _ _ _).mono (fun r h c =>
    ⟨(h c).1.trans ((Head.res_dq m c).trans (Head.ref_dq (hH c))), (h c).2.1.trans ((Head.res_dk m c).trans (Head.ref_dk (hH c))),
      (h c).2.2.1.trans ((Head.res_dv m c).trans (Head.ref_dv (hH c))), (h c).2.2.2⟩)
    (Cert.ReferenceIdeal.Value.run (F := Ideal) m g)

/-- The two end with the same gradients. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hp ha =>
  ⟨fun c => dqArr (headAt m c).rows, fun c => dkArr (headAt m c).rows, fun c => dvArr (headAt m c).rows, kernel_values m g hp,
    reference_values m' g' (headAt m) fun c => by
      rw [(ha c).1, (ha c).2.1, (ha c).2.2.1, (ha c).2.2.2]
      exact Head.holds_of_pre _ _ _ _ (hp c)⟩

end Cert.Proof
-- ==== Proof.F2I.Tiles.lean ====
/-
  What one trip of the forward kernel's loop computes, as plain functions of the blocks it reads.

  A grid point of the kernel takes one tile of 1024 queries and walks over the tiles of 1024 keys up to its own, two a trip. Between two
  trips it carries (`St`): the masked scores of the key tile it is about to take (`s0`), the weights of the tile it took last (`p1`) and
  the factor by which their arrival shrinks the sums (`a1`), the rows' maxima so far (`m`) and the weighted sums (`acc`), which trail the
  maxima by one tile. Half a trip on (`Mid`) the same are held for the other slot of each buffer.
-/
module

public import proofs.«01_k».proof.Proof.Gen.Kernel2Ideal.Skeleton
public import Idealize.ShloMosaic.Lib.VecWindow

@[expose] public section

noncomputable section

namespace Cert.Kernel2Ideal.Fwd

open Cert.Kernel2Ideal Cert.Kernel2Ideal.Gen
open Idealize.ShloMosaic

variable {F : FTy → Type} [FloatOps F] [Named F]

/-- What a grid point reads: its tile of queries, all keys, and all values with the columns of ones beside them. -/
structure Env (F : FTy → Type) where
  q : Vec F S1024x192 .bf16
  k : Vec F S16384x192 .bf16
  vx : Vec F S16384x256 .bf16

/-- What is carried from one trip to the next. -/
structure St (F : FTy → Type) where
  s0 : Vec F S1x1024x1024 .f32
  p1 : Vec F S1x1024x1024 .bf16
  a1 : Vec F S1x1024x1 .f32
  m : Vec F S1024x1 .f32
  acc : Vec F S1024x256 .f32

/-- What is carried half a trip on. -/
structure Mid (F : FTy → Type) where
  s1 : Vec F S1x1024x1024 .f32
  p0 : Vec F S1x1024x1024 .bf16
  a0 : Vec F S1x1024x1 .f32
  m : Vec F S1024x1 .f32
  acc : Vec F S1024x256 .f32

/-- Slot 0 and slot 1 of a double buffer of tiles, and of a double buffer of columns. -/
abbrev slot0 {α : Type} (x : S2x1024x1024.Idx → α) : S1x1024x1024.Idx → α :=
  VecWindow.window x ![0, 0, 0] S1x1024x1024.size inb_S2x1024x1024_S1x1024x1024_0_0_0
abbrev slot1 {α : Type} (x : S2x1024x1024.Idx → α) : S1x1024x1024.Idx → α :=
  VecWindow.window x ![1, 0, 0] S1x1024x1024.size inb_S2x1024x1024_S1x1024x1024_1_0_0
abbrev col0 {α : Type} (x : S2x1024x1.Idx → α) : S1x1024x1.Idx → α :=
  VecWindow.window x ![0, 0, 0] S1x1024x1.size inb_S2x1024x1_S1x1024x1_0_0_0
abbrev col1 {α : Type} (x : S2x1024x1.Idx → α) : S1x1024x1.Idx → α :=
  VecWindow.window x ![1, 0, 0] S1x1024x1.size inb_S2x1024x1_S1x1024x1_1_0_0

/-- The first half of trip `t`: the scores of key tile `2 t + 1`, the weights of tile `2 t`, the sums over tile `2 t - 1`. -/
def halfA (e : Env F) (i : grid0.Coords) (a0 : BitVec 32) (v50 : IVec S1024x1024 32) (t : Fin (k0_t1_loop i).trips) (st : St F) : Mid F where
  s1 := k0_pay5 i a0 v50 0#32 1#32 t e.q (VecWindow.window e.k (k0_off2 i t 1#32) S1024x192.size (k0_off2_inb i t 0))
  a0 := k0_pay8 st.s0 st.m
  p0 := k0_pay9 (k0_pay6 st.s0) (k0_pay7 st.s0 st.m)
  m := k0_pay10 (k0_pay7 st.s0 st.m)
  acc := k0_pay11 st.a1 st.acc st.p1 (VecWindow.window e.vx (k0_off3 i t) S1024x256.size (k0_off3_inb i t))

/-- The second half: the scores of tile `2 t + 2`, the weights of tile `2 t + 1`, the sums over tile `2 t`. -/
def halfB (e : Env F) (i : grid0.Coords) (a0 : BitVec 32) (v50 : IVec S1024x1024 32) (t : Fin (k0_t1_loop i).trips) (md : Mid F) : St F where
  s0 := k0_pay12 a0 v50 (Scalar.addi (Scalar.muli 2#32 (Scf.iv 0#32 1#32 t)) 2#32) e.q
    (VecWindow.window e.k (k0_off2 i t 2#32) S1024x192.size (k0_off2_inb i t 1))
  a1 := k0_pay15 md.s1 md.m
  p1 := k0_pay42 (k0_pay16 md.s1 md.m) k0_pay17
  m := k0_pay43 (k0_pay14 md.s1 md.m)
  acc := k0_pay44 md.a0 md.acc md.p0 (VecWindow.window e.vx (k0_off4 i t) S1024x256.size (k0_off4_inb i t))

/-- One trip. -/
def trip (e : Env F) (i : grid0.Coords) (a0 : BitVec 32) (v50 : IVec S1024x1024 32) (t : Fin (k0_t1_loop i).trips) (st : St F) : St F :=
  halfB e i a0 v50 t (halfA e i a0 v50 t st)

/-- The state after `n` trips. -/
def trips (e : Env F) (i : grid0.Coords) (a0 : BitVec 32) (v50 : IVec S1024x1024 32) (st : St F) : ℕ → St F
  | 0 => st
  | n + 1 => if h : n < (k0_t1_loop i).trips then trip e i a0 v50 ⟨n, h⟩ (trips e i a0 v50 st n) else trips e i a0 v50 st n

theorem trips_succ (e : Env F) (i : grid0.Coords) (a0 : BitVec 32) (v50 : IVec S1024x1024 32) (st : St F) (t : Fin (k0_t1_loop i).trips) :
    trips e i a0 v50 st (t.val + 1) = trip e i a0 v50 t (trips e i a0 v50 st t.val) := dif_pos t.isLt

/-- The chunk differences a grid point computes at its start: of the key's chunk of 64 and the query's. -/
def chunkDiff : IVec S1024x1024 32 := k0_pay35 k0_pay31 k0_pay32 k0_pay33 k0_pay34

/-- The grid point's number as the kernel's word. -/
abbrev word (i : grid0.Coords) : BitVec 32 := BitVec.ofNat 32 (i 0).val

/-- The state before the first trip: the scores of the first key tile, no maximum, nothing summed, no weights. -/
def start (e : Env F) : BitVec 32 → St F := fun a0 =>
  { s0 := k0_pay41 chunkDiff (k0_pay40 e.q (VecWindow.window e.k k0_off1 S1024x192.size k0_off1_inb)) (Scalar.subi a0 0#32)
    p1 := k0_pay38
    a1 := k0_pay39
    m := k0_pay36
    acc := k0_pay37 }

/-- The sums over the key tile taken last, after the last trip. -/
def lastAcc (e : Env F) (i : grid0.Coords) (st : St F) : Vec F S1024x256 .f32 :=
  k0_pay1 st.a1 st.acc st.p1 (VecWindow.window e.vx (k0_off8 i) S1024x256.size (k0_off8_inb i))

/-- The state after all trips. -/
def final (e : Env F) (i : grid0.Coords) : St F := trips e i (word i) chunkDiff (start e (word i)) (k0_t1_loop i).trips

/-- What a grid point stores: its tile of outputs, and their rows' log-sums. -/
def outO (e : Env F) (i : grid0.Coords) : Vec F S1024x128 .bf16 := k0_pay3 (lastAcc e i (final e i))
def outL (e : Env F) (i : grid0.Coords) : Vec F S1024x1 .f32 := k0_pay4 (lastAcc e i (final e i)) (final e i).m

end Cert.Kernel2Ideal.Fwd
-- ==== Proof.Views.lean ====
/-
  Loads and stores at unit-stride rectangles of a buffer, by what the buffer reads as a whole.
-/
module

public import Idealize.ShloMosaic.Lib.VecWindow
public import Idealize.ShloMosaic.Lib.Pipeline.Frame
public import Idealize.ShloMosaic.Lib.Tactic

@[expose] public section

noncomputable section

namespace Cert.Views

open Idealize.ShloMosaic Idealize.ShloMosaic.TcCoe

variable {sig : RefSig} {F : FTy → Type} [∀ e, Nonempty (Elt F e)]

/-- A load at a rectangle, of contents that read `X`, reads the window of `X`. -/
theorem load_window {sp : Space} {s : Shape} {ty : EltTy} (v : View sig .tc sp s ty) (f : v.ty.Contents (Elt F)) {X : s.Idx → Elt F ty}
    (e : v.read (Elt F) f = X) (off size : Fin s.rank → ℕ) (inb : ∀ a, off a + size a ≤ s.size a) :
    v.readAt (Elt F) (Rect.unit off size inb).toLoadRect f = VecWindow.window X off size inb := by subst e; rfl

/-- A load of the whole reads `X`. -/
theorem load_whole {sp : Space} {s : Shape} {ty : EltTy} (v : View sig .tc sp s ty) (f : v.ty.Contents (Elt F)) {X : s.Idx → Elt F ty}
    (e : v.read (Elt F) f = X) {off : Fin s.rank → ℕ} (inb : ∀ a, off a + s.size a ≤ s.size a) :
    v.readAt (Elt F) (Rect.unit off s.size inb).toLoadRect f = X := (View.readAt_full v f inb).trans e

/-- One store leaves `X` with the payload put there; -/
theorem store_put {sp : Space} {s : Shape} {ty : EltTy} (v : View sig .tc sp s ty) (f : v.ty.Contents (Elt F)) {X : s.Idx → Elt F ty}
    (e : v.read (Elt F) f = X) (off size : Fin s.rank → ℕ) (inb : ∀ a, off a + size a ≤ s.size a) (w : (Rect.unit off size inb).shape.Idx → Elt F ty) :
    v.read (Elt F) (v.writes (Elt F) f [⟨Rect.unit off size inb, w⟩]) = VecWindow.put X off size w := by
  rw [View.read_writes_cons_put v f inb w [] rfl, View.writes_nil, e]

/-- two stores, the later one listed first, put both. -/
theorem store_put₂ {sp : Space} {s : Shape} {ty : EltTy} (v : View sig .tc sp s ty) (f : v.ty.Contents (Elt F)) {X : s.Idx → Elt F ty}
    (e : v.read (Elt F) f = X) (off size : Fin s.rank → ℕ) (inb : ∀ a, off a + size a ≤ s.size a) (w : (Rect.unit off size inb).shape.Idx → Elt F ty)
    (off' size' : Fin s.rank → ℕ) (inb' : ∀ a, off' a + size' a ≤ s.size a) (w' : (Rect.unit off' size' inb').shape.Idx → Elt F ty) :
    v.read (Elt F) (v.writes (Elt F) f [⟨Rect.unit off size inb, w⟩, ⟨Rect.unit off' size' inb', w'⟩])
      = VecWindow.put (VecWindow.put X off' size' w') off size w := by
  rw [View.read_writes_cons_put v f inb w _ rfl, store_put v f e]

/-- A store of the whole leaves the payload, whatever was stored before. -/
theorem store_whole {sp : Space} {s : Shape} {ty : EltTy} (v : View sig .tc sp s ty) (f : v.ty.Contents (Elt F))
    {off : Fin s.rank → ℕ} (inb : ∀ a, off a + s.size a ≤ s.size a) (w : (Rect.unit off s.size inb).shape.Idx → Elt F ty)
    (ws : List (View.Piece (Elt F) s ty)) :
    v.read (Elt F) (v.writes (Elt F) f (⟨Rect.unit off s.size inb, w⟩ :: ws)) = w := View.read_writes_full v f inb w ws

end Cert.Views
-- ==== Proof.F2I.Trip.lean ====
/-
  One trip of the forward kernel's loop, run once at a symbolic trip, and both loops: the first takes the state by `Fwd.trips`, the second
  makes no trip.
-/
module

public import proofs.«01_k».proof.Proof.F2I.Tiles
public import Idealize.ShloMosaic.Lib.Transfers
public import proofs.«01_k».proof.Proof.Views

@[expose] public section

set_option maxRecDepth 16384

noncomputable section

namespace Cert.Kernel2Ideal.Fwd

open Cert.Kernel2Ideal Cert.Kernel2Ideal.Gen Cert.Views
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

/-- The two slots of a double buffer do not meet: a store into slot 0 leaves slot 1, and the other way about. -/
theorem slot0_put1 {α : Type} (x : S2x1024x1024.Idx → α) (w : S1x1024x1024.Idx → α) :
    slot0 (VecWindow.put x ![1, 0, 0] S1x1024x1024.size w) = slot0 x :=
  VecWindow.window_put_of_disjoint x _ _ _ _ _ w 0 (by decide)
theorem slot1_put0 {α : Type} (x : S2x1024x1024.Idx → α) (w : S1x1024x1024.Idx → α) :
    slot1 (VecWindow.put x ![0, 0, 0] S1x1024x1024.size w) = slot1 x :=
  VecWindow.window_put_of_disjoint x _ _ _ _ _ w 0 (by decide)
theorem slot0_put0 {α : Type} (x : S2x1024x1024.Idx → α) (w : S1x1024x1024.Idx → α) :
    slot0 (VecWindow.put x ![0, 0, 0] S1x1024x1024.size w) = w := VecWindow.window_put_same x _ _ _ w
theorem slot1_put1 {α : Type} (x : S2x1024x1024.Idx → α) (w : S1x1024x1024.Idx → α) :
    slot1 (VecWindow.put x ![1, 0, 0] S1x1024x1024.size w) = w := VecWindow.window_put_same x _ _ _ w
theorem col0_put0 {α : Type} (x : S2x1024x1.Idx → α) (w : S1x1024x1.Idx → α) :
    col0 (VecWindow.put x ![0, 0, 0] S1x1024x1.size w) = w := VecWindow.window_put_same x _ _ _ w
theorem col1_put1 {α : Type} (x : S2x1024x1.Idx → α) (w : S1x1024x1.Idx → α) :
    col1 (VecWindow.put x ![1, 0, 0] S1x1024x1.size w) = w := VecWindow.window_put_same x _ _ _ w

set_option maxHeartbeats 1000000 in
/-- The first half of a trip, before any continuation. -/
theorem runA (c : Dev nD) (i : grid0.Coords) (arg1 : Memref sig .tc .vmem S1024x192 .bf16) (harg1 : arg1.IsWhole) (arg2 : Memref sig .tc .vmem S16384x192 .bf16) (harg2 : arg2.IsWhole) (arg3 : Memref sig .tc .vmem S16384x256 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S2x1024x1024 .f32) (harg6 : arg6.IsWhole) (arg7 : Memref sig .tc .vmem S2x1024x1024 .bf16) (harg7 : arg7.IsWhole) (arg8 : Memref sig .tc .vmem S2x1024x1 .f32) (harg8 : arg8.IsWhole) (arg9 : Memref sig .tc .vmem S1024x1 .f32) (harg9 : arg9.IsWhole) (arg10 : Memref sig .tc .vmem S1024x256 .f32) (harg10 : arg10.IsWhole)
    (q1 q2 q3 : PosShare TreeShare) (e : Env F) (st : St F) (arg0 : BitVec 32) (v50 : IVec S1024x1024 32) (t : Fin (k0_t1_loop i).trips)
    (x6 : Vec F S2x1024x1024 .f32) (x7 : Vec F S2x1024x1024 .bf16) (x8 : Vec F S2x1024x1 .f32)
    (h6 : slot0 x6 = st.s0) (h7 : slot1 x7 = st.p1) (h8 : col1 x8 = st.a1)
    (K : BitVec 32 → Prog (TpuEff nD τ sig (Elt F) Λ₀ .tc) Unit) (Q : Unit → sProp 𝕄) :
    iprop(owns (c : Thread nD τ) arg1 q1 e.q ∗ owns (c : Thread nD τ) arg2 q2 e.k ∗ owns (c : Thread nD τ) arg3 q3 e.vx
        ∗ owns (c : Thread nD τ) arg6 fullShare x6 ∗ owns (c : Thread nD τ) arg7 fullShare x7 ∗ owns (c : Thread nD τ) arg8 fullShare x8
        ∗ owns (c : Thread nD τ) arg9 fullShare st.m ∗ owns (c : Thread nD τ) arg10 fullShare st.acc
        ∗ (∀ y6 y7 y8, ⌜slot1 y6 = (halfA e i arg0 v50 t st).s1 ∧ slot0 y7 = (halfA e i arg0 v50 t st).p0 ∧ col0 y8 = (halfA e i arg0 v50 t st).a0⌝
            -∗ iprop(owns (c : Thread nD τ) arg1 q1 e.q ∗ owns (c : Thread nD τ) arg2 q2 e.k ∗ owns (c : Thread nD τ) arg3 q3 e.vx
              ∗ owns (c : Thread nD τ) arg6 fullShare y6 ∗ owns (c : Thread nD τ) arg7 fullShare y7 ∗ owns (c : Thread nD τ) arg8 fullShare y8
              ∗ owns (c : Thread nD τ) arg9 fullShare (halfA e i arg0 v50 t st).m ∗ owns (c : Thread nD τ) arg10 fullShare (halfA e i arg0 v50 t st).acc)
            -∗ wp frame (wpE (defs₀ (F := F)) Variants.none c none) Set.univ (K (Scalar.addi (Scalar.muli 2#32 (Scf.iv 0#32 1#32 t)) 2#32)) Q))
      ⊢ wp frame (wpE (defs₀ (F := F)) Variants.none c none) Set.univ (do
          let ⟨v143, v165, v169, v176⟩ : Σ' (v143 : BitVec 32) (v165 : FVec F S1024x1024 .f32) (v169 : FVec F S1024x1 .f32), FVec F S1x1024x1 .f32 ← k0_part1 i arg1 harg1 arg2 harg2 arg3 harg3 arg4 harg4 arg5 harg5 arg6 harg6 arg7 harg7 arg8 harg8 arg9 harg9 arg10 harg10 arg0 v50 0#32 1#32 t
          let v209 : BitVec 32 ← k0_part2 i arg1 harg1 arg2 harg2 arg3 harg3 arg4 harg4 arg5 harg5 arg6 harg6 arg7 harg7 arg8 harg8 arg9 harg9 arg10 harg10 t v143 v165 v169 v176
          K v209) Q := by
  simp only [k0_part1_eq_skeleton, k0_part2_eq_skeleton]
  unfold k0_part1_skel k0_part2_skel
  unfold owns
  iintro ⟨⟨%f1, %e1, H1⟩, ⟨%f2, %e2, H2⟩, ⟨%f3, %e3, H3⟩, ⟨%f6, %e6, H6⟩, ⟨%f7, %e7, H7⟩, ⟨%f8, %e8, H8⟩, ⟨%f9, %e9, H9⟩, ⟨%f10, %e10, H10⟩, Hk⟩
  sl_exec
  have r1 := load_whole arg1.view f1 e1 inb_S1024x192_S1024x192_0_0
  have r9 := load_whole arg9.view f9 e9 inb_S1024x1_S1024x1_0_0
  have r10 := load_whole arg10.view f10 e10 inb_S1024x256_S1024x256_0_0
  have r6 : runA.sl.v164 c arg6 f6 = st.s0 := (load_window arg6.view f6 e6 ![0, 0, 0] S1x1024x1024.size inb_S2x1024x1024_S1x1024x1024_0_0_0).trans h6
  have r7 : runA.sl.v195 c arg7 f7 = st.p1 := (load_window arg7.view f7 e7 ![1, 0, 0] S1x1024x1024.size inb_S2x1024x1024_S1x1024x1024_1_0_0).trans h7
  have r8 : runA.sl.v190 c arg8 f8 = st.a1 := (load_window arg8.view f8 e8 ![1, 0, 0] S1x1024x1.size inb_S2x1024x1_S1x1024x1_1_0_0).trans h8
  iapply Hk $$ %(VecWindow.put x6 ![1, 0, 0] S1x1024x1024.size (halfA e i arg0 v50 t st).s1)
    %(VecWindow.put x7 ![0, 0, 0] S1x1024x1024.size (halfA e i arg0 v50 t st).p0)
    %(VecWindow.put x8 ![0, 0, 0] S1x1024x1.size (halfA e i arg0 v50 t st).a0) [] [H1 H2 H3 H6 H7 H8 H9 H10]
  rotate_left
  · isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H6]
    · iexists _; isplitr; swap; · iexact H6
      ipureintro; rw [store_put _ _ e6]; simp only [halfA, r1, load_window arg2.view f2 e2]
    isplitl [H7]
    · iexists _; isplitr; swap; · iexact H7
      ipureintro; rw [store_put _ _ e7]; simp only [halfA, r6, r9]
    isplitl [H8]
    · iexists _; isplitr; swap; · iexact H8
      ipureintro; rw [store_put _ _ e8]; simp only [halfA, r6, r9]
    isplitl [H9]
    · iexists _; isplitr; swap; · iexact H9
      ipureintro; rw [store_whole]; simp only [halfA, r6, r9]
    iexists _; isplitr; swap; · iexact H10
    ipureintro; rw [store_whole]; simp only [halfA, r7, r8, r10, load_window arg3.view f3 e3]
  · ipureintro
    exact ⟨slot1_put1 _ _, slot0_put0 _ _, col0_put0 _ _⟩

set_option maxHeartbeats 1000000 in
/-- The second half. -/
theorem runB (c : Dev nD) (i : grid0.Coords) (arg1 : Memref sig .tc .vmem S1024x192 .bf16) (harg1 : arg1.IsWhole) (arg2 : Memref sig .tc .vmem S16384x192 .bf16) (harg2 : arg2.IsWhole) (arg3 : Memref sig .tc .vmem S16384x256 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S2x1024x1024 .f32) (harg6 : arg6.IsWhole) (arg7 : Memref sig .tc .vmem S2x1024x1024 .bf16) (harg7 : arg7.IsWhole) (arg8 : Memref sig .tc .vmem S2x1024x1 .f32) (harg8 : arg8.IsWhole) (arg9 : Memref sig .tc .vmem S1024x1 .f32) (harg9 : arg9.IsWhole) (arg10 : Memref sig .tc .vmem S1024x256 .f32) (harg10 : arg10.IsWhole)
    (q1 q2 q3 : PosShare TreeShare) (e : Env F) (md : Mid F) (arg0 : BitVec 32) (v50 : IVec S1024x1024 32) (t : Fin (k0_t1_loop i).trips)
    (x6 : Vec F S2x1024x1024 .f32) (x7 : Vec F S2x1024x1024 .bf16) (x8 : Vec F S2x1024x1 .f32)
    (h6 : slot1 x6 = md.s1) (h7 : slot0 x7 = md.p0) (h8 : col0 x8 = md.a0) (v209 : BitVec 32)
    (hv : v209 = Scalar.addi (Scalar.muli 2#32 (Scf.iv 0#32 1#32 t)) 2#32) (Q : Unit → sProp 𝕄) :
    iprop(owns (c : Thread nD τ) arg1 q1 e.q ∗ owns (c : Thread nD τ) arg2 q2 e.k ∗ owns (c : Thread nD τ) arg3 q3 e.vx
        ∗ owns (c : Thread nD τ) arg6 fullShare x6 ∗ owns (c : Thread nD τ) arg7 fullShare x7 ∗ owns (c : Thread nD τ) arg8 fullShare x8
        ∗ owns (c : Thread nD τ) arg9 fullShare md.m ∗ owns (c : Thread nD τ) arg10 fullShare md.acc
        ∗ (∀ y6 y7 y8, ⌜slot0 y6 = (halfB e i arg0 v50 t md).s0 ∧ slot1 y7 = (halfB e i arg0 v50 t md).p1 ∧ col1 y8 = (halfB e i arg0 v50 t md).a1⌝
            -∗ iprop(owns (c : Thread nD τ) arg1 q1 e.q ∗ owns (c : Thread nD τ) arg2 q2 e.k ∗ owns (c : Thread nD τ) arg3 q3 e.vx
              ∗ owns (c : Thread nD τ) arg6 fullShare y6 ∗ owns (c : Thread nD τ) arg7 fullShare y7 ∗ owns (c : Thread nD τ) arg8 fullShare y8
              ∗ owns (c : Thread nD τ) arg9 fullShare (halfB e i arg0 v50 t md).m ∗ owns (c : Thread nD τ) arg10 fullShare (halfB e i arg0 v50 t md).acc)
            -∗ Q ⟨⟩))
      ⊢ wp frame (wpE (defs₀ (F := F)) Variants.none c none) Set.univ (do
          let ⟨v234, v243, v244⟩ : Σ' (v234 : FVec F S1024x1 .f32) (v243 : FVec F S1024x1024 .f32), FVec F S1024x1024 .f32 ← k0_part3 i arg1 harg1 arg2 harg2 arg3 harg3 arg4 harg4 arg5 harg5 arg6 harg6 arg7 harg7 arg8 harg8 arg9 harg9 arg10 harg10 arg0 v50 t v209
          let v248 : Vec F S1x1024x1024 .bf16 ← Prog.lift (.load arg7 (Rect.unit (s := S2x1024x1024) ![1, 0, 0] S1x1024x1024.size inb_S2x1024x1024_S1x1024x1024_1_0_0).toLoadRect (View.loadsAt_vmem h_S1x1024x1024))
          Prog.lift (.store arg7 (Rect.unit (s := S2x1024x1024) ![1, 0, 0] S1x1024x1024.size inb_S2x1024x1024_S1x1024x1024_1_0_0) (k0_pay42 v243 v244) Finset.univ (View.stores_vmem h_S1x1024x1024 (harg7.storeExact_slice rfl _ packedbf16_S2x1024x1024_S1x1024x1024_1_0_0) (fun _ => rfl)) (.inl rfl))
          let v251 : Vec F S1024x1 .f32 ← Prog.lift (.load arg9 (Rect.unit (s := S1024x1) ![0, 0] S1024x1.size inb_S1024x1_S1024x1_0_0).toLoadRect (View.loadsAt_vmem h_S1024x1))
          Prog.lift (.store arg9 (Rect.unit (s := S1024x1) ![0, 0] S1024x1.size inb_S1024x1_S1024x1_0_0) (k0_pay43 v234) Finset.univ (View.stores_vmem_bits_univ h_S1024x1 rfl) (.inl rfl))
          let v254 : Vec F S1x1024x1 .f32 ← Prog.lift (.load arg8 (Rect.unit (s := S2x1024x1) ![0, 0, 0] S1x1024x1.size inb_S2x1024x1_S1x1024x1_0_0_0).toLoadRect (View.loadsAt_vmem h_S1x1024x1))
          let v256 : Vec F S1024x256 .f32 ← Prog.lift (.load arg10 (Rect.unit (s := S1024x256) ![0, 0] S1024x256.size inb_S1024x256_S1024x256_0_0).toLoadRect (View.loadsAt_vmem h_S1024x256))
          let v259 : Vec F S1x1024x1024 .bf16 ← Prog.lift (.load arg7 (Rect.unit (s := S2x1024x1024) ![0, 0, 0] S1x1024x1024.size inb_S2x1024x1024_S1x1024x1024_0_0_0).toLoadRect (View.loadsAt_vmem h_S1x1024x1024))
          let v266 : Vec F S1024x256 .bf16 ← Prog.lift (.load arg3 (Rect.unit (s := S16384x256) (k0_off4 i t) S1024x256.size (k0_off4_inb i t)).toLoadRect (View.loadsAt_vmem h_S1024x256))
          let v270 : Vec F S1024x256 .f32 ← Prog.lift (.load arg10 (Rect.unit (s := S1024x256) ![0, 0] S1024x256.size inb_S1024x256_S1024x256_0_0).toLoadRect (View.loadsAt_vmem h_S1024x256))
          Prog.lift (.store arg10 (Rect.unit (s := S1024x256) ![0, 0] S1024x256.size inb_S1024x256_S1024x256_0_0) (k0_pay44 v254 v256 v259 v266) Finset.univ (View.stores_vmem_bits_univ h_S1024x256 rfl) (.inl rfl))
          pure ⟨⟩) Q := by
  subst hv
  simp only [k0_part3_eq_skeleton]
  unfold k0_part3_skel
  unfold owns
  iintro ⟨⟨%f1, %e1, H1⟩, ⟨%f2, %e2, H2⟩, ⟨%f3, %e3, H3⟩, ⟨%f6, %e6, H6⟩, ⟨%f7, %e7, H7⟩, ⟨%f8, %e8, H8⟩, ⟨%f9, %e9, H9⟩, ⟨%f10, %e10, H10⟩, Hk⟩
  sl_exec
  sl_step
  have r1 := load_whole arg1.view f1 e1 inb_S1024x192_S1024x192_0_0
  have r9 := load_whole arg9.view f9 e9 inb_S1024x1_S1024x1_0_0
  have r10 := load_whole arg10.view f10 e10 inb_S1024x256_S1024x256_0_0
  have r6 : runB.sl.v229 c arg6 f6 = md.s1 := (load_window arg6.view f6 e6 ![1, 0, 0] S1x1024x1024.size inb_S2x1024x1024_S1x1024x1024_1_0_0).trans h6
  have r7 : runB.sl.v259 c arg7 f7 = md.p0 := (load_window arg7.view f7 e7 ![0, 0, 0] S1x1024x1024.size inb_S2x1024x1024_S1x1024x1024_0_0_0).trans h7
  have r8 : runB.sl.v254 c arg8 f8 = md.a0 := (load_window arg8.view f8 e8 ![0, 0, 0] S1x1024x1.size inb_S2x1024x1_S1x1024x1_0_0_0).trans h8
  iapply Hk $$ %(VecWindow.put x6 ![0, 0, 0] S1x1024x1024.size (halfB e i arg0 v50 t md).s0)
    %(VecWindow.put x7 ![1, 0, 0] S1x1024x1024.size (halfB e i arg0 v50 t md).p1)
    %(VecWindow.put x8 ![1, 0, 0] S1x1024x1.size (halfB e i arg0 v50 t md).a1) [] [H1 H2 H3 H6 H7 H8 H9 H10]
  rotate_left
  · isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H6]
    · iexists _; isplitr; swap; · iexact H6
      ipureintro; rw [store_put _ _ e6]; simp only [halfB, r1, load_window arg2.view f2 e2]
    isplitl [H7]
    · iexists _; isplitr; swap; · iexact H7
      ipureintro; rw [store_put _ _ e7]; simp only [halfB, r6, r9]
    isplitl [H8]
    · iexists _; isplitr; swap; · iexact H8
      ipureintro; rw [store_put _ _ e8]; simp only [halfB, r6, r9]
    isplitl [H9]
    · iexists _; isplitr; swap; · iexact H9
      ipureintro; rw [store_whole]; simp only [halfB, r6, r9]
    iexists _; isplitr; swap; · iexact H10
    ipureintro; rw [store_whole]; simp only [halfB, r7, r8, r10, load_window arg3.view f3 e3]
  · ipureintro
    exact ⟨slot0_put0 _ _, slot1_put1 _ _, col1_put1 _ _⟩

/-- What the loops hold: the blocks a grid point reads and the scratch buffers, whose contents are the state's as far as it names them. -/
def Held (c : Dev nD) (arg1 : Memref sig .tc .vmem S1024x192 .bf16) (arg2 : Memref sig .tc .vmem S16384x192 .bf16) (arg3 : Memref sig .tc .vmem S16384x256 .bf16) (arg4 : Memref sig .tc .vmem S1024x128 .bf16) (arg5 : Memref sig .tc .vmem S1024x1 .f32) (arg6 : Memref sig .tc .vmem S2x1024x1024 .f32) (arg7 : Memref sig .tc .vmem S2x1024x1024 .bf16) (arg8 : Memref sig .tc .vmem S2x1024x1 .f32) (arg9 : Memref sig .tc .vmem S1024x1 .f32) (arg10 : Memref sig .tc .vmem S1024x256 .f32) (q1 q2 q3 : PosShare TreeShare) (e : Env F) (st : St F) : sProp 𝕄 :=
  iprop(∃ x6 x7 x8, ⌜slot0 x6 = st.s0 ∧ slot1 x7 = st.p1 ∧ col1 x8 = st.a1⌝
    ∗ owns (c : Thread nD τ) arg1 q1 e.q ∗ owns (c : Thread nD τ) arg2 q2 e.k ∗ owns (c : Thread nD τ) arg3 q3 e.vx
    ∗ owns (c : Thread nD τ) arg6 fullShare x6 ∗ owns (c : Thread nD τ) arg7 fullShare x7 ∗ owns (c : Thread nD τ) arg8 fullShare x8
    ∗ owns (c : Thread nD τ) arg9 fullShare st.m ∗ owns (c : Thread nD τ) arg10 fullShare st.acc)

set_option maxHeartbeats 1000000 in
/-- One trip. -/
theorem loop_step (c : Dev nD) (i : grid0.Coords) (arg1 : Memref sig .tc .vmem S1024x192 .bf16) (harg1 : arg1.IsWhole) (arg2 : Memref sig .tc .vmem S16384x192 .bf16) (harg2 : arg2.IsWhole) (arg3 : Memref sig .tc .vmem S16384x256 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S2x1024x1024 .f32) (harg6 : arg6.IsWhole) (arg7 : Memref sig .tc .vmem S2x1024x1024 .bf16) (harg7 : arg7.IsWhole) (arg8 : Memref sig .tc .vmem S2x1024x1 .f32) (harg8 : arg8.IsWhole) (arg9 : Memref sig .tc .vmem S1024x1 .f32) (harg9 : arg9.IsWhole) (arg10 : Memref sig .tc .vmem S1024x256 .f32) (harg10 : arg10.IsWhole)
    (q1 q2 q3 : PosShare TreeShare) (e : Env F) (st : St F) (arg0 : BitVec 32) (v50 : IVec S1024x1024 32) (v76 : FVec F S1024x1024 .f32) (v77 : BitVec 32) (t : Fin (k0_t1_loop i).trips) (u : Unit) :
    Held c arg1 arg2 arg3 arg4 arg5 arg6 arg7 arg8 arg9 arg10 q1 q2 q3 e st
      ⊢ wp frame (wpE (defs₀ (F := F)) Variants.none c none) Set.univ (k0_t1_body (F := F) i arg1 harg1 arg2 harg2 arg3 harg3 arg4 harg4 arg5 harg5 arg6 harg6 arg7 harg7 arg8 harg8 arg9 harg9 arg10 harg10 arg0 v50 v76 v77 t u)
          (fun _ => Held c arg1 arg2 arg3 arg4 arg5 arg6 arg7 arg8 arg9 arg10 q1 q2 q3 e (trip e i arg0 v50 t st)) := by
  unfold k0_t1_body
  unfold Held
  iintro ⟨%x6, %x7, %x8, %hx, H1, H2, H3, H6, H7, H8, H9, H10⟩
  iapply (runA c i arg1 harg1 arg2 harg2 arg3 harg3 arg4 harg4 arg5 harg5 arg6 harg6 arg7 harg7 arg8 harg8 arg9 harg9 arg10 harg10 q1 q2 q3 e st arg0 v50 t x6 x7 x8 hx.1 hx.2.1 hx.2.2
    (fun v209 => do
          let ⟨v234, v243, v244⟩ : Σ' (v234 : FVec F S1024x1 .f32) (v243 : FVec F S1024x1024 .f32), FVec F S1024x1024 .f32 ← k0_part3 i arg1 harg1 arg2 harg2 arg3 harg3 arg4 harg4 arg5 harg5 arg6 harg6 arg7 harg7 arg8 harg8 arg9 harg9 arg10 harg10 arg0 v50 t v209
          let v248 : Vec F S1x1024x1024 .bf16 ← Prog.lift (.load arg7 (Rect.unit (s := S2x1024x1024) ![1, 0, 0] S1x1024x1024.size inb_S2x1024x1024_S1x1024x1024_1_0_0).toLoadRect (View.loadsAt_vmem h_S1x1024x1024))
          Prog.lift (.store arg7 (Rect.unit (s := S2x1024x1024) ![1, 0, 0] S1x1024x1024.size inb_S2x1024x1024_S1x1024x1024_1_0_0) (k0_pay42 v243 v244) Finset.univ (View.stores_vmem h_S1x1024x1024 (harg7.storeExact_slice rfl _ packedbf16_S2x1024x1024_S1x1024x1024_1_0_0) (fun _ => rfl)) (.inl rfl))
          let v251 : Vec F S1024x1 .f32 ← Prog.lift (.load arg9 (Rect.unit (s := S1024x1) ![0, 0] S1024x1.size inb_S1024x1_S1024x1_0_0).toLoadRect (View.loadsAt_vmem h_S1024x1))
          Prog.lift (.store arg9 (Rect.unit (s := S1024x1) ![0, 0] S1024x1.size inb_S1024x1_S1024x1_0_0) (k0_pay43 v234) Finset.univ (View.stores_vmem_bits_univ h_S1024x1 rfl) (.inl rfl))
          let v254 : Vec F S1x1024x1 .f32 ← Prog.lift (.load arg8 (Rect.unit (s := S2x1024x1) ![0, 0, 0] S1x1024x1.size inb_S2x1024x1_S1x1024x1_0_0_0).toLoadRect (View.loadsAt_vmem h_S1x1024x1))
          let v256 : Vec F S1024x256 .f32 ← Prog.lift (.load arg10 (Rect.unit (s := S1024x256) ![0, 0] S1024x256.size inb_S1024x256_S1024x256_0_0).toLoadRect (View.loadsAt_vmem h_S1024x256))
          let v259 : Vec F S1x1024x1024 .bf16 ← Prog.lift (.load arg7 (Rect.unit (s := S2x1024x1024) ![0, 0, 0] S1x1024x1024.size inb_S2x1024x1024_S1x1024x1024_0_0_0).toLoadRect (View.loadsAt_vmem h_S1x1024x1024))
          let v266 : Vec F S1024x256 .bf16 ← Prog.lift (.load arg3 (Rect.unit (s := S16384x256) (k0_off4 i t) S1024x256.size (k0_off4_inb i t)).toLoadRect (View.loadsAt_vmem h_S1024x256))
          let v270 : Vec F S1024x256 .f32 ← Prog.lift (.load arg10 (Rect.unit (s := S1024x256) ![0, 0] S1024x256.size inb_S1024x256_S1024x256_0_0).toLoadRect (View.loadsAt_vmem h_S1024x256))
          Prog.lift (.store arg10 (Rect.unit (s := S1024x256) ![0, 0] S1024x256.size inb_S1024x256_S1024x256_0_0) (k0_pay44 v254 v256 v259 v266) Finset.univ (View.stores_vmem_bits_univ h_S1024x256 rfl) (.inl rfl))
          pure ⟨⟩))
  iframe H1 H2 H3 H6 H7 H8 H9 H10
  iintro %y6 %y7 %y8 %hy ⟨H1, H2, H3, H6, H7, H8, H9, H10⟩
  iapply (runB c i arg1 harg1 arg2 harg2 arg3 harg3 arg4 harg4 arg5 harg5 arg6 harg6 arg7 harg7 arg8 harg8 arg9 harg9 arg10 harg10 q1 q2 q3 e _ arg0 v50 t y6 y7 y8 hy.1 hy.2.1 hy.2.2 _ rfl)
  iframe H1 H2 H3 H6 H7 H8 H9 H10
  iintro %z6 %z7 %z8 %hz ⟨H1, H2, H3, H6, H7, H8, H9, H10⟩
  iexists z6, z7, z8
  isplitr; · ipureintro; exact hz
  unfold trip
  iframe H1 H2 H3 H6 H7 H8 H9 H10

theorem t2_trips : ∀ i : grid0.Coords, (k0_t2_loop i).trips = 0 := by decide +kernel

/-- The loops, before any continuation. -/
theorem loops (c : Dev nD) (i : grid0.Coords) (arg1 : Memref sig .tc .vmem S1024x192 .bf16) (harg1 : arg1.IsWhole) (arg2 : Memref sig .tc .vmem S16384x192 .bf16) (harg2 : arg2.IsWhole) (arg3 : Memref sig .tc .vmem S16384x256 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S2x1024x1024 .f32) (harg6 : arg6.IsWhole) (arg7 : Memref sig .tc .vmem S2x1024x1024 .bf16) (harg7 : arg7.IsWhole) (arg8 : Memref sig .tc .vmem S2x1024x1 .f32) (harg8 : arg8.IsWhole) (arg9 : Memref sig .tc .vmem S1024x1 .f32) (harg9 : arg9.IsWhole) (arg10 : Memref sig .tc .vmem S1024x256 .f32) (harg10 : arg10.IsWhole)
    (q1 q2 q3 : PosShare TreeShare) (e : Env F) (st : St F) (arg0 : BitVec 32) (v50 : IVec S1024x1024 32) (v76 : FVec F S1024x1024 .f32) (v77 v108 : BitVec 32)
    {β : Type} (K : Prog (TpuEff nD τ sig (Elt F) Λ₀ .tc) β) (Q : β → sProp 𝕄) :
    iprop(Held c arg1 arg2 arg3 arg4 arg5 arg6 arg7 arg8 arg9 arg10 q1 q2 q3 e st
        ∗ (Held c arg1 arg2 arg3 arg4 arg5 arg6 arg7 arg8 arg9 arg10 q1 q2 q3 e (trips e i arg0 v50 st (k0_t1_loop i).trips)
          -∗ wp frame (wpE (defs₀ (F := F)) Variants.none c none) Set.univ K Q))
      ⊢ wp frame (wpE (defs₀ (F := F)) Variants.none c none) Set.univ (do
          Scf.Loop.for (k0_t1_loop i) (k0_t1_ok i) ⟨⟩ (k0_t1_body (F := F) i arg1 harg1 arg2 harg2 arg3 harg3 arg4 harg4 arg5 harg5 arg6 harg6 arg7 harg7 arg8 harg8 arg9 harg9 arg10 harg10 arg0 v50 v76 v77)
          Scf.Loop.for (k0_t2_loop i) (k0_t2_ok i) ⟨⟩ (k0_t2_body (F := F) i arg1 harg1 arg2 harg2 arg3 harg3 arg4 harg4 arg5 harg5 arg6 harg6 arg7 harg7 arg8 harg8 arg9 harg9 arg10 harg10 arg0 v50 v76 v77 v108)
          K) Q := by
  iintro ⟨HH, HK⟩
  iapply (Scf.wp_for_bind frame (wpE (defs₀ (F := F)) Variants.none c none) Set.univ (k0_t1_loop i).lb (k0_t1_loop i).ub (k0_t1_loop i).st (k0_t1_ok i) ()
    (k0_t1_body (F := F) i arg1 harg1 arg2 harg2 arg3 harg3 arg4 harg4 arg5 harg5 arg6 harg6 arg7 harg7 arg8 harg8 arg9 harg9 arg10 harg10 arg0 v50 v76 v77)
    (fun n _ => Held c arg1 arg2 arg3 arg4 arg5 arg6 arg7 arg8 arg9 arg10 q1 q2 q3 e (trips e i arg0 v50 st n))
    (fun t u => by rw [trips_succ]; exact loop_step c i arg1 harg1 arg2 harg2 arg3 harg3 arg4 harg4 arg5 harg5 arg6 harg6 arg7 harg7 arg8 harg8 arg9 harg9 arg10 harg10 q1 q2 q3 e _ arg0 v50 v76 v77 t u)) $$ [HH]
  · unfold trips; iexact HH
  iintro %_ HH
  iapply (Scf.wp_for_bind frame (wpE (defs₀ (F := F)) Variants.none c none) Set.univ (k0_t2_loop i).lb (k0_t2_loop i).ub (k0_t2_loop i).st (k0_t2_ok i) ()
    (k0_t2_body (F := F) i arg1 harg1 arg2 harg2 arg3 harg3 arg4 harg4 arg5 harg5 arg6 harg6 arg7 harg7 arg8 harg8 arg9 harg9 arg10 harg10 arg0 v50 v76 v77 v108)
    (fun n _ => Held c arg1 arg2 arg3 arg4 arg5 arg6 arg7 arg8 arg9 arg10 q1 q2 q3 e (trips e i arg0 v50 st (k0_t1_loop i).trips))
    (fun t u => absurd t.isLt (by have h := t2_trips i; have := t.isLt; unfold Scf.Loop.trips at h; omega))) $$ [HH]
  · iexact HH
  iintro %_ HH
  iapply HK
  iexact HH

end Cert.Kernel2Ideal.Fwd
-- ==== Proof.F2I.Body.lean ====
/-
  The forward kernel at one grid point: the start, the loops, the sums over the last key tile and the two results stored.
-/
module

public import proofs.«01_k».proof.Proof.F2I.Trip

@[expose] public section

set_option maxRecDepth 16384

noncomputable section

namespace Cert.Kernel2Ideal.Fwd

open Cert.Kernel2Ideal Cert.Kernel2Ideal.Gen Cert.Views
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

set_option maxHeartbeats 1000000 in
/-- The start, before any continuation. -/
theorem runPre (c : Dev nD) (i : grid0.Coords) (arg1 : Memref sig .tc .vmem S1024x192 .bf16) (harg1 : arg1.IsWhole) (arg2 : Memref sig .tc .vmem S16384x192 .bf16) (harg2 : arg2.IsWhole) (arg3 : Memref sig .tc .vmem S16384x256 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S2x1024x1024 .f32) (harg6 : arg6.IsWhole) (arg7 : Memref sig .tc .vmem S2x1024x1024 .bf16) (harg7 : arg7.IsWhole) (arg8 : Memref sig .tc .vmem S2x1024x1 .f32) (harg8 : arg8.IsWhole) (arg9 : Memref sig .tc .vmem S1024x1 .f32) (harg9 : arg9.IsWhole) (arg10 : Memref sig .tc .vmem S1024x256 .f32) (harg10 : arg10.IsWhole)
    (q1 q2 q3 : PosShare TreeShare) (e : Env F)
    (K : BitVec 32 → IVec S1024x1024 32 → FVec F S1024x1024 .f32 → BitVec 32 → Prog (TpuEff nD τ sig (Elt F) Λ₀ .tc) Unit) (Q : Unit → sProp 𝕄) :
    iprop(owns (c : Thread nD τ) arg1 q1 e.q ∗ owns (c : Thread nD τ) arg2 q2 e.k ∗ owns (c : Thread nD τ) arg3 q3 e.vx
        ∗ (∃ x, owns (c : Thread nD τ) arg7 fullShare x) ∗ (∃ x, owns (c : Thread nD τ) arg8 fullShare x) ∗ (∃ x, owns (c : Thread nD τ) arg9 fullShare x) ∗ (∃ x, owns (c : Thread nD τ) arg10 fullShare x)
        ∗ (∀ y7 y8, ⌜slot1 y7 = k0_pay38 ∧ col1 y8 = k0_pay39⌝
            -∗ iprop(owns (c : Thread nD τ) arg1 q1 e.q ∗ owns (c : Thread nD τ) arg2 q2 e.k ∗ owns (c : Thread nD τ) arg3 q3 e.vx
              ∗ owns (c : Thread nD τ) arg7 fullShare y7 ∗ owns (c : Thread nD τ) arg8 fullShare y8
              ∗ owns (c : Thread nD τ) arg9 fullShare k0_pay36 ∗ owns (c : Thread nD τ) arg10 fullShare k0_pay37)
            -∗ wp frame (wpE (defs₀ (F := F)) Variants.none c none) Set.univ (K (word i) chunkDiff (k0_pay40 e.q (VecWindow.window e.k k0_off1 S1024x192.size k0_off1_inb)) (Scalar.subi (word i) 0#32)) Q))
      ⊢ wp frame (wpE (defs₀ (F := F)) Variants.none c none) Set.univ (do
          let ⟨arg0, v24, v27, v41, v45⟩ : Σ' (arg0 : BitVec 32) (v24 : IVec S1024x1024 32) (v27 : IVec S1024x1024 32) (v41 : IVec S1024x1024 1), IVec S1024x1024 1 ← k0_part7 i arg1 harg1 arg2 harg2 arg3 harg3 arg4 harg4 arg5 harg5 arg6 harg6 arg7 harg7 arg8 harg8 arg9 harg9 arg10 harg10
          let ⟨v50, v76, v77⟩ : Σ' (v50 : IVec S1024x1024 32) (v76 : FVec F S1024x1024 .f32), BitVec 32 ← k0_part8 i arg1 harg1 arg2 harg2 arg3 harg3 arg4 harg4 arg5 harg5 arg6 harg6 arg7 harg7 arg8 harg8 arg9 harg9 arg10 harg10 arg0 v24 v27 v41 v45
          K arg0 v50 v76 v77) Q := by
  simp only [k0_part7_eq_skeleton, k0_part8_eq_skeleton]
  unfold k0_part7_skel k0_part8_skel
  unfold owns
  iintro ⟨⟨%f1, %e1, H1⟩, ⟨%f2, %e2, H2⟩, ⟨%f3, %e3, H3⟩, ⟨%x7, %f7, %e7, H7⟩, ⟨%x8, %f8, %e8, H8⟩, ⟨%x9, %f9, %e9, H9⟩, ⟨%x10, %f10, %e10, H10⟩, Hk⟩
  sl_exec
  have r1 := load_whole arg1.view f1 e1 inb_S1024x192_S1024x192_0_0
  rw [r1, load_window arg2.view f2 e2]
  iapply Hk $$ %(VecWindow.put x7 ![1, 0, 0] S1x1024x1024.size k0_pay38) %(VecWindow.put x8 ![1, 0, 0] S1x1024x1.size k0_pay39) [] [H1 H2 H3 H7 H8 H9 H10]
  rotate_left
  · isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H7]
    · iexists _; isplitr; swap; · iexact H7
      ipureintro; rw [store_put _ _ e7]
    isplitl [H8]
    · iexists _; isplitr; swap; · iexact H8
      ipureintro; rw [store_put _ _ e8]
    isplitl [H9]
    · iexists _; isplitr; swap; · iexact H9
      ipureintro; rw [store_whole]
    iexists _; isplitr; swap; · iexact H10
    ipureintro; rw [store_whole]
  · ipureintro
    exact ⟨slot1_put1 _ _, col1_put1 _ _⟩

set_option maxHeartbeats 1000000 in
/-- The first scores stored, and the loops. -/
theorem run9 (c : Dev nD) (i : grid0.Coords) (arg1 : Memref sig .tc .vmem S1024x192 .bf16) (harg1 : arg1.IsWhole) (arg2 : Memref sig .tc .vmem S16384x192 .bf16) (harg2 : arg2.IsWhole) (arg3 : Memref sig .tc .vmem S16384x256 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S2x1024x1024 .f32) (harg6 : arg6.IsWhole) (arg7 : Memref sig .tc .vmem S2x1024x1024 .bf16) (harg7 : arg7.IsWhole) (arg8 : Memref sig .tc .vmem S2x1024x1 .f32) (harg8 : arg8.IsWhole) (arg9 : Memref sig .tc .vmem S1024x1 .f32) (harg9 : arg9.IsWhole) (arg10 : Memref sig .tc .vmem S1024x256 .f32) (harg10 : arg10.IsWhole)
    (q1 q2 q3 : PosShare TreeShare) (e : Env F) (y7 : Vec F S2x1024x1024 .bf16) (y8 : Vec F S2x1024x1 .f32)
    (hy : slot1 y7 = (k0_pay38 : FVec F S1x1024x1024 .bf16) ∧ col1 y8 = (k0_pay39 : FVec F S1x1024x1 .f32)) (Q : (Σ' (v110 : BitVec 32), Vec F S1x1024x1 .f32) → sProp 𝕄) :
    iprop(owns (c : Thread nD τ) arg1 q1 e.q ∗ owns (c : Thread nD τ) arg2 q2 e.k ∗ owns (c : Thread nD τ) arg3 q3 e.vx
        ∗ (∃ x, owns (c : Thread nD τ) arg6 fullShare x) ∗ owns (c : Thread nD τ) arg7 fullShare y7 ∗ owns (c : Thread nD τ) arg8 fullShare y8
        ∗ owns (c : Thread nD τ) arg9 fullShare k0_pay36 ∗ owns (c : Thread nD τ) arg10 fullShare k0_pay37
        ∗ (∀ v110, Held c arg1 arg2 arg3 arg4 arg5 arg6 arg7 arg8 arg9 arg10 q1 q2 q3 e (final e i) -∗ Q ⟨v110, (final e i).a1⟩))
      ⊢ wp frame (wpE (defs₀ (F := F)) Variants.none c none) Set.univ (k0_part9 (F := F) i arg1 harg1 arg2 harg2 arg3 harg3 arg4 harg4 arg5 harg5 arg6 harg6 arg7 harg7 arg8 harg8 arg9 harg9 arg10 harg10 (word i) chunkDiff (k0_pay40 e.q (VecWindow.window e.k k0_off1 S1024x192.size k0_off1_inb)) (Scalar.subi (word i) 0#32)) Q := by
  rw [k0_part9_eq_skeleton]; unfold k0_part9_skel
  iintro ⟨H1, H2, H3, ⟨%x6, H6⟩, H7, H8, H9, H10, Hk⟩
  unfold owns
  icases H6 with ⟨%f6, %e6, H6⟩
  sl_exec
  iapply (loops c i arg1 harg1 arg2 harg2 arg3 harg3 arg4 harg4 arg5 harg5 arg6 harg6 arg7 harg7 arg8 harg8 arg9 harg9 arg10 harg10 q1 q2 q3 e (start e (word i)) (word i) chunkDiff _ _ _ _ Q)
  isplitl [H1 H2 H3 H6 H7 H8 H9 H10]
  · unfold Held owns
    iexists (VecWindow.put x6 ![0, 0, 0] S1x1024x1024.size (start e (word i)).s0), y7, y8
    isplitr; · ipureintro; exact ⟨slot0_put0 _ _, hy.1, hy.2⟩
    iframe H1 H2 H3
    isplitl [H6]
    · iexists _; isplitr; swap; · iexact H6
      ipureintro; rw [store_put _ _ e6]; rfl
    iframe H7 H8 H9 H10
  rw [show trips e i (word i) chunkDiff (start e (word i)) (k0_t1_loop i).trips = final e i from rfl]
  generalize final e i = st'
  unfold Held owns
  iintro ⟨%x6, %x7, %x8, %hx, H1, H2, H3, H6, H7, ⟨%f8, %e8, H8⟩, H9, H10⟩
  sl_exec
  sl_step
  have r8 := (load_window arg8.view f8 e8 ![1, 0, 0] S1x1024x1.size inb_S2x1024x1_S1x1024x1_1_0_0).trans hx.2.2
  rw [r8]
  iapply Hk
  iexists x6, x7, x8
  isplitr; · ipureintro; exact hx
  iframe H1 H2 H3 H6 H7 H9 H10
  iexists f8; isplitr; · ipureintro; exact e8
  iexact H8

end Cert.Kernel2Ideal.Fwd
-- ==== Proof.F2I.Point.lean ====
/-
  The forward kernel at one grid point, from its three blocks to the two results stored.
-/
module

public import proofs.«01_k».proof.Proof.F2I.Body

@[expose] public section

set_option maxRecDepth 16384

noncomputable section

namespace Cert.Kernel2Ideal.Fwd

open Cert.Kernel2Ideal Cert.Kernel2Ideal.Gen Cert.Views
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

set_option maxHeartbeats 1000000 in
/-- A whole grid point. -/
theorem point (c : Dev nD) (i : grid0.Coords) (arg1 : Memref sig .tc .vmem S1024x192 .bf16) (harg1 : arg1.IsWhole) (arg2 : Memref sig .tc .vmem S16384x192 .bf16) (harg2 : arg2.IsWhole) (arg3 : Memref sig .tc .vmem S16384x256 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S2x1024x1024 .f32) (harg6 : arg6.IsWhole) (arg7 : Memref sig .tc .vmem S2x1024x1024 .bf16) (harg7 : arg7.IsWhole) (arg8 : Memref sig .tc .vmem S2x1024x1 .f32) (harg8 : arg8.IsWhole) (arg9 : Memref sig .tc .vmem S1024x1 .f32) (harg9 : arg9.IsWhole) (arg10 : Memref sig .tc .vmem S1024x256 .f32) (harg10 : arg10.IsWhole)
    (q1 q2 q3 : PosShare TreeShare) (e : Env F) (Q : PUnit → sProp 𝕄) :
    iprop(owns (c : Thread nD τ) arg1 q1 e.q ∗ owns (c : Thread nD τ) arg2 q2 e.k ∗ owns (c : Thread nD τ) arg3 q3 e.vx
        ∗ (∃ x, owns (c : Thread nD τ) arg4 fullShare x) ∗ (∃ x, owns (c : Thread nD τ) arg5 fullShare x)
        ∗ (∃ x, owns (c : Thread nD τ) arg6 fullShare x) ∗ (∃ x, owns (c : Thread nD τ) arg7 fullShare x) ∗ (∃ x, owns (c : Thread nD τ) arg8 fullShare x) ∗ (∃ x, owns (c : Thread nD τ) arg9 fullShare x) ∗ (∃ x, owns (c : Thread nD τ) arg10 fullShare x)
        ∗ (iprop(owns (c : Thread nD τ) arg1 q1 e.q ∗ owns (c : Thread nD τ) arg2 q2 e.k ∗ owns (c : Thread nD τ) arg3 q3 e.vx
              ∗ owns (c : Thread nD τ) arg4 fullShare (outO e i) ∗ owns (c : Thread nD τ) arg5 fullShare (outL e i)
              ∗ (∃ x, owns (c : Thread nD τ) arg6 fullShare x) ∗ (∃ x, owns (c : Thread nD τ) arg7 fullShare x) ∗ (∃ x, owns (c : Thread nD τ) arg8 fullShare x) ∗ (∃ x, owns (c : Thread nD τ) arg9 fullShare x) ∗ (∃ x, owns (c : Thread nD τ) arg10 fullShare x))
            -∗ Q ⟨⟩))
      ⊢ wp frame (wpE (defs₀ (F := F)) Variants.none c none) Set.univ (cc0_attn_fwd (F := F) i arg1 harg1 arg2 harg2 arg3 harg3 arg4 harg4 arg5 harg5 arg6 harg6 arg7 harg7 arg8 harg8 arg9 harg9 arg10 harg10) Q := by
  rw [cc0_attn_fwd_eq_skeleton]; unfold cc0_attn_fwd_skel
  iintro ⟨H1, H2, H3, H4, H5, H6, H7, H8, H9, H10, Hk⟩
  iapply (runPre c i arg1 harg1 arg2 harg2 arg3 harg3 arg4 harg4 arg5 harg5 arg6 harg6 arg7 harg7 arg8 harg8 arg9 harg9 arg10 harg10 q1 q2 q3 e
    (fun arg0 v50 v76 v77 => do
        let ⟨v110, v111⟩ : Σ' (v110 : BitVec 32), Vec F S1x1024x1 .f32 ← k0_part9 i arg1 harg1 arg2 harg2 arg3 harg3 arg4 harg4 arg5 harg5 arg6 harg6 arg7 harg7 arg8 harg8 arg9 harg9 arg10 harg10 arg0 v50 v76 v77
        let v113 : Vec F S1024x256 .f32 ← Prog.lift (.load arg10 (Rect.unit (s := S1024x256) ![0, 0] S1024x256.size inb_S1024x256_S1024x256_0_0).toLoadRect (View.loadsAt_vmem h_S1024x256))
        let v116 : Vec F S1x1024x1024 .bf16 ← Prog.lift (.load arg7 (Rect.unit (s := S2x1024x1024) ![1, 0, 0] S1x1024x1024.size inb_S2x1024x1024_S1x1024x1024_1_0_0).toLoadRect (View.loadsAt_vmem h_S1x1024x1024))
        let v123 : Vec F S1024x256 .bf16 ← Prog.lift (.load arg3 (Rect.unit (s := S16384x256) (k0_off8 i) S1024x256.size (k0_off8_inb i)).toLoadRect (View.loadsAt_vmem h_S1024x256))
        let v127 : Vec F S1024x256 .f32 ← Prog.lift (.load arg10 (Rect.unit (s := S1024x256) ![0, 0] S1024x256.size inb_S1024x256_S1024x256_0_0).toLoadRect (View.loadsAt_vmem h_S1024x256))
        Prog.lift (.store arg10 (Rect.unit (s := S1024x256) ![0, 0] S1024x256.size inb_S1024x256_S1024x256_0_0) (k0_pay1 v111 v113 v116 v123) Finset.univ (View.stores_vmem_bits_univ h_S1024x256 rfl) (.inl rfl))
        let v130 : Vec F S1024x256 .f32 ← Prog.lift (.load arg10 (Rect.unit (s := S1024x256) ![0, 0] S1024x256.size inb_S1024x256_S1024x256_0_0).toLoadRect (View.loadsAt_vmem h_S1024x256))
        let v136 : Vec F S1024x128 .bf16 ← Prog.lift (.load arg4 (Rect.unit (s := S1024x128) ![0, 0] S1024x128.size inb_S1024x128_S1024x128_0_0).toLoadRect (View.loadsAt_vmem h_S1024x128))
        Prog.lift (.store arg4 (Rect.unit (s := S1024x128) ![0, 0] S1024x128.size inb_S1024x128_S1024x128_0_0) (k0_pay3 v130) Finset.univ (View.stores_vmem h_S1024x128 (harg4.storeExact_slice rfl _ packedbf16_S1024x128_S1024x128_0_0) (fun _ => rfl)) (.inl rfl))
        let v137 : Vec F S1024x1 .f32 ← Prog.lift (.load arg9 (Rect.unit (s := S1024x1) ![0, 0] S1024x1.size inb_S1024x1_S1024x1_0_0).toLoadRect (View.loadsAt_vmem h_S1024x1))
        let v142 : Vec F S1024x1 .f32 ← Prog.lift (.load arg5 (Rect.unit (s := S1024x1) ![0, 0] S1024x1.size inb_S1024x1_S1024x1_0_0).toLoadRect (View.loadsAt_vmem h_S1024x1))
        Prog.lift (.store arg5 (Rect.unit (s := S1024x1) ![0, 0] S1024x1.size inb_S1024x1_S1024x1_0_0) (k0_pay4 v130 v137) Finset.univ (View.stores_vmem_bits_univ h_S1024x1 rfl) (.inl rfl))
        pure ⟨⟩))
  iframe H1 H2 H3 H7 H8 H9 H10
  iintro %y7 %y8 %hy ⟨H1, H2, H3, H7, H8, H9, H10⟩
  rw [wp_bind]
  iapply (run9 c i arg1 harg1 arg2 harg2 arg3 harg3 arg4 harg4 arg5 harg5 arg6 harg6 arg7 harg7 arg8 harg8 arg9 harg9 arg10 harg10 q1 q2 q3 e y7 y8 hy)
  iframe H1 H2 H3 H6 H7 H8 H9 H10
  iintro %v110 HH
  dsimp only
  have hO : outO e i = k0_pay3 (lastAcc e i (final e i)) := rfl
  have hL : outL e i = k0_pay4 (lastAcc e i (final e i)) (final e i).m := rfl
  revert hO hL
  generalize final e i = st'
  intro hO hL
  unfold Held owns
  icases HH with ⟨%x6, %x7, %x8, %hx, ⟨%f1, %e1, H1⟩, ⟨%f2, %e2, H2⟩, ⟨%f3, %e3, H3⟩, ⟨%f6, %e6, H6⟩, ⟨%f7, %e7, H7⟩, ⟨%f8, %e8, H8⟩, ⟨%f9, %e9, H9⟩, ⟨%f10, %e10, H10⟩⟩
  icases H4 with ⟨%x4, %f4, %e4, H4⟩
  icases H5 with ⟨%x5, %f5, %e5, H5⟩
  sl_exec
  sl_step
  have r9 := load_whole arg9.view f9 e9 inb_S1024x1_S1024x1_0_0
  have r10 := load_whole arg10.view f10 e10 inb_S1024x256_S1024x256_0_0
  have r7 := (load_window arg7.view f7 e7 ![1, 0, 0] S1x1024x1024.size inb_S2x1024x1024_S1x1024x1024_1_0_0).trans hx.2.1
  have r130 : point.sl.v130 c i arg3 arg7 arg10 st' f3 f7 f10 = lastAcc e i st' := by
    unfold point.sl.v130 point.sl.H10_1
    rw [View.readCov_full]
    simp only [lastAcc, r7, r10, load_window arg3.view f3 e3]
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]
  · iexists _; isplitr; swap; · iexact H4
    ipureintro; rw [store_whole, hO, r130]
  isplitl [H5]
  · iexists _; isplitr; swap; · iexact H5
    ipureintro; rw [store_whole, hL, r130, r9]
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

end Cert.Kernel2Ideal.Fwd
-- ==== Proof.F2I.Launch.lean ====
/-
  The whole launch of the forward kernel. Between two grid points nothing is carried: a point's scratch holds anything at its start.
  The body at every point, and the run of @main with what it leaves in every buffer.
-/
module

public import proofs.«01_k».proof.Proof.F2I.Point
public import proofs.«01_k».proof.Proof.Gen.Kernel2Ideal.Frame

@[expose] public section

set_option maxRecDepth 16384

noncomputable section

namespace Cert.Kernel2Ideal.Fwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- What a grid point reads. -/
def envAt (c : Dev nD) (t : Fin cfg0.N) : Env F where
  q := iblk m c 0 t
  k := iblk m c 1 t
  vx := iblk m c 2 t

/-! ## The proof data -/

/-- The region's invariant: the scratch at anything, and the device's random state. -/
def Inv (c : Dev nD) : sProp 𝕄 := Pipeline.ΦA (U := UR sig nD τ) spec0 c

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (envAt m c t) (grid0.coords t)
    | ⟨4, _⟩ => outL (envAt m c t) (grid0.coords t)
    | ⟨n + 5, h⟩ => absurd h (by change ¬ n + 5 < 5; omega)
  Φ _ := Inv c
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  before0_0_of m (dats m 0 c) (A_eq m c 0) (fun _ => rfl) t d
theorem before1 (c : Dev nD) (t : Fin cfg0.N) (d) : (dats m 0 c).before 1 t d = iblk m c 1 t :=
  before0_1_of m (dats m 0 c) (A_eq m c 1) (fun _ => rfl) t d
theorem before2 (c : Dev nD) (t : Fin cfg0.N) (d) : (dats m 0 c).before 2 t d = iblk m c 2 t :=
  before0_2_of m (dats m 0 c) (A_eq m c 2) (fun _ => rfl) t d

/-! ## The body at a point -/

def bodyPre (c : Dev nD) (t : Fin cfg0.N) : sProp 𝕄 :=
  iprop(Inv c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop(Inv c ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).after 0 t = (envAt m c t).q from rfl, show (dats m 0 c).after 1 t = (envAt m c t).k from rfl,
    show (dats m 0 c).after 2 t = (envAt m c t).vx from rfl,
    show (dats m 0 c).after 3 t = outO (envAt m c t) (grid0.coords t) from rfl,
    show (dats m 0 c).after 4 t = outL (envAt m c t) (grid0.coords t) from rfl]
  rw [show iblk m c 0 t = (envAt m c t).q from rfl, show iblk m c 1 t = (envAt m c t).k from rfl,
    show iblk m c 2 t = (envAt m c t).vx from rfl]
  unfold Inv Pipeline.ΦA
  rw [scopedRest0_eq]
  iintro ⟨⟨⟨H6, H7, H8, H9, H10⟩, Hg⟩, Ho, ⟨%d0, H1⟩, ⟨%d1, H2⟩, ⟨%d2, H3⟩, ⟨%d3, H4⟩, ⟨%d4, H5⟩⟩
  iapply (point c (grid0.coords t) (st0_0 t) _ (st0_1 t) _ (st0_2 t) _ (st0_3 t) _ (st0_4 t) _ (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) fullShare fullShare fullShare (envAt m c t) _)
  simp only [owns_whole]
  iframe H1 H2 H3 H6 H7 H8 H9 H10
  isplitl [H4]; · iexists _; iexact H4
  isplitl [H5]; · iexists _; iexact H5
  iintro ⟨H1, H2, H3, H4, H5, H6, H7, H8, H9, H10⟩
  iframe H1 H2 H3 H4 H5 H6 H7 H8 H9 H10 Hg Ho

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- From any memory with every counter at zero the program ends, every counter is at zero again, the windowed arrays hold what the
    points wrote, and everything else is as the region found it. -/
theorem run_main :
    θ_run defs (onTc (τ := τ) (main (F := F))) (s₀ m ρ)
      (fun r => Pipeline.FramePost cfgs (dats m) 0 (V m) r ∧ r.2.sem = fun _ => 0) :=
  Pipeline.θ_run_frame cfgs (dats m) (0 : Fin 1) launch0 defs₀ Variants.none m ρ main
    (fun c => (body_obligation m c).loose) (fun c => (dats m 0 c).share_full fun _ => rfl)
    (fun _ _ => rfl) (V m) (hmain m Variants.none) (A_eq m) (fun _ _ => rfl) (Q' := _) (hQ' := fun _ h => h)

variable {m ρ}

/-- An argument is nothing the program writes. -/
theorem final_arg {r : PUnit × MemSt nD τ sig (Elt F)} (h : Pipeline.FramePost cfgs (dats (F := F) m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

end Cert.Kernel2Ideal.Fwd
-- ==== Proof.Frames2.lean ====
/-
  The frames of the forward call's three programs and the statement that its idealized kernel is the kernel with its constants named.
-/
module

public import proofs.«01_k».proof.Proof.SameText
public import proofs.«01_k».proof.Proof.F2I.Launch
public import proofs.«01_k».proof.Proof.Gen.Reference2Ideal.Run
public import Idealize.ShloMosaic.Lib.Quiescent

@[expose] public section

set_option maxRecDepth 16384

noncomputable section

namespace Cert.Proof

open Idealize.ShloMosaic Idealize.ShloMosaic.TcCoe
open Idealize.SL.Sem

/-- The forward kernel as the machine runs it ends quiescent, its arguments as they were: it is the idealized one at bits. -/
theorem frame_kernel2 : Cert.quiescent_Kernel2 (hKernel2 := Cert.Kernel2.Gen.facts) := fun m g _ =>
  Cert.SameText.run_of_eq Cert.SameText.defs_eq2 (congrArg onTc Cert.SameText.main_eq2)
    ((θ_run _ _ _).mono (fun _ h => ⟨fun c => Cert.Kernel2Ideal.Fwd.final_arg h.1 c, h.2⟩) (Cert.Kernel2Ideal.Fwd.run_main (F := Bits) m g))

/-- So does the idealized one, -/
theorem frame_ideal2 : Cert.quiescent_Kernel2Ideal (hKernel2Ideal := Cert.Kernel2Ideal.Gen.facts) := fun m g _ =>
  (θ_run _ _ _).mono (fun _ h => ⟨fun c => Cert.Kernel2Ideal.Fwd.final_arg h.1 c, h.2⟩) (Cert.Kernel2Ideal.Fwd.run_main m g)

/-- and the reference. -/
theorem frame_reference2 : Cert.quiescent_Reference2Ideal (hReference2Ideal := Cert.Reference2Ideal.Gen.facts) := fun m g _ =>
  (θ_run _ _ _).mono (fun r h => ⟨fun c => (h c).2.2, sem_eq_zero_of_no_sems (by decide) r.2⟩)
    (Cert.Reference2Ideal.Value.run (F := Ideal) m g)

/-- The three named constants of the idealized forward kernel. -/
theorem named2 : Cert.preserves_Kernel2_Kernel2Ideal :=
  ⟨IdealRules.named_const.statement _ _ _ _ _ rfl, IdealRules.named_const.statement _ _ _ _ _ rfl,
    IdealRules.named_const.statement _ _ _ _ _ rfl⟩

end Cert.Proof
-- ==== Proof.Finite2.lean ====
/-
  The forward call's precondition: where it holds, its three argument arrays are arrays of real numbers.
-/
module

public import proofs.«01_k».proof.Proof.Finite
public import proofs.«01_k».proof.Proof.Gen.Pre_finite_fwd

@[expose] public section

set_option maxRecDepth 16384

noncomputable section

namespace Cert.Head

open Idealize.ShloMosaic
open Cert.Pre_finite_fwd Cert.Pre_finite_fwd.Gen

/-- The three arrays hold real numbers. -/
theorem reals_of_pre_fwd (q k : FVec Ideal S16384x192 .f32) (v : FVec Ideal S16384x128 .f32) (h : fn (F := Ideal) q k v = fun _ => 1#1) :
    (∀ i, q i = (((q i : EReal).toReal : ℝ) : EReal)) ∧ (∀ i, k i = (((k i : EReal).toReal : ℝ) : EReal))
    ∧ (∀ i, v i = (((v i : EReal).toReal : ℝ) : EReal)) := by
  have h0 := congrFun h (fun d => d.elim0)
  dsimp only [fn] at h0
  obtain ⟨h1, hv⟩ := IntOp.andi_eq_one.1 h0
  obtain ⟨hq, hk⟩ := IntOp.andi_eq_one.1 h1
  exact ⟨reals_of_all q _ _ _ _ hq, reals_of_all k _ _ _ _ hk, reals_of_all v _ _ _ _ hv⟩

/-- They hold a head; the forward call has no cotangents, and the values stand in for them. -/
theorem holds_of_pre_fwd (q k : FVec Ideal S16384x192 .f32) (v : FVec Ideal S16384x128 .f32) (h : fn (F := Ideal) q k v = fun _ => 1#1) :
    Holds (headOf q k v v) q k v v :=
  have r := reals_of_pre_fwd q k v h
  ⟨realRows_apply q r.1, realRows_apply k r.2.1, realRows_apply v r.2.2, realRows_apply v r.2.2⟩

end Cert.Head
-- ==== Proof.Reference2.lean ====
/-
  The forward reference's two results: the operations as functions of whole arrays, and over the reals the attention's output and the
  rows' log-sums.
-/
module

public import proofs.«01_k».proof.Proof.RefArrays
public import proofs.«01_k».proof.Proof.Gen.Reference2Ideal.Run

@[expose] public section

set_option maxRecDepth 16384

noncomputable section

namespace Cert.Head

open Cert.ReferenceIdeal Cert.ReferenceIdeal.Gen
open Idealize.ShloMosaic Idealize.ShloMosaic.TcCoe
open Cert.Spec (coe_sum)

/-! ## The operations -/

section Any

variable {F : FTy → Type} [FloatOps F]

/-- The probabilities' products with the values. -/
def fOut (q k : Vec F S16384x192 .f32) (v : Vec F S16384x128 .f32) : Vec F S16384x128 .f32 :=
  Host.dotGeneral Cert.Reference2Ideal.dot_S16384x16384_S16384x128_S16384x128_1_0_0_1_n_n none (quot (rExp q k) (rSum q k)) v

/-- The row maxima plus the logarithms of the sums of the exponentials less them. -/
def fLse (q k : Vec F S16384x192 .f32) : Vec F S16384x1 .f32 :=
  addf (column (rowMax (masked q k))) (Host.log (column (rowSum (expo (masked q k) (column (rowMax (masked q k)))))))

variable (m : (ℓ : Loc Cert.Reference2Ideal.nD Cert.Reference2Ideal.τ Cert.Reference2Ideal.sig) → Buf (Elt F) ℓ) (c : Dev Cert.Reference2Ideal.nD)

theorem res_out : Cert.Reference2Ideal.Value.res_main_v35 m c
    = (truncf .bf16 (fOut (m (c.tc.loc Cert.Reference2Ideal.main_arg0)) (m (c.tc.loc Cert.Reference2Ideal.main_arg1)) (m (c.tc.loc Cert.Reference2Ideal.main_arg2)))
        Cert.Reference2Ideal.Gen.bitsLt_bf16_f32 : Vec F S16384x128 .bf16) := by
  unfold Cert.Reference2Ideal.Value.res_main_v35
  rfl

theorem res_lse : Cert.Reference2Ideal.Value.res_main_v42 m c
    = fLse (m (c.tc.loc Cert.Reference2Ideal.main_arg0)) (m (c.tc.loc Cert.Reference2Ideal.main_arg1)) := by
  unfold Cert.Reference2Ideal.Value.res_main_v42
  rfl

end Any

/-! ## Their elements -/

variable {H : Spec.Head} {q k : Vec Ideal S16384x192 .f32} {v o : Vec Ideal S16384x128 .f32}

theorem fOut_apply (h : Holds H q k v o) (i : Fin 16384) (c : Fin 128) : fOut q k v (ix2 i c) = ((H.out i.val c : ℝ) : EReal) := by
  pointwise [fOut]
  simp only [rProb_apply h, h.v, ← EReal.coe_mul, ← coe_sum]
  rfl

theorem fMax_apply (h : Holds H q k v o) (i : Fin 16384) : column (rowMax (masked q k)) (ix2 i 0) = ((H.max i.val : ℝ) : EReal) :=
  (column_apply _ i).trans (rowMax_apply h i)

theorem addLog_apply (x z : FVec Ideal S16384x1 .f32) (i : S16384x1.Idx) : addf x (Host.log z) i = x i + Ideal.log (z i) := rfl

theorem fLse_apply (h : Holds H q k v o) (i : Fin 16384) : fLse q k (ix2 i 0) = ((H.max i.val + Real.log (H.den i.val) : ℝ) : EReal) := by
  refine (addLog_apply (column (rowMax (masked q k))) (column (rowSum (expo (masked q k) (column (rowMax (masked q k)))))) (ix2 i 0)).trans ?_
  rw [fMax_apply h, (column_apply _ i).trans (rowSum_apply (expo_apply h (fMax_apply h)) i), Ideal.log_coe, if_neg (not_le.2 (H.den_pos i.isLt)),
    ← EReal.coe_add]

/-! ## The arrays -/

theorem ref_out (h : Holds H q k v o) :
    fOut q k v = fun y : S16384x128.Idx => ((H.out (y 0).val (y 1) : ℝ) : EReal) := funext fun y => by
  obtain ⟨i, c, rfl⟩ := pair y
  exact fOut_apply h i c

theorem ref_lse (h : Holds H q k v o) :
    fLse q k = fun y : S16384x1.Idx => ((H.max (y 0).val + Real.log (H.den (y 0).val) : ℝ) : EReal) := funext fun y => by
  obtain ⟨i, c, rfl⟩ := pair y
  obtain rfl : c = 0 := Subsingleton.elim _ _
  exact fLse_apply h i

end Cert.Head
-- ==== Proof.F2I.Payloads.lean ====
/-
  What the forward kernel's payloads are at one element, over the extended reals: masked products of two tiles, the greatest of a row, an
  exponential of a scaled difference, and a sum that is shrunk and grows by a product of two tiles.
-/
module

public import proofs.«01_k».proof.Proof.F2I.Tiles
public import Idealize.ShloMosaic.Lib.Pointwise
public import Idealize.ShloMosaic.Lib.IdealHost
public import Idealize.ShloMosaic.Lib.ValueIdx

@[expose] public section

set_option maxRecDepth 16384

noncomputable section

namespace Cert.Kernel2Ideal.Fwd

open Cert.Kernel2Ideal Cert.Kernel2Ideal.Gen
open Idealize.ShloMosaic

/-- The scores of a tile: an element is kept where the chunk difference is at most 16 times the tiles' difference. -/
theorem pay41_apply (v50 : IVec S1024x1024 32) (q k : FVec Ideal S1024x192 .bf16) (d : BitVec 32) (a b : Fin 1024) :
    k0_pay41 (F := Ideal) v50 (k0_pay40 q k) d (ix3 0 a b)
      = if (v50 (ix2 a b)).sle (Scalar.muli d 16#32) then ∑ c : Fin 192, q (ix2 a c) * k (ix2 b c) else ⊥ := by
  pointwise [k0_pay41, k0_pay40]
  rw [show (Named.named κ "mask" 0xF149F2CA#32 : Ideal .f32) = ⊥ from IdealRules.named_const.ideal_named_scalar _ _ _ _ rfl]
  unfold Scalar.select IntOp.cmpi
  cases (v50 (ix2 a b)).sle (Scalar.muli d 16#32) <;> rfl

theorem pay5_eq (i : grid0.Coords) (a0 : BitVec 32) (v50 : IVec S1024x1024 32) (t : Fin (k0_t1_loop i).trips) (q k : FVec Ideal S1024x192 .bf16) :
    k0_pay5 (F := Ideal) i a0 v50 0#32 1#32 t q k
      = k0_pay41 v50 (k0_pay40 q k) (Scalar.subi a0 (Scalar.addi (Scalar.muli 2#32 (Scf.iv 0#32 1#32 t)) 1#32)) := rfl
theorem pay12_eq (a0 : BitVec 32) (v50 : IVec S1024x1024 32) (x : BitVec 32) (q k : FVec Ideal S1024x192 .bf16) :
    k0_pay12 (F := Ideal) a0 v50 x q k = k0_pay41 v50 (k0_pay40 q k) (Scalar.subi a0 x) := rfl

/-- The greatest of a row of scores and of the rows' maxima so far. -/
theorem pay7_apply (s : FVec Ideal S1x1024x1024 .f32) (m : FVec Ideal S1024x1 .f32) (a : Fin 1024) :
    k0_pay7 (F := Ideal) s m (ix2 a 0) = max (m (ix2 a 0)) (Finset.univ.fold max ⊥ fun b : Fin 1024 => s (ix3 0 a b)) := by
  pointwise [k0_pay7, k0_pay6]
  rw [show Ideal.ofBits .f32 0xFF800000#32 = ⊥ by simp [Ideal.ofBits, Ideal.ieee, -EReal.coe_mul]]

/-- Two to a scaled difference of two columns, -/
theorem pay8_apply (s : FVec Ideal S1x1024x1024 .f32) (m : FVec Ideal S1024x1 .f32) (a : Fin 1024) :
    k0_pay8 (F := Ideal) s m (ix3 0 a 0)
      = Ideal.exp2 ((m (ix2 a 0) - k0_pay7 (F := Ideal) s m (ix2 a 0)) * (((Real.sqrt 192)⁻¹ * (Real.log 2)⁻¹ : ℝ) : EReal)) := by
  pointwise [k0_pay8]
  rw [show (Named.named κ "exp2_scale" 0x3DD53B95#32 : Ideal .f32) = (((Real.sqrt 192)⁻¹ * (Real.log 2)⁻¹ : ℝ) : EReal)
    from IdealRules.named_const.ideal_named_scalar _ _ _ _ rfl]
  rfl

/-- and of the scores and a column. -/
theorem pay9_apply (s : FVec Ideal S1x1024x1024 .f32) (m : FVec Ideal S1024x1 .f32) (a b : Fin 1024) :
    k0_pay9 (F := Ideal) (k0_pay6 s) m (ix3 0 a b)
      = Ideal.exp2 ((s (ix3 0 a b) - m (ix2 a 0)) * (((Real.sqrt 192)⁻¹ * (Real.log 2)⁻¹ : ℝ) : EReal)) := by
  pointwise [k0_pay9, k0_pay6]
  rw [show (Named.named κ "exp2_scale" 0x3DD53B95#32 : Ideal .f32) = (((Real.sqrt 192)⁻¹ * (Real.log 2)⁻¹ : ℝ) : EReal)
    from IdealRules.named_const.ideal_named_scalar _ _ _ _ rfl]
  rfl

/-- The sums, shrunk, grow by a product of two tiles. -/
theorem pay1_apply (r : FVec Ideal S1x1024x1 .f32) (acc : FVec Ideal S1024x256 .f32) (p : FVec Ideal S1x1024x1024 .bf16)
    (x : FVec Ideal S1024x256 .bf16) (a : Fin 1024) (c : Fin 256) :
    k0_pay1 (F := Ideal) r acc p x (ix2 a c) = r (ix3 0 a 0) * acc (ix2 a c) + ∑ b : Fin 1024, p (ix3 0 a b) * x (ix2 b c) := by
  pointwise [k0_pay1]

/-- The output is a quotient of the sums, -/
theorem pay3_apply (acc : FVec Ideal S1024x256 .f32) (a : Fin 1024) (c : Fin 128) :
    k0_pay3 (F := Ideal) acc (ix2 a c) = Ideal.div (acc (ix2 a ⟨c.val, by omega⟩)) (acc (ix2 a ⟨128, by omega⟩)) := by
  pointwise [k0_pay3, k0_pay2]

/-- and the rows' log-sums are a scaled maximum and a logarithm. -/
theorem pay4_apply (acc : FVec Ideal S1024x256 .f32) (m : FVec Ideal S1024x1 .f32) (a : Fin 1024) :
    k0_pay4 (F := Ideal) acc m (ix2 a 0) = m (ix2 a 0) * (((Real.sqrt 192)⁻¹ : ℝ) : EReal) + Ideal.log (acc (ix2 a ⟨128, by omega⟩)) := by
  pointwise [k0_pay4, k0_pay2]
  rw [show (Named.named κ "att_scale" 0x3D93CD3A#32 : Ideal .f32) = (((Real.sqrt 192)⁻¹ : ℝ) : EReal)
    from IdealRules.named_const.ideal_named_scalar _ _ _ _ rfl]

/-- What a point starts from. -/
theorem pay36_apply (a : Fin 1024) : k0_pay36 (F := Ideal) (ix2 a 0) = ⊥ := by
  pointwise [k0_pay36]
  exact IdealRules.named_const.ideal_named_scalar _ _ _ _ rfl
theorem pay37_apply (a : Fin 1024) (c : Fin 256) : k0_pay37 (F := Ideal) (ix2 a c) = 0 := by
  pointwise [k0_pay37]
theorem pay38_apply (a b : Fin 1024) : k0_pay38 (F := Ideal) (ix3 0 a b) = 0 := by
  pointwise [k0_pay38]
theorem pay39_apply (a : Fin 1024) : k0_pay39 (F := Ideal) (ix3 0 a 0) = 1 := by
  pointwise [k0_pay39]

/-- The same payloads where the kernel states them again. -/
theorem pay10_eq (m : FVec Ideal S1024x1 .f32) : k0_pay10 (F := Ideal) m = m := by
  funext y
  idx_vars y
  pointwise [k0_pay10]
theorem pay43_eq (m : FVec Ideal S1024x1 .f32) : k0_pay43 (F := Ideal) m = m := by
  funext y
  idx_vars y
  pointwise [k0_pay43]
theorem pay11_eq : k0_pay11 (F := Ideal) = k0_pay1 := rfl
theorem pay44_eq : k0_pay44 (F := Ideal) = k0_pay1 := rfl
theorem pay14_eq : k0_pay14 (F := Ideal) = k0_pay7 := rfl
theorem pay15_eq : k0_pay15 (F := Ideal) = k0_pay8 := rfl
theorem pay42_eq (s : FVec Ideal S1x1024x1024 .f32) (m : FVec Ideal S1024x1 .f32) :
    k0_pay42 (F := Ideal) (k0_pay16 s m) k0_pay17 = k0_pay9 (k0_pay6 s) (k0_pay7 s m) := rfl

end Cert.Kernel2Ideal.Fwd
-- ==== Proof.Running.lean ====
/-
  The softmax of one row taken key tile by key tile, over the reals: what the greatest score, the weights and the weighted sums are after
  the first `n` keys, and what a tile adds to them. The sums are always less the greatest score so far, and shrink where it grows; the
  quotient of two of them is the same whatever it is.
-/
module

public import proofs.«01_k».proof.Proof.Softmax

@[expose] public section

noncomputable section

namespace Cert.Spec.Head

variable (H : Head)

/-- The score, not scaled, of a seen key. -/
def seenRaw (i k : ℕ) : EReal := if Seen i k then ((H.raw i k : ℝ) : EReal) else ⊥

/-- The greatest over the first `n` keys. -/
def topOf (i n : ℕ) : EReal := (Finset.range n).sup (H.seenRaw i)

def maxOf (i n : ℕ) : ℝ := (H.topOf i n).toReal

theorem topOf_zero (i : ℕ) : H.topOf i 0 = ⊥ := by unfold topOf; rw [Finset.range_zero, Finset.sup_empty]

theorem seenRaw_lt_top (i k : ℕ) : H.seenRaw i k < ⊤ := by
  unfold seenRaw
  split
  · exact EReal.coe_lt_top _
  · exact bot_lt_top

/-- Key 0 is always seen, so there is a greatest score as soon as there is a key. -/
theorem topOf_eq (i : ℕ) {n : ℕ} (hn : 0 < n) : H.topOf i n = ((H.maxOf i n : ℝ) : EReal) := by
  refine (EReal.coe_toReal (ne_of_lt ?_) (ne_of_gt ?_)).symm
  · exact (Finset.sup_lt_iff bot_lt_top).2 fun k _ => H.seenRaw_lt_top i k
  · refine lt_of_lt_of_le ?_ (Finset.le_sup (f := H.seenRaw i) (Finset.mem_range.2 hn))
    unfold seenRaw
    rw [if_pos (show Seen i 0 by unfold Seen; omega)]
    exact EReal.bot_lt_coe _

/-- A tile of `w` keys more. -/
theorem topOf_add (i n w : ℕ) :
    H.topOf i (n + w) = Max.max (H.topOf i n) (Finset.univ.fold Max.max ⊥ fun b : Fin w => H.seenRaw i (n + b.val)) := by
  have e : (Finset.univ.fold Max.max ⊥ fun b : Fin w => H.seenRaw i (n + b.val)) = Finset.univ.sup fun b : Fin w => H.seenRaw i (n + b.val) := rfl
  rw [e]
  unfold topOf
  refine le_antisymm (Finset.sup_le fun k hk => ?_) (sup_le (Finset.sup_mono fun k hk => ?_) (Finset.sup_le fun b _ => ?_))
  · rw [Finset.mem_range] at hk
    by_cases h : k < n
    · exact le_sup_of_le_left (Finset.le_sup (f := H.seenRaw i) (Finset.mem_range.2 h))
    · refine le_sup_of_le_right ?_
      have := Finset.le_sup (f := fun b : Fin w => H.seenRaw i (n + b.val)) (Finset.mem_univ (⟨k - n, by omega⟩ : Fin w))
      simpa only [show n + (k - n) = k by omega] using this
  · rw [Finset.mem_range] at hk ⊢
    omega
  · exact Finset.le_sup (f := H.seenRaw i) (Finset.mem_range.2 (by have := b.isLt; omega))

/-- The scale of the scores. -/
def scale : ℝ := (Real.sqrt 192)⁻¹

/-- The weight of a key where the greatest score is `M`. -/
def weight (i k : ℕ) (M : ℝ) : ℝ := if Seen i k then Real.exp ((H.raw i k - M) * scale) else 0

theorem weight_shift (i k : ℕ) (M N : ℝ) : Real.exp ((M - N) * scale) * H.weight i k M = H.weight i k N := by
  unfold weight
  split
  · rw [← Real.exp_add]
    congr 1
    ring
  · rw [mul_zero]

/-- The weighted sum of the first `n` keys' numbers. -/
def sumOf (f : ℕ → ℝ) (i n : ℕ) : ℝ := ∑ k ∈ Finset.range n, H.weight i k (H.maxOf i n) * f k

theorem sumOf_zero (f : ℕ → ℝ) (i : ℕ) : H.sumOf f i 0 = 0 := by unfold sumOf; rw [Finset.range_zero, Finset.sum_empty]

/-- The sums of `n` keys, shrunk, and the sum over a tile of `w` keys more. -/
theorem sumOf_add (f : ℕ → ℝ) (i n w : ℕ) :
    H.sumOf f i (n + w) = Real.exp ((H.maxOf i n - H.maxOf i (n + w)) * scale) * H.sumOf f i n
      + ∑ b : Fin w, H.weight i (n + b.val) (H.maxOf i (n + w)) * f (n + b.val) := by
  unfold sumOf
  rw [Finset.sum_range_add, Finset.mul_sum, Finset.sum_range (fun x => H.weight i (n + x) (H.maxOf i (n + w)) * f (n + x))]
  congr 1
  refine Finset.sum_congr rfl fun k _ => ?_
  rw [← mul_assoc, H.weight_shift]

/-! ## When all seen keys are counted -/

/-- A sum over enough keys is one over all: the others are not seen. -/
theorem sum_seen {i n : ℕ} (hi : i < 16384) (hn : 1024 * (i / 1024 + 1) ≤ n) (g : ℕ → ℝ) (hg : ∀ k, ¬ Seen i k → g k = 0) :
    ∑ k ∈ Finset.range n, g k = ∑ k : Fin 16384, g k := by
  rw [← Finset.sum_range g]
  have h : ∀ N : ℕ, ∑ k ∈ Finset.range N, g k = ∑ k ∈ (Finset.range N).filter (Seen i), g k := fun N =>
    (Finset.sum_filter_of_ne fun k _ hk => by_contra fun h => hk (hg k h)).symm
  rw [h, h]
  refine Finset.sum_congr (Finset.ext fun k => ?_) fun _ _ => rfl
  simp only [Finset.mem_filter, Finset.mem_range]
  unfold Seen
  constructor <;> rintro ⟨h1, h2⟩ <;> refine ⟨?_, h2⟩ <;> omega

/-- A weight is an exponential, less what the greatest scores differ by. -/
theorem weight_eq (i k : ℕ) (M : ℝ) : H.weight i k M = Real.exp (H.max i - M * scale) * H.expo i k := by
  unfold weight expo
  split
  · rw [← Real.exp_add]
    congr 1
    unfold score scale
    ring
  · rw [mul_zero]

theorem sumOf_eq {i n : ℕ} (hi : i < 16384) (hn : 1024 * (i / 1024 + 1) ≤ n) (f : ℕ → ℝ) :
    H.sumOf f i n = Real.exp (H.max i - H.maxOf i n * scale) * ∑ k : Fin 16384, H.expo i k * f k := by
  unfold sumOf
  rw [sum_seen hi hn (fun k => H.weight i k (H.maxOf i n) * f k) (fun k hk => by
    show H.weight i k _ * f k = 0
    unfold weight
    rw [if_neg hk, zero_mul]), Finset.mul_sum]
  refine Finset.sum_congr rfl fun k _ => ?_
  rw [H.weight_eq, mul_assoc]

/-- The sum of the weights alone. -/
theorem sumOf_one {i n : ℕ} (hi : i < 16384) (hn : 1024 * (i / 1024 + 1) ≤ n) :
    H.sumOf (fun _ => 1) i n = Real.exp (H.max i - H.maxOf i n * scale) * H.den i := by
  rw [H.sumOf_eq hi hn]
  unfold den
  simp only [mul_one]

theorem sumOf_one_pos {i n : ℕ} (hi : i < 16384) (hn : 1024 * (i / 1024 + 1) ≤ n) : 0 < H.sumOf (fun _ => 1) i n := by
  rw [H.sumOf_one hi hn]
  exact mul_pos (Real.exp_pos _) (H.den_pos hi)

/-- The quotient of the sums is the output, -/
theorem sumOf_out {i n : ℕ} (hi : i < 16384) (hn : 1024 * (i / 1024 + 1) ≤ n) (c : Fin 128) :
    H.sumOf (fun k => H.v k c) i n * (1 / H.sumOf (fun _ => 1) i n) = H.out i c := by
  rw [H.sumOf_one hi hn, H.sumOf_eq hi hn]
  have h1 := (Real.exp_pos (H.max i - H.maxOf i n * scale)).ne'
  have h2 := (H.den_pos hi).ne'
  have h3 : H.out i c = (∑ k : Fin 16384, H.expo i k * H.v k c) * (H.den i)⁻¹ := by
    unfold out prob
    rw [Finset.sum_mul]
    exact Finset.sum_congr rfl fun k _ => by ring
  rw [h3]
  field_simp

/-- and the scaled greatest score and the logarithm of the weights' sum are the logarithm of the exponentials' sum. -/
theorem sumOf_lse {i n : ℕ} (hi : i < 16384) (hn : 1024 * (i / 1024 + 1) ≤ n) :
    H.maxOf i n * scale + Real.log (H.sumOf (fun _ => 1) i n) = H.max i + Real.log (H.den i) := by
  rw [H.sumOf_one hi hn, Real.log_mul (Real.exp_pos _).ne' (H.den_pos hi).ne', Real.log_exp]
  ring

end Cert.Spec.Head
-- ==== Proof.F2I.Offsets.lean ====
/-
  Which key tile each access of the forward kernel's loop takes, which elements of a tile of scores are seen, and a tile of 1024 rows at
  an element.
-/
module

public import proofs.«01_k».proof.Proof.F2I.Payloads
public import proofs.«01_k».proof.Proof.Running

@[expose] public section

set_option maxRecDepth 16384

noncomputable section

namespace Cert.Kernel2Ideal.Fwd

open Cert.Kernel2Ideal Cert.Kernel2Ideal.Gen
open Idealize.ShloMosaic
open Cert.Spec.Head (Seen)

theorem trips_eq : ∀ i : grid0.Coords, (k0_t1_loop i).trips = ((i 0).val + 2) / 2 := by decide +kernel

/-- Key tile `n`, held inside the 16 tiles. -/
def tileAt (n : ℕ) : ℕ := min 15 n

theorem off1_eq : k0_off1 = ![1024 * tileAt 0, 0] := by decide +kernel
theorem off2a_eq : ∀ (i : grid0.Coords) (t : Fin (k0_t1_loop i).trips), k0_off2 i t 1#32 = ![1024 * tileAt (2 * t.val + 1), 0] := by decide +kernel
theorem off2b_eq : ∀ (i : grid0.Coords) (t : Fin (k0_t1_loop i).trips), k0_off2 i t 2#32 = ![1024 * tileAt (2 * t.val + 2), 0] := by decide +kernel
theorem off3_eq : ∀ (i : grid0.Coords) (t : Fin (k0_t1_loop i).trips), k0_off3 i t = ![1024 * tileAt (2 * t.val - 1), 0] := by decide +kernel
theorem off4_eq : ∀ (i : grid0.Coords) (t : Fin (k0_t1_loop i).trips), k0_off4 i t = ![1024 * tileAt (2 * t.val + 1 - 1), 0] := by decide +kernel
theorem off8_eq : ∀ i : grid0.Coords, k0_off8 i = ![1024 * tileAt (2 * (k0_t1_loop i).trips - 1), 0] := by decide +kernel

/-- A word divided by 64, rounded down, as the kernel does it. -/
def chunkWord (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

theorem chunkWord_eq : ∀ a : Fin 1024, chunkWord (BitVec.ofNat 32 a.val) = BitVec.ofNat 32 (a.val / 64) := by decide +kernel

/-- The difference of the chunk numbers of a key row and a query row of a tile. -/
theorem chunkDiff_apply (a b : Fin 1024) :
    chunkDiff (ix2 a b) = BitVec.ofNat 32 (b.val / 64) - BitVec.ofNat 32 (a.val / 64) := by
  have h : chunkDiff (ix2 a b) = IntOp.subi (chunkWord (BitVec.ofNat 32 b.val)) (chunkWord (BitVec.ofNat 32 a.val)) := by
    pointwise [chunkDiff, k0_pay31, k0_pay32, k0_pay33, k0_pay34, k0_pay35]
    rfl
  rw [h, chunkWord_eq, chunkWord_eq]
  rfl

theorem sle_word : ∀ (x y : Fin 16) (i : Fin 16) (n : Fin 18),
    (BitVec.ofNat 32 x.val - BitVec.ofNat 32 y.val).sle (Scalar.muli (Scalar.subi (BitVec.ofNat 32 i.val) (BitVec.ofNat 32 n.val)) 16#32)
      = decide (x.val + 16 * n.val ≤ y.val + 16 * i.val) := by decide +kernel

/-- Row `b` of key tile `n` is seen by row `a` of query tile `i` where the key's chunk is no later. -/
theorem seen_eq (i : ℕ) (hi : i < 16) (n : ℕ) (hn : n < 18) (a b : Fin 1024) :
    (chunkDiff (ix2 a b)).sle (Scalar.muli (Scalar.subi (BitVec.ofNat 32 i) (BitVec.ofNat 32 n)) 16#32)
      = decide (Seen (1024 * i + a.val) (1024 * n + b.val)) := by
  have ha : a.val / 64 < 16 := by omega
  have hb : b.val / 64 < 16 := by omega
  rw [chunkDiff_apply, sle_word ⟨_, hb⟩ ⟨_, ha⟩ ⟨i, hi⟩ ⟨n, hn⟩]
  refine decide_eq_decide.2 ?_
  show b.val / 64 + 16 * n ≤ a.val / 64 + 16 * i ↔ (1024 * n + b.val) / 64 ≤ (1024 * i + a.val) / 64
  omega

/-- The tile numbers of a trip as words. -/
theorem tileA (i : grid0.Coords) (t : Fin (k0_t1_loop i).trips) :
    Scalar.addi (Scalar.muli 2#32 (Scf.iv 0#32 1#32 t.val)) 1#32 = BitVec.ofNat 32 (2 * t.val + 1) := by
  revert i
  decide +kernel
theorem tileB (i : grid0.Coords) (t : Fin (k0_t1_loop i).trips) :
    Scalar.addi (Scalar.muli 2#32 (Scf.iv 0#32 1#32 t.val)) 2#32 = BitVec.ofNat 32 (2 * t.val + 2) := by
  revert i
  decide +kernel

/-- A window of 1024 rows, `o` rows on. -/
theorem window192 {α : Type} (x : S16384x192.Idx → α) {off : Fin 2 → ℕ} (inb : ∀ a, off a + S1024x192.size a ≤ S16384x192.size a) {o : ℕ}
    (h : off = ![o, 0]) (b : Fin 1024) (d : Fin 192) (hb : o + b.val < 16384) :
    VecWindow.window x off S1024x192.size inb (ix2 b d) = x (ix2 ⟨o + b.val, hb⟩ d) := by
  subst h
  refine congrArg x (funext fun a => Fin.ext ?_)
  fin_cases a
  · show o + 1 * b.val = o + b.val
    omega
  · show 0 + 1 * d.val = d.val
    omega

theorem window256 {α : Type} (x : S16384x256.Idx → α) {off : Fin 2 → ℕ} (inb : ∀ a, off a + S1024x256.size a ≤ S16384x256.size a) {o : ℕ}
    (h : off = ![o, 0]) (b : Fin 1024) (d : Fin 256) (hb : o + b.val < 16384) :
    VecWindow.window x off S1024x256.size inb (ix2 b d) = x (ix2 ⟨o + b.val, hb⟩ d) := by
  subst h
  refine congrArg x (funext fun a => Fin.ext ?_)
  fin_cases a
  · show o + 1 * b.val = o + b.val
    omega
  · show 0 + 1 * d.val = d.val
    omega

end Cert.Kernel2Ideal.Fwd
-- ==== Proof.F2I.Steps.lean ====
/-
  One key tile's share of a trip, over the reals: its scores, the maxima it leads to, and what it adds to the sums.
-/
module

public import proofs.«01_k».proof.Proof.F2I.Offsets

@[expose] public section

set_option maxRecDepth 16384

noncomputable section

namespace Cert.Kernel2Ideal.Fwd

open Cert.Kernel2Ideal Cert.Kernel2Ideal.Gen
open Idealize.ShloMosaic
open Cert.Spec

/-- A key row's numbers that are summed: its values, and ones beside them. -/
def wide (H : Head) (k : ℕ) (c : Fin 256) : ℝ := if h : c.val < 128 then H.v k ⟨c.val, h⟩ else 1

/-- The rows of `H` are what grid point `i` reads. -/
structure Reads (H : Head) (i : ℕ) (e : Env Ideal) : Prop where
  q : ∀ (a : Fin 1024) (d : Fin 192), e.q (ix2 a d) = ((H.q (1024 * i + a.val) d : ℝ) : EReal)
  k : ∀ (r : Fin 16384) (d : Fin 192), e.k (ix2 r d) = ((H.k r.val d : ℝ) : EReal)
  vx : ∀ (r : Fin 16384) (c : Fin 256), e.vx (ix2 r c) = ((wide H r.val c : ℝ) : EReal)

theorem row_lt (n : ℕ) (b : Fin 1024) : 1024 * tileAt n + b.val < 16384 := by
  unfold tileAt
  have := b.isLt
  omega

/-- A tile beyond the 16 has no seen rows. -/
theorem tileAt_of_seen {i n : ℕ} {a b : Fin 1024} (hi : i < 16) (h : Head.Seen (1024 * i + a.val) (1024 * n + b.val)) : tileAt n = n := by
  unfold Head.Seen at h
  have := a.isLt
  unfold tileAt
  omega

variable {H : Head} {i : ℕ} {e : Env Ideal}

/-- The scores of tile `n`. -/
def Scores (H : Head) (i n : ℕ) (s : Vec Ideal S1x1024x1024 .f32) : Prop :=
  ∀ a b : Fin 1024, s (ix3 0 a b) = H.seenRaw (1024 * i + a.val) (1024 * n + b.val)

/-- The rows' greatest scores over the first `n` tiles. -/
def Tops (H : Head) (i n : ℕ) (m : Vec Ideal S1024x1 .f32) : Prop :=
  ∀ a : Fin 1024, m (ix2 a 0) = H.topOf (1024 * i + a.val) (1024 * n)

/-- The rows' sums over the first `n` tiles. -/
def Sums (H : Head) (i n : ℕ) (acc : Vec Ideal S1024x256 .f32) : Prop :=
  ∀ (a : Fin 1024) (c : Fin 256), acc (ix2 a c) = ((H.sumOf (fun k => wide H k c) (1024 * i + a.val) (1024 * n) : ℝ) : EReal)

/-- What is needed for the sums over the first `n` tiles but the last tile's rows. -/
def Pending (H : Head) (i n : ℕ) (r : Vec Ideal S1x1024x1 .f32) (acc : Vec Ideal S1024x256 .f32) (p : Vec Ideal S1x1024x1024 .bf16) : Prop :=
  ∀ x : Vec Ideal S1024x256 .bf16, (∀ (b : Fin 1024) (c : Fin 256), x (ix2 b c) = ((wide H (1024 * tileAt (n - 1) + b.val) c : ℝ) : EReal)) →
    Sums H i n (k0_pay1 r acc p x)

theorem Reads.kWindow (h : Reads H i e) {off : Fin 2 → ℕ} {inb : ∀ a, off a + S1024x192.size a ≤ S16384x192.size a} {n : ℕ}
    (ho : off = ![1024 * tileAt n, 0]) (b : Fin 1024) (d : Fin 192) :
    VecWindow.window e.k off S1024x192.size inb (ix2 b d) = ((H.k (1024 * tileAt n + b.val) d : ℝ) : EReal) := by
  rw [window192 e.k inb ho b d (row_lt n b), h.k]

theorem Reads.vWindow (h : Reads H i e) {off : Fin 2 → ℕ} {inb : ∀ a, off a + S1024x256.size a ≤ S16384x256.size a} {n : ℕ}
    (ho : off = ![1024 * tileAt n, 0]) (b : Fin 1024) (c : Fin 256) :
    VecWindow.window e.vx off S1024x256.size inb (ix2 b c) = ((wide H (1024 * tileAt n + b.val) c : ℝ) : EReal) := by
  rw [window256 e.vx inb ho b c (row_lt n b), h.vx]

/-- The scores a grid point computes of tile `n`. -/
theorem Reads.scores (h : Reads H i e) (hi : i < 16) {n : ℕ} (hn : n < 18) {off : Fin 2 → ℕ}
    {inb : ∀ a, off a + S1024x192.size a ≤ S16384x192.size a} (ho : off = ![1024 * tileAt n, 0]) {d : BitVec 32}
    (hd : d = Scalar.subi (BitVec.ofNat 32 i) (BitVec.ofNat 32 n)) :
    Scores H i n (k0_pay41 (F := Ideal) chunkDiff (k0_pay40 e.q (VecWindow.window e.k off S1024x192.size inb)) d) := by
  intro a b
  subst hd
  rw [pay41_apply, seen_eq i hi n hn a b, Head.seenRaw]
  simp only [decide_eq_true_eq]
  by_cases hs : Head.Seen (1024 * i + a.val) (1024 * n + b.val)
  · rw [if_pos hs, if_pos hs, Head.raw, coe_sum]
    refine Finset.sum_congr rfl fun c _ => ?_
    rw [h.q, h.kWindow ho, EReal.coe_mul, tileAt_of_seen hi hs]
  · rw [if_neg hs, if_neg hs]

/-- The maxima one tile on. -/
theorem Tops.next {n : ℕ} {s : Vec Ideal S1x1024x1024 .f32} {m : Vec Ideal S1024x1 .f32} (hm : Tops H i n m) (hs : Scores H i n s) :
    Tops H i (n + 1) (k0_pay7 (F := Ideal) s m) := by
  intro a
  rw [pay7_apply, hm a, Nat.mul_succ, H.topOf_add]
  refine congrArg _ ?_
  exact congrArg (fun f => Finset.univ.fold max ⊥ f) (funext fun b => hs a b)

theorem scale_pos : (0 : ℝ) < (Real.sqrt 192)⁻¹ * (Real.log 2)⁻¹ :=
  mul_pos (inv_pos.2 (Real.sqrt_pos.2 (by norm_num))) (inv_pos.2 (Real.log_pos (by norm_num)))

/-- Two to the scaled difference of two real numbers. -/
theorem exp2_scaled (x y : ℝ) :
    Ideal.exp2 (((x : EReal) - (y : EReal)) * (((Real.sqrt 192)⁻¹ * (Real.log 2)⁻¹ : ℝ) : EReal)) = ((Real.exp ((x - y) * Head.scale) : ℝ) : EReal) := by
  rw [← EReal.coe_sub, ← EReal.coe_mul, Ideal.exp2_coe]
  congr 1
  have h2 : Real.log 2 ≠ 0 := (Real.log_pos (by norm_num)).ne'
  show Real.rpow 2 _ = _
  rw [Real.rpow_eq_pow, Real.rpow_def_of_pos (by norm_num)]
  congr 1
  unfold Head.scale
  field_simp

theorem exp2_bot (y : ℝ) :
    Ideal.exp2 (((⊥ : EReal) - (y : EReal)) * (((Real.sqrt 192)⁻¹ * (Real.log 2)⁻¹ : ℝ) : EReal)) = ((0 : ℝ) : EReal) := by
  rw [EReal.bot_sub, EReal.bot_mul_coe_of_pos scale_pos, Ideal.exp2_bot, EReal.coe_zero]

/-- The weights of tile `n`, -/
theorem weights {n : ℕ} {s : Vec Ideal S1x1024x1024 .f32} {m : Vec Ideal S1024x1 .f32} (hm : Tops H i n m) (hs : Scores H i n s) (a b : Fin 1024) :
    k0_pay9 (F := Ideal) (k0_pay6 s) (k0_pay7 s m) (ix3 0 a b)
      = ((H.weight (1024 * i + a.val) (1024 * n + b.val) (H.maxOf (1024 * i + a.val) (1024 * n + 1024)) : ℝ) : EReal) := by
  rw [pay9_apply, hm.next hs a, hs a b, Nat.mul_succ, H.topOf_eq _ (by omega : 0 < 1024 * n + 1024)]
  unfold Head.seenRaw Head.weight
  split
  · exact exp2_scaled _ _
  · exact exp2_bot _

/-- what the earlier sums shrink by, -/
theorem shrink {n : ℕ} {s : Vec Ideal S1x1024x1024 .f32} {m : Vec Ideal S1024x1 .f32} (hm : Tops H i n m) (hs : Scores H i n s) (a : Fin 1024) :
    k0_pay8 (F := Ideal) s m (ix3 0 a 0) = if n = 0 then ((0 : ℝ) : EReal)
      else ((Real.exp ((H.maxOf (1024 * i + a.val) (1024 * n) - H.maxOf (1024 * i + a.val) (1024 * n + 1024)) * Head.scale) : ℝ) : EReal) := by
  rw [pay8_apply, hm.next hs a, hm a, Nat.mul_succ, H.topOf_eq _ (by omega : 0 < 1024 * n + 1024)]
  split
  · next h =>
    subst h
    rw [Nat.mul_zero, H.topOf_zero]
    exact exp2_bot _
  · next h =>
    rw [H.topOf_eq _ (by omega : 0 < 1024 * n)]
    exact exp2_scaled _ _

/-- and with them the sums are ready to grow by the tile. -/
theorem Sums.next (hi : i < 16) {n : ℕ} {s : Vec Ideal S1x1024x1024 .f32} {m : Vec Ideal S1024x1 .f32} {acc : Vec Ideal S1024x256 .f32}
    (hacc : Sums H i n acc) (hm : Tops H i n m) (hs : Scores H i n s) :
    Pending H i (n + 1) (k0_pay8 s m) acc (k0_pay9 (k0_pay6 s) (k0_pay7 s m)) := by
  intro x hx a c
  rw [pay1_apply, hacc a c, shrink hm hs a]
  have e : ∀ b : Fin 1024, k0_pay9 (F := Ideal) (k0_pay6 s) (k0_pay7 s m) (ix3 0 a b) * x (ix2 b c)
      = ((H.weight (1024 * i + a.val) (1024 * n + b.val) (H.maxOf (1024 * i + a.val) (1024 * n + 1024)) * wide H (1024 * n + b.val) c : ℝ) : EReal) := by
    intro b
    rw [weights hm hs, hx, Nat.add_sub_cancel, ← EReal.coe_mul]
    congr 1
    by_cases hv : Head.Seen (1024 * i + a.val) (1024 * n + b.val)
    · rw [tileAt_of_seen hi hv]
    · unfold Head.weight
      rw [if_neg hv, zero_mul, zero_mul]
  rw [Finset.sum_congr rfl fun b _ => e b, ← coe_sum, Nat.mul_succ, H.sumOf_add]
  split
  · next h =>
    subst h
    rw [Nat.mul_zero, H.sumOf_zero, ← EReal.coe_mul, ← EReal.coe_add, mul_zero, mul_zero]
  · rw [← EReal.coe_mul, ← EReal.coe_add]

end Cert.Kernel2Ideal.Fwd
-- ==== Proof.F2I.Trips.lean ====
/-
  What a grid point of the forward kernel has after any number of trips, and at its end, over the reals.
-/
module

public import proofs.«01_k».proof.Proof.F2I.Steps

@[expose] public section

set_option maxRecDepth 16384

noncomputable section

namespace Cert.Kernel2Ideal.Fwd

open Cert.Kernel2Ideal Cert.Kernel2Ideal.Gen
open Idealize.ShloMosaic
open Cert.Spec

/-- Between two trips: tile `n` has its scores, the maxima are over the tiles before it, the sums want the last of these. -/
structure Between (H : Head) (i n : ℕ) (st : St Ideal) : Prop where
  s0 : Scores H i n st.s0
  m : Tops H i n st.m
  next : Pending H i n st.a1 st.acc st.p1

/-- Half a trip on, the same in the other slots. -/
structure Halfway (H : Head) (i n : ℕ) (md : Mid Ideal) : Prop where
  s1 : Scores H i n md.s1
  m : Tops H i n md.m
  next : Pending H i n md.a0 md.acc md.p0

variable {H : Head} {i : grid0.Coords} {e : Env Ideal}

theorem coord_lt (i : grid0.Coords) : (i 0).val < 16 := (i 0).isLt

theorem trip_lt (i : grid0.Coords) (t : Fin (k0_t1_loop i).trips) : 2 * t.val + 2 < 18 := by
  have h := t.isLt
  have e := trips_eq i
  have := coord_lt i
  omega

/-- The first half of a trip, -/
theorem Between.halfA (h : Reads H (i 0).val e) (t : Fin (k0_t1_loop i).trips) {st : St Ideal} (b : Between H (i 0).val (2 * t.val) st) :
    Halfway H (i 0).val (2 * t.val + 1) (Fwd.halfA e i (word i) chunkDiff t st) where
  s1 := by
    unfold Fwd.halfA
    dsimp only
    rw [pay5_eq]
    exact h.scores (coord_lt i) (by have := trip_lt i t; omega) (off2a_eq i t) (by rw [tileA])
  m := by
    unfold Fwd.halfA
    dsimp only
    rw [pay10_eq]
    exact b.m.next b.s0
  next := by
    unfold Fwd.halfA
    dsimp only
    rw [pay11_eq]
    exact (b.next _ (h.vWindow (off3_eq i t))).next (coord_lt i) b.m b.s0

/-- the second, -/
theorem Halfway.halfB (h : Reads H (i 0).val e) (t : Fin (k0_t1_loop i).trips) {md : Mid Ideal} (b : Halfway H (i 0).val (2 * t.val + 1) md) :
    Between H (i 0).val (2 * (t.val + 1)) (Fwd.halfB e i (word i) chunkDiff t md) where
  s0 := by
    unfold Fwd.halfB
    dsimp only
    rw [pay12_eq]
    exact h.scores (coord_lt i) (trip_lt i t) (off2b_eq i t) (by rw [tileB])
  m := by
    unfold Fwd.halfB
    dsimp only
    rw [pay43_eq, pay14_eq]
    exact b.m.next b.s1
  next := by
    unfold Fwd.halfB
    dsimp only
    rw [pay44_eq, pay42_eq, pay15_eq]
    exact (b.next _ (h.vWindow (off4_eq i t))).next (coord_lt i) b.m b.s1

/-- what a point starts from, -/
theorem start_between (h : Reads H (i 0).val e) : Between H (i 0).val 0 (start e (word i)) where
  s0 := h.scores (coord_lt i) (by omega) off1_eq rfl
  m := fun a => by
    rw [Nat.mul_zero, H.topOf_zero]
    exact pay36_apply a
  next := fun x hx a c => by
    unfold start
    dsimp only
    rw [pay1_apply, pay39_apply, pay37_apply, Nat.mul_zero, H.sumOf_zero, mul_zero, zero_add, EReal.coe_zero]
    refine Finset.sum_eq_zero fun b _ => ?_
    rw [pay38_apply, zero_mul]

/-- after any number of trips, -/
theorem trips_between (h : Reads H (i 0).val e) {st : St Ideal} (b : Between H (i 0).val 0 st) :
    ∀ n, n ≤ (k0_t1_loop i).trips → Between H (i 0).val (2 * n) (trips e i (word i) chunkDiff st n)
  | 0, _ => b
  | n + 1, hn => by
    have ih := trips_between h b n (by omega)
    rw [trips_succ e i (word i) chunkDiff st ⟨n, hn⟩]
    exact (ih.halfA h ⟨n, hn⟩).halfB h ⟨n, hn⟩

theorem final_between (h : Reads H (i 0).val e) : Between H (i 0).val (2 * (k0_t1_loop i).trips) (final e i) := by
  unfold final
  exact trips_between h (start_between h) _ le_rfl

/-- and at its end, when the last tile is counted. -/
theorem final_sums (h : Reads H (i 0).val e) : Sums H (i 0).val (2 * (k0_t1_loop i).trips) (lastAcc e i (final e i)) := by
  unfold lastAcc
  exact (final_between h).next _ (h.vWindow (off8_eq i))

theorem enough (i : grid0.Coords) (a : Fin 1024) :
    1024 * (i 0).val + a.val < 16384 ∧ 1024 * ((1024 * (i 0).val + a.val) / 1024 + 1) ≤ 1024 * (2 * (k0_t1_loop i).trips) := by
  have := coord_lt i
  have := trips_eq i
  have := a.isLt
  omega

/-- A point's rows have their outputs, -/
theorem outO_apply (h : Reads H (i 0).val e) (a : Fin 1024) (c : Fin 128) :
    outO e i (ix2 a c) = ((H.out (1024 * (i 0).val + a.val) c : ℝ) : EReal) := by
  obtain ⟨h1, h2⟩ := enough i a
  unfold outO
  rw [pay3_apply, final_sums h, final_sums h]
  have e1 : (fun k => wide H k ⟨128, by omega⟩) = fun _ => 1 := funext fun k => dif_neg (by show ¬ 128 < 128; omega)
  have e2 : (fun k => wide H k ⟨c.val, by omega⟩) = fun k => H.v k c := funext fun k => dif_pos c.isLt
  rw [e1, e2, Ideal.div_coe (H.sumOf_one_pos h1 h2).ne', ← EReal.coe_mul, H.sumOf_out h1 h2]

/-- and their log-sums. -/
theorem outL_apply (h : Reads H (i 0).val e) (a : Fin 1024) :
    outL e i (ix2 a 0) = ((H.max (1024 * (i 0).val + a.val) + Real.log (H.den (1024 * (i 0).val + a.val)) : ℝ) : EReal) := by
  obtain ⟨h1, h2⟩ := enough i a
  unfold outL
  rw [pay4_apply, final_sums h, (final_between h).m a]
  have e1 : (fun k => wide H k ⟨128, by omega⟩) = fun _ => 1 := funext fun k => dif_neg (by show ¬ 128 < 128; omega)
  have hp := H.sumOf_one_pos h1 h2
  rw [e1, H.topOf_eq _ (by omega), Ideal.log_coe, if_neg (not_le.2 hp), ← EReal.coe_mul, ← EReal.coe_add]
  exact congrArg _ (H.sumOf_lse h1 h2)

end Cert.Kernel2Ideal.Fwd
-- ==== Proof.F2I.Arrays.lean ====
/-
  From the blocks of the forward kernel's grid points to its two result arrays: where the arrays the launch reads hold the rows of one
  head, it leaves the attention's output and the rows' log-sums.
-/
module

public import proofs.«01_k».proof.Proof.F2I.Trips
public import proofs.«01_k».proof.Proof.F2I.Launch
public import proofs.«01_k».proof.Proof.RefArrays

@[expose] public section

set_option maxRecDepth 16384

noncomputable section

namespace Cert.Kernel2Ideal.Fwd

open Cert.Kernel2Ideal Cert.Kernel2Ideal.Gen
open Idealize.ShloMosaic Idealize.ShloMosaic.TcCoe
open Idealize.SL.Sem
open Cert.Spec
open Cert.Head (pair)

variable (m : (ℓ : Loc nD τ sig) → Buf (Elt Ideal) ℓ)

/-! ## Where the blocks lie -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem coord0 : ∀ t : Fin cfg0.N, (grid0.coords t 0).val = t.val := (by decide +kernel : ∀ t : Fin grid0.N, _)

theorem t_lt (t : Fin cfg0.N) : t.val < 16 := lt_of_lt_of_eq t.isLt N_0

/-- Row `a` of the block of point `t`. -/
def rowOf (t : Fin cfg0.N) (a : Fin 1024) : Fin 16384 := ⟨1024 * t.val + a.val, by have := t_lt t; have := a.isLt; omega⟩

theorem emb0 (t : Fin cfg0.N) (a : Fin 1024) (d : Fin 192) : ((cfg0.win 0).blk t).view.emb (ix2 a d) = (ix2 (rowOf t a) d : S16384x192.Idx) := by
  obtain ⟨e0, e1⟩ := idx0 t
  funext x; apply Fin.ext
  match x with
  | ⟨0, _⟩ => show win0_0.index t (0 : Fin 2) * 1024 + 1 * a.val = 1024 * t.val + a.val; omega
  | ⟨1, _⟩ => show win0_0.index t (1 : Fin 2) * 192 + 1 * d.val = d.val; omega

theorem emb1 (t : Fin cfg0.N) (y : S16384x192.Idx) : ((cfg0.win 1).blk t).view.emb y = y := by
  obtain ⟨e0, e1⟩ := idx1 t
  funext x; apply Fin.ext
  match x with
  | ⟨0, _⟩ => show win0_1.index t (0 : Fin 2) * 16384 + 1 * (y 0).val = (y 0).val; omega
  | ⟨1, _⟩ => show win0_1.index t (1 : Fin 2) * 192 + 1 * (y 1).val = (y 1).val; omega

theorem emb2 (t : Fin cfg0.N) (y : S16384x256.Idx) : ((cfg0.win 2).blk t).view.emb y = y := by
  obtain ⟨e0, e1⟩ := idx2 t
  funext x; apply Fin.ext
  match x with
  | ⟨0, _⟩ => show win0_2.index t (0 : Fin 2) * 16384 + 1 * (y 0).val = (y 0).val; omega
  | ⟨1, _⟩ => show win0_2.index t (1 : Fin 2) * 256 + 1 * (y 1).val = (y 1).val; omega

theorem emb3 (t : Fin cfg0.N) (a : Fin 1024) (d : Fin 128) : ((cfg0.win 3).blk t).view.emb (ix2 a d) = (ix2 (rowOf t a) d : S16384x128.Idx) := by
  obtain ⟨e0, e1⟩ := idx3 t
  funext x; apply Fin.ext
  match x with
  | ⟨0, _⟩ => show win0_3.index t (0 : Fin 2) * 1024 + 1 * a.val = 1024 * t.val + a.val; omega
  | ⟨1, _⟩ => show win0_3.index t (1 : Fin 2) * 128 + 1 * d.val = d.val; omega

theorem emb4 (t : Fin cfg0.N) (a : Fin 1024) (d : Fin 1) : ((cfg0.win 4).blk t).view.emb (ix2 a d) = (ix2 (rowOf t a) d : S16384x1.Idx) := by
  obtain ⟨e0, e1⟩ := idx4 t
  funext x; apply Fin.ext
  match x with
  | ⟨0, _⟩ => show win0_4.index t (0 : Fin 2) * 1024 + 1 * a.val = 1024 * t.val + a.val; omega
  | ⟨1, _⟩ => show win0_4.index t (1 : Fin 2) * 1 + 1 * d.val = d.val; omega

/-! ## What the points read -/

/-- The arrays the launch reads hold the rows of a head. -/
structure Found (H : Head) (c : Dev nD) : Prop where
  q : ∀ (r : Fin 16384) (d : Fin 192), V m c main_v2 (ix2 r d) = ((H.q r.val d : ℝ) : EReal)
  k : ∀ (r : Fin 16384) (d : Fin 192), V m c main_v3 (ix2 r d) = ((H.k r.val d : ℝ) : EReal)
  vx : ∀ (r : Fin 16384) (d : Fin 256), V m c main_v4 (ix2 r d) = ((wide H r.val d : ℝ) : EReal)

variable {m} {H : Head} {c : Dev nD}

theorem Found.reads (h : Found m H c) (t : Fin cfg0.N) : Reads H (grid0.coords t 0).val (envAt m c t) where
  q a d := by
    show V m c main_v2 (((cfg0.win 0).blk t).view.emb (ix2 a d)) = _
    rw [emb0, h.q, coord0]
    rfl
  k r d := by
    show V m c main_v3 (((cfg0.win 1).blk t).view.emb (ix2 r d)) = _
    rw [emb1, h.k]
  vx r d := by
    show V m c main_v4 (((cfg0.win 2).blk t).view.emb (ix2 r d)) = _
    rw [emb2, h.vx]

/-! ## The two results -/

/-- The attention's output as an array, -/
def oArr (H : Head) : FVec Ideal S16384x128 .bf16 := fun y => ((H.out (y 0).val (y 1) : ℝ) : EReal)

/-- and the rows' log-sums. -/
def lArr (H : Head) : FVec Ideal S16384x1 .f32 := fun y => ((H.max (y 0).val + Real.log (H.den (y 0).val) : ℝ) : EReal)

/-- The point in whose block a row lies, and its place there. -/
def pointOf (r : Fin 16384) : Fin cfg0.N := ⟨r.val / 1024, lt_of_lt_of_eq (by have := r.isLt; omega) N_0.symm⟩
def placeOf (r : Fin 16384) : Fin 1024 := ⟨r.val % 1024, Nat.mod_lt _ (by decide)⟩
theorem rowOf_pointOf (r : Fin 16384) : rowOf (pointOf r) (placeOf r) = r := Fin.ext (Nat.div_add_mod r.val 1024)

/-- The output after the last point. -/
theorem Found.out (h : Found m H c) : (dats m 0 c).arrAt 3 cfg0.N = oArr H := by
  refine (dats m 0 c).arrAt_eq_of_cover 3 (oArr H) (fun t _ => ?_) (fun y => ?_)
  · show (cfg0.win 3).cut (grid0.coords t) ((dats m 0 c).after 3 t) = _
    funext y
    obtain ⟨a, d, rfl⟩ : ∃ (a : Fin 1024) (d : Fin 128), y = ix2 a d := pair y
    show outO (envAt m c t) (grid0.coords t) (ix2 a d) = oArr H (((cfg0.win 3).blk t).view.emb (ix2 a d))
    rw [emb3, outO_apply (h.reads t) a d, coord0]
    rfl
  · obtain ⟨r, d, rfl⟩ : ∃ (r : Fin 16384) (d : Fin 128), y = ix2 r d := pair y
    refine ⟨pointOf r, flush0_3 _, ?_⟩
    have e := emb3 (pointOf r) (placeOf r) d
    rw [rowOf_pointOf] at e
    rw [← e]
    exact View.emb_mem_set _ _

/-- The log-sums after the last point. -/
theorem Found.lse (h : Found m H c) : (dats m 0 c).arrAt 4 cfg0.N = lArr H := by
  refine (dats m 0 c).arrAt_eq_of_cover 4 (lArr H) (fun t _ => ?_) (fun y => ?_)
  · show (cfg0.win 4).cut (grid0.coords t) ((dats m 0 c).after 4 t) = _
    funext y
    obtain ⟨a, d, rfl⟩ : ∃ (a : Fin 1024) (d : Fin 1), y = ix2 a d := pair y
    obtain rfl : d = 0 := Subsingleton.elim _ _
    show outL (envAt m c t) (grid0.coords t) (ix2 a 0) = lArr H (((cfg0.win 4).blk t).view.emb (ix2 a 0))
    rw [emb4, outL_apply (h.reads t) a, coord0]
    rfl
  · obtain ⟨r, d, rfl⟩ : ∃ (r : Fin 16384) (d : Fin 1), y = ix2 r d := pair y
    refine ⟨pointOf r, flush0_4 _, ?_⟩
    have e := emb4 (pointOf r) (placeOf r) d
    rw [rowOf_pointOf] at e
    rw [← e]
    exact View.emb_mem_set _ _

end Cert.Kernel2Ideal.Fwd
-- ==== Proof.F2I.Host.lean ====
/-
  What the host prepares for the forward kernel: the queries and keys rounded, and the values with 128 columns of ones beside them; over the
  reals, the rows of a head.
-/
module

public import proofs.«01_k».proof.Proof.F2I.Arrays

@[expose] public section

set_option maxRecDepth 16384

noncomputable section

namespace Cert.Kernel2Ideal.Fwd

open Cert.Kernel2Ideal Cert.Kernel2Ideal.Gen
open Idealize.ShloMosaic Idealize.ShloMosaic.TcCoe
open Idealize.SL.Sem

section Any

variable {F : FTy → Type} [FloatOps F] [Named F] [∀ e, Nonempty (Elt F e)]
variable (m : (ℓ : Loc nD τ sig) → Buf (Elt F) ℓ) (c : Dev nD)

/-- The values with ones beside them. -/
def hWide (v : Vec F S16384x128 .f32) : Vec F S16384x256 .f32 :=
  concatenate S16384x256 1 [⟨S16384x128, v⟩, ⟨S16384x128, broadcastInDim S16384x128 ![] bcast_S_S16384x128 (constant S_ .f32 0x3F800000#32 : Vec F S_ .f32)⟩]
    concatenates_S16384x128_S16384x128_S16384x256_d1

theorem V_main_v2 : V m c main_v2 = (truncf .bf16 (m (c.tc.loc main_arg0) : Vec F S16384x192 .f32) bitsLt_bf16_f32 : Vec F S16384x192 .bf16) := by
  unfold V
  after_results_simp <;> rfl

theorem V_main_v3 : V m c main_v3 = (truncf .bf16 (m (c.tc.loc main_arg1) : Vec F S16384x192 .f32) bitsLt_bf16_f32 : Vec F S16384x192 .bf16) := by
  unfold V
  after_results_simp <;> rfl

theorem V_main_v4 : V m c main_v4 = (truncf .bf16 (hWide (m (c.tc.loc main_arg2)) : Vec F S16384x256 .f32) bitsLt_bf16_f32 : Vec F S16384x256 .bf16) := by
  unfold V
  after_results_simp <;> rfl

end Any

theorem ofBits_one : Ideal.ofBits .f32 0x3F800000#32 = ((1 : ℝ) : EReal) := by
  have e : (8388608 : ℝ) * (2 ^ 23)⁻¹ = 1 := by norm_num
  simp [Ideal.ofBits, Ideal.ieee, -EReal.coe_mul, e]

variable {H : Spec.Head}

theorem hWide_apply {v : Vec Ideal S16384x128 .f32} (h : ∀ (i : Fin 16384) (d : Fin 128), v (ix2 i d) = ((H.v i.val d : ℝ) : EReal))
    (i : Fin 16384) (d : Fin 256) : hWide v (ix2 i d) = ((wide H i.val d : ℝ) : EReal) := by
  unfold wide
  pointwise [hWide]
  by_cases hd : d.val < 128
  · simp only [hd, dite_true, h]
  · simp only [hd, dite_false, ofBits_one, EReal.coe_one]

/-- Where the arguments hold the reals of one head, the launch finds its rows. -/
theorem found (m : (ℓ : Loc nD τ sig) → Buf (Elt Ideal) ℓ) (c : Dev nD) {o : Vec Ideal S16384x128 .f32}
    (h : Head.Holds H (m (c.tc.loc main_arg0)) (m (c.tc.loc main_arg1)) (m (c.tc.loc main_arg2)) o) : Found m H c where
  q r d := (congrFun (V_main_v2 m c) (ix2 r d)).trans (h.q r d)
  k r d := (congrFun (V_main_v3 m c) (ix2 r d)).trans (h.k r d)
  vx r d := (congrFun (V_main_v4 m c) (ix2 r d)).trans (hWide_apply h.v r d)

end Cert.Kernel2Ideal.Fwd
-- ==== Proof.Algebraic2.lean ====
/-
  The forward kernel and its reference end with the same output and the same log-sums.
-/
module

public import proofs.«01_k».proof.Proof.Frames2
public import proofs.«01_k».proof.Proof.Finite2
public import proofs.«01_k».proof.Proof.Reference2
public import proofs.«01_k».proof.Proof.F2I.Host

@[expose] public section

set_option maxRecDepth 16384

noncomputable section

namespace Cert.Proof

open Idealize.ShloMosaic Idealize.ShloMosaic.TcCoe
open Idealize.SL.Sem
open Cert.Kernel2Ideal.Fwd (oArr lArr)

/-- The head that device `c`'s arguments of the forward call hold. -/
def fwdHeadAt (m : (ℓ : Loc Cert.Kernel2Ideal.nD Cert.Kernel2Ideal.τ Cert.Kernel2Ideal.sig) → Buf (Elt Ideal) ℓ) (c : Dev Cert.Kernel2Ideal.nD) : Spec.Head :=
  Head.headOf (m (c.tc.loc Cert.Kernel2Ideal.main_arg0)) (m (c.tc.loc Cert.Kernel2Ideal.main_arg1)) (m (c.tc.loc Cert.Kernel2Ideal.main_arg2))
    (m (c.tc.loc Cert.Kernel2Ideal.main_arg2))

/-- The kernel's run: the output and the log-sums, the arguments kept. -/
theorem kernel2_values (m : (ℓ : Loc Cert.Kernel2Ideal.nD Cert.Kernel2Ideal.τ Cert.Kernel2Ideal.sig) → Buf (Elt Ideal) ℓ)
    (g : Dev Cert.Kernel2Ideal.nD → PrngReg) (hp : Cert.Pre_Kernel2Ideal_finite_fwd m) :
    θ_run (Cert.Kernel2Ideal.defs (F := Ideal)) (onTc (τ := Cert.Kernel2Ideal.τ) (Cert.Kernel2Ideal.main (F := Ideal))) ⟨m, fun _ => 0, g⟩
      (fun r => ∀ c : Dev Cert.Kernel2Ideal.nD,
        r.2.mem (c.tc.loc Cert.Kernel2Ideal.main_v5_0) = oArr (fwdHeadAt m c)
        ∧ r.2.mem (c.tc.loc Cert.Kernel2Ideal.main_v5_1) = lArr (fwdHeadAt m c)
        ∧ r.2.mem (c.tc.loc Cert.Kernel2Ideal.main_arg0) = m (c.tc.loc Cert.Kernel2Ideal.main_arg0)
        ∧ r.2.mem (c.tc.loc Cert.Kernel2Ideal.main_arg1) = m (c.tc.loc Cert.Kernel2Ideal.main_arg1)
        ∧ r.2.mem (c.tc.loc Cert.Kernel2Ideal.main_arg2) = m (c.tc.loc Cert.Kernel2Ideal.main_arg2)) := by
  refine (θ_run _ _ _).mono (fun r h c => ?_) (Cert.Kernel2Ideal.Fwd.run_main m g)
  have f := Cert.Kernel2Ideal.Fwd.found m c (Head.holds_of_pre_fwd _ _ _ (hp c))
  exact ⟨((h.1 c).1 3).trans f.out, ((h.1 c).1 4).trans f.lse, Cert.Kernel2Ideal.Fwd.final_arg h.1 c⟩

/-- The reference's run, from arguments that hold a head: the same two arrays, the arguments kept. -/
theorem reference2_values (m : (ℓ : Loc Cert.Reference2Ideal.nD Cert.Reference2Ideal.τ Cert.Reference2Ideal.sig) → Buf (Elt Ideal) ℓ)
    (g : Dev Cert.Reference2Ideal.nD → PrngReg) (H : Dev Cert.Reference2Ideal.nD → Spec.Head)
    (hH : ∀ c, Head.Holds (H c) (m (c.tc.loc Cert.Reference2Ideal.main_arg0)) (m (c.tc.loc Cert.Reference2Ideal.main_arg1))
      (m (c.tc.loc Cert.Reference2Ideal.main_arg2)) (m (c.tc.loc Cert.Reference2Ideal.main_arg2))) :
    θ_run (Cert.Reference2Ideal.defs (F := Ideal)) (onTc (τ := Cert.Reference2Ideal.τ) (Cert.Reference2Ideal.main (F := Ideal))) ⟨m, fun _ => 0, g⟩
      (fun r => ∀ c : Dev Cert.Reference2Ideal.nD,
        r.2.mem (c.tc.loc Cert.Reference2Ideal.main_v35) = oArr (H c)
        ∧ r.2.mem (c.tc.loc Cert.Reference2Ideal.main_v42) = lArr (H c)
        ∧ r.2.mem (c.tc.loc Cert.Reference2Ideal.main_arg0) = m (c.tc.loc Cert.Reference2Ideal.main_arg0)
        ∧ r.2.mem (c.tc.loc Cert.Reference2Ideal.main_arg1) = m (c.tc.loc Cert.Reference2Ideal.main_arg1)
        ∧ r.2.mem (c.tc.loc Cert.Reference2Ideal.main_arg2) = m (c.tc.loc Cert.Reference2Ideal.main_arg2)) :=
  (θ_run _ _ _).mono (fun r h c =>
    ⟨(h c).1.trans ((Head.res_out m c).trans (Head.ref_out (hH c))), (h c).2.1.trans ((Head.res_lse m c).trans (Head.ref_lse (hH c))), (h c).2.2⟩)
    (Cert.Reference2Ideal.Value.run (F := Ideal) m g)

/-- The two end with the same output and log-sums. -/
theorem algebraic2 : Cert.algebraic_Kernel2Ideal_Reference2Ideal_pre_finite_fwd (hKernel2Ideal := Cert.Kernel2Ideal.Gen.facts)
    (hReference2Ideal := Cert.Reference2Ideal.Gen.facts) (hPre_finite_fwd := Cert.Pre_finite_fwd.Gen.facts) := fun m g m' g' hp ha =>
  ⟨fun c => oArr (fwdHeadAt m c), fun c => lArr (fwdHeadAt m c), kernel2_values m g hp,
    reference2_values m' g' (fwdHeadAt m) fun c => by
      rw [(ha c).1, (ha c).2.1, (ha c).2.2]
      exact Head.holds_of_pre_fwd _ _ _ (hp c)⟩

end Cert.Proof
-- ==== Proof.Mm.Common.lean ====
/-
  What the six matrix products share: loads of a whole buffer after a store of the whole of it, and a sum
  over the rows by chunks.
-/
module

public import proofs.«01_k».proof.Proof.Views
public import proofs.«01_k».proof.Proof.RefArrays

@[expose] public section

noncomputable section

namespace Cert.Mm

open Idealize.ShloMosaic TcCoe

/-- A load of the whole of a buffer reads the last payload stored in the whole of it. -/
theorem load_stored {sig : RefSig} {F : FTy → Type} [∀ e, Nonempty (Elt F e)] {sp : Space} {s : Shape} {ty : EltTy} (v : View sig .tc sp s ty)
    {off off' : Fin s.rank → ℕ} (inb : ∀ a, off a + s.size a ≤ s.size a) (inb' : ∀ a, off' a + s.size a ≤ s.size a)
    (w : (Rect.unit off s.size inb).shape.Idx → Elt F ty) (ws : List (View.Piece (Elt F) s ty)) :
    v.readCov (⟨Rect.unit off s.size inb, w⟩ :: ws) (Rect.unit off' s.size inb').toLoadRect = w :=
  Views.load_whole v _ (Views.store_whole v _ inb w ws) inb'

/-- A load of the whole of a buffer reads what it holds, -/
theorem load_block {sig : RefSig} {F : FTy → Type} [∀ e, Nonempty (Elt F e)] {sp : Space} {s : Shape} {ty : EltTy} {v : Memref sig .tc sp s ty} (h : v.IsWhole)
    {x : s.Idx → Elt F ty} {off : Fin s.rank → ℕ} {inb : ∀ a, off a + s.size a ≤ s.size a} :
    v.view.readAt (Elt F) (Rect.unit off s.size inb).toLoadRect (h.unread x) = x := Views.load_whole _ _ (h.read_unread _) _

/-- and so a function of two such loads and a third value is that of what they read. -/
theorem load_two {sig : RefSig} {F : FTy → Type} [∀ e, Nonempty (Elt F e)] {sp sp' : Space} {s s' : Shape} {ty ty' : EltTy} {α β : Type}
    (f : (s.Idx → Elt F ty) → (s'.Idx → Elt F ty') → α → β) {v : Memref sig .tc sp s ty} {v' : Memref sig .tc sp' s' ty'} (h : v.IsWhole) (h' : v'.IsWhole)
    {x : s.Idx → Elt F ty} {x' : s'.Idx → Elt F ty'} {off : Fin s.rank → ℕ} {inb : ∀ a, off a + s.size a ≤ s.size a}
    {off' : Fin s'.rank → ℕ} {inb' : ∀ a, off' a + s'.size a ≤ s'.size a} {z z' : α} (e : z = z') :
    f (v.view.readAt (Elt F) (Rect.unit off s.size inb).toLoadRect (h.unread x)) (v'.view.readAt (Elt F) (Rect.unit off' s'.size inb').toLoadRect (h'.unread x')) z
      = f x x' z' := by
  rw [load_block, load_block, e]

/-- Row `j` of the chunk `k` of 1024 rows. -/
def chunkRow (k : ℕ) (j : Fin 1024) : Fin 16384 := ⟨(1024 * k + j.val) % 16384, Nat.mod_lt _ (by decide)⟩

/-- A sum over all rows is the sum over the 16 chunks of the sums over their rows. -/
theorem sum_chunks {M : Type} [AddCommMonoid M] (f : Fin 16384 → M) :
    ∑ k ∈ Finset.range 16, ∑ j : Fin 1024, f (chunkRow k j) = ∑ r : Fin 16384, f r := by
  rw [Finset.sum_range fun k => ∑ j : Fin 1024, f (chunkRow k j)]
  rw [← Fintype.sum_prod_type' fun (k : Fin 16) (j : Fin 1024) => f (chunkRow k.val j)]
  refine Fintype.sum_equiv (finProdFinEquiv (m := 16) (n := 1024)) _ _ fun y => congrArg f (Fin.ext ?_)
  show (1024 * y.1.val + y.2.val) % 16384 = y.2.val + 1024 * y.1.val
  have := y.1.isLt
  have := y.2.isLt
  omega

end Cert.Mm
-- ==== Proof.Mm.UpDw.lean ====
/-
  The gradient of the projection up with respect to its weight, `h.T @ du`: the sums that the grid's points accumulate over sixteen chunks of
  rows, and the whole array they leave.
  At the end the reference's product, and the equation of the two.
-/
module

public import proofs.«01_k».proof.Proof.Mm.Common
public import proofs.«01_k».proof.Proof.Gen.Kernel3Ideal.Frame
public import proofs.«01_k».proof.Defs
public import proofs.«01_k».proof.Proof.Gen.Reference3Ideal.Run
public import Idealize.ShloMosaic.Lib.Quiescent

@[expose] public section

set_option maxRecDepth 16384

noncomputable section

namespace Cert.Kernel3Ideal.UpDw

open Cert.Kernel3Ideal Cert.Kernel3Ideal.Gen
open Idealize.ShloMosaic TcCoe
open Idealize.SL.Sem
open Cert.Head (pair)
open Cert.Mm (chunkRow)

/-! ## One grid point -/

section Any

variable {F : FTy → Type} [FloatOps F] (m : (ℓ : Loc nD τ sig) → Buf (Elt F) ℓ) (c : Dev nD)

/-- The first point of a row of tiles starts the sum with its product. -/
theorem sum_first (t : Fin cfg0.N) (h0 : t.val % 16 = 0) (h1 : ¬t.val % 16 = 15) :
    (outsAt0 m c t.val t.isLt).2 = k0_pay2 (iblk m c 0 t) (iblk m c 1 t) k0_pay1 := by
  rw [outsAt0_A m c t h0 h1]
  unfold sout0_A_0 kernelRun0_A
  dsimp only
  refine (Views.store_whole VS0_0 _ _ _ _).trans ?_
  unfold kernelRun0_A.sl.v7 kernelRun0_A.sl.HS0_1
  exact Mm.load_two k0_pay2 (hs0_0 t) (hs0_1 t) (Mm.load_stored _ _ _ _ _)

/-- Any other point adds its product to the sum before, -/
theorem sum_next (t : Fin cfg0.N) (h0 : ¬t.val % 16 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 16 = 15
  · rw [outsAt0_C m c t h0 h1]
    unfold sout0_C_0 kernelRun0_C
    dsimp only
    unfold kernelRun0_C.sl.HS0_1
    refine (Views.store_whole VS0_0 _ _ _ _).trans ?_
    exact Mm.load_two k0_pay2 (hs0_0 t) (hs0_1 t) (Mm.load_block _)
  · rw [outsAt0_B m c t h0 h1]
    unfold sout0_B_0 kernelRun0_B
    dsimp only
    refine (Views.store_whole VS0_0 _ _ _ _).trans ?_
    exact Mm.load_two k0_pay2 (hs0_0 t) (hs0_1 t) (Mm.load_block _)

/-- and the last stores the sum, rounded, as the block of the result. -/
theorem block_last (t : Fin cfg0.N) (h0 : ¬t.val % 16 = 0) (h1 : t.val % 16 = 15) :
    (outsAt0 m c t.val t.isLt).1 = k0_pay3 (outsAt0 m c t.val t.isLt).2 := by
  rw [sum_next m c t h0, outsAt0_C m c t h0 h1]
  unfold out0_C_2 kernelRun0_C
  dsimp only
  refine (Views.store_whole VO0_2 _ _ _ _).trans (congrArg k0_pay3 ?_)
  unfold kernelRun0_C.sl.v16 kernelRun0_C.sl.HS0_1
  refine (Mm.load_stored _ _ _ _ _).trans ?_
  exact Mm.load_two k0_pay2 (hs0_0 t) (hs0_1 t) (Mm.load_block _)

/-- The host rounds the two factors for the launch. -/
theorem V_main_v0 : V m c main_v0 = (truncf .bf16 (m (c.tc.loc main_arg0) : Vec F S16384x1024 .f32) bitsLt_bf16_f32 : Vec F S16384x1024 .bf16) := by
  unfold V
  after_results_simp <;> rfl

theorem V_main_v1 : V m c main_v1 = (truncf .bf16 (m (c.tc.loc main_arg1) : Vec F S16384x2816 .f32) bitsLt_bf16_f32 : Vec F S16384x2816 .bf16) := by
  unfold V
  after_results_simp <;> rfl

end Any

variable (m : (ℓ : Loc nD τ sig) → Buf (Elt Ideal) ℓ) (c : Dev nD)

theorem zero_apply (a : Fin 512) (b : Fin 2816) : k0_pay1 (F := Ideal) (ix2 a b) = 0 := by
  pointwise [k0_pay1]

theorem pay_apply (x : Vec Ideal S1024x512 .bf16) (y : Vec Ideal S1024x2816 .bf16) (s : Vec Ideal S512x2816 .f32) (a : Fin 512) (b : Fin 2816) :
    k0_pay2 x y s (ix2 a b) = s (ix2 a b) + ∑ j : Fin 1024, x (ix2 j a) * y (ix2 j b) := by
  pointwise [k0_pay2]

/-! ## Where the blocks lie -/

theorem idx0 : ∀ t : Fin cfg0.N, win0_0.index t (0 : Fin 2) = t.val % 16 ∧ win0_0.index t (1 : Fin 2) = t.val / 16 :=
  (by decide +kernel : ∀ t : Fin grid0.N, _)
theorem idx1 : ∀ t : Fin cfg0.N, win0_1.index t (0 : Fin 2) = t.val % 16 ∧ win0_1.index t (1 : Fin 2) = 0 :=
  (by decide +kernel : ∀ t : Fin grid0.N, _)
theorem idx2 : ∀ t : Fin cfg0.N, win0_2.index t (0 : Fin 2) = t.val / 16 ∧ win0_2.index t (1 : Fin 2) = 0 :=
  (by decide +kernel : ∀ t : Fin grid0.N, _)

theorem t_lt (t : Fin cfg0.N) : t.val < 32 := lt_of_lt_of_eq t.isLt N_0

/-- Row `a` of the block of the result that point `t` adds to. -/
def rowOf (t : Fin cfg0.N) (a : Fin 512) : Fin 1024 := ⟨512 * (t.val / 16) + a.val, by have := t_lt t; have := a.isLt; omega⟩

theorem emb0 (t : Fin cfg0.N) (j : Fin 1024) (a : Fin 512) :
    ((cfg0.win 0).blk t).view.emb (ix2 j a) = (ix2 (chunkRow (t.val % 16) j) (rowOf t a) : S16384x1024.Idx) := by
  obtain ⟨e0, e1⟩ := idx0 t
  have := j.isLt
  funext x; apply Fin.ext
  match x with
  | ⟨0, _⟩ => show win0_0.index t (0 : Fin 2) * 1024 + 1 * j.val = (1024 * (t.val % 16) + j.val) % 16384; omega
  | ⟨1, _⟩ => show win0_0.index t (1 : Fin 2) * 512 + 1 * a.val = 512 * (t.val / 16) + a.val; omega

theorem emb1 (t : Fin cfg0.N) (j : Fin 1024) (b : Fin 2816) :
    ((cfg0.win 1).blk t).view.emb (ix2 j b) = (ix2 (chunkRow (t.val % 16) j) b : S16384x2816.Idx) := by
  obtain ⟨e0, e1⟩ := idx1 t
  have := j.isLt
  funext x; apply Fin.ext
  match x with
  | ⟨0, _⟩ => show win0_1.index t (0 : Fin 2) * 1024 + 1 * j.val = (1024 * (t.val % 16) + j.val) % 16384; omega
  | ⟨1, _⟩ => show win0_1.index t (1 : Fin 2) * 2816 + 1 * b.val = b.val; omega

theorem emb2 (t : Fin cfg0.N) (a : Fin 512) (b : Fin 2816) : ((cfg0.win 2).blk t).view.emb (ix2 a b) = (ix2 (rowOf t a) b : S1024x2816.Idx) := by
  obtain ⟨e0, e1⟩ := idx2 t
  funext x; apply Fin.ext
  match x with
  | ⟨0, _⟩ => show win0_2.index t (0 : Fin 2) * 512 + 1 * a.val = 512 * (t.val / 16) + a.val; omega
  | ⟨1, _⟩ => show win0_2.index t (1 : Fin 2) * 2816 + 1 * b.val = b.val; omega

/-- The last point of the sixteen that make the block of a row, and the row's place in the block. -/
def pointOf (r : Fin 1024) : Fin cfg0.N := ⟨16 * (r.val / 512) + 15, lt_of_lt_of_eq (by have := r.isLt; omega) N_0.symm⟩
def rowAt (r : Fin 1024) : Fin 512 := ⟨r.val % 512, Nat.mod_lt _ (by decide)⟩

theorem rowOf_pointOf (r : Fin 1024) : rowOf (pointOf r) (rowAt r) = r := Fin.ext (by
  show 512 * ((16 * (r.val / 512) + 15) / 16) + r.val % 512 = r.val
  omega)

theorem pointOf_last (r : Fin 1024) : (pointOf r).val % 16 = 15 := by
  show (16 * (r.val / 512) + 15) % 16 = 15
  omega

/-! ## The sums -/

/-- What a point reads of its two blocks. -/
theorem read0 (t : Fin cfg0.N) (j : Fin 1024) (a : Fin 512) : (iblk m c 0 t : Vec Ideal S1024x512 .bf16) (ix2 j a)
    = (m (c.tc.loc main_arg0) : Vec Ideal S16384x1024 .f32) (ix2 (chunkRow (t.val % 16) j) (rowOf t a)) := by
  show V m c main_v0 (((cfg0.win 0).blk t).view.emb (ix2 j a)) = _
  rw [emb0, V_main_v0]
  rfl

theorem read1 (t : Fin cfg0.N) (j : Fin 1024) (b : Fin 2816) : (iblk m c 1 t : Vec Ideal S1024x2816 .bf16) (ix2 j b)
    = (m (c.tc.loc main_arg1) : Vec Ideal S16384x2816 .f32) (ix2 (chunkRow (t.val % 16) j) b) := by
  show V m c main_v1 (((cfg0.win 1).blk t).view.emb (ix2 j b)) = _
  rw [emb1, V_main_v1]
  rfl

/-- The part of an element of the product that one chunk of rows gives. -/
def part (x : Vec Ideal S16384x1024 .f32) (y : Vec Ideal S16384x2816 .f32) (i : Fin 1024) (b : Fin 2816) (k : ℕ) : EReal :=
  ∑ j : Fin 1024, x (ix2 (chunkRow k j) i) * y (ix2 (chunkRow k j) b)

/-- What a point adds to the sum. -/
theorem add_apply (t : Fin cfg0.N) (s : Vec Ideal S512x2816 .f32) (a : Fin 512) (b : Fin 2816) :
    k0_pay2 (iblk m c 0 t) (iblk m c 1 t) s (ix2 a b)
      = s (ix2 a b) + part (m (c.tc.loc main_arg0)) (m (c.tc.loc main_arg1)) (rowOf t a) b (t.val % 16) :=
  (pay_apply _ _ s a b).trans (congrArg (s (ix2 a b) + ·)
    (Finset.sum_congr rfl fun j _ => congrArg₂ (· * ·) (read0 m c t j a) (read1 m c t j b)))

/-- The sum after a point is that of the chunks of rows so far. -/
theorem sum_apply (n : ℕ) (hn : n < cfg0.N) (a : Fin 512) (b : Fin 2816) : (outsAt0 m c n hn).2 (ix2 a b)
    = ∑ k ∈ Finset.range (n % 16 + 1), part (m (c.tc.loc main_arg0)) (m (c.tc.loc main_arg1)) (rowOf ⟨n, hn⟩ a) b k := by
  induction n with
  | zero =>
    refine (congrFun (sum_first m c ⟨0, hn⟩ (by show 0 % 16 = 0; decide) (by show ¬0 % 16 = 15; decide)) (ix2 a b)).trans ((add_apply m c ⟨0, hn⟩ _ a b).trans ?_)
    rw [zero_apply, zero_add]
    exact (Finset.sum_range_one _).symm
  | succ n ih =>
    by_cases h : (n + 1) % 16 = 0
    · refine (congrFun (sum_first m c ⟨n + 1, hn⟩ h (by show ¬(n + 1) % 16 = 15; omega)) (ix2 a b)).trans
        ((add_apply m c ⟨n + 1, hn⟩ _ a b).trans ?_)
      rw [zero_apply, zero_add]
      show part _ _ _ b ((n + 1) % 16) = _
      rw [h]
      exact (Finset.sum_range_one _).symm
    · refine (congrFun (sum_next m c ⟨n + 1, hn⟩ h) (ix2 a b)).trans ((add_apply m c ⟨n + 1, hn⟩ _ a b).trans ?_)
      rw [Finset.sum_range_succ]
      refine congrArg₂ (· + ·) ((ih (Nat.lt_of_succ_lt hn)).trans ?_) rfl
      have e : rowOf ⟨n, Nat.lt_of_succ_lt hn⟩ a = rowOf ⟨n + 1, hn⟩ a :=
        Fin.ext (by show 512 * (n / 16) + a.val = 512 * ((n + 1) / 16) + a.val; omega)
      rw [e, show n % 16 + 1 = (n + 1) % 16 by omega]

/-! ## The result -/

/-- The product as an array. -/
def prod (x : Vec Ideal S16384x1024 .f32) (y : Vec Ideal S16384x2816 .f32) : Vec Ideal S1024x2816 .bf16 :=
  fun z => ∑ r : Fin 16384, x (ix2 r (z 0)) * y (ix2 r (z 1))

/-- The sixteen parts make an element of it. -/
theorem sum_parts (x : Vec Ideal S16384x1024 .f32) (y : Vec Ideal S16384x2816 .f32) (i : Fin 1024) (b : Fin 2816) :
    ∑ k ∈ Finset.range 16, part x y i b k = prod x y (ix2 i b) := Mm.sum_chunks fun r => x (ix2 r i) * y (ix2 r b)

/-- The block that a last point stores holds its part of the product. -/
theorem block_apply (t : Fin cfg0.N) (h : t.val % 16 = 15) (a : Fin 512) (b : Fin 2816) :
    (outsAt0 m c t.val t.isLt).1 (ix2 a b) = prod (m (c.tc.loc main_arg0)) (m (c.tc.loc main_arg1)) (ix2 (rowOf t a) b) := by
  refine (congrFun (block_last m c t (by omega) h) (ix2 a b)).trans ((sum_apply m c t.val t.isLt a b).trans ?_)
  rw [h]
  exact sum_parts _ _ _ b

attribute [local irreducible] outsAt0 prod

/-- The whole array after the last point. -/
theorem array_eq : (dats m 0 c).arrAt 2 cfg0.N = prod (m (c.tc.loc main_arg0)) (m (c.tc.loc main_arg1)) := by
  refine (dats m 0 c).arrAt_eq_of_cover 2 (prod (m (c.tc.loc main_arg0)) (m (c.tc.loc main_arg1))) (fun t ht => ?_) (fun y => ?_)
  · show (cfg0.win 2).cut (grid0.coords t) ((dats m 0 c).after 2 t) = _
    rw [after0_2]
    funext y
    obtain ⟨a, b, rfl⟩ : ∃ (a : Fin 512) (b : Fin 2816), y = ix2 a b := pair y
    show (outsAt0 m c t.val t.isLt).1 (ix2 a b) = prod (m (c.tc.loc main_arg0)) (m (c.tc.loc main_arg1)) (((cfg0.win 2).blk t).view.emb (ix2 a b))
    rw [emb2, block_apply m c t ((flush0_2 t).1 ht)]
  · obtain ⟨r, q, rfl⟩ : ∃ (r : Fin 1024) (q : Fin 2816), y = ix2 r q := pair y
    refine ⟨pointOf r, (flush0_2 _).2 (pointOf_last r), ?_⟩
    have e := emb2 (pointOf r) (rowAt r) q
    rw [rowOf_pointOf] at e
    rw [← e]
    exact View.emb_mem_set _ _

end Cert.Kernel3Ideal.UpDw

namespace Cert.Reference3Ideal.UpDw

open Cert.Reference3Ideal Cert.Reference3Ideal.Gen
open Idealize.ShloMosaic TcCoe
open Idealize.SL.Sem
open Cert.Kernel3Ideal.UpDw (prod)
open Cert.Head (pair)

/-- The reference's product, -/
def dot {F : FTy → Type} [FloatOps F] (x : Vec F S16384x1024 .f32) (y : Vec F S16384x2816 .f32) : Vec F S1024x2816 .bf16 :=
  (truncf .bf16 (Host.dotGeneral dot_S1024x16384_S16384x2816_S1024x2816_1_0_0_1_n_n none (transpose S1024x16384 [1, 0] x transposes_S16384x1024_S1024x16384_1_0) y : FVec F S1024x2816 .f32)
    bitsLt_bf16_f32 : FVec F S1024x2816 .bf16)

/-- element by element the sum over all rows. -/
theorem dot_eq (x : Vec Ideal S16384x1024 .f32) (y : Vec Ideal S16384x2816 .f32) : dot x y = prod x y := funext fun z => by
  obtain ⟨i, d, rfl⟩ : ∃ (i : Fin 1024) (d : Fin 2816), z = ix2 i d := pair z
  show dot x y (ix2 i d) = ∑ r : Fin 16384, x (ix2 r i) * y (ix2 r d)
  pointwise [dot]

end Cert.Reference3Ideal.UpDw

namespace Cert.Proof

open Idealize.ShloMosaic TcCoe
open Idealize.SL.Sem

/-- The kernel and the reference end with the same product. -/
theorem algebraic3 : algebraic_Kernel3Ideal_Reference3Ideal (hKernel3Ideal := Kernel3Ideal.Gen.facts)
    (hReference3Ideal := Reference3Ideal.Gen.facts) := fun m g m' g' _ ha =>
  ⟨fun c => Kernel3Ideal.UpDw.prod (m (c.tc.loc Kernel3Ideal.main_arg0)) (m (c.tc.loc Kernel3Ideal.main_arg1)),
    (θ_run _ _ _).mono (fun r h c => ⟨((h.1 c).1 2).trans (Kernel3Ideal.UpDw.array_eq m c), h.2.1 c⟩) (θ_run_and (Kernel3Ideal.Gen.run_main m g) (Kernel3Ideal.Gen.frame m g)),
    (θ_run _ _ _).mono (fun r h c => ⟨(h c).1.trans (by
      refine (Reference3Ideal.UpDw.dot_eq _ _).trans ?_
      rw [(ha c).1, (ha c).2]), (h c).2⟩) (Reference3Ideal.Value.run (F := Ideal) m' g')⟩

theorem frame_reference3 : quiescent_Reference3Ideal (hReference3Ideal := Reference3Ideal.Gen.facts) := fun m g _ =>
  (θ_run _ _ _).mono (fun r h => ⟨fun c => (h c).2, sem_eq_zero_of_no_sems (by decide) r.2⟩) (Reference3Ideal.Value.run (F := Ideal) m g)

end Cert.Proof
-- ==== Proof.Mm.UpDx.lean ====
/-
  The gradient of the projection up with respect to its argument: the two halves' gradients by the two halves of the weight, transposed. From
  one grid point's two products of a tile of rows to the whole array.
  At the end the reference's product, and the equation of the two.
-/
module

public import proofs.«01_k».proof.Proof.Mm.Common
public import proofs.«01_k».proof.Proof.Gen.Kernel4Ideal.Frame
public import proofs.«01_k».proof.Defs
public import proofs.«01_k».proof.Proof.Gen.Reference4Ideal.Run
public import Idealize.ShloMosaic.Lib.Quiescent

@[expose] public section

set_option maxRecDepth 16384

noncomputable section

namespace Cert.Kernel4Ideal.UpDx

open Cert.Kernel4Ideal Cert.Kernel4Ideal.Gen
open Idealize.ShloMosaic TcCoe
open Idealize.SL.Sem
open Cert.Head (pair)

/-! ## One grid point -/

section Any

variable {F : FTy → Type} [FloatOps F] (m : (ℓ : Loc nD τ sig) → Buf (Elt F) ℓ) (c : Dev nD)

/-- The block stored is the product of the point's first two blocks, added to zero, and the product of its other two added. -/
theorem block_eq (t : Fin cfg0.N) :
    outsAt0 m c t = k0_pay3 (iblk m c 2 t) (iblk m c 3 t) (k0_pay2 (iblk m c 0 t) (iblk m c 1 t) k0_pay1) := by
  unfold outsAt0 out0_A_4 kernelRun0_A
  dsimp only
  refine (Views.store_whole VO0_4 _ _ _ _).trans ?_
  unfold kernelRun0_A.sl.v26 kernelRun0_A.sl.HS0_3
  refine (Mm.load_stored _ _ _ _ _).trans ?_
  refine Mm.load_two k0_pay3 (hs0_2 t) (hs0_3 t) ?_
  unfold kernelRun0_A.sl.v17 kernelRun0_A.sl.HS0_2
  refine (Mm.load_stored _ _ _ _ _).trans ?_
  unfold kernelRun0_A.sl.v7 kernelRun0_A.sl.HS0_1
  exact Mm.load_two k0_pay2 (hs0_0 t) (hs0_1 t) (Mm.load_stored _ _ _ _ _)

/-- The two halves of the weight, rounded. -/
def wLow (w : Vec F S1024x5632 .f32) : Vec F S1024x2816 .bf16 :=
  extractStridedSlice S1024x2816 ![0, 0] (truncf .bf16 w bitsLt_bf16_f32 : FVec F S1024x5632 .bf16) slices_S1024x5632_S1024x2816_0_0
def wHigh (w : Vec F S1024x5632 .f32) : Vec F S1024x2816 .bf16 :=
  extractStridedSlice S1024x2816 ![0, 2816] (truncf .bf16 w bitsLt_bf16_f32 : FVec F S1024x5632 .bf16) slices_S1024x5632_S1024x2816_0_2816

/-- The host rounds the arguments for the launch and cuts the weight into its two halves. -/
theorem V_main_v1 : V m c main_v1 = (truncf .bf16 (m (c.tc.loc main_arg0) : Vec F S16384x2816 .f32) bitsLt_bf16_f32 : Vec F S16384x2816 .bf16) := by
  unfold V
  after_results_simp <;> rfl

theorem V_main_v2 : V m c main_v2 = wLow (m (c.tc.loc main_arg2)) := by
  unfold V
  after_results_simp <;> rfl

theorem V_main_v3 : V m c main_v3 = (truncf .bf16 (m (c.tc.loc main_arg1) : Vec F S16384x2816 .f32) bitsLt_bf16_f32 : Vec F S16384x2816 .bf16) := by
  unfold V
  after_results_simp <;> rfl

theorem V_main_v4 : V m c main_v4 = wHigh (m (c.tc.loc main_arg2)) := by
  unfold V
  after_results_simp <;> rfl

end Any

variable (m : (ℓ : Loc nD τ sig) → Buf (Elt Ideal) ℓ) (c : Dev nD)

theorem pay_apply (x u y v : Vec Ideal S512x2816 .bf16) (a : Fin 512) (b : Fin 512) :
    k0_pay3 x u (k0_pay2 y v (k0_pay1 (F := Ideal))) (ix2 a b)
      = (∑ j : Fin 2816, y (ix2 a j) * v (ix2 b j)) + ∑ j : Fin 2816, x (ix2 a j) * u (ix2 b j) := by
  pointwise [k0_pay3, k0_pay2, k0_pay1]

/-- The columns of the weight's two halves. -/
def low (j : Fin 2816) : Fin 5632 := ⟨j.val, by have := j.isLt; omega⟩
def high (j : Fin 2816) : Fin 5632 := ⟨2816 + j.val, by have := j.isLt; omega⟩

theorem low_apply (w : Vec Ideal S1024x5632 .f32) (r : Fin 1024) (j : Fin 2816) :
    wLow w (ix2 r j) = w (ix2 r (low j)) := by
  pointwise [wLow, low]

theorem high_apply (w : Vec Ideal S1024x5632 .f32) (r : Fin 1024) (j : Fin 2816) :
    wHigh w (ix2 r j) = w (ix2 r (high j)) := by
  pointwise [wHigh, high]

/-! ## Where the blocks lie -/

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)
theorem idx2 : ∀ t : Fin cfg0.N, win0_2.index t (0 : Fin 2) = t.val / 2 ∧ win0_2.index t (1 : Fin 2) = 0 :=
  (by decide +kernel : ∀ t : Fin grid0.N, _)
theorem idx3 : ∀ t : Fin cfg0.N, win0_3.index t (0 : Fin 2) = t.val % 2 ∧ win0_3.index t (1 : Fin 2) = 0 :=
  (by decide +kernel : ∀ t : Fin grid0.N, _)
theorem idx4 : ∀ t : Fin cfg0.N, win0_4.index t (0 : Fin 2) = t.val / 2 ∧ win0_4.index t (1 : Fin 2) = t.val % 2 :=
  (by decide +kernel : ∀ t : Fin grid0.N, _)

theorem t_lt (t : Fin cfg0.N) : t.val < 64 := lt_of_lt_of_eq t.isLt N_0

/-- Row `a` and column `b` of the block of point `t`. -/
def rowOf (t : Fin cfg0.N) (a : Fin 512) : Fin 16384 := ⟨512 * (t.val / 2) + a.val, by have := t_lt t; have := a.isLt; omega⟩
def colOf (t : Fin cfg0.N) (b : Fin 512) : Fin 1024 := ⟨512 * (t.val % 2) + b.val, by have := b.isLt; omega⟩

theorem emb0 (t : Fin cfg0.N) (a : Fin 512) (j : Fin 2816) : ((cfg0.win 0).blk t).view.emb (ix2 a j) = (ix2 (rowOf t a) j : S16384x2816.Idx) := by
  obtain ⟨e0, e1⟩ := idx0 t
  funext x; apply Fin.ext
  match x with
  | ⟨0, _⟩ => show win0_0.index t (0 : Fin 2) * 512 + 1 * a.val = 512 * (t.val / 2) + a.val; omega
  | ⟨1, _⟩ => show win0_0.index t (1 : Fin 2) * 2816 + 1 * j.val = j.val; omega

theorem emb1 (t : Fin cfg0.N) (a : Fin 512) (j : Fin 2816) : ((cfg0.win 1).blk t).view.emb (ix2 a j) = (ix2 (colOf t a) j : S1024x2816.Idx) := by
  obtain ⟨e0, e1⟩ := idx1 t
  funext x; apply Fin.ext
  match x with
  | ⟨0, _⟩ => show win0_1.index t (0 : Fin 2) * 512 + 1 * a.val = 512 * (t.val % 2) + a.val; omega
  | ⟨1, _⟩ => show win0_1.index t (1 : Fin 2) * 2816 + 1 * j.val = j.val; omega

theorem emb2 (t : Fin cfg0.N) (a : Fin 512) (j : Fin 2816) : ((cfg0.win 2).blk t).view.emb (ix2 a j) = (ix2 (rowOf t a) j : S16384x2816.Idx) := by
  obtain ⟨e0, e1⟩ := idx2 t
  funext x; apply Fin.ext
  match x with
  | ⟨0, _⟩ => show win0_2.index t (0 : Fin 2) * 512 + 1 * a.val = 512 * (t.val / 2) + a.val; omega
  | ⟨1, _⟩ => show win0_2.index t (1 : Fin 2) * 2816 + 1 * j.val = j.val; omega

theorem emb3 (t : Fin cfg0.N) (a : Fin 512) (j : Fin 2816) : ((cfg0.win 3).blk t).view.emb (ix2 a j) = (ix2 (colOf t a) j : S1024x2816.Idx) := by
  obtain ⟨e0, e1⟩ := idx3 t
  funext x; apply Fin.ext
  match x with
  | ⟨0, _⟩ => show win0_3.index t (0 : Fin 2) * 512 + 1 * a.val = 512 * (t.val % 2) + a.val; omega
  | ⟨1, _⟩ => show win0_3.index t (1 : Fin 2) * 2816 + 1 * j.val = j.val; omega

theorem emb4 (t : Fin cfg0.N) (a : Fin 512) (b : Fin 512) : ((cfg0.win 4).blk t).view.emb (ix2 a b) = (ix2 (rowOf t a) (colOf t b) : S16384x1024.Idx) := by
  obtain ⟨e0, e1⟩ := idx4 t
  funext x; apply Fin.ext
  match x with
  | ⟨0, _⟩ => show win0_4.index t (0 : Fin 2) * 512 + 1 * a.val = 512 * (t.val / 2) + a.val; omega
  | ⟨1, _⟩ => show win0_4.index t (1 : Fin 2) * 512 + 1 * b.val = 512 * (t.val % 2) + b.val; omega

/-- The point in whose block a row and a column lie, and their places there. -/
def pointOf (r : Fin 16384) (q : Fin 1024) : Fin cfg0.N :=
  ⟨2 * (r.val / 512) + q.val / 512, lt_of_lt_of_eq (by have := r.isLt; have := q.isLt; omega) N_0.symm⟩
def rowAt (r : Fin 16384) : Fin 512 := ⟨r.val % 512, Nat.mod_lt _ (by decide)⟩
def colAt (q : Fin 1024) : Fin 512 := ⟨q.val % 512, Nat.mod_lt _ (by decide)⟩

theorem rowOf_pointOf (r : Fin 16384) (q : Fin 1024) : rowOf (pointOf r q) (rowAt r) = r := Fin.ext (by
  show 512 * ((2 * (r.val / 512) + q.val / 512) / 2) + r.val % 512 = r.val
  have := q.isLt; omega)
theorem colOf_pointOf (r : Fin 16384) (q : Fin 1024) : colOf (pointOf r q) (colAt q) = q := Fin.ext (by
  show 512 * ((2 * (r.val / 512) + q.val / 512) % 2) + q.val % 512 = q.val
  have := q.isLt; omega)

/-! ## The result -/

/-- The sum of the two products as an array. -/
def prod (x u : Vec Ideal S16384x2816 .f32) (w : Vec Ideal S1024x5632 .f32) : Vec Ideal S16384x1024 .f32 :=
  fun y => (∑ j : Fin 2816, x (ix2 (y 0) j) * w (ix2 (y 1) (low j))) + ∑ j : Fin 2816, u (ix2 (y 0) j) * w (ix2 (y 1) (high j))

/-- What a point reads of its four blocks. -/
theorem read0 (t : Fin cfg0.N) (a : Fin 512) (j : Fin 2816) :
    (iblk m c 0 t : Vec Ideal S512x2816 .bf16) (ix2 a j) = (m (c.tc.loc main_arg0) : Vec Ideal S16384x2816 .f32) (ix2 (rowOf t a) j) := by
  show V m c main_v1 (((cfg0.win 0).blk t).view.emb (ix2 a j)) = _
  rw [emb0, V_main_v1]
  rfl

theorem read1 (t : Fin cfg0.N) (a : Fin 512) (j : Fin 2816) :
    (iblk m c 1 t : Vec Ideal S512x2816 .bf16) (ix2 a j) = (m (c.tc.loc main_arg2) : Vec Ideal S1024x5632 .f32) (ix2 (colOf t a) (low j)) := by
  show V m c main_v2 (((cfg0.win 1).blk t).view.emb (ix2 a j)) = _
  rw [emb1, V_main_v2]
  exact low_apply _ _ _

theorem read2 (t : Fin cfg0.N) (a : Fin 512) (j : Fin 2816) :
    (iblk m c 2 t : Vec Ideal S512x2816 .bf16) (ix2 a j) = (m (c.tc.loc main_arg1) : Vec Ideal S16384x2816 .f32) (ix2 (rowOf t a) j) := by
  show V m c main_v3 (((cfg0.win 2).blk t).view.emb (ix2 a j)) = _
  rw [emb2, V_main_v3]
  rfl

theorem read3 (t : Fin cfg0.N) (a : Fin 512) (j : Fin 2816) :
    (iblk m c 3 t : Vec Ideal S512x2816 .bf16) (ix2 a j) = (m (c.tc.loc main_arg2) : Vec Ideal S1024x5632 .f32) (ix2 (colOf t a) (high j)) := by
  show V m c main_v4 (((cfg0.win 3).blk t).view.emb (ix2 a j)) = _
  rw [emb3, V_main_v4]
  exact high_apply _ _ _

/-- A point's block holds its part of the sum. -/
theorem block_apply (t : Fin cfg0.N) (a : Fin 512) (b : Fin 512) :
    outsAt0 m c t (ix2 a b) = prod (m (c.tc.loc main_arg0)) (m (c.tc.loc main_arg1)) (m (c.tc.loc main_arg2)) (ix2 (rowOf t a) (colOf t b)) := by
  rw [block_eq]
  exact (pay_apply _ _ _ _ a b).trans (congrArg₂ (· + ·)
    (Finset.sum_congr rfl fun j _ => congrArg₂ (· * ·) (read0 m c t a j) (read1 m c t b j))
    (Finset.sum_congr rfl fun j _ => congrArg₂ (· * ·) (read2 m c t a j) (read3 m c t b j)))

attribute [local irreducible] outsAt0 prod

/-- The whole array after the last point. -/
theorem array_eq : (dats m 0 c).arrAt 4 cfg0.N = prod (m (c.tc.loc main_arg0)) (m (c.tc.loc main_arg1)) (m (c.tc.loc main_arg2)) := by
  refine (dats m 0 c).arrAt_eq_of_cover 4 (prod (m (c.tc.loc main_arg0)) (m (c.tc.loc main_arg1)) (m (c.tc.loc main_arg2))) (fun t _ => ?_) (fun y => ?_)
  · show (cfg0.win 4).cut (grid0.coords t) ((dats m 0 c).after 4 t) = _
    funext y
    obtain ⟨a, b, rfl⟩ : ∃ (a : Fin 512) (b : Fin 512), y = ix2 a b := pair y
    show outsAt0 m c t (ix2 a b) = prod (m (c.tc.loc main_arg0)) (m (c.tc.loc main_arg1)) (m (c.tc.loc main_arg2)) (((cfg0.win 4).blk t).view.emb (ix2 a b))
    rw [emb4, block_apply]
  · obtain ⟨r, q, rfl⟩ : ∃ (r : Fin 16384) (q : Fin 1024), y = ix2 r q := pair y
    refine ⟨pointOf r q, flush0_4 _, ?_⟩
    have e := emb4 (pointOf r q) (rowAt r) (colAt q)
    rw [rowOf_pointOf, colOf_pointOf] at e
    rw [← e]
    exact View.emb_mem_set _ _

/-- The kernel's run: the sum, the arguments kept. -/
theorem values (g : Dev nD → PrngReg) : θ_run (defs (F := Ideal)) (onTc (τ := τ) (main (F := Ideal))) ⟨m, fun _ => 0, g⟩
    (fun r => ∀ c : Dev nD, r.2.mem (c.tc.loc main_v5) = prod (m (c.tc.loc main_arg0)) (m (c.tc.loc main_arg1)) (m (c.tc.loc main_arg2))
      ∧ r.2.mem (c.tc.loc main_arg0) = m (c.tc.loc main_arg0) ∧ r.2.mem (c.tc.loc main_arg1) = m (c.tc.loc main_arg1)
      ∧ r.2.mem (c.tc.loc main_arg2) = m (c.tc.loc main_arg2)) :=
  (θ_run _ _ _).mono (fun r h c => ⟨((h.1 c).1 4).trans (array_eq m c), h.2.1 c⟩) (θ_run_and (run_main m g) (frame m g))

end Cert.Kernel4Ideal.UpDx

namespace Cert.Reference4Ideal.UpDx

open Cert.Reference4Ideal Cert.Reference4Ideal.Gen
open Idealize.ShloMosaic TcCoe
open Idealize.SL.Sem
open Cert.Kernel4Ideal.UpDx (prod low high)
open Cert.Head (pair)

/-- The reference's product: the two gradients side by side by the whole weight, transposed. -/
def dot {F : FTy → Type} [FloatOps F] (x u : Vec F S16384x2816 .f32) (w : Vec F S1024x5632 .f32) : Vec F S16384x1024 .f32 :=
  Host.dotGeneral dot_S16384x5632_S5632x1024_S16384x1024_1_0_0_1_n_n none
    (concatenate S16384x5632 1 [⟨S16384x2816, x⟩, ⟨S16384x2816, u⟩] concatenates_S16384x2816_S16384x2816_S16384x5632_d1)
    (transpose S5632x1024 [1, 0] w transposes_S1024x5632_S5632x1024_1_0)

/-- Element by element the sums over the two halves. -/
theorem dot_eq (x u : Vec Ideal S16384x2816 .f32) (w : Vec Ideal S1024x5632 .f32) : dot x u w = prod x u w := funext fun y => by
  obtain ⟨i, d, rfl⟩ : ∃ (i : Fin 16384) (d : Fin 1024), y = ix2 i d := pair y
  show dot x u w (ix2 i d) = (∑ j : Fin 2816, x (ix2 i j) * w (ix2 d (low j))) + ∑ j : Fin 2816, u (ix2 i j) * w (ix2 d (high j))
  pointwise [dot]
  rfl

end Cert.Reference4Ideal.UpDx

namespace Cert.Proof

open Idealize.ShloMosaic TcCoe
open Idealize.SL.Sem

/-- The kernel and the reference end with the same sum. -/
theorem algebraic4 : algebraic_Kernel4Ideal_Reference4Ideal (hKernel4Ideal := Kernel4Ideal.Gen.facts)
    (hReference4Ideal := Reference4Ideal.Gen.facts) := fun m g m' g' _ ha =>
  ⟨fun c => Kernel4Ideal.UpDx.prod (m (c.tc.loc Kernel4Ideal.main_arg0)) (m (c.tc.loc Kernel4Ideal.main_arg1))
      (m (c.tc.loc Kernel4Ideal.main_arg2)),
    Kernel4Ideal.UpDx.values m g,
    (θ_run _ _ _).mono (fun r h c => ⟨(h c).1.trans (by
      refine (Reference4Ideal.UpDx.dot_eq _ _ _).trans ?_
      rw [(ha c).1, (ha c).2.1, (ha c).2.2]), (h c).2⟩) (Reference4Ideal.Value.run (F := Ideal) m' g')⟩

theorem frame_reference4 : quiescent_Reference4Ideal (hReference4Ideal := Reference4Ideal.Gen.facts) := fun m g _ =>
  (θ_run _ _ _).mono (fun r h => ⟨fun c => (h c).2, sem_eq_zero_of_no_sems (by decide) r.2⟩) (Reference4Ideal.Value.run (F := Ideal) m g)

end Cert.Proof
-- ==== Proof.Mm.Up.lean ====
/-
  The feed-forward's projection up, `h @ w`: from one grid point's product of a tile of rows with a tile of columns to the whole array.
  At the end the reference's product, and the equation of the two.
-/
module

public import proofs.«01_k».proof.Proof.Mm.Common
public import proofs.«01_k».proof.Proof.Gen.Kernel5Ideal.Frame
public import proofs.«01_k».proof.Defs
public import proofs.«01_k».proof.Proof.Gen.Reference5Ideal.Run
public import Idealize.ShloMosaic.Lib.Quiescent

@[expose] public section

set_option maxRecDepth 16384

noncomputable section

namespace Cert.Kernel5Ideal.Up

open Cert.Kernel5Ideal Cert.Kernel5Ideal.Gen
open Idealize.ShloMosaic TcCoe
open Idealize.SL.Sem
open Cert.Head (pair)

/-! ## One grid point -/

section Any

variable {F : FTy → Type} [FloatOps F] (m : (ℓ : Loc nD τ sig) → Buf (Elt F) ℓ) (c : Dev nD)

/-- The block stored is the product of the point's two blocks added to zero. -/
theorem block_eq (t : Fin cfg0.N) : outsAt0 m c t = k0_pay2 (iblk m c 0 t) (iblk m c 1 t) k0_pay1 := by
  unfold outsAt0 out0_A_2 kernelRun0_A
  dsimp only
  refine (Views.store_whole VO0_2 _ _ _ _).trans ?_
  unfold kernelRun0_A.sl.v16 kernelRun0_A.sl.HS0_2
  refine (Mm.load_stored _ _ _ _ _).trans ?_
  unfold kernelRun0_A.sl.v7 kernelRun0_A.sl.HS0_1
  exact Mm.load_two k0_pay2 (hs0_0 t) (hs0_1 t) (Mm.load_stored _ _ _ _ _)

/-- The host rounds the two arguments for the launch. -/
theorem V_main_v0 : V m c main_v0 = (truncf .bf16 (m (c.tc.loc main_arg0) : Vec F S16384x1024 .f32) bitsLt_bf16_f32 : Vec F S16384x1024 .bf16) := by
  unfold V
  after_results_simp <;> rfl

theorem V_main_v1 : V m c main_v1 = (truncf .bf16 (m (c.tc.loc main_arg1) : Vec F S1024x5632 .f32) bitsLt_bf16_f32 : Vec F S1024x5632 .bf16) := by
  unfold V
  after_results_simp <;> rfl

end Any

variable (m : (ℓ : Loc nD τ sig) → Buf (Elt Ideal) ℓ) (c : Dev nD)

theorem pay_apply (x : Vec Ideal S2048x1024 .bf16) (y : Vec Ideal S1024x512 .bf16) (a : Fin 2048) (b : Fin 512) :
    k0_pay2 x y (k0_pay1 (F := Ideal)) (ix2 a b) = ∑ j : Fin 1024, x (ix2 a j) * y (ix2 j b) := by
  pointwise [k0_pay2, k0_pay1]

/-! ## Where the blocks lie -/

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 11 :=
  (by decide +kernel : ∀ t : Fin grid0.N, _)
theorem idx2 : ∀ t : Fin cfg0.N, win0_2.index t (0 : Fin 2) = t.val / 11 ∧ win0_2.index t (1 : Fin 2) = t.val % 11 :=
  (by decide +kernel : ∀ t : Fin grid0.N, _)

theorem t_lt (t : Fin cfg0.N) : t.val < 88 := lt_of_lt_of_eq t.isLt N_0

/-- Row `a` and column `b` of the block of point `t`. -/
def rowOf (t : Fin cfg0.N) (a : Fin 2048) : Fin 16384 := ⟨2048 * (t.val / 11) + a.val, by have := t_lt t; have := a.isLt; omega⟩
def colOf (t : Fin cfg0.N) (b : Fin 512) : Fin 5632 := ⟨512 * (t.val % 11) + b.val, by have := b.isLt; omega⟩

theorem emb0 (t : Fin cfg0.N) (a : Fin 2048) (j : Fin 1024) : ((cfg0.win 0).blk t).view.emb (ix2 a j) = (ix2 (rowOf t a) j : S16384x1024.Idx) := by
  obtain ⟨e0, e1⟩ := idx0 t
  funext x; apply Fin.ext
  match x with
  | ⟨0, _⟩ => show win0_0.index t (0 : Fin 2) * 2048 + 1 * a.val = 2048 * (t.val / 11) + a.val; omega
  | ⟨1, _⟩ => show win0_0.index t (1 : Fin 2) * 1024 + 1 * j.val = j.val; omega

theorem emb1 (t : Fin cfg0.N) (j : Fin 1024) (b : Fin 512) : ((cfg0.win 1).blk t).view.emb (ix2 j b) = (ix2 j (colOf t b) : S1024x5632.Idx) := by
  obtain ⟨e0, e1⟩ := idx1 t
  funext x; apply Fin.ext
  match x with
  | ⟨0, _⟩ => show win0_1.index t (0 : Fin 2) * 1024 + 1 * j.val = j.val; omega
  | ⟨1, _⟩ => show win0_1.index t (1 : Fin 2) * 512 + 1 * b.val = 512 * (t.val % 11) + b.val; omega

theorem emb2 (t : Fin cfg0.N) (a : Fin 2048) (b : Fin 512) : ((cfg0.win 2).blk t).view.emb (ix2 a b) = (ix2 (rowOf t a) (colOf t b) : S16384x5632.Idx) := by
  obtain ⟨e0, e1⟩ := idx2 t
  funext x; apply Fin.ext
  match x with
  | ⟨0, _⟩ => show win0_2.index t (0 : Fin 2) * 2048 + 1 * a.val = 2048 * (t.val / 11) + a.val; omega
  | ⟨1, _⟩ => show win0_2.index t (1 : Fin 2) * 512 + 1 * b.val = 512 * (t.val % 11) + b.val; omega

/-- The point in whose block a row and a column lie, and their places there. -/
def pointOf (r : Fin 16384) (q : Fin 5632) : Fin cfg0.N :=
  ⟨11 * (r.val / 2048) + q.val / 512, lt_of_lt_of_eq (by have := r.isLt; have := q.isLt; omega) N_0.symm⟩
def rowAt (r : Fin 16384) : Fin 2048 := ⟨r.val % 2048, Nat.mod_lt _ (by decide)⟩
def colAt (q : Fin 5632) : Fin 512 := ⟨q.val % 512, Nat.mod_lt _ (by decide)⟩

theorem rowOf_pointOf (r : Fin 16384) (q : Fin 5632) : rowOf (pointOf r q) (rowAt r) = r := Fin.ext (by
  show 2048 * ((11 * (r.val / 2048) + q.val / 512) / 11) + r.val % 2048 = r.val
  have := q.isLt; omega)
theorem colOf_pointOf (r : Fin 16384) (q : Fin 5632) : colOf (pointOf r q) (colAt q) = q := Fin.ext (by
  show 512 * ((11 * (r.val / 2048) + q.val / 512) % 11) + q.val % 512 = q.val
  have := q.isLt; omega)

/-! ## The result -/

/-- The product as an array. -/
def prod (x : Vec Ideal S16384x1024 .f32) (w : Vec Ideal S1024x5632 .f32) : Vec Ideal S16384x5632 .f32 :=
  fun y => ∑ j : Fin 1024, x (ix2 (y 0) j) * w (ix2 j (y 1))

/-- What a point reads of its two blocks. -/
theorem read0 (t : Fin cfg0.N) (a : Fin 2048) (j : Fin 1024) :
    (iblk m c 0 t : Vec Ideal S2048x1024 .bf16) (ix2 a j) = (m (c.tc.loc main_arg0) : Vec Ideal S16384x1024 .f32) (ix2 (rowOf t a) j) := by
  show V m c main_v0 (((cfg0.win 0).blk t).view.emb (ix2 a j)) = _
  rw [emb0, V_main_v0]
  rfl

theorem read1 (t : Fin cfg0.N) (j : Fin 1024) (b : Fin 512) :
    (iblk m c 1 t : Vec Ideal S1024x512 .bf16) (ix2 j b) = (m (c.tc.loc main_arg1) : Vec Ideal S1024x5632 .f32) (ix2 j (colOf t b)) := by
  show V m c main_v1 (((cfg0.win 1).blk t).view.emb (ix2 j b)) = _
  rw [emb1, V_main_v1]
  rfl

/-- A point's block holds its part of the product. -/
theorem block_apply (t : Fin cfg0.N) (a : Fin 2048) (b : Fin 512) :
    outsAt0 m c t (ix2 a b) = prod (m (c.tc.loc main_arg0)) (m (c.tc.loc main_arg1)) (ix2 (rowOf t a) (colOf t b)) := by
  rw [block_eq]
  exact (pay_apply _ _ a b).trans (Finset.sum_congr rfl fun j _ => congrArg₂ (· * ·) (read0 m c t a j) (read1 m c t j b))

attribute [local irreducible] outsAt0 prod

/-- The whole array after the last point. -/
theorem array_eq : (dats m 0 c).arrAt 2 cfg0.N = prod (m (c.tc.loc main_arg0)) (m (c.tc.loc main_arg1)) := by
  refine (dats m 0 c).arrAt_eq_of_cover 2 (prod (m (c.tc.loc main_arg0)) (m (c.tc.loc main_arg1))) (fun t _ => ?_) (fun y => ?_)
  · show (cfg0.win 2).cut (grid0.coords t) ((dats m 0 c).after 2 t) = _
    funext y
    obtain ⟨a, b, rfl⟩ : ∃ (a : Fin 2048) (b : Fin 512), y = ix2 a b := pair y
    show outsAt0 m c t (ix2 a b) = prod (m (c.tc.loc main_arg0)) (m (c.tc.loc main_arg1)) (((cfg0.win 2).blk t).view.emb (ix2 a b))
    rw [emb2, block_apply]
  · obtain ⟨r, q, rfl⟩ : ∃ (r : Fin 16384) (q : Fin 5632), y = ix2 r q := pair y
    refine ⟨pointOf r q, flush0_2 _, ?_⟩
    have e := emb2 (pointOf r q) (rowAt r) (colAt q)
    rw [rowOf_pointOf, colOf_pointOf] at e
    rw [← e]
    exact View.emb_mem_set _ _

end Cert.Kernel5Ideal.Up

namespace Cert.Reference5Ideal.Up

open Cert.Reference5Ideal Cert.Reference5Ideal.Gen
open Idealize.ShloMosaic TcCoe
open Idealize.SL.Sem
open Cert.Kernel5Ideal.Up (prod)
open Cert.Head (pair)

/-- The reference's product, -/
def dot {F : FTy → Type} [FloatOps F] (x : Vec F S16384x1024 .f32) (w : Vec F S1024x5632 .f32) : Vec F S16384x5632 .f32 :=
  Host.dotGeneral dot_S16384x1024_S1024x5632_S16384x5632_1_0_0_1_n_n none x w

/-- element by element the sum over the inner width. -/
theorem dot_eq (x : Vec Ideal S16384x1024 .f32) (w : Vec Ideal S1024x5632 .f32) : dot x w = prod x w := funext fun y => by
  obtain ⟨i, d, rfl⟩ : ∃ (i : Fin 16384) (d : Fin 5632), y = ix2 i d := pair y
  show dot x w (ix2 i d) = ∑ j : Fin 1024, x (ix2 i j) * w (ix2 j d)
  pointwise [dot]

end Cert.Reference5Ideal.Up

namespace Cert.Proof

open Idealize.ShloMosaic TcCoe
open Idealize.SL.Sem

/-- The kernel and the reference end with the same product. -/
theorem algebraic5 : algebraic_Kernel5Ideal_Reference5Ideal (hKernel5Ideal := Kernel5Ideal.Gen.facts)
    (hReference5Ideal := Reference5Ideal.Gen.facts) := fun m g m' g' _ ha =>
  ⟨fun c => Kernel5Ideal.Up.prod (m (c.tc.loc Kernel5Ideal.main_arg0)) (m (c.tc.loc Kernel5Ideal.main_arg1)),
    (θ_run _ _ _).mono (fun r h c => ⟨((h.1 c).1 2).trans (Kernel5Ideal.Up.array_eq m c), h.2.1 c⟩) (θ_run_and (Kernel5Ideal.Gen.run_main m g) (Kernel5Ideal.Gen.frame m g)),
    (θ_run _ _ _).mono (fun r h c => ⟨(h c).1.trans (by
      refine (Reference5Ideal.Up.dot_eq _ _).trans ?_
      rw [(ha c).1, (ha c).2]), (h c).2⟩) (Reference5Ideal.Value.run (F := Ideal) m' g')⟩

theorem frame_reference5 : quiescent_Reference5Ideal (hReference5Ideal := Reference5Ideal.Gen.facts) := fun m g _ =>
  (θ_run _ _ _).mono (fun r h => ⟨fun c => (h c).2, sem_eq_zero_of_no_sems (by decide) r.2⟩) (Reference5Ideal.Value.run (F := Ideal) m g)

end Cert.Proof
-- ==== Proof.Mm.DownDx.lean ====
/-
  The gradient of the projection down with respect to its argument, `g @ w.T`: from one grid point's product of a tile of rows to the whole
  array.
  At the end the reference's product, and the equation of the two.
-/
module

public import proofs.«01_k».proof.Proof.Mm.Common
public import proofs.«01_k».proof.Proof.Gen.Kernel6Ideal.Frame
public import proofs.«01_k».proof.Defs
public import proofs.«01_k».proof.Proof.Gen.Reference6Ideal.Run
public import Idealize.ShloMosaic.Lib.Quiescent

@[expose] public section

set_option maxRecDepth 16384

noncomputable section

namespace Cert.Kernel6Ideal.DownDx

open Cert.Kernel6Ideal Cert.Kernel6Ideal.Gen
open Idealize.ShloMosaic TcCoe
open Idealize.SL.Sem
open Cert.Head (pair)

/-! ## One grid point -/

section Any

variable {F : FTy → Type} [FloatOps F] (m : (ℓ : Loc nD τ sig) → Buf (Elt F) ℓ) (c : Dev nD)

/-- The block stored is the product of the point's two blocks added to zero. -/
theorem block_eq (t : Fin cfg0.N) : outsAt0 m c t = k0_pay2 (iblk m c 0 t) (iblk m c 1 t) k0_pay1 := by
  unfold outsAt0 out0_A_2 kernelRun0_A
  dsimp only
  refine (Views.store_whole VO0_2 _ _ _ _).trans ?_
  unfold kernelRun0_A.sl.v16 kernelRun0_A.sl.HS0_2
  refine (Mm.load_stored _ _ _ _ _).trans ?_
  unfold kernelRun0_A.sl.v7 kernelRun0_A.sl.HS0_1
  exact Mm.load_two k0_pay2 (hs0_0 t) (hs0_1 t) (Mm.load_stored _ _ _ _ _)

/-- The host rounds the weight for the launch. -/
theorem V_main_v0 : V m c main_v0 = (truncf .bf16 (m (c.tc.loc main_arg1) : Vec F S2816x1024 .f32) bitsLt_bf16_f32 : Vec F S2816x1024 .bf16) := by
  unfold V
  after_results_simp <;> rfl

end Any

variable (m : (ℓ : Loc nD τ sig) → Buf (Elt Ideal) ℓ) (c : Dev nD)

theorem pay_apply (x : Vec Ideal S512x1024 .f32) (y : Vec Ideal S2816x1024 .bf16) (a : Fin 512) (b : Fin 2816) :
    k0_pay2 x y (k0_pay1 (F := Ideal)) (ix2 a b) = ∑ j : Fin 1024, x (ix2 a j) * y (ix2 b j) := by
  pointwise [k0_pay2, k0_pay1]

/-! ## Where the blocks lie -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem t_lt (t : Fin cfg0.N) : t.val < 32 := lt_of_lt_of_eq t.isLt N_0

/-- Row `a` of the block of point `t`. -/
def rowOf (t : Fin cfg0.N) (a : Fin 512) : Fin 16384 := ⟨512 * t.val + a.val, by have := t_lt t; have := a.isLt; omega⟩

theorem emb0 (t : Fin cfg0.N) (a : Fin 512) (j : Fin 1024) : ((cfg0.win 0).blk t).view.emb (ix2 a j) = (ix2 (rowOf t a) j : S16384x1024.Idx) := by
  obtain ⟨e0, e1⟩ := idx0 t
  funext x; apply Fin.ext
  match x with
  | ⟨0, _⟩ => show win0_0.index t (0 : Fin 2) * 512 + 1 * a.val = 512 * t.val + a.val; omega
  | ⟨1, _⟩ => show win0_0.index t (1 : Fin 2) * 1024 + 1 * j.val = j.val; omega

theorem emb1 (t : Fin cfg0.N) (b : Fin 2816) (j : Fin 1024) : ((cfg0.win 1).blk t).view.emb (ix2 b j) = (ix2 b j : S2816x1024.Idx) := by
  obtain ⟨e0, e1⟩ := idx1 t
  funext x; apply Fin.ext
  match x with
  | ⟨0, _⟩ => show win0_1.index t (0 : Fin 2) * 2816 + 1 * b.val = b.val; omega
  | ⟨1, _⟩ => show win0_1.index t (1 : Fin 2) * 1024 + 1 * j.val = j.val; omega

theorem emb2 (t : Fin cfg0.N) (a : Fin 512) (b : Fin 2816) : ((cfg0.win 2).blk t).view.emb (ix2 a b) = (ix2 (rowOf t a) b : S16384x2816.Idx) := by
  obtain ⟨e0, e1⟩ := idx2 t
  funext x; apply Fin.ext
  match x with
  | ⟨0, _⟩ => show win0_2.index t (0 : Fin 2) * 512 + 1 * a.val = 512 * t.val + a.val; omega
  | ⟨1, _⟩ => show win0_2.index t (1 : Fin 2) * 2816 + 1 * b.val = b.val; omega

/-- The point in whose block a row lies, and its place there. -/
def pointOf (r : Fin 16384) : Fin cfg0.N := ⟨r.val / 512, lt_of_lt_of_eq (by have := r.isLt; omega) N_0.symm⟩
def rowAt (r : Fin 16384) : Fin 512 := ⟨r.val % 512, Nat.mod_lt _ (by decide)⟩

theorem rowOf_pointOf (r : Fin 16384) : rowOf (pointOf r) (rowAt r) = r := Fin.ext (Nat.div_add_mod r.val 512)

/-! ## The result -/

/-- The product as an array. -/
def prod (x : Vec Ideal S16384x1024 .f32) (w : Vec Ideal S2816x1024 .f32) : Vec Ideal S16384x2816 .f32 :=
  fun y => ∑ j : Fin 1024, x (ix2 (y 0) j) * w (ix2 (y 1) j)

/-- What a point reads of its two blocks. -/
theorem read0 (t : Fin cfg0.N) (a : Fin 512) (j : Fin 1024) :
    (iblk m c 0 t : Vec Ideal S512x1024 .f32) (ix2 a j) = (m (c.tc.loc main_arg0) : Vec Ideal S16384x1024 .f32) (ix2 (rowOf t a) j) := by
  show V m c main_arg0 (((cfg0.win 0).blk t).view.emb (ix2 a j)) = _
  rw [emb0, V_main_arg0]

theorem read1 (t : Fin cfg0.N) (b : Fin 2816) (j : Fin 1024) :
    (iblk m c 1 t : Vec Ideal S2816x1024 .bf16) (ix2 b j) = (m (c.tc.loc main_arg1) : Vec Ideal S2816x1024 .f32) (ix2 b j) := by
  show V m c main_v0 (((cfg0.win 1).blk t).view.emb (ix2 b j)) = _
  rw [emb1, V_main_v0]
  rfl

/-- A point's block holds its part of the product. -/
theorem block_apply (t : Fin cfg0.N) (a : Fin 512) (b : Fin 2816) :
    outsAt0 m c t (ix2 a b) = prod (m (c.tc.loc main_arg0)) (m (c.tc.loc main_arg1)) (ix2 (rowOf t a) b) := by
  rw [block_eq]
  exact (pay_apply _ _ a b).trans (Finset.sum_congr rfl fun j _ => congrArg₂ (· * ·) (read0 m c t a j) (read1 m c t b j))

attribute [local irreducible] outsAt0 prod

/-- The whole array after the last point. -/
theorem array_eq : (dats m 0 c).arrAt 2 cfg0.N = prod (m (c.tc.loc main_arg0)) (m (c.tc.loc main_arg1)) := by
  refine (dats m 0 c).arrAt_eq_of_cover 2 (prod (m (c.tc.loc main_arg0)) (m (c.tc.loc main_arg1))) (fun t _ => ?_) (fun y => ?_)
  · show (cfg0.win 2).cut (grid0.coords t) ((dats m 0 c).after 2 t) = _
    funext y
    obtain ⟨a, b, rfl⟩ : ∃ (a : Fin 512) (b : Fin 2816), y = ix2 a b := pair y
    show outsAt0 m c t (ix2 a b) = prod (m (c.tc.loc main_arg0)) (m (c.tc.loc main_arg1)) (((cfg0.win 2).blk t).view.emb (ix2 a b))
    rw [emb2, block_apply]
  · obtain ⟨r, q, rfl⟩ : ∃ (r : Fin 16384) (q : Fin 2816), y = ix2 r q := pair y
    refine ⟨pointOf r, flush0_2 _, ?_⟩
    have e := emb2 (pointOf r) (rowAt r) q
    rw [rowOf_pointOf] at e
    rw [← e]
    exact View.emb_mem_set _ _

end Cert.Kernel6Ideal.DownDx

namespace Cert.Reference6Ideal.DownDx

open Cert.Reference6Ideal Cert.Reference6Ideal.Gen
open Idealize.ShloMosaic TcCoe
open Idealize.SL.Sem
open Cert.Kernel6Ideal.DownDx (prod)
open Cert.Head (pair)

/-- The reference's product, -/
def dot {F : FTy → Type} [FloatOps F] (x : Vec F S16384x1024 .f32) (w : Vec F S2816x1024 .f32) : Vec F S16384x2816 .f32 :=
  Host.dotGeneral dot_S16384x1024_S1024x2816_S16384x2816_1_0_0_1_n_n none x (transpose S1024x2816 [1, 0] w transposes_S2816x1024_S1024x2816_1_0)

/-- element by element the sum over the inner width. -/
theorem dot_eq (x : Vec Ideal S16384x1024 .f32) (w : Vec Ideal S2816x1024 .f32) : dot x w = prod x w := funext fun y => by
  obtain ⟨i, d, rfl⟩ : ∃ (i : Fin 16384) (d : Fin 2816), y = ix2 i d := pair y
  show dot x w (ix2 i d) = ∑ j : Fin 1024, x (ix2 i j) * w (ix2 d j)
  pointwise [dot]

end Cert.Reference6Ideal.DownDx

namespace Cert.Proof

open Idealize.ShloMosaic TcCoe
open Idealize.SL.Sem

/-- The kernel and the reference end with the same product. -/
theorem algebraic6 : algebraic_Kernel6Ideal_Reference6Ideal (hKernel6Ideal := Kernel6Ideal.Gen.facts)
    (hReference6Ideal := Reference6Ideal.Gen.facts) := fun m g m' g' _ ha =>
  ⟨fun c => Kernel6Ideal.DownDx.prod (m (c.tc.loc Kernel6Ideal.main_arg0)) (m (c.tc.loc Kernel6Ideal.main_arg1)),
    (θ_run _ _ _).mono (fun r h c => ⟨((h.1 c).1 2).trans (Kernel6Ideal.DownDx.array_eq m c), h.2.1 c⟩) (θ_run_and (Kernel6Ideal.Gen.run_main m g) (Kernel6Ideal.Gen.frame m g)),
    (θ_run _ _ _).mono (fun r h c => ⟨(h c).1.trans (by
      refine (Reference6Ideal.DownDx.dot_eq _ _).trans ?_
      rw [(ha c).1, (ha c).2]), (h c).2⟩) (Reference6Ideal.Value.run (F := Ideal) m' g')⟩

theorem frame_reference6 : quiescent_Reference6Ideal (hReference6Ideal := Reference6Ideal.Gen.facts) := fun m g _ =>
  (θ_run _ _ _).mono (fun r h => ⟨fun c => (h c).2, sem_eq_zero_of_no_sems (by decide) r.2⟩) (Reference6Ideal.Value.run (F := Ideal) m g)

end Cert.Proof
-- ==== Proof.Mm.DownDw.lean ====
/-
  The gradient of the projection down with respect to its weight, `act.T @ g`: the sums that the grid's points accumulate over sixteen chunks of
  rows, and the whole array they leave.
  At the end the reference's product, and the equation of the two.
-/
module

public import proofs.«01_k».proof.Proof.Mm.Common
public import proofs.«01_k».proof.Proof.Gen.Kernel7Ideal.Frame
public import proofs.«01_k».proof.Defs
public import proofs.«01_k».proof.Proof.Gen.Reference7Ideal.Run
public import Idealize.ShloMosaic.Lib.Quiescent

@[expose] public section

set_option maxRecDepth 16384

noncomputable section

namespace Cert.Kernel7Ideal.DownDw

open Cert.Kernel7Ideal Cert.Kernel7Ideal.Gen
open Idealize.ShloMosaic TcCoe
open Idealize.SL.Sem
open Cert.Head (pair)
open Cert.Mm (chunkRow)

/-! ## One grid point -/

section Any

variable {F : FTy → Type} [FloatOps F] (m : (ℓ : Loc nD τ sig) → Buf (Elt F) ℓ) (c : Dev nD)

/-- The first point of a row of tiles starts the sum with its product. -/
theorem sum_first (t : Fin cfg0.N) (h0 : t.val % 16 = 0) (h1 : ¬t.val % 16 = 15) :
    (outsAt0 m c t.val t.isLt).2 = k0_pay2 (iblk m c 0 t) (iblk m c 1 t) k0_pay1 := by
  rw [outsAt0_A m c t h0 h1]
  unfold sout0_A_0 kernelRun0_A
  dsimp only
  refine (Views.store_whole VS0_0 _ _ _ _).trans ?_
  unfold kernelRun0_A.sl.v7 kernelRun0_A.sl.HS0_1
  exact Mm.load_two k0_pay2 (hs0_0 t) (hs0_1 t) (Mm.load_stored _ _ _ _ _)

/-- Any other point adds its product to the sum before, -/
theorem sum_next (t : Fin cfg0.N) (h0 : ¬t.val % 16 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 16 = 15
  · rw [outsAt0_C m c t h0 h1]
    unfold sout0_C_0 kernelRun0_C
    dsimp only
    unfold kernelRun0_C.sl.HS0_1
    refine (Views.store_whole VS0_0 _ _ _ _).trans ?_
    exact Mm.load_two k0_pay2 (hs0_0 t) (hs0_1 t) (Mm.load_block _)
  · rw [outsAt0_B m c t h0 h1]
    unfold sout0_B_0 kernelRun0_B
    dsimp only
    refine (Views.store_whole VS0_0 _ _ _ _).trans ?_
    exact Mm.load_two k0_pay2 (hs0_0 t) (hs0_1 t) (Mm.load_block _)

/-- and the last stores the sum, rounded, as the block of the result. -/
theorem block_last (t : Fin cfg0.N) (h0 : ¬t.val % 16 = 0) (h1 : t.val % 16 = 15) :
    (outsAt0 m c t.val t.isLt).1 = k0_pay3 (outsAt0 m c t.val t.isLt).2 := by
  rw [sum_next m c t h0, outsAt0_C m c t h0 h1]
  unfold out0_C_2 kernelRun0_C
  dsimp only
  refine (Views.store_whole VO0_2 _ _ _ _).trans (congrArg k0_pay3 ?_)
  unfold kernelRun0_C.sl.v16 kernelRun0_C.sl.HS0_1
  refine (Mm.load_stored _ _ _ _ _).trans ?_
  exact Mm.load_two k0_pay2 (hs0_0 t) (hs0_1 t) (Mm.load_block _)

/-- The host rounds the first factor for the launch. -/
theorem V_main_v0 : V m c main_v0 = (truncf .bf16 (m (c.tc.loc main_arg0) : Vec F S16384x2816 .f32) bitsLt_bf16_f32 : Vec F S16384x2816 .bf16) := by
  unfold V
  after_results_simp <;> rfl

end Any

variable (m : (ℓ : Loc nD τ sig) → Buf (Elt Ideal) ℓ) (c : Dev nD)

theorem zero_apply (a : Fin 1408) (b : Fin 1024) : k0_pay1 (F := Ideal) (ix2 a b) = 0 := by
  pointwise [k0_pay1]

theorem pay_apply (x : Vec Ideal S1024x1408 .bf16) (y : Vec Ideal S1024x1024 .f32) (s : Vec Ideal S1408x1024 .f32) (a : Fin 1408) (b : Fin 1024) :
    k0_pay2 x y s (ix2 a b) = s (ix2 a b) + ∑ j : Fin 1024, x (ix2 j a) * y (ix2 j b) := by
  pointwise [k0_pay2]

/-! ## Where the blocks lie -/

theorem idx0 : ∀ t : Fin cfg0.N, win0_0.index t (0 : Fin 2) = t.val % 16 ∧ win0_0.index t (1 : Fin 2) = t.val / 16 :=
  (by decide +kernel : ∀ t : Fin grid0.N, _)
theorem idx1 : ∀ t : Fin cfg0.N, win0_1.index t (0 : Fin 2) = t.val % 16 ∧ win0_1.index t (1 : Fin 2) = 0 :=
  (by decide +kernel : ∀ t : Fin grid0.N, _)
theorem idx2 : ∀ t : Fin cfg0.N, win0_2.index t (0 : Fin 2) = t.val / 16 ∧ win0_2.index t (1 : Fin 2) = 0 :=
  (by decide +kernel : ∀ t : Fin grid0.N, _)

theorem t_lt (t : Fin cfg0.N) : t.val < 32 := lt_of_lt_of_eq t.isLt N_0

/-- Row `a` of the block of the result that point `t` adds to. -/
def rowOf (t : Fin cfg0.N) (a : Fin 1408) : Fin 2816 := ⟨1408 * (t.val / 16) + a.val, by have := t_lt t; have := a.isLt; omega⟩

theorem emb0 (t : Fin cfg0.N) (j : Fin 1024) (a : Fin 1408) :
    ((cfg0.win 0).blk t).view.emb (ix2 j a) = (ix2 (chunkRow (t.val % 16) j) (rowOf t a) : S16384x2816.Idx) := by
  obtain ⟨e0, e1⟩ := idx0 t
  have := j.isLt
  funext x; apply Fin.ext
  match x with
  | ⟨0, _⟩ => show win0_0.index t (0 : Fin 2) * 1024 + 1 * j.val = (1024 * (t.val % 16) + j.val) % 16384; omega
  | ⟨1, _⟩ => show win0_0.index t (1 : Fin 2) * 1408 + 1 * a.val = 1408 * (t.val / 16) + a.val; omega

theorem emb1 (t : Fin cfg0.N) (j : Fin 1024) (b : Fin 1024) :
    ((cfg0.win 1).blk t).view.emb (ix2 j b) = (ix2 (chunkRow (t.val % 16) j) b : S16384x1024.Idx) := by
  obtain ⟨e0, e1⟩ := idx1 t
  have := j.isLt
  funext x; apply Fin.ext
  match x with
  | ⟨0, _⟩ => show win0_1.index t (0 : Fin 2) * 1024 + 1 * j.val = (1024 * (t.val % 16) + j.val) % 16384; omega
  | ⟨1, _⟩ => show win0_1.index t (1 : Fin 2) * 1024 + 1 * b.val = b.val; omega

theorem emb2 (t : Fin cfg0.N) (a : Fin 1408) (b : Fin 1024) : ((cfg0.win 2).blk t).view.emb (ix2 a b) = (ix2 (rowOf t a) b : S2816x1024.Idx) := by
  obtain ⟨e0, e1⟩ := idx2 t
  funext x; apply Fin.ext
  match x with
  | ⟨0, _⟩ => show win0_2.index t (0 : Fin 2) * 1408 + 1 * a.val = 1408 * (t.val / 16) + a.val; omega
  | ⟨1, _⟩ => show win0_2.index t (1 : Fin 2) * 1024 + 1 * b.val = b.val; omega

/-- The last point of the sixteen that make the block of a row, and the row's place in the block. -/
def pointOf (r : Fin 2816) : Fin cfg0.N := ⟨16 * (r.val / 1408) + 15, lt_of_lt_of_eq (by have := r.isLt; omega) N_0.symm⟩
def rowAt (r : Fin 2816) : Fin 1408 := ⟨r.val % 1408, Nat.mod_lt _ (by decide)⟩

theorem rowOf_pointOf (r : Fin 2816) : rowOf (pointOf r) (rowAt r) = r := Fin.ext (by
  show 1408 * ((16 * (r.val / 1408) + 15) / 16) + r.val % 1408 = r.val
  omega)

theorem pointOf_last (r : Fin 2816) : (pointOf r).val % 16 = 15 := by
  show (16 * (r.val / 1408) + 15) % 16 = 15
  omega

/-! ## The sums -/

/-- What a point reads of its two blocks. -/
theorem read0 (t : Fin cfg0.N) (j : Fin 1024) (a : Fin 1408) : (iblk m c 0 t : Vec Ideal S1024x1408 .bf16) (ix2 j a)
    = (m (c.tc.loc main_arg0) : Vec Ideal S16384x2816 .f32) (ix2 (chunkRow (t.val % 16) j) (rowOf t a)) := by
  show V m c main_v0 (((cfg0.win 0).blk t).view.emb (ix2 j a)) = _
  rw [emb0, V_main_v0]
  rfl

theorem read1 (t : Fin cfg0.N) (j : Fin 1024) (b : Fin 1024) : (iblk m c 1 t : Vec Ideal S1024x1024 .f32) (ix2 j b)
    = (m (c.tc.loc main_arg1) : Vec Ideal S16384x1024 .f32) (ix2 (chunkRow (t.val % 16) j) b) := by
  show V m c main_arg1 (((cfg0.win 1).blk t).view.emb (ix2 j b)) = _
  rw [emb1, V_main_arg1]

/-- The part of an element of the product that one chunk of rows gives. -/
def part (x : Vec Ideal S16384x2816 .f32) (y : Vec Ideal S16384x1024 .f32) (i : Fin 2816) (b : Fin 1024) (k : ℕ) : EReal :=
  ∑ j : Fin 1024, x (ix2 (chunkRow k j) i) * y (ix2 (chunkRow k j) b)

/-- What a point adds to the sum. -/
theorem add_apply (t : Fin cfg0.N) (s : Vec Ideal S1408x1024 .f32) (a : Fin 1408) (b : Fin 1024) :
    k0_pay2 (iblk m c 0 t) (iblk m c 1 t) s (ix2 a b)
      = s (ix2 a b) + part (m (c.tc.loc main_arg0)) (m (c.tc.loc main_arg1)) (rowOf t a) b (t.val % 16) :=
  (pay_apply _ _ s a b).trans (congrArg (s (ix2 a b) + ·)
    (Finset.sum_congr rfl fun j _ => congrArg₂ (· * ·) (read0 m c t j a) (read1 m c t j b)))

/-- The sum after a point is that of the chunks of rows so far. -/
theorem sum_apply (n : ℕ) (hn : n < cfg0.N) (a : Fin 1408) (b : Fin 1024) : (outsAt0 m c n hn).2 (ix2 a b)
    = ∑ k ∈ Finset.range (n % 16 + 1), part (m (c.tc.loc main_arg0)) (m (c.tc.loc main_arg1)) (rowOf ⟨n, hn⟩ a) b k := by
  induction n with
  | zero =>
    refine (congrFun (sum_first m c ⟨0, hn⟩ (by show 0 % 16 = 0; decide) (by show ¬0 % 16 = 15; decide)) (ix2 a b)).trans ((add_apply m c ⟨0, hn⟩ _ a b).trans ?_)
    rw [zero_apply, zero_add]
    exact (Finset.sum_range_one _).symm
  | succ n ih =>
    by_cases h : (n + 1) % 16 = 0
    · refine (congrFun (sum_first m c ⟨n + 1, hn⟩ h (by show ¬(n + 1) % 16 = 15; omega)) (ix2 a b)).trans
        ((add_apply m c ⟨n + 1, hn⟩ _ a b).trans ?_)
      rw [zero_apply, zero_add]
      show part _ _ _ b ((n + 1) % 16) = _
      rw [h]
      exact (Finset.sum_range_one _).symm
    · refine (congrFun (sum_next m c ⟨n + 1, hn⟩ h) (ix2 a b)).trans ((add_apply m c ⟨n + 1, hn⟩ _ a b).trans ?_)
      rw [Finset.sum_range_succ]
      refine congrArg₂ (· + ·) ((ih (Nat.lt_of_succ_lt hn)).trans ?_) rfl
      have e : rowOf ⟨n, Nat.lt_of_succ_lt hn⟩ a = rowOf ⟨n + 1, hn⟩ a :=
        Fin.ext (by show 1408 * (n / 16) + a.val = 1408 * ((n + 1) / 16) + a.val; omega)
      rw [e, show n % 16 + 1 = (n + 1) % 16 by omega]

/-! ## The result -/

/-- The product as an array. -/
def prod (x : Vec Ideal S16384x2816 .f32) (y : Vec Ideal S16384x1024 .f32) : Vec Ideal S2816x1024 .bf16 :=
  fun z => ∑ r : Fin 16384, x (ix2 r (z 0)) * y (ix2 r (z 1))

/-- The sixteen parts make an element of it. -/
theorem sum_parts (x : Vec Ideal S16384x2816 .f32) (y : Vec Ideal S16384x1024 .f32) (i : Fin 2816) (b : Fin 1024) :
    ∑ k ∈ Finset.range 16, part x y i b k = prod x y (ix2 i b) := Mm.sum_chunks fun r => x (ix2 r i) * y (ix2 r b)

/-- The block that a last point stores holds its part of the product. -/
theorem block_apply (t : Fin cfg0.N) (h : t.val % 16 = 15) (a : Fin 1408) (b : Fin 1024) :
    (outsAt0 m c t.val t.isLt).1 (ix2 a b) = prod (m (c.tc.loc main_arg0)) (m (c.tc.loc main_arg1)) (ix2 (rowOf t a) b) := by
  refine (congrFun (block_last m c t (by omega) h) (ix2 a b)).trans ((sum_apply m c t.val t.isLt a b).trans ?_)
  rw [h]
  exact sum_parts _ _ _ b

attribute [local irreducible] outsAt0 prod

/-- The whole array after the last point. -/
theorem array_eq : (dats m 0 c).arrAt 2 cfg0.N = prod (m (c.tc.loc main_arg0)) (m (c.tc.loc main_arg1)) := by
  refine (dats m 0 c).arrAt_eq_of_cover 2 (prod (m (c.tc.loc main_arg0)) (m (c.tc.loc main_arg1))) (fun t ht => ?_) (fun y => ?_)
  · show (cfg0.win 2).cut (grid0.coords t) ((dats m 0 c).after 2 t) = _
    rw [after0_2]
    funext y
    obtain ⟨a, b, rfl⟩ : ∃ (a : Fin 1408) (b : Fin 1024), y = ix2 a b := pair y
    show (outsAt0 m c t.val t.isLt).1 (ix2 a b) = prod (m (c.tc.loc main_arg0)) (m (c.tc.loc main_arg1)) (((cfg0.win 2).blk t).view.emb (ix2 a b))
    rw [emb2, block_apply m c t ((flush0_2 t).1 ht)]
  · obtain ⟨r, q, rfl⟩ : ∃ (r : Fin 2816) (q : Fin 1024), y = ix2 r q := pair y
    refine ⟨pointOf r, (flush0_2 _).2 (pointOf_last r), ?_⟩
    have e := emb2 (pointOf r) (rowAt r) q
    rw [rowOf_pointOf] at e
    rw [← e]
    exact View.emb_mem_set _ _

end Cert.Kernel7Ideal.DownDw

namespace Cert.Reference7Ideal.DownDw

open Cert.Reference7Ideal Cert.Reference7Ideal.Gen
open Idealize.ShloMosaic TcCoe
open Idealize.SL.Sem
open Cert.Kernel7Ideal.DownDw (prod)
open Cert.Head (pair)

/-- The reference's product, -/
def dot {F : FTy → Type} [FloatOps F] (x : Vec F S16384x2816 .f32) (y : Vec F S16384x1024 .f32) : Vec F S2816x1024 .bf16 :=
  (truncf .bf16 (Host.dotGeneral dot_S2816x16384_S16384x1024_S2816x1024_1_0_0_1_n_n none (transpose S2816x16384 [1, 0] x transposes_S16384x2816_S2816x16384_1_0) y : FVec F S2816x1024 .f32)
    bitsLt_bf16_f32 : FVec F S2816x1024 .bf16)

/-- element by element the sum over all rows. -/
theorem dot_eq (x : Vec Ideal S16384x2816 .f32) (y : Vec Ideal S16384x1024 .f32) : dot x y = prod x y := funext fun z => by
  obtain ⟨i, d, rfl⟩ : ∃ (i : Fin 2816) (d : Fin 1024), z = ix2 i d := pair z
  show dot x y (ix2 i d) = ∑ r : Fin 16384, x (ix2 r i) * y (ix2 r d)
  pointwise [dot]

end Cert.Reference7Ideal.DownDw

namespace Cert.Proof

open Idealize.ShloMosaic TcCoe
open Idealize.SL.Sem

/-- The kernel and the reference end with the same product. -/
theorem algebraic7 : algebraic_Kernel7Ideal_Reference7Ideal (hKernel7Ideal := Kernel7Ideal.Gen.facts)
    (hReference7Ideal := Reference7Ideal.Gen.facts) := fun m g m' g' _ ha =>
  ⟨fun c => Kernel7Ideal.DownDw.prod (m (c.tc.loc Kernel7Ideal.main_arg0)) (m (c.tc.loc Kernel7Ideal.main_arg1)),
    (θ_run _ _ _).mono (fun r h c => ⟨((h.1 c).1 2).trans (Kernel7Ideal.DownDw.array_eq m c), h.2.1 c⟩) (θ_run_and (Kernel7Ideal.Gen.run_main m g) (Kernel7Ideal.Gen.frame m g)),
    (θ_run _ _ _).mono (fun r h c => ⟨(h c).1.trans (by
      refine (Reference7Ideal.DownDw.dot_eq _ _).trans ?_
      rw [(ha c).1, (ha c).2]), (h c).2⟩) (Reference7Ideal.Value.run (F := Ideal) m' g')⟩

theorem frame_reference7 : quiescent_Reference7Ideal (hReference7Ideal := Reference7Ideal.Gen.facts) := fun m g _ =>
  (θ_run _ _ _).mono (fun r h => ⟨fun c => (h c).2, sem_eq_zero_of_no_sems (by decide) r.2⟩) (Reference7Ideal.Value.run (F := Ideal) m g)

end Cert.Proof
-- ==== Proof.Mm.Down.lean ====
/-
  The feed-forward's projection down and the residual, `h + act @ w`: from one grid point's product of a tile of rows with a tile of columns,
  and its tile of the residual, to the whole array.
  At the end the reference's product, and the equation of the two.
-/
module

public import proofs.«01_k».proof.Proof.Mm.Common
public import proofs.«01_k».proof.Proof.Gen.Kernel8Ideal.Frame
public import proofs.«01_k».proof.Defs
public import proofs.«01_k».proof.Proof.Gen.Reference8Ideal.Run
public import Idealize.ShloMosaic.Lib.Quiescent

@[expose] public section

set_option maxRecDepth 16384

noncomputable section

namespace Cert.Kernel8Ideal.Down

open Cert.Kernel8Ideal Cert.Kernel8Ideal.Gen
open Idealize.ShloMosaic TcCoe
open Idealize.SL.Sem
open Cert.Head (pair)

/-! ## One grid point -/

section Any

variable {F : FTy → Type} [FloatOps F] (m : (ℓ : Loc nD τ sig) → Buf (Elt F) ℓ) (c : Dev nD)

/-- The block stored is the product of the point's first two blocks, added to zero, and its third block added. -/
theorem block_eq (t : Fin cfg0.N) : outsAt0 m c t = k0_pay3 (k0_pay2 (iblk m c 0 t) (iblk m c 1 t) k0_pay1) (iblk m c 2 t) := by
  unfold outsAt0 out0_A_3 kernelRun0_A
  dsimp only
  refine (Views.store_whole VO0_3 _ _ _ _).trans ?_
  refine congr (congrArg k0_pay3 ?_) (Mm.load_block (hs0_2 t))
  unfold kernelRun0_A.sl.v16 kernelRun0_A.sl.HS0_2
  refine (Mm.load_stored _ _ _ _ _).trans ?_
  unfold kernelRun0_A.sl.v7 kernelRun0_A.sl.HS0_1
  exact Mm.load_two k0_pay2 (hs0_0 t) (hs0_1 t) (Mm.load_stored _ _ _ _ _)

/-- The host rounds the first two arguments for the launch. -/
theorem V_main_v0 : V m c main_v0 = (truncf .bf16 (m (c.tc.loc main_arg0) : Vec F S16384x2816 .f32) bitsLt_bf16_f32 : Vec F S16384x2816 .bf16) := by
  unfold V
  after_results_simp <;> rfl

theorem V_main_v1 : V m c main_v1 = (truncf .bf16 (m (c.tc.loc main_arg1) : Vec F S2816x1024 .f32) bitsLt_bf16_f32 : Vec F S2816x1024 .bf16) := by
  unfold V
  after_results_simp <;> rfl

end Any

variable (m : (ℓ : Loc nD τ sig) → Buf (Elt Ideal) ℓ) (c : Dev nD)

theorem pay_apply (x : Vec Ideal S1024x2816 .bf16) (y : Vec Ideal S2816x512 .bf16) (z : Vec Ideal S1024x512 .f32) (a : Fin 1024) (b : Fin 512) :
    k0_pay3 (k0_pay2 x y (k0_pay1 (F := Ideal))) z (ix2 a b) = (∑ j : Fin 2816, x (ix2 a j) * y (ix2 j b)) + z (ix2 a b) := by
  pointwise [k0_pay3, k0_pay2, k0_pay1]

/-! ## Where the blocks lie -/

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 2 :=
  (by decide +kernel : ∀ t : Fin grid0.N, _)
theorem idx2 : ∀ t : Fin cfg0.N, win0_2.index t (0 : Fin 2) = t.val / 2 ∧ win0_2.index t (1 : Fin 2) = t.val % 2 :=
  (by decide +kernel : ∀ t : Fin grid0.N, _)
theorem idx3 : ∀ t : Fin cfg0.N, win0_3.index t (0 : Fin 2) = t.val / 2 ∧ win0_3.index t (1 : Fin 2) = t.val % 2 :=
  (by decide +kernel : ∀ t : Fin grid0.N, _)

theorem t_lt (t : Fin cfg0.N) : t.val < 32 := lt_of_lt_of_eq t.isLt N_0

/-- Row `a` and column `b` of the block of point `t`. -/
def rowOf (t : Fin cfg0.N) (a : Fin 1024) : Fin 16384 := ⟨1024 * (t.val / 2) + a.val, by have := t_lt t; have := a.isLt; omega⟩
def colOf (t : Fin cfg0.N) (b : Fin 512) : Fin 1024 := ⟨512 * (t.val % 2) + b.val, by have := b.isLt; omega⟩

theorem emb0 (t : Fin cfg0.N) (a : Fin 1024) (j : Fin 2816) : ((cfg0.win 0).blk t).view.emb (ix2 a j) = (ix2 (rowOf t a) j : S16384x2816.Idx) := by
  obtain ⟨e0, e1⟩ := idx0 t
  funext x; apply Fin.ext
  match x with
  | ⟨0, _⟩ => show win0_0.index t (0 : Fin 2) * 1024 + 1 * a.val = 1024 * (t.val / 2) + a.val; omega
  | ⟨1, _⟩ => show win0_0.index t (1 : Fin 2) * 2816 + 1 * j.val = j.val; omega

theorem emb1 (t : Fin cfg0.N) (j : Fin 2816) (b : Fin 512) : ((cfg0.win 1).blk t).view.emb (ix2 j b) = (ix2 j (colOf t b) : S2816x1024.Idx) := by
  obtain ⟨e0, e1⟩ := idx1 t
  funext x; apply Fin.ext
  match x with
  | ⟨0, _⟩ => show win0_1.index t (0 : Fin 2) * 2816 + 1 * j.val = j.val; omega
  | ⟨1, _⟩ => show win0_1.index t (1 : Fin 2) * 512 + 1 * b.val = 512 * (t.val % 2) + b.val; omega

theorem emb2 (t : Fin cfg0.N) (a : Fin 1024) (b : Fin 512) : ((cfg0.win 2).blk t).view.emb (ix2 a b) = (ix2 (rowOf t a) (colOf t b) : S16384x1024.Idx) := by
  obtain ⟨e0, e1⟩ := idx2 t
  funext x; apply Fin.ext
  match x with
  | ⟨0, _⟩ => show win0_2.index t (0 : Fin 2) * 1024 + 1 * a.val = 1024 * (t.val / 2) + a.val; omega
  | ⟨1, _⟩ => show win0_2.index t (1 : Fin 2) * 512 + 1 * b.val = 512 * (t.val % 2) + b.val; omega

theorem emb3 (t : Fin cfg0.N) (a : Fin 1024) (b : Fin 512) : ((cfg0.win 3).blk t).view.emb (ix2 a b) = (ix2 (rowOf t a) (colOf t b) : S16384x1024.Idx) := by
  obtain ⟨e0, e1⟩ := idx3 t
  funext x; apply Fin.ext
  match x with
  | ⟨0, _⟩ => show win0_3.index t (0 : Fin 2) * 1024 + 1 * a.val = 1024 * (t.val / 2) + a.val; omega
  | ⟨1, _⟩ => show win0_3.index t (1 : Fin 2) * 512 + 1 * b.val = 512 * (t.val % 2) + b.val; omega

/-- The point in whose block a row and a column lie, and their places there. -/
def pointOf (r : Fin 16384) (q : Fin 1024) : Fin cfg0.N :=
  ⟨2 * (r.val / 1024) + q.val / 512, lt_of_lt_of_eq (by have := r.isLt; have := q.isLt; omega) N_0.symm⟩
def rowAt (r : Fin 16384) : Fin 1024 := ⟨r.val % 1024, Nat.mod_lt _ (by decide)⟩
def colAt (q : Fin 1024) : Fin 512 := ⟨q.val % 512, Nat.mod_lt _ (by decide)⟩

theorem rowOf_pointOf (r : Fin 16384) (q : Fin 1024) : rowOf (pointOf r q) (rowAt r) = r := Fin.ext (by
  show 1024 * ((2 * (r.val / 1024) + q.val / 512) / 2) + r.val % 1024 = r.val
  have := q.isLt; omega)
theorem colOf_pointOf (r : Fin 16384) (q : Fin 1024) : colOf (pointOf r q) (colAt q) = q := Fin.ext (by
  show 512 * ((2 * (r.val / 1024) + q.val / 512) % 2) + q.val % 512 = q.val
  have := q.isLt; omega)

/-! ## The result -/

/-- The product with the residual as an array. -/
def prod (x : Vec Ideal S16384x2816 .f32) (w : Vec Ideal S2816x1024 .f32) (h : Vec Ideal S16384x1024 .f32) : Vec Ideal S16384x1024 .f32 :=
  fun y => (∑ j : Fin 2816, x (ix2 (y 0) j) * w (ix2 j (y 1))) + h y

/-- What a point reads of its three blocks. -/
theorem read0 (t : Fin cfg0.N) (a : Fin 1024) (j : Fin 2816) :
    (iblk m c 0 t : Vec Ideal S1024x2816 .bf16) (ix2 a j) = (m (c.tc.loc main_arg0) : Vec Ideal S16384x2816 .f32) (ix2 (rowOf t a) j) := by
  show V m c main_v0 (((cfg0.win 0).blk t).view.emb (ix2 a j)) = _
  rw [emb0, V_main_v0]
  rfl

theorem read1 (t : Fin cfg0.N) (j : Fin 2816) (b : Fin 512) :
    (iblk m c 1 t : Vec Ideal S2816x512 .bf16) (ix2 j b) = (m (c.tc.loc main_arg1) : Vec Ideal S2816x1024 .f32) (ix2 j (colOf t b)) := by
  show V m c main_v1 (((cfg0.win 1).blk t).view.emb (ix2 j b)) = _
  rw [emb1, V_main_v1]
  rfl

theorem read2 (t : Fin cfg0.N) (a : Fin 1024) (b : Fin 512) :
    (iblk m c 2 t : Vec Ideal S1024x512 .f32) (ix2 a b) = (m (c.tc.loc main_arg2) : Vec Ideal S16384x1024 .f32) (ix2 (rowOf t a) (colOf t b)) := by
  show V m c main_arg2 (((cfg0.win 2).blk t).view.emb (ix2 a b)) = _
  rw [emb2, V_main_arg2]

/-- A point's block holds its part of the sum. -/
theorem block_apply (t : Fin cfg0.N) (a : Fin 1024) (b : Fin 512) :
    outsAt0 m c t (ix2 a b) = prod (m (c.tc.loc main_arg0)) (m (c.tc.loc main_arg1)) (m (c.tc.loc main_arg2)) (ix2 (rowOf t a) (colOf t b)) := by
  rw [block_eq]
  exact (pay_apply _ _ _ a b).trans (congrArg₂ (· + ·)
    (Finset.sum_congr rfl fun j _ => congrArg₂ (· * ·) (read0 m c t a j) (read1 m c t j b)) (read2 m c t a b))

attribute [local irreducible] outsAt0 prod

/-- The whole array after the last point. -/
theorem array_eq : (dats m 0 c).arrAt 3 cfg0.N = prod (m (c.tc.loc main_arg0)) (m (c.tc.loc main_arg1)) (m (c.tc.loc main_arg2)) := by
  refine (dats m 0 c).arrAt_eq_of_cover 3 (prod (m (c.tc.loc main_arg0)) (m (c.tc.loc main_arg1)) (m (c.tc.loc main_arg2))) (fun t _ => ?_) (fun y => ?_)
  · show (cfg0.win 3).cut (grid0.coords t) ((dats m 0 c).after 3 t) = _
    funext y
    obtain ⟨a, b, rfl⟩ : ∃ (a : Fin 1024) (b : Fin 512), y = ix2 a b := pair y
    show outsAt0 m c t (ix2 a b) = prod (m (c.tc.loc main_arg0)) (m (c.tc.loc main_arg1)) (m (c.tc.loc main_arg2)) (((cfg0.win 3).blk t).view.emb (ix2 a b))
    rw [emb3, block_apply]
  · obtain ⟨r, q, rfl⟩ : ∃ (r : Fin 16384) (q : Fin 1024), y = ix2 r q := pair y
    refine ⟨pointOf r q, flush0_3 _, ?_⟩
    have e := emb3 (pointOf r q) (rowAt r) (colAt q)
    rw [rowOf_pointOf, colOf_pointOf] at e
    rw [← e]
    exact View.emb_mem_set _ _

/-- The kernel's run: the sum, the arguments kept. -/
theorem values (g : Dev nD → PrngReg) : θ_run (defs (F := Ideal)) (onTc (τ := τ) (main (F := Ideal))) ⟨m, fun _ => 0, g⟩
    (fun r => ∀ c : Dev nD, r.2.mem (c.tc.loc main_v2) = prod (m (c.tc.loc main_arg0)) (m (c.tc.loc main_arg1)) (m (c.tc.loc main_arg2))
      ∧ r.2.mem (c.tc.loc main_arg0) = m (c.tc.loc main_arg0) ∧ r.2.mem (c.tc.loc main_arg1) = m (c.tc.loc main_arg1)
      ∧ r.2.mem (c.tc.loc main_arg2) = m (c.tc.loc main_arg2)) :=
  (θ_run _ _ _).mono (fun r h c => ⟨((h.1 c).1 3).trans (array_eq m c), h.2.1 c⟩) (θ_run_and (run_main m g) (frame m g))

end Cert.Kernel8Ideal.Down

namespace Cert.Reference8Ideal.Down

open Cert.Reference8Ideal Cert.Reference8Ideal.Gen
open Idealize.ShloMosaic TcCoe
open Idealize.SL.Sem
open Cert.Kernel8Ideal.Down (prod)
open Cert.Head (pair)

/-- The reference's product with the residual, -/
def dot {F : FTy → Type} [FloatOps F] (x : Vec F S16384x2816 .f32) (w : Vec F S2816x1024 .f32) (h : Vec F S16384x1024 .f32) : Vec F S16384x1024 .f32 :=
  addf h (Host.dotGeneral dot_S16384x2816_S2816x1024_S16384x1024_1_0_0_1_n_n none x w)

/-- element by element the sum over the inner width and the residual. -/
theorem dot_eq (x : Vec Ideal S16384x2816 .f32) (w : Vec Ideal S2816x1024 .f32) (h : Vec Ideal S16384x1024 .f32) : dot x w h = prod x w h := funext fun y => by
  obtain ⟨i, d, rfl⟩ : ∃ (i : Fin 16384) (d : Fin 1024), y = ix2 i d := pair y
  show dot x w h (ix2 i d) = (∑ j : Fin 2816, x (ix2 i j) * w (ix2 j d)) + h (ix2 i d)
  pointwise [dot]
  rw [add_comm]

end Cert.Reference8Ideal.Down

namespace Cert.Proof

open Idealize.ShloMosaic TcCoe
open Idealize.SL.Sem

/-- The kernel and the reference end with the same sum. -/
theorem algebraic8 : algebraic_Kernel8Ideal_Reference8Ideal (hKernel8Ideal := Kernel8Ideal.Gen.facts)
    (hReference8Ideal := Reference8Ideal.Gen.facts) := fun m g m' g' _ ha =>
  ⟨fun c => Kernel8Ideal.Down.prod (m (c.tc.loc Kernel8Ideal.main_arg0)) (m (c.tc.loc Kernel8Ideal.main_arg1))
      (m (c.tc.loc Kernel8Ideal.main_arg2)),
    Kernel8Ideal.Down.values m g,
    (θ_run _ _ _).mono (fun r h c => ⟨(h c).1.trans (by
      refine (Reference8Ideal.Down.dot_eq _ _ _).trans ?_
      rw [(ha c).1, (ha c).2.1, (ha c).2.2]), (h c).2⟩) (Reference8Ideal.Value.run (F := Ideal) m' g')⟩

theorem frame_reference8 : quiescent_Reference8Ideal (hReference8Ideal := Reference8Ideal.Gen.facts) := fun m g _ =>
  (θ_run _ _ _).mono (fun r h => ⟨fun c => (h c).2, sem_eq_zero_of_no_sems (by decide) r.2⟩) (Reference8Ideal.Value.run (F := Ideal) m g)

end Cert.Proof
-- ==== Proof.Adam.Update.lean ====
/-
  One step of AdamW, element by element: the gradient from its two halves, the change of the weight and the two moments. The constants are
  the ones of the program, rounded to float32.
-/
module

public import proofs.«01_k».proof.Proof.Mm.Common

@[expose] public section

noncomputable section

namespace Cert.Adam

open Idealize.ShloMosaic TcCoe

/-- A float32 at the ideal instance, and the constant of a bit pattern. -/
abbrev E : Type := Ideal .f32
def lit (b : BitVec 32) : E := Ideal.ofBits .f32 b

/-- The gradient is the sum of the halves of the two chips that share a shard. -/
def grad (a b w m v : E) : E := FloatOps.addf a b

/-- The first moment, with 0.9 of the old one, -/
def first (a b w m v : E) : E := FloatOps.addf (FloatOps.mulf (lit 0x3F666666#32) m) (FloatOps.mulf (lit 0x3DCCCCCD#32) (FloatOps.addf a b))

/-- and the second, with 0.999 of the old one. -/
def second (a b w m v : E) : E :=
  FloatOps.addf (FloatOps.mulf (lit 0x3F7FBE77#32) v) (FloatOps.mulf (lit 0x3A83126F#32) (FloatOps.mulf (FloatOps.addf a b) (FloatOps.addf a b)))

/-- The change of the weight: the first moment over the root of the second, both corrected for the tenth step, and the decay. -/
def change (a b w m v : E) : E :=
  FloatOps.mulf (lit 0xBA83126F#32)
    (FloatOps.addf
      (FloatOps.divf (FloatOps.divf (first a b w m v) (lit 0x3F26BD02#32))
        (FloatOps.addf (FloatOps.sqrt (FloatOps.divf (second a b w m v) (lit 0x3C231ACC#32))) (lit 0x322BCC77#32)))
      (FloatOps.mulf (lit 0x3C23D70A#32) w))

/-- A function of five numbers at each place of five arrays. -/
def each {s : Shape} (f : E → E → E → E → E → E) (a b w m v : Vec Ideal s .f32) : Vec Ideal s .f32 := fun y => f (a y) (b y) (w y) (m y) (v y)

/-- The offsets at which a block is loaded and stored. -/
theorem zero2 : (![0, 0] : Fin 2 → ℕ) = fun _ => 0 := by decide

end Cert.Adam
-- ==== Proof.Adam.MlaA.lean ====
/-
  The optimiser's call for the shard of the down projection of the attention, 256 by 704: each block is updated element by element, the blocks are the whole arrays, and the
  reference's arrays are the same.
-/
module

public import proofs.«01_k».proof.Defs
public import proofs.«01_k».proof.Proof.Adam.Update
public import Idealize.ShloMosaic.Lib.Quiescent
public import Idealize.ShloMosaic.Lib.Pipeline.Value
public import proofs.«01_k».proof.Proof.Gen.Kernel9Ideal.Frame
public import proofs.«01_k».proof.Proof.Gen.Reference9Ideal.Run

@[expose] public section

set_option maxRecDepth 16384

noncomputable section

namespace Cert.Kernel9Ideal.Adam

open Cert.Kernel9Ideal Cert.Kernel9Ideal.Gen
open Idealize.ShloMosaic TcCoe
open Idealize.SL.Sem
open Idealize.ShloMosaic.Pipeline (Dat)
open Cert.Head (pair)
open Cert.Adam (each grad first second change E zero2)

variable (m : (ℓ : Loc nD τ sig) → Buf (Elt Ideal) ℓ) (c : Dev nD)

/-! ## One block -/

theorem loaded (x : Vec Ideal S256x704 .f32) : View.ld x r0_0 = x := View.ld_unit_zero zero2 _ x

theorem outs (a b w p q : Vec Ideal S256x704 .f32) : out0_5 a b w p q = each grad a b w p q ∧ out0_6 a b w p q = each change a b w p q
    ∧ out0_7 a b w p q = each first a b w p q ∧ out0_8 a b w p q = each second a b w p q := by
  unfold out0_5 out0_6 out0_7 out0_8
  refine ⟨?_, ?_, ?_, ?_⟩ <;> (rw [View.canon_unit_zero zero2]; simp only [loaded]; rfl)

/-! ## Where the blocks lie -/

theorem idx5 : ∀ t : Fin cfg0.N, win0_5.index t (0 : Fin 2) = t.val ∧ win0_5.index t (1 : Fin 2) = 0 :=
  (by decide +kernel : ∀ t : Fin grid0.N, _)

/-- The point in whose block a row lies, and the row's place there. -/
def pointOf (r : Fin 256) : Fin cfg0.N := ⟨r.val / 256, lt_of_lt_of_eq (by have := r.isLt; omega) N_0.symm⟩
def rowAt (r : Fin 256) : Fin 256 := ⟨r.val % 256, Nat.mod_lt _ (by decide)⟩

theorem emb5 (r : Fin 256) (q : Fin 704) : ((cfg0.win 5).blk (pointOf r)).view.emb (ix2 (rowAt r) q) = (ix2 r q : S256x704.Idx) := by
  obtain ⟨e0, e1⟩ := idx5 (pointOf r)
  have h : (pointOf r).val = r.val / 256 := rfl
  funext x; apply Fin.ext
  match x with
  | ⟨0, _⟩ => show win0_5.index (pointOf r) (0 : Fin 2) * 256 + 1 * (r.val % 256) = r.val; omega
  | ⟨1, _⟩ => show win0_5.index (pointOf r) (1 : Fin 2) * 704 + 1 * q.val = q.val; omega

/-- So every element is in a block, -/
theorem cover (y : S256x704.Idx) : y ∈ ((cfg0.win 5).blk (pointOf (y 0))).view.set := by
  obtain ⟨r, q, rfl⟩ : ∃ (r : Fin 256) (q : Fin 704), y = ix2 r q := pair y
  have e := emb5 r q
  show ix2 r q ∈ ((cfg0.win 5).blk (pointOf r)).view.set
  rw [← e]
  exact View.emb_mem_set _ _

/-! ## The whole arrays -/

/-- The function `f` of the five arguments' elements, everywhere. -/
def result (f : E → E → E → E → E → E) : Vec Ideal S256x704 .f32 :=
  each f (m (c.tc.loc main_arg0)) (m (c.tc.loc main_arg1)) (m (c.tc.loc main_arg2)) (m (c.tc.loc main_arg3)) (m (c.tc.loc main_arg4))

/-- and all nine windows lie alike. -/
theorem read (f : E → E → E → E → E → E) (t : Fin cfg0.N) (y : S256x704.Idx) :
    each (s := S256x704) f (iblk m c 0 t) (iblk m c 1 t) (iblk m c 2 t) (iblk m c 3 t) (iblk m c 4 t) y = result m c f (((cfg0.win 5).blk t).view.emb y) := by
  show f (V m c main_arg0 _) (V m c main_arg1 _) (V m c main_arg2 _) (V m c main_arg3 _) (V m c main_arg4 _) = _
  rw [V_main_arg0, V_main_arg1, V_main_arg2, V_main_arg3, V_main_arg4]
  rfl

attribute [local irreducible] out0_5 out0_6 out0_7 out0_8 result

theorem array5 : (dats m 0 c).arrAt 5 cfg0.N = result m c grad := by
  refine (dats m 0 c).arrAt_eq_of_cover 5 (result m c grad) (fun t _ => ?_) fun y => ⟨pointOf (y 0), flush0_5 _, cover y⟩
  show (cfg0.win 5).cut (grid0.coords t) ((dats m 0 c).after 5 t) = _
  rw [after0_5, (outs _ _ _ _ _).1]
  exact funext (read m c grad t)

theorem array6 : (dats m 0 c).arrAt 6 cfg0.N = result m c change := by
  refine (dats m 0 c).arrAt_eq_of_cover 6 (result m c change) (fun t _ => ?_) fun y => ⟨pointOf (y 0), flush0_6 _, cover y⟩
  show (cfg0.win 6).cut (grid0.coords t) ((dats m 0 c).after 6 t) = _
  rw [after0_6, (outs _ _ _ _ _).2.1]
  exact funext (read m c change t)

theorem array7 : (dats m 0 c).arrAt 7 cfg0.N = result m c first := by
  refine (dats m 0 c).arrAt_eq_of_cover 7 (result m c first) (fun t _ => ?_) fun y => ⟨pointOf (y 0), flush0_7 _, cover y⟩
  show (cfg0.win 7).cut (grid0.coords t) ((dats m 0 c).after 7 t) = _
  rw [after0_7, (outs _ _ _ _ _).2.2.1]
  exact funext (read m c first t)

theorem array8 : (dats m 0 c).arrAt 8 cfg0.N = result m c second := by
  refine (dats m 0 c).arrAt_eq_of_cover 8 (result m c second) (fun t _ => ?_) fun y => ⟨pointOf (y 0), flush0_8 _, cover y⟩
  show (cfg0.win 8).cut (grid0.coords t) ((dats m 0 c).after 8 t) = _
  rw [after0_8, (outs _ _ _ _ _).2.2.2]
  exact funext (read m c second t)

end Cert.Kernel9Ideal.Adam

namespace Cert.Proof

open Idealize.ShloMosaic TcCoe
open Idealize.SL.Sem
open Cert.Adam (grad first second change)

open Kernel9Ideal.Adam in
/-- The kernel and the reference end with the same gradient, change of the weight and moments. -/
theorem algebraic9 : algebraic_Kernel9Ideal_Reference9Ideal (hKernel9Ideal := Kernel9Ideal.Gen.facts)
    (hReference9Ideal := Reference9Ideal.Gen.facts) := fun m g m' g' _ ha =>
  ⟨fun c => result m c grad, fun c => result m c change, fun c => result m c first, fun c => result m c second,
    (θ_run _ _ _).mono (fun r h c => ⟨((h.1 c).1 5).trans (array5 m c), ((h.1 c).1 6).trans (array6 m c), ((h.1 c).1 7).trans (array7 m c),
      ((h.1 c).1 8).trans (array8 m c), h.2.1 c⟩) (θ_run_and (Kernel9Ideal.Gen.run_main m g) (Kernel9Ideal.Gen.frame m g)),
    (θ_run _ _ _).mono (fun r h c => by
      obtain ⟨h0, h1, h2, h3, hk⟩ := h c
      obtain ⟨a0, a1, a2, a3, a4⟩ := ha c
      rw [a0, a1] at h0
      rw [a0, a1, a2, a3, a4] at h1
      rw [a0, a1, a3] at h2
      rw [a0, a1, a4] at h3
      exact ⟨h0, h1, h2, h3, hk⟩) (Reference9Ideal.Value.run (F := Ideal) m' g')⟩

theorem frame_reference9 : quiescent_Reference9Ideal (hReference9Ideal := Reference9Ideal.Gen.facts) := fun m g _ =>
  (θ_run _ _ _).mono (fun r h => ⟨fun c => (h c).2.2.2.2, sem_eq_zero_of_no_sems (by decide) r.2⟩) (Reference9Ideal.Value.run (F := Ideal) m g)

end Cert.Proof
-- ==== Proof.Adam.MlaUq.lean ====
/-
  The optimiser's call for the shard of the queries' up projection, 384 by 384: each block is updated element by element, the blocks are the whole arrays, and the
  reference's arrays are the same.
-/
module

public import proofs.«01_k».proof.Defs
public import proofs.«01_k».proof.Proof.Adam.Update
public import Idealize.ShloMosaic.Lib.Quiescent
public import Idealize.ShloMosaic.Lib.Pipeline.Value
public import proofs.«01_k».proof.Proof.Gen.Kernel10Ideal.Frame
public import proofs.«01_k».proof.Proof.Gen.Reference10Ideal.Run

@[expose] public section

set_option maxRecDepth 16384

noncomputable section

namespace Cert.Kernel10Ideal.Adam

open Cert.Kernel10Ideal Cert.Kernel10Ideal.Gen
open Idealize.ShloMosaic TcCoe
open Idealize.SL.Sem
open Idealize.ShloMosaic.Pipeline (Dat)
open Cert.Head (pair)
open Cert.Adam (each grad first second change E zero2)

variable (m : (ℓ : Loc nD τ sig) → Buf (Elt Ideal) ℓ) (c : Dev nD)

/-! ## One block -/

theorem loaded (x : Vec Ideal S384x384 .f32) : View.ld x r0_0 = x := View.ld_unit_zero zero2 _ x

theorem outs (a b w p q : Vec Ideal S384x384 .f32) : out0_5 a b w p q = each grad a b w p q ∧ out0_6 a b w p q = each change a b w p q
    ∧ out0_7 a b w p q = each first a b w p q ∧ out0_8 a b w p q = each second a b w p q := by
  unfold out0_5 out0_6 out0_7 out0_8
  refine ⟨?_, ?_, ?_, ?_⟩ <;> (rw [View.canon_unit_zero zero2]; simp only [loaded]; rfl)

/-! ## Where the blocks lie -/

theorem idx5 : ∀ t : Fin cfg0.N, win0_5.index t (0 : Fin 2) = t.val ∧ win0_5.index t (1 : Fin 2) = 0 :=
  (by decide +kernel : ∀ t : Fin grid0.N, _)

/-- The point in whose block a row lies, and the row's place there. -/
def pointOf (r : Fin 384) : Fin cfg0.N := ⟨r.val / 384, lt_of_lt_of_eq (by have := r.isLt; omega) N_0.symm⟩
def rowAt (r : Fin 384) : Fin 384 := ⟨r.val % 384, Nat.mod_lt _ (by decide)⟩

theorem emb5 (r : Fin 384) (q : Fin 384) : ((cfg0.win 5).blk (pointOf r)).view.emb (ix2 (rowAt r) q) = (ix2 r q : S384x384.Idx) := by
  obtain ⟨e0, e1⟩ := idx5 (pointOf r)
  have h : (pointOf r).val = r.val / 384 := rfl
  funext x; apply Fin.ext
  match x with
  | ⟨0, _⟩ => show win0_5.index (pointOf r) (0 : Fin 2) * 384 + 1 * (r.val % 384) = r.val; omega
  | ⟨1, _⟩ => show win0_5.index (pointOf r) (1 : Fin 2) * 384 + 1 * q.val = q.val; omega

/-- So every element is in a block, -/
theorem cover (y : S384x384.Idx) : y ∈ ((cfg0.win 5).blk (pointOf (y 0))).view.set := by
  obtain ⟨r, q, rfl⟩ : ∃ (r : Fin 384) (q : Fin 384), y = ix2 r q := pair y
  have e := emb5 r q
  show ix2 r q ∈ ((cfg0.win 5).blk (pointOf r)).view.set
  rw [← e]
  exact View.emb_mem_set _ _

/-! ## The whole arrays -/

/-- The function `f` of the five arguments' elements, everywhere. -/
def result (f : E → E → E → E → E → E) : Vec Ideal S384x384 .f32 :=
  each f (m (c.tc.loc main_arg0)) (m (c.tc.loc main_arg1)) (m (c.tc.loc main_arg2)) (m (c.tc.loc main_arg3)) (m (c.tc.loc main_arg4))

/-- and all nine windows lie alike. -/
theorem read (f : E → E → E → E → E → E) (t : Fin cfg0.N) (y : S384x384.Idx) :
    each (s := S384x384) f (iblk m c 0 t) (iblk m c 1 t) (iblk m c 2 t) (iblk m c 3 t) (iblk m c 4 t) y = result m c f (((cfg0.win 5).blk t).view.emb y) := by
  show f (V m c main_arg0 _) (V m c main_arg1 _) (V m c main_arg2 _) (V m c main_arg3 _) (V m c main_arg4 _) = _
  rw [V_main_arg0, V_main_arg1, V_main_arg2, V_main_arg3, V_main_arg4]
  rfl

attribute [local irreducible] out0_5 out0_6 out0_7 out0_8 result

theorem array5 : (dats m 0 c).arrAt 5 cfg0.N = result m c grad := by
  refine (dats m 0 c).arrAt_eq_of_cover 5 (result m c grad) (fun t _ => ?_) fun y => ⟨pointOf (y 0), flush0_5 _, cover y⟩
  show (cfg0.win 5).cut (grid0.coords t) ((dats m 0 c).after 5 t) = _
  rw [after0_5, (outs _ _ _ _ _).1]
  exact funext (read m c grad t)

theorem array6 : (dats m 0 c).arrAt 6 cfg0.N = result m c change := by
  refine (dats m 0 c).arrAt_eq_of_cover 6 (result m c change) (fun t _ => ?_) fun y => ⟨pointOf (y 0), flush0_6 _, cover y⟩
  show (cfg0.win 6).cut (grid0.coords t) ((dats m 0 c).after 6 t) = _
  rw [after0_6, (outs _ _ _ _ _).2.1]
  exact funext (read m c change t)

theorem array7 : (dats m 0 c).arrAt 7 cfg0.N = result m c first := by
  refine (dats m 0 c).arrAt_eq_of_cover 7 (result m c first) (fun t _ => ?_) fun y => ⟨pointOf (y 0), flush0_7 _, cover y⟩
  show (cfg0.win 7).cut (grid0.coords t) ((dats m 0 c).after 7 t) = _
  rw [after0_7, (outs _ _ _ _ _).2.2.1]
  exact funext (read m c first t)

theorem array8 : (dats m 0 c).arrAt 8 cfg0.N = result m c second := by
  refine (dats m 0 c).arrAt_eq_of_cover 8 (result m c second) (fun t _ => ?_) fun y => ⟨pointOf (y 0), flush0_8 _, cover y⟩
  show (cfg0.win 8).cut (grid0.coords t) ((dats m 0 c).after 8 t) = _
  rw [after0_8, (outs _ _ _ _ _).2.2.2]
  exact funext (read m c second t)

end Cert.Kernel10Ideal.Adam

namespace Cert.Proof

open Idealize.ShloMosaic TcCoe
open Idealize.SL.Sem
open Cert.Adam (grad first second change)

open Kernel10Ideal.Adam in
/-- The kernel and the reference end with the same gradient, change of the weight and moments. -/
theorem algebraic10 : algebraic_Kernel10Ideal_Reference10Ideal (hKernel10Ideal := Kernel10Ideal.Gen.facts)
    (hReference10Ideal := Reference10Ideal.Gen.facts) := fun m g m' g' _ ha =>
  ⟨fun c => result m c grad, fun c => result m c change, fun c => result m c first, fun c => result m c second,
    (θ_run _ _ _).mono (fun r h c => ⟨((h.1 c).1 5).trans (array5 m c), ((h.1 c).1 6).trans (array6 m c), ((h.1 c).1 7).trans (array7 m c),
      ((h.1 c).1 8).trans (array8 m c), h.2.1 c⟩) (θ_run_and (Kernel10Ideal.Gen.run_main m g) (Kernel10Ideal.Gen.frame m g)),
    (θ_run _ _ _).mono (fun r h c => by
      obtain ⟨h0, h1, h2, h3, hk⟩ := h c
      obtain ⟨a0, a1, a2, a3, a4⟩ := ha c
      rw [a0, a1] at h0
      rw [a0, a1, a2, a3, a4] at h1
      rw [a0, a1, a3] at h2
      rw [a0, a1, a4] at h3
      exact ⟨h0, h1, h2, h3, hk⟩) (Reference10Ideal.Value.run (F := Ideal) m' g')⟩

theorem frame_reference10 : quiescent_Reference10Ideal (hReference10Ideal := Reference10Ideal.Gen.facts) := fun m g _ =>
  (θ_run _ _ _).mono (fun r h => ⟨fun c => (h c).2.2.2.2, sem_eq_zero_of_no_sems (by decide) r.2⟩) (Reference10Ideal.Value.run (F := Ideal) m g)

end Cert.Proof
-- ==== Proof.Adam.MlaUkv.lean ====
/-
  The optimiser's call for the shard of the keys' and values' up projection, 256 by 512: each block is updated element by element, the blocks are the whole arrays, and the
  reference's arrays are the same.
-/
module

public import proofs.«01_k».proof.Defs
public import proofs.«01_k».proof.Proof.Adam.Update
public import Idealize.ShloMosaic.Lib.Quiescent
public import Idealize.ShloMosaic.Lib.Pipeline.Value
public import proofs.«01_k».proof.Proof.Gen.Kernel11Ideal.Frame
public import proofs.«01_k».proof.Proof.Gen.Reference11Ideal.Run

@[expose] public section

set_option maxRecDepth 16384

noncomputable section

namespace Cert.Kernel11Ideal.Adam

open Cert.Kernel11Ideal Cert.Kernel11Ideal.Gen
open Idealize.ShloMosaic TcCoe
open Idealize.SL.Sem
open Idealize.ShloMosaic.Pipeline (Dat)
open Cert.Head (pair)
open Cert.Adam (each grad first second change E zero2)

variable (m : (ℓ : Loc nD τ sig) → Buf (Elt Ideal) ℓ) (c : Dev nD)

/-! ## One block -/

theorem loaded (x : Vec Ideal S256x512 .f32) : View.ld x r0_0 = x := View.ld_unit_zero zero2 _ x

theorem outs (a b w p q : Vec Ideal S256x512 .f32) : out0_5 a b w p q = each grad a b w p q ∧ out0_6 a b w p q = each change a b w p q
    ∧ out0_7 a b w p q = each first a b w p q ∧ out0_8 a b w p q = each second a b w p q := by
  unfold out0_5 out0_6 out0_7 out0_8
  refine ⟨?_, ?_, ?_, ?_⟩ <;> (rw [View.canon_unit_zero zero2]; simp only [loaded]; rfl)

/-! ## Where the blocks lie -/

theorem idx5 : ∀ t : Fin cfg0.N, win0_5.index t (0 : Fin 2) = t.val ∧ win0_5.index t (1 : Fin 2) = 0 :=
  (by decide +kernel : ∀ t : Fin grid0.N, _)

/-- The point in whose block a row lies, and the row's place there. -/
def pointOf (r : Fin 256) : Fin cfg0.N := ⟨r.val / 256, lt_of_lt_of_eq (by have := r.isLt; omega) N_0.symm⟩
def rowAt (r : Fin 256) : Fin 256 := ⟨r.val % 256, Nat.mod_lt _ (by decide)⟩

theorem emb5 (r : Fin 256) (q : Fin 512) : ((cfg0.win 5).blk (pointOf r)).view.emb (ix2 (rowAt r) q) = (ix2 r q : S256x512.Idx) := by
  obtain ⟨e0, e1⟩ := idx5 (pointOf r)
  have h : (pointOf r).val = r.val / 256 := rfl
  funext x; apply Fin.ext
  match x with
  | ⟨0, _⟩ => show win0_5.index (pointOf r) (0 : Fin 2) * 256 + 1 * (r.val % 256) = r.val; omega
  | ⟨1, _⟩ => show win0_5.index (pointOf r) (1 : Fin 2) * 512 + 1 * q.val = q.val; omega

/-- So every element is in a block, -/
theorem cover (y : S256x512.Idx) : y ∈ ((cfg0.win 5).blk (pointOf (y 0))).view.set := by
  obtain ⟨r, q, rfl⟩ : ∃ (r : Fin 256) (q : Fin 512), y = ix2 r q := pair y
  have e := emb5 r q
  show ix2 r q ∈ ((cfg0.win 5).blk (pointOf r)).view.set
  rw [← e]
  exact View.emb_mem_set _ _

/-! ## The whole arrays -/

/-- The function `f` of the five arguments' elements, everywhere. -/
def result (f : E → E → E → E → E → E) : Vec Ideal S256x512 .f32 :=
  each f (m (c.tc.loc main_arg0)) (m (c.tc.loc main_arg1)) (m (c.tc.loc main_arg2)) (m (c.tc.loc main_arg3)) (m (c.tc.loc main_arg4))

/-- and all nine windows lie alike. -/
theorem read (f : E → E → E → E → E → E) (t : Fin cfg0.N) (y : S256x512.Idx) :
    each (s := S256x512) f (iblk m c 0 t) (iblk m c 1 t) (iblk m c 2 t) (iblk m c 3 t) (iblk m c 4 t) y = result m c f (((cfg0.win 5).blk t).view.emb y) := by
  show f (V m c main_arg0 _) (V m c main_arg1 _) (V m c main_arg2 _) (V m c main_arg3 _) (V m c main_arg4 _) = _
  rw [V_main_arg0, V_main_arg1, V_main_arg2, V_main_arg3, V_main_arg4]
  rfl

attribute [local irreducible] out0_5 out0_6 out0_7 out0_8 result

theorem array5 : (dats m 0 c).arrAt 5 cfg0.N = result m c grad := by
  refine (dats m 0 c).arrAt_eq_of_cover 5 (result m c grad) (fun t _ => ?_) fun y => ⟨pointOf (y 0), flush0_5 _, cover y⟩
  show (cfg0.win 5).cut (grid0.coords t) ((dats m 0 c).after 5 t) = _
  rw [after0_5, (outs _ _ _ _ _).1]
  exact funext (read m c grad t)

theorem array6 : (dats m 0 c).arrAt 6 cfg0.N = result m c change := by
  refine (dats m 0 c).arrAt_eq_of_cover 6 (result m c change) (fun t _ => ?_) fun y => ⟨pointOf (y 0), flush0_6 _, cover y⟩
  show (cfg0.win 6).cut (grid0.coords t) ((dats m 0 c).after 6 t) = _
  rw [after0_6, (outs _ _ _ _ _).2.1]
  exact funext (read m c change t)

theorem array7 : (dats m 0 c).arrAt 7 cfg0.N = result m c first := by
  refine (dats m 0 c).arrAt_eq_of_cover 7 (result m c first) (fun t _ => ?_) fun y => ⟨pointOf (y 0), flush0_7 _, cover y⟩
  show (cfg0.win 7).cut (grid0.coords t) ((dats m 0 c).after 7 t) = _
  rw [after0_7, (outs _ _ _ _ _).2.2.1]
  exact funext (read m c first t)

theorem array8 : (dats m 0 c).arrAt 8 cfg0.N = result m c second := by
  refine (dats m 0 c).arrAt_eq_of_cover 8 (result m c second) (fun t _ => ?_) fun y => ⟨pointOf (y 0), flush0_8 _, cover y⟩
  show (cfg0.win 8).cut (grid0.coords t) ((dats m 0 c).after 8 t) = _
  rw [after0_8, (outs _ _ _ _ _).2.2.2]
  exact funext (read m c second t)

end Cert.Kernel11Ideal.Adam

namespace Cert.Proof

open Idealize.ShloMosaic TcCoe
open Idealize.SL.Sem
open Cert.Adam (grad first second change)

open Kernel11Ideal.Adam in
/-- The kernel and the reference end with the same gradient, change of the weight and moments. -/
theorem algebraic11 : algebraic_Kernel11Ideal_Reference11Ideal (hKernel11Ideal := Kernel11Ideal.Gen.facts)
    (hReference11Ideal := Reference11Ideal.Gen.facts) := fun m g m' g' _ ha =>
  ⟨fun c => result m c grad, fun c => result m c change, fun c => result m c first, fun c => result m c second,
    (θ_run _ _ _).mono (fun r h c => ⟨((h.1 c).1 5).trans (array5 m c), ((h.1 c).1 6).trans (array6 m c), ((h.1 c).1 7).trans (array7 m c),
      ((h.1 c).1 8).trans (array8 m c), h.2.1 c⟩) (θ_run_and (Kernel11Ideal.Gen.run_main m g) (Kernel11Ideal.Gen.frame m g)),
    (θ_run _ _ _).mono (fun r h c => by
      obtain ⟨h0, h1, h2, h3, hk⟩ := h c
      obtain ⟨a0, a1, a2, a3, a4⟩ := ha c
      rw [a0, a1] at h0
      rw [a0, a1, a2, a3, a4] at h1
      rw [a0, a1, a3] at h2
      rw [a0, a1, a4] at h3
      exact ⟨h0, h1, h2, h3, hk⟩) (Reference11Ideal.Value.run (F := Ideal) m' g')⟩

theorem frame_reference11 : quiescent_Reference11Ideal (hReference11Ideal := Reference11Ideal.Gen.facts) := fun m g _ =>
  (θ_run _ _ _).mono (fun r h => ⟨fun c => (h c).2.2.2.2, sem_eq_zero_of_no_sems (by decide) r.2⟩) (Reference11Ideal.Value.run (F := Ideal) m g)

end Cert.Proof
-- ==== Proof.Adam.MlaO.lean ====
/-
  The optimiser's call for the shard of the attention's output projection and the S5 input projection, 256 by 1024: each block is updated element by element, the blocks are the whole arrays, and the
  reference's arrays are the same.
-/
module

public import proofs.«01_k».proof.Defs
public import proofs.«01_k».proof.Proof.Adam.Update
public import Idealize.ShloMosaic.Lib.Quiescent
public import Idealize.ShloMosaic.Lib.Pipeline.Value
public import proofs.«01_k».proof.Proof.Gen.Kernel12Ideal.Frame
public import proofs.«01_k».proof.Proof.Gen.Reference12Ideal.Run

@[expose] public section

set_option maxRecDepth 16384

noncomputable section

namespace Cert.Kernel12Ideal.Adam

open Cert.Kernel12Ideal Cert.Kernel12Ideal.Gen
open Idealize.ShloMosaic TcCoe
open Idealize.SL.Sem
open Idealize.ShloMosaic.Pipeline (Dat)
open Cert.Head (pair)
open Cert.Adam (each grad first second change E zero2)

variable (m : (ℓ : Loc nD τ sig) → Buf (Elt Ideal) ℓ) (c : Dev nD)

/-! ## One block -/

theorem loaded (x : Vec Ideal S256x1024 .f32) : View.ld x r0_0 = x := View.ld_unit_zero zero2 _ x

theorem outs (a b w p q : Vec Ideal S256x1024 .f32) : out0_5 a b w p q = each grad a b w p q ∧ out0_6 a b w p q = each change a b w p q
    ∧ out0_7 a b w p q = each first a b w p q ∧ out0_8 a b w p q = each second a b w p q := by
  unfold out0_5 out0_6 out0_7 out0_8
  refine ⟨?_, ?_, ?_, ?_⟩ <;> (rw [View.canon_unit_zero zero2]; simp only [loaded]; rfl)

/-! ## Where the blocks lie -/

theorem idx5 : ∀ t : Fin cfg0.N, win0_5.index t (0 : Fin 2) = t.val ∧ win0_5.index t (1 : Fin 2) = 0 :=
  (by decide +kernel : ∀ t : Fin grid0.N, _)

/-- The point in whose block a row lies, and the row's place there. -/
def pointOf (r : Fin 256) : Fin cfg0.N := ⟨r.val / 256, lt_of_lt_of_eq (by have := r.isLt; omega) N_0.symm⟩
def rowAt (r : Fin 256) : Fin 256 := ⟨r.val % 256, Nat.mod_lt _ (by decide)⟩

theorem emb5 (r : Fin 256) (q : Fin 1024) : ((cfg0.win 5).blk (pointOf r)).view.emb (ix2 (rowAt r) q) = (ix2 r q : S256x1024.Idx) := by
  obtain ⟨e0, e1⟩ := idx5 (pointOf r)
  have h : (pointOf r).val = r.val / 256 := rfl
  funext x; apply Fin.ext
  match x with
  | ⟨0, _⟩ => show win0_5.index (pointOf r) (0 : Fin 2) * 256 + 1 * (r.val % 256) = r.val; omega
  | ⟨1, _⟩ => show win0_5.index (pointOf r) (1 : Fin 2) * 1024 + 1 * q.val = q.val; omega

/-- So every element is in a block, -/
theorem cover (y : S256x1024.Idx) : y ∈ ((cfg0.win 5).blk (pointOf (y 0))).view.set := by
  obtain ⟨r, q, rfl⟩ : ∃ (r : Fin 256) (q : Fin 1024), y = ix2 r q := pair y
  have e := emb5 r q
  show ix2 r q ∈ ((cfg0.win 5).blk (pointOf r)).view.set
  rw [← e]
  exact View.emb_mem_set _ _

/-! ## The whole arrays -/

/-- The function `f` of the five arguments' elements, everywhere. -/
def result (f : E → E → E → E → E → E) : Vec Ideal S256x1024 .f32 :=
  each f (m (c.tc.loc main_arg0)) (m (c.tc.loc main_arg1)) (m (c.tc.loc main_arg2)) (m (c.tc.loc main_arg3)) (m (c.tc.loc main_arg4))

/-- and all nine windows lie alike. -/
theorem read (f : E → E → E → E → E → E) (t : Fin cfg0.N) (y : S256x1024.Idx) :
    each (s := S256x1024) f (iblk m c 0 t) (iblk m c 1 t) (iblk m c 2 t) (iblk m c 3 t) (iblk m c 4 t) y = result m c f (((cfg0.win 5).blk t).view.emb y) := by
  show f (V m c main_arg0 _) (V m c main_arg1 _) (V m c main_arg2 _) (V m c main_arg3 _) (V m c main_arg4 _) = _
  rw [V_main_arg0, V_main_arg1, V_main_arg2, V_main_arg3, V_main_arg4]
  rfl

attribute [local irreducible] out0_5 out0_6 out0_7 out0_8 result

theorem array5 : (dats m 0 c).arrAt 5 cfg0.N = result m c grad := by
  refine (dats m 0 c).arrAt_eq_of_cover 5 (result m c grad) (fun t _ => ?_) fun y => ⟨pointOf (y 0), flush0_5 _, cover y⟩
  show (cfg0.win 5).cut (grid0.coords t) ((dats m 0 c).after 5 t) = _
  rw [after0_5, (outs _ _ _ _ _).1]
  exact funext (read m c grad t)

theorem array6 : (dats m 0 c).arrAt 6 cfg0.N = result m c change := by
  refine (dats m 0 c).arrAt_eq_of_cover 6 (result m c change) (fun t _ => ?_) fun y => ⟨pointOf (y 0), flush0_6 _, cover y⟩
  show (cfg0.win 6).cut (grid0.coords t) ((dats m 0 c).after 6 t) = _
  rw [after0_6, (outs _ _ _ _ _).2.1]
  exact funext (read m c change t)

theorem array7 : (dats m 0 c).arrAt 7 cfg0.N = result m c first := by
  refine (dats m 0 c).arrAt_eq_of_cover 7 (result m c first) (fun t _ => ?_) fun y => ⟨pointOf (y 0), flush0_7 _, cover y⟩
  show (cfg0.win 7).cut (grid0.coords t) ((dats m 0 c).after 7 t) = _
  rw [after0_7, (outs _ _ _ _ _).2.2.1]
  exact funext (read m c first t)

theorem array8 : (dats m 0 c).arrAt 8 cfg0.N = result m c second := by
  refine (dats m 0 c).arrAt_eq_of_cover 8 (result m c second) (fun t _ => ?_) fun y => ⟨pointOf (y 0), flush0_8 _, cover y⟩
  show (cfg0.win 8).cut (grid0.coords t) ((dats m 0 c).after 8 t) = _
  rw [after0_8, (outs _ _ _ _ _).2.2.2]
  exact funext (read m c second t)

end Cert.Kernel12Ideal.Adam

namespace Cert.Proof

open Idealize.ShloMosaic TcCoe
open Idealize.SL.Sem
open Cert.Adam (grad first second change)

open Kernel12Ideal.Adam in
/-- The kernel and the reference end with the same gradient, change of the weight and moments. -/
theorem algebraic12 : algebraic_Kernel12Ideal_Reference12Ideal (hKernel12Ideal := Kernel12Ideal.Gen.facts)
    (hReference12Ideal := Reference12Ideal.Gen.facts) := fun m g m' g' _ ha =>
  ⟨fun c => result m c grad, fun c => result m c change, fun c => result m c first, fun c => result m c second,
    (θ_run _ _ _).mono (fun r h c => ⟨((h.1 c).1 5).trans (array5 m c), ((h.1 c).1 6).trans (array6 m c), ((h.1 c).1 7).trans (array7 m c),
      ((h.1 c).1 8).trans (array8 m c), h.2.1 c⟩) (θ_run_and (Kernel12Ideal.Gen.run_main m g) (Kernel12Ideal.Gen.frame m g)),
    (θ_run _ _ _).mono (fun r h c => by
      obtain ⟨h0, h1, h2, h3, hk⟩ := h c
      obtain ⟨a0, a1, a2, a3, a4⟩ := ha c
      rw [a0, a1] at h0
      rw [a0, a1, a2, a3, a4] at h1
      rw [a0, a1, a3] at h2
      rw [a0, a1, a4] at h3
      exact ⟨h0, h1, h2, h3, hk⟩) (Reference12Ideal.Value.run (F := Ideal) m' g')⟩

theorem frame_reference12 : quiescent_Reference12Ideal (hReference12Ideal := Reference12Ideal.Gen.facts) := fun m g _ =>
  (θ_run _ _ _).mono (fun r h => ⟨fun c => (h c).2.2.2.2, sem_eq_zero_of_no_sems (by decide) r.2⟩) (Reference12Ideal.Value.run (F := Ideal) m g)

end Cert.Proof
-- ==== Proof.Adam.SsmGlu.lean ====
/-
  The optimiser's call for the shard of the S5 gate's projection, 1024 by 512: each block is updated element by element, the blocks are the whole arrays, and the
  reference's arrays are the same.
-/
module

public import proofs.«01_k».proof.Defs
public import proofs.«01_k».proof.Proof.Adam.Update
public import Idealize.ShloMosaic.Lib.Quiescent
public import Idealize.ShloMosaic.Lib.Pipeline.Value
public import proofs.«01_k».proof.Proof.Gen.Kernel13Ideal.Frame
public import proofs.«01_k».proof.Proof.Gen.Reference13Ideal.Run

@[expose] public section

set_option maxRecDepth 16384

noncomputable section

namespace Cert.Kernel13Ideal.Adam

open Cert.Kernel13Ideal Cert.Kernel13Ideal.Gen
open Idealize.ShloMosaic TcCoe
open Idealize.SL.Sem
open Idealize.ShloMosaic.Pipeline (Dat)
open Cert.Head (pair)
open Cert.Adam (each grad first second change E zero2)

variable (m : (ℓ : Loc nD τ sig) → Buf (Elt Ideal) ℓ) (c : Dev nD)

/-! ## One block -/

theorem loaded (x : Vec Ideal S512x512 .f32) : View.ld x r0_0 = x := View.ld_unit_zero zero2 _ x

theorem outs (a b w p q : Vec Ideal S512x512 .f32) : out0_5 a b w p q = each grad a b w p q ∧ out0_6 a b w p q = each change a b w p q
    ∧ out0_7 a b w p q = each first a b w p q ∧ out0_8 a b w p q = each second a b w p q := by
  unfold out0_5 out0_6 out0_7 out0_8
  refine ⟨?_, ?_, ?_, ?_⟩ <;> (rw [View.canon_unit_zero zero2]; simp only [loaded]; rfl)

/-! ## Where the blocks lie -/

theorem idx5 : ∀ t : Fin cfg0.N, win0_5.index t (0 : Fin 2) = t.val ∧ win0_5.index t (1 : Fin 2) = 0 :=
  (by decide +kernel : ∀ t : Fin grid0.N, _)

/-- The point in whose block a row lies, and the row's place there. -/
def pointOf (r : Fin 1024) : Fin cfg0.N := ⟨r.val / 512, lt_of_lt_of_eq (by have := r.isLt; omega) N_0.symm⟩
def rowAt (r : Fin 1024) : Fin 512 := ⟨r.val % 512, Nat.mod_lt _ (by decide)⟩

theorem emb5 (r : Fin 1024) (q : Fin 512) : ((cfg0.win 5).blk (pointOf r)).view.emb (ix2 (rowAt r) q) = (ix2 r q : S1024x512.Idx) := by
  obtain ⟨e0, e1⟩ := idx5 (pointOf r)
  have h : (pointOf r).val = r.val / 512 := rfl
  funext x; apply Fin.ext
  match x with
  | ⟨0, _⟩ => show win0_5.index (pointOf r) (0 : Fin 2) * 512 + 1 * (r.val % 512) = r.val; omega
  | ⟨1, _⟩ => show win0_5.index (pointOf r) (1 : Fin 2) * 512 + 1 * q.val = q.val; omega

/-- So every element is in a block, -/
theorem cover (y : S1024x512.Idx) : y ∈ ((cfg0.win 5).blk (pointOf (y 0))).view.set := by
  obtain ⟨r, q, rfl⟩ : ∃ (r : Fin 1024) (q : Fin 512), y = ix2 r q := pair y
  have e := emb5 r q
  show ix2 r q ∈ ((cfg0.win 5).blk (pointOf r)).view.set
  rw [← e]
  exact View.emb_mem_set _ _

/-! ## The whole arrays -/

/-- The function `f` of the five arguments' elements, everywhere. -/
def result (f : E → E → E → E → E → E) : Vec Ideal S1024x512 .f32 :=
  each f (m (c.tc.loc main_arg0)) (m (c.tc.loc main_arg1)) (m (c.tc.loc main_arg2)) (m (c.tc.loc main_arg3)) (m (c.tc.loc main_arg4))

/-- and all nine windows lie alike. -/
theorem read (f : E → E → E → E → E → E) (t : Fin cfg0.N) (y : S512x512.Idx) :
    each (s := S512x512) f (iblk m c 0 t) (iblk m c 1 t) (iblk m c 2 t) (iblk m c 3 t) (iblk m c 4 t) y = result m c f (((cfg0.win 5).blk t).view.emb y) := by
  show f (V m c main_arg0 _) (V m c main_arg1 _) (V m c main_arg2 _) (V m c main_arg3 _) (V m c main_arg4 _) = _
  rw [V_main_arg0, V_main_arg1, V_main_arg2, V_main_arg3, V_main_arg4]
  rfl

attribute [local irreducible] out0_5 out0_6 out0_7 out0_8 result

theorem array5 : (dats m 0 c).arrAt 5 cfg0.N = result m c grad := by
  refine (dats m 0 c).arrAt_eq_of_cover 5 (result m c grad) (fun t _ => ?_) fun y => ⟨pointOf (y 0), flush0_5 _, cover y⟩
  show (cfg0.win 5).cut (grid0.coords t) ((dats m 0 c).after 5 t) = _
  rw [after0_5, (outs _ _ _ _ _).1]
  exact funext (read m c grad t)

theorem array6 : (dats m 0 c).arrAt 6 cfg0.N = result m c change := by
  refine (dats m 0 c).arrAt_eq_of_cover 6 (result m c change) (fun t _ => ?_) fun y => ⟨pointOf (y 0), flush0_6 _, cover y⟩
  show (cfg0.win 6).cut (grid0.coords t) ((dats m 0 c).after 6 t) = _
  rw [after0_6, (outs _ _ _ _ _).2.1]
  exact funext (read m c change t)

theorem array7 : (dats m 0 c).arrAt 7 cfg0.N = result m c first := by
  refine (dats m 0 c).arrAt_eq_of_cover 7 (result m c first) (fun t _ => ?_) fun y => ⟨pointOf (y 0), flush0_7 _, cover y⟩
  show (cfg0.win 7).cut (grid0.coords t) ((dats m 0 c).after 7 t) = _
  rw [after0_7, (outs _ _ _ _ _).2.2.1]
  exact funext (read m c first t)

theorem array8 : (dats m 0 c).arrAt 8 cfg0.N = result m c second := by
  refine (dats m 0 c).arrAt_eq_of_cover 8 (result m c second) (fun t _ => ?_) fun y => ⟨pointOf (y 0), flush0_8 _, cover y⟩
  show (cfg0.win 8).cut (grid0.coords t) ((dats m 0 c).after 8 t) = _
  rw [after0_8, (outs _ _ _ _ _).2.2.2]
  exact funext (read m c second t)

end Cert.Kernel13Ideal.Adam

namespace Cert.Proof

open Idealize.ShloMosaic TcCoe
open Idealize.SL.Sem
open Cert.Adam (grad first second change)

open Kernel13Ideal.Adam in
/-- The kernel and the reference end with the same gradient, change of the weight and moments. -/
theorem algebraic13 : algebraic_Kernel13Ideal_Reference13Ideal (hKernel13Ideal := Kernel13Ideal.Gen.facts)
    (hReference13Ideal := Reference13Ideal.Gen.facts) := fun m g m' g' _ ha =>
  ⟨fun c => result m c grad, fun c => result m c change, fun c => result m c first, fun c => result m c second,
    (θ_run _ _ _).mono (fun r h c => ⟨((h.1 c).1 5).trans (array5 m c), ((h.1 c).1 6).trans (array6 m c), ((h.1 c).1 7).trans (array7 m c),
      ((h.1 c).1 8).trans (array8 m c), h.2.1 c⟩) (θ_run_and (Kernel13Ideal.Gen.run_main m g) (Kernel13Ideal.Gen.frame m g)),
    (θ_run _ _ _).mono (fun r h c => by
      obtain ⟨h0, h1, h2, h3, hk⟩ := h c
      obtain ⟨a0, a1, a2, a3, a4⟩ := ha c
      rw [a0, a1] at h0
      rw [a0, a1, a2, a3, a4] at h1
      rw [a0, a1, a3] at h2
      rw [a0, a1, a4] at h3
      exact ⟨h0, h1, h2, h3, hk⟩) (Reference13Ideal.Value.run (F := Ideal) m' g')⟩

theorem frame_reference13 : quiescent_Reference13Ideal (hReference13Ideal := Reference13Ideal.Gen.facts) := fun m g _ =>
  (θ_run _ _ _).mono (fun r h => ⟨fun c => (h c).2.2.2.2, sem_eq_zero_of_no_sems (by decide) r.2⟩) (Reference13Ideal.Value.run (F := Ideal) m g)

end Cert.Proof
-- ==== Proof.Adam.FfnUp.lean ====
/-
  The optimiser's call for the shard of the feed-forward's projection up, both layers, 2048 by 1408: each block is updated element by element, the blocks are the whole arrays, and the
  reference's arrays are the same.
-/
module

public import proofs.«01_k».proof.Defs
public import proofs.«01_k».proof.Proof.Adam.Update
public import Idealize.ShloMosaic.Lib.Quiescent
public import Idealize.ShloMosaic.Lib.Pipeline.Value
public import proofs.«01_k».proof.Proof.Gen.Kernel14Ideal.Frame
public import proofs.«01_k».proof.Proof.Gen.Reference14Ideal.Run

@[expose] public section

set_option maxRecDepth 16384

noncomputable section

namespace Cert.Kernel14Ideal.Adam

open Cert.Kernel14Ideal Cert.Kernel14Ideal.Gen
open Idealize.ShloMosaic TcCoe
open Idealize.SL.Sem
open Idealize.ShloMosaic.Pipeline (Dat)
open Cert.Head (pair)
open Cert.Adam (each grad first second change E zero2)

variable (m : (ℓ : Loc nD τ sig) → Buf (Elt Ideal) ℓ) (c : Dev nD)

/-! ## One block -/

theorem loaded (x : Vec Ideal S128x1408 .f32) : View.ld x r0_0 = x := View.ld_unit_zero zero2 _ x

theorem outs (a b w p q : Vec Ideal S128x1408 .f32) : out0_5 a b w p q = each grad a b w p q ∧ out0_6 a b w p q = each change a b w p q
    ∧ out0_7 a b w p q = each first a b w p q ∧ out0_8 a b w p q = each second a b w p q := by
  unfold out0_5 out0_6 out0_7 out0_8
  refine ⟨?_, ?_, ?_, ?_⟩ <;> (rw [View.canon_unit_zero zero2]; simp only [loaded]; rfl)

/-! ## Where the blocks lie -/

theorem idx5 : ∀ t : Fin cfg0.N, win0_5.index t (0 : Fin 2) = t.val ∧ win0_5.index t (1 : Fin 2) = 0 :=
  (by decide +kernel : ∀ t : Fin grid0.N, _)

/-- The point in whose block a row lies, and the row's place there. -/
def pointOf (r : Fin 2048) : Fin cfg0.N := ⟨r.val / 128, lt_of_lt_of_eq (by have := r.isLt; omega) N_0.symm⟩
def rowAt (r : Fin 2048) : Fin 128 := ⟨r.val % 128, Nat.mod_lt _ (by decide)⟩

theorem emb5 (r : Fin 2048) (q : Fin 1408) : ((cfg0.win 5).blk (pointOf r)).view.emb (ix2 (rowAt r) q) = (ix2 r q : S2048x1408.Idx) := by
  obtain ⟨e0, e1⟩ := idx5 (pointOf r)
  have h : (pointOf r).val = r.val / 128 := rfl
  funext x; apply Fin.ext
  match x with
  | ⟨0, _⟩ => show win0_5.index (pointOf r) (0 : Fin 2) * 128 + 1 * (r.val % 128) = r.val; omega
  | ⟨1, _⟩ => show win0_5.index (pointOf r) (1 : Fin 2) * 1408 + 1 * q.val = q.val; omega

/-- So every element is in a block, -/
theorem cover (y : S2048x1408.Idx) : y ∈ ((cfg0.win 5).blk (pointOf (y 0))).view.set := by
  obtain ⟨r, q, rfl⟩ : ∃ (r : Fin 2048) (q : Fin 1408), y = ix2 r q := pair y
  have e := emb5 r q
  show ix2 r q ∈ ((cfg0.win 5).blk (pointOf r)).view.set
  rw [← e]
  exact View.emb_mem_set _ _

/-! ## The whole arrays -/

/-- The function `f` of the five arguments' elements, everywhere. -/
def result (f : E → E → E → E → E → E) : Vec Ideal S2048x1408 .f32 :=
  each f (m (c.tc.loc main_arg0)) (m (c.tc.loc main_arg1)) (m (c.tc.loc main_arg2)) (m (c.tc.loc main_arg3)) (m (c.tc.loc main_arg4))

/-- and all nine windows lie alike. -/
theorem read (f : E → E → E → E → E → E) (t : Fin cfg0.N) (y : S128x1408.Idx) :
    each (s := S128x1408) f (iblk m c 0 t) (iblk m c 1 t) (iblk m c 2 t) (iblk m c 3 t) (iblk m c 4 t) y = result m c f (((cfg0.win 5).blk t).view.emb y) := by
  show f (V m c main_arg0 _) (V m c main_arg1 _) (V m c main_arg2 _) (V m c main_arg3 _) (V m c main_arg4 _) = _
  rw [V_main_arg0, V_main_arg1, V_main_arg2, V_main_arg3, V_main_arg4]
  rfl

attribute [local irreducible] out0_5 out0_6 out0_7 out0_8 result

theorem array5 : (dats m 0 c).arrAt 5 cfg0.N = result m c grad := by
  refine (dats m 0 c).arrAt_eq_of_cover 5 (result m c grad) (fun t _ => ?_) fun y => ⟨pointOf (y 0), flush0_5 _, cover y⟩
  show (cfg0.win 5).cut (grid0.coords t) ((dats m 0 c).after 5 t) = _
  rw [after0_5, (outs _ _ _ _ _).1]
  exact funext (read m c grad t)

theorem array6 : (dats m 0 c).arrAt 6 cfg0.N = result m c change := by
  refine (dats m 0 c).arrAt_eq_of_cover 6 (result m c change) (fun t _ => ?_) fun y => ⟨pointOf (y 0), flush0_6 _, cover y⟩
  show (cfg0.win 6).cut (grid0.coords t) ((dats m 0 c).after 6 t) = _
  rw [after0_6, (outs _ _ _ _ _).2.1]
  exact funext (read m c change t)

theorem array7 : (dats m 0 c).arrAt 7 cfg0.N = result m c first := by
  refine (dats m 0 c).arrAt_eq_of_cover 7 (result m c first) (fun t _ => ?_) fun y => ⟨pointOf (y 0), flush0_7 _, cover y⟩
  show (cfg0.win 7).cut (grid0.coords t) ((dats m 0 c).after 7 t) = _
  rw [after0_7, (outs _ _ _ _ _).2.2.1]
  exact funext (read m c first t)

theorem array8 : (dats m 0 c).arrAt 8 cfg0.N = result m c second := by
  refine (dats m 0 c).arrAt_eq_of_cover 8 (result m c second) (fun t _ => ?_) fun y => ⟨pointOf (y 0), flush0_8 _, cover y⟩
  show (cfg0.win 8).cut (grid0.coords t) ((dats m 0 c).after 8 t) = _
  rw [after0_8, (outs _ _ _ _ _).2.2.2]
  exact funext (read m c second t)

end Cert.Kernel14Ideal.Adam

namespace Cert.Proof

open Idealize.ShloMosaic TcCoe
open Idealize.SL.Sem
open Cert.Adam (grad first second change)

open Kernel14Ideal.Adam in
/-- The kernel and the reference end with the same gradient, change of the weight and moments. -/
theorem algebraic14 : algebraic_Kernel14Ideal_Reference14Ideal (hKernel14Ideal := Kernel14Ideal.Gen.facts)
    (hReference14Ideal := Reference14Ideal.Gen.facts) := fun m g m' g' _ ha =>
  ⟨fun c => result m c grad, fun c => result m c change, fun c => result m c first, fun c => result m c second,
    (θ_run _ _ _).mono (fun r h c => ⟨((h.1 c).1 5).trans (array5 m c), ((h.1 c).1 6).trans (array6 m c), ((h.1 c).1 7).trans (array7 m c),
      ((h.1 c).1 8).trans (array8 m c), h.2.1 c⟩) (θ_run_and (Kernel14Ideal.Gen.run_main m g) (Kernel14Ideal.Gen.frame m g)),
    (θ_run _ _ _).mono (fun r h c => by
      obtain ⟨h0, h1, h2, h3, hk⟩ := h c
      obtain ⟨a0, a1, a2, a3, a4⟩ := ha c
      rw [a0, a1] at h0
      rw [a0, a1, a2, a3, a4] at h1
      rw [a0, a1, a3] at h2
      rw [a0, a1, a4] at h3
      exact ⟨h0, h1, h2, h3, hk⟩) (Reference14Ideal.Value.run (F := Ideal) m' g')⟩

theorem frame_reference14 : quiescent_Reference14Ideal (hReference14Ideal := Reference14Ideal.Gen.facts) := fun m g _ =>
  (θ_run _ _ _).mono (fun r h => ⟨fun c => (h c).2.2.2.2, sem_eq_zero_of_no_sems (by decide) r.2⟩) (Reference14Ideal.Value.run (F := Ideal) m g)

end Cert.Proof
-- ==== Proof.Adam.FfnDown.lean ====
/-
  The optimiser's call for the shard of the feed-forward's projection down, both layers, 1408 by 1024: each block is updated element by element, the blocks are the whole arrays, and the
  reference's arrays are the same.
-/
module

public import proofs.«01_k».proof.Defs
public import proofs.«01_k».proof.Proof.Adam.Update
public import Idealize.ShloMosaic.Lib.Quiescent
public import Idealize.ShloMosaic.Lib.Pipeline.Value
public import proofs.«01_k».proof.Proof.Gen.Kernel15Ideal.Frame
public import proofs.«01_k».proof.Proof.Gen.Reference15Ideal.Run

@[expose] public section

set_option maxRecDepth 16384

noncomputable section

namespace Cert.Kernel15Ideal.Adam

open Cert.Kernel15Ideal Cert.Kernel15Ideal.Gen
open Idealize.ShloMosaic TcCoe
open Idealize.SL.Sem
open Idealize.ShloMosaic.Pipeline (Dat)
open Cert.Head (pair)
open Cert.Adam (each grad first second change E zero2)

variable (m : (ℓ : Loc nD τ sig) → Buf (Elt Ideal) ℓ) (c : Dev nD)

/-! ## One block -/

theorem loaded (x : Vec Ideal S176x1024 .f32) : View.ld x r0_0 = x := View.ld_unit_zero zero2 _ x

theorem outs (a b w p q : Vec Ideal S176x1024 .f32) : out0_5 a b w p q = each grad a b w p q ∧ out0_6 a b w p q = each change a b w p q
    ∧ out0_7 a b w p q = each first a b w p q ∧ out0_8 a b w p q = each second a b w p q := by
  unfold out0_5 out0_6 out0_7 out0_8
  refine ⟨?_, ?_, ?_, ?_⟩ <;> (rw [View.canon_unit_zero zero2]; simp only [loaded]; rfl)

/-! ## Where the blocks lie -/

theorem idx5 : ∀ t : Fin cfg0.N, win0_5.index t (0 : Fin 2) = t.val ∧ win0_5.index t (1 : Fin 2) = 0 :=
  (by decide +kernel : ∀ t : Fin grid0.N, _)

/-- The point in whose block a row lies, and the row's place there. -/
def pointOf (r : Fin 1408) : Fin cfg0.N := ⟨r.val / 176, lt_of_lt_of_eq (by have := r.isLt; omega) N_0.symm⟩
def rowAt (r : Fin 1408) : Fin 176 := ⟨r.val % 176, Nat.mod_lt _ (by decide)⟩

theorem emb5 (r : Fin 1408) (q : Fin 1024) : ((cfg0.win 5).blk (pointOf r)).view.emb (ix2 (rowAt r) q) = (ix2 r q : S1408x1024.Idx) := by
  obtain ⟨e0, e1⟩ := idx5 (pointOf r)
  have h : (pointOf r).val = r.val / 176 := rfl
  funext x; apply Fin.ext
  match x with
  | ⟨0, _⟩ => show win0_5.index (pointOf r) (0 : Fin 2) * 176 + 1 * (r.val % 176) = r.val; omega
  | ⟨1, _⟩ => show win0_5.index (pointOf r) (1 : Fin 2) * 1024 + 1 * q.val = q.val; omega

/-- So every element is in a block, -/
theorem cover (y : S1408x1024.Idx) : y ∈ ((cfg0.win 5).blk (pointOf (y 0))).view.set := by
  obtain ⟨r, q, rfl⟩ : ∃ (r : Fin 1408) (q : Fin 1024), y = ix2 r q := pair y
  have e := emb5 r q
  show ix2 r q ∈ ((cfg0.win 5).blk (pointOf r)).view.set
  rw [← e]
  exact View.emb_mem_set _ _

/-! ## The whole arrays -/

/-- The function `f` of the five arguments' elements, everywhere. -/
def result (f : E → E → E → E → E → E) : Vec Ideal S1408x1024 .f32 :=
  each f (m (c.tc.loc main_arg0)) (m (c.tc.loc main_arg1)) (m (c.tc.loc main_arg2)) (m (c.tc.loc main_arg3)) (m (c.tc.loc main_arg4))

/-- and all nine windows lie alike. -/
theorem read (f : E → E → E → E → E → E) (t : Fin cfg0.N) (y : S176x1024.Idx) :
    each (s := S176x1024) f (iblk m c 0 t) (iblk m c 1 t) (iblk m c 2 t) (iblk m c 3 t) (iblk m c 4 t) y = result m c f (((cfg0.win 5).blk t).view.emb y) := by
  show f (V m c main_arg0 _) (V m c main_arg1 _) (V m c main_arg2 _) (V m c main_arg3 _) (V m c main_arg4 _) = _
  rw [V_main_arg0, V_main_arg1, V_main_arg2, V_main_arg3, V_main_arg4]
  rfl

attribute [local irreducible] out0_5 out0_6 out0_7 out0_8 result

theorem array5 : (dats m 0 c).arrAt 5 cfg0.N = result m c grad := by
  refine (dats m 0 c).arrAt_eq_of_cover 5 (result m c grad) (fun t _ => ?_) fun y => ⟨pointOf (y 0), flush0_5 _, cover y⟩
  show (cfg0.win 5).cut (grid0.coords t) ((dats m 0 c).after 5 t) = _
  rw [after0_5, (outs _ _ _ _ _).1]
  exact funext (read m c grad t)

theorem array6 : (dats m 0 c).arrAt 6 cfg0.N = result m c change := by
  refine (dats m 0 c).arrAt_eq_of_cover 6 (result m c change) (fun t _ => ?_) fun y => ⟨pointOf (y 0), flush0_6 _, cover y⟩
  show (cfg0.win 6).cut (grid0.coords t) ((dats m 0 c).after 6 t) = _
  rw [after0_6, (outs _ _ _ _ _).2.1]
  exact funext (read m c change t)

theorem array7 : (dats m 0 c).arrAt 7 cfg0.N = result m c first := by
  refine (dats m 0 c).arrAt_eq_of_cover 7 (result m c first) (fun t _ => ?_) fun y => ⟨pointOf (y 0), flush0_7 _, cover y⟩
  show (cfg0.win 7).cut (grid0.coords t) ((dats m 0 c).after 7 t) = _
  rw [after0_7, (outs _ _ _ _ _).2.2.1]
  exact funext (read m c first t)

theorem array8 : (dats m 0 c).arrAt 8 cfg0.N = result m c second := by
  refine (dats m 0 c).arrAt_eq_of_cover 8 (result m c second) (fun t _ => ?_) fun y => ⟨pointOf (y 0), flush0_8 _, cover y⟩
  show (cfg0.win 8).cut (grid0.coords t) ((dats m 0 c).after 8 t) = _
  rw [after0_8, (outs _ _ _ _ _).2.2.2]
  exact funext (read m c second t)

end Cert.Kernel15Ideal.Adam

namespace Cert.Proof

open Idealize.ShloMosaic TcCoe
open Idealize.SL.Sem
open Cert.Adam (grad first second change)

open Kernel15Ideal.Adam in
/-- The kernel and the reference end with the same gradient, change of the weight and moments. -/
theorem algebraic15 : algebraic_Kernel15Ideal_Reference15Ideal (hKernel15Ideal := Kernel15Ideal.Gen.facts)
    (hReference15Ideal := Reference15Ideal.Gen.facts) := fun m g m' g' _ ha =>
  ⟨fun c => result m c grad, fun c => result m c change, fun c => result m c first, fun c => result m c second,
    (θ_run _ _ _).mono (fun r h c => ⟨((h.1 c).1 5).trans (array5 m c), ((h.1 c).1 6).trans (array6 m c), ((h.1 c).1 7).trans (array7 m c),
      ((h.1 c).1 8).trans (array8 m c), h.2.1 c⟩) (θ_run_and (Kernel15Ideal.Gen.run_main m g) (Kernel15Ideal.Gen.frame m g)),
    (θ_run _ _ _).mono (fun r h c => by
      obtain ⟨h0, h1, h2, h3, hk⟩ := h c
      obtain ⟨a0, a1, a2, a3, a4⟩ := ha c
      rw [a0, a1] at h0
      rw [a0, a1, a2, a3, a4] at h1
      rw [a0, a1, a3] at h2
      rw [a0, a1, a4] at h3
      exact ⟨h0, h1, h2, h3, hk⟩) (Reference15Ideal.Value.run (F := Ideal) m' g')⟩

theorem frame_reference15 : quiescent_Reference15Ideal (hReference15Ideal := Reference15Ideal.Gen.facts) := fun m g _ =>
  (θ_run _ _ _).mono (fun r h => ⟨fun c => (h c).2.2.2.2, sem_eq_zero_of_no_sems (by decide) r.2⟩) (Reference15Ideal.Value.run (F := Ideal) m g)

end Cert.Proof
-- ==== Proof.Adam.Small.lean ====
/-
  The optimiser's call for the shard of the packed small weights, 320 by 1024: each block is updated element by element, the blocks are the whole arrays, and the
  reference's arrays are the same.
-/
module

public import proofs.«01_k».proof.Defs
public import proofs.«01_k».proof.Proof.Adam.Update
public import Idealize.ShloMosaic.Lib.Quiescent
public import Idealize.ShloMosaic.Lib.Pipeline.Value
public import proofs.«01_k».proof.Proof.Gen.Kernel16Ideal.Frame
public import proofs.«01_k».proof.Proof.Gen.Reference16Ideal.Run

@[expose] public section

set_option maxRecDepth 16384

noncomputable section

namespace Cert.Kernel16Ideal.Adam

open Cert.Kernel16Ideal Cert.Kernel16Ideal.Gen
open Idealize.ShloMosaic TcCoe
open Idealize.SL.Sem
open Idealize.ShloMosaic.Pipeline (Dat)
open Cert.Head (pair)
open Cert.Adam (each grad first second change E zero2)

variable (m : (ℓ : Loc nD τ sig) → Buf (Elt Ideal) ℓ) (c : Dev nD)

/-! ## One block -/

theorem loaded (x : Vec Ideal S160x1024 .f32) : View.ld x r0_0 = x := View.ld_unit_zero zero2 _ x

theorem outs (a b w p q : Vec Ideal S160x1024 .f32) : out0_5 a b w p q = each grad a b w p q ∧ out0_6 a b w p q = each change a b w p q
    ∧ out0_7 a b w p q = each first a b w p q ∧ out0_8 a b w p q = each second a b w p q := by
  unfold out0_5 out0_6 out0_7 out0_8
  refine ⟨?_, ?_, ?_, ?_⟩ <;> (rw [View.canon_unit_zero zero2]; simp only [loaded]; rfl)

/-! ## Where the blocks lie -/

theorem idx5 : ∀ t : Fin cfg0.N, win0_5.index t (0 : Fin 2) = t.val ∧ win0_5.index t (1 : Fin 2) = 0 :=
  (by decide +kernel : ∀ t : Fin grid0.N, _)

/-- The point in whose block a row lies, and the row's place there. -/
def pointOf (r : Fin 320) : Fin cfg0.N := ⟨r.val / 160, lt_of_lt_of_eq (by have := r.isLt; omega) N_0.symm⟩
def rowAt (r : Fin 320) : Fin 160 := ⟨r.val % 160, Nat.mod_lt _ (by decide)⟩

theorem emb5 (r : Fin 320) (q : Fin 1024) : ((cfg0.win 5).blk (pointOf r)).view.emb (ix2 (rowAt r) q) = (ix2 r q : S320x1024.Idx) := by
  obtain ⟨e0, e1⟩ := idx5 (pointOf r)
  have h : (pointOf r).val = r.val / 160 := rfl
  funext x; apply Fin.ext
  match x with
  | ⟨0, _⟩ => show win0_5.index (pointOf r) (0 : Fin 2) * 160 + 1 * (r.val % 160) = r.val; omega
  | ⟨1, _⟩ => show win0_5.index (pointOf r) (1 : Fin 2) * 1024 + 1 * q.val = q.val; omega

/-- So every element is in a block, -/
theorem cover (y : S320x1024.Idx) : y ∈ ((cfg0.win 5).blk (pointOf (y 0))).view.set := by
  obtain ⟨r, q, rfl⟩ : ∃ (r : Fin 320) (q : Fin 1024), y = ix2 r q := pair y
  have e := emb5 r q
  show ix2 r q ∈ ((cfg0.win 5).blk (pointOf r)).view.set
  rw [← e]
  exact View.emb_mem_set _ _

/-! ## The whole arrays -/

/-- The function `f` of the five arguments' elements, everywhere. -/
def result (f : E → E → E → E → E → E) : Vec Ideal S320x1024 .f32 :=
  each f (m (c.tc.loc main_arg0)) (m (c.tc.loc main_arg1)) (m (c.tc.loc main_arg2)) (m (c.tc.loc main_arg3)) (m (c.tc.loc main_arg4))

/-- and all nine windows lie alike. -/
theorem read (f : E → E → E → E → E → E) (t : Fin cfg0.N) (y : S160x1024.Idx) :
    each (s := S160x1024) f (iblk m c 0 t) (iblk m c 1 t) (iblk m c 2 t) (iblk m c 3 t) (iblk m c 4 t) y = result m c f (((cfg0.win 5).blk t).view.emb y) := by
  show f (V m c main_arg0 _) (V m c main_arg1 _) (V m c main_arg2 _) (V m c main_arg3 _) (V m c main_arg4 _) = _
  rw [V_main_arg0, V_main_arg1, V_main_arg2, V_main_arg3, V_main_arg4]
  rfl

attribute [local irreducible] out0_5 out0_6 out0_7 out0_8 result

theorem array5 : (dats m 0 c).arrAt 5 cfg0.N = result m c grad := by
  refine (dats m 0 c).arrAt_eq_of_cover 5 (result m c grad) (fun t _ => ?_) fun y => ⟨pointOf (y 0), flush0_5 _, cover y⟩
  show (cfg0.win 5).cut (grid0.coords t) ((dats m 0 c).after 5 t) = _
  rw [after0_5, (outs _ _ _ _ _).1]
  exact funext (read m c grad t)

theorem array6 : (dats m 0 c).arrAt 6 cfg0.N = result m c change := by
  refine (dats m 0 c).arrAt_eq_of_cover 6 (result m c change) (fun t _ => ?_) fun y => ⟨pointOf (y 0), flush0_6 _, cover y⟩
  show (cfg0.win 6).cut (grid0.coords t) ((dats m 0 c).after 6 t) = _
  rw [after0_6, (outs _ _ _ _ _).2.1]
  exact funext (read m c change t)

theorem array7 : (dats m 0 c).arrAt 7 cfg0.N = result m c first := by
  refine (dats m 0 c).arrAt_eq_of_cover 7 (result m c first) (fun t _ => ?_) fun y => ⟨pointOf (y 0), flush0_7 _, cover y⟩
  show (cfg0.win 7).cut (grid0.coords t) ((dats m 0 c).after 7 t) = _
  rw [after0_7, (outs _ _ _ _ _).2.2.1]
  exact funext (read m c first t)

theorem array8 : (dats m 0 c).arrAt 8 cfg0.N = result m c second := by
  refine (dats m 0 c).arrAt_eq_of_cover 8 (result m c second) (fun t _ => ?_) fun y => ⟨pointOf (y 0), flush0_8 _, cover y⟩
  show (cfg0.win 8).cut (grid0.coords t) ((dats m 0 c).after 8 t) = _
  rw [after0_8, (outs _ _ _ _ _).2.2.2]
  exact funext (read m c second t)

end Cert.Kernel16Ideal.Adam

namespace Cert.Proof

open Idealize.ShloMosaic TcCoe
open Idealize.SL.Sem
open Cert.Adam (grad first second change)

open Kernel16Ideal.Adam in
/-- The kernel and the reference end with the same gradient, change of the weight and moments. -/
theorem algebraic16 : algebraic_Kernel16Ideal_Reference16Ideal (hKernel16Ideal := Kernel16Ideal.Gen.facts)
    (hReference16Ideal := Reference16Ideal.Gen.facts) := fun m g m' g' _ ha =>
  ⟨fun c => result m c grad, fun c => result m c change, fun c => result m c first, fun c => result m c second,
    (θ_run _ _ _).mono (fun r h c => ⟨((h.1 c).1 5).trans (array5 m c), ((h.1 c).1 6).trans (array6 m c), ((h.1 c).1 7).trans (array7 m c),
      ((h.1 c).1 8).trans (array8 m c), h.2.1 c⟩) (θ_run_and (Kernel16Ideal.Gen.run_main m g) (Kernel16Ideal.Gen.frame m g)),
    (θ_run _ _ _).mono (fun r h c => by
      obtain ⟨h0, h1, h2, h3, hk⟩ := h c
      obtain ⟨a0, a1, a2, a3, a4⟩ := ha c
      rw [a0, a1] at h0
      rw [a0, a1, a2, a3, a4] at h1
      rw [a0, a1, a3] at h2
      rw [a0, a1, a4] at h3
      exact ⟨h0, h1, h2, h3, hk⟩) (Reference16Ideal.Value.run (F := Ideal) m' g')⟩

theorem frame_reference16 : quiescent_Reference16Ideal (hReference16Ideal := Reference16Ideal.Gen.facts) := fun m g _ =>
  (θ_run _ _ _).mono (fun r h => ⟨fun c => (h c).2.2.2.2, sem_eq_zero_of_no_sems (by decide) r.2⟩) (Reference16Ideal.Value.run (F := Ideal) m g)

end Cert.Proof
-- ==== Proof.Mm.Glu.lean ====
/-
  The state-space layer's gate projection, `x @ w`: what one grid point computes, the whole array, the reference's product, and the equation of the two.
-/
module

public import proofs.«01_k».proof.Defs
public import proofs.«01_k».proof.Proof.Mm.Common
public import Idealize.ShloMosaic.Lib.Quiescent
public import proofs.«01_k».proof.Proof.Gen.Kernel17Ideal.Frame
public import proofs.«01_k».proof.Proof.Gen.Reference17Ideal.Run

@[expose] public section

set_option maxRecDepth 16384

noncomputable section

namespace Cert.Kernel17Ideal.Glu

open Cert.Kernel17Ideal Cert.Kernel17Ideal.Gen
open Idealize.ShloMosaic TcCoe
open Idealize.SL.Sem
open Cert.Head (pair)

/-! ## One grid point -/

section Any

variable {F : FTy → Type} [FloatOps F] (m : (ℓ : Loc nD τ sig) → Buf (Elt F) ℓ) (c : Dev nD)

/-- The block stored is the product of the point's two blocks, added to zero. -/
theorem block_eq (t : Fin cfg0.N) : outsAt0 m c t = k0_pay2 (iblk m c 0 t) (iblk m c 1 t) k0_pay1 := by
  unfold outsAt0 out0_A_2 kernelRun0_A
  dsimp only
  refine (Views.store_whole VO0_2 _ _ _ _).trans ?_
  unfold kernelRun0_A.sl.v16 kernelRun0_A.sl.HS0_2
  refine (Mm.load_stored _ _ _ _ _).trans ?_
  unfold kernelRun0_A.sl.v7 kernelRun0_A.sl.HS0_1
  exact Mm.load_two k0_pay2 (hs0_0 t) (hs0_1 t) (Mm.load_stored _ _ _ _ _)

/-- The host rounds the factors for the launch. -/
theorem V_main_v0 : V m c main_v0 = (truncf .bf16 (m (c.tc.loc main_arg0) : Vec F S16384x1024 .f32) bitsLt_bf16_f32 : Vec F S16384x1024 .bf16) := by
  unfold V
  after_results_simp <;> rfl

theorem V_main_v1 : V m c main_v1 = (truncf .bf16 (m (c.tc.loc main_arg1) : Vec F S1024x2048 .f32) bitsLt_bf16_f32 : Vec F S1024x2048 .bf16) := by
  unfold V
  after_results_simp <;> rfl

end Any

variable (m : (ℓ : Loc nD τ sig) → Buf (Elt Ideal) ℓ) (c : Dev nD)

theorem pay_apply (x : Vec Ideal S2048x1024 .bf16) (y : Vec Ideal S1024x512 .bf16) (a : Fin 2048) (b : Fin 512) :
    k0_pay2 x y (k0_pay1 (F := Ideal)) (ix2 a b) = ∑ j : Fin 1024, x (ix2 a j) * y (ix2 j b) := by
  pointwise [k0_pay2, k0_pay1]

/-! ## Where the blocks lie -/

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 4 :=
  (by decide +kernel : ∀ t : Fin grid0.N, _)
theorem idx2 : ∀ t : Fin cfg0.N, win0_2.index t (0 : Fin 2) = t.val / 4 ∧ win0_2.index t (1 : Fin 2) = t.val % 4 :=
  (by decide +kernel : ∀ t : Fin grid0.N, _)

theorem t_lt (t : Fin cfg0.N) : t.val < 32 := lt_of_lt_of_eq t.isLt N_0

/-- Row `a` and column `b` of the block of point `t`. -/
def rowOf (t : Fin cfg0.N) (a : Fin 2048) : Fin 16384 := ⟨2048 * (t.val / 4) + a.val, by have := t_lt t; have := a.isLt; omega⟩
def colOf (t : Fin cfg0.N) (b : Fin 512) : Fin 2048 := ⟨512 * (t.val % 4) + b.val, by have := b.isLt; omega⟩

theorem emb0 (t : Fin cfg0.N) (a : Fin 2048) (j : Fin 1024) : ((cfg0.win 0).blk t).view.emb (ix2 a j) = (ix2 (rowOf t a) j : S16384x1024.Idx) := by
  obtain ⟨e0, e1⟩ := idx0 t
  funext x; apply Fin.ext
  match x with
  | ⟨0, _⟩ => show win0_0.index t (0 : Fin 2) * 2048 + 1 * a.val = 2048 * (t.val / 4) + a.val; omega
  | ⟨1, _⟩ => show win0_0.index t (1 : Fin 2) * 1024 + 1 * j.val = j.val; omega

theorem emb1 (t : Fin cfg0.N) (j : Fin 1024) (b : Fin 512) : ((cfg0.win 1).blk t).view.emb (ix2 j b) = (ix2 j (colOf t b) : S1024x2048.Idx) := by
  obtain ⟨e0, e1⟩ := idx1 t
  funext x; apply Fin.ext
  match x with
  | ⟨0, _⟩ => show win0_1.index t (0 : Fin 2) * 1024 + 1 * j.val = j.val; omega
  | ⟨1, _⟩ => show win0_1.index t (1 : Fin 2) * 512 + 1 * b.val = 512 * (t.val % 4) + b.val; omega

theorem emb2 (t : Fin cfg0.N) (a : Fin 2048) (b : Fin 512) : ((cfg0.win 2).blk t).view.emb (ix2 a b) = (ix2 (rowOf t a) (colOf t b) : S16384x2048.Idx) := by
  obtain ⟨e0, e1⟩ := idx2 t
  funext x; apply Fin.ext
  match x with
  | ⟨0, _⟩ => show win0_2.index t (0 : Fin 2) * 2048 + 1 * a.val = 2048 * (t.val / 4) + a.val; omega
  | ⟨1, _⟩ => show win0_2.index t (1 : Fin 2) * 512 + 1 * b.val = 512 * (t.val % 4) + b.val; omega

/-- Every row and column lie in some point's block. -/
theorem covered (r : Fin 16384) (q : Fin 2048) : ∃ (t : Fin cfg0.N) (a : Fin 2048) (b : Fin 512), rowOf t a = r ∧ colOf t b = q := by
  have := r.isLt
  have := q.isLt
  refine ⟨⟨4 * (r.val / 2048) + q.val / 512, lt_of_lt_of_eq (by omega) N_0.symm⟩, ⟨r.val % 2048, Nat.mod_lt _ (by decide)⟩,
    ⟨q.val % 512, Nat.mod_lt _ (by decide)⟩, Fin.ext ?_, Fin.ext ?_⟩
  · show 2048 * ((4 * (r.val / 2048) + q.val / 512) / 4) + r.val % 2048 = r.val
    omega
  · show 512 * ((4 * (r.val / 2048) + q.val / 512) % 4) + q.val % 512 = q.val
    omega

/-! ## The result -/

/-- The product as an array. -/
def prod (x : Vec Ideal S16384x1024 .f32) (w : Vec Ideal S1024x2048 .f32) : Vec Ideal S16384x2048 .f32 :=
  fun y => ∑ j : Fin 1024, x (ix2 (y 0) j) * w (ix2 j (y 1))

/-- What a point reads of its blocks. -/
theorem read0 (t : Fin cfg0.N) (a : Fin 2048) (j : Fin 1024) :
    (iblk m c 0 t : Vec Ideal S2048x1024 .bf16) (ix2 a j) = (m (c.tc.loc main_arg0) : Vec Ideal S16384x1024 .f32) (ix2 (rowOf t a) j) := by
  show V m c main_v0 (((cfg0.win 0).blk t).view.emb (ix2 a j)) = _
  rw [emb0, V_main_v0]
  rfl

theorem read1 (t : Fin cfg0.N) (j : Fin 1024) (b : Fin 512) :
    (iblk m c 1 t : Vec Ideal S1024x512 .bf16) (ix2 j b) = (m (c.tc.loc main_arg1) : Vec Ideal S1024x2048 .f32) (ix2 j (colOf t b)) := by
  show V m c main_v1 (((cfg0.win 1).blk t).view.emb (ix2 j b)) = _
  rw [emb1, V_main_v1]
  rfl

/-- A point's block holds its part of the product. -/
theorem block_apply (t : Fin cfg0.N) (a : Fin 2048) (b : Fin 512) :
    outsAt0 m c t (ix2 a b) = prod (m (c.tc.loc main_arg0)) (m (c.tc.loc main_arg1)) (ix2 (rowOf t a) (colOf t b)) := by
  rw [block_eq]
  exact (pay_apply _ _ a b).trans (Finset.sum_congr rfl fun j _ => congrArg₂ (· * ·) (read0 m c t a j) (read1 m c t j b))

attribute [local irreducible] outsAt0 prod

/-- The whole array after the last point. -/
theorem array_eq : (dats m 0 c).arrAt 2 cfg0.N = prod (m (c.tc.loc main_arg0)) (m (c.tc.loc main_arg1)) := by
  refine (dats m 0 c).arrAt_eq_of_cover 2 (prod (m (c.tc.loc main_arg0)) (m (c.tc.loc main_arg1))) (fun t _ => ?_) (fun y => ?_)
  · show (cfg0.win 2).cut (grid0.coords t) ((dats m 0 c).after 2 t) = _
    funext y
    obtain ⟨a, b, rfl⟩ : ∃ (a : Fin 2048) (b : Fin 512), y = ix2 a b := pair y
    show outsAt0 m c t (ix2 a b) = prod (m (c.tc.loc main_arg0)) (m (c.tc.loc main_arg1)) (((cfg0.win 2).blk t).view.emb (ix2 a b))
    rw [emb2, block_apply]
  · obtain ⟨r, q, rfl⟩ : ∃ (r : Fin 16384) (q : Fin 2048), y = ix2 r q := pair y
    obtain ⟨t, a, b, rfl, rfl⟩ := covered r q
    refine ⟨t, flush0_2 _, ?_⟩
    rw [← emb2]
    exact View.emb_mem_set _ _

end Cert.Kernel17Ideal.Glu

namespace Cert.Reference17Ideal.Glu

open Cert.Reference17Ideal Cert.Reference17Ideal.Gen
open Idealize.ShloMosaic TcCoe
open Cert.Kernel17Ideal.Glu (prod)
open Cert.Head (pair)

/-- The reference's product, -/
def dot {F : FTy → Type} [FloatOps F] (x : Vec F S16384x1024 .f32) (w : Vec F S1024x2048 .f32) : Vec F S16384x2048 .f32 :=
  Host.dotGeneral dot_S16384x1024_S1024x2048_S16384x2048_1_0_0_1_n_n none x w

/-- element by element the sum over the inner width. -/
theorem dot_eq (x : Vec Ideal S16384x1024 .f32) (w : Vec Ideal S1024x2048 .f32) : dot x w = prod x w := funext fun y => by
  obtain ⟨i, d, rfl⟩ : ∃ (i : Fin 16384) (d : Fin 2048), y = ix2 i d := pair y
  show dot x w (ix2 i d) = ∑ j : Fin 1024, x (ix2 i j) * w (ix2 j d)
  pointwise [dot]

end Cert.Reference17Ideal.Glu

namespace Cert.Proof

open Idealize.ShloMosaic TcCoe
open Idealize.SL.Sem

/-- The kernel and the reference end with the same product. -/
theorem algebraic17 : algebraic_Kernel17Ideal_Reference17Ideal (hKernel17Ideal := Kernel17Ideal.Gen.facts)
    (hReference17Ideal := Reference17Ideal.Gen.facts) := fun m g m' g' _ ha =>
  ⟨fun c => Kernel17Ideal.Glu.prod (m (c.tc.loc Kernel17Ideal.main_arg0)) (m (c.tc.loc Kernel17Ideal.main_arg1)),
    (θ_run _ _ _).mono (fun r h c => ⟨((h.1 c).1 2).trans (Kernel17Ideal.Glu.array_eq m c), h.2.1 c⟩)
      (θ_run_and (Kernel17Ideal.Gen.run_main m g) (Kernel17Ideal.Gen.frame m g)),
    (θ_run _ _ _).mono (fun r h c => ⟨(h c).1.trans (by
      refine (Reference17Ideal.Glu.dot_eq _ _).trans ?_
      rw [(ha c).1, (ha c).2]), (h c).2⟩) (Reference17Ideal.Value.run (F := Ideal) m' g')⟩

theorem frame_reference17 : quiescent_Reference17Ideal (hReference17Ideal := Reference17Ideal.Gen.facts) := fun m g _ =>
  (θ_run _ _ _).mono (fun r h => ⟨fun c => (h c).2, sem_eq_zero_of_no_sems (by decide) r.2⟩) (Reference17Ideal.Value.run (F := Ideal) m g)

end Cert.Proof
-- ==== Proof.Mm.GluDw.lean ====
/-
  The gradient of the state-space layer's gate projection with respect to its weight, `x.T @ g`: the sums that the grid's points accumulate over sixteen chunks of
  rows, and the whole array they leave.
-/
module

public import proofs.«01_k».proof.Defs
public import proofs.«01_k».proof.Proof.Mm.Common
public import Idealize.ShloMosaic.Lib.Quiescent
public import proofs.«01_k».proof.Proof.Gen.Kernel18Ideal.Frame
public import proofs.«01_k».proof.Proof.Gen.Reference18Ideal.Run

@[expose] public section

set_option maxRecDepth 16384

noncomputable section

namespace Cert.Kernel18Ideal.GluDw

open Cert.Kernel18Ideal Cert.Kernel18Ideal.Gen
open Idealize.ShloMosaic TcCoe
open Idealize.SL.Sem
open Cert.Head (pair)
open Cert.Mm (chunkRow)

/-! ## One grid point -/

section Any

variable {F : FTy → Type} [FloatOps F] (m : (ℓ : Loc nD τ sig) → Buf (Elt F) ℓ) (c : Dev nD)

/-- The first point of a row of tiles starts the sum with its product. -/
theorem sum_first (t : Fin cfg0.N) (h0 : t.val % 16 = 0) (h1 : ¬t.val % 16 = 15) :
    (outsAt0 m c t.val t.isLt).2 = k0_pay2 (iblk m c 0 t) (iblk m c 1 t) k0_pay1 := by
  rw [outsAt0_A m c t h0 h1]
  unfold sout0_A_0 kernelRun0_A
  dsimp only
  refine (Views.store_whole VS0_0 _ _ _ _).trans ?_
  unfold kernelRun0_A.sl.v7 kernelRun0_A.sl.HS0_1
  exact Mm.load_two k0_pay2 (hs0_0 t) (hs0_1 t) (Mm.load_stored _ _ _ _ _)

/-- Any other point adds its product to the sum before, -/
theorem sum_next (t : Fin cfg0.N) (h0 : ¬t.val % 16 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 16 = 15
  · rw [outsAt0_C m c t h0 h1]
    unfold sout0_C_0 kernelRun0_C
    dsimp only
    unfold kernelRun0_C.sl.HS0_1
    refine (Views.store_whole VS0_0 _ _ _ _).trans ?_
    exact Mm.load_two k0_pay2 (hs0_0 t) (hs0_1 t) (Mm.load_block _)
  · rw [outsAt0_B m c t h0 h1]
    unfold sout0_B_0 kernelRun0_B
    dsimp only
    refine (Views.store_whole VS0_0 _ _ _ _).trans ?_
    exact Mm.load_two k0_pay2 (hs0_0 t) (hs0_1 t) (Mm.load_block _)

/-- and the last stores the sum, rounded, as the block of the result. -/
theorem block_last (t : Fin cfg0.N) (h0 : ¬t.val % 16 = 0) (h1 : t.val % 16 = 15) :
    (outsAt0 m c t.val t.isLt).1 = k0_pay3 (outsAt0 m c t.val t.isLt).2 := by
  rw [sum_next m c t h0, outsAt0_C m c t h0 h1]
  unfold out0_C_2 kernelRun0_C
  dsimp only
  refine (Views.store_whole VO0_2 _ _ _ _).trans (congrArg k0_pay3 ?_)
  unfold kernelRun0_C.sl.v16 kernelRun0_C.sl.HS0_1
  refine (Mm.load_stored _ _ _ _ _).trans ?_
  exact Mm.load_two k0_pay2 (hs0_0 t) (hs0_1 t) (Mm.load_block _)

/-- The host rounds the two factors for the launch. -/
theorem V_main_v0 : V m c main_v0 = (truncf .bf16 (m (c.tc.loc main_arg0) : Vec F S16384x1024 .f32) bitsLt_bf16_f32 : Vec F S16384x1024 .bf16) := by
  unfold V
  after_results_simp <;> rfl

theorem V_main_v1 : V m c main_v1 = (truncf .bf16 (m (c.tc.loc main_arg1) : Vec F S16384x2048 .f32) bitsLt_bf16_f32 : Vec F S16384x2048 .bf16) := by
  unfold V
  after_results_simp <;> rfl

end Any

variable (m : (ℓ : Loc nD τ sig) → Buf (Elt Ideal) ℓ) (c : Dev nD)

theorem zero_apply (a : Fin 512) (b : Fin 2048) : k0_pay1 (F := Ideal) (ix2 a b) = 0 := by
  pointwise [k0_pay1]

theorem pay_apply (x : Vec Ideal S1024x512 .bf16) (y : Vec Ideal S1024x2048 .bf16) (s : Vec Ideal S512x2048 .f32) (a : Fin 512) (b : Fin 2048) :
    k0_pay2 x y s (ix2 a b) = s (ix2 a b) + ∑ j : Fin 1024, x (ix2 j a) * y (ix2 j b) := by
  pointwise [k0_pay2]

/-! ## Where the blocks lie -/

theorem idx0 : ∀ t : Fin cfg0.N, win0_0.index t (0 : Fin 2) = t.val % 16 ∧ win0_0.index t (1 : Fin 2) = t.val / 16 :=
  (by decide +kernel : ∀ t : Fin grid0.N, _)
theorem idx1 : ∀ t : Fin cfg0.N, win0_1.index t (0 : Fin 2) = t.val % 16 ∧ win0_1.index t (1 : Fin 2) = 0 :=
  (by decide +kernel : ∀ t : Fin grid0.N, _)
theorem idx2 : ∀ t : Fin cfg0.N, win0_2.index t (0 : Fin 2) = t.val / 16 ∧ win0_2.index t (1 : Fin 2) = 0 :=
  (by decide +kernel : ∀ t : Fin grid0.N, _)

theorem t_lt (t : Fin cfg0.N) : t.val < 32 := lt_of_lt_of_eq t.isLt N_0

/-- Row `a` of the block of the result that point `t` adds to. -/
def rowOf (t : Fin cfg0.N) (a : Fin 512) : Fin 1024 := ⟨512 * (t.val / 16) + a.val, by have := t_lt t; have := a.isLt; omega⟩

theorem emb0 (t : Fin cfg0.N) (j : Fin 1024) (a : Fin 512) :
    ((cfg0.win 0).blk t).view.emb (ix2 j a) = (ix2 (chunkRow (t.val % 16) j) (rowOf t a) : S16384x1024.Idx) := by
  obtain ⟨e0, e1⟩ := idx0 t
  have := j.isLt
  funext x; apply Fin.ext
  match x with
  | ⟨0, _⟩ => show win0_0.index t (0 : Fin 2) * 1024 + 1 * j.val = (1024 * (t.val % 16) + j.val) % 16384; omega
  | ⟨1, _⟩ => show win0_0.index t (1 : Fin 2) * 512 + 1 * a.val = 512 * (t.val / 16) + a.val; omega

theorem emb1 (t : Fin cfg0.N) (j : Fin 1024) (b : Fin 2048) :
    ((cfg0.win 1).blk t).view.emb (ix2 j b) = (ix2 (chunkRow (t.val % 16) j) b : S16384x2048.Idx) := by
  obtain ⟨e0, e1⟩ := idx1 t
  have := j.isLt
  funext x; apply Fin.ext
  match x with
  | ⟨0, _⟩ => show win0_1.index t (0 : Fin 2) * 1024 + 1 * j.val = (1024 * (t.val % 16) + j.val) % 16384; omega
  | ⟨1, _⟩ => show win0_1.index t (1 : Fin 2) * 2048 + 1 * b.val = b.val; omega

theorem emb2 (t : Fin cfg0.N) (a : Fin 512) (b : Fin 2048) : ((cfg0.win 2).blk t).view.emb (ix2 a b) = (ix2 (rowOf t a) b : S1024x2048.Idx) := by
  obtain ⟨e0, e1⟩ := idx2 t
  funext x; apply Fin.ext
  match x with
  | ⟨0, _⟩ => show win0_2.index t (0 : Fin 2) * 512 + 1 * a.val = 512 * (t.val / 16) + a.val; omega
  | ⟨1, _⟩ => show win0_2.index t (1 : Fin 2) * 2048 + 1 * b.val = b.val; omega

/-- The last point of the sixteen that make the block of a row, and the row's place in the block. -/
def pointOf (r : Fin 1024) : Fin cfg0.N := ⟨16 * (r.val / 512) + 15, lt_of_lt_of_eq (by have := r.isLt; omega) N_0.symm⟩
def rowAt (r : Fin 1024) : Fin 512 := ⟨r.val % 512, Nat.mod_lt _ (by decide)⟩

theorem rowOf_pointOf (r : Fin 1024) : rowOf (pointOf r) (rowAt r) = r := Fin.ext (by
  show 512 * ((16 * (r.val / 512) + 15) / 16) + r.val % 512 = r.val
  omega)

theorem pointOf_last (r : Fin 1024) : (pointOf r).val % 16 = 15 := by
  show (16 * (r.val / 512) + 15) % 16 = 15
  omega

/-! ## The sums -/

/-- What a point reads of its two blocks. -/
theorem read0 (t : Fin cfg0.N) (j : Fin 1024) (a : Fin 512) : (iblk m c 0 t : Vec Ideal S1024x512 .bf16) (ix2 j a)
    = (m (c.tc.loc main_arg0) : Vec Ideal S16384x1024 .f32) (ix2 (chunkRow (t.val % 16) j) (rowOf t a)) := by
  show V m c main_v0 (((cfg0.win 0).blk t).view.emb (ix2 j a)) = _
  rw [emb0, V_main_v0]
  rfl

theorem read1 (t : Fin cfg0.N) (j : Fin 1024) (b : Fin 2048) : (iblk m c 1 t : Vec Ideal S1024x2048 .bf16) (ix2 j b)
    = (m (c.tc.loc main_arg1) : Vec Ideal S16384x2048 .f32) (ix2 (chunkRow (t.val % 16) j) b) := by
  show V m c main_v1 (((cfg0.win 1).blk t).view.emb (ix2 j b)) = _
  rw [emb1, V_main_v1]
  rfl

/-- The part of an element of the product that one chunk of rows gives. -/
def part (x : Vec Ideal S16384x1024 .f32) (y : Vec Ideal S16384x2048 .f32) (i : Fin 1024) (b : Fin 2048) (k : ℕ) : EReal :=
  ∑ j : Fin 1024, x (ix2 (chunkRow k j) i) * y (ix2 (chunkRow k j) b)

/-- What a point adds to the sum. -/
theorem add_apply (t : Fin cfg0.N) (s : Vec Ideal S512x2048 .f32) (a : Fin 512) (b : Fin 2048) :
    k0_pay2 (iblk m c 0 t) (iblk m c 1 t) s (ix2 a b)
      = s (ix2 a b) + part (m (c.tc.loc main_arg0)) (m (c.tc.loc main_arg1)) (rowOf t a) b (t.val % 16) :=
  (pay_apply _ _ s a b).trans (congrArg (s (ix2 a b) + ·)
    (Finset.sum_congr rfl fun j _ => congrArg₂ (· * ·) (read0 m c t j a) (read1 m c t j b)))

/-- The sum after a point is that of the chunks of rows so far. -/
theorem sum_apply (n : ℕ) (hn : n < cfg0.N) (a : Fin 512) (b : Fin 2048) : (outsAt0 m c n hn).2 (ix2 a b)
    = ∑ k ∈ Finset.range (n % 16 + 1), part (m (c.tc.loc main_arg0)) (m (c.tc.loc main_arg1)) (rowOf ⟨n, hn⟩ a) b k := by
  induction n with
  | zero =>
    refine (congrFun (sum_first m c ⟨0, hn⟩ (by show 0 % 16 = 0; decide) (by show ¬0 % 16 = 15; decide)) (ix2 a b)).trans ((add_apply m c ⟨0, hn⟩ _ a b).trans ?_)
    rw [zero_apply, zero_add]
    exact (Finset.sum_range_one _).symm
  | succ n ih =>
    by_cases h : (n + 1) % 16 = 0
    · refine (congrFun (sum_first m c ⟨n + 1, hn⟩ h (by show ¬(n + 1) % 16 = 15; omega)) (ix2 a b)).trans
        ((add_apply m c ⟨n + 1, hn⟩ _ a b).trans ?_)
      rw [zero_apply, zero_add]
      show part _ _ _ b ((n + 1) % 16) = _
      rw [h]
      exact (Finset.sum_range_one _).symm
    · refine (congrFun (sum_next m c ⟨n + 1, hn⟩ h) (ix2 a b)).trans ((add_apply m c ⟨n + 1, hn⟩ _ a b).trans ?_)
      rw [Finset.sum_range_succ]
      refine congrArg₂ (· + ·) ((ih (Nat.lt_of_succ_lt hn)).trans ?_) rfl
      have e : rowOf ⟨n, Nat.lt_of_succ_lt hn⟩ a = rowOf ⟨n + 1, hn⟩ a :=
        Fin.ext (by show 512 * (n / 16) + a.val = 512 * ((n + 1) / 16) + a.val; omega)
      rw [e, show n % 16 + 1 = (n + 1) % 16 by omega]

/-! ## The result -/

/-- The product as an array. -/
def prod (x : Vec Ideal S16384x1024 .f32) (y : Vec Ideal S16384x2048 .f32) : Vec Ideal S1024x2048 .bf16 :=
  fun z => ∑ r : Fin 16384, x (ix2 r (z 0)) * y (ix2 r (z 1))

/-- The sixteen parts make an element of it. -/
theorem sum_parts (x : Vec Ideal S16384x1024 .f32) (y : Vec Ideal S16384x2048 .f32) (i : Fin 1024) (b : Fin 2048) :
    ∑ k ∈ Finset.range 16, part x y i b k = prod x y (ix2 i b) := Mm.sum_chunks fun r => x (ix2 r i) * y (ix2 r b)

/-- The block that a last point stores holds its part of the product. -/
theorem block_apply (t : Fin cfg0.N) (h : t.val % 16 = 15) (a : Fin 512) (b : Fin 2048) :
    (outsAt0 m c t.val t.isLt).1 (ix2 a b) = prod (m (c.tc.loc main_arg0)) (m (c.tc.loc main_arg1)) (ix2 (rowOf t a) b) := by
  refine (congrFun (block_last m c t (by omega) h) (ix2 a b)).trans ((sum_apply m c t.val t.isLt a b).trans ?_)
  rw [h]
  exact sum_parts _ _ _ b

attribute [local irreducible] outsAt0 prod

/-- The whole array after the last point. -/
theorem array_eq : (dats m 0 c).arrAt 2 cfg0.N = prod (m (c.tc.loc main_arg0)) (m (c.tc.loc main_arg1)) := by
  refine (dats m 0 c).arrAt_eq_of_cover 2 (prod (m (c.tc.loc main_arg0)) (m (c.tc.loc main_arg1))) (fun t ht => ?_) (fun y => ?_)
  · show (cfg0.win 2).cut (grid0.coords t) ((dats m 0 c).after 2 t) = _
    rw [after0_2]
    funext y
    obtain ⟨a, b, rfl⟩ : ∃ (a : Fin 512) (b : Fin 2048), y = ix2 a b := pair y
    show (outsAt0 m c t.val t.isLt).1 (ix2 a b) = prod (m (c.tc.loc main_arg0)) (m (c.tc.loc main_arg1)) (((cfg0.win 2).blk t).view.emb (ix2 a b))
    rw [emb2, block_apply m c t ((flush0_2 t).1 ht)]
  · obtain ⟨r, q, rfl⟩ : ∃ (r : Fin 1024) (q : Fin 2048), y = ix2 r q := pair y
    refine ⟨pointOf r, (flush0_2 _).2 (pointOf_last r), ?_⟩
    have e := emb2 (pointOf r) (rowAt r) q
    rw [rowOf_pointOf] at e
    rw [← e]
    exact View.emb_mem_set _ _

end Cert.Kernel18Ideal.GluDw

namespace Cert.Reference18Ideal.GluDw

open Cert.Reference18Ideal Cert.Reference18Ideal.Gen
open Idealize.ShloMosaic TcCoe
open Idealize.SL.Sem
open Cert.Kernel18Ideal.GluDw (prod)
open Cert.Head (pair)

/-- The reference's product, -/
def dot {F : FTy → Type} [FloatOps F] (x : Vec F S16384x1024 .f32) (y : Vec F S16384x2048 .f32) : Vec F S1024x2048 .bf16 :=
  (truncf .bf16 (Host.dotGeneral dot_S1024x16384_S16384x2048_S1024x2048_1_0_0_1_n_n none (transpose S1024x16384 [1, 0] x transposes_S16384x1024_S1024x16384_1_0) y : FVec F S1024x2048 .f32)
    bitsLt_bf16_f32 : FVec F S1024x2048 .bf16)

/-- element by element the sum over all rows. -/
theorem dot_eq (x : Vec Ideal S16384x1024 .f32) (y : Vec Ideal S16384x2048 .f32) : dot x y = prod x y := funext fun z => by
  obtain ⟨i, d, rfl⟩ : ∃ (i : Fin 1024) (d : Fin 2048), z = ix2 i d := pair z
  show dot x y (ix2 i d) = ∑ r : Fin 16384, x (ix2 r i) * y (ix2 r d)
  pointwise [dot]

end Cert.Reference18Ideal.GluDw

namespace Cert.Proof

open Idealize.ShloMosaic TcCoe
open Idealize.SL.Sem

/-- The kernel and the reference end with the same product. -/
theorem algebraic18 : algebraic_Kernel18Ideal_Reference18Ideal (hKernel18Ideal := Kernel18Ideal.Gen.facts)
    (hReference18Ideal := Reference18Ideal.Gen.facts) := fun m g m' g' _ ha =>
  ⟨fun c => Kernel18Ideal.GluDw.prod (m (c.tc.loc Kernel18Ideal.main_arg0)) (m (c.tc.loc Kernel18Ideal.main_arg1)),
    (θ_run _ _ _).mono (fun r h c => ⟨((h.1 c).1 2).trans (Kernel18Ideal.GluDw.array_eq m c), h.2.1 c⟩) (θ_run_and (Kernel18Ideal.Gen.run_main m g) (Kernel18Ideal.Gen.frame m g)),
    (θ_run _ _ _).mono (fun r h c => ⟨(h c).1.trans (by
      refine (Reference18Ideal.GluDw.dot_eq _ _).trans ?_
      rw [(ha c).1, (ha c).2]), (h c).2⟩) (Reference18Ideal.Value.run (F := Ideal) m' g')⟩

theorem frame_reference18 : quiescent_Reference18Ideal (hReference18Ideal := Reference18Ideal.Gen.facts) := fun m g _ =>
  (θ_run _ _ _).mono (fun r h => ⟨fun c => (h c).2, sem_eq_zero_of_no_sems (by decide) r.2⟩) (Reference18Ideal.Value.run (F := Ideal) m g)

end Cert.Proof
-- ==== Proof.Mm.GluDx.lean ====
/-
  The gradient of the state-space layer's gate projection with respect to its input, `g @ w.T`: what one grid point computes, the whole array, the reference's product, and the equation of the two.
-/
module

public import proofs.«01_k».proof.Defs
public import proofs.«01_k».proof.Proof.Mm.Common
public import Idealize.ShloMosaic.Lib.Quiescent
public import proofs.«01_k».proof.Proof.Gen.Kernel19Ideal.Frame
public import proofs.«01_k».proof.Proof.Gen.Reference19Ideal.Run

@[expose] public section

set_option maxRecDepth 16384

noncomputable section

namespace Cert.Kernel19Ideal.GluDx

open Cert.Kernel19Ideal Cert.Kernel19Ideal.Gen
open Idealize.ShloMosaic TcCoe
open Idealize.SL.Sem
open Cert.Head (pair)

/-! ## One grid point -/

section Any

variable {F : FTy → Type} [FloatOps F] (m : (ℓ : Loc nD τ sig) → Buf (Elt F) ℓ) (c : Dev nD)

/-- The block stored is the product of the point's two blocks, added to zero. -/
theorem block_eq (t : Fin cfg0.N) : outsAt0 m c t = k0_pay2 (iblk m c 0 t) (iblk m c 1 t) k0_pay1 := by
  unfold outsAt0 out0_A_2 kernelRun0_A
  dsimp only
  refine (Views.store_whole VO0_2 _ _ _ _).trans ?_
  unfold kernelRun0_A.sl.v16 kernelRun0_A.sl.HS0_2
  refine (Mm.load_stored _ _ _ _ _).trans ?_
  unfold kernelRun0_A.sl.v7 kernelRun0_A.sl.HS0_1
  exact Mm.load_two k0_pay2 (hs0_0 t) (hs0_1 t) (Mm.load_stored _ _ _ _ _)

/-- The host rounds the factors for the launch. -/
theorem V_main_v0 : V m c main_v0 = (truncf .bf16 (m (c.tc.loc main_arg0) : Vec F S16384x2048 .f32) bitsLt_bf16_f32 : Vec F S16384x2048 .bf16) := by
  unfold V
  after_results_simp <;> rfl

theorem V_main_v1 : V m c main_v1 = (truncf .bf16 (m (c.tc.loc main_arg1) : Vec F S1024x2048 .f32) bitsLt_bf16_f32 : Vec F S1024x2048 .bf16) := by
  unfold V
  after_results_simp <;> rfl

end Any

variable (m : (ℓ : Loc nD τ sig) → Buf (Elt Ideal) ℓ) (c : Dev nD)

theorem pay_apply (x : Vec Ideal S1024x2048 .bf16) (y : Vec Ideal S512x2048 .bf16) (a : Fin 1024) (b : Fin 512) :
    k0_pay2 x y (k0_pay1 (F := Ideal)) (ix2 a b) = ∑ j : Fin 2048, x (ix2 a j) * y (ix2 b j) := by
  pointwise [k0_pay2, k0_pay1]

/-! ## Where the blocks lie -/

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)
theorem idx2 : ∀ t : Fin cfg0.N, win0_2.index t (0 : Fin 2) = t.val / 2 ∧ win0_2.index t (1 : Fin 2) = t.val % 2 :=
  (by decide +kernel : ∀ t : Fin grid0.N, _)

theorem t_lt (t : Fin cfg0.N) : t.val < 32 := lt_of_lt_of_eq t.isLt N_0

/-- Row `a` and column `b` of the block of point `t`. -/
def rowOf (t : Fin cfg0.N) (a : Fin 1024) : Fin 16384 := ⟨1024 * (t.val / 2) + a.val, by have := t_lt t; have := a.isLt; omega⟩
def colOf (t : Fin cfg0.N) (b : Fin 512) : Fin 1024 := ⟨512 * (t.val % 2) + b.val, by have := b.isLt; omega⟩

theorem emb0 (t : Fin cfg0.N) (a : Fin 1024) (j : Fin 2048) : ((cfg0.win 0).blk t).view.emb (ix2 a j) = (ix2 (rowOf t a) j : S16384x2048.Idx) := by
  obtain ⟨e0, e1⟩ := idx0 t
  funext x; apply Fin.ext
  match x with
  | ⟨0, _⟩ => show win0_0.index t (0 : Fin 2) * 1024 + 1 * a.val = 1024 * (t.val / 2) + a.val; omega
  | ⟨1, _⟩ => show win0_0.index t (1 : Fin 2) * 2048 + 1 * j.val = j.val; omega

theorem emb1 (t : Fin cfg0.N) (j : Fin 2048) (b : Fin 512) : ((cfg0.win 1).blk t).view.emb (ix2 b j) = (ix2 (colOf t b) j : S1024x2048.Idx) := by
  obtain ⟨e0, e1⟩ := idx1 t
  funext x; apply Fin.ext
  match x with
  | ⟨0, _⟩ => show win0_1.index t (0 : Fin 2) * 512 + 1 * b.val = 512 * (t.val % 2) + b.val; omega
  | ⟨1, _⟩ => show win0_1.index t (1 : Fin 2) * 2048 + 1 * j.val = j.val; omega

theorem emb2 (t : Fin cfg0.N) (a : Fin 1024) (b : Fin 512) : ((cfg0.win 2).blk t).view.emb (ix2 a b) = (ix2 (rowOf t a) (colOf t b) : S16384x1024.Idx) := by
  obtain ⟨e0, e1⟩ := idx2 t
  funext x; apply Fin.ext
  match x with
  | ⟨0, _⟩ => show win0_2.index t (0 : Fin 2) * 1024 + 1 * a.val = 1024 * (t.val / 2) + a.val; omega
  | ⟨1, _⟩ => show win0_2.index t (1 : Fin 2) * 512 + 1 * b.val = 512 * (t.val % 2) + b.val; omega

/-- Every row and column lie in some point's block. -/
theorem covered (r : Fin 16384) (q : Fin 1024) : ∃ (t : Fin cfg0.N) (a : Fin 1024) (b : Fin 512), rowOf t a = r ∧ colOf t b = q := by
  have := r.isLt
  have := q.isLt
  refine ⟨⟨2 * (r.val / 1024) + q.val / 512, lt_of_lt_of_eq (by omega) N_0.symm⟩, ⟨r.val % 1024, Nat.mod_lt _ (by decide)⟩,
    ⟨q.val % 512, Nat.mod_lt _ (by decide)⟩, Fin.ext ?_, Fin.ext ?_⟩
  · show 1024 * ((2 * (r.val / 1024) + q.val / 512) / 2) + r.val % 1024 = r.val
    omega
  · show 512 * ((2 * (r.val / 1024) + q.val / 512) % 2) + q.val % 512 = q.val
    omega

/-! ## The result -/

/-- The product as an array. -/
def prod (x : Vec Ideal S16384x2048 .f32) (w : Vec Ideal S1024x2048 .f32) : Vec Ideal S16384x1024 .f32 :=
  fun y => ∑ j : Fin 2048, x (ix2 (y 0) j) * w (ix2 (y 1) j)

/-- What a point reads of its blocks. -/
theorem read0 (t : Fin cfg0.N) (a : Fin 1024) (j : Fin 2048) :
    (iblk m c 0 t : Vec Ideal S1024x2048 .bf16) (ix2 a j) = (m (c.tc.loc main_arg0) : Vec Ideal S16384x2048 .f32) (ix2 (rowOf t a) j) := by
  show V m c main_v0 (((cfg0.win 0).blk t).view.emb (ix2 a j)) = _
  rw [emb0, V_main_v0]
  rfl

theorem read1 (t : Fin cfg0.N) (j : Fin 2048) (b : Fin 512) :
    (iblk m c 1 t : Vec Ideal S512x2048 .bf16) (ix2 b j) = (m (c.tc.loc main_arg1) : Vec Ideal S1024x2048 .f32) (ix2 (colOf t b) j) := by
  show V m c main_v1 (((cfg0.win 1).blk t).view.emb (ix2 b j)) = _
  rw [emb1, V_main_v1]
  rfl

/-- A point's block holds its part of the product. -/
theorem block_apply (t : Fin cfg0.N) (a : Fin 1024) (b : Fin 512) :
    outsAt0 m c t (ix2 a b) = prod (m (c.tc.loc main_arg0)) (m (c.tc.loc main_arg1)) (ix2 (rowOf t a) (colOf t b)) := by
  rw [block_eq]
  exact (pay_apply _ _ a b).trans (Finset.sum_congr rfl fun j _ => congrArg₂ (· * ·) (read0 m c t a j) (read1 m c t j b))

attribute [local irreducible] outsAt0 prod

/-- The whole array after the last point. -/
theorem array_eq : (dats m 0 c).arrAt 2 cfg0.N = prod (m (c.tc.loc main_arg0)) (m (c.tc.loc main_arg1)) := by
  refine (dats m 0 c).arrAt_eq_of_cover 2 (prod (m (c.tc.loc main_arg0)) (m (c.tc.loc main_arg1))) (fun t _ => ?_) (fun y => ?_)
  · show (cfg0.win 2).cut (grid0.coords t) ((dats m 0 c).after 2 t) = _
    funext y
    obtain ⟨a, b, rfl⟩ : ∃ (a : Fin 1024) (b : Fin 512), y = ix2 a b := pair y
    show outsAt0 m c t (ix2 a b) = prod (m (c.tc.loc main_arg0)) (m (c.tc.loc main_arg1)) (((cfg0.win 2).blk t).view.emb (ix2 a b))
    rw [emb2, block_apply]
  · obtain ⟨r, q, rfl⟩ : ∃ (r : Fin 16384) (q : Fin 1024), y = ix2 r q := pair y
    obtain ⟨t, a, b, rfl, rfl⟩ := covered r q
    refine ⟨t, flush0_2 _, ?_⟩
    rw [← emb2]
    exact View.emb_mem_set _ _

end Cert.Kernel19Ideal.GluDx

namespace Cert.Reference19Ideal.GluDx

open Cert.Reference19Ideal Cert.Reference19Ideal.Gen
open Idealize.ShloMosaic TcCoe
open Cert.Kernel19Ideal.GluDx (prod)
open Cert.Head (pair)

/-- The reference's product, -/
def dot {F : FTy → Type} [FloatOps F] (x : Vec F S16384x2048 .f32) (w : Vec F S1024x2048 .f32) : Vec F S16384x1024 .f32 :=
  Host.dotGeneral dot_S16384x2048_S2048x1024_S16384x1024_1_0_0_1_n_n none x (transpose S2048x1024 [1, 0] w transposes_S1024x2048_S2048x1024_1_0)

/-- element by element the sum over the inner width. -/
theorem dot_eq (x : Vec Ideal S16384x2048 .f32) (w : Vec Ideal S1024x2048 .f32) : dot x w = prod x w := funext fun y => by
  obtain ⟨i, d, rfl⟩ : ∃ (i : Fin 16384) (d : Fin 1024), y = ix2 i d := pair y
  show dot x w (ix2 i d) = ∑ j : Fin 2048, x (ix2 i j) * w (ix2 d j)
  pointwise [dot]

end Cert.Reference19Ideal.GluDx

namespace Cert.Proof

open Idealize.ShloMosaic TcCoe
open Idealize.SL.Sem

/-- The kernel and the reference end with the same product. -/
theorem algebraic19 : algebraic_Kernel19Ideal_Reference19Ideal (hKernel19Ideal := Kernel19Ideal.Gen.facts)
    (hReference19Ideal := Reference19Ideal.Gen.facts) := fun m g m' g' _ ha =>
  ⟨fun c => Kernel19Ideal.GluDx.prod (m (c.tc.loc Kernel19Ideal.main_arg0)) (m (c.tc.loc Kernel19Ideal.main_arg1)),
    (θ_run _ _ _).mono (fun r h c => ⟨((h.1 c).1 2).trans (Kernel19Ideal.GluDx.array_eq m c), h.2.1 c⟩)
      (θ_run_and (Kernel19Ideal.Gen.run_main m g) (Kernel19Ideal.Gen.frame m g)),
    (θ_run _ _ _).mono (fun r h c => ⟨(h c).1.trans (by
      refine (Reference19Ideal.GluDx.dot_eq _ _).trans ?_
      rw [(ha c).1, (ha c).2]), (h c).2⟩) (Reference19Ideal.Value.run (F := Ideal) m' g')⟩

theorem frame_reference19 : quiescent_Reference19Ideal (hReference19Ideal := Reference19Ideal.Gen.facts) := fun m g _ =>
  (θ_run _ _ _).mono (fun r h => ⟨fun c => (h c).2, sem_eq_zero_of_no_sems (by decide) r.2⟩) (Reference19Ideal.Value.run (F := Ideal) m g)

end Cert.Proof
-- ==== Proof.Mm.In.lean ====
/-
  The state-space layer's input projection, `x @ w`: what one grid point computes, the whole array, the reference's product, and the equation of the two.
-/
module

public import proofs.«01_k».proof.Defs
public import proofs.«01_k».proof.Proof.Mm.Common
public import Idealize.ShloMosaic.Lib.Quiescent
public import proofs.«01_k».proof.Proof.Gen.Kernel20Ideal.Frame
public import proofs.«01_k».proof.Proof.Gen.Reference20Ideal.Run

@[expose] public section

set_option maxRecDepth 16384

noncomputable section

namespace Cert.Kernel20Ideal.In

open Cert.Kernel20Ideal Cert.Kernel20Ideal.Gen
open Idealize.ShloMosaic TcCoe
open Idealize.SL.Sem
open Cert.Head (pair)

/-! ## One grid point -/

section Any

variable {F : FTy → Type} [FloatOps F] (m : (ℓ : Loc nD τ sig) → Buf (Elt F) ℓ) (c : Dev nD)

/-- The block stored is the product of the point's two blocks, added to zero. -/
theorem block_eq (t : Fin cfg0.N) : outsAt0 m c t = k0_pay2 (iblk m c 0 t) (iblk m c 1 t) k0_pay1 := by
  unfold outsAt0 out0_A_2 kernelRun0_A
  dsimp only
  refine (Views.store_whole VO0_2 _ _ _ _).trans ?_
  unfold kernelRun0_A.sl.v16 kernelRun0_A.sl.HS0_2
  refine (Mm.load_stored _ _ _ _ _).trans ?_
  unfold kernelRun0_A.sl.v7 kernelRun0_A.sl.HS0_1
  exact Mm.load_two k0_pay2 (hs0_0 t) (hs0_1 t) (Mm.load_stored _ _ _ _ _)

/-- The host rounds the factors for the launch. -/
theorem V_main_v0 : V m c main_v0 = (truncf .bf16 (m (c.tc.loc main_arg0) : Vec F S16384x1024 .f32) bitsLt_bf16_f32 : Vec F S16384x1024 .bf16) := by
  unfold V
  after_results_simp <;> rfl

theorem V_main_v1 : V m c main_v1 = (truncf .bf16 (m (c.tc.loc main_arg1) : Vec F S1024x1024 .f32) bitsLt_bf16_f32 : Vec F S1024x1024 .bf16) := by
  unfold V
  after_results_simp <;> rfl

end Any

variable (m : (ℓ : Loc nD τ sig) → Buf (Elt Ideal) ℓ) (c : Dev nD)

theorem pay_apply (x : Vec Ideal S2048x1024 .bf16) (y : Vec Ideal S1024x512 .bf16) (a : Fin 2048) (b : Fin 512) :
    k0_pay2 x y (k0_pay1 (F := Ideal)) (ix2 a b) = ∑ j : Fin 1024, x (ix2 a j) * y (ix2 j b) := by
  pointwise [k0_pay2, k0_pay1]

/-! ## Where the blocks lie -/

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 2 :=
  (by decide +kernel : ∀ t : Fin grid0.N, _)
theorem idx2 : ∀ t : Fin cfg0.N, win0_2.index t (0 : Fin 2) = t.val / 2 ∧ win0_2.index t (1 : Fin 2) = t.val % 2 :=
  (by decide +kernel : ∀ t : Fin grid0.N, _)

theorem t_lt (t : Fin cfg0.N) : t.val < 16 := lt_of_lt_of_eq t.isLt N_0

/-- Row `a` and column `b` of the block of point `t`. -/
def rowOf (t : Fin cfg0.N) (a : Fin 2048) : Fin 16384 := ⟨2048 * (t.val / 2) + a.val, by have := t_lt t; have := a.isLt; omega⟩
def colOf (t : Fin cfg0.N) (b : Fin 512) : Fin 1024 := ⟨512 * (t.val % 2) + b.val, by have := b.isLt; omega⟩

theorem emb0 (t : Fin cfg0.N) (a : Fin 2048) (j : Fin 1024) : ((cfg0.win 0).blk t).view.emb (ix2 a j) = (ix2 (rowOf t a) j : S16384x1024.Idx) := by
  obtain ⟨e0, e1⟩ := idx0 t
  funext x; apply Fin.ext
  match x with
  | ⟨0, _⟩ => show win0_0.index t (0 : Fin 2) * 2048 + 1 * a.val = 2048 * (t.val / 2) + a.val; omega
  | ⟨1, _⟩ => show win0_0.index t (1 : Fin 2) * 1024 + 1 * j.val = j.val; omega

theorem emb1 (t : Fin cfg0.N) (j : Fin 1024) (b : Fin 512) : ((cfg0.win 1).blk t).view.emb (ix2 j b) = (ix2 j (colOf t b) : S1024x1024.Idx) := by
  obtain ⟨e0, e1⟩ := idx1 t
  funext x; apply Fin.ext
  match x with
  | ⟨0, _⟩ => show win0_1.index t (0 : Fin 2) * 1024 + 1 * j.val = j.val; omega
  | ⟨1, _⟩ => show win0_1.index t (1 : Fin 2) * 512 + 1 * b.val = 512 * (t.val % 2) + b.val; omega

theorem emb2 (t : Fin cfg0.N) (a : Fin 2048) (b : Fin 512) : ((cfg0.win 2).blk t).view.emb (ix2 a b) = (ix2 (rowOf t a) (colOf t b) : S16384x1024.Idx) := by
  obtain ⟨e0, e1⟩ := idx2 t
  funext x; apply Fin.ext
  match x with
  | ⟨0, _⟩ => show win0_2.index t (0 : Fin 2) * 2048 + 1 * a.val = 2048 * (t.val / 2) + a.val; omega
  | ⟨1, _⟩ => show win0_2.index t (1 : Fin 2) * 512 + 1 * b.val = 512 * (t.val % 2) + b.val; omega

/-- Every row and column lie in some point's block. -/
theorem covered (r : Fin 16384) (q : Fin 1024) : ∃ (t : Fin cfg0.N) (a : Fin 2048) (b : Fin 512), rowOf t a = r ∧ colOf t b = q := by
  have := r.isLt
  have := q.isLt
  refine ⟨⟨2 * (r.val / 2048) + q.val / 512, lt_of_lt_of_eq (by omega) N_0.symm⟩, ⟨r.val % 2048, Nat.mod_lt _ (by decide)⟩,
    ⟨q.val % 512, Nat.mod_lt _ (by decide)⟩, Fin.ext ?_, Fin.ext ?_⟩
  · show 2048 * ((2 * (r.val / 2048) + q.val / 512) / 2) + r.val % 2048 = r.val
    omega
  · show 512 * ((2 * (r.val / 2048) + q.val / 512) % 2) + q.val % 512 = q.val
    omega

/-! ## The result -/

/-- The product as an array. -/
def prod (x : Vec Ideal S16384x1024 .f32) (w : Vec Ideal S1024x1024 .f32) : Vec Ideal S16384x1024 .f32 :=
  fun y => ∑ j : Fin 1024, x (ix2 (y 0) j) * w (ix2 j (y 1))

/-- What a point reads of its blocks. -/
theorem read0 (t : Fin cfg0.N) (a : Fin 2048) (j : Fin 1024) :
    (iblk m c 0 t : Vec Ideal S2048x1024 .bf16) (ix2 a j) = (m (c.tc.loc main_arg0) : Vec Ideal S16384x1024 .f32) (ix2 (rowOf t a) j) := by
  show V m c main_v0 (((cfg0.win 0).blk t).view.emb (ix2 a j)) = _
  rw [emb0, V_main_v0]
  rfl

theorem read1 (t : Fin cfg0.N) (j : Fin 1024) (b : Fin 512) :
    (iblk m c 1 t : Vec Ideal S1024x512 .bf16) (ix2 j b) = (m (c.tc.loc main_arg1) : Vec Ideal S1024x1024 .f32) (ix2 j (colOf t b)) := by
  show V m c main_v1 (((cfg0.win 1).blk t).view.emb (ix2 j b)) = _
  rw [emb1, V_main_v1]
  rfl

/-- A point's block holds its part of the product. -/
theorem block_apply (t : Fin cfg0.N) (a : Fin 2048) (b : Fin 512) :
    outsAt0 m c t (ix2 a b) = prod (m (c.tc.loc main_arg0)) (m (c.tc.loc main_arg1)) (ix2 (rowOf t a) (colOf t b)) := by
  rw [block_eq]
  exact (pay_apply _ _ a b).trans (Finset.sum_congr rfl fun j _ => congrArg₂ (· * ·) (read0 m c t a j) (read1 m c t j b))

attribute [local irreducible] outsAt0 prod

/-- The whole array after the last point. -/
theorem array_eq : (dats m 0 c).arrAt 2 cfg0.N = prod (m (c.tc.loc main_arg0)) (m (c.tc.loc main_arg1)) := by
  refine (dats m 0 c).arrAt_eq_of_cover 2 (prod (m (c.tc.loc main_arg0)) (m (c.tc.loc main_arg1))) (fun t _ => ?_) (fun y => ?_)
  · show (cfg0.win 2).cut (grid0.coords t) ((dats m 0 c).after 2 t) = _
    funext y
    obtain ⟨a, b, rfl⟩ : ∃ (a : Fin 2048) (b : Fin 512), y = ix2 a b := pair y
    show outsAt0 m c t (ix2 a b) = prod (m (c.tc.loc main_arg0)) (m (c.tc.loc main_arg1)) (((cfg0.win 2).blk t).view.emb (ix2 a b))
    rw [emb2, block_apply]
  · obtain ⟨r, q, rfl⟩ : ∃ (r : Fin 16384) (q : Fin 1024), y = ix2 r q := pair y
    obtain ⟨t, a, b, rfl, rfl⟩ := covered r q
    refine ⟨t, flush0_2 _, ?_⟩
    rw [← emb2]
    exact View.emb_mem_set _ _

end Cert.Kernel20Ideal.In

namespace Cert.Reference20Ideal.In

open Cert.Reference20Ideal Cert.Reference20Ideal.Gen
open Idealize.ShloMosaic TcCoe
open Cert.Kernel20Ideal.In (prod)
open Cert.Head (pair)

/-- The reference's product, -/
def dot {F : FTy → Type} [FloatOps F] (x : Vec F S16384x1024 .f32) (w : Vec F S1024x1024 .f32) : Vec F S16384x1024 .f32 :=
  Host.dotGeneral dot_S16384x1024_S1024x1024_S16384x1024_1_0_0_1_n_n none x w

/-- element by element the sum over the inner width. -/
theorem dot_eq (x : Vec Ideal S16384x1024 .f32) (w : Vec Ideal S1024x1024 .f32) : dot x w = prod x w := funext fun y => by
  obtain ⟨i, d, rfl⟩ : ∃ (i : Fin 16384) (d : Fin 1024), y = ix2 i d := pair y
  show dot x w (ix2 i d) = ∑ j : Fin 1024, x (ix2 i j) * w (ix2 j d)
  pointwise [dot]

end Cert.Reference20Ideal.In

namespace Cert.Proof

open Idealize.ShloMosaic TcCoe
open Idealize.SL.Sem

/-- The kernel and the reference end with the same product. -/
theorem algebraic20 : algebraic_Kernel20Ideal_Reference20Ideal (hKernel20Ideal := Kernel20Ideal.Gen.facts)
    (hReference20Ideal := Reference20Ideal.Gen.facts) := fun m g m' g' _ ha =>
  ⟨fun c => Kernel20Ideal.In.prod (m (c.tc.loc Kernel20Ideal.main_arg0)) (m (c.tc.loc Kernel20Ideal.main_arg1)),
    (θ_run _ _ _).mono (fun r h c => ⟨((h.1 c).1 2).trans (Kernel20Ideal.In.array_eq m c), h.2.1 c⟩)
      (θ_run_and (Kernel20Ideal.Gen.run_main m g) (Kernel20Ideal.Gen.frame m g)),
    (θ_run _ _ _).mono (fun r h c => ⟨(h c).1.trans (by
      refine (Reference20Ideal.In.dot_eq _ _).trans ?_
      rw [(ha c).1, (ha c).2]), (h c).2⟩) (Reference20Ideal.Value.run (F := Ideal) m' g')⟩

theorem frame_reference20 : quiescent_Reference20Ideal (hReference20Ideal := Reference20Ideal.Gen.facts) := fun m g _ =>
  (θ_run _ _ _).mono (fun r h => ⟨fun c => (h c).2, sem_eq_zero_of_no_sems (by decide) r.2⟩) (Reference20Ideal.Value.run (F := Ideal) m g)

end Cert.Proof
-- ==== Proof.Mm.InDx.lean ====
/-
  The gradient of the state-space layer's input projection with respect to its input, `g @ w.T`: what one grid point computes, the whole array, the reference's product, and the equation of the two.
-/
module

public import proofs.«01_k».proof.Defs
public import proofs.«01_k».proof.Proof.Mm.Common
public import Idealize.ShloMosaic.Lib.Quiescent
public import proofs.«01_k».proof.Proof.Gen.Kernel21Ideal.Frame
public import proofs.«01_k».proof.Proof.Gen.Reference21Ideal.Run

@[expose] public section

set_option maxRecDepth 16384

noncomputable section

namespace Cert.Kernel21Ideal.InDx

open Cert.Kernel21Ideal Cert.Kernel21Ideal.Gen
open Idealize.ShloMosaic TcCoe
open Idealize.SL.Sem
open Cert.Head (pair)

/-! ## One grid point -/

section Any

variable {F : FTy → Type} [FloatOps F] (m : (ℓ : Loc nD τ sig) → Buf (Elt F) ℓ) (c : Dev nD)

/-- The block stored is the product of the point's two blocks, added to zero. -/
theorem block_eq (t : Fin cfg0.N) : outsAt0 m c t = k0_pay2 (iblk m c 0 t) (iblk m c 1 t) k0_pay1 := by
  unfold outsAt0 out0_A_2 kernelRun0_A
  dsimp only
  refine (Views.store_whole VO0_2 _ _ _ _).trans ?_
  unfold kernelRun0_A.sl.v16 kernelRun0_A.sl.HS0_2
  refine (Mm.load_stored _ _ _ _ _).trans ?_
  unfold kernelRun0_A.sl.v7 kernelRun0_A.sl.HS0_1
  exact Mm.load_two k0_pay2 (hs0_0 t) (hs0_1 t) (Mm.load_stored _ _ _ _ _)

/-- The host rounds the weight for the launch. -/
theorem V_main_v0 : V m c main_v0 = (truncf .bf16 (m (c.tc.loc main_arg1) : Vec F S1024x1024 .f32) bitsLt_bf16_f32 : Vec F S1024x1024 .bf16) := by
  unfold V
  after_results_simp <;> rfl

end Any

variable (m : (ℓ : Loc nD τ sig) → Buf (Elt Ideal) ℓ) (c : Dev nD)

theorem pay_apply (x : Vec Ideal S1024x1024 .f32) (y : Vec Ideal S512x1024 .bf16) (a : Fin 1024) (b : Fin 512) :
    k0_pay2 x y (k0_pay1 (F := Ideal)) (ix2 a b) = ∑ j : Fin 1024, x (ix2 a j) * y (ix2 b j) := by
  pointwise [k0_pay2, k0_pay1]

/-! ## Where the blocks lie -/

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)
theorem idx2 : ∀ t : Fin cfg0.N, win0_2.index t (0 : Fin 2) = t.val / 2 ∧ win0_2.index t (1 : Fin 2) = t.val % 2 :=
  (by decide +kernel : ∀ t : Fin grid0.N, _)

theorem t_lt (t : Fin cfg0.N) : t.val < 32 := lt_of_lt_of_eq t.isLt N_0

/-- Row `a` and column `b` of the block of point `t`. -/
def rowOf (t : Fin cfg0.N) (a : Fin 1024) : Fin 16384 := ⟨1024 * (t.val / 2) + a.val, by have := t_lt t; have := a.isLt; omega⟩
def colOf (t : Fin cfg0.N) (b : Fin 512) : Fin 1024 := ⟨512 * (t.val % 2) + b.val, by have := b.isLt; omega⟩

theorem emb0 (t : Fin cfg0.N) (a : Fin 1024) (j : Fin 1024) : ((cfg0.win 0).blk t).view.emb (ix2 a j) = (ix2 (rowOf t a) j : S16384x1024.Idx) := by
  obtain ⟨e0, e1⟩ := idx0 t
  funext x; apply Fin.ext
  match x with
  | ⟨0, _⟩ => show win0_0.index t (0 : Fin 2) * 1024 + 1 * a.val = 1024 * (t.val / 2) + a.val; omega
  | ⟨1, _⟩ => show win0_0.index t (1 : Fin 2) * 1024 + 1 * j.val = j.val; omega

theorem emb1 (t : Fin cfg0.N) (j : Fin 1024) (b : Fin 512) : ((cfg0.win 1).blk t).view.emb (ix2 b j) = (ix2 (colOf t b) j : S1024x1024.Idx) := by
  obtain ⟨e0, e1⟩ := idx1 t
  funext x; apply Fin.ext
  match x with
  | ⟨0, _⟩ => show win0_1.index t (0 : Fin 2) * 512 + 1 * b.val = 512 * (t.val % 2) + b.val; omega
  | ⟨1, _⟩ => show win0_1.index t (1 : Fin 2) * 1024 + 1 * j.val = j.val; omega

theorem emb2 (t : Fin cfg0.N) (a : Fin 1024) (b : Fin 512) : ((cfg0.win 2).blk t).view.emb (ix2 a b) = (ix2 (rowOf t a) (colOf t b) : S16384x1024.Idx) := by
  obtain ⟨e0, e1⟩ := idx2 t
  funext x; apply Fin.ext
  match x with
  | ⟨0, _⟩ => show win0_2.index t (0 : Fin 2) * 1024 + 1 * a.val = 1024 * (t.val / 2) + a.val; omega
  | ⟨1, _⟩ => show win0_2.index t (1 : Fin 2) * 512 + 1 * b.val = 512 * (t.val % 2) + b.val; omega

/-- Every row and column lie in some point's block. -/
theorem covered (r : Fin 16384) (q : Fin 1024) : ∃ (t : Fin cfg0.N) (a : Fin 1024) (b : Fin 512), rowOf t a = r ∧ colOf t b = q := by
  have := r.isLt
  have := q.isLt
  refine ⟨⟨2 * (r.val / 1024) + q.val / 512, lt_of_lt_of_eq (by omega) N_0.symm⟩, ⟨r.val % 1024, Nat.mod_lt _ (by decide)⟩,
    ⟨q.val % 512, Nat.mod_lt _ (by decide)⟩, Fin.ext ?_, Fin.ext ?_⟩
  · show 1024 * ((2 * (r.val / 1024) + q.val / 512) / 2) + r.val % 1024 = r.val
    omega
  · show 512 * ((2 * (r.val / 1024) + q.val / 512) % 2) + q.val % 512 = q.val
    omega

/-! ## The result -/

/-- The product as an array. -/
def prod (x : Vec Ideal S16384x1024 .f32) (w : Vec Ideal S1024x1024 .f32) : Vec Ideal S16384x1024 .f32 :=
  fun y => ∑ j : Fin 1024, x (ix2 (y 0) j) * w (ix2 (y 1) j)

/-- What a point reads of its blocks. -/
theorem read0 (t : Fin cfg0.N) (a : Fin 1024) (j : Fin 1024) :
    (iblk m c 0 t : Vec Ideal S1024x1024 .f32) (ix2 a j) = (m (c.tc.loc main_arg0) : Vec Ideal S16384x1024 .f32) (ix2 (rowOf t a) j) := by
  show V m c main_arg0 (((cfg0.win 0).blk t).view.emb (ix2 a j)) = _
  rw [emb0, V_main_arg0]

theorem read1 (t : Fin cfg0.N) (j : Fin 1024) (b : Fin 512) :
    (iblk m c 1 t : Vec Ideal S512x1024 .bf16) (ix2 b j) = (m (c.tc.loc main_arg1) : Vec Ideal S1024x1024 .f32) (ix2 (colOf t b) j) := by
  show V m c main_v0 (((cfg0.win 1).blk t).view.emb (ix2 b j)) = _
  rw [emb1, V_main_v0]
  rfl

/-- A point's block holds its part of the product. -/
theorem block_apply (t : Fin cfg0.N) (a : Fin 1024) (b : Fin 512) :
    outsAt0 m c t (ix2 a b) = prod (m (c.tc.loc main_arg0)) (m (c.tc.loc main_arg1)) (ix2 (rowOf t a) (colOf t b)) := by
  rw [block_eq]
  exact (pay_apply _ _ a b).trans (Finset.sum_congr rfl fun j _ => congrArg₂ (· * ·) (read0 m c t a j) (read1 m c t j b))

attribute [local irreducible] outsAt0 prod

/-- The whole array after the last point. -/
theorem array_eq : (dats m 0 c).arrAt 2 cfg0.N = prod (m (c.tc.loc main_arg0)) (m (c.tc.loc main_arg1)) := by
  refine (dats m 0 c).arrAt_eq_of_cover 2 (prod (m (c.tc.loc main_arg0)) (m (c.tc.loc main_arg1))) (fun t _ => ?_) (fun y => ?_)
  · show (cfg0.win 2).cut (grid0.coords t) ((dats m 0 c).after 2 t) = _
    funext y
    obtain ⟨a, b, rfl⟩ : ∃ (a : Fin 1024) (b : Fin 512), y = ix2 a b := pair y
    show outsAt0 m c t (ix2 a b) = prod (m (c.tc.loc main_arg0)) (m (c.tc.loc main_arg1)) (((cfg0.win 2).blk t).view.emb (ix2 a b))
    rw [emb2, block_apply]
  · obtain ⟨r, q, rfl⟩ : ∃ (r : Fin 16384) (q : Fin 1024), y = ix2 r q := pair y
    obtain ⟨t, a, b, rfl, rfl⟩ := covered r q
    refine ⟨t, flush0_2 _, ?_⟩
    rw [← emb2]
    exact View.emb_mem_set _ _

end Cert.Kernel21Ideal.InDx

namespace Cert.Reference21Ideal.InDx

open Cert.Reference21Ideal Cert.Reference21Ideal.Gen
open Idealize.ShloMosaic TcCoe
open Cert.Kernel21Ideal.InDx (prod)
open Cert.Head (pair)

/-- The reference's product, -/
def dot {F : FTy → Type} [FloatOps F] (x : Vec F S16384x1024 .f32) (w : Vec F S1024x1024 .f32) : Vec F S16384x1024 .f32 :=
  Host.dotGeneral dot_S16384x1024_S1024x1024_S16384x1024_1_0_0_1_n_n none x (transpose S1024x1024 [1, 0] w transposes_S1024x1024_S1024x1024_1_0)

/-- element by element the sum over the inner width. -/
theorem dot_eq (x : Vec Ideal S16384x1024 .f32) (w : Vec Ideal S1024x1024 .f32) : dot x w = prod x w := funext fun y => by
  obtain ⟨i, d, rfl⟩ : ∃ (i : Fin 16384) (d : Fin 1024), y = ix2 i d := pair y
  show dot x w (ix2 i d) = ∑ j : Fin 1024, x (ix2 i j) * w (ix2 d j)
  pointwise [dot]

end Cert.Reference21Ideal.InDx

namespace Cert.Proof

open Idealize.ShloMosaic TcCoe
open Idealize.SL.Sem

/-- The kernel and the reference end with the same product. -/
theorem algebraic21 : algebraic_Kernel21Ideal_Reference21Ideal (hKernel21Ideal := Kernel21Ideal.Gen.facts)
    (hReference21Ideal := Reference21Ideal.Gen.facts) := fun m g m' g' _ ha =>
  ⟨fun c => Kernel21Ideal.InDx.prod (m (c.tc.loc Kernel21Ideal.main_arg0)) (m (c.tc.loc Kernel21Ideal.main_arg1)),
    (θ_run _ _ _).mono (fun r h c => ⟨((h.1 c).1 2).trans (Kernel21Ideal.InDx.array_eq m c), h.2.1 c⟩)
      (θ_run_and (Kernel21Ideal.Gen.run_main m g) (Kernel21Ideal.Gen.frame m g)),
    (θ_run _ _ _).mono (fun r h c => ⟨(h c).1.trans (by
      refine (Reference21Ideal.InDx.dot_eq _ _).trans ?_
      rw [(ha c).1, (ha c).2]), (h c).2⟩) (Reference21Ideal.Value.run (F := Ideal) m' g')⟩

theorem frame_reference21 : quiescent_Reference21Ideal (hReference21Ideal := Reference21Ideal.Gen.facts) := fun m g _ =>
  (θ_run _ _ _).mono (fun r h => ⟨fun c => (h c).2, sem_eq_zero_of_no_sems (by decide) r.2⟩) (Reference21Ideal.Value.run (F := Ideal) m g)

end Cert.Proof
-- ==== Proof.Mm.SquareDw.lean ====
/-
  The gradient of the state-space layer's input projection and of the attention's output projection with respect to their weights, `x.T @ g`: the sums that the grid's points accumulate over sixteen chunks of
  rows, and the whole array they leave.
-/
module

public import proofs.«01_k».proof.Defs
public import proofs.«01_k».proof.Proof.Mm.Common
public import Idealize.ShloMosaic.Lib.Quiescent
public import proofs.«01_k».proof.Proof.Gen.Kernel22Ideal.Frame
public import proofs.«01_k».proof.Proof.Gen.Reference22Ideal.Run

@[expose] public section

set_option maxRecDepth 16384

noncomputable section

namespace Cert.Kernel22Ideal.SquareDw

open Cert.Kernel22Ideal Cert.Kernel22Ideal.Gen
open Idealize.ShloMosaic TcCoe
open Idealize.SL.Sem
open Cert.Head (pair)
open Cert.Mm (chunkRow)

/-! ## One grid point -/

section Any

variable {F : FTy → Type} [FloatOps F] (m : (ℓ : Loc nD τ sig) → Buf (Elt F) ℓ) (c : Dev nD)

/-- The first point of a row of tiles starts the sum with its product. -/
theorem sum_first (t : Fin cfg0.N) (h0 : t.val % 16 = 0) (h1 : ¬t.val % 16 = 15) :
    (outsAt0 m c t.val t.isLt).2 = k0_pay2 (iblk m c 0 t) (iblk m c 1 t) k0_pay1 := by
  rw [outsAt0_A m c t h0 h1]
  unfold sout0_A_0 kernelRun0_A
  dsimp only
  refine (Views.store_whole VS0_0 _ _ _ _).trans ?_
  unfold kernelRun0_A.sl.v7 kernelRun0_A.sl.HS0_1
  exact Mm.load_two k0_pay2 (hs0_0 t) (hs0_1 t) (Mm.load_stored _ _ _ _ _)

/-- Any other point adds its product to the sum before, -/
theorem sum_next (t : Fin cfg0.N) (h0 : ¬t.val % 16 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 16 = 15
  · rw [outsAt0_C m c t h0 h1]
    unfold sout0_C_0 kernelRun0_C
    dsimp only
    unfold kernelRun0_C.sl.HS0_1
    refine (Views.store_whole VS0_0 _ _ _ _).trans ?_
    exact Mm.load_two k0_pay2 (hs0_0 t) (hs0_1 t) (Mm.load_block _)
  · rw [outsAt0_B m c t h0 h1]
    unfold sout0_B_0 kernelRun0_B
    dsimp only
    refine (Views.store_whole VS0_0 _ _ _ _).trans ?_
    exact Mm.load_two k0_pay2 (hs0_0 t) (hs0_1 t) (Mm.load_block _)

/-- and the last stores the sum, rounded, as the block of the result. -/
theorem block_last (t : Fin cfg0.N) (h0 : ¬t.val % 16 = 0) (h1 : t.val % 16 = 15) :
    (outsAt0 m c t.val t.isLt).1 = k0_pay3 (outsAt0 m c t.val t.isLt).2 := by
  rw [sum_next m c t h0, outsAt0_C m c t h0 h1]
  unfold out0_C_2 kernelRun0_C
  dsimp only
  refine (Views.store_whole VO0_2 _ _ _ _).trans (congrArg k0_pay3 ?_)
  unfold kernelRun0_C.sl.v16 kernelRun0_C.sl.HS0_1
  refine (Mm.load_stored _ _ _ _ _).trans ?_
  exact Mm.load_two k0_pay2 (hs0_0 t) (hs0_1 t) (Mm.load_block _)

/-- The host rounds the first factor for the launch. -/
theorem V_main_v0 : V m c main_v0 = (truncf .bf16 (m (c.tc.loc main_arg0) : Vec F S16384x1024 .f32) bitsLt_bf16_f32 : Vec F S16384x1024 .bf16) := by
  unfold V
  after_results_simp <;> rfl

end Any

variable (m : (ℓ : Loc nD τ sig) → Buf (Elt Ideal) ℓ) (c : Dev nD)

theorem zero_apply (a : Fin 1024) (b : Fin 1024) : k0_pay1 (F := Ideal) (ix2 a b) = 0 := by
  pointwise [k0_pay1]

theorem pay_apply (x : Vec Ideal S1024x1024 .bf16) (y : Vec Ideal S1024x1024 .f32) (s : Vec Ideal S1024x1024 .f32) (a : Fin 1024) (b : Fin 1024) :
    k0_pay2 x y s (ix2 a b) = s (ix2 a b) + ∑ j : Fin 1024, x (ix2 j a) * y (ix2 j b) := by
  pointwise [k0_pay2]

/-! ## Where the blocks lie -/

theorem idx0 : ∀ t : Fin cfg0.N, win0_0.index t (0 : Fin 2) = t.val % 16 ∧ win0_0.index t (1 : Fin 2) = t.val / 16 :=
  (by decide +kernel : ∀ t : Fin grid0.N, _)
theorem idx1 : ∀ t : Fin cfg0.N, win0_1.index t (0 : Fin 2) = t.val % 16 ∧ win0_1.index t (1 : Fin 2) = 0 :=
  (by decide +kernel : ∀ t : Fin grid0.N, _)
theorem idx2 : ∀ t : Fin cfg0.N, win0_2.index t (0 : Fin 2) = t.val / 16 ∧ win0_2.index t (1 : Fin 2) = 0 :=
  (by decide +kernel : ∀ t : Fin grid0.N, _)

theorem t_lt (t : Fin cfg0.N) : t.val < 16 := lt_of_lt_of_eq t.isLt N_0

/-- Row `a` of the block of the result that point `t` adds to. -/
def rowOf (t : Fin cfg0.N) (a : Fin 1024) : Fin 1024 := ⟨1024 * (t.val / 16) + a.val, by have := t_lt t; have := a.isLt; omega⟩

theorem emb0 (t : Fin cfg0.N) (j : Fin 1024) (a : Fin 1024) :
    ((cfg0.win 0).blk t).view.emb (ix2 j a) = (ix2 (chunkRow (t.val % 16) j) (rowOf t a) : S16384x1024.Idx) := by
  obtain ⟨e0, e1⟩ := idx0 t
  have := j.isLt
  funext x; apply Fin.ext
  match x with
  | ⟨0, _⟩ => show win0_0.index t (0 : Fin 2) * 1024 + 1 * j.val = (1024 * (t.val % 16) + j.val) % 16384; omega
  | ⟨1, _⟩ => show win0_0.index t (1 : Fin 2) * 1024 + 1 * a.val = 1024 * (t.val / 16) + a.val; omega

theorem emb1 (t : Fin cfg0.N) (j : Fin 1024) (b : Fin 1024) :
    ((cfg0.win 1).blk t).view.emb (ix2 j b) = (ix2 (chunkRow (t.val % 16) j) b : S16384x1024.Idx) := by
  obtain ⟨e0, e1⟩ := idx1 t
  have := j.isLt
  funext x; apply Fin.ext
  match x with
  | ⟨0, _⟩ => show win0_1.index t (0 : Fin 2) * 1024 + 1 * j.val = (1024 * (t.val % 16) + j.val) % 16384; omega
  | ⟨1, _⟩ => show win0_1.index t (1 : Fin 2) * 1024 + 1 * b.val = b.val; omega

theorem emb2 (t : Fin cfg0.N) (a : Fin 1024) (b : Fin 1024) : ((cfg0.win 2).blk t).view.emb (ix2 a b) = (ix2 (rowOf t a) b : S1024x1024.Idx) := by
  obtain ⟨e0, e1⟩ := idx2 t
  funext x; apply Fin.ext
  match x with
  | ⟨0, _⟩ => show win0_2.index t (0 : Fin 2) * 1024 + 1 * a.val = 1024 * (t.val / 16) + a.val; omega
  | ⟨1, _⟩ => show win0_2.index t (1 : Fin 2) * 1024 + 1 * b.val = b.val; omega

/-- The last point of the sixteen that make the block of a row, and the row's place in the block. -/
def pointOf (r : Fin 1024) : Fin cfg0.N := ⟨16 * (r.val / 1024) + 15, lt_of_lt_of_eq (by have := r.isLt; omega) N_0.symm⟩
def rowAt (r : Fin 1024) : Fin 1024 := ⟨r.val % 1024, Nat.mod_lt _ (by decide)⟩

theorem rowOf_pointOf (r : Fin 1024) : rowOf (pointOf r) (rowAt r) = r := Fin.ext (by
  show 1024 * ((16 * (r.val / 1024) + 15) / 16) + r.val % 1024 = r.val
  omega)

theorem pointOf_last (r : Fin 1024) : (pointOf r).val % 16 = 15 := by
  show (16 * (r.val / 1024) + 15) % 16 = 15
  omega

/-! ## The sums -/

/-- What a point reads of its two blocks. -/
theorem read0 (t : Fin cfg0.N) (j : Fin 1024) (a : Fin 1024) : (iblk m c 0 t : Vec Ideal S1024x1024 .bf16) (ix2 j a)
    = (m (c.tc.loc main_arg0) : Vec Ideal S16384x1024 .f32) (ix2 (chunkRow (t.val % 16) j) (rowOf t a)) := by
  show V m c main_v0 (((cfg0.win 0).blk t).view.emb (ix2 j a)) = _
  rw [emb0, V_main_v0]
  rfl

theorem read1 (t : Fin cfg0.N) (j : Fin 1024) (b : Fin 1024) : (iblk m c 1 t : Vec Ideal S1024x1024 .f32) (ix2 j b)
    = (m (c.tc.loc main_arg1) : Vec Ideal S16384x1024 .f32) (ix2 (chunkRow (t.val % 16) j) b) := by
  show V m c main_arg1 (((cfg0.win 1).blk t).view.emb (ix2 j b)) = _
  rw [emb1, V_main_arg1]

/-- The part of an element of the product that one chunk of rows gives. -/
def part (x : Vec Ideal S16384x1024 .f32) (y : Vec Ideal S16384x1024 .f32) (i : Fin 1024) (b : Fin 1024) (k : ℕ) : EReal :=
  ∑ j : Fin 1024, x (ix2 (chunkRow k j) i) * y (ix2 (chunkRow k j) b)

/-- What a point adds to the sum. -/
theorem add_apply (t : Fin cfg0.N) (s : Vec Ideal S1024x1024 .f32) (a : Fin 1024) (b : Fin 1024) :
    k0_pay2 (iblk m c 0 t) (iblk m c 1 t) s (ix2 a b)
      = s (ix2 a b) + part (m (c.tc.loc main_arg0)) (m (c.tc.loc main_arg1)) (rowOf t a) b (t.val % 16) :=
  (pay_apply _ _ s a b).trans (congrArg (s (ix2 a b) + ·)
    (Finset.sum_congr rfl fun j _ => congrArg₂ (· * ·) (read0 m c t j a) (read1 m c t j b)))

/-- The sum after a point is that of the chunks of rows so far. -/
theorem sum_apply (n : ℕ) (hn : n < cfg0.N) (a : Fin 1024) (b : Fin 1024) : (outsAt0 m c n hn).2 (ix2 a b)
    = ∑ k ∈ Finset.range (n % 16 + 1), part (m (c.tc.loc main_arg0)) (m (c.tc.loc main_arg1)) (rowOf ⟨n, hn⟩ a) b k := by
  induction n with
  | zero =>
    refine (congrFun (sum_first m c ⟨0, hn⟩ (by show 0 % 16 = 0; decide) (by show ¬0 % 16 = 15; decide)) (ix2 a b)).trans ((add_apply m c ⟨0, hn⟩ _ a b).trans ?_)
    rw [zero_apply, zero_add]
    exact (Finset.sum_range_one _).symm
  | succ n ih =>
    by_cases h : (n + 1) % 16 = 0
    · refine (congrFun (sum_first m c ⟨n + 1, hn⟩ h (by show ¬(n + 1) % 16 = 15; omega)) (ix2 a b)).trans
        ((add_apply m c ⟨n + 1, hn⟩ _ a b).trans ?_)
      rw [zero_apply, zero_add]
      show part _ _ _ b ((n + 1) % 16) = _
      rw [h]
      exact (Finset.sum_range_one _).symm
    · refine (congrFun (sum_next m c ⟨n + 1, hn⟩ h) (ix2 a b)).trans ((add_apply m c ⟨n + 1, hn⟩ _ a b).trans ?_)
      rw [Finset.sum_range_succ]
      refine congrArg₂ (· + ·) ((ih (Nat.lt_of_succ_lt hn)).trans ?_) rfl
      have e : rowOf ⟨n, Nat.lt_of_succ_lt hn⟩ a = rowOf ⟨n + 1, hn⟩ a :=
        Fin.ext (by show 1024 * (n / 16) + a.val = 1024 * ((n + 1) / 16) + a.val; omega)
      rw [e, show n % 16 + 1 = (n + 1) % 16 by omega]

/-! ## The result -/

/-- The product as an array. -/
def prod (x : Vec Ideal S16384x1024 .f32) (y : Vec Ideal S16384x1024 .f32) : Vec Ideal S1024x1024 .bf16 :=
  fun z => ∑ r : Fin 16384, x (ix2 r (z 0)) * y (ix2 r (z 1))

/-- The sixteen parts make an element of it. -/
theorem sum_parts (x : Vec Ideal S16384x1024 .f32) (y : Vec Ideal S16384x1024 .f32) (i : Fin 1024) (b : Fin 1024) :
    ∑ k ∈ Finset.range 16, part x y i b k = prod x y (ix2 i b) := Mm.sum_chunks fun r => x (ix2 r i) * y (ix2 r b)

/-- The block that a last point stores holds its part of the product. -/
theorem block_apply (t : Fin cfg0.N) (h : t.val % 16 = 15) (a : Fin 1024) (b : Fin 1024) :
    (outsAt0 m c t.val t.isLt).1 (ix2 a b) = prod (m (c.tc.loc main_arg0)) (m (c.tc.loc main_arg1)) (ix2 (rowOf t a) b) := by
  refine (congrFun (block_last m c t (by omega) h) (ix2 a b)).trans ((sum_apply m c t.val t.isLt a b).trans ?_)
  rw [h]
  exact sum_parts _ _ _ b

attribute [local irreducible] outsAt0 prod

/-- The whole array after the last point. -/
theorem array_eq : (dats m 0 c).arrAt 2 cfg0.N = prod (m (c.tc.loc main_arg0)) (m (c.tc.loc main_arg1)) := by
  refine (dats m 0 c).arrAt_eq_of_cover 2 (prod (m (c.tc.loc main_arg0)) (m (c.tc.loc main_arg1))) (fun t ht => ?_) (fun y => ?_)
  · show (cfg0.win 2).cut (grid0.coords t) ((dats m 0 c).after 2 t) = _
    rw [after0_2]
    funext y
    obtain ⟨a, b, rfl⟩ : ∃ (a : Fin 1024) (b : Fin 1024), y = ix2 a b := pair y
    show (outsAt0 m c t.val t.isLt).1 (ix2 a b) = prod (m (c.tc.loc main_arg0)) (m (c.tc.loc main_arg1)) (((cfg0.win 2).blk t).view.emb (ix2 a b))
    rw [emb2, block_apply m c t ((flush0_2 t).1 ht)]
  · obtain ⟨r, q, rfl⟩ : ∃ (r : Fin 1024) (q : Fin 1024), y = ix2 r q := pair y
    refine ⟨pointOf r, (flush0_2 _).2 (pointOf_last r), ?_⟩
    have e := emb2 (pointOf r) (rowAt r) q
    rw [rowOf_pointOf] at e
    rw [← e]
    exact View.emb_mem_set _ _

end Cert.Kernel22Ideal.SquareDw

namespace Cert.Reference22Ideal.SquareDw

open Cert.Reference22Ideal Cert.Reference22Ideal.Gen
open Idealize.ShloMosaic TcCoe
open Idealize.SL.Sem
open Cert.Kernel22Ideal.SquareDw (prod)
open Cert.Head (pair)

/-- The reference's product, -/
def dot {F : FTy → Type} [FloatOps F] (x : Vec F S16384x1024 .f32) (y : Vec F S16384x1024 .f32) : Vec F S1024x1024 .bf16 :=
  (truncf .bf16 (Host.dotGeneral dot_S1024x16384_S16384x1024_S1024x1024_1_0_0_1_n_n none (transpose S1024x16384 [1, 0] x transposes_S16384x1024_S1024x16384_1_0) y : FVec F S1024x1024 .f32)
    bitsLt_bf16_f32 : FVec F S1024x1024 .bf16)

/-- element by element the sum over all rows. -/
theorem dot_eq (x : Vec Ideal S16384x1024 .f32) (y : Vec Ideal S16384x1024 .f32) : dot x y = prod x y := funext fun z => by
  obtain ⟨i, d, rfl⟩ : ∃ (i : Fin 1024) (d : Fin 1024), z = ix2 i d := pair z
  show dot x y (ix2 i d) = ∑ r : Fin 16384, x (ix2 r i) * y (ix2 r d)
  pointwise [dot]

end Cert.Reference22Ideal.SquareDw

namespace Cert.Proof

open Idealize.ShloMosaic TcCoe
open Idealize.SL.Sem

/-- The kernel and the reference end with the same product. -/
theorem algebraic22 : algebraic_Kernel22Ideal_Reference22Ideal (hKernel22Ideal := Kernel22Ideal.Gen.facts)
    (hReference22Ideal := Reference22Ideal.Gen.facts) := fun m g m' g' _ ha =>
  ⟨fun c => Kernel22Ideal.SquareDw.prod (m (c.tc.loc Kernel22Ideal.main_arg0)) (m (c.tc.loc Kernel22Ideal.main_arg1)),
    (θ_run _ _ _).mono (fun r h c => ⟨((h.1 c).1 2).trans (Kernel22Ideal.SquareDw.array_eq m c), h.2.1 c⟩) (θ_run_and (Kernel22Ideal.Gen.run_main m g) (Kernel22Ideal.Gen.frame m g)),
    (θ_run _ _ _).mono (fun r h c => ⟨(h c).1.trans (by
      refine (Reference22Ideal.SquareDw.dot_eq _ _).trans ?_
      rw [(ha c).1, (ha c).2]), (h c).2⟩) (Reference22Ideal.Value.run (F := Ideal) m' g')⟩

theorem frame_reference22 : quiescent_Reference22Ideal (hReference22Ideal := Reference22Ideal.Gen.facts) := fun m g _ =>
  (θ_run _ _ _).mono (fun r h => ⟨fun c => (h c).2, sem_eq_zero_of_no_sems (by decide) r.2⟩) (Reference22Ideal.Value.run (F := Ideal) m g)

end Cert.Proof
-- ==== Proof.Mm.Out.lean ====
/-
  The attention's output projection with the residual, `x @ w + h`: what one grid point computes, the whole array, the reference's product, and the equation of the two.
-/
module

public import proofs.«01_k».proof.Defs
public import proofs.«01_k».proof.Proof.Mm.Common
public import Idealize.ShloMosaic.Lib.Quiescent
public import proofs.«01_k».proof.Proof.Gen.Kernel23Ideal.Frame
public import proofs.«01_k».proof.Proof.Gen.Reference23Ideal.Run

@[expose] public section

set_option maxRecDepth 16384

noncomputable section

namespace Cert.Kernel23Ideal.Out

open Cert.Kernel23Ideal Cert.Kernel23Ideal.Gen
open Idealize.ShloMosaic TcCoe
open Idealize.SL.Sem
open Cert.Head (pair)

/-! ## One grid point -/

section Any

variable {F : FTy → Type} [FloatOps F] (m : (ℓ : Loc nD τ sig) → Buf (Elt F) ℓ) (c : Dev nD)

/-- The block stored is the product of the point's two blocks, added to zero, and its third block added. -/
theorem block_eq (t : Fin cfg0.N) : outsAt0 m c t = k0_pay3 (k0_pay2 (iblk m c 0 t) (iblk m c 1 t) k0_pay1) (iblk m c 2 t) := by
  unfold outsAt0 out0_A_3 kernelRun0_A
  dsimp only
  refine (Views.store_whole VO0_3 _ _ _ _).trans ?_
  refine congr (congrArg k0_pay3 ?_) (Mm.load_block (hs0_2 t))
  unfold kernelRun0_A.sl.v16 kernelRun0_A.sl.HS0_2
  refine (Mm.load_stored _ _ _ _ _).trans ?_
  unfold kernelRun0_A.sl.v7 kernelRun0_A.sl.HS0_1
  exact Mm.load_two k0_pay2 (hs0_0 t) (hs0_1 t) (Mm.load_stored _ _ _ _ _)

/-- The host rounds the factors for the launch. -/
theorem V_main_v0 : V m c main_v0 = (truncf .bf16 (m (c.tc.loc main_arg0) : Vec F S16384x1024 .f32) bitsLt_bf16_f32 : Vec F S16384x1024 .bf16) := by
  unfold V
  after_results_simp <;> rfl

theorem V_main_v1 : V m c main_v1 = (truncf .bf16 (m (c.tc.loc main_arg1) : Vec F S1024x1024 .f32) bitsLt_bf16_f32 : Vec F S1024x1024 .bf16) := by
  unfold V
  after_results_simp <;> rfl

end Any

variable (m : (ℓ : Loc nD τ sig) → Buf (Elt Ideal) ℓ) (c : Dev nD)

theorem pay_apply (x : Vec Ideal S2048x1024 .bf16) (y : Vec Ideal S1024x512 .bf16) (z : Vec Ideal S2048x512 .f32) (a : Fin 2048) (b : Fin 512) :
    k0_pay3 (k0_pay2 x y (k0_pay1 (F := Ideal))) z (ix2 a b) = (∑ j : Fin 1024, x (ix2 a j) * y (ix2 j b)) + z (ix2 a b) := by
  pointwise [k0_pay3, k0_pay2, k0_pay1]

/-! ## Where the blocks lie -/

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 2 :=
  (by decide +kernel : ∀ t : Fin grid0.N, _)
theorem idx3 : ∀ t : Fin cfg0.N, win0_3.index t (0 : Fin 2) = t.val / 2 ∧ win0_3.index t (1 : Fin 2) = t.val % 2 :=
  (by decide +kernel : ∀ t : Fin grid0.N, _)

theorem t_lt (t : Fin cfg0.N) : t.val < 16 := lt_of_lt_of_eq t.isLt N_0

/-- Row `a` and column `b` of the block of point `t`. -/
def rowOf (t : Fin cfg0.N) (a : Fin 2048) : Fin 16384 := ⟨2048 * (t.val / 2) + a.val, by have := t_lt t; have := a.isLt; omega⟩
def colOf (t : Fin cfg0.N) (b : Fin 512) : Fin 1024 := ⟨512 * (t.val % 2) + b.val, by have := b.isLt; omega⟩

theorem emb0 (t : Fin cfg0.N) (a : Fin 2048) (j : Fin 1024) : ((cfg0.win 0).blk t).view.emb (ix2 a j) = (ix2 (rowOf t a) j : S16384x1024.Idx) := by
  obtain ⟨e0, e1⟩ := idx0 t
  funext x; apply Fin.ext
  match x with
  | ⟨0, _⟩ => show win0_0.index t (0 : Fin 2) * 2048 + 1 * a.val = 2048 * (t.val / 2) + a.val; omega
  | ⟨1, _⟩ => show win0_0.index t (1 : Fin 2) * 1024 + 1 * j.val = j.val; omega

theorem emb1 (t : Fin cfg0.N) (j : Fin 1024) (b : Fin 512) : ((cfg0.win 1).blk t).view.emb (ix2 j b) = (ix2 j (colOf t b) : S1024x1024.Idx) := by
  obtain ⟨e0, e1⟩ := idx1 t
  funext x; apply Fin.ext
  match x with
  | ⟨0, _⟩ => show win0_1.index t (0 : Fin 2) * 1024 + 1 * j.val = j.val; omega
  | ⟨1, _⟩ => show win0_1.index t (1 : Fin 2) * 512 + 1 * b.val = 512 * (t.val % 2) + b.val; omega

theorem emb3 (t : Fin cfg0.N) (a : Fin 2048) (b : Fin 512) : ((cfg0.win 3).blk t).view.emb (ix2 a b) = (ix2 (rowOf t a) (colOf t b) : S16384x1024.Idx) := by
  obtain ⟨e0, e1⟩ := idx3 t
  funext x; apply Fin.ext
  match x with
  | ⟨0, _⟩ => show win0_3.index t (0 : Fin 2) * 2048 + 1 * a.val = 2048 * (t.val / 2) + a.val; omega
  | ⟨1, _⟩ => show win0_3.index t (1 : Fin 2) * 512 + 1 * b.val = 512 * (t.val % 2) + b.val; omega

/-- Every row and column lie in some point's block. -/
theorem covered (r : Fin 16384) (q : Fin 1024) : ∃ (t : Fin cfg0.N) (a : Fin 2048) (b : Fin 512), rowOf t a = r ∧ colOf t b = q := by
  have := r.isLt
  have := q.isLt
  refine ⟨⟨2 * (r.val / 2048) + q.val / 512, lt_of_lt_of_eq (by omega) N_0.symm⟩, ⟨r.val % 2048, Nat.mod_lt _ (by decide)⟩,
    ⟨q.val % 512, Nat.mod_lt _ (by decide)⟩, Fin.ext ?_, Fin.ext ?_⟩
  · show 2048 * ((2 * (r.val / 2048) + q.val / 512) / 2) + r.val % 2048 = r.val
    omega
  · show 512 * ((2 * (r.val / 2048) + q.val / 512) % 2) + q.val % 512 = q.val
    omega

/-! ## The result -/

/-- The sum as an array. -/
def prod (x : Vec Ideal S16384x1024 .f32) (w : Vec Ideal S1024x1024 .f32) (h : Vec Ideal S16384x1024 .f32) : Vec Ideal S16384x1024 .f32 :=
  fun y => (∑ j : Fin 1024, x (ix2 (y 0) j) * w (ix2 j (y 1))) + h y

/-- What a point reads of its blocks. -/
theorem read0 (t : Fin cfg0.N) (a : Fin 2048) (j : Fin 1024) :
    (iblk m c 0 t : Vec Ideal S2048x1024 .bf16) (ix2 a j) = (m (c.tc.loc main_arg0) : Vec Ideal S16384x1024 .f32) (ix2 (rowOf t a) j) := by
  show V m c main_v0 (((cfg0.win 0).blk t).view.emb (ix2 a j)) = _
  rw [emb0, V_main_v0]
  rfl

theorem read1 (t : Fin cfg0.N) (j : Fin 1024) (b : Fin 512) :
    (iblk m c 1 t : Vec Ideal S1024x512 .bf16) (ix2 j b) = (m (c.tc.loc main_arg1) : Vec Ideal S1024x1024 .f32) (ix2 j (colOf t b)) := by
  show V m c main_v1 (((cfg0.win 1).blk t).view.emb (ix2 j b)) = _
  rw [emb1, V_main_v1]
  rfl

theorem read2 (t : Fin cfg0.N) (a : Fin 2048) (b : Fin 512) :
    (iblk m c 2 t : Vec Ideal S2048x512 .f32) (ix2 a b) = (m (c.tc.loc main_arg2) : Vec Ideal S16384x1024 .f32) (ix2 (rowOf t a) (colOf t b)) := by
  show V m c main_arg2 (((cfg0.win 3).blk t).view.emb (ix2 a b)) = _
  rw [emb3, V_main_arg2]

/-- A point's block holds its part of the sum. -/
theorem block_apply (t : Fin cfg0.N) (a : Fin 2048) (b : Fin 512) :
    outsAt0 m c t (ix2 a b) = prod (m (c.tc.loc main_arg0)) (m (c.tc.loc main_arg1)) (m (c.tc.loc main_arg2)) (ix2 (rowOf t a) (colOf t b)) := by
  rw [block_eq]
  exact (pay_apply _ _ _ a b).trans (congrArg₂ (· + ·)
    (Finset.sum_congr rfl fun j _ => congrArg₂ (· * ·) (read0 m c t a j) (read1 m c t j b)) (read2 m c t a b))

attribute [local irreducible] outsAt0 prod

/-- The whole array after the last point. -/
theorem array_eq : (dats m 0 c).arrAt 3 cfg0.N = prod (m (c.tc.loc main_arg0)) (m (c.tc.loc main_arg1)) (m (c.tc.loc main_arg2)) := by
  refine (dats m 0 c).arrAt_eq_of_cover 3 (prod (m (c.tc.loc main_arg0)) (m (c.tc.loc main_arg1)) (m (c.tc.loc main_arg2))) (fun t _ => ?_) (fun y => ?_)
  · show (cfg0.win 3).cut (grid0.coords t) ((dats m 0 c).after 3 t) = _
    funext y
    obtain ⟨a, b, rfl⟩ : ∃ (a : Fin 2048) (b : Fin 512), y = ix2 a b := pair y
    show outsAt0 m c t (ix2 a b) = prod (m (c.tc.loc main_arg0)) (m (c.tc.loc main_arg1)) (m (c.tc.loc main_arg2)) (((cfg0.win 3).blk t).view.emb (ix2 a b))
    rw [emb3, block_apply]
  · obtain ⟨r, q, rfl⟩ : ∃ (r : Fin 16384) (q : Fin 1024), y = ix2 r q := pair y
    obtain ⟨t, a, b, rfl, rfl⟩ := covered r q
    refine ⟨t, flush0_3 _, ?_⟩
    rw [← emb3]
    exact View.emb_mem_set _ _

end Cert.Kernel23Ideal.Out

namespace Cert.Reference23Ideal.Out

open Cert.Reference23Ideal Cert.Reference23Ideal.Gen
open Idealize.ShloMosaic TcCoe
open Cert.Kernel23Ideal.Out (prod)
open Cert.Head (pair)

/-- The reference's product, -/
def dot {F : FTy → Type} [FloatOps F] (x : Vec F S16384x1024 .f32) (w : Vec F S1024x1024 .f32) (h : Vec F S16384x1024 .f32) : Vec F S16384x1024 .f32 :=
  addf h (Host.dotGeneral dot_S16384x1024_S1024x1024_S16384x1024_1_0_0_1_n_n none x w)

/-- element by element the sum over the inner width. -/
theorem dot_eq (x : Vec Ideal S16384x1024 .f32) (w : Vec Ideal S1024x1024 .f32) (h : Vec Ideal S16384x1024 .f32) : dot x w h = prod x w h := funext fun y => by
  obtain ⟨i, d, rfl⟩ : ∃ (i : Fin 16384) (d : Fin 1024), y = ix2 i d := pair y
  show dot x w h (ix2 i d) = (∑ j : Fin 1024, x (ix2 i j) * w (ix2 j d)) + h (ix2 i d)
  pointwise [dot]
  rw [add_comm]

end Cert.Reference23Ideal.Out

namespace Cert.Proof

open Idealize.ShloMosaic TcCoe
open Idealize.SL.Sem

/-- The kernel and the reference end with the same sum. -/
theorem algebraic23 : algebraic_Kernel23Ideal_Reference23Ideal (hKernel23Ideal := Kernel23Ideal.Gen.facts)
    (hReference23Ideal := Reference23Ideal.Gen.facts) := fun m g m' g' _ ha =>
  ⟨fun c => Kernel23Ideal.Out.prod (m (c.tc.loc Kernel23Ideal.main_arg0)) (m (c.tc.loc Kernel23Ideal.main_arg1)) (m (c.tc.loc Kernel23Ideal.main_arg2)),
    (θ_run _ _ _).mono (fun r h c => ⟨((h.1 c).1 3).trans (Kernel23Ideal.Out.array_eq m c), h.2.1 c⟩)
      (θ_run_and (Kernel23Ideal.Gen.run_main m g) (Kernel23Ideal.Gen.frame m g)),
    (θ_run _ _ _).mono (fun r h c => ⟨(h c).1.trans (by
      refine (Reference23Ideal.Out.dot_eq _ _ _).trans ?_
      rw [(ha c).1, (ha c).2.1, (ha c).2.2]), (h c).2⟩) (Reference23Ideal.Value.run (F := Ideal) m' g')⟩

theorem frame_reference23 : quiescent_Reference23Ideal (hReference23Ideal := Reference23Ideal.Gen.facts) := fun m g _ =>
  (θ_run _ _ _).mono (fun r h => ⟨fun c => (h c).2, sem_eq_zero_of_no_sems (by decide) r.2⟩) (Reference23Ideal.Value.run (F := Ideal) m g)

end Cert.Proof
-- ==== Proof.Mm.OutDx.lean ====
/-
  The gradient of the attention's output projection with respect to its input, `g @ w.T`: what one grid point computes, the whole array, the reference's product, and the equation of the two.
-/
module

public import proofs.«01_k».proof.Defs
public import proofs.«01_k».proof.Proof.Mm.Common
public import Idealize.ShloMosaic.Lib.Quiescent
public import proofs.«01_k».proof.Proof.Gen.Kernel24Ideal.Frame
public import proofs.«01_k».proof.Proof.Gen.Reference24Ideal.Run

@[expose] public section

set_option maxRecDepth 16384

noncomputable section

namespace Cert.Kernel24Ideal.OutDx

open Cert.Kernel24Ideal Cert.Kernel24Ideal.Gen
open Idealize.ShloMosaic TcCoe
open Idealize.SL.Sem
open Cert.Head (pair)

/-! ## One grid point -/

section Any

variable {F : FTy → Type} [FloatOps F] (m : (ℓ : Loc nD τ sig) → Buf (Elt F) ℓ) (c : Dev nD)

/-- The block stored is the product of the point's two blocks, added to zero, rounded. -/
theorem block_eq (t : Fin cfg0.N) : outsAt0 m c t = k0_pay3 (k0_pay2 (iblk m c 0 t) (iblk m c 1 t) k0_pay1) := by
  unfold outsAt0 out0_A_2 kernelRun0_A
  dsimp only
  refine (Views.store_whole VO0_2 _ _ _ _).trans ?_
  refine congrArg k0_pay3 ?_
  unfold kernelRun0_A.sl.v16 kernelRun0_A.sl.HS0_2
  refine (Mm.load_stored _ _ _ _ _).trans ?_
  unfold kernelRun0_A.sl.v7 kernelRun0_A.sl.HS0_1
  exact Mm.load_two k0_pay2 (hs0_0 t) (hs0_1 t) (Mm.load_stored _ _ _ _ _)

/-- The host rounds the weight for the launch. -/
theorem V_main_v0 : V m c main_v0 = (truncf .bf16 (m (c.tc.loc main_arg1) : Vec F S1024x1024 .f32) bitsLt_bf16_f32 : Vec F S1024x1024 .bf16) := by
  unfold V
  after_results_simp <;> rfl

end Any

variable (m : (ℓ : Loc nD τ sig) → Buf (Elt Ideal) ℓ) (c : Dev nD)

theorem pay_apply (x : Vec Ideal S1024x1024 .f32) (y : Vec Ideal S512x1024 .bf16) (a : Fin 1024) (b : Fin 512) :
    k0_pay3 (k0_pay2 x y (k0_pay1 (F := Ideal))) (ix2 a b) = ∑ j : Fin 1024, x (ix2 a j) * y (ix2 b j) := by
  pointwise [k0_pay3, k0_pay2, k0_pay1]

/-! ## Where the blocks lie -/

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)
theorem idx2 : ∀ t : Fin cfg0.N, win0_2.index t (0 : Fin 2) = t.val / 2 ∧ win0_2.index t (1 : Fin 2) = t.val % 2 :=
  (by decide +kernel : ∀ t : Fin grid0.N, _)

theorem t_lt (t : Fin cfg0.N) : t.val < 32 := lt_of_lt_of_eq t.isLt N_0

/-- Row `a` and column `b` of the block of point `t`. -/
def rowOf (t : Fin cfg0.N) (a : Fin 1024) : Fin 16384 := ⟨1024 * (t.val / 2) + a.val, by have := t_lt t; have := a.isLt; omega⟩
def colOf (t : Fin cfg0.N) (b : Fin 512) : Fin 1024 := ⟨512 * (t.val % 2) + b.val, by have := b.isLt; omega⟩

theorem emb0 (t : Fin cfg0.N) (a : Fin 1024) (j : Fin 1024) : ((cfg0.win 0).blk t).view.emb (ix2 a j) = (ix2 (rowOf t a) j : S16384x1024.Idx) := by
  obtain ⟨e0, e1⟩ := idx0 t
  funext x; apply Fin.ext
  match x with
  | ⟨0, _⟩ => show win0_0.index t (0 : Fin 2) * 1024 + 1 * a.val = 1024 * (t.val / 2) + a.val; omega
  | ⟨1, _⟩ => show win0_0.index t (1 : Fin 2) * 1024 + 1 * j.val = j.val; omega

theorem emb1 (t : Fin cfg0.N) (j : Fin 1024) (b : Fin 512) : ((cfg0.win 1).blk t).view.emb (ix2 b j) = (ix2 (colOf t b) j : S1024x1024.Idx) := by
  obtain ⟨e0, e1⟩ := idx1 t
  funext x; apply Fin.ext
  match x with
  | ⟨0, _⟩ => show win0_1.index t (0 : Fin 2) * 512 + 1 * b.val = 512 * (t.val % 2) + b.val; omega
  | ⟨1, _⟩ => show win0_1.index t (1 : Fin 2) * 1024 + 1 * j.val = j.val; omega

theorem emb2 (t : Fin cfg0.N) (a : Fin 1024) (b : Fin 512) : ((cfg0.win 2).blk t).view.emb (ix2 a b) = (ix2 (rowOf t a) (colOf t b) : S16384x1024.Idx) := by
  obtain ⟨e0, e1⟩ := idx2 t
  funext x; apply Fin.ext
  match x with
  | ⟨0, _⟩ => show win0_2.index t (0 : Fin 2) * 1024 + 1 * a.val = 1024 * (t.val / 2) + a.val; omega
  | ⟨1, _⟩ => show win0_2.index t (1 : Fin 2) * 512 + 1 * b.val = 512 * (t.val % 2) + b.val; omega

/-- Every row and column lie in some point's block. -/
theorem covered (r : Fin 16384) (q : Fin 1024) : ∃ (t : Fin cfg0.N) (a : Fin 1024) (b : Fin 512), rowOf t a = r ∧ colOf t b = q := by
  have := r.isLt
  have := q.isLt
  refine ⟨⟨2 * (r.val / 1024) + q.val / 512, lt_of_lt_of_eq (by omega) N_0.symm⟩, ⟨r.val % 1024, Nat.mod_lt _ (by decide)⟩,
    ⟨q.val % 512, Nat.mod_lt _ (by decide)⟩, Fin.ext ?_, Fin.ext ?_⟩
  · show 1024 * ((2 * (r.val / 1024) + q.val / 512) / 2) + r.val % 1024 = r.val
    omega
  · show 512 * ((2 * (r.val / 1024) + q.val / 512) % 2) + q.val % 512 = q.val
    omega

/-! ## The result -/

/-- The product as an array. -/
def prod (x : Vec Ideal S16384x1024 .f32) (w : Vec Ideal S1024x1024 .f32) : Vec Ideal S16384x1024 .bf16 :=
  fun y => ∑ j : Fin 1024, x (ix2 (y 0) j) * w (ix2 (y 1) j)

/-- What a point reads of its blocks. -/
theorem read0 (t : Fin cfg0.N) (a : Fin 1024) (j : Fin 1024) :
    (iblk m c 0 t : Vec Ideal S1024x1024 .f32) (ix2 a j) = (m (c.tc.loc main_arg0) : Vec Ideal S16384x1024 .f32) (ix2 (rowOf t a) j) := by
  show V m c main_arg0 (((cfg0.win 0).blk t).view.emb (ix2 a j)) = _
  rw [emb0, V_main_arg0]

theorem read1 (t : Fin cfg0.N) (j : Fin 1024) (b : Fin 512) :
    (iblk m c 1 t : Vec Ideal S512x1024 .bf16) (ix2 b j) = (m (c.tc.loc main_arg1) : Vec Ideal S1024x1024 .f32) (ix2 (colOf t b) j) := by
  show V m c main_v0 (((cfg0.win 1).blk t).view.emb (ix2 b j)) = _
  rw [emb1, V_main_v0]
  rfl

/-- A point's block holds its part of the product. -/
theorem block_apply (t : Fin cfg0.N) (a : Fin 1024) (b : Fin 512) :
    outsAt0 m c t (ix2 a b) = prod (m (c.tc.loc main_arg0)) (m (c.tc.loc main_arg1)) (ix2 (rowOf t a) (colOf t b)) := by
  rw [block_eq]
  exact (pay_apply _ _ a b).trans (Finset.sum_congr rfl fun j _ => congrArg₂ (· * ·) (read0 m c t a j) (read1 m c t j b))

attribute [local irreducible] outsAt0 prod

/-- The whole array after the last point. -/
theorem array_eq : (dats m 0 c).arrAt 2 cfg0.N = prod (m (c.tc.loc main_arg0)) (m (c.tc.loc main_arg1)) := by
  refine (dats m 0 c).arrAt_eq_of_cover 2 (prod (m (c.tc.loc main_arg0)) (m (c.tc.loc main_arg1))) (fun t _ => ?_) (fun y => ?_)
  · show (cfg0.win 2).cut (grid0.coords t) ((dats m 0 c).after 2 t) = _
    funext y
    obtain ⟨a, b, rfl⟩ : ∃ (a : Fin 1024) (b : Fin 512), y = ix2 a b := pair y
    show outsAt0 m c t (ix2 a b) = prod (m (c.tc.loc main_arg0)) (m (c.tc.loc main_arg1)) (((cfg0.win 2).blk t).view.emb (ix2 a b))
    rw [emb2, block_apply]
  · obtain ⟨r, q, rfl⟩ : ∃ (r : Fin 16384) (q : Fin 1024), y = ix2 r q := pair y
    obtain ⟨t, a, b, rfl, rfl⟩ := covered r q
    refine ⟨t, flush0_2 _, ?_⟩
    rw [← emb2]
    exact View.emb_mem_set _ _

end Cert.Kernel24Ideal.OutDx

namespace Cert.Reference24Ideal.OutDx

open Cert.Reference24Ideal Cert.Reference24Ideal.Gen
open Idealize.ShloMosaic TcCoe
open Cert.Kernel24Ideal.OutDx (prod)
open Cert.Head (pair)

/-- The reference's product, -/
def dot {F : FTy → Type} [FloatOps F] (x : Vec F S16384x1024 .f32) (w : Vec F S1024x1024 .f32) : Vec F S16384x1024 .bf16 :=
  (truncf .bf16 (Host.dotGeneral dot_S16384x1024_S1024x1024_S16384x1024_1_0_0_1_n_n none x (transpose S1024x1024 [1, 0] w transposes_S1024x1024_S1024x1024_1_0) : FVec F S16384x1024 .f32) bitsLt_bf16_f32 : FVec F S16384x1024 .bf16)

/-- element by element the sum over the inner width. -/
theorem dot_eq (x : Vec Ideal S16384x1024 .f32) (w : Vec Ideal S1024x1024 .f32) : dot x w = prod x w := funext fun y => by
  obtain ⟨i, d, rfl⟩ : ∃ (i : Fin 16384) (d : Fin 1024), y = ix2 i d := pair y
  show dot x w (ix2 i d) = ∑ j : Fin 1024, x (ix2 i j) * w (ix2 d j)
  pointwise [dot]

end Cert.Reference24Ideal.OutDx

namespace Cert.Proof

open Idealize.ShloMosaic TcCoe
open Idealize.SL.Sem

/-- The kernel and the reference end with the same product. -/
theorem algebraic24 : algebraic_Kernel24Ideal_Reference24Ideal (hKernel24Ideal := Kernel24Ideal.Gen.facts)
    (hReference24Ideal := Reference24Ideal.Gen.facts) := fun m g m' g' _ ha =>
  ⟨fun c => Kernel24Ideal.OutDx.prod (m (c.tc.loc Kernel24Ideal.main_arg0)) (m (c.tc.loc Kernel24Ideal.main_arg1)),
    (θ_run _ _ _).mono (fun r h c => ⟨((h.1 c).1 2).trans (Kernel24Ideal.OutDx.array_eq m c), h.2.1 c⟩)
      (θ_run_and (Kernel24Ideal.Gen.run_main m g) (Kernel24Ideal.Gen.frame m g)),
    (θ_run _ _ _).mono (fun r h c => ⟨(h c).1.trans (by
      refine (Reference24Ideal.OutDx.dot_eq _ _).trans ?_
      rw [(ha c).1, (ha c).2]), (h c).2⟩) (Reference24Ideal.Value.run (F := Ideal) m' g')⟩

theorem frame_reference24 : quiescent_Reference24Ideal (hReference24Ideal := Reference24Ideal.Gen.facts) := fun m g _ =>
  (θ_run _ _ _).mono (fun r h => ⟨fun c => (h c).2, sem_eq_zero_of_no_sems (by decide) r.2⟩) (Reference24Ideal.Value.run (F := Ideal) m g)

end Cert.Proof
-- ==== Proof.Rms.Row.lean ====
/-
  One row of the root-mean-square norm: its scale, and the gradient that the norm passes back to the row, once with the scale
  taken out of the bracket and once as the derivative of each step is written. The two are the same: of real numbers by the law of the
  bracket, and where a row holds an infinite number its scale is zero and so are both.
-/
module

public import proofs.«01_k».proof.Proof.Mm.Common

@[expose] public section

noncomputable section

namespace Cert.Rms

open Idealize.ShloMosaic

/-- The mean square of a row with the norm's small constant added, -/
def level (x : Fin 1024 → EReal) : EReal :=
  Ideal.div (∑ j, x j * x j) (Ideal.ofBits .f32 0x44800000#32) + Ideal.ofBits .f32 0x358637BD#32

/-- and the row's scale. -/
def scale (x : Fin 1024 → EReal) : EReal := Ideal.rsqrt (level x)

/-- What the norm passes back to a row `x` from the gradient `c` of the row it scales. -/
def back (x c : Fin 1024 → EReal) (b : Fin 1024) : EReal :=
  scale x * (c b - x b * scale x * Ideal.div (∑ j, c j * (x j * scale x)) (Ideal.ofBits .f32 0x44800000#32))

/-- The gradient of half the row's sum of squares, through the scale. -/
def through (x c : Fin 1024 → EReal) : EReal :=
  Ideal.div ((∑ j, x j * c j) * (Ideal.ofBits .f32 0xBF000000#32 * Ideal.div (scale x) (level x))) (Ideal.ofBits .f32 0x44800000#32)

/-- The same gradient of a row, step by step. -/
def steps (x c : Fin 1024 → EReal) (b : Fin 1024) : EReal := c b * scale x + x b * through x c + through x c * x b

theorem ofBits_n : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The small constant is a positive real number. -/
theorem ofBits_eps : ∃ e : ℝ, 0 < e ∧ Ideal.ofBits .f32 0x358637BD#32 = (e : EReal) := by
  refine ⟨(8796093 : ℝ) * 2 ^ (-43 : ℤ), by positivity, ?_⟩
  simp [Ideal.ofBits, Ideal.ieee, -EReal.coe_mul]

theorem ofBits_half : Ideal.ofBits .f32 0x3F000000#32 = ((1 / 2 : ℝ) : EReal) := by
  simp [Ideal.ofBits, Ideal.ieee, -EReal.coe_mul]; norm_num

/-- A real factor that is not negative goes into a sum. -/
theorem mul_sum {ι : Type} (s : Finset ι) (f : ι → EReal) (k : ℝ) (hk : 0 ≤ k) : (k : EReal) * ∑ i ∈ s, f i = ∑ i ∈ s, (k : EReal) * f i := by
  classical
  induction s using Finset.induction_on with
  | empty => rw [Finset.sum_empty, Finset.sum_empty, mul_zero]
  | insert i s hi ih =>
    rw [Finset.sum_insert hi, Finset.sum_insert hi,
      EReal.left_distrib_of_nonneg_of_ne_top (EReal.coe_nonneg.2 hk) (EReal.coe_ne_top k), ih]

/-- A row's level is a positive real number, or the greatest of all numbers where the row is not of real numbers. -/
theorem level_cases (x : Fin 1024 → EReal) : level x = ⊤ ∨ ∃ l : ℝ, 0 < l ∧ level x = (l : EReal) := by
  obtain ⟨e, he, hb⟩ := ofBits_eps
  unfold level
  rw [hb, ofBits_n, Ideal.div_coe (by norm_num : (1024 : ℝ) ≠ 0)]
  have h : 0 ≤ ∑ j, x j * x j := Finset.sum_nonneg fun j _ => by
    rcases le_total 0 (x j) with h | h
    · exact mul_nonneg h h
    · rw [← neg_mul_neg]
      exact mul_nonneg (EReal.neg_nonneg.2 h) (EReal.neg_nonneg.2 h)
  generalize (∑ j, x j * x j) = q at h
  induction q with
  | bot => exact absurd h (by simp)
  | top => exact Or.inl (by rw [EReal.top_mul_coe_of_pos (by norm_num), EReal.top_add_coe])
  | coe q =>
    have : 0 ≤ q := EReal.coe_nonneg.1 h
    exact Or.inr ⟨q * (1 / 1024) + e, by positivity, by rw [EReal.coe_add, EReal.coe_mul]⟩

/-- The two ways give the same gradient. -/
theorem back_eq (x c : Fin 1024 → EReal) (b : Fin 1024) : back x c b = steps x c b := by
  have h1024 : (1024 : ℝ) ≠ 0 := by norm_num
  rcases level_cases x with h | ⟨l, pos, hl⟩
  · have hs : scale x = 0 := by unfold scale; rw [h, Ideal.rsqrt_top]
    have ht : through x c = 0 := by
      unfold through
      rw [hs, h, ofBits_n, Ideal.div_coe h1024, Ideal.div, if_neg (by simp), zero_mul, mul_zero, mul_zero, zero_mul]
    unfold back steps
    rw [hs, ht, zero_mul, mul_zero, mul_zero, zero_mul, add_zero, add_zero]
  · obtain ⟨s, hs0, hss, hsc⟩ : ∃ s : ℝ, 0 ≤ s ∧ s * s = 1 / l ∧ scale x = (s : EReal) := by
      refine ⟨(Real.sqrt l)⁻¹, by positivity, by rw [← mul_inv, Real.mul_self_sqrt pos.le, one_div], ?_⟩
      unfold scale
      rw [hl, Ideal.rsqrt_coe, if_neg (not_lt.2 pos.le), if_neg pos.ne']
    have hsum : ∑ j, c j * (x j * (s : EReal)) = (s : EReal) * ∑ j, x j * c j := by
      rw [mul_sum _ _ s hs0]
      exact Finset.sum_congr rfl fun j _ => by rw [mul_comm (c j), mul_comm (x j) (s : EReal), mul_assoc]
    unfold back steps through
    rw [hsc, hl, ofBits_n, ofBits_neg_half, Ideal.div_coe h1024, Ideal.div_coe h1024, Ideal.div_coe pos.ne', hsum]
    generalize (∑ j, x j * c j) = q
    have hw : q * (((-(1 / 2) : ℝ) : EReal) * ((s : EReal) * ((1 / l : ℝ) : EReal))) * ((1 / 1024 : ℝ) : EReal)
        = -(q * ((s * s * s * (1 / 2048) : ℝ) : EReal)) := by
      rw [mul_assoc, ← EReal.coe_mul, ← EReal.coe_mul, ← EReal.coe_mul, ← hss, ← mul_neg, ← EReal.coe_neg]
      exact congrArg (fun r : ℝ => q * (r : EReal)) (by ring)
    have hk : x b * (s : EReal) * ((s : EReal) * q * ((1 / 1024 : ℝ) : EReal)) = x b * q * ((s * s * (1 / 1024) : ℝ) : EReal) := by
      rw [EReal.coe_mul, EReal.coe_mul]
      ac_rfl
    rw [hw, hk, sub_eq_add_neg, EReal.left_distrib_of_nonneg_of_ne_top (EReal.coe_nonneg.2 hs0) (EReal.coe_ne_top s),
      mul_comm (c b), add_assoc]
    refine congrArg ((s : EReal) * c b + ·) ?_
    have e1 : (s : EReal) * -(x b * q * ((s * s * (1 / 1024) : ℝ) : EReal)) = -(x b * q) * ((s * s * s * (1 / 2048) + s * s * s * (1 / 2048) : ℝ) : EReal) := by
      rw [← neg_mul, mul_left_comm, ← EReal.coe_mul]
      exact congrArg (fun r : ℝ => -(x b * q) * (r : EReal)) (by ring)
    have e2 : x b * -(q * ((s * s * s * (1 / 2048) : ℝ) : EReal)) = -(x b * q) * ((s * s * s * (1 / 2048) : ℝ) : EReal) := by
      rw [mul_neg, neg_mul, mul_assoc (x b) q]
    have hn : (0 : EReal) ≤ ((s * s * s * (1 / 2048) : ℝ) : EReal) := EReal.coe_nonneg.2 (by positivity)
    rw [e1, mul_comm _ (x b), e2, EReal.coe_add, EReal.left_distrib_of_nonneg hn hn]

/-! ## Chunks of rows -/

/-- Row `j` of the chunk `k` of 512 rows. -/
def chunkRow (k : ℕ) (j : Fin 512) : Fin 16384 := ⟨(512 * k + j.val) % 16384, Nat.mod_lt _ (by decide)⟩

/-- A sum over all rows is the sum over the 32 chunks of the sums over their rows. -/
theorem sum_chunks {M : Type} [AddCommMonoid M] (f : Fin 16384 → M) :
    ∑ k ∈ Finset.range 32, ∑ j : Fin 512, f (chunkRow k j) = ∑ r : Fin 16384, f r := by
  rw [Finset.sum_range fun k => ∑ j : Fin 512, f (chunkRow k j)]
  rw [← Fintype.sum_prod_type' fun (k : Fin 32) (j : Fin 512) => f (chunkRow k.val j)]
  refine Fintype.sum_equiv (finProdFinEquiv (m := 32) (n := 512)) _ _ fun y => congrArg f (Fin.ext ?_)
  show (512 * y.1.val + y.2.val) % 16384 = y.2.val + 512 * y.1.val
  have := y.1.isLt
  have := y.2.isLt
  omega

/-- The row of the chunk. -/
def pointOf (r : Fin 16384) : ℕ := r.val / 512
def rowAt (r : Fin 16384) : Fin 512 := ⟨r.val % 512, Nat.mod_lt _ (by decide)⟩

theorem chunkRow_at (r : Fin 16384) : chunkRow (pointOf r) (rowAt r) = r := Fin.ext (by
  show (512 * (r.val / 512) + r.val % 512) % 16384 = r.val
  have := r.isLt
  omega)

end Cert.Rms
-- ==== Proof.Rms.Back.lean ====
/-
  The backward pass of the root-mean-square norm: every block of 512 rows gets its gradient from its own rows, and the gain's gradient
  is summed over the 32 blocks.
-/
module

public import proofs.«01_k».proof.Defs
public import proofs.«01_k».proof.Proof.Rms.Row
public import Idealize.ShloMosaic.Lib.Quiescent
public import proofs.«01_k».proof.Proof.Gen.Kernel25Ideal.Frame
public import proofs.«01_k».proof.Proof.Gen.Reference25Ideal.Run

@[expose] public section

set_option maxRecDepth 16384

noncomputable section

namespace Cert.Kernel25Ideal.Back

open Cert.Kernel25Ideal Cert.Kernel25Ideal.Gen
open Idealize.ShloMosaic TcCoe
open Idealize.SL.Sem
open Cert.Head (pair)
open Cert.Rms (chunkRow scale back rowAt)

/-! ## One grid point -/

section Any

variable {F : FTy → Type} [FloatOps F] (m : (ℓ : Loc nD τ sig) → Buf (Elt F) ℓ) (c : Dev nD)

/-- Every point stores its rows' gradient. -/
theorem rows_block (t : Fin cfg0.N) : (outsAt0 m c t.val t.isLt).1 = k0_pay4 (iblk m c 0 t) (iblk m c 1 t) (iblk m c 2 t) (iblk m c 3 t) := by
  by_cases h0 : t.val % 32 = 0
  · rw [outsAt0_A m c t h0]
    unfold out0_A_4 kernelRun0_A
    dsimp only
    refine (Views.store_whole VO0_4 _ _ _ _).trans ?_
    exact congr (Mm.load_two k0_pay4 (hs0_0 t) (hs0_1 t) (Mm.load_block (hs0_2 t))) (Mm.load_block (hs0_3 t))
  · rw [outsAt0_B m c t h0]
    unfold out0_B_4 kernelRun0_B
    dsimp only
    refine (Views.store_whole VO0_4 _ _ _ _).trans ?_
    exact congr (Mm.load_two k0_pay4 (hs0_0 t) (hs0_1 t) (Mm.load_block (hs0_2 t))) (Mm.load_block (hs0_3 t))

/-- The first point starts the gain's sum, -/
theorem sum_first (t : Fin cfg0.N) (h0 : t.val % 32 = 0) : (outsAt0 m c t.val t.isLt).2 = k0_pay5 (iblk m c 0 t) (iblk m c 2 t) k0_pay1 := by
  rw [outsAt0_A m c t h0]
  unfold out0_A_5 kernelRun0_A
  dsimp only
  refine (Views.store_whole VO0_5 _ _ _ _).trans ?_
  unfold kernelRun0_A.sl.r
  exact Mm.load_two k0_pay5 (hs0_0 t) (hs0_2 t) (Mm.load_stored _ _ _ _ _)

/-- and every other point adds to it. -/
theorem sum_next (t : Fin cfg0.N) (h0 : ¬t.val % 32 = 0) : (outsAt0 m c t.val t.isLt).2
    = k0_pay5 (iblk m c 0 t) (iblk m c 2 t) (outsAt0 m c (t.val - 1) (Nat.lt_of_le_of_lt (Nat.sub_le _ _) t.isLt)).2 := by
  rw [outsAt0_B m c t h0]
  unfold out0_B_5 kernelRun0_B
  dsimp only
  refine (Views.store_whole VO0_5 _ _ _ _).trans ?_
  unfold kernelRun0_B.sl.r
  exact Mm.load_two k0_pay5 (hs0_0 t) (hs0_2 t) (Mm.load_block (hs0_5 t))

end Any

variable (m : (ℓ : Loc nD τ sig) → Buf (Elt Ideal) ℓ) (c : Dev nD)

theorem zero_apply (b : Fin 1024) : k0_pay1 (F := Ideal) (ix2 0 b) = 0 := by
  pointwise [k0_pay1]

theorem rows_apply (x : Vec Ideal S512x1024 .f32) (g : Vec Ideal S1x1024 .f32) (d z : Vec Ideal S512x1024 .f32) (a : Fin 512) (b : Fin 1024) :
    k0_pay4 x g d z (ix2 a b) = z (ix2 a b) + back (fun j => x (ix2 a j)) (fun j => d (ix2 a j) * g (ix2 0 j)) b := by
  unfold back scale Rms.level
  pointwise [k0_pay4, k0_pay3, k0_pay2]

theorem sum_step (x d : Vec Ideal S512x1024 .f32) (s : Vec Ideal S1x1024 .f32) (b : Fin 1024) :
    k0_pay5 x d s (ix2 0 b) = s (ix2 0 b) + ∑ r : Fin 512, d (ix2 r b) * (x (ix2 r b) * scale fun j => x (ix2 r j)) := by
  unfold scale Rms.level
  pointwise [k0_pay5, k0_pay3, k0_pay2]

/-! ## Where the blocks lie -/

theorem t_lt (t : Fin cfg0.N) : t.val < 32 := lt_of_lt_of_eq t.isLt N_0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)

/-- Four windows lie over the rows of the point, -/
theorem emb0 (t : Fin cfg0.N) (a : Fin 512) (b : Fin 1024) :
    ((cfg0.win 0).blk t).view.emb (ix2 a b) = (ix2 (chunkRow t.val a) b : S16384x1024.Idx) := by
  obtain ⟨e0, e1⟩ := idx0 t
  have := a.isLt
  have := t_lt t
  funext x; apply Fin.ext
  match x with
  | ⟨0, _⟩ => show win0_0.index t (0 : Fin 2) * 512 + 1 * a.val = (512 * t.val + a.val) % 16384; omega
  | ⟨1, _⟩ => show win0_0.index t (1 : Fin 2) * 1024 + 1 * b.val = b.val; omega

/-- and the gain's two over the whole of it. -/
theorem emb1 (t : Fin cfg0.N) (a : Fin 1) (b : Fin 1024) : ((cfg0.win 1).blk t).view.emb (ix2 a b) = (ix2 a b : S1x1024.Idx) := by
  obtain ⟨e0, e1⟩ := idx1 t
  funext x; apply Fin.ext
  match x with
  | ⟨0, _⟩ => show win0_1.index t (0 : Fin 2) * 1 + 1 * a.val = a.val; omega
  | ⟨1, _⟩ => show win0_1.index t (1 : Fin 2) * 1024 + 1 * b.val = b.val; omega

theorem read0 (t : Fin cfg0.N) (a : Fin 512) (b : Fin 1024) : (iblk m c 0 t : Vec Ideal S512x1024 .f32) (ix2 a b)
    = (m (c.tc.loc main_arg0) : Vec Ideal S16384x1024 .f32) (ix2 (chunkRow t.val a) b) := by
  show V m c main_arg0 (((cfg0.win 0).blk t).view.emb (ix2 a b)) = _
  rw [emb0]

theorem read1 (t : Fin cfg0.N) (b : Fin 1024) : (iblk m c 1 t : Vec Ideal S1x1024 .f32) (ix2 0 b)
    = (m (c.tc.loc main_arg1) : Vec Ideal S1x1024 .f32) (ix2 0 b) := by
  show V m c main_arg1 (((cfg0.win 1).blk t).view.emb (ix2 0 b)) = _
  rw [emb1]

theorem read2 (t : Fin cfg0.N) (a : Fin 512) (b : Fin 1024) : (iblk m c 2 t : Vec Ideal S512x1024 .f32) (ix2 a b)
    = (m (c.tc.loc main_arg2) : Vec Ideal S16384x1024 .f32) (ix2 (chunkRow t.val a) b) := by
  show V m c main_arg2 (((cfg0.win 0).blk t).view.emb (ix2 a b)) = _
  rw [emb0]

theorem read3 (t : Fin cfg0.N) (a : Fin 512) (b : Fin 1024) : (iblk m c 3 t : Vec Ideal S512x1024 .f32) (ix2 a b)
    = (m (c.tc.loc main_arg3) : Vec Ideal S16384x1024 .f32) (ix2 (chunkRow t.val a) b) := by
  show V m c main_arg3 (((cfg0.win 0).blk t).view.emb (ix2 a b)) = _
  rw [emb0]

/-! ## The whole arrays -/

/-- The rows' gradient as an array, -/
def rows (x : Vec Ideal S16384x1024 .f32) (g : Vec Ideal S1x1024 .f32) (d z : Vec Ideal S16384x1024 .f32) : Vec Ideal S16384x1024 .f32 :=
  fun y => z y + back (fun j => x (ix2 (y 0) j)) (fun j => d (ix2 (y 0) j) * g (ix2 0 j)) (y 1)

/-- one row's part of the gain's gradient, and the gain's gradient. -/
def part (x d : Vec Ideal S16384x1024 .f32) (b : Fin 1024) (r : Fin 16384) : EReal :=
  d (ix2 r b) * (x (ix2 r b) * scale fun j => x (ix2 r j))
def gain (x d : Vec Ideal S16384x1024 .f32) : Vec Ideal S1x1024 .f32 := fun y => ∑ r : Fin 16384, part x d (y 1) r

theorem rows_at (t : Fin cfg0.N) (a : Fin 512) (b : Fin 1024) : (outsAt0 m c t.val t.isLt).1 (ix2 a b)
    = rows (m (c.tc.loc main_arg0)) (m (c.tc.loc main_arg1)) (m (c.tc.loc main_arg2)) (m (c.tc.loc main_arg3)) (ix2 (chunkRow t.val a) b) := by
  refine (congrFun (rows_block m c t) (ix2 a b)).trans ((rows_apply _ _ _ _ a b).trans ?_)
  refine congrArg₂ (· + ·) (read3 m c t a b) ?_
  exact congrFun (congrArg₂ back (funext fun j => read0 m c t a j)
    (funext fun j => congrArg₂ (fun u v : EReal => u * v) (read2 m c t a j) (read1 m c t j))) b

/-- What a point adds to the gain's sum. -/
theorem add_apply (t : Fin cfg0.N) (s : Vec Ideal S1x1024 .f32) (b : Fin 1024) : k0_pay5 (iblk m c 0 t) (iblk m c 2 t) s (ix2 0 b)
    = s (ix2 0 b) + ∑ r : Fin 512, part (m (c.tc.loc main_arg0)) (m (c.tc.loc main_arg2)) b (chunkRow t.val r) :=
  (sum_step _ _ s b).trans (congrArg (s (ix2 0 b) + ·) (Finset.sum_congr rfl fun r _ =>
    congrArg₂ (fun u v : EReal => u * v) (read2 m c t r b) (congrArg₂ (fun u v : EReal => u * v) (read0 m c t r b) (congrArg scale (funext fun j => read0 m c t r j)))))

/-- The gain's sum after a point is that of the rows so far. -/
theorem sum_apply (n : ℕ) (hn : n < cfg0.N) (b : Fin 1024) : (outsAt0 m c n hn).2 (ix2 0 b)
    = ∑ k ∈ Finset.range (n + 1), ∑ r : Fin 512, part (m (c.tc.loc main_arg0)) (m (c.tc.loc main_arg2)) b (chunkRow k r) := by
  induction n with
  | zero =>
    refine (congrFun (sum_first m c ⟨0, hn⟩ (by show 0 % 32 = 0; decide)) (ix2 0 b)).trans ((add_apply m c ⟨0, hn⟩ _ b).trans ?_)
    rw [zero_apply, zero_add]
    exact (Finset.sum_range_one fun k => ∑ r : Fin 512, part (m (c.tc.loc main_arg0)) (m (c.tc.loc main_arg2)) b (chunkRow k r)).symm
  | succ n ih =>
    have := t_lt ⟨n + 1, hn⟩
    refine (congrFun (sum_next m c ⟨n + 1, hn⟩ (by show ¬(n + 1) % 32 = 0; change n + 1 < 32 at this; omega)) (ix2 0 b)).trans
      ((add_apply m c ⟨n + 1, hn⟩ _ b).trans ?_)
    rw [Finset.sum_range_succ]
    exact congrArg₂ (· + ·) (ih (Nat.lt_of_succ_lt hn)) rfl

attribute [local irreducible] outsAt0 rows gain part

theorem array4 : (dats m 0 c).arrAt 4 cfg0.N
    = rows (m (c.tc.loc main_arg0)) (m (c.tc.loc main_arg1)) (m (c.tc.loc main_arg2)) (m (c.tc.loc main_arg3)) := by
  refine (dats m 0 c).arrAt_eq_of_cover 4 (rows (m (c.tc.loc main_arg0)) (m (c.tc.loc main_arg1)) (m (c.tc.loc main_arg2)) (m (c.tc.loc main_arg3)))
    (fun t _ => ?_) (fun y => ?_)
  · show (cfg0.win 4).cut (grid0.coords t) ((dats m 0 c).after 4 t) = _
    rw [after0_4]
    funext y
    obtain ⟨a, b, rfl⟩ : ∃ (a : Fin 512) (b : Fin 1024), y = ix2 a b := pair y
    show (outsAt0 m c t.val t.isLt).1 (ix2 a b) = rows _ _ _ _ (((cfg0.win 0).blk t).view.emb (ix2 a b))
    rw [emb0, rows_at m c t]
  · obtain ⟨r, q, rfl⟩ : ∃ (r : Fin 16384) (q : Fin 1024), y = ix2 r q := pair y
    have h : Rms.pointOf r < cfg0.N := lt_of_lt_of_eq (by show r.val / 512 < 32; have := r.isLt; omega) N_0.symm
    refine ⟨⟨Rms.pointOf r, h⟩, flush0_4 _, ?_⟩
    have e : ((cfg0.win 4).blk ⟨Rms.pointOf r, h⟩).view.emb (ix2 (rowAt r) q) = (ix2 r q : S16384x1024.Idx) :=
      (emb0 ⟨Rms.pointOf r, h⟩ (rowAt r) q).trans (by rw [Rms.chunkRow_at])
    rw [← e]
    exact View.emb_mem_set _ _

theorem array5 : (dats m 0 c).arrAt 5 cfg0.N = gain (m (c.tc.loc main_arg0)) (m (c.tc.loc main_arg2)) := by
  refine (dats m 0 c).arrAt_eq_of_cover 5 (gain (m (c.tc.loc main_arg0)) (m (c.tc.loc main_arg2))) (fun t ht => ?_) (fun y => ?_)
  · show (cfg0.win 5).cut (grid0.coords t) ((dats m 0 c).after 5 t) = _
    rw [after0_5]
    funext y
    obtain ⟨a, b, rfl⟩ : ∃ (a : Fin 1) (b : Fin 1024), y = ix2 a b := pair y
    obtain rfl : a = 0 := Subsingleton.elim _ _
    show (outsAt0 m c t.val t.isLt).2 (ix2 0 b) = gain _ _ (((cfg0.win 1).blk t).view.emb (ix2 0 b))
    have h31 : t.val + 1 = 32 := by have := (flush0_5 t).1 ht; have := t_lt t; omega
    rw [emb1, sum_apply m c t.val t.isLt b, h31, Rms.sum_chunks]
    unfold gain
    rfl
  · obtain ⟨r, q, rfl⟩ : ∃ (r : Fin 1) (q : Fin 1024), y = ix2 r q := pair y
    have h : 31 < cfg0.N := lt_of_lt_of_eq (by decide) N_0.symm
    refine ⟨⟨31, h⟩, (flush0_5 _).2 (by show 31 % 32 = 31; decide), ?_⟩
    have e : ((cfg0.win 5).blk ⟨31, h⟩).view.emb (ix2 r q) = (ix2 r q : S1x1024.Idx) := emb1 ⟨31, h⟩ r q
    rw [← e]
    exact View.emb_mem_set _ _

/-- The kernel's run: the two gradients, the arguments kept. -/
theorem values (g : Dev nD → PrngReg) : θ_run (defs (F := Ideal)) (onTc (τ := τ) (main (F := Ideal))) ⟨m, fun _ => 0, g⟩
    (fun r => ∀ c : Dev nD, r.2.mem (c.tc.loc main_v0_0) = rows (m (c.tc.loc main_arg0)) (m (c.tc.loc main_arg1)) (m (c.tc.loc main_arg2)) (m (c.tc.loc main_arg3))
      ∧ r.2.mem (c.tc.loc main_v0_1) = gain (m (c.tc.loc main_arg0)) (m (c.tc.loc main_arg2))
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)) :=
  (θ_run _ _ _).mono (fun r h c => ⟨((h.1 c).1 4).trans (array4 m c), ((h.1 c).1 5).trans (array5 m c), h.2.1 c⟩) (θ_run_and (run_main m g) (frame m g))

end Cert.Kernel25Ideal.Back

namespace Cert.Reference25Ideal.Back

open Cert.Reference25Ideal Cert.Reference25Ideal.Gen
open Idealize.ShloMosaic TcCoe
open Idealize.SL.Sem
open Cert.Kernel25Ideal.Back (rows gain part)
open Cert.Head (pair)
open Cert.Rms (scale back)

variable {F : FTy → Type} [FloatOps F]

/-- A gain for every row, the rows' levels, -/
def wide (g : Vec F S1x1024 .f32) : Vec F S16384x1024 .f32 := broadcastInDim S16384x1024 ![0, 1] bcast_S1x1024_S16384x1024_0_1 g

def levels (x : Vec F S16384x1024 .f32) : Vec F S16384x1 .f32 :=
  addf (Host.divf (broadcastInDim S16384x1 ![0] bcast_S16384_S16384x1_0 (Host.reduceAdd (mulf x x) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))

/-- their scales, -/
def scales (x : Vec F S16384x1024 .f32) : Vec F S16384x1024 .f32 :=
  broadcastInDim S16384x1024 ![0, 1] bcast_S16384x1_S16384x1024_0_1 (Host.rsqrt (levels x))

/-- what goes through the scales, -/
def throughs (x c : Vec F S16384x1024 .f32) : Vec F S16384x1024 .f32 :=
  broadcastInDim S16384x1024 ![0] bcast_S16384_S16384x1024_0 (Host.reduceAdd (Host.divf (mulf
    (shapeCast _ (Host.reduceAdd (mulf x c) (constant S_ .f32 0x00000000#32) reducesTo_S16384x1024_S16384_d1 h_S_) shapeCasts_S16384_S16384x1)
    (mulf (broadcastInDim S16384x1 ![] bcast_S_S16384x1 (constant S_ .f32 0xBF000000#32)) (Host.divf (Host.rsqrt (levels x)) (levels x))))
    (broadcastInDim S16384x1 ![] bcast_S_S16384x1 (constant S_ .f32 0x44800000#32))) (constant S_ .f32 0x00000000#32) reducesTo_S16384x1_S16384_d1 h_S_)

/-- and the gradient step by step. -/
def chain (x c : Vec F S16384x1024 .f32) : Vec F S16384x1024 .f32 :=
  addf (addf (mulf c (scales x)) (mulf x (throughs x c))) (mulf (throughs x c) x)

/-- The gain's gradient from what comes back to the scaled rows. -/
def toGain (x d : Vec F S16384x1024 .f32) : Vec F S1x1024 .f32 :=
  shapeCast _ (Host.reduceAdd (mulf (mulf x (scales x)) d) (constant S_ .f32 0x00000000#32) reducesTo_S16384x1024_S1024_d0 h_S_) shapeCasts_S1024_S1x1024

theorem chain_apply (x c : Vec Ideal S16384x1024 .f32) (a : Fin 16384) (b : Fin 1024) :
    chain x c (ix2 a b) = back (fun j => x (ix2 a j)) (fun j => c (ix2 a j)) b := by
  have h : chain x c (ix2 a b) = c (ix2 a b) * scale (fun j => x (ix2 a j))
      + x (ix2 a b) * ∑ _ : Fin 1, Rms.through (fun j => x (ix2 a j)) (fun j => c (ix2 a j))
      + (∑ _ : Fin 1, Rms.through (fun j => x (ix2 a j)) (fun j => c (ix2 a j))) * x (ix2 a b) := by
    unfold Rms.through scale Rms.level
    pointwise [chain, throughs, scales, levels]
  rw [h, Fin.sum_univ_one, Rms.back_eq]
  rfl

theorem toGain_apply (x d : Vec Ideal S16384x1024 .f32) (b : Fin 1024) :
    toGain x d (ix2 0 b) = ∑ r : Fin 16384, x (ix2 r b) * scale (fun j => x (ix2 r j)) * d (ix2 r b) := by
  unfold scale Rms.level
  pointwise [toGain, scales, levels]

/-- The reference's two gradients are the kernel's. -/
theorem dx_eq (x : Vec Ideal S16384x1024 .f32) (g : Vec Ideal S1x1024 .f32) (d z : Vec Ideal S16384x1024 .f32) :
    (addf z (chain x (mulf d (wide g))) : Vec Ideal S16384x1024 .f32) = rows x g d z := funext fun y => by
  obtain ⟨a, b, rfl⟩ : ∃ (a : Fin 16384) (b : Fin 1024), y = ix2 a b := pair y
  refine congrArg (z (ix2 a b) + ·) ((chain_apply x _ a b).trans ?_)
  refine congrFun (congrArg (back fun j => x (ix2 a j)) (funext fun j => ?_)) b
  show (mulf d (wide g) : Vec Ideal S16384x1024 .f32) (ix2 a j) = d (ix2 a j) * g (ix2 0 j)
  pointwise [wide]

theorem dg_eq (x d : Vec Ideal S16384x1024 .f32) : toGain x d = gain x d := funext fun y => by
  obtain ⟨a, b, rfl⟩ : ∃ (a : Fin 1) (b : Fin 1024), y = ix2 a b := pair y
  obtain rfl : a = 0 := Subsingleton.elim _ _
  exact (toGain_apply x d b).trans (Finset.sum_congr rfl fun r _ => mul_comm _ _)

end Cert.Reference25Ideal.Back

namespace Cert.Proof

open Idealize.ShloMosaic TcCoe
open Idealize.SL.Sem

/-- The kernel and the reference end with the same two gradients. -/
theorem algebraic25 : algebraic_Kernel25Ideal_Reference25Ideal (hKernel25Ideal := Kernel25Ideal.Gen.facts)
    (hReference25Ideal := Reference25Ideal.Gen.facts) := fun m g m' g' _ ha =>
  ⟨fun c => Kernel25Ideal.Back.rows (m (c.tc.loc Kernel25Ideal.main_arg0)) (m (c.tc.loc Kernel25Ideal.main_arg1))
      (m (c.tc.loc Kernel25Ideal.main_arg2)) (m (c.tc.loc Kernel25Ideal.main_arg3)),
    fun c => Kernel25Ideal.Back.gain (m (c.tc.loc Kernel25Ideal.main_arg0)) (m (c.tc.loc Kernel25Ideal.main_arg2)),
    Kernel25Ideal.Back.values m g,
    (θ_run _ _ _).mono (fun r h c => ⟨(h c).1.trans (by
      refine (Reference25Ideal.Back.dx_eq _ _ _ _).trans ?_
      rw [(ha c).1, (ha c).2.1, (ha c).2.2.1, (ha c).2.2.2]), (h c).2.1.trans (by
      refine (Reference25Ideal.Back.dg_eq _ _).trans ?_
      rw [(ha c).1, (ha c).2.2.1]), (h c).2.2⟩) (Reference25Ideal.Value.run (F := Ideal) m' g')⟩

theorem frame_reference25 : quiescent_Reference25Ideal (hReference25Ideal := Reference25Ideal.Gen.facts) := fun m g _ =>
  (θ_run _ _ _).mono (fun r h => ⟨fun c => (h c).2.2, sem_eq_zero_of_no_sems (by decide) r.2⟩) (Reference25Ideal.Value.run (F := Ideal) m g)

end Cert.Proof
-- ==== Proof.Rms.Loss.lean ====
/-
  The loss head: half the mean square distance of the normed rows from their targets, summed over the 32 blocks of 512 rows, with its
  gradient in the rows and in the gain.
-/
module

public import proofs.«01_k».proof.Proof.Rms.Back
public import proofs.«01_k».proof.Proof.Gen.Kernel26Ideal.Frame
public import proofs.«01_k».proof.Proof.Gen.Reference26Ideal.Run

@[expose] public section

set_option maxRecDepth 16384

noncomputable section

namespace Cert.Kernel26Ideal.Loss

open Cert.Kernel26Ideal Cert.Kernel26Ideal.Gen
open Idealize.ShloMosaic TcCoe
open Idealize.SL.Sem
open Cert.Head (pair)
open Cert.Rms (chunkRow scale back rowAt)

/-! ## One grid point -/

section Any

variable {F : FTy → Type} [FloatOps F] (m : (ℓ : Loc nD τ sig) → Buf (Elt F) ℓ) (c : Dev nD)

/-- What a point reads. -/
abbrev x0 (t : Fin cfg0.N) : Vec F S512x1024 .f32 := iblk m c 0 t
abbrev x1 (t : Fin cfg0.N) : Vec F S1x1024 .f32 := iblk m c 1 t
abbrev x2 (t : Fin cfg0.N) : Vec F S512x1024 .f32 := iblk m c 2 t

/-- The loads of a point's three blocks. -/
theorem loads (t : Fin cfg0.N) : (ms0_0 t).view.readAt (Elt F) (Rect.unit (s := S512x1024) ![0, 0] S512x1024.size inb_S512x1024_S512x1024_0_0).toLoadRect ((hs0_0 t).unread (iblk m c 0 t)) = x0 m c t
    ∧ (ms0_1 t).view.readAt (Elt F) (Rect.unit (s := S1x1024) ![0, 0] S1x1024.size inb_S1x1024_S1x1024_0_0).toLoadRect ((hs0_1 t).unread (iblk m c 1 t)) = x1 m c t
    ∧ (ms0_2 t).view.readAt (Elt F) (Rect.unit (s := S512x1024) ![0, 0] S512x1024.size inb_S512x1024_S512x1024_0_0).toLoadRect ((hs0_2 t).unread (iblk m c 2 t)) = x2 m c t :=
  ⟨Mm.load_block (hs0_0 t), Mm.load_block (hs0_1 t), Mm.load_block (hs0_2 t)⟩

/-- Every point stores its rows' gradient. -/
theorem rows_block (t : Fin cfg0.N) : (outsAt0 m c t.val t.isLt).2.1
    = k0_pay3 (x0 m c t) (x1 m c t) (k0_pay9 (x0 m c t) (x1 m c t) (x2 m c t)) (k0_pay10 (x0 m c t)) := by
  by_cases h0 : t.val % 32 = 0
  · rw [outsAt0_A m c t h0]
    unfold out0_A_4 kernelRun0_A
    dsimp only
    refine (Views.store_whole VO0_4 _ _ _ _).trans ?_
    simp only [kernelRun0_A.sl.r, kernelRun0_A.sl.r_1, kernelRun0_A.sl.r_2, kernelRun0_A.sl.r_3, loads m c t]
  · rw [outsAt0_B m c t h0]
    unfold out0_B_4 kernelRun0_B
    dsimp only
    refine (Views.store_whole VO0_4 _ _ _ _).trans ?_
    simp only [kernelRun0_B.sl.r, kernelRun0_B.sl.r_1, kernelRun0_B.sl.r_2, kernelRun0_B.sl.r_3, loads m c t]

/-- The first point starts the two sums, -/
theorem loss_first (t : Fin cfg0.N) (h0 : t.val % 32 = 0) : (outsAt0 m c t.val t.isLt).1 = k0_pay8 (x0 m c t) (x1 m c t) (x2 m c t) k0_pay5 := by
  rw [outsAt0_A m c t h0]
  unfold out0_A_3 kernelRun0_A
  dsimp only
  refine (Views.store_whole VO0_3 _ _ _ _).trans ?_
  simp only [kernelRun0_A.sl.r, kernelRun0_A.sl.r_1, kernelRun0_A.sl.r_2, kernelRun0_A.sl.r_3, loads m c t]
  exact congrArg _ (Mm.load_stored _ _ _ _ _)

theorem sum_first (t : Fin cfg0.N) (h0 : t.val % 32 = 0) : (outsAt0 m c t.val t.isLt).2.2
    = k0_pay4 (x0 m c t) (k0_pay9 (x0 m c t) (x1 m c t) (x2 m c t)) (k0_pay10 (x0 m c t)) k0_pay6 := by
  rw [outsAt0_A m c t h0]
  unfold out0_A_5 kernelRun0_A
  dsimp only
  refine (Views.store_whole VO0_5 _ _ _ _).trans ?_
  simp only [kernelRun0_A.sl.r, kernelRun0_A.sl.r_1, kernelRun0_A.sl.r_2, kernelRun0_A.sl.r_3, loads m c t]
  exact congrArg _ (Mm.load_stored _ _ _ _ _)

/-- and every other point adds to them. -/
theorem loss_next (t : Fin cfg0.N) (h0 : ¬t.val % 32 = 0) : (outsAt0 m c t.val t.isLt).1
    = k0_pay8 (x0 m c t) (x1 m c t) (x2 m c t) (outsAt0 m c (t.val - 1) (Nat.lt_of_le_of_lt (Nat.sub_le _ _) t.isLt)).1 := by
  rw [outsAt0_B m c t h0]
  unfold out0_B_3 kernelRun0_B
  dsimp only
  refine (Views.store_whole VO0_3 _ _ _ _).trans ?_
  simp only [kernelRun0_B.sl.r, kernelRun0_B.sl.r_1, kernelRun0_B.sl.r_2, kernelRun0_B.sl.r_3, loads m c t]
  exact congrArg _ (Mm.load_block (hs0_3 t))

theorem sum_next (t : Fin cfg0.N) (h0 : ¬t.val % 32 = 0) : (outsAt0 m c t.val t.isLt).2.2
    = k0_pay4 (x0 m c t) (k0_pay9 (x0 m c t) (x1 m c t) (x2 m c t)) (k0_pay10 (x0 m c t)) (outsAt0 m c (t.val - 1) (Nat.lt_of_le_of_lt (Nat.sub_le _ _) t.isLt)).2.2 := by
  rw [outsAt0_B m c t h0]
  unfold out0_B_5 kernelRun0_B
  dsimp only
  refine (Views.store_whole VO0_5 _ _ _ _).trans ?_
  simp only [kernelRun0_B.sl.r, kernelRun0_B.sl.r_1, kernelRun0_B.sl.r_2, kernelRun0_B.sl.r_3, loads m c t]
  exact congrArg _ (Mm.load_block (hs0_5 t))

end Any

variable (m : (ℓ : Loc nD τ sig) → Buf (Elt Ideal) ℓ) (c : Dev nD)

/-- A row's distance from its target, -/
def diff (x g y : Fin 1024 → EReal) (j : Fin 1024) : EReal := x j * scale x * g j - y j

/-- its mean square, and the gradient of half of that in the normed row. -/
def mean (x g y : Fin 1024 → EReal) : EReal := Ideal.div (∑ j, diff x g y j * diff x g y j) (Ideal.ofBits .f32 0x44800000#32)
def grad (x g y : Fin 1024 → EReal) (j : Fin 1024) : EReal := diff x g y j * Ideal.ofBits .f32 0x3A800000#32

theorem diff_apply (x : Vec Ideal S512x1024 .f32) (g : Vec Ideal S1x1024 .f32) (y : Vec Ideal S512x1024 .f32) (a : Fin 512) (b : Fin 1024) :
    k0_pay7 x g y (ix2 a b) = diff (fun j => x (ix2 a j)) (fun j => g (ix2 0 j)) (fun j => y (ix2 a j)) b := by
  unfold diff scale Rms.level
  pointwise [k0_pay7]

theorem grad_apply (x : Vec Ideal S512x1024 .f32) (g : Vec Ideal S1x1024 .f32) (y : Vec Ideal S512x1024 .f32) (a : Fin 512) (b : Fin 1024) :
    k0_pay9 x g y (ix2 a b) = grad (fun j => x (ix2 a j)) (fun j => g (ix2 0 j)) (fun j => y (ix2 a j)) b := by
  have h : k0_pay9 x g y (ix2 a b) = k0_pay7 x g y (ix2 a b) * Ideal.ofBits .f32 0x3A800000#32 := by pointwise [k0_pay9]
  rw [h, diff_apply]
  rfl

theorem rows_apply (x : Vec Ideal S512x1024 .f32) (g : Vec Ideal S1x1024 .f32) (e : Vec Ideal S512x1024 .f32) (a : Fin 512) (b : Fin 1024) :
    k0_pay3 x g e (k0_pay10 x) (ix2 a b) = back (fun j => x (ix2 a j)) (fun j => e (ix2 a j) * g (ix2 0 j)) b := by
  unfold back scale Rms.level
  pointwise [k0_pay3, k0_pay2, k0_pay1, k0_pay10]

theorem sum_step (x e : Vec Ideal S512x1024 .f32) (s : Vec Ideal S1x1024 .f32) (b : Fin 1024) :
    k0_pay4 x e (k0_pay10 x) s (ix2 0 b) = s (ix2 0 b) + ∑ r : Fin 512, e (ix2 r b) * (x (ix2 r b) * scale fun j => x (ix2 r j)) := by
  unfold scale Rms.level
  pointwise [k0_pay4, k0_pay2, k0_pay1, k0_pay10]

theorem loss_step (x : Vec Ideal S512x1024 .f32) (g : Vec Ideal S1x1024 .f32) (y : Vec Ideal S512x1024 .f32) (s : Vec Ideal S1x1 .f32) :
    k0_pay8 x g y s (ix2 0 0) = s (ix2 0 0) + Ideal.ofBits .f32 0x3F000000#32
      * ∑ r : Fin 512, mean (fun j => x (ix2 r j)) (fun j => g (ix2 0 j)) (fun j => y (ix2 r j)) := by
  have h : k0_pay8 x g y s (ix2 0 0) = s (ix2 0 0) + Ideal.ofBits .f32 0x3F000000#32
      * ∑ r : Fin 512, Ideal.div (∑ j : Fin 1024, k0_pay7 x g y (ix2 r j) * k0_pay7 x g y (ix2 r j)) (Ideal.ofBits .f32 0x44800000#32) := by
    pointwise [k0_pay8]
  rw [h]
  simp only [diff_apply]
  rfl

/-! ## Where the blocks lie -/

theorem t_lt (t : Fin cfg0.N) : t.val < 32 := lt_of_lt_of_eq t.isLt N_0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

/-- Three windows lie over the rows of the point, -/
theorem emb0 (t : Fin cfg0.N) (a : Fin 512) (b : Fin 1024) :
    ((cfg0.win 0).blk t).view.emb (ix2 a b) = (ix2 (chunkRow t.val a) b : S16384x1024.Idx) := by
  obtain ⟨e0, e1⟩ := idx0 t
  have := a.isLt
  have := t_lt t
  funext x; apply Fin.ext
  match x with
  | ⟨0, _⟩ => show win0_0.index t (0 : Fin 2) * 512 + 1 * a.val = (512 * t.val + a.val) % 16384; omega
  | ⟨1, _⟩ => show win0_0.index t (1 : Fin 2) * 1024 + 1 * b.val = b.val; omega

/-- the gain's two and the loss's over the whole. -/
theorem emb1 (t : Fin cfg0.N) (a : Fin 1) (b : Fin 1024) : ((cfg0.win 1).blk t).view.emb (ix2 a b) = (ix2 a b : S1x1024.Idx) := by
  obtain ⟨e0, e1⟩ := idx1 t
  funext x; apply Fin.ext
  match x with
  | ⟨0, _⟩ => show win0_1.index t (0 : Fin 2) * 1 + 1 * a.val = a.val; omega
  | ⟨1, _⟩ => show win0_1.index t (1 : Fin 2) * 1024 + 1 * b.val = b.val; omega

theorem emb3 (t : Fin cfg0.N) (a b : Fin 1) : ((cfg0.win 3).blk t).view.emb (ix2 a b) = (ix2 a b : S1x1.Idx) := by
  obtain ⟨e0, e1⟩ := idx3 t
  funext x; apply Fin.ext
  match x with
  | ⟨0, _⟩ => show win0_3.index t (0 : Fin 2) * 1 + 1 * a.val = a.val; omega
  | ⟨1, _⟩ => show win0_3.index t (1 : Fin 2) * 1 + 1 * b.val = b.val; omega

theorem read0 (t : Fin cfg0.N) (a : Fin 512) (b : Fin 1024) : x0 m c t (ix2 a b)
    = (m (c.tc.loc main_arg0) : Vec Ideal S16384x1024 .f32) (ix2 (chunkRow t.val a) b) := by
  show V m c main_arg0 (((cfg0.win 0).blk t).view.emb (ix2 a b)) = _
  rw [emb0]

theorem read1 (t : Fin cfg0.N) (b : Fin 1024) : x1 m c t (ix2 0 b) = (m (c.tc.loc main_arg1) : Vec Ideal S1x1024 .f32) (ix2 0 b) := by
  show V m c main_arg1 (((cfg0.win 1).blk t).view.emb (ix2 0 b)) = _
  rw [emb1]

theorem read2 (t : Fin cfg0.N) (a : Fin 512) (b : Fin 1024) : x2 m c t (ix2 a b)
    = (m (c.tc.loc main_arg2) : Vec Ideal S16384x1024 .f32) (ix2 (chunkRow t.val a) b) := by
  show V m c main_arg2 (((cfg0.win 0).blk t).view.emb (ix2 a b)) = _
  rw [emb0]

/-! ## The whole arrays -/

section Arrays

variable (x : Vec Ideal S16384x1024 .f32) (g : Vec Ideal S1x1024 .f32) (y : Vec Ideal S16384x1024 .f32)

/-- The mean square of row `r` and its gradient, -/
def meanAt (r : Fin 16384) : EReal := mean (fun j => x (ix2 r j)) (fun j => g (ix2 0 j)) (fun j => y (ix2 r j))
def gradAt (r : Fin 16384) (j : Fin 1024) : EReal := grad (fun j => x (ix2 r j)) (fun j => g (ix2 0 j)) (fun j => y (ix2 r j)) j

/-- the loss, the rows' gradient and the gain's. -/
def loss : Vec Ideal S1x1 .f32 := fun _ => Ideal.ofBits .f32 0x3F000000#32 * ∑ r : Fin 16384, meanAt x g y r
def rows : Vec Ideal S16384x1024 .f32 := fun z => back (fun j => x (ix2 (z 0) j)) (fun j => gradAt x g y (z 0) j * g (ix2 0 j)) (z 1)
def part (b : Fin 1024) (r : Fin 16384) : EReal := gradAt x g y r b * (x (ix2 r b) * scale fun j => x (ix2 r j))
def gain : Vec Ideal S1x1024 .f32 := fun z => ∑ r : Fin 16384, part x g y (z 1) r

end Arrays

/-- The three arguments. -/
abbrev a0 : Vec Ideal S16384x1024 .f32 := m (c.tc.loc main_arg0)
abbrev a1 : Vec Ideal S1x1024 .f32 := m (c.tc.loc main_arg1)
abbrev a2 : Vec Ideal S16384x1024 .f32 := m (c.tc.loc main_arg2)

theorem grad_at (t : Fin cfg0.N) (a : Fin 512) (b : Fin 1024) :
    k0_pay9 (x0 m c t) (x1 m c t) (x2 m c t) (ix2 a b) = gradAt (a0 m c) (a1 m c) (a2 m c) (chunkRow t.val a) b := by
  rw [grad_apply]
  simp only [read0, read1, read2]
  rfl

theorem rows_at (t : Fin cfg0.N) (a : Fin 512) (b : Fin 1024) : (outsAt0 m c t.val t.isLt).2.1 (ix2 a b) = rows (a0 m c) (a1 m c) (a2 m c) (ix2 (chunkRow t.val a) b) := by
  rw [rows_block, rows_apply]
  simp only [grad_at, read0, read1]
  rfl

/-- What a point adds to the two sums. -/
theorem add_apply (t : Fin cfg0.N) (s : Vec Ideal S1x1024 .f32) (b : Fin 1024) :
    k0_pay4 (x0 m c t) (k0_pay9 (x0 m c t) (x1 m c t) (x2 m c t)) (k0_pay10 (x0 m c t)) s (ix2 0 b)
      = s (ix2 0 b) + ∑ r : Fin 512, part (a0 m c) (a1 m c) (a2 m c) b (chunkRow t.val r) := by
  rw [sum_step]
  simp only [grad_at, read0]
  rfl

theorem loss_add (t : Fin cfg0.N) (s : Vec Ideal S1x1 .f32) : k0_pay8 (x0 m c t) (x1 m c t) (x2 m c t) s (ix2 0 0)
    = s (ix2 0 0) + Ideal.ofBits .f32 0x3F000000#32 * ∑ r : Fin 512, meanAt (a0 m c) (a1 m c) (a2 m c) (chunkRow t.val r) := by
  rw [loss_step]
  simp only [read0, read1, read2]
  rfl

/-- The sums after a point are those of the rows so far. -/
theorem sums_apply (n : ℕ) (hn : n < cfg0.N) : (∀ b : Fin 1024, (outsAt0 m c n hn).2.2 (ix2 0 b)
      = ∑ k ∈ Finset.range (n + 1), ∑ r : Fin 512, part (a0 m c) (a1 m c) (a2 m c) b (chunkRow k r))
    ∧ (outsAt0 m c n hn).1 (ix2 0 0)
      = ∑ k ∈ Finset.range (n + 1), Ideal.ofBits .f32 0x3F000000#32 * ∑ r : Fin 512, meanAt (a0 m c) (a1 m c) (a2 m c) (chunkRow k r) := by
  induction n with
  | zero =>
    refine ⟨fun b => (congrFun (sum_first m c ⟨0, hn⟩ (by show 0 % 32 = 0; decide)) (ix2 0 b)).trans ((add_apply m c ⟨0, hn⟩ _ b).trans ?_),
      (congrFun (loss_first m c ⟨0, hn⟩ (by show 0 % 32 = 0; decide)) (ix2 0 0)).trans ((loss_add m c ⟨0, hn⟩ _).trans ?_)⟩
    · rw [show k0_pay6 (F := Ideal) (ix2 0 b) = 0 by pointwise [k0_pay6], zero_add, Finset.sum_range_one]
    · rw [show k0_pay5 (F := Ideal) (ix2 0 0) = 0 by pointwise [k0_pay5], zero_add, Finset.sum_range_one]
  | succ n ih =>
    have h : ¬(n + 1) % 32 = 0 := by have := t_lt ⟨n + 1, hn⟩; change n + 1 < 32 at this; omega
    obtain ⟨i1, i2⟩ := ih (Nat.lt_of_succ_lt hn)
    refine ⟨fun b => (congrFun (sum_next m c ⟨n + 1, hn⟩ h) (ix2 0 b)).trans ((add_apply m c ⟨n + 1, hn⟩ _ b).trans ?_),
      (congrFun (loss_next m c ⟨n + 1, hn⟩ h) (ix2 0 0)).trans ((loss_add m c ⟨n + 1, hn⟩ _).trans ?_)⟩
    · rw [Finset.sum_range_succ]
      exact congrArg₂ (· + ·) (i1 b) rfl
    · rw [Finset.sum_range_succ]
      exact congrArg₂ (· + ·) i2 rfl

/-- The parts of the loss make the loss. -/
theorem loss_parts (x : Vec Ideal S16384x1024 .f32) (g : Vec Ideal S1x1024 .f32) (y : Vec Ideal S16384x1024 .f32) (z : S1x1.Idx) :
    ∑ k ∈ Finset.range 32, Ideal.ofBits .f32 0x3F000000#32 * ∑ r : Fin 512, meanAt x g y (chunkRow k r) = loss x g y z := by
  unfold loss
  rw [Rms.ofBits_half, ← Rms.mul_sum _ _ _ (by norm_num), Rms.sum_chunks]

attribute [local irreducible] outsAt0 rows gain part loss

theorem last_lt : 31 < cfg0.N := lt_of_lt_of_eq (by decide) N_0.symm

theorem array3 : (dats m 0 c).arrAt 3 cfg0.N = loss (a0 m c) (a1 m c) (a2 m c) := by
  refine (dats m 0 c).arrAt_eq_of_cover 3 (loss (a0 m c) (a1 m c) (a2 m c)) (fun t ht => ?_) (fun y => ?_)
  · show (cfg0.win 3).cut (grid0.coords t) ((dats m 0 c).after 3 t) = _
    rw [after0_3]
    funext y
    obtain ⟨a, b, rfl⟩ : ∃ a b : Fin 1, y = ix2 a b := pair y
    obtain rfl : a = 0 := Subsingleton.elim _ _
    obtain rfl : b = 0 := Subsingleton.elim _ _
    show (outsAt0 m c t.val t.isLt).1 (ix2 0 0) = loss _ _ _ (((cfg0.win 3).blk t).view.emb (ix2 0 0))
    have h31 : t.val + 1 = 32 := by have := (flush0_3 t).1 ht; have := t_lt t; omega
    rw [(sums_apply m c t.val t.isLt).2, h31]
    exact loss_parts _ _ _ _
  · obtain ⟨r, q, rfl⟩ : ∃ r q : Fin 1, y = ix2 r q := pair y
    refine ⟨⟨31, last_lt⟩, (flush0_3 _).2 (by show 31 % 32 = 31; decide), ?_⟩
    have e := emb3 ⟨31, last_lt⟩ r q
    rw [← e]
    exact View.emb_mem_set _ _

theorem array4 : (dats m 0 c).arrAt 4 cfg0.N = rows (a0 m c) (a1 m c) (a2 m c) := by
  refine (dats m 0 c).arrAt_eq_of_cover 4 (rows (a0 m c) (a1 m c) (a2 m c)) (fun t _ => ?_) (fun y => ?_)
  · show (cfg0.win 4).cut (grid0.coords t) ((dats m 0 c).after 4 t) = _
    rw [after0_4]
    funext y
    obtain ⟨a, b, rfl⟩ : ∃ (a : Fin 512) (b : Fin 1024), y = ix2 a b := pair y
    show (outsAt0 m c t.val t.isLt).2.1 (ix2 a b) = rows _ _ _ (((cfg0.win 0).blk t).view.emb (ix2 a b))
    rw [emb0, rows_at m c t]
  · obtain ⟨r, q, rfl⟩ : ∃ (r : Fin 16384) (q : Fin 1024), y = ix2 r q := pair y
    have h : Rms.pointOf r < cfg0.N := lt_of_lt_of_eq (by show r.val / 512 < 32; have := r.isLt; omega) N_0.symm
    refine ⟨⟨Rms.pointOf r, h⟩, flush0_4 _, ?_⟩
    have e : ((cfg0.win 4).blk ⟨Rms.pointOf r, h⟩).view.emb (ix2 (rowAt r) q) = (ix2 r q : S16384x1024.Idx) :=
      (emb0 ⟨Rms.pointOf r, h⟩ (rowAt r) q).trans (by rw [Rms.chunkRow_at])
    rw [← e]
    exact View.emb_mem_set _ _

theorem array5 : (dats m 0 c).arrAt 5 cfg0.N = gain (a0 m c) (a1 m c) (a2 m c) := by
  refine (dats m 0 c).arrAt_eq_of_cover 5 (gain (a0 m c) (a1 m c) (a2 m c)) (fun t ht => ?_) (fun y => ?_)
  · show (cfg0.win 5).cut (grid0.coords t) ((dats m 0 c).after 5 t) = _
    rw [after0_5]
    funext y
    obtain ⟨a, b, rfl⟩ : ∃ (a : Fin 1) (b : Fin 1024), y = ix2 a b := pair y
    obtain rfl : a = 0 := Subsingleton.elim _ _
    show (outsAt0 m c t.val t.isLt).2.2 (ix2 0 b) = gain _ _ _ (((cfg0.win 1).blk t).view.emb (ix2 0 b))
    have h31 : t.val + 1 = 32 := by have := (flush0_5 t).1 ht; have := t_lt t; omega
    rw [emb1, (sums_apply m c t.val t.isLt).1 b, h31, Rms.sum_chunks]
    unfold gain
    rfl
  · obtain ⟨r, q, rfl⟩ : ∃ (r : Fin 1) (q : Fin 1024), y = ix2 r q := pair y
    refine ⟨⟨31, last_lt⟩, (flush0_5 _).2 (by show 31 % 32 = 31; decide), ?_⟩
    have e : ((cfg0.win 5).blk ⟨31, last_lt⟩).view.emb (ix2 r q) = (ix2 r q : S1x1024.Idx) := emb1 ⟨31, last_lt⟩ r q
    rw [← e]
    exact View.emb_mem_set _ _

/-- The kernel's run: the loss and the two gradients, the arguments kept. -/
theorem values (g : Dev nD → PrngReg) : θ_run (defs (F := Ideal)) (onTc (τ := τ) (main (F := Ideal))) ⟨m, fun _ => 0, g⟩
    (fun r => ∀ c : Dev nD, r.2.mem (c.tc.loc main_v0_0) = loss (a0 m c) (a1 m c) (a2 m c) ∧ r.2.mem (c.tc.loc main_v0_1) = rows (a0 m c) (a1 m c) (a2 m c)
      ∧ r.2.mem (c.tc.loc main_v0_2) = gain (a0 m c) (a1 m c) (a2 m c)
      ∧ r.2.mem (c.tc.loc main_arg0) = m (c.tc.loc main_arg0) ∧ r.2.mem (c.tc.loc main_arg1) = m (c.tc.loc main_arg1)
      ∧ r.2.mem (c.tc.loc main_arg2) = m (c.tc.loc main_arg2)) :=
  (θ_run _ _ _).mono (fun r h c => ⟨((h.1 c).1 3).trans (array3 m c), ((h.1 c).1 4).trans (array4 m c), ((h.1 c).1 5).trans (array5 m c), h.2.1 c⟩)
    (θ_run_and (run_main m g) (frame m g))

end Cert.Kernel26Ideal.Loss

namespace Cert.Reference26Ideal.Loss

open Cert.Reference26Ideal Cert.Reference26Ideal.Gen
open Idealize.ShloMosaic TcCoe
open Idealize.SL.Sem
open Cert.Kernel26Ideal.Loss (loss rows gain part mean grad diff meanAt gradAt)
open Cert.Reference25Ideal.Back (wide scales chain toGain chain_apply toGain_apply)
open Cert.Head (pair)
open Cert.Rms (scale back)

variable {F : FTy → Type} [FloatOps F]

/-- The reference's distances, -/
def diffs (x : Vec F S16384x1024 .f32) (g : Vec F S1x1024 .f32) (y : Vec F S16384x1024 .f32) : Vec F S16384x1024 .f32 :=
  subf (mulf (mulf x (scales x)) (wide g)) y

/-- the loss, -/
def value (x : Vec F S16384x1024 .f32) (g : Vec F S1x1024 .f32) (y : Vec F S16384x1024 .f32) : Vec F S1x1 .f32 :=
  shapeCast _ (mulf (constant S_ .f32 0x3F000000#32) (Host.reduceAdd (Host.divf (Host.reduceAdd (mulf (diffs x g y) (diffs x g y)) (constant S_ .f32 0x00000000#32) reducesTo_S16384x1024_S16384_d1 h_S_) (broadcastInDim S16384 ![] bcast_S_S16384 (constant S_ .f32 0x44800000#32))) (constant S_ .f32 0x00000000#32) reducesTo_S16384_S_d0 h_S_)) shapeCasts_S_S1x1

/-- and its gradient in the normed rows. -/
def grads (x : Vec F S16384x1024 .f32) (g : Vec F S1x1024 .f32) (y : Vec F S16384x1024 .f32) : Vec F S16384x1024 .f32 :=
  mulf (broadcastInDim S16384x1024 ![0] bcast_S16384_S16384x1024_0 (Host.divf (broadcastInDim S16384 ![] bcast_S_S16384 (mulf (constant S_ .f32 0x3F000000#32) (constant S_ .f32 0x3F800000#32)))
    (broadcastInDim S16384 ![] bcast_S_S16384 (constant S_ .f32 0x44800000#32)))) (mulf (broadcastInDim S16384x1024 ![] bcast_S_S16384x1024 (constant S_ .f32 0x40000000#32)) (diffs x g y))

theorem diffs_apply (x : Vec Ideal S16384x1024 .f32) (g : Vec Ideal S1x1024 .f32) (y : Vec Ideal S16384x1024 .f32) (a : Fin 16384) (b : Fin 1024) :
    diffs x g y (ix2 a b) = diff (fun j => x (ix2 a j)) (fun j => g (ix2 0 j)) (fun j => y (ix2 a j)) b := by
  unfold diff scale Rms.level
  pointwise [diffs, Cert.Reference25Ideal.Back.scales, Cert.Reference25Ideal.Back.levels, Cert.Reference25Ideal.Back.wide]

/-- Half of the count's inverse, doubled, is the kernel's factor. -/
theorem factor (e : EReal) : Ideal.div (Ideal.ofBits .f32 0x3F000000#32) (Ideal.ofBits .f32 0x44800000#32) * (Ideal.ofBits .f32 0x40000000#32 * e)
    = e * Ideal.ofBits .f32 0x3A800000#32 := by
  have h2 : Ideal.ofBits .f32 0x40000000#32 = ((2 : ℝ) : EReal) := by simp [Ideal.ofBits, Ideal.ieee, -EReal.coe_mul]; norm_num
  have hk : Ideal.ofBits .f32 0x3A800000#32 = ((1 / 1024 : ℝ) : EReal) := by simp [Ideal.ofBits, Ideal.ieee, -EReal.coe_mul]; norm_num
  rw [Rms.ofBits_n, Rms.ofBits_half, h2, hk, Ideal.div_coe (by norm_num), ← mul_assoc, ← EReal.coe_mul, ← EReal.coe_mul, mul_comm e]
  exact congrArg (fun r : ℝ => (r : EReal) * e) (by norm_num)

theorem grads_apply (x : Vec Ideal S16384x1024 .f32) (g : Vec Ideal S1x1024 .f32) (y : Vec Ideal S16384x1024 .f32) (a : Fin 16384) (b : Fin 1024) :
    grads x g y (ix2 a b) = gradAt x g y a b := by
  have h : grads x g y (ix2 a b) = Ideal.div (Ideal.ofBits .f32 0x3F000000#32) (Ideal.ofBits .f32 0x44800000#32) * (Ideal.ofBits .f32 0x40000000#32 * diffs x g y (ix2 a b)) := by
    pointwise [grads]
  rw [h, factor, diffs_apply]
  rfl

theorem value_eq (x : Vec Ideal S16384x1024 .f32) (g : Vec Ideal S1x1024 .f32) (y : Vec Ideal S16384x1024 .f32) : value x g y = loss x g y := funext fun z => by
  obtain ⟨a, b, rfl⟩ : ∃ a b : Fin 1, z = ix2 a b := pair z
  have h : value x g y (ix2 a b) = Ideal.ofBits .f32 0x3F000000#32
      * ∑ r : Fin 16384, Ideal.div (∑ j : Fin 1024, diffs x g y (ix2 r j) * diffs x g y (ix2 r j)) (Ideal.ofBits .f32 0x44800000#32) := by
    pointwise [value]
  rw [h]
  simp only [diffs_apply]
  rfl

theorem rows_eq (x : Vec Ideal S16384x1024 .f32) (g : Vec Ideal S1x1024 .f32) (y : Vec Ideal S16384x1024 .f32) :
    chain x (mulf (grads x g y) (wide g)) = rows x g y := funext fun z => by
  obtain ⟨a, b, rfl⟩ : ∃ (a : Fin 16384) (b : Fin 1024), z = ix2 a b := pair z
  refine (chain_apply x _ a b).trans (congrFun (congrArg (back fun j => x (ix2 a j)) (funext fun j => ?_)) b)
  show (mulf (grads x g y) (wide g) : Vec Ideal S16384x1024 .f32) (ix2 a j) = gradAt x g y a j * g (ix2 0 j)
  rw [← grads_apply]
  pointwise [Cert.Reference25Ideal.Back.wide]

theorem gain_eq (x : Vec Ideal S16384x1024 .f32) (g : Vec Ideal S1x1024 .f32) (y : Vec Ideal S16384x1024 .f32) :
    toGain x (grads x g y) = gain x g y := funext fun z => by
  obtain ⟨a, b, rfl⟩ : ∃ (a : Fin 1) (b : Fin 1024), z = ix2 a b := pair z
  obtain rfl : a = 0 := Subsingleton.elim _ _
  exact (toGain_apply x _ b).trans (Finset.sum_congr rfl fun r _ => (mul_comm _ _).trans (by rw [grads_apply]; rfl))

end Cert.Reference26Ideal.Loss

namespace Cert.Proof

open Idealize.ShloMosaic TcCoe
open Idealize.SL.Sem

/-- The kernel and the reference end with the same loss and the same two gradients. -/
theorem algebraic26 : algebraic_Kernel26Ideal_Reference26Ideal (hKernel26Ideal := Kernel26Ideal.Gen.facts)
    (hReference26Ideal := Reference26Ideal.Gen.facts) := fun m g m' g' _ ha =>
  ⟨fun c => Kernel26Ideal.Loss.loss (m (c.tc.loc Kernel26Ideal.main_arg0)) (m (c.tc.loc Kernel26Ideal.main_arg1)) (m (c.tc.loc Kernel26Ideal.main_arg2)),
    fun c => Kernel26Ideal.Loss.rows (m (c.tc.loc Kernel26Ideal.main_arg0)) (m (c.tc.loc Kernel26Ideal.main_arg1)) (m (c.tc.loc Kernel26Ideal.main_arg2)),
    fun c => Kernel26Ideal.Loss.gain (m (c.tc.loc Kernel26Ideal.main_arg0)) (m (c.tc.loc Kernel26Ideal.main_arg1)) (m (c.tc.loc Kernel26Ideal.main_arg2)),
    Kernel26Ideal.Loss.values m g,
    (θ_run _ _ _).mono (fun r h c => ⟨(h c).1.trans (by
      refine (Reference26Ideal.Loss.value_eq _ _ _).trans ?_
      rw [(ha c).1, (ha c).2.1, (ha c).2.2]), (h c).2.1.trans (by
      refine (Reference26Ideal.Loss.rows_eq (m' (c.tc.loc Reference26Ideal.main_arg0)) (m' (c.tc.loc Reference26Ideal.main_arg1))
        (m' (c.tc.loc Reference26Ideal.main_arg2))).trans ?_
      rw [(ha c).1, (ha c).2.1, (ha c).2.2]), (h c).2.2.1.trans (by
      refine (Reference26Ideal.Loss.gain_eq _ _ _).trans ?_
      rw [(ha c).1, (ha c).2.1, (ha c).2.2]), (h c).2.2.2⟩) (Reference26Ideal.Value.run (F := Ideal) m' g')⟩

theorem frame_reference26 : quiescent_Reference26Ideal (hReference26Ideal := Reference26Ideal.Gen.facts) := fun m g _ =>
  (θ_run _ _ _).mono (fun r h => ⟨fun c => (h c).2.2.2, sem_eq_zero_of_no_sems (by decide) r.2⟩) (Reference26Ideal.Value.run (F := Ideal) m g)

end Cert.Proof
-- ==== Proof.lean ====
module

public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Algebraic
public import proofs.«01_k».proof.Proof.Algebraic2
public import proofs.«01_k».proof.Proof.Mm.UpDw
public import proofs.«01_k».proof.Proof.Mm.UpDx
public import proofs.«01_k».proof.Proof.Mm.Up
public import proofs.«01_k».proof.Proof.Mm.DownDx
public import proofs.«01_k».proof.Proof.Mm.DownDw
public import proofs.«01_k».proof.Proof.Mm.Down
public import proofs.«01_k».proof.Proof.Adam.MlaA
public import proofs.«01_k».proof.Proof.Adam.MlaUq
public import proofs.«01_k».proof.Proof.Adam.MlaUkv
public import proofs.«01_k».proof.Proof.Adam.MlaO
public import proofs.«01_k».proof.Proof.Adam.SsmGlu
public import proofs.«01_k».proof.Proof.Adam.FfnUp
public import proofs.«01_k».proof.Proof.Adam.FfnDown
public import proofs.«01_k».proof.Proof.Adam.Small
public import proofs.«01_k».proof.Proof.Mm.Glu
public import proofs.«01_k».proof.Proof.Mm.GluDw
public import proofs.«01_k».proof.Proof.Mm.GluDx
public import proofs.«01_k».proof.Proof.Mm.In
public import proofs.«01_k».proof.Proof.Mm.InDx
public import proofs.«01_k».proof.Proof.Mm.SquareDw
public import proofs.«01_k».proof.Proof.Mm.Out
public import proofs.«01_k».proof.Proof.Mm.OutDx
public import proofs.«01_k».proof.Proof.Gen.Kernel25.Frame
public import proofs.«01_k».proof.Proof.Gen.Kernel26.Frame
public import proofs.«01_k».proof.Proof.Rms.Loss

@[expose] public section

noncomputable section

namespace Cert.Proof

/-- Everything claimed, with the witnesses of the programs' stated facts. -/
theorem claim : Cert.Claim :=
  ⟨Kernel.Gen.facts, KernelIdeal.Gen.facts, ReferenceIdeal.Gen.facts, Kernel2.Gen.facts, Kernel2Ideal.Gen.facts,
    Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Kernel17.Gen.facts, Kernel17Ideal.Gen.facts, Reference17Ideal.Gen.facts,
    Kernel18.Gen.facts, Kernel18Ideal.Gen.facts, Reference18Ideal.Gen.facts,
    Kernel19.Gen.facts, Kernel19Ideal.Gen.facts, Reference19Ideal.Gen.facts,
    Kernel20.Gen.facts, Kernel20Ideal.Gen.facts, Reference20Ideal.Gen.facts,
    Kernel21.Gen.facts, Kernel21Ideal.Gen.facts, Reference21Ideal.Gen.facts,
    Kernel22.Gen.facts, Kernel22Ideal.Gen.facts, Reference22Ideal.Gen.facts,
    Kernel23.Gen.facts, Kernel23Ideal.Gen.facts, Reference23Ideal.Gen.facts,
    Kernel24.Gen.facts, Kernel24Ideal.Gen.facts, Reference24Ideal.Gen.facts,
    Kernel25.Gen.facts, Kernel25Ideal.Gen.facts, Reference25Ideal.Gen.facts,
    Kernel26.Gen.facts, Kernel26Ideal.Gen.facts, Reference26Ideal.Gen.facts,
    Cert.Pre_finite.Gen.facts, Cert.Pre_finite_fwd.Gen.facts,
    frame_kernel, frame_ideal, fun m g _ => frame_ideal m g trivial, frame_reference, fun m g _ => frame_reference m g trivial,
    frame_kernel2, frame_ideal2, fun m g _ => frame_ideal2 m g trivial, frame_reference2, fun m g _ => frame_reference2 m g trivial,
    fun m g _ => Kernel3.Gen.frame m g, fun m g _ => Kernel3Ideal.Gen.frame m g, frame_reference3,
    fun m g _ => Kernel4.Gen.frame m g, fun m g _ => Kernel4Ideal.Gen.frame m g, frame_reference4,
    fun m g _ => Kernel5.Gen.frame m g, fun m g _ => Kernel5Ideal.Gen.frame m g, frame_reference5,
    fun m g _ => Kernel6.Gen.frame m g, fun m g _ => Kernel6Ideal.Gen.frame m g, frame_reference6,
    fun m g _ => Kernel7.Gen.frame m g, fun m g _ => Kernel7Ideal.Gen.frame m g, frame_reference7,
    fun m g _ => Kernel8.Gen.frame m g, fun m g _ => Kernel8Ideal.Gen.frame m g, frame_reference8,
    fun m g _ => Kernel9.Gen.frame m g, fun m g _ => Kernel9Ideal.Gen.frame m g, frame_reference9,
    fun m g _ => Kernel10.Gen.frame m g, fun m g _ => Kernel10Ideal.Gen.frame m g, frame_reference10,
    fun m g _ => Kernel11.Gen.frame m g, fun m g _ => Kernel11Ideal.Gen.frame m g, frame_reference11,
    fun m g _ => Kernel12.Gen.frame m g, fun m g _ => Kernel12Ideal.Gen.frame m g, frame_reference12,
    fun m g _ => Kernel13.Gen.frame m g, fun m g _ => Kernel13Ideal.Gen.frame m g, frame_reference13,
    fun m g _ => Kernel14.Gen.frame m g, fun m g _ => Kernel14Ideal.Gen.frame m g, frame_reference14,
    fun m g _ => Kernel15.Gen.frame m g, fun m g _ => Kernel15Ideal.Gen.frame m g, frame_reference15,
    fun m g _ => Kernel16.Gen.frame m g, fun m g _ => Kernel16Ideal.Gen.frame m g, frame_reference16,
    fun m g _ => Kernel17.Gen.frame m g, fun m g _ => Kernel17Ideal.Gen.frame m g, frame_reference17,
    fun m g _ => Kernel18.Gen.frame m g, fun m g _ => Kernel18Ideal.Gen.frame m g, frame_reference18,
    fun m g _ => Kernel19.Gen.frame m g, fun m g _ => Kernel19Ideal.Gen.frame m g, frame_reference19,
    fun m g _ => Kernel20.Gen.frame m g, fun m g _ => Kernel20Ideal.Gen.frame m g, frame_reference20,
    fun m g _ => Kernel21.Gen.frame m g, fun m g _ => Kernel21Ideal.Gen.frame m g, frame_reference21,
    fun m g _ => Kernel22.Gen.frame m g, fun m g _ => Kernel22Ideal.Gen.frame m g, frame_reference22,
    fun m g _ => Kernel23.Gen.frame m g, fun m g _ => Kernel23Ideal.Gen.frame m g, frame_reference23,
    fun m g _ => Kernel24.Gen.frame m g, fun m g _ => Kernel24Ideal.Gen.frame m g, frame_reference24,
    fun m g _ => Kernel25.Gen.frame m g, fun m g _ => Kernel25Ideal.Gen.frame m g, frame_reference25,
    fun m g _ => Kernel26.Gen.frame m g, fun m g _ => Kernel26Ideal.Gen.frame m g, frame_reference26,
    named, algebraic, named2, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15,
    trivial, algebraic16,
    trivial, algebraic17,
    trivial, algebraic18,
    trivial, algebraic19,
    trivial, algebraic20,
    trivial, algebraic21,
    trivial, algebraic22,
    trivial, algebraic23,
    trivial, algebraic24,
    trivial, algebraic25,
    trivial, algebraic26⟩

end Cert.Proof
